-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def preserves_Kernel_KernelIdeal : Prop :=
  IdealRules.named_const.Statement Cert.KernelIdeal.κ "clamp" .f32 0x42FC0000#32 ⊤
  ∧ IdealRules.named_const.Statement Cert.KernelIdeal.κ "log2e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v32) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v35)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v35) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v38) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite2 : Cert.Pre_finite2.Facts) (hPre_finite3 : Cert.Pre_finite3.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
-- ==== Pre_finite2.lean ====
abbrev S4x4x128x8192 : Shape := ⟨4, ![4, 4, 128, 8192]⟩
abbrev S4x8192x512 : Shape := ⟨3, ![4, 8192, 512]⟩
abbrev S4x4x64x8192 : Shape := ⟨4, ![4, 4, 64, 8192]⟩
abbrev S_ : Shape := ⟨0, ![]⟩

class Facts : Prop where
  bcast_S_S4x4x128x8192 : S_.BroadcastsInDim S4x4x128x8192 (![] : Fin 0 → Fin S4x4x128x8192.rank)
  bcast_S_S4x8192x512 : S_.BroadcastsInDim S4x8192x512 (![] : Fin 0 → Fin S4x8192x512.rank)

variable [Facts]

def fn {F : FTy → Type} [FloatOps F] (main_arg0 : FVec F S4x4x128x8192 .bf16) (main_arg1 : FVec F S4x8192x512 .bf16) (main_arg2 : FVec F S4x4x64x8192 .bf16) : IVec S4x4x128x8192 1 × IVec S4x8192x512 1 :=
  let main_cst : FVec F S_ .bf16 := constant S_ .bf16 0x7F80#16
  let main_v0 : FVec F S_ .bf16 := Host.negf main_cst
  let main_v1 : FVec F S4x4x128x8192 .bf16 := broadcastInDim S4x4x128x8192 ![] bcast_S_S4x4x128x8192 main_v0
  let main_v2 : IVec S4x4x128x8192 1 := cmpf .olt main_v1 main_arg0
  let main_cst_0 : FVec F S_ .bf16 := constant S_ .bf16 0x7F80#16
  let main_v3 : FVec F S4x4x128x8192 .bf16 := broadcastInDim S4x4x128x8192 ![] bcast_S_S4x4x128x8192 main_cst_0
  let main_v4 : IVec S4x4x128x8192 1 := cmpf .olt main_arg0 main_v3
  let main_v5 : IVec S4x4x128x8192 1 := andi main_v2 main_v4
  let main_cst_1 : FVec F S_ .bf16 := constant S_ .bf16 0x7F80#16
  let main_v6 : FVec F S_ .bf16 := Host.negf main_cst_1
  let main_v7 : FVec F S4x8192x512 .bf16 := broadcastInDim S4x8192x512 ![] bcast_S_S4x8192x512 main_v6
  let main_v8 : IVec S4x8192x512 1 := cmpf .olt main_v7 main_arg1
  let main_cst_2 : FVec F S_ .bf16 := constant S_ .bf16 0x7F80#16
  let main_v9 : FVec F S4x8192x512 .bf16 := broadcastInDim S4x8192x512 ![] bcast_S_S4x8192x512 main_cst_2
  let main_v10 : IVec S4x8192x512 1 := cmpf .olt main_arg1 main_v9
  let main_v11 : IVec S4x8192x512 1 := andi main_v8 main_v10
  (main_v5, main_v11)
-- ==== Pre_finite3.lean ====
abbrev S4x4x64x8192 : Shape := ⟨4, ![4, 4, 64, 8192]⟩
abbrev S4x8192x256 : Shape := ⟨3, ![4, 8192, 256]⟩
abbrev S4x4x8192 : Shape := ⟨3, ![4, 4, 8192]⟩
abbrev S_ : Shape := ⟨0, ![]⟩

class Facts : Prop where
  bcast_S_S4x4x64x8192 : S_.BroadcastsInDim S4x4x64x8192 (![] : Fin 0 → Fin S4x4x64x8192.rank)
  bcast_S_S4x8192x256 : S_.BroadcastsInDim S4x8192x256 (![] : Fin 0 → Fin S4x8192x256.rank)
  bcast_S_S4x4x8192 : S_.BroadcastsInDim S4x4x8192 (![] : Fin 0 → Fin S4x4x8192.rank)

variable [Facts]

def fn {F : FTy → Type} [FloatOps F] (main_arg0 : FVec F S4x4x64x8192 .bf16) (main_arg1 : FVec F S4x8192x256 .bf16) (main_arg2 : FVec F S4x4x64x8192 .bf16) (main_arg3 : FVec F S4x4x8192 .f32) : IVec S4x4x64x8192 1 × IVec S4x8192x256 1 × IVec S4x4x8192 1 :=
  let main_cst : FVec F S_ .bf16 := constant S_ .bf16 0x7F80#16
  let main_v0 : FVec F S_ .bf16 := Host.negf main_cst
  let main_v1 : FVec F S4x4x64x8192 .bf16 := broadcastInDim S4x4x64x8192 ![] bcast_S_S4x4x64x8192 main_v0
  let main_v2 : IVec S4x4x64x8192 1 := cmpf .olt main_v1 main_arg0
  let main_cst_0 : FVec F S_ .bf16 := constant S_ .bf16 0x7F80#16
  let main_v3 : FVec F S4x4x64x8192 .bf16 := broadcastInDim S4x4x64x8192 ![] bcast_S_S4x4x64x8192 main_cst_0
  let main_v4 : IVec S4x4x64x8192 1 := cmpf .olt main_arg0 main_v3
  let main_v5 : IVec S4x4x64x8192 1 := andi main_v2 main_v4
  let main_cst_1 : FVec F S_ .bf16 := constant S_ .bf16 0x7F80#16
  let main_v6 : FVec F S_ .bf16 := Host.negf main_cst_1
  let main_v7 : FVec F S4x8192x256 .bf16 := broadcastInDim S4x8192x256 ![] bcast_S_S4x8192x256 main_v6
  let main_v8 : IVec S4x8192x256 1 := cmpf .olt main_v7 main_arg1
  let main_cst_2 : FVec F S_ .bf16 := constant S_ .bf16 0x7F80#16
  let main_v9 : FVec F S4x8192x256 .bf16 := broadcastInDim S4x8192x256 ![] bcast_S_S4x8192x256 main_cst_2
  let main_v10 : IVec S4x8192x256 1 := cmpf .olt main_arg1 main_v9
  let main_v11 : IVec S4x8192x256 1 := andi main_v8 main_v10
  let main_cst_3 : FVec F S_ .f32 := constant S_ .f32 0xFF800000#32
  let main_v12 : FVec F S4x4x8192 .f32 := broadcastInDim S4x4x8192 ![] bcast_S_S4x4x8192 main_cst_3
  let main_v13 : IVec S4x4x8192 1 := cmpf .ogt main_arg3 main_v12
  let main_cst_4 : FVec F S_ .f32 := constant S_ .f32 0x7F800000#32
  let main_v14 : FVec F S4x4x8192 .f32 := broadcastInDim S4x4x8192 ![] bcast_S_S4x4x8192 main_cst_4
  let main_v15 : IVec S4x4x8192 1 := cmpf .olt main_arg3 main_v14
  let main_v16 : IVec S4x4x8192 1 := andi main_v13 main_v15
  (main_v5, main_v11, main_v16)
-- ==== Kernel.lean ====
abbrev S4x8192x256 : Shape := ⟨3, ![4, 8192, 256]⟩
abbrev S1x1024x128 : Shape := ⟨3, ![1, 1024, 128]⟩
abbrev S1x8192x128 : Shape := ⟨3, ![1, 8192, 128]⟩
abbrev S2x1024x128 : Shape := ⟨3, ![2, 1024, 128]⟩
abbrev S2x2x1024x256 : Shape := ⟨4, ![2, 2, 1024, 256]⟩
abbrev S1024x128 : Shape := ⟨2, ![1024, 128]⟩
abbrev S256x256 : Shape := ⟨2, ![256, 256]⟩
abbrev S1x256x128 : Shape := ⟨3, ![1, 256, 128]⟩
abbrev S256x128 : Shape := ⟨2, ![256, 128]⟩
abbrev S1x1x256x256 : Shape := ⟨4, ![1, 1, 256, 256]⟩
abbrev S1x512x128 : Shape := ⟨3, ![1, 512, 128]⟩
abbrev S512x128 : Shape := ⟨2, ![512, 128]⟩
abbrev S512x256 : Shape := ⟨2, ![512, 256]⟩
abbrev S1x1x512x256 : Shape := ⟨4, ![1, 1, 512, 256]⟩
abbrev S256x1 : Shape := ⟨2, ![256, 1]⟩
abbrev S1x768x128 : Shape := ⟨3, ![1, 768, 128]⟩
abbrev S768x128 : Shape := ⟨2, ![768, 128]⟩
abbrev S768x256 : Shape := ⟨2, ![768, 256]⟩
abbrev S1x1x768x256 : Shape := ⟨4, ![1, 1, 768, 256]⟩
abbrev S1024x256 : Shape := ⟨2, ![1024, 256]⟩
abbrev S1x1x1024x256 : Shape := ⟨4, ![1, 1, 1024, 256]⟩
abbrev S512x1 : Shape := ⟨2, ![512, 1]⟩
abbrev S768x1 : Shape := ⟨2, ![768, 1]⟩
abbrev S1024x1 : Shape := ⟨2, ![1024, 1]⟩

abbrev nBuf : Space → Nat
  | .hbm => 4
  | .vmem => 12
  | .smem => 0
  | _ => 0

abbrev bufTy : (tb : Table) → Fin (tcTables nBuf tb) → BufTy
  | .hbm, ⟨0, _⟩ => ⟨S4x8192x256, .bf16⟩
  | .hbm, ⟨1, _⟩ => ⟨S4x8192x256, .bf16⟩
  | .hbm, ⟨2, _⟩ => ⟨S4x8192x256, .bf16⟩
  | .hbm, ⟨3, _⟩ => ⟨S4x8192x256, .bf16⟩
  | .local _ .vmem, ⟨0, _⟩ => ⟨S1x1024x128, .bf16⟩
  | .local _ .vmem, ⟨1, _⟩ => ⟨S1x1024x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x1024x128, .bf16⟩
  | .local _ .vmem, ⟨7, _⟩ => ⟨S1x1024x128, .bf16⟩
  | .local _ .vmem, ⟨8, _⟩ => ⟨S2x1024x128, .bf16⟩
  | .local _ .vmem, ⟨9, _⟩ => ⟨S2x2x1024x256, .f32⟩
  | .local _ .vmem, ⟨10, _⟩ => ⟨S2x1024x128, .f32⟩
  | .local _ .vmem, ⟨11, _⟩ => ⟨S2x1024x128, .f32⟩
  | _, _ => ⟨S4x8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 8], ![false, false, false]⟩

def k0_mult1 (i : grid0.Coords) : BitVec 32 :=
  let arg2 : BitVec 32 := BitVec.ofNat 32 (i 2).val
  let c4_i32 : BitVec 32 := 4#32
  let v40 : BitVec 32 := Scalar.muli arg2 c4_i32
  let c4_i32_22 : BitVec 32 := 4#32
  let v41 : BitVec 32 := Scalar.addi v40 c4_i32_22
  let c1_i32 : BitVec 32 := 1#32
  let v42 : BitVec 32 := Scalar.subi v41 c1_i32
  let c256_i32 : BitVec 32 := 256#32
  let v43 : BitVec 32 := Scalar.muli v42 c256_i32
  v43
def k0_off1 (i : grid0.Coords) : Fin 3 → Nat :=
  let c0_23 : Index := 0#32
  let arg2 : BitVec 32 := BitVec.ofNat 32 (i 2).val
  let c4_i32 : BitVec 32 := 4#32
  let v40 : BitVec 32 := Scalar.muli arg2 c4_i32
  let c4_i32_22 : BitVec 32 := 4#32
  let v41 : BitVec 32 := Scalar.addi v40 c4_i32_22
  let c1_i32 : BitVec 32 := 1#32
  let v42 : BitVec 32 := Scalar.subi v41 c1_i32
  let c256_i32 : BitVec 32 := 256#32
  let v43 : BitVec 32 := Scalar.muli v42 c256_i32
  let v44 : BitVec 32 := v43
  let v45 : Index := Scalar.indexCast v44
  let c0_24 : Index := 0#32
  ![0, v45.toNat, 0]
def k0_mult2 (i : grid0.Coords) : BitVec 32 :=
  let arg2 : BitVec 32 := BitVec.ofNat 32 (i 2).val
  let c4_i32 : BitVec 32 := 4#32
  let v40 : BitVec 32 := Scalar.muli arg2 c4_i32
  let c3_i32 : BitVec 32 := 3#32
  let v60 : BitVec 32 := Scalar.addi v40 c3_i32
  let c1_i32_40 : BitVec 32 := 1#32
  let v61 : BitVec 32 := Scalar.subi v60 c1_i32_40
  let c0_i32_41 : BitVec 32 := 0#32
  let v62 : BitVec 32 := Scalar.maxsi v61 c0_i32_41
  let c256_i32_42 : BitVec 32 := 256#32
  let v63 : BitVec 32 := Scalar.muli v62 c256_i32_42
  v63
def k0_off2 (i : grid0.Coords) (c3_i32 : BitVec 32) : Fin 3 → Nat :=
  let c0_43 : Index := 0#32
  let arg2 : BitVec 32 := BitVec.ofNat 32 (i 2).val
  let c4_i32 : BitVec 32 := 4#32
  let v40 : BitVec 32 := Scalar.muli arg2 c4_i32
  let v60 : BitVec 32 := Scalar.addi v40 c3_i32
  let c1_i32_40 : BitVec 32 := 1#32
  let v61 : BitVec 32 := Scalar.subi v60 c1_i32_40
  let c0_i32_41 : BitVec 32 := 0#32
  let v62 : BitVec 32 := Scalar.maxsi v61 c0_i32_41
  let c256_i32_42 : BitVec 32 := 256#32
  let v63 : BitVec 32 := Scalar.muli v62 c256_i32_42
  let v64 : BitVec 32 := v63
  let v65 : Index := Scalar.indexCast v64
  let c0_44 : Index := 0#32
  ![0, v65.toNat, 0]
def k0_mult3 (i : grid0.Coords) : BitVec 32 :=
  let arg2 : BitVec 32 := BitVec.ofNat 32 (i 2).val
  let c4_i32 : BitVec 32 := 4#32
  let v40 : BitVec 32 := Scalar.muli arg2 c4_i32
  let c3_i32 : BitVec 32 := 3#32
  let v60 : BitVec 32 := Scalar.addi v40 c3_i32
  let c256_i32_60 : BitVec 32 := 256#32
  let v80 : BitVec 32 := Scalar.muli v60 c256_i32_60
  v80
def k0_off3 (i : grid0.Coords) (c3_i32 : BitVec 32) : Fin 3 → Nat :=
  let c0_61 : Index := 0#32
  let arg2 : BitVec 32 := BitVec.ofNat 32 (i 2).val
  let c4_i32 : BitVec 32 := 4#32
  let v40 : BitVec 32 := Scalar.muli arg2 c4_i32
  let v60 : BitVec 32 := Scalar.addi v40 c3_i32
  let c256_i32_60 : BitVec 32 := 256#32
  let v80 : BitVec 32 := Scalar.muli v60 c256_i32_60
  let v81 : BitVec 32 := v80
  let v82 : Index := Scalar.indexCast v81
  let c0_62 : Index := 0#32
  ![0, v82.toNat, 0]
def k0_mult4 (i : grid0.Coords) : BitVec 32 :=
  let arg2 : BitVec 32 := BitVec.ofNat 32 (i 2).val
  let c4_i32 : BitVec 32 := 4#32
  let v40 : BitVec 32 := Scalar.muli arg2 c4_i32
  let c2_i32 : BitVec 32 := 2#32
  let v162 : BitVec 32 := Scalar.addi v40 c2_i32
  let c1_i32_109 : BitVec 32 := 1#32
  let v163 : BitVec 32 := Scalar.subi v162 c1_i32_109
  let c0_i32_110 : BitVec 32 := 0#32
  let v164 : BitVec 32 := Scalar.maxsi v163 c0_i32_110
  let c256_i32_111 : BitVec 32 := 256#32
  let v165 : BitVec 32 := Scalar.muli v164 c256_i32_111
  v165
def k0_mult5 (i : grid0.Coords) : BitVec 32 :=
  let arg2 : BitVec 32 := BitVec.ofNat 32 (i 2).val
  let c4_i32 : BitVec 32 := 4#32
  let v40 : BitVec 32 := Scalar.muli arg2 c4_i32
  let c2_i32 : BitVec 32 := 2#32
  let v162 : BitVec 32 := Scalar.addi v40 c2_i32
  let c256_i32_129 : BitVec 32 := 256#32
  let v182 : BitVec 32 := Scalar.muli v162 c256_i32_129
  v182
def k0_mult6 (i : grid0.Coords) : BitVec 32 :=
  let arg2 : BitVec 32 := BitVec.ofNat 32 (i 2).val
  let c4_i32 : BitVec 32 := 4#32
  let v40 : BitVec 32 := Scalar.muli arg2 c4_i32
  let c2_i32 : BitVec 32 := 2#32
  let v162 : BitVec 32 := Scalar.addi v40 c2_i32
  let c256_i32_178 : BitVec 32 := 256#32
  let v264 : BitVec 32 := Scalar.muli v162 c256_i32_178
  v264
def k0_mult7 (i : grid0.Coords) : BitVec 32 :=
  let arg2 : BitVec 32 := BitVec.ofNat 32 (i 2).val
  let c4_i32 : BitVec 32 := 4#32
  let v40 : BitVec 32 := Scalar.muli arg2 c4_i32
  let c1_i32_223 : BitVec 32 := 1#32
  let v335 : BitVec 32 := Scalar.addi v40 c1_i32_223
  let c1_i32_224 : BitVec 32 := 1#32
  let v336 : BitVec 32 := Scalar.subi v335 c1_i32_224
  let c0_i32_225 : BitVec 32 := 0#32
  let v337 : BitVec 32 := Scalar.maxsi v336 c0_i32_225
  let c256_i32_226 : BitVec 32 := 256#32
  let v338 : BitVec 32 := Scalar.muli v337 c256_i32_226
  v338
def k0_mult8 (i : grid0.Coords) : BitVec 32 :=
  let arg2 : BitVec 32 := BitVec.ofNat 32 (i 2).val
  let c4_i32 : BitVec 32 := 4#32
  let v40 : BitVec 32 := Scalar.muli arg2 c4_i32
  let c1_i32_223 : BitVec 32 := 1#32
  let v335 : BitVec 32 := Scalar.addi v40 c1_i32_223
  let c256_i32_245 : BitVec 32 := 256#32
  let v355 : BitVec 32 := Scalar.muli v335 c256_i32_245
  v355
def k0_mult9 (i : grid0.Coords) : BitVec 32 :=
  let arg2 : BitVec 32 := BitVec.ofNat 32 (i 2).val
  let c4_i32 : BitVec 32 := 4#32
  let v40 : BitVec 32 := Scalar.muli arg2 c4_i32
  let c1_i32_223 : BitVec 32 := 1#32
  let v335 : BitVec 32 := Scalar.addi v40 c1_i32_223
  let c256_i32_294 : BitVec 32 := 256#32
  let v437 : BitVec 32 := Scalar.muli v335 c256_i32_294
  v437
def k0_mult10 (i : grid0.Coords) : BitVec 32 :=
  let arg2 : BitVec 32 := BitVec.ofNat 32 (i 2).val
  let c4_i32 : BitVec 32 := 4#32
  let v40 : BitVec 32 := Scalar.muli arg2 c4_i32
  let c0_i32_339 : BitVec 32 := 0#32
  let v508 : BitVec 32 := Scalar.addi v40 c0_i32_339
  let c1_i32_340 : BitVec 32 := 1#32
  let v509 : BitVec 32 := Scalar.subi v508 c1_i32_340
  let c0_i32_341 : BitVec 32 := 0#32
  let v510 : BitVec 32 := Scalar.maxsi v509 c0_i32_341
  let c256_i32_342 : BitVec 32 := 256#32
  let v511 : BitVec 32 := Scalar.muli v510 c256_i32_342
  v511
def k0_mult11 (i : grid0.Coords) : BitVec 32 :=
  let arg2 : BitVec 32 := BitVec.ofNat 32 (i 2).val
  let c4_i32 : BitVec 32 := 4#32
  let v40 : BitVec 32 := Scalar.muli arg2 c4_i32
  let c0_i32_339 : BitVec 32 := 0#32
  let v508 : BitVec 32 := Scalar.addi v40 c0_i32_339
  let c256_i32_361 : BitVec 32 := 256#32
  let v528 : BitVec 32 := Scalar.muli v508 c256_i32_361
  v528
def k0_mult12 (i : grid0.Coords) : BitVec 32 :=
  let arg2 : BitVec 32 := BitVec.ofNat 32 (i 2).val
  let c4_i32 : BitVec 32 := 4#32
  let v40 : BitVec 32 := Scalar.muli arg2 c4_i32
  let c0_i32_339 : BitVec 32 := 0#32
  let v508 : BitVec 32 := Scalar.addi v40 c0_i32_339
  let c256_i32_410 : BitVec 32 := 256#32
  let v610 : BitVec 32 := Scalar.muli v508 c256_i32_410
  v610
@[reducible] def k0_t1_loop (i : grid0.Coords) : Scf.Loop 32 :=
  let c0_i32_463 : BitVec 32 := 0#32
  let arg2 : BitVec 32 := BitVec.ofNat 32 (i 2).val
  let c4_i32 : BitVec 32 := 4#32
  let v40 : BitVec 32 := Scalar.muli arg2 c4_i32
  let c0_i32_456 : BitVec 32 := 0#32
  let v682 : BitVec 1 := Scalar.cmpi .sgt v40 c0_i32_456
  let v683 : BitVec 32 := Scalar.extui v682
  let c0_i32_457 : BitVec 32 := 0#32
  let v684 : BitVec 1 := Scalar.cmpi .slt v40 c0_i32_457
  let v685 : BitVec 32 := Scalar.extui v684
  let v686 : BitVec 32 := Scalar.subi v683 v685
  let c4_i32_455 : BitVec 32 := 4#32
  let c0_i32_458 : BitVec 32 := 0#32
  let v687 : BitVec 1 := Scalar.cmpi .sgt c4_i32_455 c0_i32_458
  let v688 : BitVec 32 := Scalar.extui v687
  let c0_i32_459 : BitVec 32 := 0#32
  let v689 : BitVec 1 := Scalar.cmpi .slt c4_i32_455 c0_i32_459
  let v690 : BitVec 32 := Scalar.extui v689
  let v691 : BitVec 32 := Scalar.subi v688 v690
  let v692 : BitVec 1 := Scalar.cmpi .ne v686 v691
  let v693 : BitVec 32 := Scalar.remsi v40 c4_i32_455
  let c0_i32_460 : BitVec 32 := 0#32
  let v694 : BitVec 1 := Scalar.cmpi .ne v693 c0_i32_460
  let v695 : BitVec 1 := Scalar.andi v692 v694
  let v681 : BitVec 32 := Scalar.divsi v40 c4_i32_455
  let c1_i32_461 : BitVec 32 := 1#32
  let v696 : BitVec 32 := Scalar.subi v681 c1_i32_461
  let v697 : BitVec 32 := Scalar.select v695 v696 v681
  let v698 : BitVec 32 := Scalar.subi v697 c0_i32_463
  let c1_i32_464 : BitVec 32 := 1#32
  let v700 : BitVec 32 := Scalar.divsi v698 c1_i32_464
  let v701 : BitVec 32 := Scalar.muli v700 c1_i32_464
  let v702 : BitVec 32 := Scalar.addi c0_i32_463 v701
  let c1_i32_465 : BitVec 32 := 1#32
  ⟨c0_i32_463, v702, c1_i32_465⟩
def k0_mult13 (i : grid0.Coords) (k0_t1 : Fin (k0_t1_loop i).trips) : BitVec 32 :=
  let arg2 : BitVec 32 := BitVec.ofNat 32 (i 2).val
  let c4_i32 : BitVec 32 := 4#32
  let v40 : BitVec 32 := Scalar.muli arg2 c4_i32
  let c1_i32_477 : BitVec 32 := 1#32
  let v714 : BitVec 32 := Scalar.subi v40 c1_i32_477
  let c4_i32_478 : BitVec 32 := 4#32
  let c0_i32_463 : BitVec 32 := 0#32
  let c1_i32_465 : BitVec 32 := 1#32
  let arg11 : BitVec 32 := Scf.iv c0_i32_463 c1_i32_465 k0_t1
  let v715 : BitVec 32 := Scalar.muli c4_i32_478 arg11
  let v716 : BitVec 32 := Scalar.subi v714 v715
  let c0_i32_479 : BitVec 32 := 0#32
  let v717 : BitVec 32 := Scalar.subi v716 c0_i32_479
  let c1_i32_480 : BitVec 32 := 1#32
  let v718 : BitVec 32 := Scalar.subi v717 c1_i32_480
  let c0_i32_481 : BitVec 32 := 0#32
  let v719 : BitVec 32 := Scalar.maxsi v718 c0_i32_481
  let c256_i32_482 : BitVec 32 := 256#32
  let v720 : BitVec 32 := Scalar.muli v719 c256_i32_482
  v720
def k0_off4 (i : grid0.Coords) (k0_t1 : Fin (k0_t1_loop i).trips) (c0_i32_479 : BitVec 32) : Fin 3 → Nat :=
  let c0_483 : Index := 0#32
  let arg2 : BitVec 32 := BitVec.ofNat 32 (i 2).val
  let c4_i32 : BitVec 32 := 4#32
  let v40 : BitVec 32 := Scalar.muli arg2 c4_i32
  let c1_i32_477 : BitVec 32 := 1#32
  let v714 : BitVec 32 := Scalar.subi v40 c1_i32_477
  let c4_i32_478 : BitVec 32 := 4#32
  let c0_i32_463 : BitVec 32 := 0#32
  let c1_i32_465 : BitVec 32 := 1#32
  let arg11 : BitVec 32 := Scf.iv c0_i32_463 c1_i32_465 k0_t1
  let v715 : BitVec 32 := Scalar.muli c4_i32_478 arg11
  let v716 : BitVec 32 := Scalar.subi v714 v715
  let v717 : BitVec 32 := Scalar.subi v716 c0_i32_479
  let c1_i32_480 : BitVec 32 := 1#32
  let v718 : BitVec 32 := Scalar.subi v717 c1_i32_480
  let c0_i32_481 : BitVec 32 := 0#32
  let v719 : BitVec 32 := Scalar.maxsi v718 c0_i32_481
  let c256_i32_482 : BitVec 32 := 256#32
  let v720 : BitVec 32 := Scalar.muli v719 c256_i32_482
  let v721 : BitVec 32 := v720
  let v722 : Index := Scalar.indexCast v721
  let c0_484 : Index := 0#32
  ![0, v722.toNat, 0]
def k0_mult14 (i : grid0.Coords) (k0_t1 : Fin (k0_t1_loop i).trips) : BitVec 32 :=
  let arg2 : BitVec 32 := BitVec.ofNat 32 (i 2).val
  let c4_i32 : BitVec 32 := 4#32
  let v40 : BitVec 32 := Scalar.muli arg2 c4_i32
  let c1_i32_477 : BitVec 32 := 1#32
  let v714 : BitVec 32 := Scalar.subi v40 c1_i32_477
  let c4_i32_478 : BitVec 32 := 4#32
  let c0_i32_463 : BitVec 32 := 0#32
  let c1_i32_465 : BitVec 32 := 1#32
  let arg11 : BitVec 32 := Scf.iv c0_i32_463 c1_i32_465 k0_t1
  let v715 : BitVec 32 := Scalar.muli c4_i32_478 arg11
  let v716 : BitVec 32 := Scalar.subi v714 v715
  let c0_i32_479 : BitVec 32 := 0#32
  let v717 : BitVec 32 := Scalar.subi v716 c0_i32_479
  let c256_i32_501 : BitVec 32 := 256#32
  let v737 : BitVec 32 := Scalar.muli v717 c256_i32_501
  v737
def k0_off5 (i : grid0.Coords) (k0_t1 : Fin (k0_t1_loop i).trips) (c0_i32_479 : BitVec 32) : Fin 3 → Nat :=
  let c0_502 : Index := 0#32
  let arg2 : BitVec 32 := BitVec.ofNat 32 (i 2).val
  let c4_i32 : BitVec 32 := 4#32
  let v40 : BitVec 32 := Scalar.muli arg2 c4_i32
  let c1_i32_477 : BitVec 32 := 1#32
  let v714 : BitVec 32 := Scalar.subi v40 c1_i32_477
  let c4_i32_478 : BitVec 32 := 4#32
  let c0_i32_463 : BitVec 32 := 0#32
  let c1_i32_465 : BitVec 32 := 1#32
  let arg11 : BitVec 32 := Scf.iv c0_i32_463 c1_i32_465 k0_t1
  let v715 : BitVec 32 := Scalar.muli c4_i32_478 arg11
  let v716 : BitVec 32 := Scalar.subi v714 v715
  let v717 : BitVec 32 := Scalar.subi v716 c0_i32_479
  let c256_i32_501 : BitVec 32 := 256#32
  let v737 : BitVec 32 := Scalar.muli v717 c256_i32_501
  let v738 : BitVec 32 := v737
  let v739 : Index := Scalar.indexCast v738
  let c0_503 : Index := 0#32
  ![0, v739.toNat, 0]
def k0_mult15 (i : grid0.Coords) (k0_t1 : Fin (k0_t1_loop i).trips) : BitVec 32 :=
  let arg2 : BitVec 32 := BitVec.ofNat 32 (i 2).val
  let c4_i32 : BitVec 32 := 4#32
  let v40 : BitVec 32 := Scalar.muli arg2 c4_i32
  let c1_i32_477 : BitVec 32 := 1#32
  let v714 : BitVec 32 := Scalar.subi v40 c1_i32_477
  let c4_i32_478 : BitVec 32 := 4#32
  let c0_i32_463 : BitVec 32 := 0#32
  let c1_i32_465 : BitVec 32 := 1#32
  let arg11 : BitVec 32 := Scf.iv c0_i32_463 c1_i32_465 k0_t1
  let v715 : BitVec 32 := Scalar.muli c4_i32_478 arg11
  let v716 : BitVec 32 := Scalar.subi v714 v715
  let c1_i32_546 : BitVec 32 := 1#32
  let v808 : BitVec 32 := Scalar.subi v716 c1_i32_546
  let c1_i32_547 : BitVec 32 := 1#32
  let v809 : BitVec 32 := Scalar.subi v808 c1_i32_547
  let c0_i32_548 : BitVec 32 := 0#32
  let v810 : BitVec 32 := Scalar.maxsi v809 c0_i32_548
  let c256_i32_549 : BitVec 32 := 256#32
  let v811 : BitVec 32 := Scalar.muli v810 c256_i32_549
  v811
def k0_mult16 (i : grid0.Coords) (k0_t1 : Fin (k0_t1_loop i).trips) : BitVec 32 :=
  let arg2 : BitVec 32 := BitVec.ofNat 32 (i 2).val
  let c4_i32 : BitVec 32 := 4#32
  let v40 : BitVec 32 := Scalar.muli arg2 c4_i32
  let c1_i32_477 : BitVec 32 := 1#32
  let v714 : BitVec 32 := Scalar.subi v40 c1_i32_477
  let c4_i32_478 : BitVec 32 := 4#32
  let c0_i32_463 : BitVec 32 := 0#32
  let c1_i32_465 : BitVec 32 := 1#32
  let arg11 : BitVec 32 := Scf.iv c0_i32_463 c1_i32_465 k0_t1
  let v715 : BitVec 32 := Scalar.muli c4_i32_478 arg11
  let v716 : BitVec 32 := Scalar.subi v714 v715
  let c1_i32_546 : BitVec 32 := 1#32
  let v808 : BitVec 32 := Scalar.subi v716 c1_i32_546
  let c256_i32_568 : BitVec 32 := 256#32
  let v828 : BitVec 32 := Scalar.muli v808 c256_i32_568
  v828
def k0_mult17 (i : grid0.Coords) (k0_t1 : Fin (k0_t1_loop i).trips) : BitVec 32 :=
  let arg2 : BitVec 32 := BitVec.ofNat 32 (i 2).val
  let c4_i32 : BitVec 32 := 4#32
  let v40 : BitVec 32 := Scalar.muli arg2 c4_i32
  let c1_i32_477 : BitVec 32 := 1#32
  let v714 : BitVec 32 := Scalar.subi v40 c1_i32_477
  let c4_i32_478 : BitVec 32 := 4#32
  let c0_i32_463 : BitVec 32 := 0#32
  let c1_i32_465 : BitVec 32 := 1#32
  let arg11 : BitVec 32 := Scf.iv c0_i32_463 c1_i32_465 k0_t1
  let v715 : BitVec 32 := Scalar.muli c4_i32_478 arg11
  let v716 : BitVec 32 := Scalar.subi v714 v715
  let c2_i32_613 : BitVec 32 := 2#32
  let v899 : BitVec 32 := Scalar.subi v716 c2_i32_613
  let c1_i32_614 : BitVec 32 := 1#32
  let v900 : BitVec 32 := Scalar.subi v899 c1_i32_614
  let c0_i32_615 : BitVec 32 := 0#32
  let v901 : BitVec 32 := Scalar.maxsi v900 c0_i32_615
  let c256_i32_616 : BitVec 32 := 256#32
  let v902 : BitVec 32 := Scalar.muli v901 c256_i32_616
  v902
def k0_mult18 (i : grid0.Coords) (k0_t1 : Fin (k0_t1_loop i).trips) : BitVec 32 :=
  let arg2 : BitVec 32 := BitVec.ofNat 32 (i 2).val
  let c4_i32 : BitVec 32 := 4#32
  let v40 : BitVec 32 := Scalar.muli arg2 c4_i32
  let c1_i32_477 : BitVec 32 := 1#32
  let v714 : BitVec 32 := Scalar.subi v40 c1_i32_477
  let c4_i32_478 : BitVec 32 := 4#32
  let c0_i32_463 : BitVec 32 := 0#32
  let c1_i32_465 : BitVec 32 := 1#32
  let arg11 : BitVec 32 := Scf.iv c0_i32_463 c1_i32_465 k0_t1
  let v715 : BitVec 32 := Scalar.muli c4_i32_478 arg11
  let v716 : BitVec 32 := Scalar.subi v714 v715
  let c2_i32_613 : BitVec 32 := 2#32
  let v899 : BitVec 32 := Scalar.subi v716 c2_i32_613
  let c256_i32_635 : BitVec 32 := 256#32
  let v919 : BitVec 32 := Scalar.muli v899 c256_i32_635
  v919
def k0_mult19 (i : grid0.Coords) (k0_t1 : Fin (k0_t1_loop i).trips) : BitVec 32 :=
  let arg2 : BitVec 32 := BitVec.ofNat 32 (i 2).val
  let c4_i32 : BitVec 32 := 4#32
  let v40 : BitVec 32 := Scalar.muli arg2 c4_i32
  let c1_i32_477 : BitVec 32 := 1#32
  let v714 : BitVec 32 := Scalar.subi v40 c1_i32_477
  let c4_i32_478 : BitVec 32 := 4#32
  let c0_i32_463 : BitVec 32 := 0#32
  let c1_i32_465 : BitVec 32 := 1#32
  let arg11 : BitVec 32 := Scf.iv c0_i32_463 c1_i32_465 k0_t1
  let v715 : BitVec 32 := Scalar.muli c4_i32_478 arg11
  let v716 : BitVec 32 := Scalar.subi v714 v715
  let c3_i32_680 : BitVec 32 := 3#32
  let v990 : BitVec 32 := Scalar.subi v716 c3_i32_680
  let c1_i32_681 : BitVec 32 := 1#32
  let v991 : BitVec 32 := Scalar.subi v990 c1_i32_681
  let c0_i32_682 : BitVec 32 := 0#32
  let v992 : BitVec 32 := Scalar.maxsi v991 c0_i32_682
  let c256_i32_683 : BitVec 32 := 256#32
  let v993 : BitVec 32 := Scalar.muli v992 c256_i32_683
  v993
def k0_mult20 (i : grid0.Coords) (k0_t1 : Fin (k0_t1_loop i).trips) : BitVec 32 :=
  let arg2 : BitVec 32 := BitVec.ofNat 32 (i 2).val
  let c4_i32 : BitVec 32 := 4#32
  let v40 : BitVec 32 := Scalar.muli arg2 c4_i32
  let c1_i32_477 : BitVec 32 := 1#32
  let v714 : BitVec 32 := Scalar.subi v40 c1_i32_477
  let c4_i32_478 : BitVec 32 := 4#32
  let c0_i32_463 : BitVec 32 := 0#32
  let c1_i32_465 : BitVec 32 := 1#32
  let arg11 : BitVec 32 := Scf.iv c0_i32_463 c1_i32_465 k0_t1
  let v715 : BitVec 32 := Scalar.muli c4_i32_478 arg11
  let v716 : BitVec 32 := Scalar.subi v714 v715
  let c3_i32_680 : BitVec 32 := 3#32
  let v990 : BitVec 32 := Scalar.subi v716 c3_i32_680
  let c256_i32_702 : BitVec 32 := 256#32
  let v1010 : BitVec 32 := Scalar.muli v990 c256_i32_702
  v1010
@[reducible] def k0_t2_loop (i : grid0.Coords) : Scf.Loop 32 :=
  let c0_i32_463 : BitVec 32 := 0#32
  let arg2 : BitVec 32 := BitVec.ofNat 32 (i 2).val
  let c4_i32 : BitVec 32 := 4#32
  let v40 : BitVec 32 := Scalar.muli arg2 c4_i32
  let c0_i32_456 : BitVec 32 := 0#32
  let v682 : BitVec 1 := Scalar.cmpi .sgt v40 c0_i32_456
  let v683 : BitVec 32 := Scalar.extui v682
  let c0_i32_457 : BitVec 32 := 0#32
  let v684 : BitVec 1 := Scalar.cmpi .slt v40 c0_i32_457
  let v685 : BitVec 32 := Scalar.extui v684
  let v686 : BitVec 32 := Scalar.subi v683 v685
  let c4_i32_455 : BitVec 32 := 4#32
  let c0_i32_458 : BitVec 32 := 0#32
  let v687 : BitVec 1 := Scalar.cmpi .sgt c4_i32_455 c0_i32_458
  let v688 : BitVec 32 := Scalar.extui v687
  let c0_i32_459 : BitVec 32 := 0#32
  let v689 : BitVec 1 := Scalar.cmpi .slt c4_i32_455 c0_i32_459
  let v690 : BitVec 32 := Scalar.extui v689
  let v691 : BitVec 32 := Scalar.subi v688 v690
  let v692 : BitVec 1 := Scalar.cmpi .ne v686 v691
  let v693 : BitVec 32 := Scalar.remsi v40 c4_i32_455
  let c0_i32_460 : BitVec 32 := 0#32
  let v694 : BitVec 1 := Scalar.cmpi .ne v693 c0_i32_460
  let v695 : BitVec 1 := Scalar.andi v692 v694
  let v681 : BitVec 32 := Scalar.divsi v40 c4_i32_455
  let c1_i32_461 : BitVec 32 := 1#32
  let v696 : BitVec 32 := Scalar.subi v681 c1_i32_461
  let v697 : BitVec 32 := Scalar.select v695 v696 v681
  let v698 : BitVec 32 := Scalar.subi v697 c0_i32_463
  let c1_i32_464 : BitVec 32 := 1#32
  let v700 : BitVec 32 := Scalar.divsi v698 c1_i32_464
  let v701 : BitVec 32 := Scalar.muli v700 c1_i32_464
  let v702 : BitVec 32 := Scalar.addi c0_i32_463 v701
  let v699 : BitVec 32 := Scalar.addi c0_i32_463 v698
  let c1_i32_466 : BitVec 32 := 1#32
  ⟨v702, v699, c1_i32_466⟩
def k0_mult21 (i : grid0.Coords) (k0_t2 : Fin (k0_t2_loop i).trips) : BitVec 32 :=
  let arg2 : BitVec 32 := BitVec.ofNat 32 (i 2).val
  let c4_i32 : BitVec 32 := 4#32
  let v40 : BitVec 32 := Scalar.muli arg2 c4_i32
  let c1_i32_477 : BitVec 32 := 1#32
  let v714 : BitVec 32 := Scalar.subi v40 c1_i32_477
  let c4_i32_478 : BitVec 32 := 4#32
  let c0_i32_463 : BitVec 32 := 0#32
  let c0_i32_456 : BitVec 32 := 0#32
  let v682 : BitVec 1 := Scalar.cmpi .sgt v40 c0_i32_456
  let v683 : BitVec 32 := Scalar.extui v682
  let c0_i32_457 : BitVec 32 := 0#32
  let v684 : BitVec 1 := Scalar.cmpi .slt v40 c0_i32_457
  let v685 : BitVec 32 := Scalar.extui v684
  let v686 : BitVec 32 := Scalar.subi v683 v685
  let c4_i32_455 : BitVec 32 := 4#32
  let c0_i32_458 : BitVec 32 := 0#32
  let v687 : BitVec 1 := Scalar.cmpi .sgt c4_i32_455 c0_i32_458
  let v688 : BitVec 32 := Scalar.extui v687
  let c0_i32_459 : BitVec 32 := 0#32
  let v689 : BitVec 1 := Scalar.cmpi .slt c4_i32_455 c0_i32_459
  let v690 : BitVec 32 := Scalar.extui v689
  let v691 : BitVec 32 := Scalar.subi v688 v690
  let v692 : BitVec 1 := Scalar.cmpi .ne v686 v691
  let v693 : BitVec 32 := Scalar.remsi v40 c4_i32_455
  let c0_i32_460 : BitVec 32 := 0#32
  let v694 : BitVec 1 := Scalar.cmpi .ne v693 c0_i32_460
  let v695 : BitVec 1 := Scalar.andi v692 v694
  let v681 : BitVec 32 := Scalar.divsi v40 c4_i32_455
  let c1_i32_461 : BitVec 32 := 1#32
  let v696 : BitVec 32 := Scalar.subi v681 c1_i32_461
  let v697 : BitVec 32 := Scalar.select v695 v696 v681
  let v698 : BitVec 32 := Scalar.subi v697 c0_i32_463
  let c1_i32_464 : BitVec 32 := 1#32
  let v700 : BitVec 32 := Scalar.divsi v698 c1_i32_464
  let v701 : BitVec 32 := Scalar.muli v700 c1_i32_464
  let v702 : BitVec 32 := Scalar.addi c0_i32_463 v701
  let c1_i32_466 : BitVec 32 := 1#32
  let arg11 : BitVec 32 := Scf.iv v702 c1_i32_466 k0_t2
  let v715 : BitVec 32 := Scalar.muli c4_i32_478 arg11
  let v716 : BitVec 32 := Scalar.subi v714 v715
  let c0_i32_479 : BitVec 32 := 0#32
  let v717 : BitVec 32 := Scalar.subi v716 c0_i32_479
  let c1_i32_480 : BitVec 32 := 1#32
  let v718 : BitVec 32 := Scalar.subi v717 c1_i32_480
  let c0_i32_481 : BitVec 32 := 0#32
  let v719 : BitVec 32 := Scalar.maxsi v718 c0_i32_481
  let c256_i32_482 : BitVec 32 := 256#32
  let v720 : BitVec 32 := Scalar.muli v719 c256_i32_482
  v720
def k0_off6 (i : grid0.Coords) (k0_t2 : Fin (k0_t2_loop i).trips) (c0_i32_479 : BitVec 32) : Fin 3 → Nat :=
  let c0_483 : Index := 0#32
  let arg2 : BitVec 32 := BitVec.ofNat 32 (i 2).val
  let c4_i32 : BitVec 32 := 4#32
  let v40 : BitVec 32 := Scalar.muli arg2 c4_i32
  let c1_i32_477 : BitVec 32 := 1#32
  let v714 : BitVec 32 := Scalar.subi v40 c1_i32_477
  let c4_i32_478 : BitVec 32 := 4#32
  let c0_i32_463 : BitVec 32 := 0#32
  let c0_i32_456 : BitVec 32 := 0#32
  let v682 : BitVec 1 := Scalar.cmpi .sgt v40 c0_i32_456
  let v683 : BitVec 32 := Scalar.extui v682
  let c0_i32_457 : BitVec 32 := 0#32
  let v684 : BitVec 1 := Scalar.cmpi .slt v40 c0_i32_457
  let v685 : BitVec 32 := Scalar.extui v684
  let v686 : BitVec 32 := Scalar.subi v683 v685
  let c4_i32_455 : BitVec 32 := 4#32
  let c0_i32_458 : BitVec 32 := 0#32
  let v687 : BitVec 1 := Scalar.cmpi .sgt c4_i32_455 c0_i32_458
  let v688 : BitVec 32 := Scalar.extui v687
  let c0_i32_459 : BitVec 32 := 0#32
  let v689 : BitVec 1 := Scalar.cmpi .slt c4_i32_455 c0_i32_459
  let v690 : BitVec 32 := Scalar.extui v689
  let v691 : BitVec 32 := Scalar.subi v688 v690
  let v692 : BitVec 1 := Scalar.cmpi .ne v686 v691
  let v693 : BitVec 32 := Scalar.remsi v40 c4_i32_455
  let c0_i32_460 : BitVec 32 := 0#32
  let v694 : BitVec 1 := Scalar.cmpi .ne v693 c0_i32_460
  let v695 : BitVec 1 := Scalar.andi v692 v694
  let v681 : BitVec 32 := Scalar.divsi v40 c4_i32_455
  let c1_i32_461 : BitVec 32 := 1#32
  let v696 : BitVec 32 := Scalar.subi v681 c1_i32_461
  let v697 : BitVec 32 := Scalar.select v695 v696 v681
  let v698 : BitVec 32 := Scalar.subi v697 c0_i32_463
  let c1_i32_464 : BitVec 32 := 1#32
  let v700 : BitVec 32 := Scalar.divsi v698 c1_i32_464
  let v701 : BitVec 32 := Scalar.muli v700 c1_i32_464
  let v702 : BitVec 32 := Scalar.addi c0_i32_463 v701
  let c1_i32_466 : BitVec 32 := 1#32
  let arg11 : BitVec 32 := Scf.iv v702 c1_i32_466 k0_t2
  let v715 : BitVec 32 := Scalar.muli c4_i32_478 arg11
  let v716 : BitVec 32 := Scalar.subi v714 v715
  let v717 : BitVec 32 := Scalar.subi v716 c0_i32_479
  let c1_i32_480 : BitVec 32 := 1#32
  let v718 : BitVec 32 := Scalar.subi v717 c1_i32_480
  let c0_i32_481 : BitVec 32 := 0#32
  let v719 : BitVec 32 := Scalar.maxsi v718 c0_i32_481
  let c256_i32_482 : BitVec 32 := 256#32
  let v720 : BitVec 32 := Scalar.muli v719 c256_i32_482
  let v721 : BitVec 32 := v720
  let v722 : Index := Scalar.indexCast v721
  let c0_484 : Index := 0#32
  ![0, v722.toNat, 0]
def k0_mult22 (i : grid0.Coords) (k0_t2 : Fin (k0_t2_loop i).trips) : BitVec 32 :=
  let arg2 : BitVec 32 := BitVec.ofNat 32 (i 2).val
  let c4_i32 : BitVec 32 := 4#32
  let v40 : BitVec 32 := Scalar.muli arg2 c4_i32
  let c1_i32_477 : BitVec 32 := 1#32
  let v714 : BitVec 32 := Scalar.subi v40 c1_i32_477
  let c4_i32_478 : BitVec 32 := 4#32
  let c0_i32_463 : BitVec 32 := 0#32
  let c0_i32_456 : BitVec 32 := 0#32
  let v682 : BitVec 1 := Scalar.cmpi .sgt v40 c0_i32_456
  let v683 : BitVec 32 := Scalar.extui v682
  let c0_i32_457 : BitVec 32 := 0#32
  let v684 : BitVec 1 := Scalar.cmpi .slt v40 c0_i32_457
  let v685 : BitVec 32 := Scalar.extui v684
  let v686 : BitVec 32 := Scalar.subi v683 v685
  let c4_i32_455 : BitVec 32 := 4#32
  let c0_i32_458 : BitVec 32 := 0#32
  let v687 : BitVec 1 := Scalar.cmpi .sgt c4_i32_455 c0_i32_458
  let v688 : BitVec 32 := Scalar.extui v687
  let c0_i32_459 : BitVec 32 := 0#32
  let v689 : BitVec 1 := Scalar.cmpi .slt c4_i32_455 c0_i32_459
  let v690 : BitVec 32 := Scalar.extui v689
  let v691 : BitVec 32 := Scalar.subi v688 v690
  let v692 : BitVec 1 := Scalar.cmpi .ne v686 v691
  let v693 : BitVec 32 := Scalar.remsi v40 c4_i32_455
  let c0_i32_460 : BitVec 32 := 0#32
  let v694 : BitVec 1 := Scalar.cmpi .ne v693 c0_i32_460
  let v695 : BitVec 1 := Scalar.andi v692 v694
  let v681 : BitVec 32 := Scalar.divsi v40 c4_i32_455
  let c1_i32_461 : BitVec 32 := 1#32
  let v696 : BitVec 32 := Scalar.subi v681 c1_i32_461
  let v697 : BitVec 32 := Scalar.select v695 v696 v681
  let v698 : BitVec 32 := Scalar.subi v697 c0_i32_463
  let c1_i32_464 : BitVec 32 := 1#32
  let v700 : BitVec 32 := Scalar.divsi v698 c1_i32_464
  let v701 : BitVec 32 := Scalar.muli v700 c1_i32_464
  let v702 : BitVec 32 := Scalar.addi c0_i32_463 v701
  let c1_i32_466 : BitVec 32 := 1#32
  let arg11 : BitVec 32 := Scf.iv v702 c1_i32_466 k0_t2
  let v715 : BitVec 32 := Scalar.muli c4_i32_478 arg11
  let v716 : BitVec 32 := Scalar.subi v714 v715
  let c0_i32_479 : BitVec 32 := 0#32
  let v717 : BitVec 32 := Scalar.subi v716 c0_i32_479
  let c256_i32_501 : BitVec 32 := 256#32
  let v737 : BitVec 32 := Scalar.muli v717 c256_i32_501
  v737
def k0_off7 (i : grid0.Coords) (k0_t2 : Fin (k0_t2_loop i).trips) (c0_i32_479 : BitVec 32) : Fin 3 → Nat :=
  let c0_502 : Index := 0#32
  let arg2 : BitVec 32 := BitVec.ofNat 32 (i 2).val
  let c4_i32 : BitVec 32 := 4#32
  let v40 : BitVec 32 := Scalar.muli arg2 c4_i32
  let c1_i32_477 : BitVec 32 := 1#32
  let v714 : BitVec 32 := Scalar.subi v40 c1_i32_477
  let c4_i32_478 : BitVec 32 := 4#32
  let c0_i32_463 : BitVec 32 := 0#32
  let c0_i32_456 : BitVec 32 := 0#32
  let v682 : BitVec 1 := Scalar.cmpi .sgt v40 c0_i32_456
  let v683 : BitVec 32 := Scalar.extui v682
  let c0_i32_457 : BitVec 32 := 0#32
  let v684 : BitVec 1 := Scalar.cmpi .slt v40 c0_i32_457
  let v685 : BitVec 32 := Scalar.extui v684
  let v686 : BitVec 32 := Scalar.subi v683 v685
  let c4_i32_455 : BitVec 32 := 4#32
  let c0_i32_458 : BitVec 32 := 0#32
  let v687 : BitVec 1 := Scalar.cmpi .sgt c4_i32_455 c0_i32_458
  let v688 : BitVec 32 := Scalar.extui v687
  let c0_i32_459 : BitVec 32 := 0#32
  let v689 : BitVec 1 := Scalar.cmpi .slt c4_i32_455 c0_i32_459
  let v690 : BitVec 32 := Scalar.extui v689
  let v691 : BitVec 32 := Scalar.subi v688 v690
  let v692 : BitVec 1 := Scalar.cmpi .ne v686 v691
  let v693 : BitVec 32 := Scalar.remsi v40 c4_i32_455
  let c0_i32_460 : BitVec 32 := 0#32
  let v694 : BitVec 1 := Scalar.cmpi .ne v693 c0_i32_460
  let v695 : BitVec 1 := Scalar.andi v692 v694
  let v681 : BitVec 32 := Scalar.divsi v40 c4_i32_455
  let c1_i32_461 : BitVec 32 := 1#32
  let v696 : BitVec 32 := Scalar.subi v681 c1_i32_461
  let v697 : BitVec 32 := Scalar.select v695 v696 v681
  let v698 : BitVec 32 := Scalar.subi v697 c0_i32_463
  let c1_i32_464 : BitVec 32 := 1#32
  let v700 : BitVec 32 := Scalar.divsi v698 c1_i32_464
  let v701 : BitVec 32 := Scalar.muli v700 c1_i32_464
  let v702 : BitVec 32 := Scalar.addi c0_i32_463 v701
  let c1_i32_466 : BitVec 32 := 1#32
  let arg11 : BitVec 32 := Scf.iv v702 c1_i32_466 k0_t2
  let v715 : BitVec 32 := Scalar.muli c4_i32_478 arg11
  let v716 : BitVec 32 := Scalar.subi v714 v715
  let v717 : BitVec 32 := Scalar.subi v716 c0_i32_479
  let c256_i32_501 : BitVec 32 := 256#32
  let v737 : BitVec 32 := Scalar.muli v717 c256_i32_501
  let v738 : BitVec 32 := v737
  let v739 : Index := Scalar.indexCast v738
  let c0_503 : Index := 0#32
  ![0, v739.toNat, 0]
def k0_mult23 (i : grid0.Coords) (k0_t2 : Fin (k0_t2_loop i).trips) : BitVec 32 :=
  let arg2 : BitVec 32 := BitVec.ofNat 32 (i 2).val
  let c4_i32 : BitVec 32 := 4#32
  let v40 : BitVec 32 := Scalar.muli arg2 c4_i32
  let c1_i32_477 : BitVec 32 := 1#32
  let v714 : BitVec 32 := Scalar.subi v40 c1_i32_477
  let c4_i32_478 : BitVec 32 := 4#32
  let c0_i32_463 : BitVec 32 := 0#32
  let c0_i32_456 : BitVec 32 := 0#32
  let v682 : BitVec 1 := Scalar.cmpi .sgt v40 c0_i32_456
  let v683 : BitVec 32 := Scalar.extui v682
  let c0_i32_457 : BitVec 32 := 0#32
  let v684 : BitVec 1 := Scalar.cmpi .slt v40 c0_i32_457
  let v685 : BitVec 32 := Scalar.extui v684
  let v686 : BitVec 32 := Scalar.subi v683 v685
  let c4_i32_455 : BitVec 32 := 4#32
  let c0_i32_458 : BitVec 32 := 0#32
  let v687 : BitVec 1 := Scalar.cmpi .sgt c4_i32_455 c0_i32_458
  let v688 : BitVec 32 := Scalar.extui v687
  let c0_i32_459 : BitVec 32 := 0#32
  let v689 : BitVec 1 := Scalar.cmpi .slt c4_i32_455 c0_i32_459
  let v690 : BitVec 32 := Scalar.extui v689
  let v691 : BitVec 32 := Scalar.subi v688 v690
  let v692 : BitVec 1 := Scalar.cmpi .ne v686 v691
  let v693 : BitVec 32 := Scalar.remsi v40 c4_i32_455
  let c0_i32_460 : BitVec 32 := 0#32
  let v694 : BitVec 1 := Scalar.cmpi .ne v693 c0_i32_460
  let v695 : BitVec 1 := Scalar.andi v692 v694
  let v681 : BitVec 32 := Scalar.divsi v40 c4_i32_455
  let c1_i32_461 : BitVec 32 := 1#32
  let v696 : BitVec 32 := Scalar.subi v681 c1_i32_461
  let v697 : BitVec 32 := Scalar.select v695 v696 v681
  let v698 : BitVec 32 := Scalar.subi v697 c0_i32_463
  let c1_i32_464 : BitVec 32 := 1#32
  let v700 : BitVec 32 := Scalar.divsi v698 c1_i32_464
  let v701 : BitVec 32 := Scalar.muli v700 c1_i32_464
  let v702 : BitVec 32 := Scalar.addi c0_i32_463 v701
  let c1_i32_466 : BitVec 32 := 1#32
  let arg11 : BitVec 32 := Scf.iv v702 c1_i32_466 k0_t2
  let v715 : BitVec 32 := Scalar.muli c4_i32_478 arg11
  let v716 : BitVec 32 := Scalar.subi v714 v715
  let c1_i32_546 : BitVec 32 := 1#32
  let v808 : BitVec 32 := Scalar.subi v716 c1_i32_546
  let c1_i32_547 : BitVec 32 := 1#32
  let v809 : BitVec 32 := Scalar.subi v808 c1_i32_547
  let c0_i32_548 : BitVec 32 := 0#32
  let v810 : BitVec 32 := Scalar.maxsi v809 c0_i32_548
  let c256_i32_549 : BitVec 32 := 256#32
  let v811 : BitVec 32 := Scalar.muli v810 c256_i32_549
  v811
def k0_mult24 (i : grid0.Coords) (k0_t2 : Fin (k0_t2_loop i).trips) : BitVec 32 :=
  let arg2 : BitVec 32 := BitVec.ofNat 32 (i 2).val
  let c4_i32 : BitVec 32 := 4#32
  let v40 : BitVec 32 := Scalar.muli arg2 c4_i32
  let c1_i32_477 : BitVec 32 := 1#32
  let v714 : BitVec 32 := Scalar.subi v40 c1_i32_477
  let c4_i32_478 : BitVec 32 := 4#32
  let c0_i32_463 : BitVec 32 := 0#32
  let c0_i32_456 : BitVec 32 := 0#32
  let v682 : BitVec 1 := Scalar.cmpi .sgt v40 c0_i32_456
  let v683 : BitVec 32 := Scalar.extui v682
  let c0_i32_457 : BitVec 32 := 0#32
  let v684 : BitVec 1 := Scalar.cmpi .slt v40 c0_i32_457
  let v685 : BitVec 32 := Scalar.extui v684
  let v686 : BitVec 32 := Scalar.subi v683 v685
  let c4_i32_455 : BitVec 32 := 4#32
  let c0_i32_458 : BitVec 32 := 0#32
  let v687 : BitVec 1 := Scalar.cmpi .sgt c4_i32_455 c0_i32_458
  let v688 : BitVec 32 := Scalar.extui v687
  let c0_i32_459 : BitVec 32 := 0#32
  let v689 : BitVec 1 := Scalar.cmpi .slt c4_i32_455 c0_i32_459
  let v690 : BitVec 32 := Scalar.extui v689
  let v691 : BitVec 32 := Scalar.subi v688 v690
  let v692 : BitVec 1 := Scalar.cmpi .ne v686 v691
  let v693 : BitVec 32 := Scalar.remsi v40 c4_i32_455
  let c0_i32_460 : BitVec 32 := 0#32
  let v694 : BitVec 1 := Scalar.cmpi .ne v693 c0_i32_460
  let v695 : BitVec 1 := Scalar.andi v692 v694
  let v681 : BitVec 32 := Scalar.divsi v40 c4_i32_455
  let c1_i32_461 : BitVec 32 := 1#32
  let v696 : BitVec 32 := Scalar.subi v681 c1_i32_461
  let v697 : BitVec 32 := Scalar.select v695 v696 v681
  let v698 : BitVec 32 := Scalar.subi v697 c0_i32_463
  let c1_i32_464 : BitVec 32 := 1#32
  let v700 : BitVec 32 := Scalar.divsi v698 c1_i32_464
  let v701 : BitVec 32 := Scalar.muli v700 c1_i32_464
  let v702 : BitVec 32 := Scalar.addi c0_i32_463 v701
  let c1_i32_466 : BitVec 32 := 1#32
  let arg11 : BitVec 32 := Scf.iv v702 c1_i32_466 k0_t2
  let v715 : BitVec 32 := Scalar.muli c4_i32_478 arg11
  let v716 : BitVec 32 := Scalar.subi v714 v715
  let c1_i32_546 : BitVec 32 := 1#32
  let v808 : BitVec 32 := Scalar.subi v716 c1_i32_546
  let c256_i32_568 : BitVec 32 := 256#32
  let v828 : BitVec 32 := Scalar.muli v808 c256_i32_568
  v828
def k0_mult25 (i : grid0.Coords) (k0_t2 : Fin (k0_t2_loop i).trips) : BitVec 32 :=
  let arg2 : BitVec 32 := BitVec.ofNat 32 (i 2).val
  let c4_i32 : BitVec 32 := 4#32
  let v40 : BitVec 32 := Scalar.muli arg2 c4_i32
  let c1_i32_477 : BitVec 32 := 1#32
  let v714 : BitVec 32 := Scalar.subi v40 c1_i32_477
  let c4_i32_478 : BitVec 32 := 4#32
  let c0_i32_463 : BitVec 32 := 0#32
  let c0_i32_456 : BitVec 32 := 0#32
  let v682 : BitVec 1 := Scalar.cmpi .sgt v40 c0_i32_456
  let v683 : BitVec 32 := Scalar.extui v682
  let c0_i32_457 : BitVec 32 := 0#32
  let v684 : BitVec 1 := Scalar.cmpi .slt v40 c0_i32_457
  let v685 : BitVec 32 := Scalar.extui v684
  let v686 : BitVec 32 := Scalar.subi v683 v685
  let c4_i32_455 : BitVec 32 := 4#32
  let c0_i32_458 : BitVec 32 := 0#32
  let v687 : BitVec 1 := Scalar.cmpi .sgt c4_i32_455 c0_i32_458
  let v688 : BitVec 32 := Scalar.extui v687
  let c0_i32_459 : BitVec 32 := 0#32
  let v689 : BitVec 1 := Scalar.cmpi .slt c4_i32_455 c0_i32_459
  let v690 : BitVec 32 := Scalar.extui v689
  let v691 : BitVec 32 := Scalar.subi v688 v690
  let v692 : BitVec 1 := Scalar.cmpi .ne v686 v691
  let v693 : BitVec 32 := Scalar.remsi v40 c4_i32_455
  let c0_i32_460 : BitVec 32 := 0#32
  let v694 : BitVec 1 := Scalar.cmpi .ne v693 c0_i32_460
  let v695 : BitVec 1 := Scalar.andi v692 v694
  let v681 : BitVec 32 := Scalar.divsi v40 c4_i32_455
  let c1_i32_461 : BitVec 32 := 1#32
  let v696 : BitVec 32 := Scalar.subi v681 c1_i32_461
  let v697 : BitVec 32 := Scalar.select v695 v696 v681
  let v698 : BitVec 32 := Scalar.subi v697 c0_i32_463
  let c1_i32_464 : BitVec 32 := 1#32
  let v700 : BitVec 32 := Scalar.divsi v698 c1_i32_464
  let v701 : BitVec 32 := Scalar.muli v700 c1_i32_464
  let v702 : BitVec 32 := Scalar.addi c0_i32_463 v701
  let c1_i32_466 : BitVec 32 := 1#32
  let arg11 : BitVec 32 := Scf.iv v702 c1_i32_466 k0_t2
  let v715 : BitVec 32 := Scalar.muli c4_i32_478 arg11
  let v716 : BitVec 32 := Scalar.subi v714 v715
  let c2_i32_613 : BitVec 32 := 2#32
  let v899 : BitVec 32 := Scalar.subi v716 c2_i32_613
  let c1_i32_614 : BitVec 32 := 1#32
  let v900 : BitVec 32 := Scalar.subi v899 c1_i32_614
  let c0_i32_615 : BitVec 32 := 0#32
  let v901 : BitVec 32 := Scalar.maxsi v900 c0_i32_615
  let c256_i32_616 : BitVec 32 := 256#32
  let v902 : BitVec 32 := Scalar.muli v901 c256_i32_616
  v902
def k0_mult26 (i : grid0.Coords) (k0_t2 : Fin (k0_t2_loop i).trips) : BitVec 32 :=
  let arg2 : BitVec 32 := BitVec.ofNat 32 (i 2).val
  let c4_i32 : BitVec 32 := 4#32
  let v40 : BitVec 32 := Scalar.muli arg2 c4_i32
  let c1_i32_477 : BitVec 32 := 1#32
  let v714 : BitVec 32 := Scalar.subi v40 c1_i32_477
  let c4_i32_478 : BitVec 32 := 4#32
  let c0_i32_463 : BitVec 32 := 0#32
  let c0_i32_456 : BitVec 32 := 0#32
  let v682 : BitVec 1 := Scalar.cmpi .sgt v40 c0_i32_456
  let v683 : BitVec 32 := Scalar.extui v682
  let c0_i32_457 : BitVec 32 := 0#32
  let v684 : BitVec 1 := Scalar.cmpi .slt v40 c0_i32_457
  let v685 : BitVec 32 := Scalar.extui v684
  let v686 : BitVec 32 := Scalar.subi v683 v685
  let c4_i32_455 : BitVec 32 := 4#32
  let c0_i32_458 : BitVec 32 := 0#32
  let v687 : BitVec 1 := Scalar.cmpi .sgt c4_i32_455 c0_i32_458
  let v688 : BitVec 32 := Scalar.extui v687
  let c0_i32_459 : BitVec 32 := 0#32
  let v689 : BitVec 1 := Scalar.cmpi .slt c4_i32_455 c0_i32_459
  let v690 : BitVec 32 := Scalar.extui v689
  let v691 : BitVec 32 := Scalar.subi v688 v690
  let v692 : BitVec 1 := Scalar.cmpi .ne v686 v691
  let v693 : BitVec 32 := Scalar.remsi v40 c4_i32_455
  let c0_i32_460 : BitVec 32 := 0#32
  let v694 : BitVec 1 := Scalar.cmpi .ne v693 c0_i32_460
  let v695 : BitVec 1 := Scalar.andi v692 v694
  let v681 : BitVec 32 := Scalar.divsi v40 c4_i32_455
  let c1_i32_461 : BitVec 32 := 1#32
  let v696 : BitVec 32 := Scalar.subi v681 c1_i32_461
  let v697 : BitVec 32 := Scalar.select v695 v696 v681
  let v698 : BitVec 32 := Scalar.subi v697 c0_i32_463
  let c1_i32_464 : BitVec 32 := 1#32
  let v700 : BitVec 32 := Scalar.divsi v698 c1_i32_464
  let v701 : BitVec 32 := Scalar.muli v700 c1_i32_464
  let v702 : BitVec 32 := Scalar.addi c0_i32_463 v701
  let c1_i32_466 : BitVec 32 := 1#32
  let arg11 : BitVec 32 := Scf.iv v702 c1_i32_466 k0_t2
  let v715 : BitVec 32 := Scalar.muli c4_i32_478 arg11
  let v716 : BitVec 32 := Scalar.subi v714 v715
  let c2_i32_613 : BitVec 32 := 2#32
  let v899 : BitVec 32 := Scalar.subi v716 c2_i32_613
  let c256_i32_635 : BitVec 32 := 256#32
  let v919 : BitVec 32 := Scalar.muli v899 c256_i32_635
  v919
def k0_mult27 (i : grid0.Coords) (k0_t2 : Fin (k0_t2_loop i).trips) : BitVec 32 :=
  let arg2 : BitVec 32 := BitVec.ofNat 32 (i 2).val
  let c4_i32 : BitVec 32 := 4#32
  let v40 : BitVec 32 := Scalar.muli arg2 c4_i32
  let c1_i32_477 : BitVec 32 := 1#32
  let v714 : BitVec 32 := Scalar.subi v40 c1_i32_477
  let c4_i32_478 : BitVec 32 := 4#32
  let c0_i32_463 : BitVec 32 := 0#32
  let c0_i32_456 : BitVec 32 := 0#32
  let v682 : BitVec 1 := Scalar.cmpi .sgt v40 c0_i32_456
  let v683 : BitVec 32 := Scalar.extui v682
  let c0_i32_457 : BitVec 32 := 0#32
  let v684 : BitVec 1 := Scalar.cmpi .slt v40 c0_i32_457
  let v685 : BitVec 32 := Scalar.extui v684
  let v686 : BitVec 32 := Scalar.subi v683 v685
  let c4_i32_455 : BitVec 32 := 4#32
  let c0_i32_458 : BitVec 32 := 0#32
  let v687 : BitVec 1 := Scalar.cmpi .sgt c4_i32_455 c0_i32_458
  let v688 : BitVec 32 := Scalar.extui v687
  let c0_i32_459 : BitVec 32 := 0#32
  let v689 : BitVec 1 := Scalar.cmpi .slt c4_i32_455 c0_i32_459
  let v690 : BitVec 32 := Scalar.extui v689
  let v691 : BitVec 32 := Scalar.subi v688 v690
  let v692 : BitVec 1 := Scalar.cmpi .ne v686 v691
  let v693 : BitVec 32 := Scalar.remsi v40 c4_i32_455
  let c0_i32_460 : BitVec 32 := 0#32
  let v694 : BitVec 1 := Scalar.cmpi .ne v693 c0_i32_460
  let v695 : BitVec 1 := Scalar.andi v692 v694
  let v681 : BitVec 32 := Scalar.divsi v40 c4_i32_455
  let c1_i32_461 : BitVec 32 := 1#32
  let v696 : BitVec 32 := Scalar.subi v681 c1_i32_461
  let v697 : BitVec 32 := Scalar.select v695 v696 v681
  let v698 : BitVec 32 := Scalar.subi v697 c0_i32_463
  let c1_i32_464 : BitVec 32 := 1#32
  let v700 : BitVec 32 := Scalar.divsi v698 c1_i32_464
  let v701 : BitVec 32 := Scalar.muli v700 c1_i32_464
  let v702 : BitVec 32 := Scalar.addi c0_i32_463 v701
  let c1_i32_466 : BitVec 32 := 1#32
  let arg11 : BitVec 32 := Scf.iv v702 c1_i32_466 k0_t2
  let v715 : BitVec 32 := Scalar.muli c4_i32_478 arg11
  let v716 : BitVec 32 := Scalar.subi v714 v715
  let c3_i32_680 : BitVec 32 := 3#32
  let v990 : BitVec 32 := Scalar.subi v716 c3_i32_680
  let c1_i32_681 : BitVec 32 := 1#32
  let v991 : BitVec 32 := Scalar.subi v990 c1_i32_681
  let c0_i32_682 : BitVec 32 := 0#32
  let v992 : BitVec 32 := Scalar.maxsi v991 c0_i32_682
  let c256_i32_683 : BitVec 32 := 256#32
  let v993 : BitVec 32 := Scalar.muli v992 c256_i32_683
  v993
def k0_mult28 (i : grid0.Coords) (k0_t2 : Fin (k0_t2_loop i).trips) : BitVec 32 :=
  let arg2 : BitVec 32 := BitVec.ofNat 32 (i 2).val
  let c4_i32 : BitVec 32 := 4#32
  let v40 : BitVec 32 := Scalar.muli arg2 c4_i32
  let c1_i32_477 : BitVec 32 := 1#32
  let v714 : BitVec 32 := Scalar.subi v40 c1_i32_477
  let c4_i32_478 : BitVec 32 := 4#32
  let c0_i32_463 : BitVec 32 := 0#32
  let c0_i32_456 : BitVec 32 := 0#32
  let v682 : BitVec 1 := Scalar.cmpi .sgt v40 c0_i32_456
  let v683 : BitVec 32 := Scalar.extui v682
  let c0_i32_457 : BitVec 32 := 0#32
  let v684 : BitVec 1 := Scalar.cmpi .slt v40 c0_i32_457
  let v685 : BitVec 32 := Scalar.extui v684
  let v686 : BitVec 32 := Scalar.subi v683 v685
  let c4_i32_455 : BitVec 32 := 4#32
  let c0_i32_458 : BitVec 32 := 0#32
  let v687 : BitVec 1 := Scalar.cmpi .sgt c4_i32_455 c0_i32_458
  let v688 : BitVec 32 := Scalar.extui v687
  let c0_i32_459 : BitVec 32 := 0#32
  let v689 : BitVec 1 := Scalar.cmpi .slt c4_i32_455 c0_i32_459
  let v690 : BitVec 32 := Scalar.extui v689
  let v691 : BitVec 32 := Scalar.subi v688 v690
  let v692 : BitVec 1 := Scalar.cmpi .ne v686 v691
  let v693 : BitVec 32 := Scalar.remsi v40 c4_i32_455
  let c0_i32_460 : BitVec 32 := 0#32
  let v694 : BitVec 1 := Scalar.cmpi .ne v693 c0_i32_460
  let v695 : BitVec 1 := Scalar.andi v692 v694
  let v681 : BitVec 32 := Scalar.divsi v40 c4_i32_455
  let c1_i32_461 : BitVec 32 := 1#32
  let v696 : BitVec 32 := Scalar.subi v681 c1_i32_461
  let v697 : BitVec 32 := Scalar.select v695 v696 v681
  let v698 : BitVec 32 := Scalar.subi v697 c0_i32_463
  let c1_i32_464 : BitVec 32 := 1#32
  let v700 : BitVec 32 := Scalar.divsi v698 c1_i32_464
  let v701 : BitVec 32 := Scalar.muli v700 c1_i32_464
  let v702 : BitVec 32 := Scalar.addi c0_i32_463 v701
  let c1_i32_466 : BitVec 32 := 1#32
  let arg11 : BitVec 32 := Scf.iv v702 c1_i32_466 k0_t2
  let v715 : BitVec 32 := Scalar.muli c4_i32_478 arg11
  let v716 : BitVec 32 := Scalar.subi v714 v715
  let c3_i32_680 : BitVec 32 := 3#32
  let v990 : BitVec 32 := Scalar.subi v716 c3_i32_680
  let c256_i32_702 : BitVec 32 := 256#32
  let v1010 : BitVec 32 := Scalar.muli v990 c256_i32_702
  v1010
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "clamp" => some ⊤
  | "log2e" => some (((Real.log 2)⁻¹ : ℝ) : EReal)
  | _ => none
-- ==== ReferenceIdeal.lean ====
abbrev S4x8192x256 : Shape := ⟨3, ![4, 8192, 256]⟩
abbrev S4x8192x4x64 : Shape := ⟨4, ![4, 8192, 4, 64]⟩
abbrev S4x4x8192x64 : Shape := ⟨4, ![4, 4, 8192, 64]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S4x4x8192x8192 : Shape := ⟨4, ![4, 4, 8192, 8192]⟩
abbrev S_ : Shape := ⟨0, ![]⟩

abbrev nBuf : Space → Nat
  | .hbm => 76
  | .vmem => 0
  | .smem => 0
  | _ => 0

abbrev bufTy : (tb : Table) → Fin (tcTables nBuf tb) → BufTy
  | .hbm, ⟨0, _⟩ => ⟨S4x8192x256, .bf16⟩
  | .hbm, ⟨1, _⟩ => ⟨S4x8192x256, .bf16⟩
  | .hbm, ⟨2, _⟩ => ⟨S4x8192x256, .bf16⟩
  | .hbm, ⟨3, _⟩ => ⟨S4x8192x256, .f32⟩
  | .hbm, ⟨4, _⟩ => ⟨S4x8192x4x64, .f32⟩
  | .hbm, ⟨5, _⟩ => ⟨S4x4x8192x64, .f32⟩
  | .hbm, ⟨6, _⟩ => ⟨S4x8192x256, .f32⟩
  | .hbm, ⟨7, _⟩ => ⟨S4x8192x4x64, .f32⟩
  | .hbm, ⟨8, _⟩ => ⟨S4x4x8192x64, .f32⟩
  | .hbm, ⟨9, _⟩ => ⟨S4x8192x256, .f32⟩
  | .hbm, ⟨10, _⟩ => ⟨S4x8192x4x64, .f32⟩
  | .hbm, ⟨11, _⟩ => ⟨S4x4x8192x64, .f32⟩
  | .hbm, ⟨12, _⟩ => ⟨S8192, .i32⟩
  | .hbm, ⟨13, _⟩ => ⟨S1x8192, .i32⟩
  | .hbm, ⟨14, _⟩ => ⟨S8192x1, .i32⟩
  | .hbm, ⟨15, _⟩ => ⟨S8192x8192, .i32⟩
  | .hbm, ⟨16, _⟩ => ⟨S8192x8192, .i32⟩
  | .hbm, ⟨17, _⟩ => ⟨S8192x8192, .i1⟩
  | .hbm, ⟨18, _⟩ => ⟨S4x4x8192x8192, .f32⟩
  | .hbm, ⟨19, _⟩ => ⟨S_, .f32⟩
  | .hbm, ⟨20, _⟩ => ⟨S_, .f32⟩
  | .hbm, ⟨21, _⟩ => ⟨S4x4x8192x8192, .f32⟩
  | .hbm, ⟨22, _⟩ => ⟨S4x4x8192x8192, .f32⟩
  | .hbm, ⟨23, _⟩ => ⟨S4x4x8192x8192, .f32⟩
  | .hbm, ⟨24, _⟩ => ⟨S4x4x8192x8192, .f32⟩
  | .hbm, ⟨25, _⟩ => ⟨S_, .f32⟩
  | .hbm, ⟨26, _⟩ => ⟨S4x4x8192x8192, .f32⟩
  | .hbm, ⟨27, _⟩ => ⟨S4x4x8192x8192, .f32⟩
  | .hbm, ⟨28, _⟩ => ⟨S4x4x8192x8192, .f32⟩
  | .hbm, ⟨29, _⟩ => ⟨S4x4x8192x8192, .f32⟩
  | .hbm, ⟨30, _⟩ => ⟨S4x4x8192x8192, .i1⟩
  | .hbm, ⟨31, _⟩ => ⟨S4x4x8192x8192, .f32⟩
  | .hbm, ⟨32, _⟩ => ⟨S4x4x8192x8192, .f32⟩
  | .hbm, ⟨33, _⟩ => ⟨S4x4x8192x8192, .f32⟩
  | .hbm, ⟨34, _⟩ => ⟨S4x4x8192x8192, .f32⟩
  | .hbm, ⟨35, _⟩ => ⟨S4x4x8192x8192, .f32⟩
  | .hbm, ⟨36, _⟩ => ⟨S4x4x8192x8192, .f32⟩
  | .hbm, ⟨37, _⟩ => ⟨S4x4x8192x8192, .f32⟩
  | .hbm, ⟨38, _⟩ => ⟨S4x4x8192x8192, .f32⟩
  | .hbm, ⟨39, _⟩ => ⟨S4x4x8192x8192, .f32⟩
  | .hbm, ⟨40, _⟩ => ⟨S_, .f32⟩
  | .hbm, ⟨41, _⟩ => ⟨S_, .f32⟩
  | .hbm, ⟨42, _⟩ => ⟨S4x4x8192x8192, .i1⟩
  | .hbm, ⟨43, _⟩ => ⟨S4x4x8192x8192, .f32⟩
  | .hbm, ⟨44, _⟩ => ⟨S4x4x8192x8192, .f32⟩
  | .hbm, ⟨45, _⟩ => ⟨S_, .f32⟩
  | .hbm, ⟨46, _⟩ => ⟨S_, .f32⟩
  | .hbm, ⟨47, _⟩ => ⟨S4x4x8192x8192, .f32⟩
  | .hbm, ⟨48, _⟩ => ⟨S4x4x8192x8192, .f32⟩
  | .hbm, ⟨49, _⟩ => ⟨S4x4x8192x8192, .f32⟩
  | .hbm, ⟨50, _⟩ => ⟨S_, .f32⟩
  | .hbm, ⟨51, _⟩ => ⟨S4x4x8192x8192, .f32⟩
  | .hbm, ⟨52, _⟩ => ⟨S4x4x8192x8192, .f32⟩
  | .hbm, ⟨53, _⟩ => ⟨S4x4x8192x8192, .f32⟩
  | .hbm, ⟨54, _⟩ => ⟨S4x4x8192x8192, .f32⟩
  | .hbm, ⟨55, _⟩ => ⟨S4x4x8192x8192, .i1⟩
  | .hbm, ⟨56, _⟩ => ⟨S4x4x8192x8192, .f32⟩
  | .hbm, ⟨57, _⟩ => ⟨S4x4x8192x8192, .f32⟩
  | .hbm, ⟨58, _⟩ => ⟨S4x4x8192x8192, .f32⟩
  | .hbm, ⟨59, _⟩ => ⟨S4x4x8192x8192, .f32⟩
  | .hbm, ⟨60, _⟩ => ⟨S4x4x8192x8192, .f32⟩
  | .hbm, ⟨61, _⟩ => ⟨S4x4x8192x8192, .f32⟩
  | .hbm, ⟨62, _⟩ => ⟨S4x4x8192x8192, .f32⟩
  | .hbm, ⟨63, _⟩ => ⟨S4x4x8192x8192, .f32⟩
  | .hbm, ⟨64, _⟩ => ⟨S4x4x8192x8192, .f32⟩
  | .hbm, ⟨65, _⟩ => ⟨S4x4x8192x8192, .f32⟩
  | .hbm, ⟨66, _⟩ => ⟨S4x4x8192x8192, .f32⟩
  | .hbm, ⟨67, _⟩ => ⟨S_, .f32⟩
  | .hbm, ⟨68, _⟩ => ⟨S_, .f32⟩
  | .hbm, ⟨69, _⟩ => ⟨S4x4x8192x8192, .i1⟩
  | .hbm, ⟨70, _⟩ => ⟨S4x4x8192x8192, .f32⟩
  | .hbm, ⟨71, _⟩ => ⟨S4x4x8192x8192, .f32⟩
  | .hbm, ⟨72, _⟩ => ⟨S4x4x8192x64, .f32⟩
  | .hbm, ⟨73, _⟩ => ⟨S4x8192x4x64, .f32⟩
  | .hbm, ⟨74, _⟩ => ⟨S4x8192x256, .f32⟩
  | .hbm, ⟨75, _⟩ => ⟨S4x8192x256, .bf16⟩
  | _, _ => ⟨S4x8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1 : Ref sig .tc := ⟨.hbm, 38, rfl⟩
abbrev main_v20 : Ref sig .tc := ⟨.hbm, 39, rfl⟩
abbrev main_cst_0 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v21 : Ref sig .tc := ⟨.hbm, 44, rfl⟩
abbrev main_call2_cst : Ref sig .tc := ⟨.hbm, 45, rfl⟩
abbrev main_call2_v0 : Ref sig .tc := ⟨.hbm, 46, rfl⟩
abbrev main_v22 : Ref sig .tc := ⟨.hbm, 47, rfl⟩
abbrev main_v23 : Ref sig .tc := ⟨.hbm, 48, rfl⟩
abbrev main_call3_v0 : Ref sig .tc := ⟨.hbm, 49, rfl⟩
abbrev main_call3_call0_cst : Ref sig .tc := ⟨.hbm, 50, rfl⟩
abbrev main_call3_call0_v0 : Ref sig .tc := ⟨.hbm, 51, rfl⟩
abbrev main_call3_call0_v1 : Ref sig .tc := ⟨.hbm, 52, rfl⟩
abbrev main_call3_call0_v2 : Ref sig .tc := ⟨.hbm, 53, rfl⟩
abbrev main_call3_call0_v3 : Ref sig .tc := ⟨.hbm, 54, rfl⟩
abbrev main_call3_call0_v4 : Ref sig .tc := ⟨.hbm, 55, rfl⟩
abbrev main_call3_call0_v5 : Ref sig .tc := ⟨.hbm, 56, rfl⟩
abbrev main_call3_call0_v6 : Ref sig .tc := ⟨.hbm, 57, rfl⟩
abbrev main_call3_call0_v7 : Ref sig .tc := ⟨.hbm, 58, rfl⟩
abbrev main_call3_call0_v8 : Ref sig .tc := ⟨.hbm, 59, rfl⟩
abbrev main_call3_call0_v9 : Ref sig .tc := ⟨.hbm, 60, rfl⟩
abbrev main_call3_call0_v10 : Ref sig .tc := ⟨.hbm, 61, rfl⟩
abbrev main_call3_call0_v11 : Ref sig .tc := ⟨.hbm, 62, rfl⟩
abbrev main_call3_v1 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_cst_1 : Ref sig .tc := ⟨.hbm, 67, rfl⟩
abbrev main_call4_v0 : Ref sig .tc := ⟨.hbm, 68, rfl⟩
abbrev main_call4_v1 : Ref sig .tc := ⟨.hbm, 69, rfl⟩
abbrev main_call4_v2 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩

abbrev nD : Nat := 1
abbrev τ : Topo := Topo.v7x

variable {F : FTy → Type} [FloatOps F]
-- ==== Kernel2.lean ====
abbrev S4x4x128x8192 : Shape := ⟨4, ![4, 4, 128, 8192]⟩
abbrev S4x8192x512 : Shape := ⟨3, ![4, 8192, 512]⟩
abbrev S4x4x64x8192 : Shape := ⟨4, ![4, 4, 64, 8192]⟩
abbrev S_ : Shape := ⟨0, ![]⟩
abbrev S4x4x16x8192 : Shape := ⟨4, ![4, 4, 16, 8192]⟩
abbrev S4x4x80x8192 : Shape := ⟨4, ![4, 4, 80, 8192]⟩
abbrev S4x8192x256 : Shape := ⟨3, ![4, 8192, 256]⟩
abbrev S1x2x128x2048 : Shape := ⟨4, ![1, 2, 128, 2048]⟩
abbrev S1x8192x256 : Shape := ⟨3, ![1, 8192, 256]⟩
abbrev S1x2x80x8192 : Shape := ⟨4, ![1, 2, 80, 8192]⟩
abbrev S1x2048x128 : Shape := ⟨3, ![1, 2048, 128]⟩
abbrev S2x128x2048 : Shape := ⟨3, ![2, 128, 2048]⟩
abbrev S2x2x512x2048 : Shape := ⟨4, ![2, 2, 512, 2048]⟩
abbrev S2x1x2048 : Shape := ⟨3, ![2, 1, 2048]⟩
abbrev S2x80x2048 : Shape := ⟨3, ![2, 80, 2048]⟩
abbrev S1x1x128x2048 : Shape := ⟨4, ![1, 1, 128, 2048]⟩
abbrev S128x2048 : Shape := ⟨2, ![128, 2048]⟩
abbrev S1x128x2048 : Shape := ⟨3, ![1, 128, 2048]⟩
abbrev S1x512x128 : Shape := ⟨3, ![1, 512, 128]⟩
abbrev S512x128 : Shape := ⟨2, ![512, 128]⟩
abbrev S512x2048 : Shape := ⟨2, ![512, 2048]⟩
abbrev S1x1x512x2048 : Shape := ⟨4, ![1, 1, 512, 2048]⟩
abbrev S1x1x2048 : Shape := ⟨3, ![1, 1, 2048]⟩
abbrev S1x2048 : Shape := ⟨2, ![1, 2048]⟩
abbrev S2048 : Shape := ⟨1, ![2048]⟩
abbrev S1x80x2048 : Shape := ⟨3, ![1, 80, 2048]⟩
abbrev S80x2048 : Shape := ⟨2, ![80, 2048]⟩
abbrev S1x1x80x512 : Shape := ⟨4, ![1, 1, 80, 512]⟩
abbrev S80x512 : Shape := ⟨2, ![80, 512]⟩
abbrev S1x128x1536 : Shape := ⟨3, ![1, 128, 1536]⟩
abbrev S128x1536 : Shape := ⟨2, ![128, 1536]⟩
abbrev S512x1536 : Shape := ⟨2, ![512, 1536]⟩
abbrev S1x1x512x1536 : Shape := ⟨4, ![1, 1, 512, 1536]⟩
abbrev S512x512 : Shape := ⟨2, ![512, 512]⟩
abbrev S1x1x512x512 : Shape := ⟨4, ![1, 1, 512, 512]⟩
abbrev S1x1x512 : Shape := ⟨3, ![1, 1, 512]⟩
abbrev S1x512 : Shape := ⟨2, ![1, 512]⟩
abbrev S512 : Shape := ⟨1, ![512]⟩
abbrev S1x80x512 : Shape := ⟨3, ![1, 80, 512]⟩
abbrev S1x1x1536 : Shape := ⟨3, ![1, 1, 1536]⟩
abbrev S1x1536 : Shape := ⟨2, ![1, 1536]⟩
abbrev S1536 : Shape := ⟨1, ![1536]⟩
abbrev S1x80x1536 : Shape := ⟨3, ![1, 80, 1536]⟩
abbrev S80x1536 : Shape := ⟨2, ![80, 1536]⟩
abbrev S1x128x1024 : Shape := ⟨3, ![1, 128, 1024]⟩
abbrev S128x1024 : Shape := ⟨2, ![128, 1024]⟩
abbrev S512x1024 : Shape := ⟨2, ![512, 1024]⟩
abbrev S1x1x512x1024 : Shape := ⟨4, ![1, 1, 512, 1024]⟩
abbrev S1x1x1024 : Shape := ⟨3, ![1, 1, 1024]⟩
abbrev S1x1024 : Shape := ⟨2, ![1, 1024]⟩
abbrev S1024 : Shape := ⟨1, ![1024]⟩
abbrev S1x80x1024 : Shape := ⟨3, ![1, 80, 1024]⟩
abbrev S80x1024 : Shape := ⟨2, ![80, 1024]⟩
abbrev S1x128x512 : Shape := ⟨3, ![1, 128, 512]⟩
abbrev S128x512 : Shape := ⟨2, ![128, 512]⟩
abbrev S1x64x2048 : Shape := ⟨3, ![1, 64, 2048]⟩
abbrev S64x2048 : Shape := ⟨2, ![64, 2048]⟩
abbrev S2048x128 : Shape := ⟨2, ![2048, 128]⟩

abbrev nBuf : Space → Nat
  | .hbm => 7
  | .vmem => 12
  | .smem => 0
  | _ => 0

abbrev bufTy : (tb : Table) → Fin (tcTables nBuf tb) → BufTy
  | .hbm, ⟨0, _⟩ => ⟨S4x4x128x8192, .bf16⟩
  | .hbm, ⟨1, _⟩ => ⟨S4x8192x512, .bf16⟩
  | .hbm, ⟨2, _⟩ => ⟨S4x4x64x8192, .bf16⟩
  | .hbm, ⟨3, _⟩ => ⟨S_, .bf16⟩
  | .hbm, ⟨4, _⟩ => ⟨S4x4x16x8192, .bf16⟩
  | .hbm, ⟨5, _⟩ => ⟨S4x4x80x8192, .bf16⟩
  | .hbm, ⟨6, _⟩ => ⟨S4x8192x256, .bf16⟩
  | .local _ .vmem, ⟨0, _⟩ => ⟨S1x2x128x2048, .bf16⟩
  | .local _ .vmem, ⟨1, _⟩ => ⟨S1x2x128x2048, .bf16⟩
  | .local _ .vmem, ⟨2, _⟩ => ⟨S1x8192x256, .bf16⟩
  | .local _ .vmem, ⟨3, _⟩ => ⟨S1x8192x256, .bf16⟩
  | .local _ .vmem, ⟨4, _⟩ => ⟨S1x2x80x8192, .bf16⟩
  | .local _ .vmem, ⟨5, _⟩ => ⟨S1x2x80x8192, .bf16⟩
  | .local _ .vmem, ⟨6, _⟩ => ⟨S1x2048x128, .bf16⟩
  | .local _ .vmem, ⟨7, _⟩ => ⟨S1x2048x128, .bf16⟩
  | .local _ .vmem, ⟨8, _⟩ => ⟨S2x128x2048, .bf16⟩
  | .local _ .vmem, ⟨9, _⟩ => ⟨S2x2x512x2048, .f32⟩
  | .local _ .vmem, ⟨10, _⟩ => ⟨S2x1x2048, .f32⟩
  | .local _ .vmem, ⟨11, _⟩ => ⟨S2x80x2048, .f32⟩
  | _, _ => ⟨S4x4x128x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_mult1 : BitVec 32 :=
  let c0_i32 : BitVec 32 := 0#32
  c0_i32
@[reducible] def k0_t1_loop (i : grid0.Coords) : Scf.Loop 32 :=
  let c0_i32_45 : BitVec 32 := 0#32
  let arg2 : BitVec 32 := BitVec.ofNat 32 (i 2).val
  let c4_i32 : BitVec 32 := 4#32
  let v18 : BitVec 32 := Scalar.muli arg2 c4_i32
  let c0_i32_39 : BitVec 32 := 0#32
  let v39 : BitVec 1 := Scalar.cmpi .sgt v18 c0_i32_39
  let v40 : BitVec 32 := Scalar.extui v39
  let c0_i32_40 : BitVec 32 := 0#32
  let v41 : BitVec 1 := Scalar.cmpi .slt v18 c0_i32_40
  let v42 : BitVec 32 := Scalar.extui v41
  let v43 : BitVec 32 := Scalar.subi v40 v42
  let c4_i32_38 : BitVec 32 := 4#32
  let c0_i32_41 : BitVec 32 := 0#32
  let v44 : BitVec 1 := Scalar.cmpi .sgt c4_i32_38 c0_i32_41
  let v45 : BitVec 32 := Scalar.extui v44
  let c0_i32_42 : BitVec 32 := 0#32
  let v46 : BitVec 1 := Scalar.cmpi .slt c4_i32_38 c0_i32_42
  let v47 : BitVec 32 := Scalar.extui v46
  let v48 : BitVec 32 := Scalar.subi v45 v47
  let v49 : BitVec 1 := Scalar.cmpi .ne v43 v48
  let v50 : BitVec 32 := Scalar.remsi v18 c4_i32_38
  let c0_i32_43 : BitVec 32 := 0#32
  let v51 : BitVec 1 := Scalar.cmpi .ne v50 c0_i32_43
  let v52 : BitVec 1 := Scalar.andi v49 v51
  let v38 : BitVec 32 := Scalar.divsi v18 c4_i32_38
  let c1_i32 : BitVec 32 := 1#32
  let v53 : BitVec 32 := Scalar.subi v38 c1_i32
  let v54 : BitVec 32 := Scalar.select v52 v53 v38
  let v55 : BitVec 32 := Scalar.subi v54 c0_i32_45
  let c1_i32_46 : BitVec 32 := 1#32
  let v57 : BitVec 32 := Scalar.divsi v55 c1_i32_46
  let v58 : BitVec 32 := Scalar.muli v57 c1_i32_46
  let v59 : BitVec 32 := Scalar.addi c0_i32_45 v58
  let c1_i32_47 : BitVec 32 := 1#32
  ⟨c0_i32_45, v59, c1_i32_47⟩
def k0_mult2 (i : grid0.Coords) (k0_t1 : Fin (k0_t1_loop i).trips) : BitVec 32 :=
  let c4_i32_442 : BitVec 32 := 4#32
  let c0_i32_45 : BitVec 32 := 0#32
  let c1_i32_47 : BitVec 32 := 1#32
  let arg11 : BitVec 32 := Scf.iv c0_i32_45 c1_i32_47 k0_t1
  let v585 : BitVec 32 := Scalar.muli c4_i32_442 arg11
  let c0_i32_443 : BitVec 32 := 0#32
  let v586 : BitVec 32 := Scalar.addi v585 c0_i32_443
  let c1_i32_444 : BitVec 32 := 1#32
  let v587 : BitVec 32 := Scalar.addi v586 c1_i32_444
  let c512_i32_445 : BitVec 32 := 512#32
  let v588 : BitVec 32 := Scalar.muli v587 c512_i32_445
  v588
def k0_off1 (i : grid0.Coords) (k0_t1 : Fin (k0_t1_loop i).trips) (c0_i32_443 : BitVec 32) : Fin 3 → Nat :=
  let c0_446 : Index := 0#32
  let c4_i32_442 : BitVec 32 := 4#32
  let c0_i32_45 : BitVec 32 := 0#32
  let c1_i32_47 : BitVec 32 := 1#32
  let arg11 : BitVec 32 := Scf.iv c0_i32_45 c1_i32_47 k0_t1
  let v585 : BitVec 32 := Scalar.muli c4_i32_442 arg11
  let v586 : BitVec 32 := Scalar.addi v585 c0_i32_443
  let c1_i32_444 : BitVec 32 := 1#32
  let v587 : BitVec 32 := Scalar.addi v586 c1_i32_444
  let c512_i32_445 : BitVec 32 := 512#32
  let v588 : BitVec 32 := Scalar.muli v587 c512_i32_445
  let v589 : BitVec 32 := v588
  let v590 : Index := Scalar.indexCast v589
  let c0_447 : Index := 0#32
  ![0, v590.toNat, 0]
def k0_off2 (i : grid0.Coords) (k0_t1 : Fin (k0_t1_loop i).trips) (c0_i32_443 : BitVec 32) : Fin 3 → Nat :=
  let c0_456 : Index := 0#32
  let c4_i32_442 : BitVec 32 := 4#32
  let c0_i32_45 : BitVec 32 := 0#32
  let c1_i32_47 : BitVec 32 := 1#32
  let arg11 : BitVec 32 := Scf.iv c0_i32_45 c1_i32_47 k0_t1
  let v585 : BitVec 32 := Scalar.muli c4_i32_442 arg11
  let v586 : BitVec 32 := Scalar.addi v585 c0_i32_443
  let c1_i32_444 : BitVec 32 := 1#32
  let v587 : BitVec 32 := Scalar.addi v586 c1_i32_444
  let c512_i32_445 : BitVec 32 := 512#32
  let v588 : BitVec 32 := Scalar.muli v587 c512_i32_445
  let v589 : BitVec 32 := v588
  let v599 : Index := Scalar.indexCast v589
  let c128_457 : Index := 128#32
  ![0, v599.toNat, 128]
def k0_mult3 (i : grid0.Coords) (k0_t1 : Fin (k0_t1_loop i).trips) : BitVec 32 :=
  let c4_i32_442 : BitVec 32 := 4#32
  let c0_i32_45 : BitVec 32 := 0#32
  let c1_i32_47 : BitVec 32 := 1#32
  let arg11 : BitVec 32 := Scf.iv c0_i32_45 c1_i32_47 k0_t1
  let v585 : BitVec 32 := Scalar.muli c4_i32_442 arg11
  let c0_i32_443 : BitVec 32 := 0#32
  let v586 : BitVec 32 := Scalar.addi v585 c0_i32_443
  let c512_i32_466 : BitVec 32 := 512#32
  let v608 : BitVec 32 := Scalar.muli v586 c512_i32_466
  v608
def k0_off3 (i : grid0.Coords) (k0_t1 : Fin (k0_t1_loop i).trips) (c0_i32_443 : BitVec 32) : Fin 4 → Nat :=
  let c0_478 : Index := 0#32
  let c0_479 : Index := 0#32
  let c0_480 : Index := 0#32
  let c4_i32_442 : BitVec 32 := 4#32
  let c0_i32_45 : BitVec 32 := 0#32
  let c1_i32_47 : BitVec 32 := 1#32
  let arg11 : BitVec 32 := Scf.iv c0_i32_45 c1_i32_47 k0_t1
  let v585 : BitVec 32 := Scalar.muli c4_i32_442 arg11
  let v586 : BitVec 32 := Scalar.addi v585 c0_i32_443
  let c512_i32_466 : BitVec 32 := 512#32
  let v608 : BitVec 32 := Scalar.muli v586 c512_i32_466
  let v609 : BitVec 32 := v608
  let v626 : Index := Scalar.indexCast v609
  ![0, 0, 0, v626.toNat]
def k0_off4 (i : grid0.Coords) (k0_t1 : Fin (k0_t1_loop i).trips) (c0_i32_443 : BitVec 32) : Fin 4 → Nat :=
  let c0_499 : Index := 0#32
  let c1_500 : Index := 1#32
  let c0_501 : Index := 0#32
  let c4_i32_442 : BitVec 32 := 4#32
  let c0_i32_45 : BitVec 32 := 0#32
  let c1_i32_47 : BitVec 32 := 1#32
  let arg11 : BitVec 32 := Scf.iv c0_i32_45 c1_i32_47 k0_t1
  let v585 : BitVec 32 := Scalar.muli c4_i32_442 arg11
  let v586 : BitVec 32 := Scalar.addi v585 c0_i32_443
  let c512_i32_466 : BitVec 32 := 512#32
  let v608 : BitVec 32 := Scalar.muli v586 c512_i32_466
  let v609 : BitVec 32 := v608
  let v654 : Index := Scalar.indexCast v609
  ![0, 1, 0, v654.toNat]
def k0_mult4 (i : grid0.Coords) (k0_t1 : Fin (k0_t1_loop i).trips) : BitVec 32 :=
  let c4_i32_509 : BitVec 32 := 4#32
  let c0_i32_45 : BitVec 32 := 0#32
  let c1_i32_47 : BitVec 32 := 1#32
  let arg11 : BitVec 32 := Scf.iv c0_i32_45 c1_i32_47 k0_t1
  let v666 : BitVec 32 := Scalar.muli c4_i32_509 arg11
  let c1_i32_510 : BitVec 32 := 1#32
  let v667 : BitVec 32 := Scalar.addi v666 c1_i32_510
  let c1_i32_511 : BitVec 32 := 1#32
  let v668 : BitVec 32 := Scalar.addi v667 c1_i32_511
  let c512_i32_512 : BitVec 32 := 512#32
  let v669 : BitVec 32 := Scalar.muli v668 c512_i32_512
  v669
def k0_mult5 (i : grid0.Coords) (k0_t1 : Fin (k0_t1_loop i).trips) : BitVec 32 :=
  let c4_i32_509 : BitVec 32 := 4#32
  let c0_i32_45 : BitVec 32 := 0#32
  let c1_i32_47 : BitVec 32 := 1#32
  let arg11 : BitVec 32 := Scf.iv c0_i32_45 c1_i32_47 k0_t1
  let v666 : BitVec 32 := Scalar.muli c4_i32_509 arg11
  let c1_i32_510 : BitVec 32 := 1#32
  let v667 : BitVec 32 := Scalar.addi v666 c1_i32_510
  let c512_i32_533 : BitVec 32 := 512#32
  let v689 : BitVec 32 := Scalar.muli v667 c512_i32_533
  v689
def k0_mult6 (i : grid0.Coords) (k0_t1 : Fin (k0_t1_loop i).trips) : BitVec 32 :=
  let c4_i32_576 : BitVec 32 := 4#32
  let c0_i32_45 : BitVec 32 := 0#32
  let c1_i32_47 : BitVec 32 := 1#32
  let arg11 : BitVec 32 := Scf.iv c0_i32_45 c1_i32_47 k0_t1
  let v747 : BitVec 32 := Scalar.muli c4_i32_576 arg11
  let c2_i32_577 : BitVec 32 := 2#32
  let v748 : BitVec 32 := Scalar.addi v747 c2_i32_577
  let c1_i32_578 : BitVec 32 := 1#32
  let v749 : BitVec 32 := Scalar.addi v748 c1_i32_578
  let c512_i32_579 : BitVec 32 := 512#32
  let v750 : BitVec 32 := Scalar.muli v749 c512_i32_579
  v750
def k0_mult7 (i : grid0.Coords) (k0_t1 : Fin (k0_t1_loop i).trips) : BitVec 32 :=
  let c4_i32_576 : BitVec 32 := 4#32
  let c0_i32_45 : BitVec 32 := 0#32
  let c1_i32_47 : BitVec 32 := 1#32
  let arg11 : BitVec 32 := Scf.iv c0_i32_45 c1_i32_47 k0_t1
  let v747 : BitVec 32 := Scalar.muli c4_i32_576 arg11
  let c2_i32_577 : BitVec 32 := 2#32
  let v748 : BitVec 32 := Scalar.addi v747 c2_i32_577
  let c512_i32_600 : BitVec 32 := 512#32
  let v770 : BitVec 32 := Scalar.muli v748 c512_i32_600
  v770
def k0_mult8 (i : grid0.Coords) (k0_t1 : Fin (k0_t1_loop i).trips) : BitVec 32 :=
  let c4_i32_643 : BitVec 32 := 4#32
  let c0_i32_45 : BitVec 32 := 0#32
  let c1_i32_47 : BitVec 32 := 1#32
  let arg11 : BitVec 32 := Scf.iv c0_i32_45 c1_i32_47 k0_t1
  let v828 : BitVec 32 := Scalar.muli c4_i32_643 arg11
  let c3_i32_644 : BitVec 32 := 3#32
  let v829 : BitVec 32 := Scalar.addi v828 c3_i32_644
  let c1_i32_645 : BitVec 32 := 1#32
  let v830 : BitVec 32 := Scalar.addi v829 c1_i32_645
  let c512_i32_646 : BitVec 32 := 512#32
  let v831 : BitVec 32 := Scalar.muli v830 c512_i32_646
  v831
def k0_mult9 (i : grid0.Coords) (k0_t1 : Fin (k0_t1_loop i).trips) : BitVec 32 :=
  let c4_i32_643 : BitVec 32 := 4#32
  let c0_i32_45 : BitVec 32 := 0#32
  let c1_i32_47 : BitVec 32 := 1#32
  let arg11 : BitVec 32 := Scf.iv c0_i32_45 c1_i32_47 k0_t1
  let v828 : BitVec 32 := Scalar.muli c4_i32_643 arg11
  let c3_i32_644 : BitVec 32 := 3#32
  let v829 : BitVec 32 := Scalar.addi v828 c3_i32_644
  let c512_i32_667 : BitVec 32 := 512#32
  let v851 : BitVec 32 := Scalar.muli v829 c512_i32_667
  v851
@[reducible] def k0_t2_loop (i : grid0.Coords) : Scf.Loop 32 :=
  let c0_i32_45 : BitVec 32 := 0#32
  let arg2 : BitVec 32 := BitVec.ofNat 32 (i 2).val
  let c4_i32 : BitVec 32 := 4#32
  let v18 : BitVec 32 := Scalar.muli arg2 c4_i32
  let c0_i32_39 : BitVec 32 := 0#32
  let v39 : BitVec 1 := Scalar.cmpi .sgt v18 c0_i32_39
  let v40 : BitVec 32 := Scalar.extui v39
  let c0_i32_40 : BitVec 32 := 0#32
  let v41 : BitVec 1 := Scalar.cmpi .slt v18 c0_i32_40
  let v42 : BitVec 32 := Scalar.extui v41
  let v43 : BitVec 32 := Scalar.subi v40 v42
  let c4_i32_38 : BitVec 32 := 4#32
  let c0_i32_41 : BitVec 32 := 0#32
  let v44 : BitVec 1 := Scalar.cmpi .sgt c4_i32_38 c0_i32_41
  let v45 : BitVec 32 := Scalar.extui v44
  let c0_i32_42 : BitVec 32 := 0#32
  let v46 : BitVec 1 := Scalar.cmpi .slt c4_i32_38 c0_i32_42
  let v47 : BitVec 32 := Scalar.extui v46
  let v48 : BitVec 32 := Scalar.subi v45 v47
  let v49 : BitVec 1 := Scalar.cmpi .ne v43 v48
  let v50 : BitVec 32 := Scalar.remsi v18 c4_i32_38
  let c0_i32_43 : BitVec 32 := 0#32
  let v51 : BitVec 1 := Scalar.cmpi .ne v50 c0_i32_43
  let v52 : BitVec 1 := Scalar.andi v49 v51
  let v38 : BitVec 32 := Scalar.divsi v18 c4_i32_38
  let c1_i32 : BitVec 32 := 1#32
  let v53 : BitVec 32 := Scalar.subi v38 c1_i32
  let v54 : BitVec 32 := Scalar.select v52 v53 v38
  let v55 : BitVec 32 := Scalar.subi v54 c0_i32_45
  let c1_i32_46 : BitVec 32 := 1#32
  let v57 : BitVec 32 := Scalar.divsi v55 c1_i32_46
  let v58 : BitVec 32 := Scalar.muli v57 c1_i32_46
  let v59 : BitVec 32 := Scalar.addi c0_i32_45 v58
  let v56 : BitVec 32 := Scalar.addi c0_i32_45 v55
  let c1_i32_48 : BitVec 32 := 1#32
  ⟨v59, v56, c1_i32_48⟩
def k0_mult10 (i : grid0.Coords) (k0_t2 : Fin (k0_t2_loop i).trips) : BitVec 32 :=
  let c4_i32_442 : BitVec 32 := 4#32
  let c0_i32_45 : BitVec 32 := 0#32
  let arg2 : BitVec 32 := BitVec.ofNat 32 (i 2).val
  let c4_i32 : BitVec 32 := 4#32
  let v18 : BitVec 32 := Scalar.muli arg2 c4_i32
  let c0_i32_39 : BitVec 32 := 0#32
  let v39 : BitVec 1 := Scalar.cmpi .sgt v18 c0_i32_39
  let v40 : BitVec 32 := Scalar.extui v39
  let c0_i32_40 : BitVec 32 := 0#32
  let v41 : BitVec 1 := Scalar.cmpi .slt v18 c0_i32_40
  let v42 : BitVec 32 := Scalar.extui v41
  let v43 : BitVec 32 := Scalar.subi v40 v42
  let c4_i32_38 : BitVec 32 := 4#32
  let c0_i32_41 : BitVec 32 := 0#32
  let v44 : BitVec 1 := Scalar.cmpi .sgt c4_i32_38 c0_i32_41
  let v45 : BitVec 32 := Scalar.extui v44
  let c0_i32_42 : BitVec 32 := 0#32
  let v46 : BitVec 1 := Scalar.cmpi .slt c4_i32_38 c0_i32_42
  let v47 : BitVec 32 := Scalar.extui v46
  let v48 : BitVec 32 := Scalar.subi v45 v47
  let v49 : BitVec 1 := Scalar.cmpi .ne v43 v48
  let v50 : BitVec 32 := Scalar.remsi v18 c4_i32_38
  let c0_i32_43 : BitVec 32 := 0#32
  let v51 : BitVec 1 := Scalar.cmpi .ne v50 c0_i32_43
  let v52 : BitVec 1 := Scalar.andi v49 v51
  let v38 : BitVec 32 := Scalar.divsi v18 c4_i32_38
  let c1_i32 : BitVec 32 := 1#32
  let v53 : BitVec 32 := Scalar.subi v38 c1_i32
  let v54 : BitVec 32 := Scalar.select v52 v53 v38
  let v55 : BitVec 32 := Scalar.subi v54 c0_i32_45
  let c1_i32_46 : BitVec 32 := 1#32
  let v57 : BitVec 32 := Scalar.divsi v55 c1_i32_46
  let v58 : BitVec 32 := Scalar.muli v57 c1_i32_46
  let v59 : BitVec 32 := Scalar.addi c0_i32_45 v58
  let c1_i32_48 : BitVec 32 := 1#32
  let arg11 : BitVec 32 := Scf.iv v59 c1_i32_48 k0_t2
  let v585 : BitVec 32 := Scalar.muli c4_i32_442 arg11
  let c0_i32_443 : BitVec 32 := 0#32
  let v586 : BitVec 32 := Scalar.addi v585 c0_i32_443
  let c1_i32_444 : BitVec 32 := 1#32
  let v587 : BitVec 32 := Scalar.addi v586 c1_i32_444
  let c512_i32_445 : BitVec 32 := 512#32
  let v588 : BitVec 32 := Scalar.muli v587 c512_i32_445
  v588
def k0_off5 (i : grid0.Coords) (k0_t2 : Fin (k0_t2_loop i).trips) (c0_i32_443 : BitVec 32) : Fin 3 → Nat :=
  let c0_446 : Index := 0#32
  let c4_i32_442 : BitVec 32 := 4#32
  let c0_i32_45 : BitVec 32 := 0#32
  let arg2 : BitVec 32 := BitVec.ofNat 32 (i 2).val
  let c4_i32 : BitVec 32 := 4#32
  let v18 : BitVec 32 := Scalar.muli arg2 c4_i32
  let c0_i32_39 : BitVec 32 := 0#32
  let v39 : BitVec 1 := Scalar.cmpi .sgt v18 c0_i32_39
  let v40 : BitVec 32 := Scalar.extui v39
  let c0_i32_40 : BitVec 32 := 0#32
  let v41 : BitVec 1 := Scalar.cmpi .slt v18 c0_i32_40
  let v42 : BitVec 32 := Scalar.extui v41
  let v43 : BitVec 32 := Scalar.subi v40 v42
  let c4_i32_38 : BitVec 32 := 4#32
  let c0_i32_41 : BitVec 32 := 0#32
  let v44 : BitVec 1 := Scalar.cmpi .sgt c4_i32_38 c0_i32_41
  let v45 : BitVec 32 := Scalar.extui v44
  let c0_i32_42 : BitVec 32 := 0#32
  let v46 : BitVec 1 := Scalar.cmpi .slt c4_i32_38 c0_i32_42
  let v47 : BitVec 32 := Scalar.extui v46
  let v48 : BitVec 32 := Scalar.subi v45 v47
  let v49 : BitVec 1 := Scalar.cmpi .ne v43 v48
  let v50 : BitVec 32 := Scalar.remsi v18 c4_i32_38
  let c0_i32_43 : BitVec 32 := 0#32
  let v51 : BitVec 1 := Scalar.cmpi .ne v50 c0_i32_43
  let v52 : BitVec 1 := Scalar.andi v49 v51
  let v38 : BitVec 32 := Scalar.divsi v18 c4_i32_38
  let c1_i32 : BitVec 32 := 1#32
  let v53 : BitVec 32 := Scalar.subi v38 c1_i32
  let v54 : BitVec 32 := Scalar.select v52 v53 v38
  let v55 : BitVec 32 := Scalar.subi v54 c0_i32_45
  let c1_i32_46 : BitVec 32 := 1#32
  let v57 : BitVec 32 := Scalar.divsi v55 c1_i32_46
  let v58 : BitVec 32 := Scalar.muli v57 c1_i32_46
  let v59 : BitVec 32 := Scalar.addi c0_i32_45 v58
  let c1_i32_48 : BitVec 32 := 1#32
  let arg11 : BitVec 32 := Scf.iv v59 c1_i32_48 k0_t2
  let v585 : BitVec 32 := Scalar.muli c4_i32_442 arg11
  let v586 : BitVec 32 := Scalar.addi v585 c0_i32_443
  let c1_i32_444 : BitVec 32 := 1#32
  let v587 : BitVec 32 := Scalar.addi v586 c1_i32_444
  let c512_i32_445 : BitVec 32 := 512#32
  let v588 : BitVec 32 := Scalar.muli v587 c512_i32_445
  let v589 : BitVec 32 := v588
  let v590 : Index := Scalar.indexCast v589
  let c0_447 : Index := 0#32
  ![0, v590.toNat, 0]
def k0_off6 (i : grid0.Coords) (k0_t2 : Fin (k0_t2_loop i).trips) (c0_i32_443 : BitVec 32) : Fin 3 → Nat :=
  let c0_456 : Index := 0#32
  let c4_i32_442 : BitVec 32 := 4#32
  let c0_i32_45 : BitVec 32 := 0#32
  let arg2 : BitVec 32 := BitVec.ofNat 32 (i 2).val
  let c4_i32 : BitVec 32 := 4#32
  let v18 : BitVec 32 := Scalar.muli arg2 c4_i32
  let c0_i32_39 : BitVec 32 := 0#32
  let v39 : BitVec 1 := Scalar.cmpi .sgt v18 c0_i32_39
  let v40 : BitVec 32 := Scalar.extui v39
  let c0_i32_40 : BitVec 32 := 0#32
  let v41 : BitVec 1 := Scalar.cmpi .slt v18 c0_i32_40
  let v42 : BitVec 32 := Scalar.extui v41
  let v43 : BitVec 32 := Scalar.subi v40 v42
  let c4_i32_38 : BitVec 32 := 4#32
  let c0_i32_41 : BitVec 32 := 0#32
  let v44 : BitVec 1 := Scalar.cmpi .sgt c4_i32_38 c0_i32_41
  let v45 : BitVec 32 := Scalar.extui v44
  let c0_i32_42 : BitVec 32 := 0#32
  let v46 : BitVec 1 := Scalar.cmpi .slt c4_i32_38 c0_i32_42
  let v47 : BitVec 32 := Scalar.extui v46
  let v48 : BitVec 32 := Scalar.subi v45 v47
  let v49 : BitVec 1 := Scalar.cmpi .ne v43 v48
  let v50 : BitVec 32 := Scalar.remsi v18 c4_i32_38
  let c0_i32_43 : BitVec 32 := 0#32
  let v51 : BitVec 1 := Scalar.cmpi .ne v50 c0_i32_43
  let v52 : BitVec 1 := Scalar.andi v49 v51
  let v38 : BitVec 32 := Scalar.divsi v18 c4_i32_38
  let c1_i32 : BitVec 32 := 1#32
  let v53 : BitVec 32 := Scalar.subi v38 c1_i32
  let v54 : BitVec 32 := Scalar.select v52 v53 v38
  let v55 : BitVec 32 := Scalar.subi v54 c0_i32_45
  let c1_i32_46 : BitVec 32 := 1#32
  let v57 : BitVec 32 := Scalar.divsi v55 c1_i32_46
  let v58 : BitVec 32 := Scalar.muli v57 c1_i32_46
  let v59 : BitVec 32 := Scalar.addi c0_i32_45 v58
  let c1_i32_48 : BitVec 32 := 1#32
  let arg11 : BitVec 32 := Scf.iv v59 c1_i32_48 k0_t2
  let v585 : BitVec 32 := Scalar.muli c4_i32_442 arg11
  let v586 : BitVec 32 := Scalar.addi v585 c0_i32_443
  let c1_i32_444 : BitVec 32 := 1#32
  let v587 : BitVec 32 := Scalar.addi v586 c1_i32_444
  let c512_i32_445 : BitVec 32 := 512#32
  let v588 : BitVec 32 := Scalar.muli v587 c512_i32_445
  let v589 : BitVec 32 := v588
  let v599 : Index := Scalar.indexCast v589
  let c128_457 : Index := 128#32
  ![0, v599.toNat, 128]
def k0_mult11 (i : grid0.Coords) (k0_t2 : Fin (k0_t2_loop i).trips) : BitVec 32 :=
  let c4_i32_442 : BitVec 32 := 4#32
  let c0_i32_45 : BitVec 32 := 0#32
  let arg2 : BitVec 32 := BitVec.ofNat 32 (i 2).val
  let c4_i32 : BitVec 32 := 4#32
  let v18 : BitVec 32 := Scalar.muli arg2 c4_i32
  let c0_i32_39 : BitVec 32 := 0#32
  let v39 : BitVec 1 := Scalar.cmpi .sgt v18 c0_i32_39
  let v40 : BitVec 32 := Scalar.extui v39
  let c0_i32_40 : BitVec 32 := 0#32
  let v41 : BitVec 1 := Scalar.cmpi .slt v18 c0_i32_40
  let v42 : BitVec 32 := Scalar.extui v41
  let v43 : BitVec 32 := Scalar.subi v40 v42
  let c4_i32_38 : BitVec 32 := 4#32
  let c0_i32_41 : BitVec 32 := 0#32
  let v44 : BitVec 1 := Scalar.cmpi .sgt c4_i32_38 c0_i32_41
  let v45 : BitVec 32 := Scalar.extui v44
  let c0_i32_42 : BitVec 32 := 0#32
  let v46 : BitVec 1 := Scalar.cmpi .slt c4_i32_38 c0_i32_42
  let v47 : BitVec 32 := Scalar.extui v46
  let v48 : BitVec 32 := Scalar.subi v45 v47
  let v49 : BitVec 1 := Scalar.cmpi .ne v43 v48
  let v50 : BitVec 32 := Scalar.remsi v18 c4_i32_38
  let c0_i32_43 : BitVec 32 := 0#32
  let v51 : BitVec 1 := Scalar.cmpi .ne v50 c0_i32_43
  let v52 : BitVec 1 := Scalar.andi v49 v51
  let v38 : BitVec 32 := Scalar.divsi v18 c4_i32_38
  let c1_i32 : BitVec 32 := 1#32
  let v53 : BitVec 32 := Scalar.subi v38 c1_i32
  let v54 : BitVec 32 := Scalar.select v52 v53 v38
  let v55 : BitVec 32 := Scalar.subi v54 c0_i32_45
  let c1_i32_46 : BitVec 32 := 1#32
  let v57 : BitVec 32 := Scalar.divsi v55 c1_i32_46
  let v58 : BitVec 32 := Scalar.muli v57 c1_i32_46
  let v59 : BitVec 32 := Scalar.addi c0_i32_45 v58
  let c1_i32_48 : BitVec 32 := 1#32
  let arg11 : BitVec 32 := Scf.iv v59 c1_i32_48 k0_t2
  let v585 : BitVec 32 := Scalar.muli c4_i32_442 arg11
  let c0_i32_443 : BitVec 32 := 0#32
  let v586 : BitVec 32 := Scalar.addi v585 c0_i32_443
  let c512_i32_466 : BitVec 32 := 512#32
  let v608 : BitVec 32 := Scalar.muli v586 c512_i32_466
  v608
def k0_off7 (i : grid0.Coords) (k0_t2 : Fin (k0_t2_loop i).trips) (c0_i32_443 : BitVec 32) : Fin 4 → Nat :=
  let c0_478 : Index := 0#32
  let c0_479 : Index := 0#32
  let c0_480 : Index := 0#32
  let c4_i32_442 : BitVec 32 := 4#32
  let c0_i32_45 : BitVec 32 := 0#32
  let arg2 : BitVec 32 := BitVec.ofNat 32 (i 2).val
  let c4_i32 : BitVec 32 := 4#32
  let v18 : BitVec 32 := Scalar.muli arg2 c4_i32
  let c0_i32_39 : BitVec 32 := 0#32
  let v39 : BitVec 1 := Scalar.cmpi .sgt v18 c0_i32_39
  let v40 : BitVec 32 := Scalar.extui v39
  let c0_i32_40 : BitVec 32 := 0#32
  let v41 : BitVec 1 := Scalar.cmpi .slt v18 c0_i32_40
  let v42 : BitVec 32 := Scalar.extui v41
  let v43 : BitVec 32 := Scalar.subi v40 v42
  let c4_i32_38 : BitVec 32 := 4#32
  let c0_i32_41 : BitVec 32 := 0#32
  let v44 : BitVec 1 := Scalar.cmpi .sgt c4_i32_38 c0_i32_41
  let v45 : BitVec 32 := Scalar.extui v44
  let c0_i32_42 : BitVec 32 := 0#32
  let v46 : BitVec 1 := Scalar.cmpi .slt c4_i32_38 c0_i32_42
  let v47 : BitVec 32 := Scalar.extui v46
  let v48 : BitVec 32 := Scalar.subi v45 v47
  let v49 : BitVec 1 := Scalar.cmpi .ne v43 v48
  let v50 : BitVec 32 := Scalar.remsi v18 c4_i32_38
  let c0_i32_43 : BitVec 32 := 0#32
  let v51 : BitVec 1 := Scalar.cmpi .ne v50 c0_i32_43
  let v52 : BitVec 1 := Scalar.andi v49 v51
  let v38 : BitVec 32 := Scalar.divsi v18 c4_i32_38
  let c1_i32 : BitVec 32 := 1#32
  let v53 : BitVec 32 := Scalar.subi v38 c1_i32
  let v54 : BitVec 32 := Scalar.select v52 v53 v38
  let v55 : BitVec 32 := Scalar.subi v54 c0_i32_45
  let c1_i32_46 : BitVec 32 := 1#32
  let v57 : BitVec 32 := Scalar.divsi v55 c1_i32_46
  let v58 : BitVec 32 := Scalar.muli v57 c1_i32_46
  let v59 : BitVec 32 := Scalar.addi c0_i32_45 v58
  let c1_i32_48 : BitVec 32 := 1#32
  let arg11 : BitVec 32 := Scf.iv v59 c1_i32_48 k0_t2
  let v585 : BitVec 32 := Scalar.muli c4_i32_442 arg11
  let v586 : BitVec 32 := Scalar.addi v585 c0_i32_443
  let c512_i32_466 : BitVec 32 := 512#32
  let v608 : BitVec 32 := Scalar.muli v586 c512_i32_466
  let v609 : BitVec 32 := v608
  let v626 : Index := Scalar.indexCast v609
  ![0, 0, 0, v626.toNat]
def k0_off8 (i : grid0.Coords) (k0_t2 : Fin (k0_t2_loop i).trips) (c0_i32_443 : BitVec 32) : Fin 4 → Nat :=
  let c0_499 : Index := 0#32
  let c1_500 : Index := 1#32
  let c0_501 : Index := 0#32
  let c4_i32_442 : BitVec 32 := 4#32
  let c0_i32_45 : BitVec 32 := 0#32
  let arg2 : BitVec 32 := BitVec.ofNat 32 (i 2).val
  let c4_i32 : BitVec 32 := 4#32
  let v18 : BitVec 32 := Scalar.muli arg2 c4_i32
  let c0_i32_39 : BitVec 32 := 0#32
  let v39 : BitVec 1 := Scalar.cmpi .sgt v18 c0_i32_39
  let v40 : BitVec 32 := Scalar.extui v39
  let c0_i32_40 : BitVec 32 := 0#32
  let v41 : BitVec 1 := Scalar.cmpi .slt v18 c0_i32_40
  let v42 : BitVec 32 := Scalar.extui v41
  let v43 : BitVec 32 := Scalar.subi v40 v42
  let c4_i32_38 : BitVec 32 := 4#32
  let c0_i32_41 : BitVec 32 := 0#32
  let v44 : BitVec 1 := Scalar.cmpi .sgt c4_i32_38 c0_i32_41
  let v45 : BitVec 32 := Scalar.extui v44
  let c0_i32_42 : BitVec 32 := 0#32
  let v46 : BitVec 1 := Scalar.cmpi .slt c4_i32_38 c0_i32_42
  let v47 : BitVec 32 := Scalar.extui v46
  let v48 : BitVec 32 := Scalar.subi v45 v47
  let v49 : BitVec 1 := Scalar.cmpi .ne v43 v48
  let v50 : BitVec 32 := Scalar.remsi v18 c4_i32_38
  let c0_i32_43 : BitVec 32 := 0#32
  let v51 : BitVec 1 := Scalar.cmpi .ne v50 c0_i32_43
  let v52 : BitVec 1 := Scalar.andi v49 v51
  let v38 : BitVec 32 := Scalar.divsi v18 c4_i32_38
  let c1_i32 : BitVec 32 := 1#32
  let v53 : BitVec 32 := Scalar.subi v38 c1_i32
  let v54 : BitVec 32 := Scalar.select v52 v53 v38
  let v55 : BitVec 32 := Scalar.subi v54 c0_i32_45
  let c1_i32_46 : BitVec 32 := 1#32
  let v57 : BitVec 32 := Scalar.divsi v55 c1_i32_46
  let v58 : BitVec 32 := Scalar.muli v57 c1_i32_46
  let v59 : BitVec 32 := Scalar.addi c0_i32_45 v58
  let c1_i32_48 : BitVec 32 := 1#32
  let arg11 : BitVec 32 := Scf.iv v59 c1_i32_48 k0_t2
  let v585 : BitVec 32 := Scalar.muli c4_i32_442 arg11
  let v586 : BitVec 32 := Scalar.addi v585 c0_i32_443
  let c512_i32_466 : BitVec 32 := 512#32
  let v608 : BitVec 32 := Scalar.muli v586 c512_i32_466
  let v609 : BitVec 32 := v608
  let v654 : Index := Scalar.indexCast v609
  ![0, 1, 0, v654.toNat]
def k0_mult12 (i : grid0.Coords) (k0_t2 : Fin (k0_t2_loop i).trips) : BitVec 32 :=
  let c4_i32_509 : BitVec 32 := 4#32
  let c0_i32_45 : BitVec 32 := 0#32
  let arg2 : BitVec 32 := BitVec.ofNat 32 (i 2).val
  let c4_i32 : BitVec 32 := 4#32
  let v18 : BitVec 32 := Scalar.muli arg2 c4_i32
  let c0_i32_39 : BitVec 32 := 0#32
  let v39 : BitVec 1 := Scalar.cmpi .sgt v18 c0_i32_39
  let v40 : BitVec 32 := Scalar.extui v39
  let c0_i32_40 : BitVec 32 := 0#32
  let v41 : BitVec 1 := Scalar.cmpi .slt v18 c0_i32_40
  let v42 : BitVec 32 := Scalar.extui v41
  let v43 : BitVec 32 := Scalar.subi v40 v42
  let c4_i32_38 : BitVec 32 := 4#32
  let c0_i32_41 : BitVec 32 := 0#32
  let v44 : BitVec 1 := Scalar.cmpi .sgt c4_i32_38 c0_i32_41
  let v45 : BitVec 32 := Scalar.extui v44
  let c0_i32_42 : BitVec 32 := 0#32
  let v46 : BitVec 1 := Scalar.cmpi .slt c4_i32_38 c0_i32_42
  let v47 : BitVec 32 := Scalar.extui v46
  let v48 : BitVec 32 := Scalar.subi v45 v47
  let v49 : BitVec 1 := Scalar.cmpi .ne v43 v48
  let v50 : BitVec 32 := Scalar.remsi v18 c4_i32_38
  let c0_i32_43 : BitVec 32 := 0#32
  let v51 : BitVec 1 := Scalar.cmpi .ne v50 c0_i32_43
  let v52 : BitVec 1 := Scalar.andi v49 v51
  let v38 : BitVec 32 := Scalar.divsi v18 c4_i32_38
  let c1_i32 : BitVec 32 := 1#32
  let v53 : BitVec 32 := Scalar.subi v38 c1_i32
  let v54 : BitVec 32 := Scalar.select v52 v53 v38
  let v55 : BitVec 32 := Scalar.subi v54 c0_i32_45
  let c1_i32_46 : BitVec 32 := 1#32
  let v57 : BitVec 32 := Scalar.divsi v55 c1_i32_46
  let v58 : BitVec 32 := Scalar.muli v57 c1_i32_46
  let v59 : BitVec 32 := Scalar.addi c0_i32_45 v58
  let c1_i32_48 : BitVec 32 := 1#32
  let arg11 : BitVec 32 := Scf.iv v59 c1_i32_48 k0_t2
  let v666 : BitVec 32 := Scalar.muli c4_i32_509 arg11
  let c1_i32_510 : BitVec 32 := 1#32
  let v667 : BitVec 32 := Scalar.addi v666 c1_i32_510
  let c1_i32_511 : BitVec 32 := 1#32
  let v668 : BitVec 32 := Scalar.addi v667 c1_i32_511
  let c512_i32_512 : BitVec 32 := 512#32
  let v669 : BitVec 32 := Scalar.muli v668 c512_i32_512
  v669
def k0_mult13 (i : grid0.Coords) (k0_t2 : Fin (k0_t2_loop i).trips) : BitVec 32 :=
  let c4_i32_509 : BitVec 32 := 4#32
  let c0_i32_45 : BitVec 32 := 0#32
  let arg2 : BitVec 32 := BitVec.ofNat 32 (i 2).val
  let c4_i32 : BitVec 32 := 4#32
  let v18 : BitVec 32 := Scalar.muli arg2 c4_i32
  let c0_i32_39 : BitVec 32 := 0#32
  let v39 : BitVec 1 := Scalar.cmpi .sgt v18 c0_i32_39
  let v40 : BitVec 32 := Scalar.extui v39
  let c0_i32_40 : BitVec 32 := 0#32
  let v41 : BitVec 1 := Scalar.cmpi .slt v18 c0_i32_40
  let v42 : BitVec 32 := Scalar.extui v41
  let v43 : BitVec 32 := Scalar.subi v40 v42
  let c4_i32_38 : BitVec 32 := 4#32
  let c0_i32_41 : BitVec 32 := 0#32
  let v44 : BitVec 1 := Scalar.cmpi .sgt c4_i32_38 c0_i32_41
  let v45 : BitVec 32 := Scalar.extui v44
  let c0_i32_42 : BitVec 32 := 0#32
  let v46 : BitVec 1 := Scalar.cmpi .slt c4_i32_38 c0_i32_42
  let v47 : BitVec 32 := Scalar.extui v46
  let v48 : BitVec 32 := Scalar.subi v45 v47
  let v49 : BitVec 1 := Scalar.cmpi .ne v43 v48
  let v50 : BitVec 32 := Scalar.remsi v18 c4_i32_38
  let c0_i32_43 : BitVec 32 := 0#32
  let v51 : BitVec 1 := Scalar.cmpi .ne v50 c0_i32_43
  let v52 : BitVec 1 := Scalar.andi v49 v51
  let v38 : BitVec 32 := Scalar.divsi v18 c4_i32_38
  let c1_i32 : BitVec 32 := 1#32
  let v53 : BitVec 32 := Scalar.subi v38 c1_i32
  let v54 : BitVec 32 := Scalar.select v52 v53 v38
  let v55 : BitVec 32 := Scalar.subi v54 c0_i32_45
  let c1_i32_46 : BitVec 32 := 1#32
  let v57 : BitVec 32 := Scalar.divsi v55 c1_i32_46
  let v58 : BitVec 32 := Scalar.muli v57 c1_i32_46
  let v59 : BitVec 32 := Scalar.addi c0_i32_45 v58
  let c1_i32_48 : BitVec 32 := 1#32
  let arg11 : BitVec 32 := Scf.iv v59 c1_i32_48 k0_t2
  let v666 : BitVec 32 := Scalar.muli c4_i32_509 arg11
  let c1_i32_510 : BitVec 32 := 1#32
  let v667 : BitVec 32 := Scalar.addi v666 c1_i32_510
  let c512_i32_533 : BitVec 32 := 512#32
  let v689 : BitVec 32 := Scalar.muli v667 c512_i32_533
  v689
def k0_mult14 (i : grid0.Coords) (k0_t2 : Fin (k0_t2_loop i).trips) : BitVec 32 :=
  let c4_i32_576 : BitVec 32 := 4#32
  let c0_i32_45 : BitVec 32 := 0#32
  let arg2 : BitVec 32 := BitVec.ofNat 32 (i 2).val
  let c4_i32 : BitVec 32 := 4#32
  let v18 : BitVec 32 := Scalar.muli arg2 c4_i32
  let c0_i32_39 : BitVec 32 := 0#32
  let v39 : BitVec 1 := Scalar.cmpi .sgt v18 c0_i32_39
  let v40 : BitVec 32 := Scalar.extui v39
  let c0_i32_40 : BitVec 32 := 0#32
  let v41 : BitVec 1 := Scalar.cmpi .slt v18 c0_i32_40
  let v42 : BitVec 32 := Scalar.extui v41
  let v43 : BitVec 32 := Scalar.subi v40 v42
  let c4_i32_38 : BitVec 32 := 4#32
  let c0_i32_41 : BitVec 32 := 0#32
  let v44 : BitVec 1 := Scalar.cmpi .sgt c4_i32_38 c0_i32_41
  let v45 : BitVec 32 := Scalar.extui v44
  let c0_i32_42 : BitVec 32 := 0#32
  let v46 : BitVec 1 := Scalar.cmpi .slt c4_i32_38 c0_i32_42
  let v47 : BitVec 32 := Scalar.extui v46
  let v48 : BitVec 32 := Scalar.subi v45 v47
  let v49 : BitVec 1 := Scalar.cmpi .ne v43 v48
  let v50 : BitVec 32 := Scalar.remsi v18 c4_i32_38
  let c0_i32_43 : BitVec 32 := 0#32
  let v51 : BitVec 1 := Scalar.cmpi .ne v50 c0_i32_43
  let v52 : BitVec 1 := Scalar.andi v49 v51
  let v38 : BitVec 32 := Scalar.divsi v18 c4_i32_38
  let c1_i32 : BitVec 32 := 1#32
  let v53 : BitVec 32 := Scalar.subi v38 c1_i32
  let v54 : BitVec 32 := Scalar.select v52 v53 v38
  let v55 : BitVec 32 := Scalar.subi v54 c0_i32_45
  let c1_i32_46 : BitVec 32 := 1#32
  let v57 : BitVec 32 := Scalar.divsi v55 c1_i32_46
  let v58 : BitVec 32 := Scalar.muli v57 c1_i32_46
  let v59 : BitVec 32 := Scalar.addi c0_i32_45 v58
  let c1_i32_48 : BitVec 32 := 1#32
  let arg11 : BitVec 32 := Scf.iv v59 c1_i32_48 k0_t2
  let v747 : BitVec 32 := Scalar.muli c4_i32_576 arg11
  let c2_i32_577 : BitVec 32 := 2#32
  let v748 : BitVec 32 := Scalar.addi v747 c2_i32_577
  let c1_i32_578 : BitVec 32 := 1#32
  let v749 : BitVec 32 := Scalar.addi v748 c1_i32_578
  let c512_i32_579 : BitVec 32 := 512#32
  let v750 : BitVec 32 := Scalar.muli v749 c512_i32_579
  v750
def k0_mult15 (i : grid0.Coords) (k0_t2 : Fin (k0_t2_loop i).trips) : BitVec 32 :=
  let c4_i32_576 : BitVec 32 := 4#32
  let c0_i32_45 : BitVec 32 := 0#32
  let arg2 : BitVec 32 := BitVec.ofNat 32 (i 2).val
  let c4_i32 : BitVec 32 := 4#32
  let v18 : BitVec 32 := Scalar.muli arg2 c4_i32
  let c0_i32_39 : BitVec 32 := 0#32
  let v39 : BitVec 1 := Scalar.cmpi .sgt v18 c0_i32_39
  let v40 : BitVec 32 := Scalar.extui v39
  let c0_i32_40 : BitVec 32 := 0#32
  let v41 : BitVec 1 := Scalar.cmpi .slt v18 c0_i32_40
  let v42 : BitVec 32 := Scalar.extui v41
  let v43 : BitVec 32 := Scalar.subi v40 v42
  let c4_i32_38 : BitVec 32 := 4#32
  let c0_i32_41 : BitVec 32 := 0#32
  let v44 : BitVec 1 := Scalar.cmpi .sgt c4_i32_38 c0_i32_41
  let v45 : BitVec 32 := Scalar.extui v44
  let c0_i32_42 : BitVec 32 := 0#32
  let v46 : BitVec 1 := Scalar.cmpi .slt c4_i32_38 c0_i32_42
  let v47 : BitVec 32 := Scalar.extui v46
  let v48 : BitVec 32 := Scalar.subi v45 v47
  let v49 : BitVec 1 := Scalar.cmpi .ne v43 v48
  let v50 : BitVec 32 := Scalar.remsi v18 c4_i32_38
  let c0_i32_43 : BitVec 32 := 0#32
  let v51 : BitVec 1 := Scalar.cmpi .ne v50 c0_i32_43
  let v52 : BitVec 1 := Scalar.andi v49 v51
  let v38 : BitVec 32 := Scalar.divsi v18 c4_i32_38
  let c1_i32 : BitVec 32 := 1#32
  let v53 : BitVec 32 := Scalar.subi v38 c1_i32
  let v54 : BitVec 32 := Scalar.select v52 v53 v38
  let v55 : BitVec 32 := Scalar.subi v54 c0_i32_45
  let c1_i32_46 : BitVec 32 := 1#32
  let v57 : BitVec 32 := Scalar.divsi v55 c1_i32_46
  let v58 : BitVec 32 := Scalar.muli v57 c1_i32_46
  let v59 : BitVec 32 := Scalar.addi c0_i32_45 v58
  let c1_i32_48 : BitVec 32 := 1#32
  let arg11 : BitVec 32 := Scf.iv v59 c1_i32_48 k0_t2
  let v747 : BitVec 32 := Scalar.muli c4_i32_576 arg11
  let c2_i32_577 : BitVec 32 := 2#32
  let v748 : BitVec 32 := Scalar.addi v747 c2_i32_577
  let c512_i32_600 : BitVec 32 := 512#32
  let v770 : BitVec 32 := Scalar.muli v748 c512_i32_600
  v770
def k0_mult16 (i : grid0.Coords) (k0_t2 : Fin (k0_t2_loop i).trips) : BitVec 32 :=
  let c4_i32_643 : BitVec 32 := 4#32
  let c0_i32_45 : BitVec 32 := 0#32
  let arg2 : BitVec 32 := BitVec.ofNat 32 (i 2).val
  let c4_i32 : BitVec 32 := 4#32
  let v18 : BitVec 32 := Scalar.muli arg2 c4_i32
  let c0_i32_39 : BitVec 32 := 0#32
  let v39 : BitVec 1 := Scalar.cmpi .sgt v18 c0_i32_39
  let v40 : BitVec 32 := Scalar.extui v39
  let c0_i32_40 : BitVec 32 := 0#32
  let v41 : BitVec 1 := Scalar.cmpi .slt v18 c0_i32_40
  let v42 : BitVec 32 := Scalar.extui v41
  let v43 : BitVec 32 := Scalar.subi v40 v42
  let c4_i32_38 : BitVec 32 := 4#32
  let c0_i32_41 : BitVec 32 := 0#32
  let v44 : BitVec 1 := Scalar.cmpi .sgt c4_i32_38 c0_i32_41
  let v45 : BitVec 32 := Scalar.extui v44
  let c0_i32_42 : BitVec 32 := 0#32
  let v46 : BitVec 1 := Scalar.cmpi .slt c4_i32_38 c0_i32_42
  let v47 : BitVec 32 := Scalar.extui v46
  let v48 : BitVec 32 := Scalar.subi v45 v47
  let v49 : BitVec 1 := Scalar.cmpi .ne v43 v48
  let v50 : BitVec 32 := Scalar.remsi v18 c4_i32_38
  let c0_i32_43 : BitVec 32 := 0#32
  let v51 : BitVec 1 := Scalar.cmpi .ne v50 c0_i32_43
  let v52 : BitVec 1 := Scalar.andi v49 v51
  let v38 : BitVec 32 := Scalar.divsi v18 c4_i32_38
  let c1_i32 : BitVec 32 := 1#32
  let v53 : BitVec 32 := Scalar.subi v38 c1_i32
  let v54 : BitVec 32 := Scalar.select v52 v53 v38
  let v55 : BitVec 32 := Scalar.subi v54 c0_i32_45
  let c1_i32_46 : BitVec 32 := 1#32
  let v57 : BitVec 32 := Scalar.divsi v55 c1_i32_46
  let v58 : BitVec 32 := Scalar.muli v57 c1_i32_46
  let v59 : BitVec 32 := Scalar.addi c0_i32_45 v58
  let c1_i32_48 : BitVec 32 := 1#32
  let arg11 : BitVec 32 := Scf.iv v59 c1_i32_48 k0_t2
  let v828 : BitVec 32 := Scalar.muli c4_i32_643 arg11
  let c3_i32_644 : BitVec 32 := 3#32
  let v829 : BitVec 32 := Scalar.addi v828 c3_i32_644
  let c1_i32_645 : BitVec 32 := 1#32
  let v830 : BitVec 32 := Scalar.addi v829 c1_i32_645
  let c512_i32_646 : BitVec 32 := 512#32
  let v831 : BitVec 32 := Scalar.muli v830 c512_i32_646
  v831
def k0_mult17 (i : grid0.Coords) (k0_t2 : Fin (k0_t2_loop i).trips) : BitVec 32 :=
  let c4_i32_643 : BitVec 32 := 4#32
  let c0_i32_45 : BitVec 32 := 0#32
  let arg2 : BitVec 32 := BitVec.ofNat 32 (i 2).val
  let c4_i32 : BitVec 32 := 4#32
  let v18 : BitVec 32 := Scalar.muli arg2 c4_i32
  let c0_i32_39 : BitVec 32 := 0#32
  let v39 : BitVec 1 := Scalar.cmpi .sgt v18 c0_i32_39
  let v40 : BitVec 32 := Scalar.extui v39
  let c0_i32_40 : BitVec 32 := 0#32
  let v41 : BitVec 1 := Scalar.cmpi .slt v18 c0_i32_40
  let v42 : BitVec 32 := Scalar.extui v41
  let v43 : BitVec 32 := Scalar.subi v40 v42
  let c4_i32_38 : BitVec 32 := 4#32
  let c0_i32_41 : BitVec 32 := 0#32
  let v44 : BitVec 1 := Scalar.cmpi .sgt c4_i32_38 c0_i32_41
  let v45 : BitVec 32 := Scalar.extui v44
  let c0_i32_42 : BitVec 32 := 0#32
  let v46 : BitVec 1 := Scalar.cmpi .slt c4_i32_38 c0_i32_42
  let v47 : BitVec 32 := Scalar.extui v46
  let v48 : BitVec 32 := Scalar.subi v45 v47
  let v49 : BitVec 1 := Scalar.cmpi .ne v43 v48
  let v50 : BitVec 32 := Scalar.remsi v18 c4_i32_38
  let c0_i32_43 : BitVec 32 := 0#32
  let v51 : BitVec 1 := Scalar.cmpi .ne v50 c0_i32_43
  let v52 : BitVec 1 := Scalar.andi v49 v51
  let v38 : BitVec 32 := Scalar.divsi v18 c4_i32_38
  let c1_i32 : BitVec 32 := 1#32
  let v53 : BitVec 32 := Scalar.subi v38 c1_i32
  let v54 : BitVec 32 := Scalar.select v52 v53 v38
  let v55 : BitVec 32 := Scalar.subi v54 c0_i32_45
  let c1_i32_46 : BitVec 32 := 1#32
  let v57 : BitVec 32 := Scalar.divsi v55 c1_i32_46
  let v58 : BitVec 32 := Scalar.muli v57 c1_i32_46
  let v59 : BitVec 32 := Scalar.addi c0_i32_45 v58
  let c1_i32_48 : BitVec 32 := 1#32
  let arg11 : BitVec 32 := Scf.iv v59 c1_i32_48 k0_t2
  let v828 : BitVec 32 := Scalar.muli c4_i32_643 arg11
  let c3_i32_644 : BitVec 32 := 3#32
  let v829 : BitVec 32 := Scalar.addi v828 c3_i32_644
  let c512_i32_667 : BitVec 32 := 512#32
  let v851 : BitVec 32 := Scalar.muli v829 c512_i32_667
  v851
def k0_mult18 (i : grid0.Coords) : BitVec 32 :=
  let arg2 : BitVec 32 := BitVec.ofNat 32 (i 2).val
  let c4_i32 : BitVec 32 := 4#32
  let v18 : BitVec 32 := Scalar.muli arg2 c4_i32
  let c0_i32_49 : BitVec 32 := 0#32
  let v60 : BitVec 32 := Scalar.addi v18 c0_i32_49
  let c1_i32_50 : BitVec 32 := 1#32
  let v61 : BitVec 32 := Scalar.addi v60 c1_i32_50
  let c512_i32 : BitVec 32 := 512#32
  let v62 : BitVec 32 := Scalar.muli v61 c512_i32
  v62
def k0_off9 (i : grid0.Coords) (c0_i32_49 : BitVec 32) : Fin 3 → Nat :=
  let c0_51 : Index := 0#32
  let arg2 : BitVec 32 := BitVec.ofNat 32 (i 2).val
  let c4_i32 : BitVec 32 := 4#32
  let v18 : BitVec 32 := Scalar.muli arg2 c4_i32
  let v60 : BitVec 32 := Scalar.addi v18 c0_i32_49
  let c1_i32_50 : BitVec 32 := 1#32
  let v61 : BitVec 32 := Scalar.addi v60 c1_i32_50
  let c512_i32 : BitVec 32 := 512#32
  let v62 : BitVec 32 := Scalar.muli v61 c512_i32
  let v63 : BitVec 32 := v62
  let v64 : Index := Scalar.indexCast v63
  let c0_52 : Index := 0#32
  ![0, v64.toNat, 0]
def k0_off10 (i : grid0.Coords) (c0_i32_49 : BitVec 32) : Fin 3 → Nat :=
  let c0_60 : Index := 0#32
  let arg2 : BitVec 32 := BitVec.ofNat 32 (i 2).val
  let c4_i32 : BitVec 32 := 4#32
  let v18 : BitVec 32 := Scalar.muli arg2 c4_i32
  let v60 : BitVec 32 := Scalar.addi v18 c0_i32_49
  let c1_i32_50 : BitVec 32 := 1#32
  let v61 : BitVec 32 := Scalar.addi v60 c1_i32_50
  let c512_i32 : BitVec 32 := 512#32
  let v62 : BitVec 32 := Scalar.muli v61 c512_i32
  let v63 : BitVec 32 := v62
  let v73 : Index := Scalar.indexCast v63
  let c128_61 : Index := 128#32
  ![0, v73.toNat, 128]
def k0_mult19 (i : grid0.Coords) : BitVec 32 :=
  let arg2 : BitVec 32 := BitVec.ofNat 32 (i 2).val
  let c4_i32 : BitVec 32 := 4#32
  let v18 : BitVec 32 := Scalar.muli arg2 c4_i32
  let c0_i32_70 : BitVec 32 := 0#32
  let v82 : BitVec 32 := Scalar.addi v18 c0_i32_70
  let c512_i32_71 : BitVec 32 := 512#32
  let v83 : BitVec 32 := Scalar.muli v82 c512_i32_71
  v83
def k0_off11 (i : grid0.Coords) (c0_i32_70 : BitVec 32) : Fin 4 → Nat :=
  let c0_84 : Index := 0#32
  let c0_85 : Index := 0#32
  let c0_86 : Index := 0#32
  let arg2 : BitVec 32 := BitVec.ofNat 32 (i 2).val
  let c4_i32 : BitVec 32 := 4#32
  let v18 : BitVec 32 := Scalar.muli arg2 c4_i32
  let v82 : BitVec 32 := Scalar.addi v18 c0_i32_70
  let c512_i32_71 : BitVec 32 := 512#32
  let v83 : BitVec 32 := Scalar.muli v82 c512_i32_71
  let v84 : BitVec 32 := v83
  let v106 : Index := Scalar.indexCast v84
  ![0, 0, 0, v106.toNat]
def k0_off12 (i : grid0.Coords) (c0_i32_70 : BitVec 32) : Fin 4 → Nat :=
  let c0_106 : Index := 0#32
  let c1_107 : Index := 1#32
  let c0_108 : Index := 0#32
  let arg2 : BitVec 32 := BitVec.ofNat 32 (i 2).val
  let c4_i32 : BitVec 32 := 4#32
  let v18 : BitVec 32 := Scalar.muli arg2 c4_i32
  let v82 : BitVec 32 := Scalar.addi v18 c0_i32_70
  let c512_i32_71 : BitVec 32 := 512#32
  let v83 : BitVec 32 := Scalar.muli v82 c512_i32_71
  let v84 : BitVec 32 := v83
  let v136 : Index := Scalar.indexCast v84
  ![0, 1, 0, v136.toNat]
def k0_mult20 (i : grid0.Coords) : BitVec 32 :=
  let arg2 : BitVec 32 := BitVec.ofNat 32 (i 2).val
  let c4_i32 : BitVec 32 := 4#32
  let v18 : BitVec 32 := Scalar.muli arg2 c4_i32
  let c0_i32_116 : BitVec 32 := 0#32
  let v148 : BitVec 32 := Scalar.addi v18 c0_i32_116
  let c512_i32_117 : BitVec 32 := 512#32
  let v149 : BitVec 32 := Scalar.muli v148 c512_i32_117
  v149
def k0_mult21 (i : grid0.Coords) : BitVec 32 :=
  let arg2 : BitVec 32 := BitVec.ofNat 32 (i 2).val
  let c4_i32 : BitVec 32 := 4#32
  let v18 : BitVec 32 := Scalar.muli arg2 c4_i32
  let c1_i32_160 : BitVec 32 := 1#32
  let v207 : BitVec 32 := Scalar.addi v18 c1_i32_160
  let c1_i32_161 : BitVec 32 := 1#32
  let v208 : BitVec 32 := Scalar.addi v207 c1_i32_161
  let c512_i32_162 : BitVec 32 := 512#32
  let v209 : BitVec 32 := Scalar.muli v208 c512_i32_162
  v209
def k0_mult22 (i : grid0.Coords) : BitVec 32 :=
  let arg2 : BitVec 32 := BitVec.ofNat 32 (i 2).val
  let c4_i32 : BitVec 32 := 4#32
  let v18 : BitVec 32 := Scalar.muli arg2 c4_i32
  let c1_i32_182 : BitVec 32 := 1#32
  let v229 : BitVec 32 := Scalar.addi v18 c1_i32_182
  let c512_i32_183 : BitVec 32 := 512#32
  let v230 : BitVec 32 := Scalar.muli v229 c512_i32_183
  v230
def k0_mult23 (i : grid0.Coords) : BitVec 32 :=
  let arg2 : BitVec 32 := BitVec.ofNat 32 (i 2).val
  let c4_i32 : BitVec 32 := 4#32
  let v18 : BitVec 32 := Scalar.muli arg2 c4_i32
  let c1_i32_228 : BitVec 32 := 1#32
  let v295 : BitVec 32 := Scalar.addi v18 c1_i32_228
  let c512_i32_229 : BitVec 32 := 512#32
  let v296 : BitVec 32 := Scalar.muli v295 c512_i32_229
  v296
def k0_mult24 (i : grid0.Coords) : BitVec 32 :=
  let arg2 : BitVec 32 := BitVec.ofNat 32 (i 2).val
  let c4_i32 : BitVec 32 := 4#32
  let v18 : BitVec 32 := Scalar.muli arg2 c4_i32
  let c2_i32 : BitVec 32 := 2#32
  let v354 : BitVec 32 := Scalar.addi v18 c2_i32
  let c1_i32_272 : BitVec 32 := 1#32
  let v355 : BitVec 32 := Scalar.addi v354 c1_i32_272
  let c512_i32_273 : BitVec 32 := 512#32
  let v356 : BitVec 32 := Scalar.muli v355 c512_i32_273
  v356
def k0_mult25 (i : grid0.Coords) : BitVec 32 :=
  let arg2 : BitVec 32 := BitVec.ofNat 32 (i 2).val
  let c4_i32 : BitVec 32 := 4#32
  let v18 : BitVec 32 := Scalar.muli arg2 c4_i32
  let c2_i32_293 : BitVec 32 := 2#32
  let v376 : BitVec 32 := Scalar.addi v18 c2_i32_293
  let c512_i32_294 : BitVec 32 := 512#32
  let v377 : BitVec 32 := Scalar.muli v376 c512_i32_294
  v377
def k0_mult26 (i : grid0.Coords) : BitVec 32 :=
  let arg2 : BitVec 32 := BitVec.ofNat 32 (i 2).val
  let c4_i32 : BitVec 32 := 4#32
  let v18 : BitVec 32 := Scalar.muli arg2 c4_i32
  let c2_i32_339 : BitVec 32 := 2#32
  let v442 : BitVec 32 := Scalar.addi v18 c2_i32_339
  let c512_i32_340 : BitVec 32 := 512#32
  let v443 : BitVec 32 := Scalar.muli v442 c512_i32_340
  v443
def k0_mult27 (i : grid0.Coords) : BitVec 32 :=
  let arg2 : BitVec 32 := BitVec.ofNat 32 (i 2).val
  let c4_i32 : BitVec 32 := 4#32
  let v18 : BitVec 32 := Scalar.muli arg2 c4_i32
  let c3_i32 : BitVec 32 := 3#32
  let v501 : BitVec 32 := Scalar.addi v18 c3_i32
  let c512_i32_383 : BitVec 32 := 512#32
  let v502 : BitVec 32 := Scalar.muli v501 c512_i32_383
  v502
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2x80x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference2Ideal.lean ====
abbrev S4x4x128x8192 : Shape := ⟨4, ![4, 4, 128, 8192]⟩
abbrev S4x8192x512 : Shape := ⟨3, ![4, 8192, 512]⟩
abbrev S4x4x64x8192 : Shape := ⟨4, ![4, 4, 64, 8192]⟩
abbrev S4x4x8192x128 : Shape := ⟨4, ![4, 4, 8192, 128]⟩
abbrev S4x4x8192x64 : Shape := ⟨4, ![4, 4, 8192, 64]⟩
abbrev S4x8192x4x128 : Shape := ⟨4, ![4, 8192, 4, 128]⟩
abbrev S8192 : Shape := ⟨1, ![8192]⟩
abbrev S4x4x8192x8192 : Shape := ⟨4, ![4, 4, 8192, 8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S4x4x8192 : Shape := ⟨3, ![4, 4, 8192]⟩
abbrev S4x4x8192x1 : Shape := ⟨4, ![4, 4, 8192, 1]⟩
abbrev S4x8192x4x64 : Shape := ⟨4, ![4, 8192, 4, 64]⟩
abbrev S4x8192x256 : Shape := ⟨3, ![4, 8192, 256]⟩

abbrev nBuf : Space → Nat
  | .hbm => 44
  | .vmem => 0
  | .smem => 0
  | _ => 0

abbrev bufTy : (tb : Table) → Fin (tcTables nBuf tb) → BufTy
  | .hbm, ⟨0, _⟩ => ⟨S4x4x128x8192, .bf16⟩
  | .hbm, ⟨1, _⟩ => ⟨S4x8192x512, .bf16⟩
  | .hbm, ⟨2, _⟩ => ⟨S4x4x64x8192, .bf16⟩
  | .hbm, ⟨3, _⟩ => ⟨S4x4x128x8192, .f32⟩
  | .hbm, ⟨4, _⟩ => ⟨S4x4x8192x128, .f32⟩
  | .hbm, ⟨5, _⟩ => ⟨S4x4x64x8192, .f32⟩
  | .hbm, ⟨6, _⟩ => ⟨S4x4x8192x64, .f32⟩
  | .hbm, ⟨7, _⟩ => ⟨S4x8192x512, .f32⟩
  | .hbm, ⟨8, _⟩ => ⟨S4x8192x4x128, .f32⟩
  | .hbm, ⟨9, _⟩ => ⟨S4x4x8192x128, .f32⟩
  | .hbm, ⟨10, _⟩ => ⟨S8192, .i32⟩
  | .hbm, ⟨11, _⟩ => ⟨S4x4x8192x8192, .f32⟩
  | .hbm, ⟨12, _⟩ => ⟨S_, .f32⟩
  | .hbm, ⟨13, _⟩ => ⟨S_, .f32⟩
  | .hbm, ⟨14, _⟩ => ⟨S4x4x8192x8192, .f32⟩
  | .hbm, ⟨15, _⟩ => ⟨S4x4x8192x8192, .f32⟩
  | .hbm, ⟨16, _⟩ => ⟨S1x8192, .i32⟩
  | .hbm, ⟨17, _⟩ => ⟨S8192x1, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S_, .f32⟩
  | .hbm, ⟨22, _⟩ => ⟨S_, .f32⟩
  | .hbm, ⟨23, _⟩ => ⟨S4x4x8192x8192, .i1⟩
  | .hbm, ⟨24, _⟩ => ⟨S4x4x8192x8192, .f32⟩
  | .hbm, ⟨25, _⟩ => ⟨S4x4x8192x8192, .f32⟩
  | .hbm, ⟨26, _⟩ => ⟨S_, .f32⟩
  | .hbm, ⟨27, _⟩ => ⟨S4x4x8192, .f32⟩
  | .hbm, ⟨28, _⟩ => ⟨S_, .f32⟩
  | .hbm, ⟨29, _⟩ => ⟨S4x4x8192, .f32⟩
  | .hbm, ⟨30, _⟩ => ⟨S4x4x8192, .f32⟩
  | .hbm, ⟨31, _⟩ => ⟨S4x4x8192x1, .f32⟩
  | .hbm, ⟨32, _⟩ => ⟨S4x4x8192x8192, .f32⟩
  | .hbm, ⟨33, _⟩ => ⟨S4x4x8192x8192, .f32⟩
  | .hbm, ⟨34, _⟩ => ⟨S4x4x8192x8192, .f32⟩
  | .hbm, ⟨35, _⟩ => ⟨S_, .f32⟩
  | .hbm, ⟨36, _⟩ => ⟨S4x4x8192, .f32⟩
  | .hbm, ⟨37, _⟩ => ⟨S4x4x8192x1, .f32⟩
  | .hbm, ⟨38, _⟩ => ⟨S4x4x8192x8192, .f32⟩
  | .hbm, ⟨39, _⟩ => ⟨S4x4x8192x8192, .f32⟩
  | .hbm, ⟨40, _⟩ => ⟨S4x4x8192x64, .f32⟩
  | .hbm, ⟨41, _⟩ => ⟨S4x8192x4x64, .f32⟩
  | .hbm, ⟨42, _⟩ => ⟨S4x8192x256, .f32⟩
  | .hbm, ⟨43, _⟩ => ⟨S4x8192x256, .bf16⟩
  | _, _ => ⟨S4x4x128x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Kernel3.lean ====
abbrev S4x4x64x8192 : Shape := ⟨4, ![4, 4, 64, 8192]⟩
abbrev S4x8192x256 : Shape := ⟨3, ![4, 8192, 256]⟩
abbrev S4x4x8192 : Shape := ⟨3, ![4, 4, 8192]⟩
abbrev S4x4x1x8192 : Shape := ⟨4, ![4, 4, 1, 8192]⟩
abbrev S_ : Shape := ⟨0, ![]⟩
abbrev S4x4x2x8192 : Shape := ⟨4, ![4, 4, 2, 8192]⟩
abbrev S4x96x8192 : Shape := ⟨3, ![4, 96, 8192]⟩
abbrev S4x4x8x8192 : Shape := ⟨4, ![4, 4, 8, 8192]⟩
abbrev S4x32x8192 : Shape := ⟨3, ![4, 32, 8192]⟩
abbrev S4x128x8192 : Shape := ⟨3, ![4, 128, 8192]⟩
abbrev S4x8192x128 : Shape := ⟨3, ![4, 8192, 128]⟩
abbrev S4x2x128x8192 : Shape := ⟨4, ![4, 2, 128, 8192]⟩
abbrev S4x1x128x8192 : Shape := ⟨4, ![4, 1, 128, 8192]⟩
abbrev S4x2x256x8192 : Shape := ⟨4, ![4, 2, 256, 8192]⟩
abbrev S4x8192x512 : Shape := ⟨3, ![4, 8192, 512]⟩
abbrev S4x4x16x8192 : Shape := ⟨4, ![4, 4, 16, 8192]⟩
abbrev S4x4x80x8192 : Shape := ⟨4, ![4, 4, 80, 8192]⟩
abbrev S1x1x256x2048 : Shape := ⟨4, ![1, 1, 256, 2048]⟩
abbrev S1x8192x256 : Shape := ⟨3, ![1, 8192, 256]⟩
abbrev S1x2x80x8192 : Shape := ⟨4, ![1, 2, 80, 8192]⟩
abbrev S1x2048x128 : Shape := ⟨3, ![1, 2048, 128]⟩
abbrev S2x256x2048 : Shape := ⟨3, ![2, 256, 2048]⟩
abbrev S2x2x512x2048 : Shape := ⟨4, ![2, 2, 512, 2048]⟩
abbrev S2x1x2048 : Shape := ⟨3, ![2, 1, 2048]⟩
abbrev S2x80x2048 : Shape := ⟨3, ![2, 80, 2048]⟩
abbrev S256x2048 : Shape := ⟨2, ![256, 2048]⟩
abbrev S1x256x2048 : Shape := ⟨3, ![1, 256, 2048]⟩
abbrev S1x512x256 : Shape := ⟨3, ![1, 512, 256]⟩
abbrev S512x256 : Shape := ⟨2, ![512, 256]⟩
abbrev S512x2048 : Shape := ⟨2, ![512, 2048]⟩
abbrev S1x1x512x2048 : Shape := ⟨4, ![1, 1, 512, 2048]⟩
abbrev S1x1x2048 : Shape := ⟨3, ![1, 1, 2048]⟩
abbrev S1x2048 : Shape := ⟨2, ![1, 2048]⟩
abbrev S2048 : Shape := ⟨1, ![2048]⟩
abbrev S1x80x2048 : Shape := ⟨3, ![1, 80, 2048]⟩
abbrev S80x2048 : Shape := ⟨2, ![80, 2048]⟩
abbrev S1x1x80x512 : Shape := ⟨4, ![1, 1, 80, 512]⟩
abbrev S80x512 : Shape := ⟨2, ![80, 512]⟩
abbrev S1x256x1536 : Shape := ⟨3, ![1, 256, 1536]⟩
abbrev S256x1536 : Shape := ⟨2, ![256, 1536]⟩
abbrev S512x1536 : Shape := ⟨2, ![512, 1536]⟩
abbrev S1x1x512x1536 : Shape := ⟨4, ![1, 1, 512, 1536]⟩
abbrev S512x512 : Shape := ⟨2, ![512, 512]⟩
abbrev S1x1x512x512 : Shape := ⟨4, ![1, 1, 512, 512]⟩
abbrev S1x1x512 : Shape := ⟨3, ![1, 1, 512]⟩
abbrev S1x512 : Shape := ⟨2, ![1, 512]⟩
abbrev S512 : Shape := ⟨1, ![512]⟩
abbrev S1x80x512 : Shape := ⟨3, ![1, 80, 512]⟩
abbrev S1x1x1536 : Shape := ⟨3, ![1, 1, 1536]⟩
abbrev S1x1536 : Shape := ⟨2, ![1, 1536]⟩
abbrev S1536 : Shape := ⟨1, ![1536]⟩
abbrev S1x80x1536 : Shape := ⟨3, ![1, 80, 1536]⟩
abbrev S80x1536 : Shape := ⟨2, ![80, 1536]⟩
abbrev S1x256x1024 : Shape := ⟨3, ![1, 256, 1024]⟩
abbrev S256x1024 : Shape := ⟨2, ![256, 1024]⟩
abbrev S512x1024 : Shape := ⟨2, ![512, 1024]⟩
abbrev S1x1x512x1024 : Shape := ⟨4, ![1, 1, 512, 1024]⟩
abbrev S1x1x1024 : Shape := ⟨3, ![1, 1, 1024]⟩
abbrev S1x1024 : Shape := ⟨2, ![1, 1024]⟩
abbrev S1024 : Shape := ⟨1, ![1024]⟩
abbrev S1x80x1024 : Shape := ⟨3, ![1, 80, 1024]⟩
abbrev S80x1024 : Shape := ⟨2, ![80, 1024]⟩
abbrev S1x256x512 : Shape := ⟨3, ![1, 256, 512]⟩
abbrev S256x512 : Shape := ⟨2, ![256, 512]⟩
abbrev S1x64x2048 : Shape := ⟨3, ![1, 64, 2048]⟩
abbrev S64x2048 : Shape := ⟨2, ![64, 2048]⟩
abbrev S128x2048 : Shape := ⟨2, ![128, 2048]⟩
abbrev S2048x128 : Shape := ⟨2, ![2048, 128]⟩

abbrev nBuf : Space → Nat
  | .hbm => 44
  | .vmem => 12
  | .smem => 0
  | _ => 0

abbrev bufTy : (tb : Table) → Fin (tcTables nBuf tb) → BufTy
  | .hbm, ⟨0, _⟩ => ⟨S4x4x64x8192, .bf16⟩
  | .hbm, ⟨1, _⟩ => ⟨S4x8192x256, .bf16⟩
  | .hbm, ⟨2, _⟩ => ⟨S4x4x64x8192, .bf16⟩
  | .hbm, ⟨3, _⟩ => ⟨S4x4x8192, .f32⟩
  | .hbm, ⟨4, _⟩ => ⟨S4x4x8192, .bf16⟩
  | .hbm, ⟨5, _⟩ => ⟨S4x4x8192, .f32⟩
  | .hbm, ⟨6, _⟩ => ⟨S4x4x8192, .f32⟩
  | .hbm, ⟨7, _⟩ => ⟨S4x4x8192, .bf16⟩
  | .hbm, ⟨8, _⟩ => ⟨S4x4x8192, .f32⟩
  | .hbm, ⟨9, _⟩ => ⟨S4x4x8192, .f32⟩
  | .hbm, ⟨10, _⟩ => ⟨S4x4x8192, .bf16⟩
  | .hbm, ⟨11, _⟩ => ⟨S4x4x8192, .f32⟩
  | .hbm, ⟨12, _⟩ => ⟨S4x4x1x8192, .f32⟩
  | .hbm, ⟨13, _⟩ => ⟨S4x4x1x8192, .f32⟩
  | .hbm, ⟨14, _⟩ => ⟨S4x4x1x8192, .f32⟩
  | .hbm, ⟨15, _⟩ => ⟨S_, .f32⟩
  | .hbm, ⟨16, _⟩ => ⟨S4x4x1x8192, .f32⟩
  | .hbm, ⟨17, _⟩ => ⟨S_, .f32⟩
  | .hbm, ⟨18, _⟩ => ⟨S4x4x2x8192, .f32⟩
  | .hbm, ⟨19, _⟩ => ⟨S_, .f32⟩
  | .hbm, ⟨20, _⟩ => ⟨S4x96x8192, .f32⟩
  | .hbm, ⟨21, _⟩ => ⟨S4x4x8x8192, .f32⟩
  | .hbm, ⟨22, _⟩ => ⟨S4x32x8192, .f32⟩
  | .hbm, ⟨23, _⟩ => ⟨S4x4x1x8192, .f32⟩
  | .hbm, ⟨24, _⟩ => ⟨S4x4x1x8192, .f32⟩
  | .hbm, ⟨25, _⟩ => ⟨S4x4x1x8192, .f32⟩
  | .hbm, ⟨26, _⟩ => ⟨S4x4x8x8192, .f32⟩
  | .hbm, ⟨27, _⟩ => ⟨S4x32x8192, .f32⟩
  | .hbm, ⟨28, _⟩ => ⟨S4x128x8192, .f32⟩
  | .hbm, ⟨29, _⟩ => ⟨S4x128x8192, .bf16⟩
  | .hbm, ⟨30, _⟩ => ⟨S4x128x8192, .f32⟩
  | .hbm, ⟨31, _⟩ => ⟨S4x128x8192, .bf16⟩
  | .hbm, ⟨32, _⟩ => ⟨S4x8192x128, .bf16⟩
  | .hbm, ⟨33, _⟩ => ⟨S4x2x128x8192, .bf16⟩
  | .hbm, ⟨34, _⟩ => ⟨S4x1x128x8192, .bf16⟩
  | .hbm, ⟨35, _⟩ => ⟨S4x2x128x8192, .bf16⟩
  | .hbm, ⟨36, _⟩ => ⟨S4x2x256x8192, .bf16⟩
  | .hbm, ⟨37, _⟩ => ⟨S4x8192x128, .bf16⟩
  | .hbm, ⟨38, _⟩ => ⟨S4x8192x128, .bf16⟩
  | .hbm, ⟨39, _⟩ => ⟨S4x8192x512, .bf16⟩
  | .hbm, ⟨40, _⟩ => ⟨S_, .bf16⟩
  | .hbm, ⟨41, _⟩ => ⟨S4x4x16x8192, .bf16⟩
  | .hbm, ⟨42, _⟩ => ⟨S4x4x80x8192, .bf16⟩
  | .hbm, ⟨43, _⟩ => ⟨S4x8192x256, .bf16⟩
  | .local _ .vmem, ⟨0, _⟩ => ⟨S1x1x256x2048, .bf16⟩
  | .local _ .vmem, ⟨1, _⟩ => ⟨S1x1x256x2048, .bf16⟩
  | .local _ .vmem, ⟨2, _⟩ => ⟨S1x8192x256, .bf16⟩
  | .local _ .vmem, ⟨3, _⟩ => ⟨S1x8192x256, .bf16⟩
  | .local _ .vmem, ⟨4, _⟩ => ⟨S1x2x80x8192, .bf16⟩
  | .local _ .vmem, ⟨5, _⟩ => ⟨S1x2x80x8192, .bf16⟩
  | .local _ .vmem, ⟨6, _⟩ => ⟨S1x2048x128, .bf16⟩
  | .local _ .vmem, ⟨7, _⟩ => ⟨S1x2048x128, .bf16⟩
  | .local _ .vmem, ⟨8, _⟩ => ⟨S2x256x2048, .bf16⟩
  | .local _ .vmem, ⟨9, _⟩ => ⟨S2x2x512x2048, .f32⟩
  | .local _ .vmem, ⟨10, _⟩ => ⟨S2x1x2048, .f32⟩
  | .local _ .vmem, ⟨11, _⟩ => ⟨S2x80x2048, .f32⟩
  | _, _ => ⟨S4x4x64x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_2 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_mult1 : BitVec 32 :=
  let c0_i32_29 : BitVec 32 := 0#32
  c0_i32_29
@[reducible] def k0_t1_loop (i : grid0.Coords) : Scf.Loop 32 :=
  let c0_i32_58 : BitVec 32 := 0#32
  let arg2 : BitVec 32 := BitVec.ofNat 32 (i 2).val
  let c4_i32 : BitVec 32 := 4#32
  let v56 : BitVec 32 := Scalar.muli arg2 c4_i32
  let c0_i32_51 : BitVec 32 := 0#32
  let v77 : BitVec 1 := Scalar.cmpi .sgt v56 c0_i32_51
  let v78 : BitVec 32 := Scalar.extui v77
  let c0_i32_52 : BitVec 32 := 0#32
  let v79 : BitVec 1 := Scalar.cmpi .slt v56 c0_i32_52
  let v80 : BitVec 32 := Scalar.extui v79
  let v81 : BitVec 32 := Scalar.subi v78 v80
  let c4_i32_50 : BitVec 32 := 4#32
  let c0_i32_53 : BitVec 32 := 0#32
  let v82 : BitVec 1 := Scalar.cmpi .sgt c4_i32_50 c0_i32_53
  let v83 : BitVec 32 := Scalar.extui v82
  let c0_i32_54 : BitVec 32 := 0#32
  let v84 : BitVec 1 := Scalar.cmpi .slt c4_i32_50 c0_i32_54
  let v85 : BitVec 32 := Scalar.extui v84
  let v86 : BitVec 32 := Scalar.subi v83 v85
  let v87 : BitVec 1 := Scalar.cmpi .ne v81 v86
  let v88 : BitVec 32 := Scalar.remsi v56 c4_i32_50
  let c0_i32_55 : BitVec 32 := 0#32
  let v89 : BitVec 1 := Scalar.cmpi .ne v88 c0_i32_55
  let v90 : BitVec 1 := Scalar.andi v87 v89
  let v76 : BitVec 32 := Scalar.divsi v56 c4_i32_50
  let c1_i32_56 : BitVec 32 := 1#32
  let v91 : BitVec 32 := Scalar.subi v76 c1_i32_56
  let v92 : BitVec 32 := Scalar.select v90 v91 v76
  let v93 : BitVec 32 := Scalar.subi v92 c0_i32_58
  let c1_i32_59 : BitVec 32 := 1#32
  let v95 : BitVec 32 := Scalar.divsi v93 c1_i32_59
  let v96 : BitVec 32 := Scalar.muli v95 c1_i32_59
  let v97 : BitVec 32 := Scalar.addi c0_i32_58 v96
  let c1_i32_60 : BitVec 32 := 1#32
  ⟨c0_i32_58, v97, c1_i32_60⟩
def k0_mult2 (i : grid0.Coords) (k0_t1 : Fin (k0_t1_loop i).trips) : BitVec 32 :=
  let c4_i32_456 : BitVec 32 := 4#32
  let c0_i32_58 : BitVec 32 := 0#32
  let c1_i32_60 : BitVec 32 := 1#32
  let arg11 : BitVec 32 := Scf.iv c0_i32_58 c1_i32_60 k0_t1
  let v623 : BitVec 32 := Scalar.muli c4_i32_456 arg11
  let c0_i32_457 : BitVec 32 := 0#32
  let v624 : BitVec 32 := Scalar.addi v623 c0_i32_457
  let c1_i32_458 : BitVec 32 := 1#32
  let v625 : BitVec 32 := Scalar.addi v624 c1_i32_458
  let c512_i32_459 : BitVec 32 := 512#32
  let v626 : BitVec 32 := Scalar.muli v625 c512_i32_459
  v626
def k0_off1 (i : grid0.Coords) (k0_t1 : Fin (k0_t1_loop i).trips) (c0_i32_457 : BitVec 32) : Fin 3 → Nat :=
  let c0_460 : Index := 0#32
  let c4_i32_456 : BitVec 32 := 4#32
  let c0_i32_58 : BitVec 32 := 0#32
  let c1_i32_60 : BitVec 32 := 1#32
  let arg11 : BitVec 32 := Scf.iv c0_i32_58 c1_i32_60 k0_t1
  let v623 : BitVec 32 := Scalar.muli c4_i32_456 arg11
  let v624 : BitVec 32 := Scalar.addi v623 c0_i32_457
  let c1_i32_458 : BitVec 32 := 1#32
  let v625 : BitVec 32 := Scalar.addi v624 c1_i32_458
  let c512_i32_459 : BitVec 32 := 512#32
  let v626 : BitVec 32 := Scalar.muli v625 c512_i32_459
  let v627 : BitVec 32 := v626
  let v628 : Index := Scalar.indexCast v627
  let c0_461 : Index := 0#32
  ![0, v628.toNat, 0]
def k0_mult3 (i : grid0.Coords) (k0_t1 : Fin (k0_t1_loop i).trips) : BitVec 32 :=
  let c4_i32_456 : BitVec 32 := 4#32
  let c0_i32_58 : BitVec 32 := 0#32
  let c1_i32_60 : BitVec 32 := 1#32
  let arg11 : BitVec 32 := Scf.iv c0_i32_58 c1_i32_60 k0_t1
  let v623 : BitVec 32 := Scalar.muli c4_i32_456 arg11
  let c0_i32_457 : BitVec 32 := 0#32
  let v624 : BitVec 32 := Scalar.addi v623 c0_i32_457
  let c512_i32_480 : BitVec 32 := 512#32
  let v646 : BitVec 32 := Scalar.muli v624 c512_i32_480
  v646
def k0_off2 (i : grid0.Coords) (k0_t1 : Fin (k0_t1_loop i).trips) (c0_i32_457 : BitVec 32) : Fin 4 → Nat :=
  let c0_492 : Index := 0#32
  let c0_493 : Index := 0#32
  let c0_494 : Index := 0#32
  let c4_i32_456 : BitVec 32 := 4#32
  let c0_i32_58 : BitVec 32 := 0#32
  let c1_i32_60 : BitVec 32 := 1#32
  let arg11 : BitVec 32 := Scf.iv c0_i32_58 c1_i32_60 k0_t1
  let v623 : BitVec 32 := Scalar.muli c4_i32_456 arg11
  let v624 : BitVec 32 := Scalar.addi v623 c0_i32_457
  let c512_i32_480 : BitVec 32 := 512#32
  let v646 : BitVec 32 := Scalar.muli v624 c512_i32_480
  let v647 : BitVec 32 := v646
  let v664 : Index := Scalar.indexCast v647
  ![0, 0, 0, v664.toNat]
def k0_off3 (i : grid0.Coords) (k0_t1 : Fin (k0_t1_loop i).trips) (c0_i32_457 : BitVec 32) : Fin 4 → Nat :=
  let c0_513 : Index := 0#32
  let c1_514 : Index := 1#32
  let c0_515 : Index := 0#32
  let c4_i32_456 : BitVec 32 := 4#32
  let c0_i32_58 : BitVec 32 := 0#32
  let c1_i32_60 : BitVec 32 := 1#32
  let arg11 : BitVec 32 := Scf.iv c0_i32_58 c1_i32_60 k0_t1
  let v623 : BitVec 32 := Scalar.muli c4_i32_456 arg11
  let v624 : BitVec 32 := Scalar.addi v623 c0_i32_457
  let c512_i32_480 : BitVec 32 := 512#32
  let v646 : BitVec 32 := Scalar.muli v624 c512_i32_480
  let v647 : BitVec 32 := v646
  let v692 : Index := Scalar.indexCast v647
  ![0, 1, 0, v692.toNat]
def k0_mult4 (i : grid0.Coords) (k0_t1 : Fin (k0_t1_loop i).trips) : BitVec 32 :=
  let c4_i32_523 : BitVec 32 := 4#32
  let c0_i32_58 : BitVec 32 := 0#32
  let c1_i32_60 : BitVec 32 := 1#32
  let arg11 : BitVec 32 := Scf.iv c0_i32_58 c1_i32_60 k0_t1
  let v704 : BitVec 32 := Scalar.muli c4_i32_523 arg11
  let c1_i32_524 : BitVec 32 := 1#32
  let v705 : BitVec 32 := Scalar.addi v704 c1_i32_524
  let c1_i32_525 : BitVec 32 := 1#32
  let v706 : BitVec 32 := Scalar.addi v705 c1_i32_525
  let c512_i32_526 : BitVec 32 := 512#32
  let v707 : BitVec 32 := Scalar.muli v706 c512_i32_526
  v707
def k0_mult5 (i : grid0.Coords) (k0_t1 : Fin (k0_t1_loop i).trips) : BitVec 32 :=
  let c4_i32_523 : BitVec 32 := 4#32
  let c0_i32_58 : BitVec 32 := 0#32
  let c1_i32_60 : BitVec 32 := 1#32
  let arg11 : BitVec 32 := Scf.iv c0_i32_58 c1_i32_60 k0_t1
  let v704 : BitVec 32 := Scalar.muli c4_i32_523 arg11
  let c1_i32_524 : BitVec 32 := 1#32
  let v705 : BitVec 32 := Scalar.addi v704 c1_i32_524
  let c512_i32_547 : BitVec 32 := 512#32
  let v727 : BitVec 32 := Scalar.muli v705 c512_i32_547
  v727
def k0_mult6 (i : grid0.Coords) (k0_t1 : Fin (k0_t1_loop i).trips) : BitVec 32 :=
  let c4_i32_590 : BitVec 32 := 4#32
  let c0_i32_58 : BitVec 32 := 0#32
  let c1_i32_60 : BitVec 32 := 1#32
  let arg11 : BitVec 32 := Scf.iv c0_i32_58 c1_i32_60 k0_t1
  let v785 : BitVec 32 := Scalar.muli c4_i32_590 arg11
  let c2_i32_591 : BitVec 32 := 2#32
  let v786 : BitVec 32 := Scalar.addi v785 c2_i32_591
  let c1_i32_592 : BitVec 32 := 1#32
  let v787 : BitVec 32 := Scalar.addi v786 c1_i32_592
  let c512_i32_593 : BitVec 32 := 512#32
  let v788 : BitVec 32 := Scalar.muli v787 c512_i32_593
  v788
def k0_mult7 (i : grid0.Coords) (k0_t1 : Fin (k0_t1_loop i).trips) : BitVec 32 :=
  let c4_i32_590 : BitVec 32 := 4#32
  let c0_i32_58 : BitVec 32 := 0#32
  let c1_i32_60 : BitVec 32 := 1#32
  let arg11 : BitVec 32 := Scf.iv c0_i32_58 c1_i32_60 k0_t1
  let v785 : BitVec 32 := Scalar.muli c4_i32_590 arg11
  let c2_i32_591 : BitVec 32 := 2#32
  let v786 : BitVec 32 := Scalar.addi v785 c2_i32_591
  let c512_i32_614 : BitVec 32 := 512#32
  let v808 : BitVec 32 := Scalar.muli v786 c512_i32_614
  v808
def k0_mult8 (i : grid0.Coords) (k0_t1 : Fin (k0_t1_loop i).trips) : BitVec 32 :=
  let c4_i32_657 : BitVec 32 := 4#32
  let c0_i32_58 : BitVec 32 := 0#32
  let c1_i32_60 : BitVec 32 := 1#32
  let arg11 : BitVec 32 := Scf.iv c0_i32_58 c1_i32_60 k0_t1
  let v866 : BitVec 32 := Scalar.muli c4_i32_657 arg11
  let c3_i32_658 : BitVec 32 := 3#32
  let v867 : BitVec 32 := Scalar.addi v866 c3_i32_658
  let c1_i32_659 : BitVec 32 := 1#32
  let v868 : BitVec 32 := Scalar.addi v867 c1_i32_659
  let c512_i32_660 : BitVec 32 := 512#32
  let v869 : BitVec 32 := Scalar.muli v868 c512_i32_660
  v869
def k0_mult9 (i : grid0.Coords) (k0_t1 : Fin (k0_t1_loop i).trips) : BitVec 32 :=
  let c4_i32_657 : BitVec 32 := 4#32
  let c0_i32_58 : BitVec 32 := 0#32
  let c1_i32_60 : BitVec 32 := 1#32
  let arg11 : BitVec 32 := Scf.iv c0_i32_58 c1_i32_60 k0_t1
  let v866 : BitVec 32 := Scalar.muli c4_i32_657 arg11
  let c3_i32_658 : BitVec 32 := 3#32
  let v867 : BitVec 32 := Scalar.addi v866 c3_i32_658
  let c512_i32_681 : BitVec 32 := 512#32
  let v889 : BitVec 32 := Scalar.muli v867 c512_i32_681
  v889
@[reducible] def k0_t2_loop (i : grid0.Coords) : Scf.Loop 32 :=
  let c0_i32_58 : BitVec 32 := 0#32
  let arg2 : BitVec 32 := BitVec.ofNat 32 (i 2).val
  let c4_i32 : BitVec 32 := 4#32
  let v56 : BitVec 32 := Scalar.muli arg2 c4_i32
  let c0_i32_51 : BitVec 32 := 0#32
  let v77 : BitVec 1 := Scalar.cmpi .sgt v56 c0_i32_51
  let v78 : BitVec 32 := Scalar.extui v77
  let c0_i32_52 : BitVec 32 := 0#32
  let v79 : BitVec 1 := Scalar.cmpi .slt v56 c0_i32_52
  let v80 : BitVec 32 := Scalar.extui v79
  let v81 : BitVec 32 := Scalar.subi v78 v80
  let c4_i32_50 : BitVec 32 := 4#32
  let c0_i32_53 : BitVec 32 := 0#32
  let v82 : BitVec 1 := Scalar.cmpi .sgt c4_i32_50 c0_i32_53
  let v83 : BitVec 32 := Scalar.extui v82
  let c0_i32_54 : BitVec 32 := 0#32
  let v84 : BitVec 1 := Scalar.cmpi .slt c4_i32_50 c0_i32_54
  let v85 : BitVec 32 := Scalar.extui v84
  let v86 : BitVec 32 := Scalar.subi v83 v85
  let v87 : BitVec 1 := Scalar.cmpi .ne v81 v86
  let v88 : BitVec 32 := Scalar.remsi v56 c4_i32_50
  let c0_i32_55 : BitVec 32 := 0#32
  let v89 : BitVec 1 := Scalar.cmpi .ne v88 c0_i32_55
  let v90 : BitVec 1 := Scalar.andi v87 v89
  let v76 : BitVec 32 := Scalar.divsi v56 c4_i32_50
  let c1_i32_56 : BitVec 32 := 1#32
  let v91 : BitVec 32 := Scalar.subi v76 c1_i32_56
  let v92 : BitVec 32 := Scalar.select v90 v91 v76
  let v93 : BitVec 32 := Scalar.subi v92 c0_i32_58
  let c1_i32_59 : BitVec 32 := 1#32
  let v95 : BitVec 32 := Scalar.divsi v93 c1_i32_59
  let v96 : BitVec 32 := Scalar.muli v95 c1_i32_59
  let v97 : BitVec 32 := Scalar.addi c0_i32_58 v96
  let v94 : BitVec 32 := Scalar.addi c0_i32_58 v93
  let c1_i32_61 : BitVec 32 := 1#32
  ⟨v97, v94, c1_i32_61⟩
def k0_mult10 (i : grid0.Coords) (k0_t2 : Fin (k0_t2_loop i).trips) : BitVec 32 :=
  let c4_i32_456 : BitVec 32 := 4#32
  let c0_i32_58 : BitVec 32 := 0#32
  let arg2 : BitVec 32 := BitVec.ofNat 32 (i 2).val
  let c4_i32 : BitVec 32 := 4#32
  let v56 : BitVec 32 := Scalar.muli arg2 c4_i32
  let c0_i32_51 : BitVec 32 := 0#32
  let v77 : BitVec 1 := Scalar.cmpi .sgt v56 c0_i32_51
  let v78 : BitVec 32 := Scalar.extui v77
  let c0_i32_52 : BitVec 32 := 0#32
  let v79 : BitVec 1 := Scalar.cmpi .slt v56 c0_i32_52
  let v80 : BitVec 32 := Scalar.extui v79
  let v81 : BitVec 32 := Scalar.subi v78 v80
  let c4_i32_50 : BitVec 32 := 4#32
  let c0_i32_53 : BitVec 32 := 0#32
  let v82 : BitVec 1 := Scalar.cmpi .sgt c4_i32_50 c0_i32_53
  let v83 : BitVec 32 := Scalar.extui v82
  let c0_i32_54 : BitVec 32 := 0#32
  let v84 : BitVec 1 := Scalar.cmpi .slt c4_i32_50 c0_i32_54
  let v85 : BitVec 32 := Scalar.extui v84
  let v86 : BitVec 32 := Scalar.subi v83 v85
  let v87 : BitVec 1 := Scalar.cmpi .ne v81 v86
  let v88 : BitVec 32 := Scalar.remsi v56 c4_i32_50
  let c0_i32_55 : BitVec 32 := 0#32
  let v89 : BitVec 1 := Scalar.cmpi .ne v88 c0_i32_55
  let v90 : BitVec 1 := Scalar.andi v87 v89
  let v76 : BitVec 32 := Scalar.divsi v56 c4_i32_50
  let c1_i32_56 : BitVec 32 := 1#32
  let v91 : BitVec 32 := Scalar.subi v76 c1_i32_56
  let v92 : BitVec 32 := Scalar.select v90 v91 v76
  let v93 : BitVec 32 := Scalar.subi v92 c0_i32_58
  let c1_i32_59 : BitVec 32 := 1#32
  let v95 : BitVec 32 := Scalar.divsi v93 c1_i32_59
  let v96 : BitVec 32 := Scalar.muli v95 c1_i32_59
  let v97 : BitVec 32 := Scalar.addi c0_i32_58 v96
  let c1_i32_61 : BitVec 32 := 1#32
  let arg11 : BitVec 32 := Scf.iv v97 c1_i32_61 k0_t2
  let v623 : BitVec 32 := Scalar.muli c4_i32_456 arg11
  let c0_i32_457 : BitVec 32 := 0#32
  let v624 : BitVec 32 := Scalar.addi v623 c0_i32_457
  let c1_i32_458 : BitVec 32 := 1#32
  let v625 : BitVec 32 := Scalar.addi v624 c1_i32_458
  let c512_i32_459 : BitVec 32 := 512#32
  let v626 : BitVec 32 := Scalar.muli v625 c512_i32_459
  v626
def k0_off4 (i : grid0.Coords) (k0_t2 : Fin (k0_t2_loop i).trips) (c0_i32_457 : BitVec 32) : Fin 3 → Nat :=
  let c0_460 : Index := 0#32
  let c4_i32_456 : BitVec 32 := 4#32
  let c0_i32_58 : BitVec 32 := 0#32
  let arg2 : BitVec 32 := BitVec.ofNat 32 (i 2).val
  let c4_i32 : BitVec 32 := 4#32
  let v56 : BitVec 32 := Scalar.muli arg2 c4_i32
  let c0_i32_51 : BitVec 32 := 0#32
  let v77 : BitVec 1 := Scalar.cmpi .sgt v56 c0_i32_51
  let v78 : BitVec 32 := Scalar.extui v77
  let c0_i32_52 : BitVec 32 := 0#32
  let v79 : BitVec 1 := Scalar.cmpi .slt v56 c0_i32_52
  let v80 : BitVec 32 := Scalar.extui v79
  let v81 : BitVec 32 := Scalar.subi v78 v80
  let c4_i32_50 : BitVec 32 := 4#32
  let c0_i32_53 : BitVec 32 := 0#32
  let v82 : BitVec 1 := Scalar.cmpi .sgt c4_i32_50 c0_i32_53
  let v83 : BitVec 32 := Scalar.extui v82
  let c0_i32_54 : BitVec 32 := 0#32
  let v84 : BitVec 1 := Scalar.cmpi .slt c4_i32_50 c0_i32_54
  let v85 : BitVec 32 := Scalar.extui v84
  let v86 : BitVec 32 := Scalar.subi v83 v85
  let v87 : BitVec 1 := Scalar.cmpi .ne v81 v86
  let v88 : BitVec 32 := Scalar.remsi v56 c4_i32_50
  let c0_i32_55 : BitVec 32 := 0#32
  let v89 : BitVec 1 := Scalar.cmpi .ne v88 c0_i32_55
  let v90 : BitVec 1 := Scalar.andi v87 v89
  let v76 : BitVec 32 := Scalar.divsi v56 c4_i32_50
  let c1_i32_56 : BitVec 32 := 1#32
  let v91 : BitVec 32 := Scalar.subi v76 c1_i32_56
  let v92 : BitVec 32 := Scalar.select v90 v91 v76
  let v93 : BitVec 32 := Scalar.subi v92 c0_i32_58
  let c1_i32_59 : BitVec 32 := 1#32
  let v95 : BitVec 32 := Scalar.divsi v93 c1_i32_59
  let v96 : BitVec 32 := Scalar.muli v95 c1_i32_59
  let v97 : BitVec 32 := Scalar.addi c0_i32_58 v96
  let c1_i32_61 : BitVec 32 := 1#32
  let arg11 : BitVec 32 := Scf.iv v97 c1_i32_61 k0_t2
  let v623 : BitVec 32 := Scalar.muli c4_i32_456 arg11
  let v624 : BitVec 32 := Scalar.addi v623 c0_i32_457
  let c1_i32_458 : BitVec 32 := 1#32
  let v625 : BitVec 32 := Scalar.addi v624 c1_i32_458
  let c512_i32_459 : BitVec 32 := 512#32
  let v626 : BitVec 32 := Scalar.muli v625 c512_i32_459
  let v627 : BitVec 32 := v626
  let v628 : Index := Scalar.indexCast v627
  let c0_461 : Index := 0#32
  ![0, v628.toNat, 0]
def k0_mult11 (i : grid0.Coords) (k0_t2 : Fin (k0_t2_loop i).trips) : BitVec 32 :=
  let c4_i32_456 : BitVec 32 := 4#32
  let c0_i32_58 : BitVec 32 := 0#32
  let arg2 : BitVec 32 := BitVec.ofNat 32 (i 2).val
  let c4_i32 : BitVec 32 := 4#32
  let v56 : BitVec 32 := Scalar.muli arg2 c4_i32
  let c0_i32_51 : BitVec 32 := 0#32
  let v77 : BitVec 1 := Scalar.cmpi .sgt v56 c0_i32_51
  let v78 : BitVec 32 := Scalar.extui v77
  let c0_i32_52 : BitVec 32 := 0#32
  let v79 : BitVec 1 := Scalar.cmpi .slt v56 c0_i32_52
  let v80 : BitVec 32 := Scalar.extui v79
  let v81 : BitVec 32 := Scalar.subi v78 v80
  let c4_i32_50 : BitVec 32 := 4#32
  let c0_i32_53 : BitVec 32 := 0#32
  let v82 : BitVec 1 := Scalar.cmpi .sgt c4_i32_50 c0_i32_53
  let v83 : BitVec 32 := Scalar.extui v82
  let c0_i32_54 : BitVec 32 := 0#32
  let v84 : BitVec 1 := Scalar.cmpi .slt c4_i32_50 c0_i32_54
  let v85 : BitVec 32 := Scalar.extui v84
  let v86 : BitVec 32 := Scalar.subi v83 v85
  let v87 : BitVec 1 := Scalar.cmpi .ne v81 v86
  let v88 : BitVec 32 := Scalar.remsi v56 c4_i32_50
  let c0_i32_55 : BitVec 32 := 0#32
  let v89 : BitVec 1 := Scalar.cmpi .ne v88 c0_i32_55
  let v90 : BitVec 1 := Scalar.andi v87 v89
  let v76 : BitVec 32 := Scalar.divsi v56 c4_i32_50
  let c1_i32_56 : BitVec 32 := 1#32
  let v91 : BitVec 32 := Scalar.subi v76 c1_i32_56
  let v92 : BitVec 32 := Scalar.select v90 v91 v76
  let v93 : BitVec 32 := Scalar.subi v92 c0_i32_58
  let c1_i32_59 : BitVec 32 := 1#32
  let v95 : BitVec 32 := Scalar.divsi v93 c1_i32_59
  let v96 : BitVec 32 := Scalar.muli v95 c1_i32_59
  let v97 : BitVec 32 := Scalar.addi c0_i32_58 v96
  let c1_i32_61 : BitVec 32 := 1#32
  let arg11 : BitVec 32 := Scf.iv v97 c1_i32_61 k0_t2
  let v623 : BitVec 32 := Scalar.muli c4_i32_456 arg11
  let c0_i32_457 : BitVec 32 := 0#32
  let v624 : BitVec 32 := Scalar.addi v623 c0_i32_457
  let c512_i32_480 : BitVec 32 := 512#32
  let v646 : BitVec 32 := Scalar.muli v624 c512_i32_480
  v646
def k0_off5 (i : grid0.Coords) (k0_t2 : Fin (k0_t2_loop i).trips) (c0_i32_457 : BitVec 32) : Fin 4 → Nat :=
  let c0_492 : Index := 0#32
  let c0_493 : Index := 0#32
  let c0_494 : Index := 0#32
  let c4_i32_456 : BitVec 32 := 4#32
  let c0_i32_58 : BitVec 32 := 0#32
  let arg2 : BitVec 32 := BitVec.ofNat 32 (i 2).val
  let c4_i32 : BitVec 32 := 4#32
  let v56 : BitVec 32 := Scalar.muli arg2 c4_i32
  let c0_i32_51 : BitVec 32 := 0#32
  let v77 : BitVec 1 := Scalar.cmpi .sgt v56 c0_i32_51
  let v78 : BitVec 32 := Scalar.extui v77
  let c0_i32_52 : BitVec 32 := 0#32
  let v79 : BitVec 1 := Scalar.cmpi .slt v56 c0_i32_52
  let v80 : BitVec 32 := Scalar.extui v79
  let v81 : BitVec 32 := Scalar.subi v78 v80
  let c4_i32_50 : BitVec 32 := 4#32
  let c0_i32_53 : BitVec 32 := 0#32
  let v82 : BitVec 1 := Scalar.cmpi .sgt c4_i32_50 c0_i32_53
  let v83 : BitVec 32 := Scalar.extui v82
  let c0_i32_54 : BitVec 32 := 0#32
  let v84 : BitVec 1 := Scalar.cmpi .slt c4_i32_50 c0_i32_54
  let v85 : BitVec 32 := Scalar.extui v84
  let v86 : BitVec 32 := Scalar.subi v83 v85
  let v87 : BitVec 1 := Scalar.cmpi .ne v81 v86
  let v88 : BitVec 32 := Scalar.remsi v56 c4_i32_50
  let c0_i32_55 : BitVec 32 := 0#32
  let v89 : BitVec 1 := Scalar.cmpi .ne v88 c0_i32_55
  let v90 : BitVec 1 := Scalar.andi v87 v89
  let v76 : BitVec 32 := Scalar.divsi v56 c4_i32_50
  let c1_i32_56 : BitVec 32 := 1#32
  let v91 : BitVec 32 := Scalar.subi v76 c1_i32_56
  let v92 : BitVec 32 := Scalar.select v90 v91 v76
  let v93 : BitVec 32 := Scalar.subi v92 c0_i32_58
  let c1_i32_59 : BitVec 32 := 1#32
  let v95 : BitVec 32 := Scalar.divsi v93 c1_i32_59
  let v96 : BitVec 32 := Scalar.muli v95 c1_i32_59
  let v97 : BitVec 32 := Scalar.addi c0_i32_58 v96
  let c1_i32_61 : BitVec 32 := 1#32
  let arg11 : BitVec 32 := Scf.iv v97 c1_i32_61 k0_t2
  let v623 : BitVec 32 := Scalar.muli c4_i32_456 arg11
  let v624 : BitVec 32 := Scalar.addi v623 c0_i32_457
  let c512_i32_480 : BitVec 32 := 512#32
  let v646 : BitVec 32 := Scalar.muli v624 c512_i32_480
  let v647 : BitVec 32 := v646
  let v664 : Index := Scalar.indexCast v647
  ![0, 0, 0, v664.toNat]
def k0_off6 (i : grid0.Coords) (k0_t2 : Fin (k0_t2_loop i).trips) (c0_i32_457 : BitVec 32) : Fin 4 → Nat :=
  let c0_513 : Index := 0#32
  let c1_514 : Index := 1#32
  let c0_515 : Index := 0#32
  let c4_i32_456 : BitVec 32 := 4#32
  let c0_i32_58 : BitVec 32 := 0#32
  let arg2 : BitVec 32 := BitVec.ofNat 32 (i 2).val
  let c4_i32 : BitVec 32 := 4#32
  let v56 : BitVec 32 := Scalar.muli arg2 c4_i32
  let c0_i32_51 : BitVec 32 := 0#32
  let v77 : BitVec 1 := Scalar.cmpi .sgt v56 c0_i32_51
  let v78 : BitVec 32 := Scalar.extui v77
  let c0_i32_52 : BitVec 32 := 0#32
  let v79 : BitVec 1 := Scalar.cmpi .slt v56 c0_i32_52
  let v80 : BitVec 32 := Scalar.extui v79
  let v81 : BitVec 32 := Scalar.subi v78 v80
  let c4_i32_50 : BitVec 32 := 4#32
  let c0_i32_53 : BitVec 32 := 0#32
  let v82 : BitVec 1 := Scalar.cmpi .sgt c4_i32_50 c0_i32_53
  let v83 : BitVec 32 := Scalar.extui v82
  let c0_i32_54 : BitVec 32 := 0#32
  let v84 : BitVec 1 := Scalar.cmpi .slt c4_i32_50 c0_i32_54
  let v85 : BitVec 32 := Scalar.extui v84
  let v86 : BitVec 32 := Scalar.subi v83 v85
  let v87 : BitVec 1 := Scalar.cmpi .ne v81 v86
  let v88 : BitVec 32 := Scalar.remsi v56 c4_i32_50
  let c0_i32_55 : BitVec 32 := 0#32
  let v89 : BitVec 1 := Scalar.cmpi .ne v88 c0_i32_55
  let v90 : BitVec 1 := Scalar.andi v87 v89
  let v76 : BitVec 32 := Scalar.divsi v56 c4_i32_50
  let c1_i32_56 : BitVec 32 := 1#32
  let v91 : BitVec 32 := Scalar.subi v76 c1_i32_56
  let v92 : BitVec 32 := Scalar.select v90 v91 v76
  let v93 : BitVec 32 := Scalar.subi v92 c0_i32_58
  let c1_i32_59 : BitVec 32 := 1#32
  let v95 : BitVec 32 := Scalar.divsi v93 c1_i32_59
  let v96 : BitVec 32 := Scalar.muli v95 c1_i32_59
  let v97 : BitVec 32 := Scalar.addi c0_i32_58 v96
  let c1_i32_61 : BitVec 32 := 1#32
  let arg11 : BitVec 32 := Scf.iv v97 c1_i32_61 k0_t2
  let v623 : BitVec 32 := Scalar.muli c4_i32_456 arg11
  let v624 : BitVec 32 := Scalar.addi v623 c0_i32_457
  let c512_i32_480 : BitVec 32 := 512#32
  let v646 : BitVec 32 := Scalar.muli v624 c512_i32_480
  let v647 : BitVec 32 := v646
  let v692 : Index := Scalar.indexCast v647
  ![0, 1, 0, v692.toNat]
def k0_mult12 (i : grid0.Coords) (k0_t2 : Fin (k0_t2_loop i).trips) : BitVec 32 :=
  let c4_i32_523 : BitVec 32 := 4#32
  let c0_i32_58 : BitVec 32 := 0#32
  let arg2 : BitVec 32 := BitVec.ofNat 32 (i 2).val
  let c4_i32 : BitVec 32 := 4#32
  let v56 : BitVec 32 := Scalar.muli arg2 c4_i32
  let c0_i32_51 : BitVec 32 := 0#32
  let v77 : BitVec 1 := Scalar.cmpi .sgt v56 c0_i32_51
  let v78 : BitVec 32 := Scalar.extui v77
  let c0_i32_52 : BitVec 32 := 0#32
  let v79 : BitVec 1 := Scalar.cmpi .slt v56 c0_i32_52
  let v80 : BitVec 32 := Scalar.extui v79
  let v81 : BitVec 32 := Scalar.subi v78 v80
  let c4_i32_50 : BitVec 32 := 4#32
  let c0_i32_53 : BitVec 32 := 0#32
  let v82 : BitVec 1 := Scalar.cmpi .sgt c4_i32_50 c0_i32_53
  let v83 : BitVec 32 := Scalar.extui v82
  let c0_i32_54 : BitVec 32 := 0#32
  let v84 : BitVec 1 := Scalar.cmpi .slt c4_i32_50 c0_i32_54
  let v85 : BitVec 32 := Scalar.extui v84
  let v86 : BitVec 32 := Scalar.subi v83 v85
  let v87 : BitVec 1 := Scalar.cmpi .ne v81 v86
  let v88 : BitVec 32 := Scalar.remsi v56 c4_i32_50
  let c0_i32_55 : BitVec 32 := 0#32
  let v89 : BitVec 1 := Scalar.cmpi .ne v88 c0_i32_55
  let v90 : BitVec 1 := Scalar.andi v87 v89
  let v76 : BitVec 32 := Scalar.divsi v56 c4_i32_50
  let c1_i32_56 : BitVec 32 := 1#32
  let v91 : BitVec 32 := Scalar.subi v76 c1_i32_56
  let v92 : BitVec 32 := Scalar.select v90 v91 v76
  let v93 : BitVec 32 := Scalar.subi v92 c0_i32_58
  let c1_i32_59 : BitVec 32 := 1#32
  let v95 : BitVec 32 := Scalar.divsi v93 c1_i32_59
  let v96 : BitVec 32 := Scalar.muli v95 c1_i32_59
  let v97 : BitVec 32 := Scalar.addi c0_i32_58 v96
  let c1_i32_61 : BitVec 32 := 1#32
  let arg11 : BitVec 32 := Scf.iv v97 c1_i32_61 k0_t2
  let v704 : BitVec 32 := Scalar.muli c4_i32_523 arg11
  let c1_i32_524 : BitVec 32 := 1#32
  let v705 : BitVec 32 := Scalar.addi v704 c1_i32_524
  let c1_i32_525 : BitVec 32 := 1#32
  let v706 : BitVec 32 := Scalar.addi v705 c1_i32_525
  let c512_i32_526 : BitVec 32 := 512#32
  let v707 : BitVec 32 := Scalar.muli v706 c512_i32_526
  v707
def k0_mult13 (i : grid0.Coords) (k0_t2 : Fin (k0_t2_loop i).trips) : BitVec 32 :=
  let c4_i32_523 : BitVec 32 := 4#32
  let c0_i32_58 : BitVec 32 := 0#32
  let arg2 : BitVec 32 := BitVec.ofNat 32 (i 2).val
  let c4_i32 : BitVec 32 := 4#32
  let v56 : BitVec 32 := Scalar.muli arg2 c4_i32
  let c0_i32_51 : BitVec 32 := 0#32
  let v77 : BitVec 1 := Scalar.cmpi .sgt v56 c0_i32_51
  let v78 : BitVec 32 := Scalar.extui v77
  let c0_i32_52 : BitVec 32 := 0#32
  let v79 : BitVec 1 := Scalar.cmpi .slt v56 c0_i32_52
  let v80 : BitVec 32 := Scalar.extui v79
  let v81 : BitVec 32 := Scalar.subi v78 v80
  let c4_i32_50 : BitVec 32 := 4#32
  let c0_i32_53 : BitVec 32 := 0#32
  let v82 : BitVec 1 := Scalar.cmpi .sgt c4_i32_50 c0_i32_53
  let v83 : BitVec 32 := Scalar.extui v82
  let c0_i32_54 : BitVec 32 := 0#32
  let v84 : BitVec 1 := Scalar.cmpi .slt c4_i32_50 c0_i32_54
  let v85 : BitVec 32 := Scalar.extui v84
  let v86 : BitVec 32 := Scalar.subi v83 v85
  let v87 : BitVec 1 := Scalar.cmpi .ne v81 v86
  let v88 : BitVec 32 := Scalar.remsi v56 c4_i32_50
  let c0_i32_55 : BitVec 32 := 0#32
  let v89 : BitVec 1 := Scalar.cmpi .ne v88 c0_i32_55
  let v90 : BitVec 1 := Scalar.andi v87 v89
  let v76 : BitVec 32 := Scalar.divsi v56 c4_i32_50
  let c1_i32_56 : BitVec 32 := 1#32
  let v91 : BitVec 32 := Scalar.subi v76 c1_i32_56
  let v92 : BitVec 32 := Scalar.select v90 v91 v76
  let v93 : BitVec 32 := Scalar.subi v92 c0_i32_58
  let c1_i32_59 : BitVec 32 := 1#32
  let v95 : BitVec 32 := Scalar.divsi v93 c1_i32_59
  let v96 : BitVec 32 := Scalar.muli v95 c1_i32_59
  let v97 : BitVec 32 := Scalar.addi c0_i32_58 v96
  let c1_i32_61 : BitVec 32 := 1#32
  let arg11 : BitVec 32 := Scf.iv v97 c1_i32_61 k0_t2
  let v704 : BitVec 32 := Scalar.muli c4_i32_523 arg11
  let c1_i32_524 : BitVec 32 := 1#32
  let v705 : BitVec 32 := Scalar.addi v704 c1_i32_524
  let c512_i32_547 : BitVec 32 := 512#32
  let v727 : BitVec 32 := Scalar.muli v705 c512_i32_547
  v727
def k0_mult14 (i : grid0.Coords) (k0_t2 : Fin (k0_t2_loop i).trips) : BitVec 32 :=
  let c4_i32_590 : BitVec 32 := 4#32
  let c0_i32_58 : BitVec 32 := 0#32
  let arg2 : BitVec 32 := BitVec.ofNat 32 (i 2).val
  let c4_i32 : BitVec 32 := 4#32
  let v56 : BitVec 32 := Scalar.muli arg2 c4_i32
  let c0_i32_51 : BitVec 32 := 0#32
  let v77 : BitVec 1 := Scalar.cmpi .sgt v56 c0_i32_51
  let v78 : BitVec 32 := Scalar.extui v77
  let c0_i32_52 : BitVec 32 := 0#32
  let v79 : BitVec 1 := Scalar.cmpi .slt v56 c0_i32_52
  let v80 : BitVec 32 := Scalar.extui v79
  let v81 : BitVec 32 := Scalar.subi v78 v80
  let c4_i32_50 : BitVec 32 := 4#32
  let c0_i32_53 : BitVec 32 := 0#32
  let v82 : BitVec 1 := Scalar.cmpi .sgt c4_i32_50 c0_i32_53
  let v83 : BitVec 32 := Scalar.extui v82
  let c0_i32_54 : BitVec 32 := 0#32
  let v84 : BitVec 1 := Scalar.cmpi .slt c4_i32_50 c0_i32_54
  let v85 : BitVec 32 := Scalar.extui v84
  let v86 : BitVec 32 := Scalar.subi v83 v85
  let v87 : BitVec 1 := Scalar.cmpi .ne v81 v86
  let v88 : BitVec 32 := Scalar.remsi v56 c4_i32_50
  let c0_i32_55 : BitVec 32 := 0#32
  let v89 : BitVec 1 := Scalar.cmpi .ne v88 c0_i32_55
  let v90 : BitVec 1 := Scalar.andi v87 v89
  let v76 : BitVec 32 := Scalar.divsi v56 c4_i32_50
  let c1_i32_56 : BitVec 32 := 1#32
  let v91 : BitVec 32 := Scalar.subi v76 c1_i32_56
  let v92 : BitVec 32 := Scalar.select v90 v91 v76
  let v93 : BitVec 32 := Scalar.subi v92 c0_i32_58
  let c1_i32_59 : BitVec 32 := 1#32
  let v95 : BitVec 32 := Scalar.divsi v93 c1_i32_59
  let v96 : BitVec 32 := Scalar.muli v95 c1_i32_59
  let v97 : BitVec 32 := Scalar.addi c0_i32_58 v96
  let c1_i32_61 : BitVec 32 := 1#32
  let arg11 : BitVec 32 := Scf.iv v97 c1_i32_61 k0_t2
  let v785 : BitVec 32 := Scalar.muli c4_i32_590 arg11
  let c2_i32_591 : BitVec 32 := 2#32
  let v786 : BitVec 32 := Scalar.addi v785 c2_i32_591
  let c1_i32_592 : BitVec 32 := 1#32
  let v787 : BitVec 32 := Scalar.addi v786 c1_i32_592
  let c512_i32_593 : BitVec 32 := 512#32
  let v788 : BitVec 32 := Scalar.muli v787 c512_i32_593
  v788
def k0_mult15 (i : grid0.Coords) (k0_t2 : Fin (k0_t2_loop i).trips) : BitVec 32 :=
  let c4_i32_590 : BitVec 32 := 4#32
  let c0_i32_58 : BitVec 32 := 0#32
  let arg2 : BitVec 32 := BitVec.ofNat 32 (i 2).val
  let c4_i32 : BitVec 32 := 4#32
  let v56 : BitVec 32 := Scalar.muli arg2 c4_i32
  let c0_i32_51 : BitVec 32 := 0#32
  let v77 : BitVec 1 := Scalar.cmpi .sgt v56 c0_i32_51
  let v78 : BitVec 32 := Scalar.extui v77
  let c0_i32_52 : BitVec 32 := 0#32
  let v79 : BitVec 1 := Scalar.cmpi .slt v56 c0_i32_52
  let v80 : BitVec 32 := Scalar.extui v79
  let v81 : BitVec 32 := Scalar.subi v78 v80
  let c4_i32_50 : BitVec 32 := 4#32
  let c0_i32_53 : BitVec 32 := 0#32
  let v82 : BitVec 1 := Scalar.cmpi .sgt c4_i32_50 c0_i32_53
  let v83 : BitVec 32 := Scalar.extui v82
  let c0_i32_54 : BitVec 32 := 0#32
  let v84 : BitVec 1 := Scalar.cmpi .slt c4_i32_50 c0_i32_54
  let v85 : BitVec 32 := Scalar.extui v84
  let v86 : BitVec 32 := Scalar.subi v83 v85
  let v87 : BitVec 1 := Scalar.cmpi .ne v81 v86
  let v88 : BitVec 32 := Scalar.remsi v56 c4_i32_50
  let c0_i32_55 : BitVec 32 := 0#32
  let v89 : BitVec 1 := Scalar.cmpi .ne v88 c0_i32_55
  let v90 : BitVec 1 := Scalar.andi v87 v89
  let v76 : BitVec 32 := Scalar.divsi v56 c4_i32_50
  let c1_i32_56 : BitVec 32 := 1#32
  let v91 : BitVec 32 := Scalar.subi v76 c1_i32_56
  let v92 : BitVec 32 := Scalar.select v90 v91 v76
  let v93 : BitVec 32 := Scalar.subi v92 c0_i32_58
  let c1_i32_59 : BitVec 32 := 1#32
  let v95 : BitVec 32 := Scalar.divsi v93 c1_i32_59
  let v96 : BitVec 32 := Scalar.muli v95 c1_i32_59
  let v97 : BitVec 32 := Scalar.addi c0_i32_58 v96
  let c1_i32_61 : BitVec 32 := 1#32
  let arg11 : BitVec 32 := Scf.iv v97 c1_i32_61 k0_t2
  let v785 : BitVec 32 := Scalar.muli c4_i32_590 arg11
  let c2_i32_591 : BitVec 32 := 2#32
  let v786 : BitVec 32 := Scalar.addi v785 c2_i32_591
  let c512_i32_614 : BitVec 32 := 512#32
  let v808 : BitVec 32 := Scalar.muli v786 c512_i32_614
  v808
def k0_mult16 (i : grid0.Coords) (k0_t2 : Fin (k0_t2_loop i).trips) : BitVec 32 :=
  let c4_i32_657 : BitVec 32 := 4#32
  let c0_i32_58 : BitVec 32 := 0#32
  let arg2 : BitVec 32 := BitVec.ofNat 32 (i 2).val
  let c4_i32 : BitVec 32 := 4#32
  let v56 : BitVec 32 := Scalar.muli arg2 c4_i32
  let c0_i32_51 : BitVec 32 := 0#32
  let v77 : BitVec 1 := Scalar.cmpi .sgt v56 c0_i32_51
  let v78 : BitVec 32 := Scalar.extui v77
  let c0_i32_52 : BitVec 32 := 0#32
  let v79 : BitVec 1 := Scalar.cmpi .slt v56 c0_i32_52
  let v80 : BitVec 32 := Scalar.extui v79
  let v81 : BitVec 32 := Scalar.subi v78 v80
  let c4_i32_50 : BitVec 32 := 4#32
  let c0_i32_53 : BitVec 32 := 0#32
  let v82 : BitVec 1 := Scalar.cmpi .sgt c4_i32_50 c0_i32_53
  let v83 : BitVec 32 := Scalar.extui v82
  let c0_i32_54 : BitVec 32 := 0#32
  let v84 : BitVec 1 := Scalar.cmpi .slt c4_i32_50 c0_i32_54
  let v85 : BitVec 32 := Scalar.extui v84
  let v86 : BitVec 32 := Scalar.subi v83 v85
  let v87 : BitVec 1 := Scalar.cmpi .ne v81 v86
  let v88 : BitVec 32 := Scalar.remsi v56 c4_i32_50
  let c0_i32_55 : BitVec 32 := 0#32
  let v89 : BitVec 1 := Scalar.cmpi .ne v88 c0_i32_55
  let v90 : BitVec 1 := Scalar.andi v87 v89
  let v76 : BitVec 32 := Scalar.divsi v56 c4_i32_50
  let c1_i32_56 : BitVec 32 := 1#32
  let v91 : BitVec 32 := Scalar.subi v76 c1_i32_56
  let v92 : BitVec 32 := Scalar.select v90 v91 v76
  let v93 : BitVec 32 := Scalar.subi v92 c0_i32_58
  let c1_i32_59 : BitVec 32 := 1#32
  let v95 : BitVec 32 := Scalar.divsi v93 c1_i32_59
  let v96 : BitVec 32 := Scalar.muli v95 c1_i32_59
  let v97 : BitVec 32 := Scalar.addi c0_i32_58 v96
  let c1_i32_61 : BitVec 32 := 1#32
  let arg11 : BitVec 32 := Scf.iv v97 c1_i32_61 k0_t2
  let v866 : BitVec 32 := Scalar.muli c4_i32_657 arg11
  let c3_i32_658 : BitVec 32 := 3#32
  let v867 : BitVec 32 := Scalar.addi v866 c3_i32_658
  let c1_i32_659 : BitVec 32 := 1#32
  let v868 : BitVec 32 := Scalar.addi v867 c1_i32_659
  let c512_i32_660 : BitVec 32 := 512#32
  let v869 : BitVec 32 := Scalar.muli v868 c512_i32_660
  v869
def k0_mult17 (i : grid0.Coords) (k0_t2 : Fin (k0_t2_loop i).trips) : BitVec 32 :=
  let c4_i32_657 : BitVec 32 := 4#32
  let c0_i32_58 : BitVec 32 := 0#32
  let arg2 : BitVec 32 := BitVec.ofNat 32 (i 2).val
  let c4_i32 : BitVec 32 := 4#32
  let v56 : BitVec 32 := Scalar.muli arg2 c4_i32
  let c0_i32_51 : BitVec 32 := 0#32
  let v77 : BitVec 1 := Scalar.cmpi .sgt v56 c0_i32_51
  let v78 : BitVec 32 := Scalar.extui v77
  let c0_i32_52 : BitVec 32 := 0#32
  let v79 : BitVec 1 := Scalar.cmpi .slt v56 c0_i32_52
  let v80 : BitVec 32 := Scalar.extui v79
  let v81 : BitVec 32 := Scalar.subi v78 v80
  let c4_i32_50 : BitVec 32 := 4#32
  let c0_i32_53 : BitVec 32 := 0#32
  let v82 : BitVec 1 := Scalar.cmpi .sgt c4_i32_50 c0_i32_53
  let v83 : BitVec 32 := Scalar.extui v82
  let c0_i32_54 : BitVec 32 := 0#32
  let v84 : BitVec 1 := Scalar.cmpi .slt c4_i32_50 c0_i32_54
  let v85 : BitVec 32 := Scalar.extui v84
  let v86 : BitVec 32 := Scalar.subi v83 v85
  let v87 : BitVec 1 := Scalar.cmpi .ne v81 v86
  let v88 : BitVec 32 := Scalar.remsi v56 c4_i32_50
  let c0_i32_55 : BitVec 32 := 0#32
  let v89 : BitVec 1 := Scalar.cmpi .ne v88 c0_i32_55
  let v90 : BitVec 1 := Scalar.andi v87 v89
  let v76 : BitVec 32 := Scalar.divsi v56 c4_i32_50
  let c1_i32_56 : BitVec 32 := 1#32
  let v91 : BitVec 32 := Scalar.subi v76 c1_i32_56
  let v92 : BitVec 32 := Scalar.select v90 v91 v76
  let v93 : BitVec 32 := Scalar.subi v92 c0_i32_58
  let c1_i32_59 : BitVec 32 := 1#32
  let v95 : BitVec 32 := Scalar.divsi v93 c1_i32_59
  let v96 : BitVec 32 := Scalar.muli v95 c1_i32_59
  let v97 : BitVec 32 := Scalar.addi c0_i32_58 v96
  let c1_i32_61 : BitVec 32 := 1#32
  let arg11 : BitVec 32 := Scf.iv v97 c1_i32_61 k0_t2
  let v866 : BitVec 32 := Scalar.muli c4_i32_657 arg11
  let c3_i32_658 : BitVec 32 := 3#32
  let v867 : BitVec 32 := Scalar.addi v866 c3_i32_658
  let c512_i32_681 : BitVec 32 := 512#32
  let v889 : BitVec 32 := Scalar.muli v867 c512_i32_681
  v889
def k0_mult18 (i : grid0.Coords) : BitVec 32 :=
  let arg2 : BitVec 32 := BitVec.ofNat 32 (i 2).val
  let c4_i32 : BitVec 32 := 4#32
  let v56 : BitVec 32 := Scalar.muli arg2 c4_i32
  let c0_i32_62 : BitVec 32 := 0#32
  let v98 : BitVec 32 := Scalar.addi v56 c0_i32_62
  let c1_i32_63 : BitVec 32 := 1#32
  let v99 : BitVec 32 := Scalar.addi v98 c1_i32_63
  let c512_i32 : BitVec 32 := 512#32
  let v100 : BitVec 32 := Scalar.muli v99 c512_i32
  v100
def k0_off7 (i : grid0.Coords) (c0_i32_62 : BitVec 32) : Fin 3 → Nat :=
  let c0_64 : Index := 0#32
  let arg2 : BitVec 32 := BitVec.ofNat 32 (i 2).val
  let c4_i32 : BitVec 32 := 4#32
  let v56 : BitVec 32 := Scalar.muli arg2 c4_i32
  let v98 : BitVec 32 := Scalar.addi v56 c0_i32_62
  let c1_i32_63 : BitVec 32 := 1#32
  let v99 : BitVec 32 := Scalar.addi v98 c1_i32_63
  let c512_i32 : BitVec 32 := 512#32
  let v100 : BitVec 32 := Scalar.muli v99 c512_i32
  let v101 : BitVec 32 := v100
  let v102 : Index := Scalar.indexCast v101
  let c0_65 : Index := 0#32
  ![0, v102.toNat, 0]
def k0_mult19 (i : grid0.Coords) : BitVec 32 :=
  let arg2 : BitVec 32 := BitVec.ofNat 32 (i 2).val
  let c4_i32 : BitVec 32 := 4#32
  let v56 : BitVec 32 := Scalar.muli arg2 c4_i32
  let c0_i32_83 : BitVec 32 := 0#32
  let v120 : BitVec 32 := Scalar.addi v56 c0_i32_83
  let c512_i32_84 : BitVec 32 := 512#32
  let v121 : BitVec 32 := Scalar.muli v120 c512_i32_84
  v121
def k0_off8 (i : grid0.Coords) (c0_i32_83 : BitVec 32) : Fin 4 → Nat :=
  let c0_97 : Index := 0#32
  let c0_98 : Index := 0#32
  let c0_99 : Index := 0#32
  let arg2 : BitVec 32 := BitVec.ofNat 32 (i 2).val
  let c4_i32 : BitVec 32 := 4#32
  let v56 : BitVec 32 := Scalar.muli arg2 c4_i32
  let v120 : BitVec 32 := Scalar.addi v56 c0_i32_83
  let c512_i32_84 : BitVec 32 := 512#32
  let v121 : BitVec 32 := Scalar.muli v120 c512_i32_84
  let v122 : BitVec 32 := v121
  let v144 : Index := Scalar.indexCast v122
  ![0, 0, 0, v144.toNat]
def k0_off9 (i : grid0.Coords) (c0_i32_83 : BitVec 32) : Fin 4 → Nat :=
  let c0_119 : Index := 0#32
  let c1_120 : Index := 1#32
  let c0_121 : Index := 0#32
  let arg2 : BitVec 32 := BitVec.ofNat 32 (i 2).val
  let c4_i32 : BitVec 32 := 4#32
  let v56 : BitVec 32 := Scalar.muli arg2 c4_i32
  let v120 : BitVec 32 := Scalar.addi v56 c0_i32_83
  let c512_i32_84 : BitVec 32 := 512#32
  let v121 : BitVec 32 := Scalar.muli v120 c512_i32_84
  let v122 : BitVec 32 := v121
  let v174 : Index := Scalar.indexCast v122
  ![0, 1, 0, v174.toNat]
def k0_mult20 (i : grid0.Coords) : BitVec 32 :=
  let arg2 : BitVec 32 := BitVec.ofNat 32 (i 2).val
  let c4_i32 : BitVec 32 := 4#32
  let v56 : BitVec 32 := Scalar.muli arg2 c4_i32
  let c0_i32_129 : BitVec 32 := 0#32
  let v186 : BitVec 32 := Scalar.addi v56 c0_i32_129
  let c512_i32_130 : BitVec 32 := 512#32
  let v187 : BitVec 32 := Scalar.muli v186 c512_i32_130
  v187
def k0_mult21 (i : grid0.Coords) : BitVec 32 :=
  let arg2 : BitVec 32 := BitVec.ofNat 32 (i 2).val
  let c4_i32 : BitVec 32 := 4#32
  let v56 : BitVec 32 := Scalar.muli arg2 c4_i32
  let c1_i32_173 : BitVec 32 := 1#32
  let v245 : BitVec 32 := Scalar.addi v56 c1_i32_173
  let c1_i32_174 : BitVec 32 := 1#32
  let v246 : BitVec 32 := Scalar.addi v245 c1_i32_174
  let c512_i32_175 : BitVec 32 := 512#32
  let v247 : BitVec 32 := Scalar.muli v246 c512_i32_175
  v247
def k0_mult22 (i : grid0.Coords) : BitVec 32 :=
  let arg2 : BitVec 32 := BitVec.ofNat 32 (i 2).val
  let c4_i32 : BitVec 32 := 4#32
  let v56 : BitVec 32 := Scalar.muli arg2 c4_i32
  let c1_i32_195 : BitVec 32 := 1#32
  let v267 : BitVec 32 := Scalar.addi v56 c1_i32_195
  let c512_i32_196 : BitVec 32 := 512#32
  let v268 : BitVec 32 := Scalar.muli v267 c512_i32_196
  v268
def k0_mult23 (i : grid0.Coords) : BitVec 32 :=
  let arg2 : BitVec 32 := BitVec.ofNat 32 (i 2).val
  let c4_i32 : BitVec 32 := 4#32
  let v56 : BitVec 32 := Scalar.muli arg2 c4_i32
  let c1_i32_241 : BitVec 32 := 1#32
  let v333 : BitVec 32 := Scalar.addi v56 c1_i32_241
  let c512_i32_242 : BitVec 32 := 512#32
  let v334 : BitVec 32 := Scalar.muli v333 c512_i32_242
  v334
def k0_mult24 (i : grid0.Coords) : BitVec 32 :=
  let arg2 : BitVec 32 := BitVec.ofNat 32 (i 2).val
  let c4_i32 : BitVec 32 := 4#32
  let v56 : BitVec 32 := Scalar.muli arg2 c4_i32
  let c2_i32_285 : BitVec 32 := 2#32
  let v392 : BitVec 32 := Scalar.addi v56 c2_i32_285
  let c1_i32_286 : BitVec 32 := 1#32
  let v393 : BitVec 32 := Scalar.addi v392 c1_i32_286
  let c512_i32_287 : BitVec 32 := 512#32
  let v394 : BitVec 32 := Scalar.muli v393 c512_i32_287
  v394
def k0_mult25 (i : grid0.Coords) : BitVec 32 :=
  let arg2 : BitVec 32 := BitVec.ofNat 32 (i 2).val
  let c4_i32 : BitVec 32 := 4#32
  let v56 : BitVec 32 := Scalar.muli arg2 c4_i32
  let c2_i32_307 : BitVec 32 := 2#32
  let v414 : BitVec 32 := Scalar.addi v56 c2_i32_307
  let c512_i32_308 : BitVec 32 := 512#32
  let v415 : BitVec 32 := Scalar.muli v414 c512_i32_308
  v415
def k0_mult26 (i : grid0.Coords) : BitVec 32 :=
  let arg2 : BitVec 32 := BitVec.ofNat 32 (i 2).val
  let c4_i32 : BitVec 32 := 4#32
  let v56 : BitVec 32 := Scalar.muli arg2 c4_i32
  let c2_i32_353 : BitVec 32 := 2#32
  let v480 : BitVec 32 := Scalar.addi v56 c2_i32_353
  let c512_i32_354 : BitVec 32 := 512#32
  let v481 : BitVec 32 := Scalar.muli v480 c512_i32_354
  v481
def k0_mult27 (i : grid0.Coords) : BitVec 32 :=
  let arg2 : BitVec 32 := BitVec.ofNat 32 (i 2).val
  let c4_i32 : BitVec 32 := 4#32
  let v56 : BitVec 32 := Scalar.muli arg2 c4_i32
  let c3_i32 : BitVec 32 := 3#32
  let v539 : BitVec 32 := Scalar.addi v56 c3_i32
  let c512_i32_397 : BitVec 32 := 512#32
  let v540 : BitVec 32 := Scalar.muli v539 c512_i32_397
  v540
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2x80x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference3Ideal.lean ====
abbrev S4x4x64x8192 : Shape := ⟨4, ![4, 4, 64, 8192]⟩
abbrev S4x8192x256 : Shape := ⟨3, ![4, 8192, 256]⟩
abbrev S4x4x8192 : Shape := ⟨3, ![4, 4, 8192]⟩
abbrev S4x4x8192x64 : Shape := ⟨4, ![4, 4, 8192, 64]⟩
abbrev S4x8192x4x64 : Shape := ⟨4, ![4, 8192, 4, 64]⟩
abbrev S8192 : Shape := ⟨1, ![8192]⟩
abbrev S4x4x8192x8192 : Shape := ⟨4, ![4, 4, 8192, 8192]⟩
abbrev S4x4x8192x1 : Shape := ⟨4, ![4, 4, 8192, 1]⟩
abbrev S4x4x1x8192 : Shape := ⟨4, ![4, 4, 1, 8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩

abbrev nBuf : Space → Nat
  | .hbm => 51
  | .vmem => 0
  | .smem => 0
  | _ => 0

abbrev bufTy : (tb : Table) → Fin (tcTables nBuf tb) → BufTy
  | .hbm, ⟨0, _⟩ => ⟨S4x4x64x8192, .bf16⟩
  | .hbm, ⟨1, _⟩ => ⟨S4x8192x256, .bf16⟩
  | .hbm, ⟨2, _⟩ => ⟨S4x4x64x8192, .bf16⟩
  | .hbm, ⟨3, _⟩ => ⟨S4x4x8192, .f32⟩
  | .hbm, ⟨4, _⟩ => ⟨S4x4x64x8192, .f32⟩
  | .hbm, ⟨5, _⟩ => ⟨S4x4x8192x64, .f32⟩
  | .hbm, ⟨6, _⟩ => ⟨S4x4x64x8192, .f32⟩
  | .hbm, ⟨7, _⟩ => ⟨S4x4x8192x64, .f32⟩
  | .hbm, ⟨8, _⟩ => ⟨S4x8192x256, .f32⟩
  | .hbm, ⟨9, _⟩ => ⟨S4x8192x4x64, .f32⟩
  | .hbm, ⟨10, _⟩ => ⟨S4x4x8192x64, .f32⟩
  | .hbm, ⟨11, _⟩ => ⟨S8192, .i32⟩
  | .hbm, ⟨12, _⟩ => ⟨S4x4x8192x8192, .f32⟩
  | .hbm, ⟨13, _⟩ => ⟨S4x4x8192x1, .f32⟩
  | .hbm, ⟨14, _⟩ => ⟨S4x4x8192x8192, .f32⟩
  | .hbm, ⟨15, _⟩ => ⟨S4x4x8192x8192, .f32⟩
  | .hbm, ⟨16, _⟩ => ⟨S4x4x1x8192, .f32⟩
  | .hbm, ⟨17, _⟩ => ⟨S4x4x8192x8192, .f32⟩
  | .hbm, ⟨18, _⟩ => ⟨S4x4x8192x8192, .f32⟩
  | .hbm, ⟨19, _⟩ => ⟨S_, .f32⟩
  | .hbm, ⟨20, _⟩ => ⟨S_, .f32⟩
  | .hbm, ⟨21, _⟩ => ⟨S4x4x8192x8192, .f32⟩
  | .hbm, ⟨22, _⟩ => ⟨S4x4x8192x8192, .f32⟩
  | .hbm, ⟨23, _⟩ => ⟨S1x8192, .i32⟩
  | .hbm, ⟨24, _⟩ => ⟨S8192x1, .i32⟩
  | .hbm, ⟨25, _⟩ => ⟨S8192x8192, .i32⟩
  | .hbm, ⟨26, _⟩ => ⟨S8192x8192, .i32⟩
  | .hbm, ⟨27, _⟩ => ⟨S8192x8192, .i1⟩
  | .hbm, ⟨28, _⟩ => ⟨S_, .f32⟩
  | .hbm, ⟨29, _⟩ => ⟨S_, .f32⟩
  | .hbm, ⟨30, _⟩ => ⟨S4x4x8192x8192, .i1⟩
  | .hbm, ⟨31, _⟩ => ⟨S4x4x8192x8192, .f32⟩
  | .hbm, ⟨32, _⟩ => ⟨S4x4x8192x8192, .f32⟩
  | .hbm, ⟨33, _⟩ => ⟨S_, .f32⟩
  | .hbm, ⟨34, _⟩ => ⟨S4x4x8192, .f32⟩
  | .hbm, ⟨35, _⟩ => ⟨S_, .f32⟩
  | .hbm, ⟨36, _⟩ => ⟨S4x4x8192, .f32⟩
  | .hbm, ⟨37, _⟩ => ⟨S4x4x8192, .f32⟩
  | .hbm, ⟨38, _⟩ => ⟨S4x4x8192x1, .f32⟩
  | .hbm, ⟨39, _⟩ => ⟨S4x4x8192x8192, .f32⟩
  | .hbm, ⟨40, _⟩ => ⟨S4x4x8192x8192, .f32⟩
  | .hbm, ⟨41, _⟩ => ⟨S4x4x8192x8192, .f32⟩
  | .hbm, ⟨42, _⟩ => ⟨S_, .f32⟩
  | .hbm, ⟨43, _⟩ => ⟨S4x4x8192, .f32⟩
  | .hbm, ⟨44, _⟩ => ⟨S4x4x8192x1, .f32⟩
  | .hbm, ⟨45, _⟩ => ⟨S4x4x8192x8192, .f32⟩
  | .hbm, ⟨46, _⟩ => ⟨S4x4x8192x8192, .f32⟩
  | .hbm, ⟨47, _⟩ => ⟨S4x4x8192x64, .f32⟩
  | .hbm, ⟨48, _⟩ => ⟨S4x8192x4x64, .f32⟩
  | .hbm, ⟨49, _⟩ => ⟨S4x8192x256, .f32⟩
  | .hbm, ⟨50, _⟩ => ⟨S4x8192x256, .bf16⟩
  | _, _ => ⟨S4x4x64x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== Proof.Pure.lean ====
/- The two row updates of the stick-breaking kernel as functions of a score tile, read at an index. -/
module

public import proofs.«01_k».proof.Proof.Gen.KernelIdeal.Skeleton
public import Idealize.ShloMosaic.Lib.Pointwise
public import Idealize.ShloMosaic.Lib.MatmulPlain
public import Idealize.ShloMosaic.Lib.ValueLayout

@[expose] public section

set_option maxRecDepth 16384

noncomputable section

namespace Cert.SB

open Idealize.ShloMosaic Idealize.ShloMosaic.TcCoe Idealize.SL.Sem
open Cert.KernelIdeal Cert.KernelIdeal.Gen

/-- A matrix of `n` rows and `m` columns. -/
abbrev Mat (n m : ℕ) : Shape := ⟨2, ![n, m]⟩
/-- One such matrix under a leading unit axis. -/
abbrev Mat1 (n m : ℕ) : Shape := ⟨3, ![1, n, m]⟩

/-- The log of one plus two to the score, in base two: the cost of passing a key over. -/
def passing (z : EReal) : EReal :=
  max (Ideal.log (1 + Ideal.exp2 (min z (Named.named (F := Ideal) (φ := .f32) κ "clamp" 0x42FC0000#32)))
    * Named.named (F := Ideal) (φ := .f32) κ "log2e" 0x3FB8AA3B#32) z

section Vectors
variable {n : ℕ}

/-- The cost of passing over, entry by entry. -/
def costV (z : FVec Ideal (Mat n 256) .f32) : FVec Ideal (Mat n 256) .f32 :=
  maximumf (mulf (log (addf (broadcast (Mat n 256) (Scalar.ofBits .f32 0x3F800000#32 : Ideal .f32))
    (exp2 (minimumf z (broadcast (Mat n 256) (Named.named κ "clamp" 0x42FC0000#32 : Ideal .f32))))))
    (broadcast (Mat n 256) (Named.named κ "log2e" 0x3FB8AA3B#32 : Ideal .f32))) z

/-- The shape facts the update of `n` rows rests on. -/
structure Fits (n : ℕ) : Prop where
  narrow : (FTy.bf16).bits < (FTy.f32).bits
  drop : (Mat1 n 128).ShapeCasts (Mat n 128)
  lift : (Mat n 128).ShapeCasts (Mat1 n 128)
  twice : Shape.Concatenates [Mat n 128, Mat n 128] (Mat n 256) 1
  first : (Mat n 256).Slices ![0, 0] (Mat n 1)
  same : (Mat n 1).ShapeCasts (Mat n 1)
  spread : (Mat n 1).Broadcasts (Mat n 128)

/-- The costs of the keys from each column on, added to what the row carries from later blocks. -/
def sumV (h : Fits n) (u : FVec Ideal (Mat 256 256) .bf16) (s : FVec Ideal (Mat n 256) .f32)
    (c : FVec Ideal (Mat1 n 128) .f32) : FVec Ideal (Mat n 256) .f32 :=
  addf (matmul (DotDims.plain n 256 256) none (truncf .bf16 s h.narrow) u (constant (Mat n 256) .f32 0x00000000#32))
    (concatenate (Mat n 256) 1 [⟨Mat n 128, shapeCast (Mat n 128) c h.drop⟩, ⟨Mat n 128, shapeCast (Mat n 128) c h.drop⟩]
      h.twice)

/-- The carried sum after the block: its first column, along every lane. -/
def carryV (h : Fits n) (t : FVec Ideal (Mat n 256) .f32) : FVec Ideal (Mat1 n 128) .f32 :=
  shapeCast (Mat1 n 128) (broadcastTo (Mat n 128) (shapeCast (Mat n 1) (extractStridedSlice (Mat n 1) ![0, 0] t h.first)
    h.same) h.spread) h.lift

/-- The accumulator after the block: the weights `w` against the values. -/
def accV (h : Fits n) (w : FVec Ideal (Mat n 256) .f32) (v : FVec Ideal (Mat 256 128) .bf16)
    (a : FVec Ideal (Mat1 n 128) .f32) : FVec Ideal (Mat1 n 128) .f32 :=
  shapeCast (Mat1 n 128) (addf (shapeCast (Mat n 128) a h.drop) (matmul (DotDims.plain n 256 128) none
    (truncf .bf16 w h.narrow) v (constant (Mat n 128) .f32 0x00000000#32))) h.lift

theorem costV_at (z : FVec Ideal (Mat n 256) .f32) (i : (Mat n 256).Idx) : costV z i = passing (z i) := by
  pointwise [costV, passing]
  rfl

theorem product_at {m : ℕ} {φ₁ φ₂ : FTy} (x : FVec Ideal (Mat n 256) φ₁) (y : FVec Ideal (Mat 256 m) φ₂) (r : Fin n)
    (j : Fin m) : matmul (DotDims.plain n 256 m) none x y (constant (Mat n m) .f32 0x00000000#32) (ix2 r j)
      = ∑ k : Fin 256, x (ix2 r k) * y (ix2 k j) := by
  refine (Ideal.matmul_plain_apply none x y (constant (Mat n m) .f32 0x00000000#32) r j).trans ?_
  pointwise []
  rfl

theorem twice_at (h : Shape.Concatenates [Mat n 128, Mat n 128] (Mat n 256) 1) (x : FVec Ideal (Mat n 128) .f32)
    (r : Fin n) (j : Fin 256) : concatenate (Mat n 256) 1 [⟨Mat n 128, x⟩, ⟨Mat n 128, x⟩] h (ix2 r j)
      = x (ix2 r ⟨j.val % 128, Nat.mod_lt _ (by decide)⟩) := by
  pointwise []
  have hj := j.isLt
  split
  · next hlt =>
    refine congrArg x ((Shape.Idx.norm_def _).trans ?_)
    funext a
    match a with
    | ⟨0, _⟩ => rfl
    | ⟨1, _⟩ => exact Fin.ext (Nat.mod_eq_of_lt hlt).symm
  · next hge =>
    refine congrArg x ((Shape.Idx.norm_def _).trans ?_)
    funext a
    match a with
    | ⟨0, _⟩ => rfl
    | ⟨1, _⟩ => exact Fin.ext (show j.val - 128 = j.val % 128 by omega)

theorem sumV_at (h : Fits n) (u : FVec Ideal (Mat 256 256) .bf16) (s : FVec Ideal (Mat n 256) .f32)
    (c : FVec Ideal (Mat1 n 128) .f32) (r : Fin n) (j : Fin 256) :
    sumV h u s c (ix2 r j) = (∑ k : Fin 256, s (ix2 r k) * u (ix2 k j))
      + c (ix3 0 r ⟨j.val % 128, Nat.mod_lt _ (by decide)⟩) :=
  congrArg₂ (· + ·) (product_at _ _ r j) ((twice_at h.twice _ r j).trans
    (ValueIdx.shapeCast_1ab_ab_apply c h.drop r ⟨j.val % 128, Nat.mod_lt _ (by decide)⟩))

theorem carryV_at (h : Fits n) (t : FVec Ideal (Mat n 256) .f32) (b : Fin 1) (r : Fin n) (l : Fin 128) :
    carryV h t (ix3 b r l) = t (ix2 r 0) := by
  refine (ValueIdx.shapeCast_ab_1ab_apply _ h.lift b r l).trans ?_
  pointwise []
  refine congrArg t ((Shape.Idx.norm_def _).trans ?_)
  funext a
  match a with
  | ⟨0, _⟩ =>
    refine Fin.ext ?_
    show 0 + _ = r.val
    by_cases hn : n = 1
    · subst hn
      have hr := r.isLt
      have h0 : ∀ a : Fin 1, (a : ℕ) = 0 := fun a => by omega
      exact (Nat.zero_add _).trans ((h0 _).trans (by omega))
    · simp [Shape.Idx.norm_def, hn]
  | ⟨1, _⟩ => simp [Shape.Idx.norm_def]

theorem accV_at (h : Fits n) (w : FVec Ideal (Mat n 256) .f32) (v : FVec Ideal (Mat 256 128) .bf16)
    (a : FVec Ideal (Mat1 n 128) .f32) (b : Fin 1) (r : Fin n) (l : Fin 128) :
    accV h w v a (ix3 b r l) = a (ix3 0 r l) + ∑ k : Fin 256, w (ix2 r k) * v (ix2 k l) :=
  (ValueIdx.shapeCast_ab_1ab_apply _ h.lift b r l).trans
    (congrArg₂ (· + ·) (ValueIdx.shapeCast_1ab_ab_apply a h.drop r l) (product_at _ _ r l))

end Vectors

theorem fits256 : Fits 256 := ⟨bitsLt_bf16_f32, shapeCasts_S1x256x128_S256x128, shapeCasts_S256x128_S1x256x128,
  concatenates_S256x128_S256x128_S256x256_d1, slices_S256x256_o0_0_S256x1, shapeCasts_S256x1_S256x1,
  broadcasts_S256x1_S256x128⟩
theorem fits512 : Fits 512 := ⟨bitsLt_bf16_f32, shapeCasts_S1x512x128_S512x128, shapeCasts_S512x128_S1x512x128,
  concatenates_S512x128_S512x128_S512x256_d1, slices_S512x256_o0_0_S512x1, shapeCasts_S512x1_S512x1,
  broadcasts_S512x1_S512x128⟩
theorem fits768 : Fits 768 := ⟨bitsLt_bf16_f32, shapeCasts_S1x768x128_S768x128, shapeCasts_S768x128_S1x768x128,
  concatenates_S768x128_S768x128_S768x256_d1, slices_S768x256_o0_0_S768x1, shapeCasts_S768x1_S768x1,
  broadcasts_S768x1_S768x128⟩
theorem fits1024 : Fits 1024 := ⟨bitsLt_bf16_f32, shapeCasts_S1x1024x128_S1024x128, shapeCasts_S1024x128_S1x1024x128,
  concatenates_S1024x128_S1024x128_S1024x256_d1, slices_S1024x256_o0_0_S1024x1, shapeCasts_S1024x1_S1024x1,
  broadcasts_S1024x1_S1024x128⟩

/-! ## The sums a row carries -/

section Rows
variable (T : ℕ) (z : ℕ → ℕ → EReal) (v : ℕ → Fin 128 → EReal)

/-- What row `r` of the tile that begins at query `T` pays for passing key `i` over; nothing from the query on. -/
def cost (r i : ℕ) : EReal := if i < T + r then passing (z r i) else 0
/-- What it pays for all keys from `a` on. -/
def tail (r a : ℕ) : EReal := ∑ i ∈ Finset.Ico a 8192, cost T z r i
/-- The weight of key `j`. -/
def weight (r j : ℕ) : EReal := if j < T + r then Ideal.exp2 (z r j - tail T z r j) else 0
/-- The output lane gathered from the keys from `a` on. -/
def gathered (r a : ℕ) (l : Fin 128) : EReal := ∑ j ∈ Finset.Ico a 8192, weight T z r j * v j l

theorem tail_done {r a : ℕ} (h : T + r ≤ a) : tail T z r a = 0 :=
  Finset.sum_eq_zero fun i hi => if_neg (by have := (Finset.mem_Ico.1 hi).1; omega)

theorem gathered_done {r a : ℕ} (l : Fin 128) (h : T + r ≤ a) : gathered T z v r a l = 0 :=
  Finset.sum_eq_zero fun j hj => by
    have := (Finset.mem_Ico.1 hj).1
    rw [weight, if_neg (by omega), zero_mul]

theorem block_sum (g : ℕ → EReal) (b j : ℕ) :
    (∑ k : Fin 256, g (b + k.val) * (if j ≤ k.val then (1 : EReal) else 0)) = ∑ i ∈ Finset.Ico (b + j) (b + 256), g i := by
  rw [add_comm b j, add_comm b 256, ← Finset.sum_Ico_add' g j 256 b]
  rw [Fin.sum_univ_eq_sum_range (fun k => g (b + k) * (if j ≤ k then (1 : EReal) else 0)) 256]
  have : Finset.Ico j 256 = (Finset.range 256).filter (j ≤ ·) := by
    ext x
    simp only [Finset.mem_Ico, Finset.mem_filter, Finset.mem_range]
    omega
  rw [this, Finset.sum_filter]
  refine Finset.sum_congr rfl fun k _ => ?_
  by_cases h : j ≤ k
  · rw [if_pos h, if_pos h, mul_one, add_comm]
  · rw [if_neg h, if_neg h, mul_zero]

theorem tail_block {r b : ℕ} (j : Fin 256) (hb : b + 256 ≤ 8192) :
    (∑ k : Fin 256, cost T z r (b + k.val) * (if j.val ≤ k.val then (1 : EReal) else 0)) + tail T z r (b + 256)
      = tail T z r (b + j.val) := by
  rw [block_sum, tail, tail]
  exact Finset.sum_Ico_consecutive _ (by omega) hb

theorem gathered_block {r b : ℕ} (l : Fin 128) (hb : b + 256 ≤ 8192) :
    gathered T z v r (b + 256) l + (∑ k : Fin 256, weight T z r (b + k.val) * v (b + k.val) l) = gathered T z v r b l := by
  rw [add_comm, gathered, gathered, ← Finset.sum_Ico_consecutive _ (show b ≤ b + 256 by omega) hb]
  refine congrArg (· + _) ?_
  rw [Finset.sum_Ico_eq_sum_range, Nat.add_sub_cancel_left,
    Fin.sum_univ_eq_sum_range (fun k => weight T z r (b + k) * v (b + k) l) 256]

variable {n : ℕ} (h : Fits n) (u : FVec Ideal (Mat 256 256) .bf16) (x : FVec Ideal (Mat n 256) .f32)
  (c a : FVec Ideal (Mat1 n 128) .f32) (y : FVec Ideal (Mat 256 128) .bf16) (m : IVec (Mat n 256) 1)

/-- The running sums after a block whose every key comes before every row. -/
def fullSum : FVec Ideal (Mat n 256) .f32 := sumV h u (costV x) c
/-- The running sums after a block on the diagonal: the mask `m` says which keys come before the row. -/
def triSum : FVec Ideal (Mat n 256) .f32 :=
  sumV h u (select m (costV x) (broadcast (Mat n 256) (Scalar.ofBits .f32 0x00000000#32 : Ideal .f32))) c
def fullC : FVec Ideal (Mat1 n 128) .f32 := carryV h (fullSum h u x c)
def fullA : FVec Ideal (Mat1 n 128) .f32 := accV h (exp2 (subf x (fullSum h u x c))) y a
def triC : FVec Ideal (Mat1 n 128) .f32 := carryV h (triSum h u x c m)
def triA : FVec Ideal (Mat1 n 128) .f32 :=
  accV h (select m (exp2 (subf x (triSum h u x c m)))
    (broadcast (Mat n 256) (Scalar.ofBits .f32 0x00000000#32 : Ideal .f32))) y a

variable {T z v h u x c a y m} {b r0 : ℕ}

/-- What a block's update reads: the triangle of ones, the block's scores and the sums carried to it. -/
structure Reads (T : ℕ) (z : ℕ → ℕ → EReal) (b r0 : ℕ) (u : FVec Ideal (Mat 256 256) .bf16)
    (x : FVec Ideal (Mat n 256) .f32) (c : FVec Ideal (Mat1 n 128) .f32) : Prop where
  inside : b + 256 ≤ 8192
  ones : ∀ k j : Fin 256, u (ix2 k j) = if j.val ≤ k.val then (1 : EReal) else 0
  score : ∀ (r : Fin n) (j : Fin 256), x (ix2 r j) = z (r0 + r.val) (b + j.val)
  carry : ∀ (r : Fin n) (l : Fin 128), c (ix3 0 r l) = tail T z (r0 + r.val) (b + 256)

theorem sumV_tail (H : Reads T z b r0 u x c) (s : FVec Ideal (Mat n 256) .f32)
    (hs : ∀ (r : Fin n) (j : Fin 256), s (ix2 r j) = cost T z (r0 + r.val) (b + j.val)) (r : Fin n) (j : Fin 256) :
    sumV h u s c (ix2 r j) = tail T z (r0 + r.val) (b + j.val) := by
  rw [sumV_at, H.carry, ← tail_block T z j H.inside]
  refine congrArg (· + _) (Finset.sum_congr rfl fun k _ => ?_)
  rw [hs, H.ones]

theorem fullSum_at (H : Reads T z b r0 u x c) (hb : b + 256 ≤ T + r0) (r : Fin n) (j : Fin 256) :
    fullSum h u x c (ix2 r j) = tail T z (r0 + r.val) (b + j.val) :=
  sumV_tail H _ (fun r j => by
    have hj := j.isLt
    rw [costV_at, H.score, cost, if_pos (by omega)]) r j

theorem triSum_at (H : Reads T z b r0 u x c) (hb : b = T + r0)
    (hm : ∀ (r : Fin n) (j : Fin 256), m (ix2 r j) = if j.val < r.val then 1 else 0) (r : Fin n) (j : Fin 256) :
    triSum h u x c m (ix2 r j) = tail T z (r0 + r.val) (b + j.val) :=
  sumV_tail H _ (fun r j => by
    have hj := j.isLt
    show Scalar.select (m (ix2 r j)) (costV x (ix2 r j)) (Ideal.ofBits .f32 0x00000000#32) = _
    rw [hm, costV_at, H.score, cost]
    by_cases hc : j.val < r.val
    · rw [if_pos hc, if_pos (by omega)]
      rfl
    · rw [if_neg hc, if_neg (by omega)]
      exact Ideal.ofBits_zero_f32) r j

theorem fullC_at (H : Reads T z b r0 u x c) (hb : b + 256 ≤ T + r0) (e : Fin 1) (r : Fin n) (l : Fin 128) :
    fullC h u x c (ix3 e r l) = tail T z (r0 + r.val) b :=
  (carryV_at h _ e r l).trans (fullSum_at H hb r 0)

theorem triC_at (H : Reads T z b r0 u x c) (hb : b = T + r0)
    (hm : ∀ (r : Fin n) (j : Fin 256), m (ix2 r j) = if j.val < r.val then 1 else 0) (e : Fin 1) (r : Fin n) (l : Fin 128) :
    triC h u x c m (ix3 e r l) = tail T z (r0 + r.val) b :=
  (carryV_at h _ e r l).trans (triSum_at H hb hm r 0)

theorem accV_gathered (H : Reads T z b r0 u x c) (w : FVec Ideal (Mat n 256) .f32)
    (hw : ∀ (r : Fin n) (j : Fin 256), w (ix2 r j) = weight T z (r0 + r.val) (b + j.val))
    (hy : ∀ (j : Fin 256) (l : Fin 128), y (ix2 j l) = v (b + j.val) l)
    (ha : ∀ (r : Fin n) (l : Fin 128), a (ix3 0 r l) = gathered T z v (r0 + r.val) (b + 256) l)
    (e : Fin 1) (r : Fin n) (l : Fin 128) : accV h w y a (ix3 e r l) = gathered T z v (r0 + r.val) b l := by
  rw [accV_at, ha, ← gathered_block T z v l H.inside]
  refine congrArg (_ + ·) (Finset.sum_congr rfl fun k _ => ?_)
  rw [hw, hy]

theorem fullA_at (H : Reads T z b r0 u x c) (hb : b + 256 ≤ T + r0)
    (hy : ∀ (j : Fin 256) (l : Fin 128), y (ix2 j l) = v (b + j.val) l)
    (ha : ∀ (r : Fin n) (l : Fin 128), a (ix3 0 r l) = gathered T z v (r0 + r.val) (b + 256) l)
    (e : Fin 1) (r : Fin n) (l : Fin 128) : fullA h u x c a y (ix3 e r l) = gathered T z v (r0 + r.val) b l :=
  accV_gathered H _ (fun r j => by
    have hj := j.isLt
    show Ideal.exp2 (x (ix2 r j) - fullSum h u x c (ix2 r j)) = _
    rw [fullSum_at H hb, H.score, weight, if_pos (by omega)]) hy ha e r l

theorem triA_at (H : Reads T z b r0 u x c) (hb : b = T + r0)
    (hm : ∀ (r : Fin n) (j : Fin 256), m (ix2 r j) = if j.val < r.val then 1 else 0)
    (hy : ∀ (j : Fin 256) (l : Fin 128), y (ix2 j l) = v (b + j.val) l)
    (ha : ∀ (r : Fin n) (l : Fin 128), a (ix3 0 r l) = gathered T z v (r0 + r.val) (b + 256) l)
    (e : Fin 1) (r : Fin n) (l : Fin 128) : triA h u x c a y m (ix3 e r l) = gathered T z v (r0 + r.val) b l :=
  accV_gathered H _ (fun r j => by
    have hj := j.isLt
    show Scalar.select (m (ix2 r j)) (Ideal.exp2 (x (ix2 r j) - triSum h u x c m (ix2 r j))) (Ideal.ofBits .f32 0x00000000#32)
      = _
    rw [triSum_at H hb hm, hm, H.score, weight]
    by_cases hc : j.val < r.val
    · rw [if_pos hc, if_pos (by omega)]
      rfl
    · rw [if_neg hc, if_neg (by omega)]
      exact Ideal.ofBits_zero_f32) hy ha e r l

end Rows
end Cert.SB
end
-- ==== Proof.Pieces.lean ====
/- What the kernel's scratch buffers read after a store of one head's rows. -/
module

public import proofs.«01_k».proof.Proof.Pure
public import Idealize.ShloMosaic.Lib.WritesUnit
public import Idealize.ShloMosaic.Lib.VecWindow

@[expose] public section

set_option maxRecDepth 16384

noncomputable section

namespace Cert.SB

open Idealize.ShloMosaic Idealize.ShloMosaic.TcCoe Idealize.SL.Sem

/-- The buffers of the two heads, 1024 rows of 128 lanes each. -/
abbrev Rows2 : Shape := ⟨3, ![2, 1024, 128]⟩
/-- The score buffers: two slots, two heads, 1024 rows, 256 keys. -/
abbrev Slots : Shape := ⟨4, ![2, 2, 1024, 256]⟩

section Buffers
variable {sig : RefSig} {κ : Kind} {sp : Space}

section Three
variable {e : EltTy} (w : View sig κ sp Rows2 e) (f : w.ty.Contents (Elt Ideal))

theorem load3 {h0 r0 n : ℕ} (inb : ∀ a, (![h0, r0, 0] : Fin 3 → ℕ) a + (![1, n, 128] : Fin 3 → ℕ) a ≤ Rows2.size a)
    (hh : Fin 2) (hv : hh.val = h0) (b : Fin 1) (r : Fin n) (l : Fin 128) (hr : r0 + r.val < 1024) :
    w.readAt (Elt Ideal) (Rect.unit (s := Rows2) ![h0, r0, 0] ![1, n, 128] inb).toLoadRect f (ix3 b r l)
      = w.read (Elt Ideal) f (ix3 hh ⟨r0 + r.val, hr⟩ l) := by
  refine congrArg (w.read (Elt Ideal) f) (funext fun a => Fin.ext ?_)
  have hb : b.val = 0 := by omega
  match a with
  | ⟨0, _⟩ => show h0 + 1 * b.val = hh.val; omega
  | ⟨1, _⟩ => show r0 + 1 * r.val = r0 + r.val; omega
  | ⟨2, _⟩ => show 0 + 1 * l.val = l.val; omega

theorem put3_in {h0 r0 n : ℕ} (inb : ∀ a, (![h0, r0, 0] : Fin 3 → ℕ) a + (![1, n, 128] : Fin 3 → ℕ) a ≤ Rows2.size a)
    (p : (Mat1 n 128).Idx → Elt Ideal e) (L : List (View.Piece (Elt Ideal) Rows2 e)) (hh : Fin 2) (r : Fin 1024)
    (l : Fin 128) (hv : hh.val = h0) (x : Fin n) (hx : r.val = r0 + x.val) :
    w.read (Elt Ideal) (w.writes (Elt Ideal) f (⟨Rect.unit (s := Rows2) ![h0, r0, 0] ![1, n, 128] inb, p⟩ :: L)) (ix3 hh r l)
      = p (ix3 0 x l) :=
  View.read_writes_cons_unit_of_mem w f inb p L (ix3 hh r l) (ix3 0 x l) rfl fun a => by
    match a with
    | ⟨0, _⟩ => exact hv
    | ⟨1, _⟩ => exact hx
    | ⟨2, _⟩ => exact (Nat.zero_add _).symm

theorem put3_out {h0 r0 n : ℕ} (inb : ∀ a, (![h0, r0, 0] : Fin 3 → ℕ) a + (![1, n, 128] : Fin 3 → ℕ) a ≤ Rows2.size a)
    (p : (Mat1 n 128).Idx → Elt Ideal e) (L : List (View.Piece (Elt Ideal) Rows2 e)) (hh : Fin 2) (r : Fin 1024)
    (l : Fin 128) (hn : ¬ (hh.val = h0 ∧ r0 ≤ r.val ∧ r.val < r0 + n)) :
    w.read (Elt Ideal) (w.writes (Elt Ideal) f (⟨Rect.unit (s := Rows2) ![h0, r0, 0] ![1, n, 128] inb, p⟩ :: L)) (ix3 hh r l)
      = w.read (Elt Ideal) (w.writes (Elt Ideal) f L) (ix3 hh r l) := by
  by_cases hv : hh.val = h0
  · exact View.read_writes_cons_unit_of_not_mem w f inb p L (ix3 hh r l) rfl (1 : Fin 3)
      (show r.val < r0 ∨ r0 + n ≤ r.val by omega)
  · exact View.read_writes_cons_unit_of_not_mem w f inb p L (ix3 hh r l) rfl (0 : Fin 3)
      (show hh.val < h0 ∨ h0 + 1 ≤ hh.val by omega)

/-- Both heads stored whole. -/
theorem pair3 (inb0 : ∀ a, (![0, 0, 0] : Fin 3 → ℕ) a + (![1, 1024, 128] : Fin 3 → ℕ) a ≤ Rows2.size a)
    (inb1 : ∀ a, (![1, 0, 0] : Fin 3 → ℕ) a + (![1, 1024, 128] : Fin 3 → ℕ) a ≤ Rows2.size a)
    (p0 p1 : (Mat1 1024 128).Idx → Elt Ideal e) (L : List (View.Piece (Elt Ideal) Rows2 e)) (hh : Fin 2) (r : Fin 1024)
    (l : Fin 128) :
    w.read (Elt Ideal) (w.writes (Elt Ideal) f (⟨Rect.unit (s := Rows2) ![1, 0, 0] ![1, 1024, 128] inb1, p1⟩
      :: ⟨Rect.unit (s := Rows2) ![0, 0, 0] ![1, 1024, 128] inb0, p0⟩ :: L)) (ix3 hh r l)
      = if hh = 0 then p0 (ix3 0 r l) else p1 (ix3 0 r l) := by
  match hh with
  | ⟨0, _⟩ =>
    rw [put3_out w f inb1 p1 _ _ r l (fun h => Nat.zero_ne_one h.1),
      put3_in w f inb0 p0 L _ r l rfl r (Nat.zero_add _).symm]
    exact (if_pos rfl).symm
  | ⟨1, _⟩ =>
    rw [put3_in w f inb1 p1 _ _ r l rfl r (Nat.zero_add _).symm]
    exact (if_neg (fun h => Nat.one_ne_zero (congrArg Fin.val h))).symm

/-- The whole buffer stored. -/
theorem all3 (inb : ∀ a, (![0, 0, 0] : Fin 3 → ℕ) a + (![2, 1024, 128] : Fin 3 → ℕ) a ≤ Rows2.size a)
    (p : Rows2.Idx → Elt Ideal e) (L : List (View.Piece (Elt Ideal) Rows2 e)) (hh : Fin 2) (r : Fin 1024) (l : Fin 128) :
    w.read (Elt Ideal) (w.writes (Elt Ideal) f (⟨Rect.unit (s := Rows2) ![0, 0, 0] ![2, 1024, 128] inb, p⟩ :: L)) (ix3 hh r l)
      = p (ix3 hh r l) :=
  View.read_writes_cons_unit_of_mem w f inb p L (ix3 hh r l) (ix3 hh r l) rfl fun a => by
    match a with
    | ⟨0, _⟩ => exact (Nat.zero_add _).symm
    | ⟨1, _⟩ => exact (Nat.zero_add _).symm
    | ⟨2, _⟩ => exact (Nat.zero_add _).symm

end Three

section Carried
variable (w : View sig κ sp Rows2 .f32) (tgt : Fin 2 → ℕ → ℕ → Fin 128 → EReal)

/-- Row `r` of head `hh` holds the target value at the key its stage `st hh r` names. -/
def Holds (f : w.ty.Contents (Elt Ideal)) (st : Fin 2 → ℕ → ℕ) : Prop :=
  ∀ (hh : Fin 2) (r : Fin 1024) (l : Fin 128), w.read (Elt Ideal) f (ix3 hh r l) = tgt hh r.val (st hh r.val) l

/-- The stages after rows `[r0, r0 + n)` of head `h0` have moved to key `b`. -/
def upd (st : Fin 2 → ℕ → ℕ) (h0 r0 n b : ℕ) : Fin 2 → ℕ → ℕ :=
  fun hh r => if hh.val = h0 ∧ r0 ≤ r ∧ r < r0 + n then b else st hh r

variable {w tgt} {f : w.ty.Contents (Elt Ideal)} {st : Fin 2 → ℕ → ℕ} {L : List (View.Piece (Elt Ideal) Rows2 .f32)}

theorem Holds.put {h0 r0 n b : ℕ} (H : Holds w tgt (w.writes (Elt Ideal) f L) st)
    (inb : ∀ a, (![h0, r0, 0] : Fin 3 → ℕ) a + (![1, n, 128] : Fin 3 → ℕ) a ≤ Rows2.size a)
    (p : (Mat1 n 128).Idx → Elt Ideal .f32)
    (hp : ∀ hh : Fin 2, hh.val = h0 → ∀ (r : Fin n) (l : Fin 128), p (ix3 0 r l) = tgt hh (r0 + r.val) b l) :
    Holds w tgt (w.writes (Elt Ideal) f (⟨Rect.unit (s := Rows2) ![h0, r0, 0] ![1, n, 128] inb, p⟩ :: L))
      (upd st h0 r0 n b) := by
  intro hh r l
  by_cases hc : hh.val = h0 ∧ r0 ≤ r.val ∧ r.val < r0 + n
  · rw [put3_in w f inb p L hh r l hc.1 ⟨r.val - r0, by omega⟩ (show r.val = r0 + (r.val - r0) by omega), hp hh hc.1, upd,
      if_pos hc]
    exact congrArg (fun k => tgt hh k b l) (show r0 + (r.val - r0) = r.val by omega)
  · rw [put3_out w f inb p L hh r l hc, upd, if_neg hc]
    exact H hh r l

/-- Two stores that cover both heads leave both heads at the same key, whatever was there. -/
theorem Holds.pair {b : ℕ} (f : w.ty.Contents (Elt Ideal))
    (inb0 : ∀ a, (![0, 0, 0] : Fin 3 → ℕ) a + (![1, 1024, 128] : Fin 3 → ℕ) a ≤ Rows2.size a)
    (inb1 : ∀ a, (![1, 0, 0] : Fin 3 → ℕ) a + (![1, 1024, 128] : Fin 3 → ℕ) a ≤ Rows2.size a)
    (p0 p1 : (Mat1 1024 128).Idx → Elt Ideal .f32)
    (h0 : ∀ (r : Fin 1024) (l : Fin 128), p0 (ix3 0 r l) = tgt 0 (0 + r.val) b l)
    (h1 : ∀ (r : Fin 1024) (l : Fin 128), p1 (ix3 0 r l) = tgt 1 (0 + r.val) b l) :
    Holds w tgt (w.writes (Elt Ideal) f (⟨Rect.unit (s := Rows2) ![1, 0, 0] ![1, 1024, 128] inb1, p1⟩
      :: ⟨Rect.unit (s := Rows2) ![0, 0, 0] ![1, 1024, 128] inb0, p0⟩ :: L)) (fun _ _ => b) := by
  intro hh r l
  match hh with
  | ⟨0, _⟩ =>
    rw [put3_out w f inb1 p1 _ _ r l (fun h => Nat.zero_ne_one h.1),
      put3_in w f inb0 p0 L _ r l rfl r (Nat.zero_add _).symm, h0, Nat.zero_add]
    rfl
  | ⟨1, _⟩ =>
    rw [put3_in w f inb1 p1 _ _ r l rfl r (Nat.zero_add _).symm, h1, Nat.zero_add]
    rfl

/-- A second such pair, one store at a time. -/
theorem Holds.both {a b : ℕ} (H : Holds w tgt f (upd (upd (fun _ _ => a) 0 0 1024 b) 1 0 1024 b)) :
    Holds w tgt f (fun _ _ => b) := by
  intro hh r l
  have hr := r.isLt
  rw [H hh r l]
  refine congrArg (fun k => tgt hh r.val k l) ?_
  match hh with
  | ⟨0, _⟩ => exact (if_neg (fun h => Nat.zero_ne_one h.1)).trans (if_pos ⟨rfl, Nat.zero_le _, by omega⟩)
  | ⟨1, _⟩ => exact if_pos ⟨rfl, Nat.zero_le _, by omega⟩

theorem Holds.load {h0 r0 n b : ℕ} (H : Holds w tgt f st) (hh : Fin 2) (hv : hh.val = h0)
    (inb : ∀ a, (![h0, r0, 0] : Fin 3 → ℕ) a + (![1, n, 128] : Fin 3 → ℕ) a ≤ Rows2.size a)
    (hst : ∀ r : ℕ, r0 ≤ r → r < r0 + n → ∀ l, tgt hh r (st hh r) l = tgt hh r b l) (e : Fin 1) (r : Fin n) (l : Fin 128) :
    w.readAt (Elt Ideal) (Rect.unit (s := Rows2) ![h0, r0, 0] ![1, n, 128] inb).toLoadRect f (ix3 e r l)
      = tgt hh (r0 + r.val) b l := by
  have hr := r.isLt
  have h1 : r0 + n ≤ 1024 := inb 1
  rw [load3 w f inb hh hv e r l (by omega), H hh _ l]
  exact hst (r0 + r.val) (by omega) (by omega) l

end Carried

section Scores
variable (w : View sig κ sp Slots .f32) (zz : Fin 2 → ℕ → ℕ → EReal)

/-- From row `r0` on, slot `s` of head `hh` holds the scores against the 256 keys from `b`. -/
def HasZ (f : w.ty.Contents (Elt Ideal)) (s hh : Fin 2) (r0 b : ℕ) : Prop :=
  ∀ (r : Fin 1024) (j : Fin 256), r0 ≤ r.val → w.read (Elt Ideal) f (ix4 s hh r j) = zz hh r.val (b + j.val)

variable {w zz} {f : w.ty.Contents (Elt Ideal)} {L : List (View.Piece (Elt Ideal) Slots .f32)}

theorem HasZ.put {s0 h0 r0 n b : ℕ} (s hh : Fin 2) (hs : s.val = s0) (hv : hh.val = h0)
    (inb : ∀ a, (![s0, h0, r0, 0] : Fin 4 → ℕ) a + (![1, 1, n, 256] : Fin 4 → ℕ) a ≤ Slots.size a)
    (p : (⟨4, ![1, 1, n, 256]⟩ : Shape).Idx → Elt Ideal .f32) (hn : r0 + n = 1024)
    (hp : ∀ (r : Fin n) (j : Fin 256), p (ix4 0 0 r j) = zz hh (r0 + r.val) (b + j.val)) :
    HasZ w zz (w.writes (Elt Ideal) f (⟨Rect.unit (s := Slots) ![s0, h0, r0, 0] ![1, 1, n, 256] inb, p⟩ :: L)) s hh r0 b := by
  intro r j hr
  have hr' := r.isLt
  have hk : r0 + (r.val - r0) = r.val := by omega
  have hx : r.val - r0 < n := by omega
  rw [View.read_writes_cons_unit_of_mem w f inb p L (ix4 s hh r j) (ix4 0 0 ⟨r.val - r0, hx⟩ j) rfl (fun a => by
    match a with
    | ⟨0, _⟩ => exact hs
    | ⟨1, _⟩ => exact hv
    | ⟨2, _⟩ => exact hk.symm
    | ⟨3, _⟩ => exact (Nat.zero_add _).symm), hp]
  exact congrArg (fun k => zz hh k (b + j.val)) hk

theorem HasZ.keep {s0 h0 r0 r1 n b : ℕ} {s hh : Fin 2} (H : HasZ w zz (w.writes (Elt Ideal) f L) s hh r1 b)
    (inb : ∀ a, (![s0, h0, r0, 0] : Fin 4 → ℕ) a + (![1, 1, n, 256] : Fin 4 → ℕ) a ≤ Slots.size a)
    (p : (⟨4, ![1, 1, n, 256]⟩ : Shape).Idx → Elt Ideal .f32) (hne : s.val ≠ s0 ∨ hh.val ≠ h0) :
    HasZ w zz (w.writes (Elt Ideal) f (⟨Rect.unit (s := Slots) ![s0, h0, r0, 0] ![1, 1, n, 256] inb, p⟩ :: L)) s hh r1 b := by
  intro r j hr
  rw [← H r j hr]
  by_cases h : s.val = s0
  · exact View.read_writes_cons_unit_of_not_mem w f inb p L (ix4 s hh r j) rfl (1 : Fin 4)
      (show hh.val < h0 ∨ h0 + 1 ≤ hh.val by omega)
  · exact View.read_writes_cons_unit_of_not_mem w f inb p L (ix4 s hh r j) rfl (0 : Fin 4)
      (show s.val < s0 ∨ s0 + 1 ≤ s.val by omega)

theorem HasZ.load {s0 h0 r0 r1 n b : ℕ} {s hh : Fin 2} (H : HasZ w zz f s hh r1 b) (hs : s.val = s0) (hv : hh.val = h0)
    (inb : ∀ a, (![s0, h0, r0, 0] : Fin 4 → ℕ) a + (![1, 1, n, 256] : Fin 4 → ℕ) a ≤ Slots.size a) (hr1 : r1 ≤ r0)
    (h : (⟨4, ![1, 1, n, 256]⟩ : Shape).ShapeCasts (Mat n 256)) (r : Fin n) (j : Fin 256) :
    shapeCast (Mat n 256) (w.readAt (Elt Ideal) (Rect.unit (s := Slots) ![s0, h0, r0, 0] ![1, 1, n, 256] inb).toLoadRect f)
      h (ix2 r j) = zz hh (r0 + r.val) (b + j.val) := by
  have hr := r.isLt
  have h2 : r0 + n ≤ 1024 := inb 2
  refine Eq.trans ?_ (H ⟨r0 + r.val, by omega⟩ j (by show r1 ≤ r0 + r.val; omega))
  refine (shapeCast_apply _ h (ix2 r j) (ix4 0 0 r j) (by
    rw [Shape.rowMajor_val_four, Shape.rowMajor_val_two]
    show ((0 * 1 + 0) * n + r.val) * 256 + j.val = r.val * 256 + j.val
    omega)).trans ?_
  refine congrArg (w.read (Elt Ideal) f) (funext fun a => Fin.ext ?_)
  match a with
  | ⟨0, _⟩ => show s0 + 1 * 0 = s.val; omega
  | ⟨1, _⟩ => show h0 + 1 * 0 = hh.val; omega
  | ⟨2, _⟩ => show r0 + 1 * r.val = r0 + r.val; omega
  | ⟨3, _⟩ => show 0 + 1 * j.val = j.val; omega

/-- Both heads' scores stored in one slot. -/
theorem HasZ.put2 {s0 r0 n b : ℕ} (s : Fin 2) (hs : s.val = s0)
    (inb0 : ∀ a, (![s0, 0, r0, 0] : Fin 4 → ℕ) a + (![1, 1, n, 256] : Fin 4 → ℕ) a ≤ Slots.size a)
    (inb1 : ∀ a, (![s0, 1, r0, 0] : Fin 4 → ℕ) a + (![1, 1, n, 256] : Fin 4 → ℕ) a ≤ Slots.size a)
    (p0 p1 : (⟨4, ![1, 1, n, 256]⟩ : Shape).Idx → Elt Ideal .f32) (hn : r0 + n = 1024)
    (h0 : ∀ (r : Fin n) (j : Fin 256), p0 (ix4 0 0 r j) = zz 0 (r0 + r.val) (b + j.val))
    (h1 : ∀ (r : Fin n) (j : Fin 256), p1 (ix4 0 0 r j) = zz 1 (r0 + r.val) (b + j.val)) (hh : Fin 2) :
    HasZ w zz (w.writes (Elt Ideal) f (⟨Rect.unit (s := Slots) ![s0, 1, r0, 0] ![1, 1, n, 256] inb1, p1⟩
      :: ⟨Rect.unit (s := Slots) ![s0, 0, r0, 0] ![1, 1, n, 256] inb0, p0⟩ :: L)) s hh r0 b := by
  match hh with
  | ⟨0, _⟩ => exact (HasZ.put s 0 hs rfl inb0 p0 hn h0).keep inb1 p1 (Or.inr Nat.zero_ne_one)
  | ⟨1, _⟩ => exact HasZ.put s 1 hs rfl inb1 p1 hn h1

/-- They leave the other slot alone. -/
theorem HasZ.keep2 {s0 r0 r1 n b : ℕ} {s : Fin 2} (hs : s.val ≠ s0)
    (inb0 : ∀ a, (![s0, 0, r0, 0] : Fin 4 → ℕ) a + (![1, 1, n, 256] : Fin 4 → ℕ) a ≤ Slots.size a)
    (inb1 : ∀ a, (![s0, 1, r0, 0] : Fin 4 → ℕ) a + (![1, 1, n, 256] : Fin 4 → ℕ) a ≤ Slots.size a)
    (p0 p1 : (⟨4, ![1, 1, n, 256]⟩ : Shape).Idx → Elt Ideal .f32) (hh : Fin 2)
    (H : HasZ w zz (w.writes (Elt Ideal) f L) s hh r1 b) :
    HasZ w zz (w.writes (Elt Ideal) f (⟨Rect.unit (s := Slots) ![s0, 1, r0, 0] ![1, 1, n, 256] inb1, p1⟩
      :: ⟨Rect.unit (s := Slots) ![s0, 0, r0, 0] ![1, 1, n, 256] inb0, p0⟩ :: L)) s hh r1 b :=
  (H.keep inb0 p0 (Or.inl hs)).keep inb1 p1 (Or.inl hs)

/-- The scores of `n` rows against 256 keys, both under a unit axis. -/
def scoreV {n : ℕ} (hq : (Mat1 n 128).ShapeCasts (Mat n 128)) (hk : (Mat1 256 128).ShapeCasts (Mat 256 128))
    (ho : (Mat n 256).ShapeCasts ⟨4, ![1, 1, n, 256]⟩) (q : FVec Ideal (Mat1 n 128) .bf16) (k : FVec Ideal (Mat1 256 128) .bf16) :
    FVec Ideal ⟨4, ![1, 1, n, 256]⟩ .f32 :=
  shapeCast ⟨4, ![1, 1, n, 256]⟩ (matmul (DotDims.transposedRhs n 128 256) none (shapeCast (Mat n 128) q hq)
    (shapeCast (Mat 256 128) k hk) (constant (Mat n 256) .f32 0x00000000#32)) ho

theorem scoreV_at {n : ℕ} (hq : (Mat1 n 128).ShapeCasts (Mat n 128)) (hk : (Mat1 256 128).ShapeCasts (Mat 256 128))
    (ho : (Mat n 256).ShapeCasts ⟨4, ![1, 1, n, 256]⟩) (q : FVec Ideal (Mat1 n 128) .bf16) (k : FVec Ideal (Mat1 256 128) .bf16)
    (r : Fin n) (j : Fin 256) :
    scoreV hq hk ho q k (ix4 0 0 r j) = ∑ l : Fin 128, q (ix3 0 r l) * k (ix3 0 j l) := by
  refine (shapeCast_apply _ ho (ix4 0 0 r j) (ix2 r j) (by
    rw [Shape.rowMajor_val_four, Shape.rowMajor_val_two]
    show r.val * 256 + j.val = ((0 * 1 + 0) * n + r.val) * 256 + j.val
    omega)).trans ?_
  refine (Ideal.matmul_transposedRhs_apply none _ _ (constant (Mat n 256) .f32 0x00000000#32) r j).trans ?_
  rw [show constant (F := Ideal) (Mat n 256) .f32 0x00000000#32 (ValueIdx.ix2 r j) = 0 from Ideal.ofBits_zero_f32, zero_add]
  exact Finset.sum_congr rfl fun l _ => congrArg₂ (· * ·) (ValueIdx.shapeCast_1ab_ab_apply q hq r l)
    (ValueIdx.shapeCast_1ab_ab_apply k hk j l)

end Scores
end Buffers
end Cert.SB
end
-- ==== Proof.Blocks.lean ====
/- The blocks of keys and values the kernel reads, and the scores it forms from them. -/
module

public import proofs.«01_k».proof.Proof.Pieces
public import proofs.«01_k».proof.Proof.Gen.KernelIdeal.Loops

@[expose] public section

set_option maxRecDepth 16384

noncomputable section

namespace Cert.SB

open Idealize.ShloMosaic Idealize.ShloMosaic.TcCoe Idealize.SL.Sem
open Cert.KernelIdeal Cert.KernelIdeal.Gen

/-- The loop runs once for each query tile before this one. -/
theorem trips_eq : ∀ i : grid0.Coords, (k0_t1_loop i).trips = (i 2).val := by decide +kernel
/-- The keys scored at step `r` of pass `k`: the block one before the step's own, block zero at the end. -/
theorem off4_eq : ∀ (i : grid0.Coords) (k : Fin (k0_t1_loop i).trips) (r : Fin 4),
    k0_off4 i k (BitVec.ofNat 32 r.val) = ![0, 256 * (4 * (i 2).val - 1 - 4 * k.val - r.val - 1), 0] := by decide +kernel
/-- The values gathered at step `r` of pass `k`. -/
theorem off5_eq : ∀ (i : grid0.Coords) (k : Fin (k0_t1_loop i).trips) (r : Fin 4),
    k0_off5 i k (BitVec.ofNat 32 r.val) = ![0, 256 * (4 * (i 2).val - 1 - 4 * k.val - r.val), 0] := by decide +kernel

theorem load_block {sig : RefSig} {κ : Kind} {sp : Space} {e : EltTy} (w : View sig κ sp S1x8192x128 e)
    (f : w.ty.Contents (Elt Ideal)) {off : Fin 3 → ℕ} {b : ℕ} (ho : off = ![0, b, 0])
    (inb : ∀ a, off a + (![1, 256, 128] : Fin 3 → ℕ) a ≤ S1x8192x128.size a) (c : Fin 1) (j : Fin 256) (l : Fin 128)
    (hb : b + j.val < 8192) :
    w.readAt (Elt Ideal) (Rect.unit (s := S1x8192x128) off ![1, 256, 128] inb).toLoadRect f (ix3 c j l)
      = w.read (Elt Ideal) f (ix3 0 ⟨b + j.val, hb⟩ l) := by
  subst ho
  refine congrArg (w.read (Elt Ideal) f) (funext fun a => Fin.ext ?_)
  have hb : c.val = 0 := by omega
  match a with
  | ⟨0, _⟩ => show 0 + 1 * c.val = 0; omega
  | ⟨1, _⟩ => show b + 1 * j.val = b + j.val; omega
  | ⟨2, _⟩ => show 0 + 1 * l.val = l.val; omega

/-- The scores of the masked queries against the keys. -/
def scoreOf (qm : Fin 2 → ℕ → Fin 128 → EReal) (key : ℕ → Fin 128 → EReal) (hh : Fin 2) (r j : ℕ) : EReal :=
  ∑ l : Fin 128, qm hh r l * key j l

/-- What the carried sums should be: every lane the row's tail. -/
def tgtC (T : ℕ) (zz : Fin 2 → ℕ → ℕ → EReal) (hh : Fin 2) (r b : ℕ) (_ : Fin 128) : EReal := tail T (zz hh) r b
/-- What the accumulators should be. -/
def tgtA (T : ℕ) (zz : Fin 2 → ℕ → ℕ → EReal) (v : ℕ → Fin 128 → EReal) (hh : Fin 2) (r b : ℕ) (l : Fin 128) : EReal :=
  gathered T (zz hh) v r b l

/-- The buffers the loop reads and never writes. -/
structure Env (T : ℕ) (qm : Fin 2 → ℕ → Fin 128 → EReal) (key val : ℕ → Fin 128 → EReal)
    (arg4 arg5 : Memref sig .tc .vmem S1x8192x128 .bf16) (arg7 : Memref sig .tc .vmem S2x1024x128 .bf16)
    (u : FVec Ideal (Mat 256 256) .bf16) (X4 : BufTy.Contents (Elt Ideal) arg4.view.ty)
    (X5 : BufTy.Contents (Elt Ideal) arg5.view.ty) (X7 : BufTy.Contents (Elt Ideal) arg7.view.ty) : Prop where
  ones : ∀ k j : Fin 256, u (ix2 k j) = if j.val ≤ k.val then (1 : EReal) else 0
  queries : ∀ (hh : Fin 2) (r : Fin 1024) (l : Fin 128), arg7.view.read (Elt Ideal) X7 (ix3 hh r l) = qm hh r.val l
  keys : ∀ (j : Fin 8192) (l : Fin 128), arg4.view.read (Elt Ideal) X4 (ix3 0 j l) = key j.val l
  values : ∀ (j : Fin 8192) (l : Fin 128), arg5.view.read (Elt Ideal) X5 (ix3 0 j l) = val j.val l

section Blocks
variable {T : ℕ} {qm : Fin 2 → ℕ → Fin 128 → EReal} {key val : ℕ → Fin 128 → EReal}
  {arg4 arg5 : Memref sig .tc .vmem S1x8192x128 .bf16} {arg7 : Memref sig .tc .vmem S2x1024x128 .bf16}
  {u : FVec Ideal (Mat 256 256) .bf16} {X4 : BufTy.Contents (Elt Ideal) arg4.view.ty}
  {X5 : BufTy.Contents (Elt Ideal) arg5.view.ty} {X7 : BufTy.Contents (Elt Ideal) arg7.view.ty}

/-- A block of scores: rows from `r0` of head `hh` against the keys from `b`. -/
theorem Env.score (E : Env T qm key val arg4 arg5 arg7 u X4 X5 X7) {n h0 r0 b : ℕ} {off : Fin 3 → ℕ} (ho : off = ![0, b, 0])
    (hh : Fin 2) (hv : hh.val = h0) (hb : b + 256 ≤ 8192)
    (inb4 : ∀ a, off a + (![1, 256, 128] : Fin 3 → ℕ) a ≤ S1x8192x128.size a)
    (inb7 : ∀ a, (![h0, r0, 0] : Fin 3 → ℕ) a + (![1, n, 128] : Fin 3 → ℕ) a ≤ S2x1024x128.size a)
    (hq : (Mat1 n 128).ShapeCasts (Mat n 128)) (hk : (Mat1 256 128).ShapeCasts (Mat 256 128))
    (hs : (Mat n 256).ShapeCasts ⟨4, ![1, 1, n, 256]⟩) (r : Fin n) (j : Fin 256) :
    scoreV hq hk hs
      (arg7.view.readAt (Elt Ideal) (Rect.unit (s := S2x1024x128) ![h0, r0, 0] ![1, n, 128] inb7).toLoadRect X7)
      (arg4.view.readAt (Elt Ideal) (Rect.unit (s := S1x8192x128) off ![1, 256, 128] inb4).toLoadRect X4) (ix4 0 0 r j)
      = scoreOf qm key hh (r0 + r.val) (b + j.val) := by
  have hr := r.isLt
  have hj := j.isLt
  have h1 : r0 + n ≤ 1024 := inb7 1
  rw [scoreV_at, scoreOf]
  refine Finset.sum_congr rfl fun l _ => ?_
  rw [load3 arg7.view X7 inb7 hh hv 0 r l (by omega), load_block arg4.view X4 ho inb4 0 j l (by omega), E.queries, E.keys]

/-- A block of values. -/
theorem Env.value (E : Env T qm key val arg4 arg5 arg7 u X4 X5 X7) {b : ℕ} {off : Fin 3 → ℕ} (ho : off = ![0, b, 0])
    (hb : b + 256 ≤ 8192) (inb5 : ∀ a, off a + (![1, 256, 128] : Fin 3 → ℕ) a ≤ S1x8192x128.size a)
    (hk : (Mat1 256 128).ShapeCasts (Mat 256 128)) (j : Fin 256) (l : Fin 128) :
    shapeCast (Mat 256 128) (arg5.view.readAt (Elt Ideal) (Rect.unit (s := S1x8192x128) off ![1, 256, 128] inb5).toLoadRect X5)
      hk (ix2 j l) = val (b + j.val) l := by
  have hj := j.isLt
  refine (ValueIdx.shapeCast_1ab_ab_apply _ hk j l).trans ?_
  exact (load_block arg5.view X5 ho inb5 0 j l (by omega)).trans (E.values _ l)

/-- The rows `[r0, r0 + n)` may count as having come to key `b`: either they have, or no key from either point on is theirs. -/
def Ready (T : ℕ) (hh : Fin 2) (st : Fin 2 → ℕ → ℕ) (r0 n b : ℕ) : Prop :=
  ∀ r : ℕ, r0 ≤ r → r < r0 + n → st hh r = b ∨ (T + r ≤ st hh r ∧ T + r ≤ b)

theorem Ready.c {hh : Fin 2} {st : Fin 2 → ℕ → ℕ} {r0 n b : ℕ} (R : Ready T hh st r0 n b) (zz : Fin 2 → ℕ → ℕ → EReal) (r : ℕ)
    (h1 : r0 ≤ r) (h2 : r < r0 + n) (l : Fin 128) : tgtC T zz hh r (st hh r) l = tgtC T zz hh r b l := by
  rcases R r h1 h2 with h | ⟨h, h'⟩
  · rw [h]
  · exact (tail_done _ _ h).trans (tail_done _ _ h').symm

theorem Ready.a {hh : Fin 2} {st : Fin 2 → ℕ → ℕ} {r0 n b : ℕ} (R : Ready T hh st r0 n b) (zz : Fin 2 → ℕ → ℕ → EReal) (r : ℕ)
    (h1 : r0 ≤ r) (h2 : r < r0 + n) (l : Fin 128) : tgtA T zz val hh r (st hh r) l = tgtA T zz val hh r b l := by
  rcases R r h1 h2 with h | ⟨h, h'⟩
  · rw [h]
  · exact (gathered_done _ _ _ _ h).trans (gathered_done _ _ _ _ h').symm

/-- When every row may count as having come to `b`, all have. -/
theorem Holds.settleC {w : View sig .tc .vmem S2x1024x128 .f32} {zz : Fin 2 → ℕ → ℕ → EReal} {f : w.ty.Contents (Elt Ideal)}
    {st : Fin 2 → ℕ → ℕ} {b : ℕ} (H : Holds w (tgtC T zz) f st) (R : ∀ hh, Ready T hh st 0 1024 b) :
    Holds w (tgtC T zz) f (fun _ _ => b) := fun hh r l =>
  (H hh r l).trans ((R hh).c zz r (Nat.zero_le _) (by have := r.isLt; omega) l)

theorem Holds.settleA {w : View sig .tc .vmem S2x1024x128 .f32} {zz : Fin 2 → ℕ → ℕ → EReal} {f : w.ty.Contents (Elt Ideal)}
    {st : Fin 2 → ℕ → ℕ} {b : ℕ} (H : Holds w (tgtA T zz val) f st) (R : ∀ hh, Ready T hh st 0 1024 b) :
    Holds w (tgtA T zz val) f (fun _ _ => b) := fun hh r l =>
  (H hh r l).trans ((R hh).a zz r (Nat.zero_le _) (by have := r.isLt; omega) l)

/-- What a block's update of rows `[r0, r0 + n)` of head `h0` reads, from the score slot `s0` and the carried sums. -/
theorem Env.reads (E : Env T qm key val arg4 arg5 arg7 u X4 X5 X7) {arg8 : Memref sig .tc .vmem S2x2x1024x256 .f32}
    {arg9 : Memref sig .tc .vmem S2x1024x128 .f32} {f8 : BufTy.Contents (Elt Ideal) arg8.view.ty}
    {f9 : BufTy.Contents (Elt Ideal) arg9.view.ty} {s0 h0 r0 r1 n b : ℕ} {s hh : Fin 2} {st : Fin 2 → ℕ → ℕ}
    (hb : b + 256 ≤ 8192) (Z : HasZ arg8.view (scoreOf qm key) f8 s hh r1 b)
    (C : Holds arg9.view (tgtC T (scoreOf qm key)) f9 st) (hs : s.val = s0) (hv : hh.val = h0) (hr : r1 ≤ r0)
    (R : Ready T hh st r0 n (b + 256))
    (inb8 : ∀ a, (![s0, h0, r0, 0] : Fin 4 → ℕ) a + (![1, 1, n, 256] : Fin 4 → ℕ) a ≤ Slots.size a)
    (inb9 : ∀ a, (![h0, r0, 0] : Fin 3 → ℕ) a + (![1, n, 128] : Fin 3 → ℕ) a ≤ Rows2.size a)
    (h : (⟨4, ![1, 1, n, 256]⟩ : Shape).ShapeCasts (Mat n 256)) :
    Reads T (scoreOf qm key hh) b r0 u
      (shapeCast (Mat n 256)
        (arg8.view.readAt (Elt Ideal) (Rect.unit (s := Slots) ![s0, h0, r0, 0] ![1, 1, n, 256] inb8).toLoadRect f8) h)
      (arg9.view.readAt (Elt Ideal) (Rect.unit (s := Rows2) ![h0, r0, 0] ![1, n, 128] inb9).toLoadRect f9) where
  inside := hb
  ones := E.ones
  score := fun r j => Z.load hs hv inb8 hr h r j
  carry := fun r l => C.load (b := b + 256) hh hv inb9 (R.c (scoreOf qm key)) 0 r l

/-- The accumulator it adds to. -/
theorem adds {zz : Fin 2 → ℕ → ℕ → EReal} {arg10 : Memref sig .tc .vmem S2x1024x128 .f32}
    {f10 : BufTy.Contents (Elt Ideal) arg10.view.ty} {h0 r0 n b : ℕ} {hh : Fin 2} {st : Fin 2 → ℕ → ℕ}
    (A : Holds arg10.view (tgtA T zz val) f10 st) (hv : hh.val = h0) (R : Ready T hh st r0 n (b + 256))
    (inb10 : ∀ a, (![h0, r0, 0] : Fin 3 → ℕ) a + (![1, n, 128] : Fin 3 → ℕ) a ≤ Rows2.size a) (r : Fin n) (l : Fin 128) :
    arg10.view.readAt (Elt Ideal) (Rect.unit (s := Rows2) ![h0, r0, 0] ![1, n, 128] inb10).toLoadRect f10 (ix3 0 r l)
      = gathered T (zz hh) val (r0 + r.val) (b + 256) l :=
  A.load (b := b + 256) hh hv inb10 (R.a zz) 0 r l

/-- The rows found by a head's update. -/
theorem ready_all {T a b n : ℕ} {hh : Fin 2} (h : a = b) : Ready T hh (fun _ _ => a) 0 n b := fun _ _ _ => Or.inl h

theorem ready_other {T a b c n : ℕ} {hh : Fin 2} (hv : hh.val = 1) (h : a = b) :
    Ready T hh (upd (fun _ _ => a) 0 0 1024 c) 0 n b := fun _ _ _ =>
  Or.inl ((if_neg (fun hc => Nat.one_ne_zero (hv.symm.trans hc.1))).trans h)

end Blocks
end Cert.SB
end
-- ==== Proof.Diagonal.lean ====
/- The kernel before its loop: the masked queries, the triangle of ones, and the four blocks on the diagonal. -/
module

public import proofs.«01_k».proof.Proof.Blocks
public import proofs.«01_k».proof.Proof.Gen.KernelIdeal.Frame.RunA

@[expose] public section

set_option maxRecDepth 16384

noncomputable section

namespace Cert.SB

open Idealize.ShloMosaic Idealize.ShloMosaic.TcCoe Idealize.SL.Sem
open Cert.KernelIdeal Cert.KernelIdeal.Gen

theorem off1_eq : ∀ i : grid0.Coords, k0_off1 i = ![0, 256 * (4 * (i 2).val + 3), 0] := by decide +kernel
theorem off2_eq : ∀ (i : grid0.Coords) (d : Fin 4),
    k0_off2 i (BitVec.ofNat 32 d.val) = ![0, 256 * (4 * (i 2).val + d.val - 1), 0] := by decide +kernel
theorem off3_eq : ∀ (i : grid0.Coords) (d : Fin 4),
    k0_off3 i (BitVec.ofNat 32 d.val) = ![0, 256 * (4 * (i 2).val + d.val), 0] := by decide +kernel

theorem small_word : ∀ a : Fin 256, (BitVec.ofNat 32 a.val).toInt = (a.val : ℤ) := by decide +kernel

theorem after_word (r j : Fin 256) :
    Scalar.cmpi .slt (BitVec.ofNat 32 j.val) (BitVec.ofNat 32 r.val) = if j.val < r.val then (1 : BitVec 1) else 0 := by
  show BitVec.ofBool (decide ((BitVec.ofNat 32 j.val).toInt < (BitVec.ofNat 32 r.val).toInt)) = _
  rw [small_word, small_word]
  by_cases h : j.val < r.val
  · rw [if_pos h, decide_eq_true (by omega)]; rfl
  · rw [if_neg h, decide_eq_false (by omega)]; rfl

theorem upto_word (k j : Fin 256) :
    Scalar.cmpi .sge (BitVec.ofNat 32 k.val) (BitVec.ofNat 32 j.val) = if j.val ≤ k.val then (1 : BitVec 1) else 0 := by
  show BitVec.ofBool (decide ((BitVec.ofNat 32 j.val).toInt ≤ (BitVec.ofNat 32 k.val).toInt)) = _
  rw [small_word, small_word]
  by_cases h : j.val ≤ k.val
  · rw [if_pos h, decide_eq_true (by omega)]; rfl
  · rw [if_neg h, decide_eq_false (by omega)]; rfl

theorem low_word : ∀ l : Fin 128, Scalar.andi (Scalar.cmpi .sge (BitVec.ofNat 32 l.val) 0#32)
    (Scalar.cmpi .slt (BitVec.ofNat 32 l.val) 64#32) = if l.val / 64 = 0 then (1 : BitVec 1) else 0 := by decide +kernel
theorem high_word : ∀ l : Fin 128, Scalar.andi (Scalar.cmpi .sge (BitVec.ofNat 32 l.val) 64#32)
    (Scalar.cmpi .slt (BitVec.ofNat 32 l.val) 128#32) = if l.val / 64 = 1 then (1 : BitVec 1) else 0 := by decide +kernel

/-- The mask of a diagonal block: the keys before the row. -/
theorem mask_at (h1 : S256x256.Iotas .tc 32 [1]) (h0 : S256x256.Iotas .tc 32 [0]) (r j : Fin 256) :
    cmpi .slt (iota .tc S256x256 32 [1] h1) (iota .tc S256x256 32 [0] h0) (ix2 r j)
      = if j.val < r.val then (1 : BitVec 1) else 0 := by
  show Scalar.cmpi .slt (BitVec.ofNat 32 (0 * 256 + j.val)) (BitVec.ofNat 32 (0 * 256 + r.val)) = _
  rw [Nat.zero_mul, Nat.zero_add, Nat.zero_add]
  exact after_word r j

/-- The triangle of ones the running sums are taken with. -/
theorem ones_at (k j : Fin 256) :
    kernelRun0_A.sl.v7 (F := Ideal) (ix2 k j) = if j.val ≤ k.val then (1 : EReal) else 0 := by
  show Scalar.select (Scalar.cmpi .sge (BitVec.ofNat 32 (0 * 256 + k.val)) (BitVec.ofNat 32 (0 * 256 + j.val)))
    (Ideal.ofBits .f32 0x3F800000#32) (Ideal.ofBits .f32 0x00000000#32) = _
  rw [Nat.zero_mul, Nat.zero_add, Nat.zero_add, upto_word, Ideal.ofBits_one_f32, Ideal.ofBits_zero_f32]
  by_cases h : j.val ≤ k.val
  · rw [if_pos h, if_pos h]
    rfl
  · rw [if_neg h, if_neg h]
    rfl

/-- The queries of head `hh`: its own 64 lanes, zero elsewhere. -/
def masked (q : ℕ → Fin 128 → EReal) (hh : Fin 2) (r : ℕ) (l : Fin 128) : EReal := if l.val / 64 = hh.val then q r l else 0

section Diagonal
variable {T : ℕ} {q key val : ℕ → Fin 128 → EReal}
  (c : Dev nD) (i : grid0.Coords)
  (arg3 : Memref sig .tc .vmem S1x1024x128 .bf16) (harg3 : arg3.IsWhole)
  (arg4 : Memref sig .tc .vmem S1x8192x128 .bf16) (harg4 : arg4.IsWhole)
  (arg5 : Memref sig .tc .vmem S1x8192x128 .bf16) (harg5 : arg5.IsWhole)
  (arg7 : Memref sig .tc .vmem S2x1024x128 .bf16) (arg8 : Memref sig .tc .vmem S2x2x1024x256 .f32)
  (arg9 arg10 : Memref sig .tc .vmem S2x1024x128 .f32)
  (x0 : Vec Ideal S1x1024x128 .bf16) (x1 x2 : Vec Ideal S1x8192x128 .bf16)

/-- One block of queries, and the keys and values of its heads. -/
structure Given (T : ℕ) (q key val : ℕ → Fin 128 → EReal) (i : grid0.Coords)
    (x0 : Vec Ideal S1x1024x128 .bf16) (x1 x2 : Vec Ideal S1x8192x128 .bf16) : Prop where
  first : T = 1024 * (i 2).val
  queries : ∀ (r : Fin 1024) (l : Fin 128), x0 (ix3 0 r l) = q r.val l
  keys : ∀ (j : Fin 8192) (l : Fin 128), x1 (ix3 0 j l) = key j.val l
  values : ∀ (j : Fin 8192) (l : Fin 128), x2 (ix3 0 j l) = val j.val l

theorem load_queries (r : Fin 1024) (l : Fin 128) :
    kernelRun0_A.sl.v14 c arg3 harg3 x0 (ix2 r l) = x0 (ix3 0 r l) := by
  refine (ValueIdx.shapeCast_1ab_ab_apply _ _ r l).trans ?_
  show arg3.view.read (Elt Ideal) (harg3.unread x0) _ = _
  rw [harg3.read_unread]
  refine congrArg x0 (funext fun a => Fin.ext ?_)
  match a with
  | ⟨0, _⟩ => rfl
  | ⟨1, _⟩ => show 0 + 1 * r.val = r.val; omega
  | ⟨2, _⟩ => show 0 + 1 * l.val = l.val; omega

variable {i x0 x1 x2} (G : Given T q key val i x0 x1 x2)
include G

theorem Given.masked_at (hh : Fin 2) (r : Fin 1024) (l : Fin 128) (g : BufTy.Contents (Elt Ideal) arg7.view.ty) :
    arg7.view.read (Elt Ideal) (arg7.view.writes (Elt Ideal) g (kernelRun0_A.sl.HS0_2 c arg3 harg3 x0)) (ix3 hh r l)
      = masked q hh r.val l := by
  have hz : (kernelRun0_A.sl.v15 (F := Ideal)) (ix2 r l) = 0 := Ideal.ofBits_zero_bf16
  have hq := (load_queries c arg3 harg3 x0 r l).trans (G.queries r l)
  unfold masked
  refine (pair3 arg7.view g _ _ _ _ [] hh r l).trans ?_
  match hh with
  | ⟨0, _⟩ =>
    refine (if_pos rfl).trans ?_
    refine (ValueIdx.shapeCast_ab_1ab_apply _ _ 0 r l).trans ?_
    show Scalar.select (Scalar.andi (Scalar.cmpi .sge (BitVec.ofNat 32 (0 * 128 + l.val)) 0#32)
      (Scalar.cmpi .slt (BitVec.ofNat 32 (0 * 128 + l.val)) 64#32)) (kernelRun0_A.sl.v14 c arg3 harg3 x0 (ix2 r l))
      (kernelRun0_A.sl.v15 (F := Ideal) (ix2 r l)) = _
    rw [Nat.zero_mul, Nat.zero_add, low_word, hz, hq]
    by_cases h : l.val / 64 = 0
    · rw [if_pos h, if_pos h]; rfl
    · rw [if_neg h, if_neg h]; rfl
  | ⟨1, _⟩ =>
    refine (if_neg (fun h => Nat.one_ne_zero (congrArg Fin.val h))).trans ?_
    refine (ValueIdx.shapeCast_ab_1ab_apply _ _ 0 r l).trans ?_
    show Scalar.select (Scalar.andi (Scalar.cmpi .sge (BitVec.ofNat 32 (0 * 128 + l.val)) 64#32)
      (Scalar.cmpi .slt (BitVec.ofNat 32 (0 * 128 + l.val)) 128#32)) (kernelRun0_A.sl.v14 c arg3 harg3 x0 (ix2 r l))
      (kernelRun0_A.sl.v15 (F := Ideal) (ix2 r l)) = _
    rw [Nat.zero_mul, Nat.zero_add, high_word, hz, hq]
    by_cases h : l.val / 64 = 1
    · rw [if_pos h, if_pos h]; rfl
    · rw [if_neg h, if_neg h]; rfl

theorem Given.env (g : BufTy.Contents (Elt Ideal) arg7.view.ty) :
    Env T (masked q) key val arg4 arg5 arg7 kernelRun0_A.sl.v7 (harg4.unread x1) (harg5.unread x2)
      (arg7.view.writes (Elt Ideal) g (kernelRun0_A.sl.HS0_2 c arg3 harg3 x0)) where
  ones := ones_at
  queries := fun hh r l => G.masked_at c arg3 harg3 arg7 hh r l g
  keys := fun j l => by rw [harg4.read_unread]; exact G.keys j l
  values := fun j l => by rw [harg5.read_unread]; exact G.values j l

theorem Given.key_off (d : Fin 4) {b : ℕ} (hb : 256 * (4 * (i 2).val + d.val - 1) = b) :
    k0_off2 i (BitVec.ofNat 32 d.val) = ![0, b, 0] := by rw [off2_eq, hb]

theorem Given.val_off (d : Fin 4) {b : ℕ} (hb : b = T + 256 * d.val) :
    k0_off3 i (BitVec.ofNat 32 d.val) = ![0, b, 0] := by
  rw [off3_eq, hb, G.first, show 1024 * (i 2).val + 256 * d.val = 256 * (4 * (i 2).val + d.val) by omega]

include harg5
variable (g8 : BufTy.Contents (Elt Ideal) arg8.view.ty) (hh : Fin 2)

/-- The scores of the last block, and of the three before it as they are stored. -/
theorem Given.z3 : HasZ arg8.view (scoreOf (masked q) key)
    (arg8.view.writes (Elt Ideal) g8 (kernelRun0_A.sl.HS1_4 c i arg3 harg3 arg4 harg4 arg7 x0 x1)) 1 hh 768 (T + 768) := by
  have hT := G.first; have hi := (i 2).isLt; have hi : (i 2).val < 8 := hi
  have ho : k0_off1 i = ![0, T + 768, 0] := by
    rw [off1_eq, hT, show 1024 * (i 2).val + 768 = 256 * (4 * (i 2).val + 3) by omega]
  exact HasZ.keep2 (s0 := 0) (r0 := 512) (n := 512) Nat.one_ne_zero _ _ _ _ hh
    (HasZ.put2 (s0 := 1) (r0 := 768) (n := 256) 1 rfl _ _ _ _ rfl
    (fun r j => (G.env c arg3 harg3 arg4 harg4 arg5 harg5 arg7 arg7.view.junk).score ho 0 rfl (by omega) _ _ _ _ _ r j)
    (fun r j => (G.env c arg3 harg3 arg4 harg4 arg5 harg5 arg7 arg7.view.junk).score ho 1 rfl (by omega) _ _ _ _ _ r j) hh)

/-- The scores of the block before the last. -/
theorem Given.z2 : HasZ arg8.view (scoreOf (masked q) key)
    (arg8.view.writes (Elt Ideal) g8 (kernelRun0_A.sl.HS1_4 c i arg3 harg3 arg4 harg4 arg7 x0 x1)) 0 hh 512 (T + 512) := by
  have hT := G.first; have hi := (i 2).isLt; have hi : (i 2).val < 8 := hi
  exact HasZ.put2 (s0 := 0) (r0 := 512) (n := 512) 0 rfl _ _ _ _ rfl
    (fun r j => (G.env c arg3 harg3 arg4 harg4 arg5 harg5 arg7 arg7.view.junk).score (G.key_off 3 (show 256 * (4 * (i 2).val + 3 - 1) = T + 512 by omega)) 0 rfl (by omega) _ _ _ _ _ r j)
    (fun r j => (G.env c arg3 harg3 arg4 harg4 arg5 harg5 arg7 arg7.view.junk).score (G.key_off 3 (show 256 * (4 * (i 2).val + 3 - 1) = T + 512 by omega)) 1 rfl (by omega) _ _ _ _ _ r j) hh

theorem Given.z2' : HasZ arg8.view (scoreOf (masked q) key)
    (arg8.view.writes (Elt Ideal) g8 (kernelRun0_A.sl.HS1_6 c i arg3 harg3 arg4 harg4 arg7 x0 x1)) 0 hh 512 (T + 512) :=
  HasZ.keep2 (s0 := 1) (r0 := 256) (n := 768) Nat.zero_ne_one _ _ _ _ hh
    (G.z2 c arg3 harg3 arg4 harg4 arg5 harg5 arg7 arg8 g8 hh)

/-- The scores of the second block. -/
theorem Given.z1 : HasZ arg8.view (scoreOf (masked q) key)
    (arg8.view.writes (Elt Ideal) g8 (kernelRun0_A.sl.HS1_6 c i arg3 harg3 arg4 harg4 arg7 x0 x1)) 1 hh 256 (T + 256) := by
  have hT := G.first; have hi := (i 2).isLt; have hi : (i 2).val < 8 := hi
  exact HasZ.put2 (s0 := 1) (r0 := 256) (n := 768) 1 rfl _ _ _ _ rfl
    (fun r j => (G.env c arg3 harg3 arg4 harg4 arg5 harg5 arg7 arg7.view.junk).score (G.key_off 2 (show 256 * (4 * (i 2).val + 2 - 1) = T + 256 by omega)) 0 rfl (by omega) _ _ _ _ _ r j)
    (fun r j => (G.env c arg3 harg3 arg4 harg4 arg5 harg5 arg7 arg7.view.junk).score (G.key_off 2 (show 256 * (4 * (i 2).val + 2 - 1) = T + 256 by omega)) 1 rfl (by omega) _ _ _ _ _ r j) hh

theorem Given.z1' : HasZ arg8.view (scoreOf (masked q) key)
    (arg8.view.writes (Elt Ideal) g8 (kernelRun0_A.sl.HS1_8 c i arg3 harg3 arg4 harg4 arg7 x0 x1)) 1 hh 256 (T + 256) :=
  HasZ.keep2 (s0 := 0) (r0 := 0) (n := 1024) Nat.one_ne_zero _ _ _ _ hh
    (G.z1 c arg3 harg3 arg4 harg4 arg5 harg5 arg7 arg8 g8 hh)

/-- The scores of the first block. -/
theorem Given.z0 : HasZ arg8.view (scoreOf (masked q) key)
    (arg8.view.writes (Elt Ideal) g8 (kernelRun0_A.sl.HS1_8 c i arg3 harg3 arg4 harg4 arg7 x0 x1)) 0 hh 0 (T) := by
  have hT := G.first; have hi := (i 2).isLt; have hi : (i 2).val < 8 := hi
  exact HasZ.put2 (s0 := 0) (r0 := 0) (n := 1024) 0 rfl _ _ _ _ rfl
    (fun r j => (G.env c arg3 harg3 arg4 harg4 arg5 harg5 arg7 arg7.view.junk).score (G.key_off 1 (show 256 * (4 * (i 2).val + 1 - 1) = T by omega)) 0 rfl (by omega) _ _ _ _ _ r j)
    (fun r j => (G.env c arg3 harg3 arg4 harg4 arg5 harg5 arg7 arg7.view.junk).score (G.key_off 1 (show 256 * (4 * (i 2).val + 1 - 1) = T by omega)) 1 rfl (by omega) _ _ _ _ _ r j) hh

theorem Given.z0' : HasZ arg8.view (scoreOf (masked q) key)
    (arg8.view.writes (Elt Ideal) g8 (kernelRun0_A.sl.HS1_10 c i arg3 harg3 arg4 harg4 arg7 x0 x1)) 0 hh 0 T :=
  HasZ.keep2 (s0 := 1) (r0 := 0) (n := 1024) Nat.zero_ne_one _ _ _ _ hh
    (G.z0 c arg3 harg3 arg4 harg4 arg5 harg5 arg7 arg8 g8 hh)

/-- The scores of the block the loop begins with. -/
theorem Given.zp : HasZ arg8.view (scoreOf (masked q) key)
    (arg8.view.writes (Elt Ideal) g8 (kernelRun0_A.sl.HS1_10 c i arg3 harg3 arg4 harg4 arg7 x0 x1)) 1 hh 0 (256 * (4 * (i 2).val - 1)) := by
  have hT := G.first; have hi := (i 2).isLt; have hi : (i 2).val < 8 := hi
  exact HasZ.put2 (s0 := 1) (r0 := 0) (n := 1024) 1 rfl _ _ _ _ rfl
    (fun r j => (G.env c arg3 harg3 arg4 harg4 arg5 harg5 arg7 arg7.view.junk).score (G.key_off 0 (show 256 * (4 * (i 2).val + 0 - 1) = 256 * (4 * (i 2).val - 1) by omega)) 0 rfl (by omega) _ _ _ _ _ r j)
    (fun r j => (G.env c arg3 harg3 arg4 harg4 arg5 harg5 arg7 arg7.view.junk).score (G.key_off 0 (show 256 * (4 * (i 2).val + 0 - 1) = 256 * (4 * (i 2).val - 1) by omega)) 1 rfl (by omega) _ _ _ _ _ r j) hh

/-- The sums and the accumulators as they begin: every row before its first key. -/
theorem Given.begin_c (g : BufTy.Contents (Elt Ideal) arg9.view.ty) : Holds arg9.view (tgtC T (scoreOf (masked q) key))
    (arg9.view.writes (Elt Ideal) g kernelRun0_A.sl.HS2_1) (fun _ _ => T + 1024) := fun hh r l =>
  (all3 arg9.view g _ _ [] hh r l).trans (Ideal.ofBits_zero_f32.trans (tail_done _ _ (show T + r.val ≤ T + 1024 by omega)).symm)

theorem Given.begin_a (g : BufTy.Contents (Elt Ideal) arg10.view.ty) : Holds arg10.view (tgtA T (scoreOf (masked q) key) val)
    (arg10.view.writes (Elt Ideal) g kernelRun0_A.sl.HS2_1) (fun _ _ => T + 1024) := fun hh r l =>
  (all3 arg10.view g _ _ [] hh r l).trans (Ideal.ofBits_zero_f32.trans (gathered_done _ _ _ _ (show T + r.val ≤ T + 1024 by omega)).symm)

/-- After the last block. -/
theorem Given.b3 :
    (∀ g : BufTy.Contents (Elt Ideal) arg9.view.ty, Holds arg9.view (tgtC T (scoreOf (masked q) key))
      (arg9.view.writes (Elt Ideal) g (kernelRun0_A.sl.HS2_3 c i arg3 harg3 arg4 harg4 arg7 arg8 arg9 x0 x1)) (fun _ _ => T + 768)) ∧
    (∀ g : BufTy.Contents (Elt Ideal) arg10.view.ty, Holds arg10.view (tgtA T (scoreOf (masked q) key) val)
      (arg10.view.writes (Elt Ideal) g (kernelRun0_A.sl.HS3_3 c i arg3 harg3 arg4 harg4 arg5 harg5 arg7 arg8 arg9 arg10 x0 x1 x2)) (fun _ _ => T + 768)) := by
  have hT := G.first; have hi : (i 2).val < 8 := (i 2).isLt
  have E := G.env c arg3 harg3 arg4 harg4 arg5 harg5 arg7 arg7.view.junk
  have Z := G.z3 c arg3 harg3 arg4 harg4 arg5 harg5 arg7 arg8 arg8.view.junk
  have c1 := G.begin_c arg5 harg5 arg9
  have a1 := G.begin_a arg5 harg5 arg10
  have V := E.value (G.val_off 3 (show T + 768 = T + 256 * 3 by omega)) (by omega)
  have R2 (hh : Fin 2) (hv : hh.val = 0) := E.reads (n := 256) (r0 := 768) (b := T + 768) (by omega) (Z hh)
    (c1 arg9.view.junk) rfl hv (by omega) (fun _ _ _ => Or.inl rfl)
  have c2 : ∀ g : BufTy.Contents (Elt Ideal) arg9.view.ty, Holds arg9.view (tgtC T (scoreOf (masked q) key))
      (arg9.view.writes (Elt Ideal) g (kernelRun0_A.sl.HS2_2 c i arg3 harg3 arg4 harg4 arg7 arg8 arg9 x0 x1)) (upd (fun _ _ => T + 1024) 0 768 256 (T + 768)) := fun g =>
    (c1 g).put _ _ fun hh hv r l => triC_at (h := fits256) (R2 hh hv _ _ shapeCasts_S1x1x256x256_S256x256) rfl (mask_at _ _) 0 r l
  have a2 : ∀ g : BufTy.Contents (Elt Ideal) arg10.view.ty, Holds arg10.view (tgtA T (scoreOf (masked q) key) val)
      (arg10.view.writes (Elt Ideal) g (kernelRun0_A.sl.HS3_2 c i arg3 harg3 arg4 harg4 arg5 harg5 arg7 arg8 arg9 arg10 x0 x1 x2)) (upd (fun _ _ => T + 1024) 0 768 256 (T + 768)) := fun g =>
    (a1 g).put _ _ fun hh hv r l => triA_at (h := fits256) (R2 hh hv _ _ shapeCasts_S1x1x256x256_S256x256) rfl (mask_at _ _)
      (V _ shapeCasts_S1x256x128_S256x128) (adds (a1 arg10.view.junk) hv (fun _ _ _ => Or.inl rfl) _) 0 r l
  have R3 (hh : Fin 2) (hv : hh.val = 1) := E.reads (n := 256) (r0 := 768) (b := T + 768) (by omega) (Z hh)
    (c2 arg9.view.junk) rfl hv (by omega) (by intro r _ _; simp only [upd]; split_ifs <;> omega)
  have c3 : ∀ g : BufTy.Contents (Elt Ideal) arg9.view.ty, Holds arg9.view (tgtC T (scoreOf (masked q) key))
      (arg9.view.writes (Elt Ideal) g (kernelRun0_A.sl.HS2_3 c i arg3 harg3 arg4 harg4 arg7 arg8 arg9 x0 x1)) (upd (upd (fun _ _ => T + 1024) 0 768 256 (T + 768)) 1 768 256 (T + 768)) := fun g =>
    (c2 g).put _ _ fun hh hv r l => triC_at (h := fits256) (R3 hh hv _ _ shapeCasts_S1x1x256x256_S256x256) rfl (mask_at _ _) 0 r l
  have a3 : ∀ g : BufTy.Contents (Elt Ideal) arg10.view.ty, Holds arg10.view (tgtA T (scoreOf (masked q) key) val)
      (arg10.view.writes (Elt Ideal) g (kernelRun0_A.sl.HS3_3 c i arg3 harg3 arg4 harg4 arg5 harg5 arg7 arg8 arg9 arg10 x0 x1 x2)) (upd (upd (fun _ _ => T + 1024) 0 768 256 (T + 768)) 1 768 256 (T + 768)) := fun g =>
    (a2 g).put _ _ fun hh hv r l => triA_at (h := fits256) (R3 hh hv _ _ shapeCasts_S1x1x256x256_S256x256) rfl (mask_at _ _)
      (V _ shapeCasts_S1x256x128_S256x128) (adds (a2 arg10.view.junk) hv (by intro r _ _; simp only [upd]; split_ifs <;> omega) _) 0 r l
  have D (hh : Fin 2) : Ready T hh (upd (upd (fun _ _ => T + 1024) 0 768 256 (T + 768)) 1 768 256 (T + 768)) 0 1024 (T + 768) := by
    have := hh.isLt
    intro r _ _; simp only [upd]; split_ifs <;> omega
  exact ⟨fun g => (c3 g).settleC D, fun g => (a3 g).settleA D⟩

/-- After the block before it: its own rows, then the rows below. -/
theorem Given.b2 :
    (∀ g : BufTy.Contents (Elt Ideal) arg9.view.ty, Holds arg9.view (tgtC T (scoreOf (masked q) key))
      (arg9.view.writes (Elt Ideal) g (kernelRun0_A.sl.HS2_7 c i arg3 harg3 arg4 harg4 arg7 arg8 arg9 x0 x1)) (fun _ _ => T + 512)) ∧
    (∀ g : BufTy.Contents (Elt Ideal) arg10.view.ty, Holds arg10.view (tgtA T (scoreOf (masked q) key) val)
      (arg10.view.writes (Elt Ideal) g (kernelRun0_A.sl.HS3_7 c i arg3 harg3 arg4 harg4 arg5 harg5 arg7 arg8 arg9 arg10 x0 x1 x2)) (fun _ _ => T + 512)) := by
  have hT := G.first; have hi : (i 2).val < 8 := (i 2).isLt
  have E := G.env c arg3 harg3 arg4 harg4 arg5 harg5 arg7 arg7.view.junk
  have Z := G.z2' c arg3 harg3 arg4 harg4 arg5 harg5 arg7 arg8 arg8.view.junk
  obtain ⟨c3, a3⟩ := G.b3 c arg3 harg3 arg4 harg4 arg5 harg5 arg7 arg8 arg9 arg10
  have V := E.value (G.val_off 2 (show T + 512 = T + 256 * 2 by omega)) (by omega)
  have R4 (hh : Fin 2) (hv : hh.val = 0) := E.reads (n := 256) (r0 := 512) (b := T + 512) (by omega) (Z hh)
    (c3 arg9.view.junk) rfl hv (by omega) (fun _ _ _ => Or.inl rfl)
  have c4 : ∀ g : BufTy.Contents (Elt Ideal) arg9.view.ty, Holds arg9.view (tgtC T (scoreOf (masked q) key))
      (arg9.view.writes (Elt Ideal) g (kernelRun0_A.sl.HS2_4 c i arg3 harg3 arg4 harg4 arg7 arg8 arg9 x0 x1)) (upd (fun _ _ => T + 768) 0 512 256 (T + 512)) := fun g =>
    (c3 g).put _ _ fun hh hv r l => triC_at (h := fits256) (R4 hh hv _ _ shapeCasts_S1x1x256x256_S256x256) rfl (mask_at _ _) 0 r l
  have a4 : ∀ g : BufTy.Contents (Elt Ideal) arg10.view.ty, Holds arg10.view (tgtA T (scoreOf (masked q) key) val)
      (arg10.view.writes (Elt Ideal) g (kernelRun0_A.sl.HS3_4 c i arg3 harg3 arg4 harg4 arg5 harg5 arg7 arg8 arg9 arg10 x0 x1 x2)) (upd (fun _ _ => T + 768) 0 512 256 (T + 512)) := fun g =>
    (a3 g).put _ _ fun hh hv r l => triA_at (h := fits256) (R4 hh hv _ _ shapeCasts_S1x1x256x256_S256x256) rfl (mask_at _ _)
      (V _ shapeCasts_S1x256x128_S256x128) (adds (a3 arg10.view.junk) hv (fun _ _ _ => Or.inl rfl) _) 0 r l
  have R5 (hh : Fin 2) (hv : hh.val = 1) := E.reads (n := 256) (r0 := 512) (b := T + 512) (by omega) (Z hh)
    (c4 arg9.view.junk) rfl hv (by omega) (by intro r _ _; simp only [upd]; split_ifs <;> omega)
  have c5 : ∀ g : BufTy.Contents (Elt Ideal) arg9.view.ty, Holds arg9.view (tgtC T (scoreOf (masked q) key))
      (arg9.view.writes (Elt Ideal) g (kernelRun0_A.sl.HS2_5 c i arg3 harg3 arg4 harg4 arg7 arg8 arg9 x0 x1)) (upd (upd (fun _ _ => T + 768) 0 512 256 (T + 512)) 1 512 256 (T + 512)) := fun g =>
    (c4 g).put _ _ fun hh hv r l => triC_at (h := fits256) (R5 hh hv _ _ shapeCasts_S1x1x256x256_S256x256) rfl (mask_at _ _) 0 r l
  have a5 : ∀ g : BufTy.Contents (Elt Ideal) arg10.view.ty, Holds arg10.view (tgtA T (scoreOf (masked q) key) val)
      (arg10.view.writes (Elt Ideal) g (kernelRun0_A.sl.HS3_5 c i arg3 harg3 arg4 harg4 arg5 harg5 arg7 arg8 arg9 arg10 x0 x1 x2)) (upd (upd (fun _ _ => T + 768) 0 512 256 (T + 512)) 1 512 256 (T + 512)) := fun g =>
    (a4 g).put _ _ fun hh hv r l => triA_at (h := fits256) (R5 hh hv _ _ shapeCasts_S1x1x256x256_S256x256) rfl (mask_at _ _)
      (V _ shapeCasts_S1x256x128_S256x128) (adds (a4 arg10.view.junk) hv (by intro r _ _; simp only [upd]; split_ifs <;> omega) _) 0 r l
  have R6 (hh : Fin 2) (hv : hh.val = 0) := E.reads (n := 256) (r0 := 768) (b := T + 512) (by omega) (Z hh)
    (c5 arg9.view.junk) rfl hv (by omega) (by intro r _ _; simp only [upd]; split_ifs <;> omega)
  have c6 : ∀ g : BufTy.Contents (Elt Ideal) arg9.view.ty, Holds arg9.view (tgtC T (scoreOf (masked q) key))
      (arg9.view.writes (Elt Ideal) g (kernelRun0_A.sl.HS2_6 c i arg3 harg3 arg4 harg4 arg7 arg8 arg9 x0 x1)) (upd (upd (upd (fun _ _ => T + 768) 0 512 256 (T + 512)) 1 512 256 (T + 512)) 0 768 256 (T + 512)) := fun g =>
    (c5 g).put _ _ fun hh hv r l => fullC_at (h := fits256) (R6 hh hv _ _ shapeCasts_S1x1x256x256_S256x256) (by omega) 0 r l
  have a6 : ∀ g : BufTy.Contents (Elt Ideal) arg10.view.ty, Holds arg10.view (tgtA T (scoreOf (masked q) key) val)
      (arg10.view.writes (Elt Ideal) g (kernelRun0_A.sl.HS3_6 c i arg3 harg3 arg4 harg4 arg5 harg5 arg7 arg8 arg9 arg10 x0 x1 x2)) (upd (upd (upd (fun _ _ => T + 768) 0 512 256 (T + 512)) 1 512 256 (T + 512)) 0 768 256 (T + 512)) := fun g =>
    (a5 g).put _ _ fun hh hv r l => fullA_at (h := fits256) (R6 hh hv _ _ shapeCasts_S1x1x256x256_S256x256) (by omega)
      (V _ shapeCasts_S1x256x128_S256x128) (adds (a5 arg10.view.junk) hv (by intro r _ _; simp only [upd]; split_ifs <;> omega) _) 0 r l
  have R7 (hh : Fin 2) (hv : hh.val = 1) := E.reads (n := 256) (r0 := 768) (b := T + 512) (by omega) (Z hh)
    (c6 arg9.view.junk) rfl hv (by omega) (by intro r _ _; simp only [upd]; split_ifs <;> omega)
  have c7 : ∀ g : BufTy.Contents (Elt Ideal) arg9.view.ty, Holds arg9.view (tgtC T (scoreOf (masked q) key))
      (arg9.view.writes (Elt Ideal) g (kernelRun0_A.sl.HS2_7 c i arg3 harg3 arg4 harg4 arg7 arg8 arg9 x0 x1)) (upd (upd (upd (upd (fun _ _ => T + 768) 0 512 256 (T + 512)) 1 512 256 (T + 512)) 0 768 256 (T + 512)) 1 768 256 (T + 512)) := fun g =>
    (c6 g).put _ _ fun hh hv r l => fullC_at (h := fits256) (R7 hh hv _ _ shapeCasts_S1x1x256x256_S256x256) (by omega) 0 r l
  have a7 : ∀ g : BufTy.Contents (Elt Ideal) arg10.view.ty, Holds arg10.view (tgtA T (scoreOf (masked q) key) val)
      (arg10.view.writes (Elt Ideal) g (kernelRun0_A.sl.HS3_7 c i arg3 harg3 arg4 harg4 arg5 harg5 arg7 arg8 arg9 arg10 x0 x1 x2)) (upd (upd (upd (upd (fun _ _ => T + 768) 0 512 256 (T + 512)) 1 512 256 (T + 512)) 0 768 256 (T + 512)) 1 768 256 (T + 512)) := fun g =>
    (a6 g).put _ _ fun hh hv r l => fullA_at (h := fits256) (R7 hh hv _ _ shapeCasts_S1x1x256x256_S256x256) (by omega)
      (V _ shapeCasts_S1x256x128_S256x128) (adds (a6 arg10.view.junk) hv (by intro r _ _; simp only [upd]; split_ifs <;> omega) _) 0 r l
  have D (hh : Fin 2) : Ready T hh (upd (upd (upd (upd (fun _ _ => T + 768) 0 512 256 (T + 512)) 1 512 256 (T + 512)) 0 768 256 (T + 512)) 1 768 256 (T + 512)) 0 1024 (T + 512) := by
    have := hh.isLt
    intro r _ _; simp only [upd]; split_ifs <;> omega
  exact ⟨fun g => (c7 g).settleC D, fun g => (a7 g).settleA D⟩

/-- After the second block. -/
theorem Given.b1 :
    (∀ g : BufTy.Contents (Elt Ideal) arg9.view.ty, Holds arg9.view (tgtC T (scoreOf (masked q) key))
      (arg9.view.writes (Elt Ideal) g (kernelRun0_A.sl.HS2_11 c i arg3 harg3 arg4 harg4 arg7 arg8 arg9 x0 x1)) (fun _ _ => T + 256)) ∧
    (∀ g : BufTy.Contents (Elt Ideal) arg10.view.ty, Holds arg10.view (tgtA T (scoreOf (masked q) key) val)
      (arg10.view.writes (Elt Ideal) g (kernelRun0_A.sl.HS3_11 c i arg3 harg3 arg4 harg4 arg5 harg5 arg7 arg8 arg9 arg10 x0 x1 x2)) (fun _ _ => T + 256)) := by
  have hT := G.first; have hi : (i 2).val < 8 := (i 2).isLt
  have E := G.env c arg3 harg3 arg4 harg4 arg5 harg5 arg7 arg7.view.junk
  have Z := G.z1' c arg3 harg3 arg4 harg4 arg5 harg5 arg7 arg8 arg8.view.junk
  obtain ⟨c7, a7⟩ := G.b2 c arg3 harg3 arg4 harg4 arg5 harg5 arg7 arg8 arg9 arg10
  have V := E.value (G.val_off 1 (show T + 256 = T + 256 * 1 by omega)) (by omega)
  have R8 (hh : Fin 2) (hv : hh.val = 0) := E.reads (n := 256) (r0 := 256) (b := T + 256) (by omega) (Z hh)
    (c7 arg9.view.junk) rfl hv (by omega) (fun _ _ _ => Or.inl rfl)
  have c8 : ∀ g : BufTy.Contents (Elt Ideal) arg9.view.ty, Holds arg9.view (tgtC T (scoreOf (masked q) key))
      (arg9.view.writes (Elt Ideal) g (kernelRun0_A.sl.HS2_8 c i arg3 harg3 arg4 harg4 arg7 arg8 arg9 x0 x1)) (upd (fun _ _ => T + 512) 0 256 256 (T + 256)) := fun g =>
    (c7 g).put _ _ fun hh hv r l => triC_at (h := fits256) (R8 hh hv _ _ shapeCasts_S1x1x256x256_S256x256) rfl (mask_at _ _) 0 r l
  have a8 : ∀ g : BufTy.Contents (Elt Ideal) arg10.view.ty, Holds arg10.view (tgtA T (scoreOf (masked q) key) val)
      (arg10.view.writes (Elt Ideal) g (kernelRun0_A.sl.HS3_8 c i arg3 harg3 arg4 harg4 arg5 harg5 arg7 arg8 arg9 arg10 x0 x1 x2)) (upd (fun _ _ => T + 512) 0 256 256 (T + 256)) := fun g =>
    (a7 g).put _ _ fun hh hv r l => triA_at (h := fits256) (R8 hh hv _ _ shapeCasts_S1x1x256x256_S256x256) rfl (mask_at _ _)
      (V _ shapeCasts_S1x256x128_S256x128) (adds (a7 arg10.view.junk) hv (fun _ _ _ => Or.inl rfl) _) 0 r l
  have R9 (hh : Fin 2) (hv : hh.val = 1) := E.reads (n := 256) (r0 := 256) (b := T + 256) (by omega) (Z hh)
    (c8 arg9.view.junk) rfl hv (by omega) (by intro r _ _; simp only [upd]; split_ifs <;> omega)
  have c9 : ∀ g : BufTy.Contents (Elt Ideal) arg9.view.ty, Holds arg9.view (tgtC T (scoreOf (masked q) key))
      (arg9.view.writes (Elt Ideal) g (kernelRun0_A.sl.HS2_9 c i arg3 harg3 arg4 harg4 arg7 arg8 arg9 x0 x1)) (upd (upd (fun _ _ => T + 512) 0 256 256 (T + 256)) 1 256 256 (T + 256)) := fun g =>
    (c8 g).put _ _ fun hh hv r l => triC_at (h := fits256) (R9 hh hv _ _ shapeCasts_S1x1x256x256_S256x256) rfl (mask_at _ _) 0 r l
  have a9 : ∀ g : BufTy.Contents (Elt Ideal) arg10.view.ty, Holds arg10.view (tgtA T (scoreOf (masked q) key) val)
      (arg10.view.writes (Elt Ideal) g (kernelRun0_A.sl.HS3_9 c i arg3 harg3 arg4 harg4 arg5 harg5 arg7 arg8 arg9 arg10 x0 x1 x2)) (upd (upd (fun _ _ => T + 512) 0 256 256 (T + 256)) 1 256 256 (T + 256)) := fun g =>
    (a8 g).put _ _ fun hh hv r l => triA_at (h := fits256) (R9 hh hv _ _ shapeCasts_S1x1x256x256_S256x256) rfl (mask_at _ _)
      (V _ shapeCasts_S1x256x128_S256x128) (adds (a8 arg10.view.junk) hv (by intro r _ _; simp only [upd]; split_ifs <;> omega) _) 0 r l
  have R10 (hh : Fin 2) (hv : hh.val = 0) := E.reads (n := 512) (r0 := 512) (b := T + 256) (by omega) (Z hh)
    (c9 arg9.view.junk) rfl hv (by omega) (by intro r _ _; simp only [upd]; split_ifs <;> omega)
  have c10 : ∀ g : BufTy.Contents (Elt Ideal) arg9.view.ty, Holds arg9.view (tgtC T (scoreOf (masked q) key))
      (arg9.view.writes (Elt Ideal) g (kernelRun0_A.sl.HS2_10 c i arg3 harg3 arg4 harg4 arg7 arg8 arg9 x0 x1)) (upd (upd (upd (fun _ _ => T + 512) 0 256 256 (T + 256)) 1 256 256 (T + 256)) 0 512 512 (T + 256)) := fun g =>
    (c9 g).put _ _ fun hh hv r l => fullC_at (h := fits512) (R10 hh hv _ _ shapeCasts_S1x1x512x256_S512x256) (by omega) 0 r l
  have a10 : ∀ g : BufTy.Contents (Elt Ideal) arg10.view.ty, Holds arg10.view (tgtA T (scoreOf (masked q) key) val)
      (arg10.view.writes (Elt Ideal) g (kernelRun0_A.sl.HS3_10 c i arg3 harg3 arg4 harg4 arg5 harg5 arg7 arg8 arg9 arg10 x0 x1 x2)) (upd (upd (upd (fun _ _ => T + 512) 0 256 256 (T + 256)) 1 256 256 (T + 256)) 0 512 512 (T + 256)) := fun g =>
    (a9 g).put _ _ fun hh hv r l => fullA_at (h := fits512) (R10 hh hv _ _ shapeCasts_S1x1x512x256_S512x256) (by omega)
      (V _ shapeCasts_S1x256x128_S256x128) (adds (a9 arg10.view.junk) hv (by intro r _ _; simp only [upd]; split_ifs <;> omega) _) 0 r l
  have R11 (hh : Fin 2) (hv : hh.val = 1) := E.reads (n := 512) (r0 := 512) (b := T + 256) (by omega) (Z hh)
    (c10 arg9.view.junk) rfl hv (by omega) (by intro r _ _; simp only [upd]; split_ifs <;> omega)
  have c11 : ∀ g : BufTy.Contents (Elt Ideal) arg9.view.ty, Holds arg9.view (tgtC T (scoreOf (masked q) key))
      (arg9.view.writes (Elt Ideal) g (kernelRun0_A.sl.HS2_11 c i arg3 harg3 arg4 harg4 arg7 arg8 arg9 x0 x1)) (upd (upd (upd (upd (fun _ _ => T + 512) 0 256 256 (T + 256)) 1 256 256 (T + 256)) 0 512 512 (T + 256)) 1 512 512 (T + 256)) := fun g =>
    (c10 g).put _ _ fun hh hv r l => fullC_at (h := fits512) (R11 hh hv _ _ shapeCasts_S1x1x512x256_S512x256) (by omega) 0 r l
  have a11 : ∀ g : BufTy.Contents (Elt Ideal) arg10.view.ty, Holds arg10.view (tgtA T (scoreOf (masked q) key) val)
      (arg10.view.writes (Elt Ideal) g (kernelRun0_A.sl.HS3_11 c i arg3 harg3 arg4 harg4 arg5 harg5 arg7 arg8 arg9 arg10 x0 x1 x2)) (upd (upd (upd (upd (fun _ _ => T + 512) 0 256 256 (T + 256)) 1 256 256 (T + 256)) 0 512 512 (T + 256)) 1 512 512 (T + 256)) := fun g =>
    (a10 g).put _ _ fun hh hv r l => fullA_at (h := fits512) (R11 hh hv _ _ shapeCasts_S1x1x512x256_S512x256) (by omega)
      (V _ shapeCasts_S1x256x128_S256x128) (adds (a10 arg10.view.junk) hv (by intro r _ _; simp only [upd]; split_ifs <;> omega) _) 0 r l
  have D (hh : Fin 2) : Ready T hh (upd (upd (upd (upd (fun _ _ => T + 512) 0 256 256 (T + 256)) 1 256 256 (T + 256)) 0 512 512 (T + 256)) 1 512 512 (T + 256)) 0 1024 (T + 256) := by
    have := hh.isLt
    intro r _ _; simp only [upd]; split_ifs <;> omega
  exact ⟨fun g => (c11 g).settleC D, fun g => (a11 g).settleA D⟩

/-- After the first block: the whole diagonal is done. -/
theorem Given.b0 :
    (∀ g : BufTy.Contents (Elt Ideal) arg9.view.ty, Holds arg9.view (tgtC T (scoreOf (masked q) key))
      (arg9.view.writes (Elt Ideal) g (kernelRun0_A.sl.HS2_15 c i arg3 harg3 arg4 harg4 arg7 arg8 arg9 x0 x1)) (fun _ _ => T)) ∧
    (∀ g : BufTy.Contents (Elt Ideal) arg10.view.ty, Holds arg10.view (tgtA T (scoreOf (masked q) key) val)
      (arg10.view.writes (Elt Ideal) g (kernelRun0_A.sl.HS3_15 c i arg3 harg3 arg4 harg4 arg5 harg5 arg7 arg8 arg9 arg10 x0 x1 x2)) (fun _ _ => T)) := by
  have hT := G.first; have hi : (i 2).val < 8 := (i 2).isLt
  have E := G.env c arg3 harg3 arg4 harg4 arg5 harg5 arg7 arg7.view.junk
  have Z := G.z0' c arg3 harg3 arg4 harg4 arg5 harg5 arg7 arg8 arg8.view.junk
  obtain ⟨c11, a11⟩ := G.b1 c arg3 harg3 arg4 harg4 arg5 harg5 arg7 arg8 arg9 arg10
  have V := E.value (G.val_off 0 (show T = T + 256 * 0 by omega)) (by omega)
  have R12 (hh : Fin 2) (hv : hh.val = 0) := E.reads (n := 256) (r0 := 0) (b := T) (by omega) (Z hh)
    (c11 arg9.view.junk) rfl hv (by omega) (fun _ _ _ => Or.inl rfl)
  have c12 : ∀ g : BufTy.Contents (Elt Ideal) arg9.view.ty, Holds arg9.view (tgtC T (scoreOf (masked q) key))
      (arg9.view.writes (Elt Ideal) g (kernelRun0_A.sl.HS2_12 c i arg3 harg3 arg4 harg4 arg7 arg8 arg9 x0 x1)) (upd (fun _ _ => T + 256) 0 0 256 (T)) := fun g =>
    (c11 g).put _ _ fun hh hv r l => triC_at (h := fits256) (R12 hh hv _ _ shapeCasts_S1x1x256x256_S256x256) rfl (mask_at _ _) 0 r l
  have a12 : ∀ g : BufTy.Contents (Elt Ideal) arg10.view.ty, Holds arg10.view (tgtA T (scoreOf (masked q) key) val)
      (arg10.view.writes (Elt Ideal) g (kernelRun0_A.sl.HS3_12 c i arg3 harg3 arg4 harg4 arg5 harg5 arg7 arg8 arg9 arg10 x0 x1 x2)) (upd (fun _ _ => T + 256) 0 0 256 (T)) := fun g =>
    (a11 g).put _ _ fun hh hv r l => triA_at (h := fits256) (R12 hh hv _ _ shapeCasts_S1x1x256x256_S256x256) rfl (mask_at _ _)
      (V _ shapeCasts_S1x256x128_S256x128) (adds (a11 arg10.view.junk) hv (fun _ _ _ => Or.inl rfl) _) 0 r l
  have R13 (hh : Fin 2) (hv : hh.val = 1) := E.reads (n := 256) (r0 := 0) (b := T) (by omega) (Z hh)
    (c12 arg9.view.junk) rfl hv (by omega) (by intro r _ _; simp only [upd]; split_ifs <;> omega)
  have c13 : ∀ g : BufTy.Contents (Elt Ideal) arg9.view.ty, Holds arg9.view (tgtC T (scoreOf (masked q) key))
      (arg9.view.writes (Elt Ideal) g (kernelRun0_A.sl.HS2_13 c i arg3 harg3 arg4 harg4 arg7 arg8 arg9 x0 x1)) (upd (upd (fun _ _ => T + 256) 0 0 256 (T)) 1 0 256 (T)) := fun g =>
    (c12 g).put _ _ fun hh hv r l => triC_at (h := fits256) (R13 hh hv _ _ shapeCasts_S1x1x256x256_S256x256) rfl (mask_at _ _) 0 r l
  have a13 : ∀ g : BufTy.Contents (Elt Ideal) arg10.view.ty, Holds arg10.view (tgtA T (scoreOf (masked q) key) val)
      (arg10.view.writes (Elt Ideal) g (kernelRun0_A.sl.HS3_13 c i arg3 harg3 arg4 harg4 arg5 harg5 arg7 arg8 arg9 arg10 x0 x1 x2)) (upd (upd (fun _ _ => T + 256) 0 0 256 (T)) 1 0 256 (T)) := fun g =>
    (a12 g).put _ _ fun hh hv r l => triA_at (h := fits256) (R13 hh hv _ _ shapeCasts_S1x1x256x256_S256x256) rfl (mask_at _ _)
      (V _ shapeCasts_S1x256x128_S256x128) (adds (a12 arg10.view.junk) hv (by intro r _ _; simp only [upd]; split_ifs <;> omega) _) 0 r l
  have R14 (hh : Fin 2) (hv : hh.val = 0) := E.reads (n := 768) (r0 := 256) (b := T) (by omega) (Z hh)
    (c13 arg9.view.junk) rfl hv (by omega) (by intro r _ _; simp only [upd]; split_ifs <;> omega)
  have c14 : ∀ g : BufTy.Contents (Elt Ideal) arg9.view.ty, Holds arg9.view (tgtC T (scoreOf (masked q) key))
      (arg9.view.writes (Elt Ideal) g (kernelRun0_A.sl.HS2_14 c i arg3 harg3 arg4 harg4 arg7 arg8 arg9 x0 x1)) (upd (upd (upd (fun _ _ => T + 256) 0 0 256 (T)) 1 0 256 (T)) 0 256 768 (T)) := fun g =>
    (c13 g).put _ _ fun hh hv r l => fullC_at (h := fits768) (R14 hh hv _ _ shapeCasts_S1x1x768x256_S768x256) (by omega) 0 r l
  have a14 : ∀ g : BufTy.Contents (Elt Ideal) arg10.view.ty, Holds arg10.view (tgtA T (scoreOf (masked q) key) val)
      (arg10.view.writes (Elt Ideal) g (kernelRun0_A.sl.HS3_14 c i arg3 harg3 arg4 harg4 arg5 harg5 arg7 arg8 arg9 arg10 x0 x1 x2)) (upd (upd (upd (fun _ _ => T + 256) 0 0 256 (T)) 1 0 256 (T)) 0 256 768 (T)) := fun g =>
    (a13 g).put _ _ fun hh hv r l => fullA_at (h := fits768) (R14 hh hv _ _ shapeCasts_S1x1x768x256_S768x256) (by omega)
      (V _ shapeCasts_S1x256x128_S256x128) (adds (a13 arg10.view.junk) hv (by intro r _ _; simp only [upd]; split_ifs <;> omega) _) 0 r l
  have R15 (hh : Fin 2) (hv : hh.val = 1) := E.reads (n := 768) (r0 := 256) (b := T) (by omega) (Z hh)
    (c14 arg9.view.junk) rfl hv (by omega) (by intro r _ _; simp only [upd]; split_ifs <;> omega)
  have c15 : ∀ g : BufTy.Contents (Elt Ideal) arg9.view.ty, Holds arg9.view (tgtC T (scoreOf (masked q) key))
      (arg9.view.writes (Elt Ideal) g (kernelRun0_A.sl.HS2_15 c i arg3 harg3 arg4 harg4 arg7 arg8 arg9 x0 x1)) (upd (upd (upd (upd (fun _ _ => T + 256) 0 0 256 (T)) 1 0 256 (T)) 0 256 768 (T)) 1 256 768 (T)) := fun g =>
    (c14 g).put _ _ fun hh hv r l => fullC_at (h := fits768) (R15 hh hv _ _ shapeCasts_S1x1x768x256_S768x256) (by omega) 0 r l
  have a15 : ∀ g : BufTy.Contents (Elt Ideal) arg10.view.ty, Holds arg10.view (tgtA T (scoreOf (masked q) key) val)
      (arg10.view.writes (Elt Ideal) g (kernelRun0_A.sl.HS3_15 c i arg3 harg3 arg4 harg4 arg5 harg5 arg7 arg8 arg9 arg10 x0 x1 x2)) (upd (upd (upd (upd (fun _ _ => T + 256) 0 0 256 (T)) 1 0 256 (T)) 0 256 768 (T)) 1 256 768 (T)) := fun g =>
    (a14 g).put _ _ fun hh hv r l => fullA_at (h := fits768) (R15 hh hv _ _ shapeCasts_S1x1x768x256_S768x256) (by omega)
      (V _ shapeCasts_S1x256x128_S256x128) (adds (a14 arg10.view.junk) hv (by intro r _ _; simp only [upd]; split_ifs <;> omega) _) 0 r l
  have D (hh : Fin 2) : Ready T hh (upd (upd (upd (upd (fun _ _ => T + 256) 0 0 256 (T)) 1 0 256 (T)) 0 256 768 (T)) 1 256 768 (T)) 0 1024 (T) := by
    have := hh.isLt
    intro r _ _; simp only [upd]; split_ifs <;> omega
  exact ⟨fun g => (c15 g).settleC D, fun g => (a15 g).settleA D⟩

end Diagonal
end Cert.SB
end
-- ==== Proof.Trip.lean ====
/- One pass of the kernel's loop over the blocks before the diagonal: four blocks, each moving every row of both heads. -/
module

public import proofs.«01_k».proof.Proof.Blocks

@[expose] public section

set_option maxRecDepth 16384

noncomputable section

namespace Cert.SB

open Idealize.ShloMosaic Idealize.ShloMosaic.TcCoe Idealize.SL.Sem
open Cert.KernelIdeal Cert.KernelIdeal.Gen

section Trip
variable {T : ℕ} {qm : Fin 2 → ℕ → Fin 128 → EReal} {key val : ℕ → Fin 128 → EReal}
  {i : grid0.Coords} {arg4 arg5 : Memref sig .tc .vmem S1x8192x128 .bf16} {arg7 : Memref sig .tc .vmem S2x1024x128 .bf16}
  {arg8 : Memref sig .tc .vmem S2x2x1024x256 .f32} {arg9 arg10 : Memref sig .tc .vmem S2x1024x128 .f32}
  {u : FVec Ideal S256x256 .bf16} {X4 : BufTy.Contents (Elt Ideal) arg4.view.ty}
  {X5 : BufTy.Contents (Elt Ideal) arg5.view.ty} {X7 : BufTy.Contents (Elt Ideal) arg7.view.ty}
  {k : Fin (k0_t1_loop i).trips} {f8 : BufTy.Contents (Elt Ideal) arg8.view.ty}
  {f9 : BufTy.Contents (Elt Ideal) arg9.view.ty} {f10 : BufTy.Contents (Elt Ideal) arg10.view.ty} {N : ℕ}

/-- What pass `k` finds: `N` is the block it begins with, whose scores are in slot 1. -/
structure Enter (T : ℕ) (qm : Fin 2 → ℕ → Fin 128 → EReal) (key val : ℕ → Fin 128 → EReal) (i : grid0.Coords)
    (arg4 arg5 : Memref sig .tc .vmem S1x8192x128 .bf16) (arg7 : Memref sig .tc .vmem S2x1024x128 .bf16)
    (arg8 : Memref sig .tc .vmem S2x2x1024x256 .f32) (arg9 arg10 : Memref sig .tc .vmem S2x1024x128 .f32)
    (u : FVec Ideal S256x256 .bf16) (X4 : BufTy.Contents (Elt Ideal) arg4.view.ty)
    (X5 : BufTy.Contents (Elt Ideal) arg5.view.ty) (X7 : BufTy.Contents (Elt Ideal) arg7.view.ty)
    (k : Fin (k0_t1_loop i).trips) (f8 : BufTy.Contents (Elt Ideal) arg8.view.ty)
    (f9 : BufTy.Contents (Elt Ideal) arg9.view.ty) (f10 : BufTy.Contents (Elt Ideal) arg10.view.ty) (N : ℕ) : Prop where
  env : Env T qm key val arg4 arg5 arg7 u X4 X5 X7
  first : T = 1024 * (i 2).val
  block : 4 * (i 2).val - 1 - 4 * k.val = N
  four : 3 ≤ N
  last : 256 * N + 256 ≤ T
  inside : T ≤ 7168
  scores : ∀ hh : Fin 2, HasZ arg8.view (scoreOf qm key) f8 1 hh 0 (256 * N)
  sums : Holds arg9.view (tgtC T (scoreOf qm key)) f9 (fun _ _ => 256 * N + 256)
  accs : Holds arg10.view (tgtA T (scoreOf qm key) val) f10 (fun _ _ => 256 * N + 256)

theorem Enter.key_off (H : Enter T qm key val i arg4 arg5 arg7 arg8 arg9 arg10 u X4 X5 X7 k f8 f9 f10 N) (r : Fin 4) {b : ℕ}
    (hb : N - r.val - 1 = b) : k0_off4 i k (BitVec.ofNat 32 r.val) = ![0, 256 * b, 0] := by
  rw [off4_eq, H.block, hb]

theorem Enter.val_off (H : Enter T qm key val i arg4 arg5 arg7 arg8 arg9 arg10 u X4 X5 X7 k f8 f9 f10 N) (r : Fin 4) {b : ℕ}
    (hb : 256 * (N - r.val) = b) : k0_off5 i k (BitVec.ofNat 32 r.val) = ![0, b, 0] := by
  rw [off5_eq, H.block, hb]

variable (H : Enter T qm key val i arg4 arg5 arg7 arg8 arg9 arg10 u X4 X5 X7 k f8 f9 f10 N)
  (g8 : BufTy.Contents (Elt Ideal) arg8.view.ty) (g9 : BufTy.Contents (Elt Ideal) arg9.view.ty)
  (g10 : BufTy.Contents (Elt Ideal) arg10.view.ty) (hh : Fin 2)
include H

theorem Enter.z41 : HasZ arg8.view (scoreOf qm key)
    (arg8.view.writes (Elt Ideal) g8 (trip_k0_t1.sl.HW_arg8_4 i arg4 arg7 X4 X7 k)) 1 hh 0 (256 * (N - 2)) := by
  have h3 := H.four; have hT := H.last; have hi := H.inside
  exact HasZ.put2 (s0 := 1) (r0 := 0) (n := 1024) 1 rfl _ _ _ _ rfl
    (fun r j => H.env.score (H.key_off 1 rfl) 0 rfl (by omega) _ _ _ _ _ r j)
    (fun r j => H.env.score (H.key_off 1 rfl) 1 rfl (by omega) _ _ _ _ _ r j) hh

theorem Enter.z40 : HasZ arg8.view (scoreOf qm key)
    (arg8.view.writes (Elt Ideal) g8 (trip_k0_t1.sl.HW_arg8_4 i arg4 arg7 X4 X7 k)) 0 hh 0 (256 * (N - 1)) := by
  have h3 := H.four; have hT := H.last; have hi := H.inside
  exact HasZ.keep2 (s0 := 1) (r0 := 0) (n := 1024) Nat.zero_ne_one _ _ _ _ hh
    (HasZ.put2 (s0 := 0) (r0 := 0) (n := 1024) 0 rfl _ _ _ _ rfl
    (fun r j => H.env.score (H.key_off 0 rfl) 0 rfl (by omega) _ _ _ _ _ r j)
    (fun r j => H.env.score (H.key_off 0 rfl) 1 rfl (by omega) _ _ _ _ _ r j) hh)

theorem Enter.z60 : HasZ arg8.view (scoreOf qm key)
    (arg8.view.writes (Elt Ideal) g8 (trip_k0_t1.sl.HW_arg8_6 i arg4 arg7 X4 X7 k)) 0 hh 0 (256 * (N - 3)) := by
  have h3 := H.four; have hT := H.last; have hi := H.inside
  exact HasZ.put2 (s0 := 0) (r0 := 0) (n := 1024) 0 rfl _ _ _ _ rfl
    (fun r j => H.env.score (H.key_off 2 rfl) 0 rfl (by omega) _ _ _ _ _ r j)
    (fun r j => H.env.score (H.key_off 2 rfl) 1 rfl (by omega) _ _ _ _ _ r j) hh

theorem Enter.z61 : HasZ arg8.view (scoreOf qm key)
    (arg8.view.writes (Elt Ideal) g8 (trip_k0_t1.sl.HW_arg8_6 i arg4 arg7 X4 X7 k)) 1 hh 0 (256 * (N - 2)) :=
  HasZ.keep2 (s0 := 0) (r0 := 0) (n := 1024) Nat.one_ne_zero _ _ _ _ hh (H.z41 g8 hh)

theorem Enter.z81 : HasZ arg8.view (scoreOf qm key)
    (arg8.view.writes (Elt Ideal) g8 (trip_k0_t1.sl.HW_arg8_8 i arg4 arg7 X4 X7 k)) 1 hh 0 (256 * (N - 4)) := by
  have h3 := H.four; have hT := H.last; have hi := H.inside
  exact HasZ.put2 (s0 := 1) (r0 := 0) (n := 1024) 1 rfl _ _ _ _ rfl
    (fun r j => H.env.score (H.key_off 3 rfl) 0 rfl (by omega) _ _ _ _ _ r j)
    (fun r j => H.env.score (H.key_off 3 rfl) 1 rfl (by omega) _ _ _ _ _ r j) hh

theorem Enter.z80 : HasZ arg8.view (scoreOf qm key)
    (arg8.view.writes (Elt Ideal) g8 (trip_k0_t1.sl.HW_arg8_8 i arg4 arg7 X4 X7 k)) 0 hh 0 (256 * (N - 3)) :=
  HasZ.keep2 (s0 := 1) (r0 := 0) (n := 1024) Nat.zero_ne_one _ _ _ _ hh (H.z60 g8 hh)

/-- The carried sums and the accumulators after the first block. -/
theorem Enter.c2 : Holds arg9.view (tgtC T (scoreOf qm key))
    (arg9.view.writes (Elt Ideal) g9 (trip_k0_t1.sl.HW_arg9_2 arg8 arg9 u f8 f9)) (fun _ _ => 256 * N) := by
  have h3 := H.four; have hT := H.last; have hi := H.inside
  have step (hh : Fin 2) := H.env.reads (n := 1024) (by omega) (H.scores hh) H.sums rfl rfl (le_refl 0) (ready_all rfl)
  exact Holds.pair g9 _ _ _ _
    (fun r l => fullC_at (h := fits1024) (step 0 _ _ shapeCasts_S1x1x1024x256_S1024x256) (by omega) 0 r l)
    (fun r l => fullC_at (h := fits1024) (step 1 _ _ shapeCasts_S1x1x1024x256_S1024x256) (by omega) 0 r l)

theorem Enter.a2 : Holds arg10.view (tgtA T (scoreOf qm key) val)
    (arg10.view.writes (Elt Ideal) g10 (trip_k0_t1.sl.HW_arg10_2 i arg5 arg8 arg9 arg10 u X5 k f8 f9 f10))
    (fun _ _ => 256 * N) := by
  have h3 := H.four; have hT := H.last; have hi := H.inside
  have step (hh : Fin 2) := H.env.reads (n := 1024) (by omega) (H.scores hh) H.sums rfl rfl (le_refl 0) (ready_all rfl)
  have value := H.env.value (H.val_off 0 rfl) (by omega)
  have acc (hh : Fin 2) := adds (n := 1024) (r0 := 0) H.accs (rfl : hh.val = hh.val) (ready_all rfl)
  exact Holds.pair g10 _ _ _ _
    (fun r l => fullA_at (h := fits1024) (step 0 _ _ shapeCasts_S1x1x1024x256_S1024x256) (by omega)
      (value _ shapeCasts_S1x256x128_S256x128) (acc 0 _) 0 r l)
    (fun r l => fullA_at (h := fits1024) (step 1 _ _ shapeCasts_S1x1x1024x256_S1024x256) (by omega)
      (value _ shapeCasts_S1x256x128_S256x128) (acc 1 _) 0 r l)

/-- The second block: head 0's rows, then head 1's. -/
theorem Enter.c3 : Holds arg9.view (tgtC T (scoreOf qm key))
    (arg9.view.writes (Elt Ideal) g9 (trip_k0_t1.sl.HW_arg9_3 i arg4 arg7 arg8 arg9 u X4 X7 k f8 f9))
    (upd (fun _ _ => 256 * N) 0 0 1024 (256 * (N - 1))) := by
  have h3 := H.four; have hT := H.last; have hi := H.inside
  exact (H.c2 g9).put (h0 := 0) (r0 := 0) (n := 1024) _ _ fun hh hv r l =>
    fullC_at (h := fits1024) (H.env.reads (by omega) (H.z40 _ hh) (H.c2 _) rfl hv (le_refl _) (ready_all (show 256 * N = 256 * (N - 1) + 256 by omega)) _ _
      shapeCasts_S1x1x1024x256_S1024x256) (by omega) 0 r l

theorem Enter.a3 : Holds arg10.view (tgtA T (scoreOf qm key) val)
    (arg10.view.writes (Elt Ideal) g10 (trip_k0_t1.sl.HW_arg10_3 i arg4 arg5 arg7 arg8 arg9 arg10 u X4 X5 X7 k f8 f9 f10))
    (upd (fun _ _ => 256 * N) 0 0 1024 (256 * (N - 1))) := by
  have h3 := H.four; have hT := H.last; have hi := H.inside
  exact (H.a2 g10).put (h0 := 0) (r0 := 0) (n := 1024) _ _ fun hh hv r l =>
    fullA_at (h := fits1024) (H.env.reads (by omega) (H.z40 _ hh) (H.c2 _) rfl hv (le_refl _) (ready_all (show 256 * N = 256 * (N - 1) + 256 by omega)) _ _
      shapeCasts_S1x1x1024x256_S1024x256) (by omega)
      (H.env.value (H.val_off 1 rfl) (by omega) _ shapeCasts_S1x256x128_S256x128)
      (adds (H.a2 _) hv (ready_all (show 256 * N = 256 * (N - 1) + 256 by omega)) _) 0 r l

theorem Enter.c4 : Holds arg9.view (tgtC T (scoreOf qm key))
    (arg9.view.writes (Elt Ideal) g9 (trip_k0_t1.sl.HW_arg9_4 i arg4 arg7 arg8 arg9 u X4 X7 k f8 f9)) (fun _ _ => 256 * (N - 1)) := by
  have h3 := H.four; have hT := H.last; have hi := H.inside
  exact ((H.c3 g9).put (h0 := 1) (r0 := 0) (n := 1024) _ _ fun hh hv r l =>
    fullC_at (h := fits1024) (H.env.reads (by omega) (H.z40 _ hh) (H.c3 _) rfl hv (le_refl _) (ready_other hv (show 256 * N = 256 * (N - 1) + 256 by omega)) _ _
      shapeCasts_S1x1x1024x256_S1024x256) (by omega) 0 r l).both

theorem Enter.a4 : Holds arg10.view (tgtA T (scoreOf qm key) val)
    (arg10.view.writes (Elt Ideal) g10 (trip_k0_t1.sl.HW_arg10_4 i arg4 arg5 arg7 arg8 arg9 arg10 u X4 X5 X7 k f8 f9 f10)) (fun _ _ => 256 * (N - 1)) := by
  have h3 := H.four; have hT := H.last; have hi := H.inside
  exact ((H.a3 g10).put (h0 := 1) (r0 := 0) (n := 1024) _ _ fun hh hv r l =>
    fullA_at (h := fits1024) (H.env.reads (by omega) (H.z40 _ hh) (H.c3 _) rfl hv (le_refl _) (ready_other hv (show 256 * N = 256 * (N - 1) + 256 by omega)) _ _
      shapeCasts_S1x1x1024x256_S1024x256) (by omega)
      (H.env.value (H.val_off 1 rfl) (by omega) _ shapeCasts_S1x256x128_S256x128)
      (adds (H.a3 _) hv (ready_other hv (show 256 * N = 256 * (N - 1) + 256 by omega)) _) 0 r l).both

/-- The third block. -/
theorem Enter.c5 : Holds arg9.view (tgtC T (scoreOf qm key))
    (arg9.view.writes (Elt Ideal) g9 (trip_k0_t1.sl.HW_arg9_5 i arg4 arg7 arg8 arg9 u X4 X7 k f8 f9))
    (upd (fun _ _ => 256 * (N - 1)) 0 0 1024 (256 * (N - 2))) := by
  have h3 := H.four; have hT := H.last; have hi := H.inside
  exact (H.c4 g9).put (h0 := 0) (r0 := 0) (n := 1024) _ _ fun hh hv r l =>
    fullC_at (h := fits1024) (H.env.reads (by omega) (H.z61 _ hh) (H.c4 _) rfl hv (le_refl _) (ready_all (show 256 * (N - 1) = 256 * (N - 2) + 256 by omega)) _ _
      shapeCasts_S1x1x1024x256_S1024x256) (by omega) 0 r l

theorem Enter.a5 : Holds arg10.view (tgtA T (scoreOf qm key) val)
    (arg10.view.writes (Elt Ideal) g10 (trip_k0_t1.sl.HW_arg10_5 i arg4 arg5 arg7 arg8 arg9 arg10 u X4 X5 X7 k f8 f9 f10))
    (upd (fun _ _ => 256 * (N - 1)) 0 0 1024 (256 * (N - 2))) := by
  have h3 := H.four; have hT := H.last; have hi := H.inside
  exact (H.a4 g10).put (h0 := 0) (r0 := 0) (n := 1024) _ _ fun hh hv r l =>
    fullA_at (h := fits1024) (H.env.reads (by omega) (H.z61 _ hh) (H.c4 _) rfl hv (le_refl _) (ready_all (show 256 * (N - 1) = 256 * (N - 2) + 256 by omega)) _ _
      shapeCasts_S1x1x1024x256_S1024x256) (by omega)
      (H.env.value (H.val_off 2 rfl) (by omega) _ shapeCasts_S1x256x128_S256x128)
      (adds (H.a4 _) hv (ready_all (show 256 * (N - 1) = 256 * (N - 2) + 256 by omega)) _) 0 r l

theorem Enter.c6 : Holds arg9.view (tgtC T (scoreOf qm key))
    (arg9.view.writes (Elt Ideal) g9 (trip_k0_t1.sl.HW_arg9_6 i arg4 arg7 arg8 arg9 u X4 X7 k f8 f9)) (fun _ _ => 256 * (N - 2)) := by
  have h3 := H.four; have hT := H.last; have hi := H.inside
  exact ((H.c5 g9).put (h0 := 1) (r0 := 0) (n := 1024) _ _ fun hh hv r l =>
    fullC_at (h := fits1024) (H.env.reads (by omega) (H.z61 _ hh) (H.c5 _) rfl hv (le_refl _) (ready_other hv (show 256 * (N - 1) = 256 * (N - 2) + 256 by omega)) _ _
      shapeCasts_S1x1x1024x256_S1024x256) (by omega) 0 r l).both

theorem Enter.a6 : Holds arg10.view (tgtA T (scoreOf qm key) val)
    (arg10.view.writes (Elt Ideal) g10 (trip_k0_t1.sl.HW_arg10_6 i arg4 arg5 arg7 arg8 arg9 arg10 u X4 X5 X7 k f8 f9 f10)) (fun _ _ => 256 * (N - 2)) := by
  have h3 := H.four; have hT := H.last; have hi := H.inside
  exact ((H.a5 g10).put (h0 := 1) (r0 := 0) (n := 1024) _ _ fun hh hv r l =>
    fullA_at (h := fits1024) (H.env.reads (by omega) (H.z61 _ hh) (H.c5 _) rfl hv (le_refl _) (ready_other hv (show 256 * (N - 1) = 256 * (N - 2) + 256 by omega)) _ _
      shapeCasts_S1x1x1024x256_S1024x256) (by omega)
      (H.env.value (H.val_off 2 rfl) (by omega) _ shapeCasts_S1x256x128_S256x128)
      (adds (H.a5 _) hv (ready_other hv (show 256 * (N - 1) = 256 * (N - 2) + 256 by omega)) _) 0 r l).both

/-- The fourth block, head 0's rows. -/
theorem Enter.c7 : Holds arg9.view (tgtC T (scoreOf qm key))
    (arg9.view.writes (Elt Ideal) g9 (trip_k0_t1.sl.HW_arg9_7 i arg4 arg7 arg8 arg9 u X4 X7 k f8 f9))
    (upd (fun _ _ => 256 * (N - 2)) 0 0 1024 (256 * (N - 3))) := by
  have h3 := H.four; have hT := H.last; have hi := H.inside
  exact (H.c6 g9).put (h0 := 0) (r0 := 0) (n := 1024) _ _ fun hh hv r l =>
    fullC_at (h := fits1024) (H.env.reads (by omega) (H.z80 _ hh) (H.c6 _) rfl hv (le_refl _) (ready_all (show 256 * (N - 2) = 256 * (N - 3) + 256 by omega)) _ _
      shapeCasts_S1x1x1024x256_S1024x256) (by omega) 0 r l

theorem Enter.a7 : Holds arg10.view (tgtA T (scoreOf qm key) val)
    (arg10.view.writes (Elt Ideal) g10 (trip_k0_t1.sl.HW_arg10_7 i arg4 arg5 arg7 arg8 arg9 arg10 u X4 X5 X7 k f8 f9 f10))
    (upd (fun _ _ => 256 * (N - 2)) 0 0 1024 (256 * (N - 3))) := by
  have h3 := H.four; have hT := H.last; have hi := H.inside
  exact (H.a6 g10).put (h0 := 0) (r0 := 0) (n := 1024) _ _ fun hh hv r l =>
    fullA_at (h := fits1024) (H.env.reads (by omega) (H.z80 _ hh) (H.c6 _) rfl hv (le_refl _) (ready_all (show 256 * (N - 2) = 256 * (N - 3) + 256 by omega)) _ _
      shapeCasts_S1x1x1024x256_S1024x256) (by omega)
      (H.env.value (H.val_off 3 rfl) (by omega) _ shapeCasts_S1x256x128_S256x128)
      (adds (H.a6 _) hv (ready_all (show 256 * (N - 2) = 256 * (N - 3) + 256 by omega)) _) 0 r l

end Trip

section Pass
variable {T : ℕ} {qm : Fin 2 → ℕ → Fin 128 → EReal} {key val : ℕ → Fin 128 → EReal}
  (𝒱 : Variants) (c : Dev nD) (bd : Option 𝒱.V) (i : grid0.Coords)
  (arg3 : Memref sig .tc .vmem S1x1024x128 .bf16) (harg3 : arg3.IsWhole)
  (arg4 : Memref sig .tc .vmem S1x8192x128 .bf16) (harg4 : arg4.IsWhole)
  (arg5 : Memref sig .tc .vmem S1x8192x128 .bf16) (harg5 : arg5.IsWhole)
  (arg6 : Memref sig .tc .vmem S1x1024x128 .bf16) (harg6 : arg6.IsWhole)
  (arg7 : Memref sig .tc .vmem S2x1024x128 .bf16) (harg7 : arg7.IsWhole)
  (arg8 : Memref sig .tc .vmem S2x2x1024x256 .f32) (harg8 : arg8.IsWhole)
  (arg9 : Memref sig .tc .vmem S2x1024x128 .f32) (harg9 : arg9.IsWhole)
  (arg10 : Memref sig .tc .vmem S2x1024x128 .f32) (harg10 : arg10.IsWhole)
  (u : FVec Ideal S256x256 .bf16) (v40 : BitVec 32) (X4 : BufTy.Contents (Elt Ideal) arg4.view.ty)
  (X5 : BufTy.Contents (Elt Ideal) arg5.view.ty) (X7 : BufTy.Contents (Elt Ideal) arg7.view.ty)

/-- What holds before pass `n`, of as many passes as there are query tiles `Q` before this one. -/
structure Stage (T Q : ℕ) (qm : Fin 2 → ℕ → Fin 128 → EReal) (key val : ℕ → Fin 128 → EReal)
    (w8 : View sig .tc .vmem S2x2x1024x256 .f32) (w9 w10 : View sig .tc .vmem S2x1024x128 .f32)
    (f8 : w8.ty.Contents (Elt Ideal)) (f9 : w9.ty.Contents (Elt Ideal)) (f10 : w10.ty.Contents (Elt Ideal)) (n : ℕ) : Prop where
  scores : ∀ hh : Fin 2, HasZ w8 (scoreOf qm key) f8 1 hh 0 (256 * (4 * Q - 1 - 4 * n))
  sums : Holds w9 (tgtC T (scoreOf qm key)) f9 (fun _ _ => 1024 * (Q - n))
  accs : Holds w10 (tgtA T (scoreOf qm key) val) f10 (fun _ _ => 1024 * (Q - n))

/-- One pass. -/
theorem Stage.pass (hT : T = 1024 * (i 2).val) (E : Env T qm key val arg4 arg5 arg7 u X4 X5 X7)
    (k : Fin (k0_t1_loop i).trips) {f8 : BufTy.Contents (Elt Ideal) arg8.view.ty} {f9 : BufTy.Contents (Elt Ideal) arg9.view.ty}
    {f10 : BufTy.Contents (Elt Ideal) arg10.view.ty}
    (S : Stage T (i 2).val qm key val arg8.view arg9.view arg10.view f8 f9 f10 k.val) :
    Stage T (i 2).val qm key val arg8.view arg9.view arg10.view
      (arg8.view.writes (Elt Ideal) f8 ((trip_k0_t1 (F := Ideal) 𝒱 c bd i arg3 harg3 arg4 harg4 arg5 harg5 arg6 harg6 arg7 harg7 arg8 harg8 arg9 harg9 arg10 harg10 u v40 X4 X5 X7 k).1 f8 f9 f10))
      (arg9.view.writes (Elt Ideal) f9 ((trip_k0_t1 (F := Ideal) 𝒱 c bd i arg3 harg3 arg4 harg4 arg5 harg5 arg6 harg6 arg7 harg7 arg8 harg8 arg9 harg9 arg10 harg10 u v40 X4 X5 X7 k).2.1 f8 f9 f10))
      (arg10.view.writes (Elt Ideal) f10 ((trip_k0_t1 (F := Ideal) 𝒱 c bd i arg3 harg3 arg4 harg4 arg5 harg5 arg6 harg6 arg7 harg7 arg8 harg8 arg9 harg9 arg10 harg10 u v40 X4 X5 X7 k).2.2.1 f8 f9 f10)) (k.val + 1) := by
  obtain ⟨N, hN⟩ : ∃ N, N = 4 * (i 2).val - 1 - 4 * k.val := ⟨_, rfl⟩
  have hi : (i 2).val < 8 := (i 2).isLt
  have hk : k.val < (i 2).val := trips_eq i ▸ k.isLt
  have S8 := S.scores
  have S9 := S.sums
  have S10 := S.accs
  rw [← hN] at S8
  rw [show 1024 * ((i 2).val - k.val) = 256 * N + 256 by omega] at S9 S10
  have H : Enter T qm key val i arg4 arg5 arg7 arg8 arg9 arg10 u X4 X5 X7 k f8 f9 f10 N :=
    ⟨E, hT, hN.symm, by omega, by omega, by omega, S8, S9, S10⟩
  have e : 256 * (N - 2) = 256 * (N - 3) + 256 := by omega
  unfold trip_k0_t1
  refine ⟨fun hh => ?_, ?_, ?_⟩
  · rw [show 4 * (i 2).val - 1 - 4 * (k.val + 1) = N - 4 by omega]
    exact H.z81 f8 hh
  · rw [show 1024 * ((i 2).val - (k.val + 1)) = 256 * (N - 3) by omega]
    exact ((H.c7 f9).put (h0 := 1) (r0 := 0) (n := 1024) _ _ fun hh hv r l =>
      fullC_at (h := fits1024) (H.env.reads (by omega) (H.z80 _ hh) (H.c7 _) rfl hv (le_refl _) (ready_other hv e) _ _
        shapeCasts_S1x1x1024x256_S1024x256) (by omega) 0 r l).both
  · rw [show 1024 * ((i 2).val - (k.val + 1)) = 256 * (N - 3) by omega]
    exact ((H.a7 f10).put (h0 := 1) (r0 := 0) (n := 1024) _ _ fun hh hv r l =>
      fullA_at (h := fits1024) (H.env.reads (by omega) (H.z80 _ hh) (H.c7 _) rfl hv (le_refl _) (ready_other hv e) _ _
        shapeCasts_S1x1x1024x256_S1024x256) (by omega)
        (H.env.value (H.val_off 3 rfl) (by omega) _ shapeCasts_S1x256x128_S256x128)
        (adds (H.a7 _) hv (ready_other hv e) _) 0 r l).both

/-- Every pass, one after another. -/
theorem Stage.passes (hT : T = 1024 * (i 2).val) (E : Env T qm key val arg4 arg5 arg7 u X4 X5 X7)
    (G8 : BufTy.Contents (Elt Ideal) arg8.view.ty) (G9 : BufTy.Contents (Elt Ideal) arg9.view.ty)
    (G10 : BufTy.Contents (Elt Ideal) arg10.view.ty)
    (S : Stage T (i 2).val qm key val arg8.view arg9.view arg10.view G8 G9 G10 0) (n : ℕ) (hn : n ≤ (i 2).val) :
    Stage T (i 2).val qm key val arg8.view arg9.view arg10.view
      (arg8.view.writes (Elt Ideal) G8 (pb_k0_t1 (F := Ideal) 𝒱 c bd i arg3 harg3 arg4 harg4 arg5 harg5 arg6 harg6 arg7 harg7 arg8 harg8 arg9 harg9 arg10 harg10 u v40 X4 X5 X7 G8 G9 G10 n).1)
      (arg9.view.writes (Elt Ideal) G9 (pb_k0_t1 (F := Ideal) 𝒱 c bd i arg3 harg3 arg4 harg4 arg5 harg5 arg6 harg6 arg7 harg7 arg8 harg8 arg9 harg9 arg10 harg10 u v40 X4 X5 X7 G8 G9 G10 n).2.1)
      (arg10.view.writes (Elt Ideal) G10 (pb_k0_t1 (F := Ideal) 𝒱 c bd i arg3 harg3 arg4 harg4 arg5 harg5 arg6 harg6 arg7 harg7 arg8 harg8 arg9 harg9 arg10 harg10 u v40 X4 X5 X7 G8 G9 G10 n).2.2) n := by
  induction n with
  | zero => exact S
  | succ n ih =>
    have hk : n < (k0_t1_loop i).trips := by rw [trips_eq]; omega
    have h := (ih (by omega)).pass 𝒱 c bd i arg3 harg3 arg4 harg4 arg5 harg5 arg6 harg6 arg7 harg7 arg8 harg8 arg9 harg9 arg10
      harg10 u v40 X4 X5 X7 hT E ⟨n, hk⟩
    rw [pb_k0_t1_succ (F := Ideal) 𝒱 c bd i arg3 harg3 arg4 harg4 arg5 harg5 arg6 harg6 arg7 harg7 arg8 harg8 arg9 harg9 arg10 harg10 u v40 X4 X5 X7 G8 G9 G10 ⟨n, hk⟩]
    rw [View.writes_append, View.writes_append, View.writes_append]
    exact h

end Pass
end Cert.SB
end
-- ==== Proof.Block.lean ====
/- One block of the kernel's result, at an index: the values gathered with the row's weights, over every key. -/
module

public import proofs.«01_k».proof.Proof.Diagonal
public import proofs.«01_k».proof.Proof.Trip
public import proofs.«01_k».proof.Proof.Gen.KernelIdeal.Frame

@[expose] public section

set_option maxRecDepth 16384

noncomputable section

namespace Cert.SB

open Idealize.ShloMosaic Idealize.ShloMosaic.TcCoe Idealize.SL.Sem
open Cert.KernelIdeal Cert.KernelIdeal.Gen

/-- Nothing is left over for the second loop. -/
theorem trips2_eq : ∀ i : grid0.Coords, (k0_t2_loop i).trips = 0 := by decide +kernel

theorem half_word : ∀ l : Fin 128, Scalar.cmpi .slt (BitVec.ofNat 32 l.val) 64#32
    = if l.val < 64 then (1 : BitVec 1) else 0 := by decide +kernel

/-- The head a lane belongs to. -/
def headOf (l : Fin 128) : Fin 2 := ⟨l.val / 64, by have := l.isLt; omega⟩

section Block
variable {T : ℕ} {q key val : ℕ → Fin 128 → EReal}
  (c : Dev nD) (i : grid0.Coords)
  (arg3 : Memref sig .tc .vmem S1x1024x128 .bf16) (harg3 : arg3.IsWhole)
  (arg4 : Memref sig .tc .vmem S1x8192x128 .bf16) (harg4 : arg4.IsWhole)
  (arg5 : Memref sig .tc .vmem S1x8192x128 .bf16) (harg5 : arg5.IsWhole)
  (arg6 : Memref sig .tc .vmem S1x1024x128 .bf16) (harg6 : arg6.IsWhole)
  (arg7 : Memref sig .tc .vmem S2x1024x128 .bf16) (harg7 : arg7.IsWhole)
  (arg8 : Memref sig .tc .vmem S2x2x1024x256 .f32) (harg8 : arg8.IsWhole)
  (arg9 : Memref sig .tc .vmem S2x1024x128 .f32) (harg9 : arg9.IsWhole)
  (arg10 : Memref sig .tc .vmem S2x1024x128 .f32) (harg10 : arg10.IsWhole)
  {x0 : Vec Ideal S1x1024x128 .bf16} {x1 x2 : Vec Ideal S1x8192x128 .bf16}

variable {i} (G : Given T q key val i x0 x1 x2)
include G

/-- The accumulators after the loop. -/
theorem Given.done : Holds arg10.view (tgtA T (scoreOf (masked q) key) val)
    (arg10.view.writes (Elt Ideal) arg10.view.junk
      ((pb_k0_t1 (F := Ideal) Variants.none c none i arg3 harg3 arg4 harg4 arg5 harg5 arg6 harg6 arg7 harg7 arg8 harg8 arg9 harg9
        arg10 harg10 kernelRun0_A.sl.v7 (kernelRun0_A.sl.v40 i) (harg4.unread x1) (harg5.unread x2)
        (arg7.view.writes (Elt Ideal) arg7.view.junk (kernelRun0_A.sl.HS0_2 c arg3 harg3 x0))
        (arg8.view.writes (Elt Ideal) arg8.view.junk (kernelRun0_A.sl.HS1_10 c i arg3 harg3 arg4 harg4 arg7 x0 x1))
        (arg9.view.writes (Elt Ideal) arg9.view.junk
          (kernelRun0_A.sl.HS2_15 c i arg3 harg3 arg4 harg4 arg7 arg8 arg9 x0 x1))
        (arg10.view.writes (Elt Ideal) arg10.view.junk
          (kernelRun0_A.sl.HS3_15 c i arg3 harg3 arg4 harg4 arg5 harg5 arg7 arg8 arg9 arg10 x0 x1 x2))
        (k0_t1_loop i).trips).2.2
        ++ kernelRun0_A.sl.HS3_15 c i arg3 harg3 arg4 harg4 arg5 harg5 arg7 arg8 arg9 arg10 x0 x1 x2)) (fun _ _ => 0) := by
  have D := G.b0 c arg3 harg3 arg4 harg4 arg5 harg5 arg7 arg8 arg9 arg10
  have hT : T = 1024 * ((i 2).val - 0) := G.first
  have S0 : Stage T (i 2).val (masked q) key val arg8.view arg9.view arg10.view
      (arg8.view.writes (Elt Ideal) arg8.view.junk (kernelRun0_A.sl.HS1_10 c i arg3 harg3 arg4 harg4 arg7 x0 x1))
      (arg9.view.writes (Elt Ideal) arg9.view.junk
        (kernelRun0_A.sl.HS2_15 c i arg3 harg3 arg4 harg4 arg7 arg8 arg9 x0 x1))
      (arg10.view.writes (Elt Ideal) arg10.view.junk
        (kernelRun0_A.sl.HS3_15 c i arg3 harg3 arg4 harg4 arg5 harg5 arg7 arg8 arg9 arg10 x0 x1 x2)) 0 :=
    ⟨fun hh => G.zp c arg3 harg3 arg4 harg4 arg5 harg5 arg7 arg8 arg8.view.junk hh, hT ▸ D.1 arg9.view.junk,
      hT ▸ D.2 arg10.view.junk⟩
  have P := Stage.passes Variants.none c none i arg3 harg3 arg4 harg4 arg5 harg5 arg6 harg6 arg7 harg7 arg8 harg8 arg9 harg9
    arg10 harg10 kernelRun0_A.sl.v7 (kernelRun0_A.sl.v40 i) (harg4.unread x1) (harg5.unread x2)
    (arg7.view.writes (Elt Ideal) arg7.view.junk (kernelRun0_A.sl.HS0_2 c arg3 harg3 x0)) G.first
    (G.env c arg3 harg3 arg4 harg4 arg5 harg5 arg7 arg7.view.junk) _ _ _ S0 (i 2).val (le_refl _)
  have A := P.accs
  rw [show 1024 * ((i 2).val - (i 2).val) = 0 by omega] at A
  rw [View.writes_append, trips_eq]
  exact A

/-- What the accumulators hold when the result is put together. -/
theorem Given.low_at (r : Fin 1024) (l : Fin 128) :
    kernelRun0_A.sl.v705 c i arg3 harg3 arg4 harg4 arg5 harg5 arg6 harg6 arg7 harg7 arg8 harg8 arg9 harg9 arg10 harg10 x0 x1 x2
      (ix3 0 r l) = gathered T (scoreOf (masked q) key 0) val r.val 0 l := by
  have h := (G.done c arg3 harg3 arg4 harg4 arg5 harg5 arg6 harg6 arg7 harg7 arg8 harg8 arg9 harg9 arg10 harg10).load
    (h0 := 0) (r0 := 0) (n := 1024) (b := 0) 0 rfl inb_S2x1024x128_S1x1024x128_0_0_0 (fun _ _ _ _ => rfl) 0 r l
  unfold kernelRun0_A.sl.v705
  rw [show Scf.trips (k0_t2_loop i).lb (k0_t2_loop i).ub (k0_t2_loop i).st = 0 from trips2_eq i]
  rw [Nat.zero_add] at h
  exact h

theorem Given.high_at (r : Fin 1024) (l : Fin 128) :
    kernelRun0_A.sl.v707 c i arg3 harg3 arg4 harg4 arg5 harg5 arg6 harg6 arg7 harg7 arg8 harg8 arg9 harg9 arg10 harg10 x0 x1 x2
      (ix3 0 r l) = gathered T (scoreOf (masked q) key 1) val r.val 0 l := by
  have h := (G.done c arg3 harg3 arg4 harg4 arg5 harg5 arg6 harg6 arg7 harg7 arg8 harg8 arg9 harg9 arg10 harg10).load
    (h0 := 1) (r0 := 0) (n := 1024) (b := 0) 1 rfl inb_S2x1024x128_S1x1024x128_1_0_0 (fun _ _ _ _ => rfl) 0 r l
  unfold kernelRun0_A.sl.v707
  rw [show Scf.trips (k0_t2_loop i).lb (k0_t2_loop i).ub (k0_t2_loop i).st = 0 from trips2_eq i]
  rw [Nat.zero_add] at h
  exact h

/-- The block, at an index. -/
theorem Given.block_at (r : Fin 1024) (l : Fin 128) :
    out0_A_3 c i arg3 harg3 arg4 harg4 arg5 harg5 arg6 harg6 arg7 harg7 arg8 harg8 arg9 harg9 arg10 harg10 x0 x1 x2 (ix3 0 r l)
      = gathered T (scoreOf (masked q) key (headOf l)) val r.val 0 l := by
  unfold out0_A_3 kernelRun0_A
  refine (View.read_writes_cons_unit_of_mem (s := S1x1024x128) VO0_3 _ inb_S1x1024x128_S1x1024x128_0_0_0 _ []
    (ix3 0 r l) (ix3 0 r l) rfl fun a => ?_).trans ?_
  · match a with
    | ⟨0, _⟩ => exact (Nat.zero_add _).symm
    | ⟨1, _⟩ => exact (Nat.zero_add _).symm
    | ⟨2, _⟩ => exact (Nat.zero_add _).symm
  unfold k0_pay1
  refine (ValueIdx.shapeCast_ab_1ab_apply _ shapeCasts_S1024x128_S1x1024x128 0 r l).trans ?_
  have h0 := (ValueIdx.shapeCast_1ab_ab_apply _ shapeCasts_S1x1024x128_S1024x128 r l).trans
    (G.low_at c arg3 harg3 arg4 harg4 arg5 harg5 arg6 harg6 arg7 harg7 arg8 harg8 arg9 harg9 arg10 harg10 r l)
  have h1 := (ValueIdx.shapeCast_1ab_ab_apply _ shapeCasts_S1x1024x128_S1024x128 r l).trans
    (G.high_at c arg3 harg3 arg4 harg4 arg5 harg5 arg6 harg6 arg7 harg7 arg8 harg8 arg9 harg9 arg10 harg10 r l)
  refine (congrArg₂ (Scalar.select (Scalar.cmpi .slt (BitVec.ofNat 32 (0 * 128 + l.val)) 64#32)) h0 h1).trans ?_
  rw [Nat.zero_mul, Nat.zero_add, half_word]
  have hl := l.isLt
  by_cases h : l.val < 64
  · rw [if_pos h, show headOf l = 0 from Fin.ext (show l.val / 64 = 0 by omega)]
    rfl
  · rw [if_neg h, show headOf l = 1 from Fin.ext (show l.val / 64 = 1 by omega)]
    rfl

end Block
end Cert.SB
end
-- ==== Proof.Whole.lean ====
/- The kernel's whole result as one function of the argument arrays. -/
module

public import proofs.«01_k».proof.Proof.Block
public import proofs.«01_k».proof.Proof.Gen.KernelIdeal.Value

@[expose] public section

set_option maxRecDepth 16384

noncomputable section

namespace Cert.SB

open Idealize.ShloMosaic Idealize.ShloMosaic.TcCoe Idealize.SL.Sem
open Cert.KernelIdeal Cert.KernelIdeal.Gen Cert.KernelIdeal.Value

/-! ## The attention as a function of three arrays -/

/-- An argument or result array. -/
abbrev Arr : Type := Vec Ideal S4x8192x256 .bf16

/-- An array's element at three numbers. -/
def elem (x : Arr) (b row lane : ℕ) : EReal :=
  x (ix3 ⟨b % 4, Nat.mod_lt _ (by decide)⟩ ⟨row % 8192, Nat.mod_lt _ (by decide)⟩ ⟨lane % 256, Nat.mod_lt _ (by decide)⟩)

/-- The score of a query row against a key row in a head of 64 lanes. -/
def logit (q k : Arr) (b head row j : ℕ) : EReal :=
  ∑ e : Fin 64, elem q b row (64 * head + e.val) * elem k b j (64 * head + e.val)

/-- One element of the attention. -/
def attend (q k v : Arr) (b row lane : ℕ) : EReal :=
  ∑ j ∈ Finset.Ico 0 8192, weight 0 (logit q k b (lane / 64)) row j * elem v b j lane

/-- The attention. -/
def attention (q k v : Arr) : Arr := fun i => attend q k v (i 0).val (i 1).val (i 2).val

/-! ## The blocks -/

theorem score_half (q key : ℕ → Fin 128 → EReal) (hh : Fin 2) (r j : ℕ) (f : ℕ → EReal)
    (hf : ∀ l : Fin 128, q r l * key j l = f l.val) :
    scoreOf (masked q) key hh r j = ∑ e : Fin 64, f (64 * hh.val + e.val) := by
  have hg : ∀ l : Fin 128, masked q hh r l * key j l = if l.val / 64 = hh.val then f l.val else 0 := fun l => by
    unfold masked
    split_ifs
    · exact hf l
    · exact zero_mul _
  unfold scoreOf
  rw [Finset.sum_congr rfl fun l _ => hg l, Fin.sum_univ_add (a := 64) (b := 64)]
  match hh with
  | ⟨0, _⟩ =>
    refine (congrArg₂ (· + ·) (Finset.sum_congr rfl fun e _ => ?_) (Finset.sum_eq_zero fun e _ => ?_)).trans (add_zero _)
    · have he := e.isLt
      exact (if_pos (show e.val / 64 = 0 by omega)).trans (congrArg f (show e.val = 64 * 0 + e.val by omega))
    · have he := e.isLt
      exact if_neg (show ¬ (64 + e.val) / 64 = 0 by omega)
  | ⟨1, _⟩ =>
    refine (congrArg₂ (· + ·) (Finset.sum_eq_zero fun e _ => ?_) (Finset.sum_congr rfl fun e _ => ?_)).trans (zero_add _)
    · have he := e.isLt
      exact if_neg (show ¬ e.val / 64 = 1 by omega)
    · have he := e.isLt
      exact (if_pos (show (64 + e.val) / 64 = 1 by omega)).trans (congrArg f (show 64 + e.val = 64 * 1 + e.val by omega))

theorem gathered_shift (T : ℕ) (Z z : ℕ → ℕ → EReal) (v : ℕ → Fin 128 → EReal) (r a : ℕ) (l : Fin 128)
    (hz : ∀ j, z r j = Z (T + r) j) :
    gathered T z v r a l = ∑ j ∈ Finset.Ico a 8192, weight 0 Z (T + r) j * v j l := by
  unfold gathered weight tail cost
  simp only [hz, Nat.zero_add]

/-- The block of a tile, when the tiles it reads are those of three arrays. -/
theorem gathered_attend {T b p : ℕ} (Q K V : Arr) (r : Fin 1024) (l : Fin 128) :
    gathered T (scoreOf (masked fun r l => elem Q b (T + r) (128 * p + l.val)) (fun j l => elem K b j (128 * p + l.val)) (headOf l))
      (fun j l => elem V b j (128 * p + l.val)) r.val 0 l = attend Q K V b (T + r.val) (128 * p + l.val) := by
  rw [gathered_shift T (logit Q K b ((128 * p + l.val) / 64))]
  · rfl
  · intro j
    rw [score_half _ _ _ _ _ (fun n => elem Q b (T + r.val) (128 * p + n) * elem K b j (128 * p + n)) fun _ => rfl]
    unfold logit
    have hl := l.isLt
    refine Finset.sum_congr rfl fun e _ => ?_
    rw [show 128 * p + (64 * (headOf l).val + e.val) = 64 * ((128 * p + l.val) / 64) + e.val by
      show 128 * p + (64 * (l.val / 64) + e.val) = _
      omega]

theorem place0 : ∀ t : Fin cfg0.N, win0_0.index t (0 : Fin 3) = (grid0.coords t 0).val
    ∧ win0_0.index t (1 : Fin 3) = (grid0.coords t 2).val ∧ win0_0.index t (2 : Fin 3) = (grid0.coords t 1).val :=
  (by decide +kernel : ∀ t : Fin grid0.N, _)
theorem place1 : ∀ t : Fin cfg0.N, win0_1.index t (0 : Fin 3) = (grid0.coords t 0).val
    ∧ win0_1.index t (1 : Fin 3) = 0 ∧ win0_1.index t (2 : Fin 3) = (grid0.coords t 1).val :=
  (by decide +kernel : ∀ t : Fin grid0.N, _)
theorem place2 : ∀ t : Fin cfg0.N, win0_2.index t (0 : Fin 3) = (grid0.coords t 0).val
    ∧ win0_2.index t (1 : Fin 3) = 0 ∧ win0_2.index t (2 : Fin 3) = (grid0.coords t 1).val :=
  (by decide +kernel : ∀ t : Fin grid0.N, _)
theorem place3 : ∀ t : Fin cfg0.N, win0_3.index t (0 : Fin 3) = (grid0.coords t 0).val
    ∧ win0_3.index t (1 : Fin 3) = (grid0.coords t 2).val ∧ win0_3.index t (2 : Fin 3) = (grid0.coords t 1).val :=
  (by decide +kernel : ∀ t : Fin grid0.N, _)

theorem elem_of (x : Arr) (i : S4x8192x256.Idx) {b row lane : ℕ} (h0 : (i 0).val = b) (h1 : (i 1).val = row)
    (h2 : (i 2).val = lane) : x i = elem x b row lane := by
  have l0 : (i 0).val < 4 := (i 0).isLt
  have l1 : (i 1).val < 8192 := (i 1).isLt
  have l2 : (i 2).val < 256 := (i 2).isLt
  subst h0 h1 h2
  refine congrArg x (funext fun a => Fin.ext ?_)
  match a with
  | ⟨0, _⟩ => exact (Nat.mod_eq_of_lt l0).symm
  | ⟨1, _⟩ => exact (Nat.mod_eq_of_lt l1).symm
  | ⟨2, _⟩ => exact (Nat.mod_eq_of_lt l2).symm

variable (m : (ℓ : Loc nD τ sig) → Buf (Elt Ideal) ℓ) (ρ : Dev nD → PrngReg)

theorem iblk0_at (c : Dev nD) (t : Fin cfg0.N) (r : Fin 1024) (l : Fin 128) :
    iblk m c 0 t (ix3 0 r l) = elem (V m c main_arg0) (grid0.coords t 0).val
      (1024 * (grid0.coords t 2).val + r.val) (128 * (grid0.coords t 1).val + l.val) := by
  obtain ⟨e0, e1, e2⟩ := place0 t
  refine elem_of (V m c main_arg0) (((cfg0.win 0).blk t).view.emb (ix3 0 r l)) ?_ ?_ ?_
  · show win0_0.index t (0 : Fin 3) * 1 + 1 * 0 = _; omega
  · show win0_0.index t (1 : Fin 3) * 1024 + 1 * r.val = _; omega
  · show win0_0.index t (2 : Fin 3) * 128 + 1 * l.val = _; omega

theorem iblk1_at (c : Dev nD) (t : Fin cfg0.N) (j : Fin 8192) (l : Fin 128) :
    iblk m c 1 t (ix3 0 j l) = elem (V m c main_arg1) (grid0.coords t 0).val j.val (128 * (grid0.coords t 1).val + l.val) := by
  obtain ⟨e0, e1, e2⟩ := place1 t
  refine elem_of (V m c main_arg1) (((cfg0.win 1).blk t).view.emb (ix3 0 j l)) ?_ ?_ ?_
  · show win0_1.index t (0 : Fin 3) * 1 + 1 * 0 = _; omega
  · show win0_1.index t (1 : Fin 3) * 8192 + 1 * j.val = _; omega
  · show win0_1.index t (2 : Fin 3) * 128 + 1 * l.val = _; omega

theorem iblk2_at (c : Dev nD) (t : Fin cfg0.N) (j : Fin 8192) (l : Fin 128) :
    iblk m c 2 t (ix3 0 j l) = elem (V m c main_arg2) (grid0.coords t 0).val j.val (128 * (grid0.coords t 1).val + l.val) := by
  obtain ⟨e0, e1, e2⟩ := place2 t
  refine elem_of (V m c main_arg2) (((cfg0.win 2).blk t).view.emb (ix3 0 j l)) ?_ ?_ ?_
  · show win0_2.index t (0 : Fin 3) * 1 + 1 * 0 = _; omega
  · show win0_2.index t (1 : Fin 3) * 8192 + 1 * j.val = _; omega
  · show win0_2.index t (2 : Fin 3) * 128 + 1 * l.val = _; omega

theorem given (c : Dev nD) (t : Fin cfg0.N) : Given (1024 * (grid0.coords t 2).val)
    (fun r l => elem (V m c main_arg0) (grid0.coords t 0).val (1024 * (grid0.coords t 2).val + r) (128 * (grid0.coords t 1).val + l.val))
    (fun j l => elem (V m c main_arg1) (grid0.coords t 0).val j (128 * (grid0.coords t 1).val + l.val))
    (fun j l => elem (V m c main_arg2) (grid0.coords t 0).val j (128 * (grid0.coords t 1).val + l.val))
    (grid0.coords t) (iblk m c 0 t) (iblk m c 1 t) (iblk m c 2 t) :=
  ⟨rfl, iblk0_at m c t, iblk1_at m c t, iblk2_at m c t⟩

/-- What a point writes back is its block of the attention. -/
theorem flushed_eq (c : Dev nD) (t : Fin cfg0.N) : (dats m 0 c).flushed 3 t
    = ((cfg0.win 3).blk t).view.read (Elt Ideal) (attention (V m c main_arg0) (V m c main_arg1) (V m c main_arg2)) := by
  rw [flushed3_A]
  funext y
  obtain ⟨e0, e1, e2⟩ := place3 t
  obtain ⟨r, l, hy⟩ : ∃ (r : Fin 1024) (l : Fin 128), y = ix3 (0 : Fin 1) r l := by
    refine ⟨y (1 : Fin 3), y (2 : Fin 3), funext fun a => ?_⟩
    match a with
    | ⟨0, _⟩ => exact Fin.ext (show (y (0 : Fin 3)).val = 0 by have h : (y (0 : Fin 3)).val < 1 := (y (0 : Fin 3)).isLt; omega)
    | ⟨1, _⟩ => rfl
    | ⟨2, _⟩ => rfl
  subst hy
  refine ((given m c t).block_at c (ms0_0 t) (hs0_0 t) (ms0_1 t) (hs0_1 t) (ms0_2 t) (hs0_2 t) (ms0_3 t) (hs0_3 t)
    scM0_0 (Memref.isWhole_whole _) scM0_1 (Memref.isWhole_whole _) scM0_2 (Memref.isWhole_whole _)
    scM0_3 (Memref.isWhole_whole _) r l).trans ?_
  refine (gathered_attend _ _ _ r l).trans ?_
  show _ = attend _ _ _ (((cfg0.win 3).blk t).view.emb (ix3 0 r l) 0).val (((cfg0.win 3).blk t).view.emb (ix3 0 r l) 1).val
    (((cfg0.win 3).blk t).view.emb (ix3 0 r l) 2).val
  have g0 : (((cfg0.win 3).blk t).view.emb (ix3 0 r l) 0).val = (grid0.coords t 0).val := by
    show win0_3.index t (0 : Fin 3) * 1 + 1 * 0 = _; omega
  have g1 : (((cfg0.win 3).blk t).view.emb (ix3 0 r l) 1).val = 1024 * (grid0.coords t 2).val + r.val := by
    show win0_3.index t (1 : Fin 3) * 1024 + 1 * r.val = _; omega
  have g2 : (((cfg0.win 3).blk t).view.emb (ix3 0 r l) 2).val = 128 * (grid0.coords t 1).val + l.val := by
    show win0_3.index t (2 : Fin 3) * 128 + 1 * l.val = _; omega
  rw [g0, g1, g2]

theorem point_at : ∀ (b : Fin 4) (p : Fin 2) (q : Fin 8), ∃ t : Fin cfg0.N, win0_3.index t (0 : Fin 3) = b.val
    ∧ win0_3.index t (1 : Fin 3) = q.val ∧ win0_3.index t (2 : Fin 3) = p.val := fun b p q =>
  ⟨⟨b.val * 16 + p.val * 8 + q.val, by show _ < grid0.N; have := N_0; omega⟩,
    (by decide +kernel : ∀ (b : Fin 4) (p : Fin 2) (q : Fin 8) (h : b.val * 16 + p.val * 8 + q.val < grid0.N),
      win0_3.index ⟨b.val * 16 + p.val * 8 + q.val, h⟩ (0 : Fin 3) = b.val
      ∧ win0_3.index ⟨b.val * 16 + p.val * 8 + q.val, h⟩ (1 : Fin 3) = q.val
      ∧ win0_3.index ⟨b.val * 16 + p.val * 8 + q.val, h⟩ (2 : Fin 3) = p.val) b p q _⟩

/-- Every index of the result is in some point's block. -/
theorem covered (i : S4x8192x256.Idx) :
    ∃ t : Fin cfg0.N, (cfg0.win 3).flush t = true ∧ i ∈ ((cfg0.win 3).blk t).view.set := by
  have l0 : (i 0).val < 4 := (i 0).isLt
  have l1 : (i 1).val < 8192 := (i 1).isLt
  have l2 : (i 2).val < 256 := (i 2).isLt
  obtain ⟨t, e0, e1, e2⟩ := point_at ⟨(i 0).val, l0⟩ ⟨(i 2).val / 128, by omega⟩ ⟨(i 1).val / 1024, by omega⟩
  refine ⟨t, flush0_3 t, ?_⟩
  have h := ((cfg0.win 3).blk t).view.emb_mem_set
    (ix3 (0 : Fin 1) (⟨(i 1).val % 1024, Nat.mod_lt _ (by decide)⟩ : Fin 1024) (⟨(i 2).val % 128, Nat.mod_lt _ (by decide)⟩ : Fin 128))
  have he : ((cfg0.win 3).blk t).view.emb
      (ix3 (0 : Fin 1) (⟨(i 1).val % 1024, Nat.mod_lt _ (by decide)⟩ : Fin 1024) (⟨(i 2).val % 128, Nat.mod_lt _ (by decide)⟩ : Fin 128))
      = i := by
    funext a
    refine Fin.ext ?_
    match a with
    | ⟨0, _⟩ => show win0_3.index t (0 : Fin 3) * 1 + 1 * 0 = (i 0).val; dsimp only at e0; omega
    | ⟨1, _⟩ => show win0_3.index t (1 : Fin 3) * 1024 + 1 * ((i 1).val % 1024) = (i 1).val; dsimp only at e1; omega
    | ⟨2, _⟩ => show win0_3.index t (2 : Fin 3) * 128 + 1 * ((i 2).val % 128) = (i 2).val; dsimp only at e2; omega
  rwa [he] at h

/-- The result array after the run. -/
theorem final (c : Dev nD) : (dats m 0 c).arrAt 3 cfg0.N = attention (m ((c : Thread nD τ).loc main_arg0))
    (m ((c : Thread nD τ).loc main_arg1)) (m ((c : Thread nD τ).loc main_arg2)) :=
  ((dats m 0 c).arrAt_eq_of_cover 3 (attention (V m c main_arg0) (V m c main_arg1) (V m c main_arg2))
    (fun t _ => flushed_eq m c t) covered).trans (by rw [V_main_arg0, V_main_arg1, V_main_arg2])

end Cert.SB
end
-- ==== Proof.Weights.lean ====
/- The reference's weight and the kernel's are one number, for every score, infinite ones among them. -/
module

public import proofs.«01_k».proof.Proof.Pure
public import Idealize.ShloMosaic.Lib.IdealHost

@[expose] public section

set_option maxRecDepth 16384

noncomputable section

namespace Cert.SB

open Idealize.ShloMosaic Idealize.ShloMosaic.TcCoe Idealize.SL.Sem
open Cert.KernelIdeal Cert.KernelIdeal.Gen

/-- The natural log of two. -/
abbrev ln2 : EReal := ((Real.log 2 : ℝ) : EReal)

theorem log_two_pos : 0 < Real.log 2 := Real.log_pos (by norm_num)

/-- Log of one plus the exponential, the way that does not overflow. -/
def soft (y : EReal) : EReal := max y 0 + Ideal.log1p (Ideal.exp (-(max (y - 0) (-(y - 0)))))

theorem log_coe_pos {r : ℝ} (h : 0 < r) : Ideal.log (r : EReal) = ((Real.log r : ℝ) : EReal) := if_neg (not_le.2 h)

theorem log_one_add_exp (r : ℝ) : Ideal.log (1 + ((Real.exp r : ℝ) : EReal)) = ((Real.log (1 + Real.exp r) : ℝ) : EReal) := by
  rw [← EReal.coe_one, ← EReal.coe_add]
  exact log_coe_pos (by have := Real.exp_pos r; linarith)

theorem soft_top : soft ⊤ = ⊤ := by
  unfold soft
  rw [sub_zero, max_eq_left (show (-⊤ : EReal) ≤ ⊤ from le_top), max_eq_left (show (0 : EReal) ≤ ⊤ from le_top), EReal.neg_top]
  show ⊤ + Ideal.log (1 + (0 : EReal)) = ⊤
  rw [add_zero, ← EReal.coe_one, log_coe_pos one_pos, EReal.top_add_coe]

theorem soft_bot : soft ⊥ = 0 := by
  unfold soft
  rw [sub_zero, EReal.neg_bot, max_eq_right (show (⊥ : EReal) ≤ ⊤ from bot_le), max_eq_right (show (⊥ : EReal) ≤ 0 from bot_le),
    EReal.neg_top]
  show 0 + Ideal.log (1 + (0 : EReal)) = 0
  rw [add_zero, ← EReal.coe_one, log_coe_pos one_pos, Real.log_one, EReal.coe_zero, add_zero]

theorem soft_coe (y : ℝ) : soft (y : EReal) = ((Real.log (1 + Real.exp y) : ℝ) : EReal) := by
  unfold soft
  rw [sub_zero, ← EReal.coe_neg]
  rcases le_total 0 y with h | h
  · rw [max_eq_left (EReal.coe_nonneg.2 h), max_eq_left (EReal.coe_le_coe_iff.2 (by linarith)), ← EReal.coe_neg]
    show (y : EReal) + Ideal.log (1 + ((Real.exp (-y) : ℝ) : EReal)) = _
    rw [log_one_add_exp, ← EReal.coe_add, EReal.coe_eq_coe_iff]
    have e : 1 + Real.exp y = Real.exp y * (1 + Real.exp (-y)) := by
      rw [mul_add, ← Real.exp_add, add_neg_cancel, Real.exp_zero]; ring
    rw [e, Real.log_mul (Real.exp_pos y).ne' (by have := Real.exp_pos (-y); linarith), Real.log_exp]
  · rw [max_eq_right (EReal.coe_nonpos.2 h), max_eq_right (EReal.coe_le_coe_iff.2 (by linarith)), ← EReal.coe_neg, neg_neg]
    show 0 + Ideal.log (1 + ((Real.exp y : ℝ) : EReal)) = _
    rw [log_one_add_exp, zero_add]

theorem soft_nonneg (y : EReal) : 0 ≤ soft y := by
  induction y with
  | bot => rw [soft_bot]
  | top => rw [soft_top]; exact le_top
  | coe y =>
    rw [soft_coe]
    exact EReal.coe_nonneg.2 (Real.log_nonneg (by have := Real.exp_pos y; linarith))

theorem passing_eq (z : EReal) :
    passing z = max (Ideal.log (1 + Ideal.exp2 z) * (((Real.log 2)⁻¹ : ℝ) : EReal)) z := by
  have h1 : Named.named (F := Ideal) (φ := .f32) κ "clamp" 0x42FC0000#32 = (⊤ : EReal) :=
    IdealRules.named_const.ideal_named_scalar _ _ _ _ rfl
  have h2 : Named.named (F := Ideal) (φ := .f32) κ "log2e" 0x3FB8AA3B#32 = (((Real.log 2)⁻¹ : ℝ) : EReal) :=
    IdealRules.named_const.ideal_named_scalar _ _ _ _ rfl
  unfold passing
  rw [h1, h2, min_eq_left le_top]

theorem exp2_real (z : ℝ) : Ideal.exp2 (z : EReal) = ((Real.exp (z * Real.log 2) : ℝ) : EReal) := by
  show ((Real.rpow 2 z : ℝ) : EReal) = _
  rw [EReal.coe_eq_coe_iff]
  exact (Real.rpow_def_of_pos two_pos z).trans (by rw [mul_comm])

theorem passing_top : passing ⊤ = ⊤ := by
  rw [passing_eq]
  exact max_eq_right le_top

theorem passing_bot : passing ⊥ = 0 := by
  rw [passing_eq]
  show max (Ideal.log (1 + (0 : EReal)) * _) ⊥ = 0
  rw [add_zero, ← EReal.coe_one, log_coe_pos one_pos, Real.log_one, EReal.coe_zero, zero_mul]
  exact max_eq_left bot_le

theorem passing_coe (z : ℝ) :
    passing (z : EReal) = ((Real.log (1 + Real.exp (z * Real.log 2)) * (Real.log 2)⁻¹ : ℝ) : EReal) := by
  rw [passing_eq, exp2_real, log_one_add_exp, ← EReal.coe_mul]
  refine max_eq_left (EReal.coe_le_coe_iff.2 ?_)
  have h := Real.log_le_log (Real.exp_pos (z * Real.log 2)) (show Real.exp (z * Real.log 2) ≤ 1 + Real.exp (z * Real.log 2) by linarith)
  rw [Real.log_exp] at h
  rw [← div_eq_mul_inv, le_div_iff₀ log_two_pos]
  exact h

/-- The two costs differ by the factor between the two logs. -/
theorem soft_scaled (z : EReal) : soft (z * ln2) = ln2 * passing z := by
  induction z with
  | bot =>
    rw [EReal.bot_mul_coe_of_pos log_two_pos, soft_bot, passing_bot, mul_zero]
  | top =>
    rw [EReal.top_mul_coe_of_pos log_two_pos, soft_top, passing_top, EReal.coe_mul_top_of_pos log_two_pos]
  | coe z =>
    rw [← EReal.coe_mul, soft_coe, passing_coe, ← EReal.coe_mul, EReal.coe_eq_coe_iff, mul_comm (Real.log 2), mul_assoc,
      inv_mul_cancel₀ log_two_pos.ne', mul_one]

theorem passing_nonneg (z : EReal) : 0 ≤ passing z := by
  induction z with
  | bot => rw [passing_bot]
  | top => rw [passing_top]; exact le_top
  | coe z =>
    rw [passing_coe]
    exact EReal.coe_nonneg.2 (mul_nonneg (Real.log_nonneg (by have := Real.exp_pos (z * Real.log 2); linarith))
      (inv_nonneg.2 log_two_pos.le))

theorem cost_nonneg (T : ℕ) (z : ℕ → ℕ → EReal) (r i : ℕ) : 0 ≤ cost T z r i := by
  unfold cost
  split_ifs
  · exact passing_nonneg _
  · exact le_refl _

theorem neg_scaled_add {a b : EReal} (ha : 0 ≤ a) (hb : 0 ≤ b) : -(ln2 * (a + b)) = -(ln2 * a) + -(ln2 * b) := by
  have h : (0 : EReal) ≤ ln2 := EReal.coe_nonneg.2 log_two_pos.le
  have bot_of : ∀ {x : EReal}, 0 ≤ x → x ≠ ⊥ := fun hx e => absurd (e ▸ hx) (by simp)
  rw [EReal.left_distrib_of_nonneg ha hb, EReal.neg_add (Or.inl (bot_of (mul_nonneg h ha))) (Or.inr (bot_of (mul_nonneg h hb))),
    sub_eq_add_neg]

/-- The reference's sum of negated costs against the kernel's sum of costs. -/
theorem neg_scaled_sum (g : ℕ → EReal) (hg : ∀ i, 0 ≤ g i) (s : Finset ℕ) :
    ∑ i ∈ s, -(ln2 * g i) = -(ln2 * ∑ i ∈ s, g i) := by
  classical
  induction s using Finset.induction_on with
  | empty => rw [Finset.sum_empty, Finset.sum_empty, mul_zero, neg_zero]
  | insert a s ha ih =>
    rw [Finset.sum_insert ha, Finset.sum_insert ha, ih, neg_scaled_add (hg a) (Finset.sum_nonneg fun i _ => hg i)]

theorem exp_bot_add (x : EReal) : Ideal.exp (⊥ + x) = 0 := by rw [EReal.bot_add]; rfl

/-- One weight: the key's own log-odds and the costs after it, the key's own cost added and taken away again. -/
theorem weight_eq (t S : EReal) (hS : 0 ≤ S) :
    Ideal.exp (-(soft (-(t * ln2))) + ((-(ln2 * passing t) + -(ln2 * S)) - -(ln2 * passing t)))
      = Ideal.exp2 (t - (passing t + S)) := by
  induction t with
  | bot =>
    rw [EReal.bot_mul_coe_of_pos log_two_pos, EReal.neg_bot, soft_top, EReal.neg_top, exp_bot_add, sub_eq_add_neg, EReal.bot_add]
    rfl
  | top =>
    rw [passing_top, EReal.coe_mul_top_of_pos log_two_pos, EReal.neg_top, EReal.bot_add, sub_eq_add_neg, EReal.bot_add,
      EReal.add_bot, EReal.top_add_of_ne_bot (fun e => absurd (e ▸ hS) (by simp)), sub_eq_add_neg, EReal.neg_top, EReal.add_bot]
    rfl
  | coe t =>
    rw [passing_coe, ← EReal.coe_mul, ← EReal.coe_neg, soft_coe, ← EReal.coe_mul]
    induction S with
    | bot => exact absurd hS (by simp)
    | top =>
      rw [EReal.coe_mul_top_of_pos log_two_pos, EReal.neg_top, EReal.add_bot, sub_eq_add_neg, EReal.bot_add, EReal.add_bot,
        EReal.coe_add_top, sub_eq_add_neg, EReal.neg_top, EReal.add_bot]
      rfl
    | coe S =>
      rw [← EReal.coe_mul, ← EReal.coe_neg, ← EReal.coe_neg, ← EReal.coe_neg, ← EReal.coe_add, ← EReal.coe_sub, ← EReal.coe_add,
        ← EReal.coe_add, ← EReal.coe_sub, exp2_real]
      show ((Real.exp _ : ℝ) : EReal) = _
      rw [EReal.coe_eq_coe_iff]
      refine congrArg Real.exp ?_
      have hl : Real.log (1 + Real.exp (t * Real.log 2)) = t * Real.log 2 + Real.log (1 + Real.exp (-(t * Real.log 2))) := by
        have e : 1 + Real.exp (t * Real.log 2) = Real.exp (t * Real.log 2) * (1 + Real.exp (-(t * Real.log 2))) := by
          rw [mul_add, ← Real.exp_add, add_neg_cancel, Real.exp_zero]; ring
        rw [e, Real.log_mul (Real.exp_pos _).ne' (by have := Real.exp_pos (-(t * Real.log 2)); linarith), Real.log_exp]
      rw [hl]
      have hn := log_two_pos.ne'
      field_simp
      ring

end Cert.SB
end
-- ==== Proof.Refer.lean ====
/- The reference's result is the same function of the argument arrays. -/
module

public import proofs.«01_k».proof.Proof.Whole
public import proofs.«01_k».proof.Proof.Weights
public import proofs.«01_k».proof.Proof.Gen.ReferenceIdeal.Read

@[expose] public section

set_option maxRecDepth 16384

noncomputable section

namespace Cert.SB

open Idealize.ShloMosaic Idealize.ShloMosaic.TcCoe Idealize.SL.Sem Idealize.ShloMosaic.StableHlo
open Cert.ReferenceIdeal.Read

/-- The index space of the scores: four sequences, four heads, rows, keys. -/
abbrev Scores : Shape := Cert.ReferenceIdeal.S4x4x8192x8192
abbrev Heads : Shape := Cert.ReferenceIdeal.S4x4x8192x64

/-! ## The sum over a window -/

theorem fold_sum {α : Type} (f : α → EReal) (l : List α) (v : EReal) :
    l.foldl (fun r n => r + f n) v = v + (l.map f).sum := by
  induction l generalizing v with
  | nil => exact (add_zero v).symm
  | cons a l ih => rw [List.foldl_cons, ih, List.map_cons, List.sum_cons, add_assoc]

/-- A window sum, as a sum over the places of the window. -/
theorem places_sum {s t u : Shape} (window strides lo hi : Fin s.rank → ℕ) (x : FVec Ideal s .f32) (init : FVec Ideal u .f32)
    (h : s.ReduceWindows window strides lo hi t) (hu : 0 < u.numel) (j : t.Idx) :
    Host.reduceWindowAdd window strides lo hi x init h hu j = init (Shape.Idx.first hu)
      + ∑ w : (⟨s.rank, window⟩ : Shape).Idx,
        if hin : ∀ a, lo a ≤ (j (a.cast h.1.symm)).val * strides a + (w a).val
            ∧ (j (a.cast h.1.symm)).val * strides a + (w a).val - lo a < s.size a
        then x (fun a => ⟨(j (a.cast h.1.symm)).val * strides a + (w a).val - lo a, (hin a).2⟩)
        else init (Shape.Idx.first hu) := by
  rw [← Equiv.sum_comp (⟨s.rank, window⟩ : Shape).rowMajor.symm, Fin.sum_univ_def, ← fold_sum]
  show Host.reduceWindow (· + ·) window strides lo hi x (fun _ : (⟨0, ![]⟩ : Shape).Idx => init (Shape.Idx.first hu)) h (by decide) j = _
  unfold Host.reduceWindow
  refine congrArg (fun f => (List.finRange (⟨s.rank, window⟩ : Shape).numel).foldl f (init (Shape.Idx.first hu))) ?_
  funext r n
  refine congrArg (r + ·) ?_
  split_ifs <;> rfl

/-- A window as long as the row, past whose end lie zeros, sums what is left of the row. -/
theorem window_at (x : FVec Ideal Scores .f32) (init : FVec Ideal Cert.ReferenceIdeal.S_ .f32)
    (h : Scores.ReduceWindows ![1, 1, 1, 8192] ![1, 1, 1, 1] ![0, 0, 0, 0] ![0, 0, 0, 8191] Scores)
    (hu : 0 < Cert.ReferenceIdeal.S_.numel) (hi : ∀ i, init i = 0) (j : Scores.Idx) (X : ℕ → EReal)
    (hX : ∀ (n : ℕ) (hn : n < 8192), x (ix4 (j 0) (j 1) (j 2) ⟨n, hn⟩) = X n) :
    Host.reduceWindowAdd ![1, 1, 1, 8192] ![1, 1, 1, 1] ![0, 0, 0, 0] ![0, 0, 0, 8191] x init h hu j
      = ∑ n ∈ Finset.Ico (j 3).val 8192, X n := by
  let W : Shape := ⟨4, ![1, 1, 1, 8192]⟩
  let g : W.Idx → EReal := fun w => if (j 3).val + (w 3).val < 8192 then X ((j 3).val + (w 3).val) else 0
  have step : ∀ w : W.Idx, (if hin : ∀ a : Fin 4, (![0, 0, 0, 0] : Fin 4 → ℕ) a ≤ (j (a.cast h.1.symm)).val * (![1, 1, 1, 1] : Fin 4 → ℕ) a + (w a).val
      ∧ (j (a.cast h.1.symm)).val * (![1, 1, 1, 1] : Fin 4 → ℕ) a + (w a).val - (![0, 0, 0, 0] : Fin 4 → ℕ) a < Scores.size a
      then x (fun a => ⟨(j (a.cast h.1.symm)).val * (![1, 1, 1, 1] : Fin 4 → ℕ) a + (w a).val - (![0, 0, 0, 0] : Fin 4 → ℕ) a, (hin a).2⟩)
      else 0) = g w := by
    intro w
    have w0 : (w 0).val < 1 := (w 0).isLt
    have w1 : (w 1).val < 1 := (w 1).isLt
    have w2 : (w 2).val < 1 := (w 2).isLt
    have j0 : (j 0).val < 4 := (j 0).isLt
    have j1 : (j 1).val < 4 := (j 1).isLt
    have j2 : (j 2).val < 8192 := (j 2).isLt
    by_cases hc : (j 3).val + (w 3).val < 8192
    · rw [dif_pos fun a => ?_]
      · refine (Eq.trans ?_ (hX _ hc)).trans (if_pos hc).symm
        refine congrArg x (funext fun a => Fin.ext ?_)
        match a with
        | ⟨0, _⟩ => show (j 0).val * 1 + (w 0).val - 0 = (j 0).val; omega
        | ⟨1, _⟩ => show (j 1).val * 1 + (w 1).val - 0 = (j 1).val; omega
        | ⟨2, _⟩ => show (j 2).val * 1 + (w 2).val - 0 = (j 2).val; omega
        | ⟨3, _⟩ => show (j 3).val * 1 + (w 3).val - 0 = (j 3).val + (w 3).val; omega
      · match a with
        | ⟨0, _⟩ => exact ⟨Nat.zero_le _, show (j 0).val * 1 + (w 0).val - 0 < 4 by omega⟩
        | ⟨1, _⟩ => exact ⟨Nat.zero_le _, show (j 1).val * 1 + (w 1).val - 0 < 4 by omega⟩
        | ⟨2, _⟩ => exact ⟨Nat.zero_le _, show (j 2).val * 1 + (w 2).val - 0 < 8192 by omega⟩
        | ⟨3, _⟩ => exact ⟨Nat.zero_le _, show (j 3).val * 1 + (w 3).val - 0 < 8192 by omega⟩
    · rw [dif_neg fun hin => hc ?_]
      · exact (if_neg hc).symm
      · have h3 : (j 3).val * 1 + (w 3).val - 0 < 8192 := (hin 3).2
        omega
  refine (places_sum _ _ _ _ x init h hu j).trans ?_
  rw [hi, zero_add]
  refine (Finset.sum_congr rfl fun w _ => step w).trans ?_
  have hb : ∑ w : W.Idx, g w = ∑ n : Fin 8192, if (j 3).val + n.val < 8192 then X ((j 3).val + n.val) else 0 := by
    refine Fintype.sum_bijective (fun w : W.Idx => (w 3 : Fin 8192)) ⟨fun w w' e => funext fun a => ?_, fun n => ⟨ix4 (0 : Fin 1) (0 : Fin 1) (0 : Fin 1) n, rfl⟩⟩ _ _
      fun w => rfl
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => exact e
  rw [hb, Fin.sum_univ_eq_sum_range (fun n => if (j 3).val + n < 8192 then X ((j 3).val + n) else 0) 8192,
    Finset.sum_Ico_eq_sum_range, ← Finset.sum_filter]
  have j3 : (j 3).val < 8192 := (j 3).isLt
  refine Finset.sum_congr (Finset.ext fun n => ?_) fun _ _ => rfl
  simp only [Finset.mem_filter, Finset.mem_range]
  omega

/-! ## The operations at an index -/

theorem toInt_small {n : ℕ} (h : n < 8192) : (BitVec.ofNat 32 n).toInt = n := by
  rw [BitVec.toInt_eq_toNat_of_lt (by rw [BitVec.toNat_ofNat, Nat.mod_eq_of_lt (by omega)]; omega), BitVec.toNat_ofNat,
    Nat.mod_eq_of_lt (by omega)]

/-- The mask: keys strictly before the row. -/
theorem before_at (i : Cert.ReferenceIdeal.S8192x8192.Idx) :
    val_main_v14 (F := Ideal) i = if (i 1).val < (i 0).val then (1 : BitVec 1) else 0 := by
  have h0 : (i 0).val < 8192 := (i 0).isLt
  have h1 : (i 1).val < 8192 := (i 1).isLt
  rw [val_main_v14_apply, val_main_v12_apply, val_main_v13_apply, val_main_v10_apply, val_main_v11_apply, val_main_v9_apply,
    val_main_v9_apply]
  show BitVec.ofBool (decide ((BitVec.ofNat 32 (i 1).val).toInt < (BitVec.ofNat 32 (i 0).val).toInt)) = _
  rw [toInt_small h0, toInt_small h1]
  by_cases h : (i 1).val < (i 0).val
  · rw [if_pos h, decide_eq_true (Int.ofNat_lt.2 h)]; rfl
  · rw [if_neg h, decide_eq_false fun e => h (Int.ofNat_lt.1 e)]; rfl

section Arrays
variable (q k v : Arr)

theorem query_at (i : Heads.Idx) : val_main_v2 (F := Ideal) q i = elem q (i 0).val (i 2).val (64 * (i 1).val + (i 3).val) := by
  have h0 : (i 0).val < 4 := (i 0).isLt
  have h1 : (i 1).val < 4 := (i 1).isLt
  have h2 : (i 2).val < 8192 := (i 2).isLt
  have h3 : (i 3).val < 64 := (i 3).isLt
  rw [val_main_v2_apply, val_main_v1_apply, val_main_v0_apply]
  refine elem_of q _ ?_ ?_ ?_
  · show ((((i 0).val * 8192 + (i 2).val) * 4 + (i 1).val) * 64 + (i 3).val) / 2097152 = _; omega
  · show ((((i 0).val * 8192 + (i 2).val) * 4 + (i 1).val) * 64 + (i 3).val) / 256 % 8192 = _; omega
  · show ((((i 0).val * 8192 + (i 2).val) * 4 + (i 1).val) * 64 + (i 3).val) % 256 = _; omega

/-- The three arguments are laid out alike. -/
theorem key_at (i : Heads.Idx) : val_main_v5 (F := Ideal) k i = elem k (i 0).val (i 2).val (64 * (i 1).val + (i 3).val) :=
  query_at k i
theorem value_at (i : Heads.Idx) : val_main_v8 (F := Ideal) v i = elem v (i 0).val (i 2).val (64 * (i 1).val + (i 3).val) :=
  query_at v i

/-- The scores of a head of a sequence. -/
abbrev Z (i : Scores.Idx) : ℕ → ℕ → EReal := logit q k (i 0).val (i 1).val

theorem two_bits : Ideal.ofBits .f32 0x40000000#32 = ((2 : ℝ) : EReal) := by
  simp [Ideal.ofBits, Ideal.ieee, -EReal.coe_mul]; norm_num

theorem score_at (i : Scores.Idx) : val_main_v18 (F := Ideal) q k i = Z q k i (i 2).val (i 3).val * ln2 := by
  rw [val_main_v18_apply, val_main_v15_apply, val_main_v17_apply, val_main_v16_apply, val_main_cst_apply]
  refine congrArg₂ (· * ·) (Finset.sum_congr rfl fun e _ => congrArg₂ (· * ·) (query_at q _) (key_at k _)) ?_
  show Ideal.log (Ideal.ofBits .f32 0x40000000#32) = _
  rw [two_bits, log_coe_pos two_pos]

theorem soft_at (y : EReal) : Scalar.select (FloatOps.cmpf (F := Ideal) (φ := .f32) .une (y - Ideal.ofBits .f32 0x00000000#32) (y - Ideal.ofBits .f32 0x00000000#32))
    (y + Ideal.ofBits .f32 0x00000000#32) (max y (Ideal.ofBits .f32 0x00000000#32)
      + Ideal.log1p (Ideal.exp (-(max (y - Ideal.ofBits .f32 0x00000000#32) (-(y - Ideal.ofBits .f32 0x00000000#32)))))) = soft y := by
  rw [Ideal.ofBits_zero_f32, show FloatOps.cmpf (F := Ideal) (φ := .f32) .une (y - 0) (y - 0) = (0 : BitVec 1) from by
    show BitVec.ofBool (decide (y - 0 ≠ y - 0)) = 0
    rw [decide_eq_false fun h => h rfl]; rfl]
  rfl

theorem keep_at (i : Scores.Idx) : val_main_call0_v1 (F := Ideal) q k i = soft (- -val_main_v18 (F := Ideal) q k i) := by
  rw [val_main_call0_v1_apply, val_main_call0_call0_v4_apply, val_main_call0_call0_v6_apply, val_main_call0_call0_v11_apply,
    val_main_call0_call0_v1_apply, val_main_call0_call0_v10_apply, val_main_call0_call0_v9_apply, val_main_call0_call0_v8_apply,
    val_main_call0_call0_v7_apply, val_main_call0_call0_v3_apply, val_main_call0_call0_v0_apply, val_main_call0_call0_v2_apply,
    val_main_call0_call0_v5_apply, val_main_call0_v0_apply, val_main_v19_apply]
  exact soft_at _

theorem take_at (i : Scores.Idx) : val_main_call3_v1 (F := Ideal) q k i = soft (-val_main_v18 (F := Ideal) q k i) := by
  rw [val_main_call3_v1_apply, val_main_call3_call0_v4_apply, val_main_call3_call0_v6_apply, val_main_call3_call0_v11_apply,
    val_main_call3_call0_v1_apply, val_main_call3_call0_v10_apply, val_main_call3_call0_v9_apply, val_main_call3_call0_v8_apply,
    val_main_call3_call0_v7_apply, val_main_call3_call0_v3_apply, val_main_call3_call0_v0_apply, val_main_call3_call0_v2_apply,
    val_main_call3_call0_v5_apply, val_main_call3_v0_apply]
  exact soft_at _

/-- The log of what a key leaves, where it comes before the row. -/
theorem left_at (i : Scores.Idx) : val_main_v21 (F := Ideal) q k i = -(ln2 * cost 0 (Z q k i) (i 2).val (i 3).val) := by
  rw [val_main_v21_apply, val_main_call1_v1_apply, before_at, val_main_v20_apply, keep_at, score_at, neg_neg]
  show Scalar.select (if (i 3).val < (i 2).val then (1 : BitVec 1) else 0) (-(soft (Z q k i (i 2).val (i 3).val * ln2)))
    (Ideal.ofBits .f32 0x00000000#32) = _
  rw [soft_scaled, Ideal.ofBits_zero_f32]
  unfold cost
  by_cases h : (i 3).val < (i 2).val
  · rw [if_pos h, if_pos (by omega)]; rfl
  · rw [if_neg h, if_neg (by omega), mul_zero, neg_zero]; rfl

theorem sums_at (i : Scores.Idx) :
    val_main_v22 (F := Ideal) q k i = ∑ n ∈ Finset.Ico (i 3).val 8192, -(ln2 * cost 0 (Z q k i) (i 2).val n) :=
  window_at _ _ _ _ (fun _ => Ideal.ofBits_zero_f32) i _ fun n hn => left_at q k (ix4 (i 0) (i 1) (i 2) ⟨n, hn⟩)

theorem weight_at (i : Scores.Idx) : val_main_v27 (F := Ideal) q k i = weight 0 (Z q k i) (i 2).val (i 3).val := by
  have h3 : (i 3).val < 8192 := (i 3).isLt
  rw [val_main_v27_apply, val_main_call4_v1_apply, before_at, val_main_v26_apply, val_main_v25_apply, val_main_v24_apply,
    val_main_v23_apply, take_at, score_at, sums_at, left_at, Finset.sum_eq_sum_Ico_succ_bot h3,
    neg_scaled_sum _ (cost_nonneg 0 (Z q k i) (i 2).val)]
  unfold weight
  by_cases h : (i 3).val < (i 2).val
  · rw [if_pos (show (i 3).val < 0 + (i 2).val by omega)]
    refine (congrArg (fun b => Scalar.select b _ _) (if_pos h)).trans ?_
    have hc : cost 0 (Z q k i) (i 2).val (i 3).val = passing (Z q k i (i 2).val (i 3).val) := if_pos (by omega)
    rw [hc]
    refine (weight_eq _ _ (Finset.sum_nonneg fun n _ => cost_nonneg 0 (Z q k i) (i 2).val n)).trans ?_
    rw [tail, Finset.sum_eq_sum_Ico_succ_bot h3, hc]
  · rw [if_neg (show ¬ (i 3).val < 0 + (i 2).val by omega)]
    refine (congrArg (fun b => Scalar.select b _ _) (if_neg h)).trans ?_
    exact Ideal.ofBits_zero_f32

/-- The reference, at an index. -/
theorem refer_eq : val_main_v31 (F := Ideal) q k v = attention q k v := by
  funext i
  have h0 : (i 0).val < 4 := (i 0).isLt
  have h1 : (i 1).val < 8192 := (i 1).isLt
  have h2 : (i 2).val < 256 := (i 2).isLt
  have g0 : (((i 0).val * 8192 + (i 1).val) * 256 + (i 2).val) / 2097152 = (i 0).val := by omega
  have g1 : (((i 0).val * 8192 + (i 1).val) * 256 + (i 2).val) / 256 % 8192 = (i 1).val := by omega
  have g2 : (((i 0).val * 8192 + (i 1).val) * 256 + (i 2).val) / 64 % 4 = (i 2).val / 64 := by omega
  have g3 : 64 * ((i 2).val / 64) + (((i 0).val * 8192 + (i 1).val) * 256 + (i 2).val) % 64 = (i 2).val := by omega
  rw [val_main_v31_apply, val_main_v30_apply, val_main_v29_apply, val_main_v28_apply]
  show (∑ n : Fin 8192, _) = attend q k v (i 0).val (i 1).val (i 2).val
  unfold attend
  rw [Nat.Ico_zero_eq_range, ← Fin.sum_univ_eq_sum_range (fun n => weight 0 (logit q k (i 0).val ((i 2).val / 64)) (i 1).val n
    * elem v (i 0).val n (i 2).val) 8192]
  refine Finset.sum_congr rfl fun n _ => ?_
  rw [weight_at, value_at]
  show weight 0 (logit q k ((((i 0).val * 8192 + (i 1).val) * 256 + (i 2).val) / 2097152)
      ((((i 0).val * 8192 + (i 1).val) * 256 + (i 2).val) / 64 % 4))
      ((((i 0).val * 8192 + (i 1).val) * 256 + (i 2).val) / 256 % 8192) n.val
    * elem v ((((i 0).val * 8192 + (i 1).val) * 256 + (i 2).val) / 2097152) n.val
      (64 * ((((i 0).val * 8192 + (i 1).val) * 256 + (i 2).val) / 64 % 4)
        + (((i 0).val * 8192 + (i 1).val) * 256 + (i 2).val) % 64) = _
  rw [g0, g1, g2, g3]

end Arrays
end Cert.SB
end
-- ==== Proof.Claims.lean ====
/- The claims one by one: what each program leaves unchanged, the named constants, and the equality of the two results. -/
module

public import proofs.«01_k».proof.Defs
public import proofs.«01_k».proof.Proof.Refer
public import proofs.«01_k».proof.Proof.Gen.Kernel.Frame
public import Idealize.ShloMosaic.Adequacy
public import Idealize.ShloMosaic.Init

@[expose] public section

noncomputable section

namespace Cert.SB

open Idealize.ShloMosaic Idealize.ShloMosaic.TcCoe Idealize.SL.Sem

theorem keeps_kernel : Cert.quiescent_Kernel := fun m ρ _ => Cert.Kernel.Gen.frame m ρ

theorem keeps_kernelIdeal : Cert.quiescent_KernelIdeal := fun m ρ _ => Cert.KernelIdeal.Gen.frame m ρ

/-- The reference has no semaphores, so none can end above zero. -/
theorem keeps_reference : Cert.quiescent_ReferenceIdeal := fun m ρ _ =>
  (θ_run Cert.ReferenceIdeal.defs _ _).mono
    (fun r h => And.intro (fun c => (h c).2) (sem_eq_zero_of_no_sems (by decide) r.2))
    (Cert.ReferenceIdeal.Value.run (F := Ideal) m ρ)

theorem constants : Cert.preserves_Kernel_KernelIdeal := by
  refine And.intro ?_ ?_
  · exact IdealRules.named_const.statement Cert.KernelIdeal.κ "clamp" .f32 0x42FC0000#32 ⊤ rfl
  · exact IdealRules.named_const.statement Cert.KernelIdeal.κ "log2e" .f32 0x3FB8AA3B#32 (((Real.log 2)⁻¹ : ℝ) : EReal) rfl

/-- Both results are the attention of the arguments. -/
theorem results : Cert.algebraic_KernelIdeal_ReferenceIdeal := fun m ρ m' ρ' _ hag =>
  ⟨fun c => attention (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    (θ_run Cert.KernelIdeal.defs _ _).mono (fun r h c => And.intro ((h c).1.trans (final m c)) (h c).2)
      (Cert.KernelIdeal.Value.run_blocks m ρ),
    (θ_run Cert.ReferenceIdeal.defs _ _).mono
      (fun r h c => And.intro ((h c).1.trans (((Cert.ReferenceIdeal.Read.val_main_v31_eq m' c).trans (refer_eq _ _ _)).trans (by
        rw [(hag c).1, (hag c).2.1, (hag c).2.2]))) (h c).2)
      (Cert.ReferenceIdeal.Value.run (F := Ideal) m' ρ')⟩

end Cert.SB
end
-- ==== Proof.SoftRun.lean ====
/- The softmax attention kernel's body, run on any staging buffers and any contents of its scratch (its idealization). -/
module

public import proofs.«01_k».proof.Proof.Gen.Kernel2Ideal.Frame
public import proofs.«01_k».proof.Proof.Gen.Kernel2Ideal.Skeleton
public import proofs.«01_k».proof.Proof.Gen.Kernel2Ideal.Loops
public import proofs.«01_k».proof.Proof.Gen.Kernel2Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

set_option maxHeartbeats 2000000 in
/-- What the body's stores leave in the output's staging buffer, with the triple that says so: the inputs stay as they
    were, the scratch is left at some contents. The pieces may depend on what the scratch held. -/
noncomputable def softRun (c : Dev nD) (i : grid0.Coords) (arg3 : Memref sig .tc .vmem S1x2x128x2048 .bf16) (harg3 : arg3.IsWhole)
    (arg4 : Memref sig .tc .vmem S1x8192x256 .bf16) (harg4 : arg4.IsWhole)
    (arg5 : Memref sig .tc .vmem S1x2x80x8192 .bf16) (harg5 : arg5.IsWhole)
    (arg6 : Memref sig .tc .vmem S1x2048x128 .bf16) (harg6 : arg6.IsWhole)
    (arg7 : Memref sig .tc .vmem S2x128x2048 .bf16) (harg7 : arg7.IsWhole)
    (arg8 : Memref sig .tc .vmem S2x2x512x2048 .f32) (harg8 : arg8.IsWhole)
    (arg9 : Memref sig .tc .vmem S2x1x2048 .f32) (harg9 : arg9.IsWhole)
    (arg10 : Memref sig .tc .vmem S2x80x2048 .f32) (harg10 : arg10.IsWhole)
    (x0 : Vec F S1x2x128x2048 .bf16) (x1 : Vec F S1x8192x256 .bf16) (x2 : Vec F S1x2x80x8192 .bf16)
    (g7 : BufTy.Contents (Elt F) arg7.view.ty) (g8 : BufTy.Contents (Elt F) arg8.view.ty) (g9 : BufTy.Contents (Elt F) arg9.view.ty) (g10 : BufTy.Contents (Elt F) arg10.view.ty) :
    { L3 : List (View.Piece (Elt F) S1x2048x128 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d)
            ∗ (arg7.view.loc (c : Thread nD τ) ↦[arg7.view.set]{fullShare} g7)
            ∗ (arg8.view.loc (c : Thread nD τ) ↦[arg8.view.set]{fullShare} g8)
            ∗ (arg9.view.loc (c : Thread nD τ) ↦[arg9.view.set]{fullShare} g9)
            ∗ (arg10.view.loc (c : Thread nD τ) ↦[arg10.view.set]{fullShare} g10)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ d, owns (c : Thread nD τ) arg7 fullShare d) ∗ (∃ d, owns (c : Thread nD τ) arg8 fullShare d)
                ∗ (∃ d, owns (c : Thread nD τ) arg9 fullShare d) ∗ (∃ d, owns (c : Thread nD τ) arg10 fullShare d)) -∗ K ⟨⟩))
          ⊢ wp frame (wpE (defs₀ (F := F)) Variants.none c none) E
              (cc0_mla_attn i arg3 harg3 arg4 harg4 arg5 harg5 arg6 harg6 arg7 harg7 arg8 harg8 arg9 harg9 arg10 harg10) K } := by
  refine ⟨?_, fun E K => ?run⟩
  case run =>
    simp only [cc0_mla_attn_eq_skeleton]; unfold cc0_mla_attn_skel
    simp only [k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton]
    unfold owns
    iintro ⟨⟨%f0, %hf0, H0⟩, ⟨%f1, %hf1, H1⟩, ⟨%f2, %hf2, H2⟩, ⟨%d3, %f3, -, H3⟩, HS0, HS1, HS2, HS3, Hk⟩
    obtain rfl := harg3.eq_unread hf0; obtain rfl := harg4.eq_unread hf1; obtain rfl := harg5.eq_unread hf2
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Mla

end
-- ==== Proof.SoftFrame.lean ====
/- The softmax attention kernel runs, and its arguments end unchanged (its idealization). -/
module

public import proofs.«01_k».proof.Proof.SoftRun
public import proofs.«01_k».proof.Proof.Gen.Kernel2Ideal.Launch
public import Idealize.ShloMosaic.Lib.Claim

@[expose] public section

set_option maxRecDepth 16384

noncomputable section

namespace Cert.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev scM0_0 : Memref sig .tc .vmem S2x128x2048 .bf16 := Memref.whole cc0_scratch0
abbrev scM0_1 : Memref sig .tc .vmem S2x2x512x2048 .f32 := Memref.whole cc0_scratch1
abbrev scM0_2 : Memref sig .tc .vmem S2x1x2048 .f32 := Memref.whole cc0_scratch2
abbrev scM0_3 : Memref sig .tc .vmem S2x80x2048 .f32 := Memref.whole cc0_scratch3
abbrev ms0_0 (t : Fin cfg0.N) : Memref sig .tc .vmem S1x2x128x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8192x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2x80x8192 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048x128 .bf16 := win0_3.stage (cfg0.slots t 3)
abbrev hs0_3 (t : Fin cfg0.N) : (ms0_3 t).IsWhole := hstage0_3 ((cfg0.slots t 3).cast nbuf0_3)

/-- The invariant: the scratch buffers at some contents, and the generator's register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-- A memref owned at some contents, as its buffer. -/
theorem opened {sp : Space} {s : Shape} {e : EltTy} (c : Dev nD) (M : Memref sig .tc sp s e) (d : Vec F s e) :
    (owns (c : Thread nD τ) M fullShare d : sProp 𝕄)
      ⊢ iprop(∃ f, M.view.loc (c : Thread nD τ) ↦[M.view.set]{fullShare} f) := by
  unfold owns
  iintro ⟨%f, -, H⟩
  iexists f
  iexact H

/-- And back. -/
theorem closed {sp : Space} {s : Shape} {e : EltTy} (c : Dev nD) (M : Memref sig .tc sp s e) (f : BufTy.Contents (Elt F) M.view.ty) :
    (iprop(M.view.loc (c : Thread nD τ) ↦[M.view.set]{fullShare} f) : sProp 𝕄)
      ⊢ owns (c : Thread nD τ) M fullShare (M.view.read (Elt F) f) := by
  unfold owns
  iintro H
  iexists f
  isplitr
  · ipureintro; rfl
  iexact H

/-- The pieces that the body stores at point `t`, the scratch found at `g7` … `g10`. -/
def piecesAt (c : Dev nD) (t : Fin cfg0.N) (g7 : BufTy.Contents (Elt F) scM0_0.view.ty) (g8 : BufTy.Contents (Elt F) scM0_1.view.ty)
    (g9 : BufTy.Contents (Elt F) scM0_2.view.ty) (g10 : BufTy.Contents (Elt F) scM0_3.view.ty) : List (View.Piece (Elt F) S1x2048x128 .bf16) :=
  (softRun c (grid0.coords t) (ms0_0 t) (hs0_0 t) (ms0_1 t) (hs0_1 t) (ms0_2 t) (hs0_2 t) (ms0_3 t) (hs0_3 t)
    scM0_0 (Memref.isWhole_whole _) scM0_1 (Memref.isWhole_whole _) scM0_2 (Memref.isWhole_whole _) scM0_3 (Memref.isWhole_whole _)
    (iblk m c 0 t) (iblk m c 1 t) (iblk m c 2 t) g7 g8 g9 g10).1

set_option maxHeartbeats 1600000 in
/-- The body at point `t`, its inputs at their blocks: the output ends with the pieces stored over whatever was there. -/
theorem bodyRun (c : Dev nD) (t : Fin cfg0.N) :
    (iprop((Pipeline.ΦA spec0 c : sProp 𝕄)
        ∗ owns (c : Thread nD τ) (ms0_0 t) fullShare (iblk m c 0 t)
        ∗ owns (c : Thread nD τ) (ms0_1 t) fullShare (iblk m c 1 t)
        ∗ owns (c : Thread nD τ) (ms0_2 t) fullShare (iblk m c 2 t)
        ∗ (∃ d, owns (c : Thread nD τ) (ms0_3 t) fullShare d)) : sProp 𝕄)
      ⊢ wp frame (wpE (defs₀ (F := F)) Variants.none c none) Set.univ (bodyAt0 t) (fun _ =>
        iprop(Pipeline.ΦA spec0 c
          ∗ owns (c : Thread nD τ) (ms0_0 t) fullShare (iblk m c 0 t)
          ∗ owns (c : Thread nD τ) (ms0_1 t) fullShare (iblk m c 1 t)
          ∗ owns (c : Thread nD τ) (ms0_2 t) fullShare (iblk m c 2 t)
          ∗ (∃ (g7 : BufTy.Contents (Elt F) scM0_0.view.ty) (g8 : BufTy.Contents (Elt F) scM0_1.view.ty)
              (g9 : BufTy.Contents (Elt F) scM0_2.view.ty) (g10 : BufTy.Contents (Elt F) scM0_3.view.ty)
              (e : BufTy.Contents (Elt F) (ms0_3 t).view.ty),
              owns (c : Thread nD τ) (ms0_3 t) fullShare
                ((ms0_3 t).view.read (Elt F) ((ms0_3 t).view.writes (Elt F) e (piecesAt m c t g7 g8 g9 g10)))))) := by
  unfold bodyAt0
  rw [PhiA0_eq]
  iintro ⟨⟨⟨HS0, HS1, HS2, HS3⟩, Hg⟩, H0, H1, H2, H3⟩
  icases HS0 with ⟨%e0, HS0⟩
  ihave HS0 := (opened c _ e0) $$ HS0
  icases HS0 with ⟨%g7, HS0⟩
  icases HS1 with ⟨%e1, HS1⟩
  ihave HS1 := (opened c _ e1) $$ HS1
  icases HS1 with ⟨%g8, HS1⟩
  icases HS2 with ⟨%e2, HS2⟩
  ihave HS2 := (opened c _ e2) $$ HS2
  icases HS2 with ⟨%g9, HS2⟩
  icases HS3 with ⟨%e3, HS3⟩
  ihave HS3 := (opened c _ e3) $$ HS3
  icases HS3 with ⟨%g10, HS3⟩
  iapply ((softRun c (grid0.coords t) (ms0_0 t) (hs0_0 t) (ms0_1 t) (hs0_1 t) (ms0_2 t) (hs0_2 t) (ms0_3 t) (hs0_3 t)
    scM0_0 (Memref.isWhole_whole _) scM0_1 (Memref.isWhole_whole _) scM0_2 (Memref.isWhole_whole _) scM0_3 (Memref.isWhole_whole _)
    (iblk m c 0 t) (iblk m c 1 t) (iblk m c 2 t) g7 g8 g9 g10).2 Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  isplitl [HS3]; · iexact HS3
  iintro ⟨H0, H1, H2, ⟨%e3, H3⟩, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [H0]; · iexact H0
  isplitl [H1]; · iexact H1
  isplitl [H2]; · iexact H2
  iexists g7, g8, g9, g10, e3
  iapply (closed c (ms0_3 t) _)
  iexact H3

/-! ## The frame: the output's contents are left unnamed -/

/-- The proof data: the arrays as the region finds them, the inputs' buffers at their blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Dat.unnamed (cfg := cfg0) ⟨3, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The window whose contents are left unnamed. -/
def unnamedOut : Fin cfg0.W → Bool := fun w => match w with
  | ⟨0, _⟩ => false
  | ⟨1, _⟩ => false
  | ⟨2, _⟩ => false
  | ⟨3, _⟩ => true

/-- The body table's row at point `t` is the body. -/
theorem defs₀_row (t : Fin cfg0.N) :
    defs₀ (F := F) .tc cfg0.body (cfg0.bodyArgs t (cfg0.slots t)) = bodyAt0 t := by
  unfold defs₀; rw [Defs.onTc_tc]

theorem sound_body (c : Dev nD) (t : Fin cfg0.N) :
    iprop((dats m 0 c).Φ t.castSucc ∗ (dats m 0 c).owesAt () t.castSucc
      ∗ (∃ d, owns (c : Thread nD τ) (ms0_0 t) fullShare ((dats m 0 c).before 0 t d))
      ∗ (∃ d, owns (c : Thread nD τ) (ms0_1 t) fullShare ((dats m 0 c).before 1 t d))
      ∗ (∃ d, owns (c : Thread nD τ) (ms0_2 t) fullShare ((dats m 0 c).before 2 t d))
      ∗ (∃ d, owns (c : Thread nD τ) (ms0_3 t) fullShare d))
    ⊢ wp frame (wpE (defs₀ (F := F)) Variants.none c none) Set.univ (bodyAt0 t) (fun _ =>
      iprop((dats m 0 c).Φ t.succ ∗ (dats m 0 c).owesAt () t.succ
        ∗ owns (c : Thread nD τ) (ms0_0 t) fullShare ((dats m 0 c).after 0 t)
        ∗ owns (c : Thread nD τ) (ms0_1 t) fullShare ((dats m 0 c).after 1 t)
        ∗ owns (c : Thread nD τ) (ms0_2 t) fullShare ((dats m 0 c).after 2 t)
        ∗ (∃ d, owns (c : Thread nD τ) (ms0_3 t) fullShare d))) := by
  simp only [before0_0, before0_1, before0_2]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩, H3⟩
  ihave Hw := (bodyRun m c t) $$ [HΦ H0 H1 H2 H3]
  · isplitl [HΦ]; · iexact HΦ
    isplitl [H0]; · iexact H0
    isplitl [H1]; · iexact H1
    isplitl [H2]; · iexact H2
    iexact H3
  iapply wp_wand $$ Hw
  iintro %_u ⟨HΦ, H0, H1, H2, ⟨%g7, %g8, %g9, %g10, %e, H3⟩⟩
  isplitl [HΦ]; · iexact HΦ
  isplitl [Ho]; · iexact Ho
  isplitl [H0]; · iexact H0
  isplitl [H1]; · iexact H1
  isplitl [H2]; · iexact H2
  iexists _; iexact H3

theorem body_obligation (c : Dev nD) :
    BodyObligation (dats (F := F) m 0 c) (defs₀ (F := F)) Variants.none () Set.univ unnamedOut := fun t => by
  rw [bigSep_W0, bigSep_W0, defs₀_row]
  exact triple_restated (sound_body m c t) rfl .rfl fun _ => .rfl

set_option backward.isDefEq.respectTransparency.types false in
/-- Every execution terminates, with the arguments unchanged and every semaphore at zero. -/
theorem keeps : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_frame_forget (Q' := _) cfgs (dats m) (0 : Fin 1) launch0 defs₀ Variants.none unnamedOut m ρ main
    (hbody := fun c => (body_obligation m c).loose) (hshare := fun c => (dats m 0 c).share_full fun _ => rfl)
    (howed := fun _ _ => rfl) (V := V m) (hmain := hmain m Variants.none) (hA := A_eq m) (hΦ := fun _ _ => rfl)
    (hQ' := fun r h => ⟨fun c =>
      ⟨(Pipeline.RDat.FramePost.arr_in h.1 c 0 rfl).trans ((A_eq m c 0).trans (V_main_arg0 m c)),
       (Pipeline.RDat.FramePost.arr_in h.1 c 1 rfl).trans ((A_eq m c 1).trans (V_main_arg1 m c)),
       ((h.1 c).2 main_arg2 (Pipeline.mem_restRefs_of main_arg2 (by decide) (by decide))).trans (V_main_arg2 m c)⟩, h.2⟩)

end Cert.Mla

end
-- ==== Proof.SoftMath.lean ====
/- A running maximum and the sum of weights under it, and the two updates of the softmax kernel as functions of a score tile. -/
module

public import Idealize.ShloMosaic.Lib.Pointwise
public import Idealize.ShloMosaic.Lib.MatmulPlain
public import Idealize.ShloMosaic.Lib.ValueLayout

@[expose] public section

set_option maxRecDepth 16384

noncomputable section

namespace Cert.Mla

open Idealize.ShloMosaic Idealize.ShloMosaic.TcCoe Idealize.SL.Sem

/-! ## Scores seen one by one -/

/-- The largest of the first `n` scores. -/
def top (t : ℕ → EReal) (n : ℕ) : EReal := (Finset.range n).sup t

/-- The values of the first `n` keys, each weighed by its score against the largest. -/
def acc (t v : ℕ → EReal) (n : ℕ) : EReal := ∑ j ∈ Finset.range n, v j * Ideal.exp2 (t j - top t n)

theorem le_top {t : ℕ → EReal} {j n : ℕ} (h : j < n) : t j ≤ top t n := Finset.le_sup (Finset.mem_range.2 h)

theorem top_mono {t : ℕ → EReal} {n n' : ℕ} (h : n ≤ n') : top t n ≤ top t n' :=
  Finset.sup_mono (Finset.range_subset_range.2 h)

theorem top_add (t : ℕ → EReal) (n k : ℕ) :
    max (top t n) (Finset.univ.sup fun j : Fin k => t (n + j.val)) = top t (n + k) := by
  apply le_antisymm
  · exact max_le (top_mono (Nat.le_add_right _ _)) (Finset.sup_le fun j _ => le_top (by omega))
  · refine Finset.sup_le fun j hj => ?_
    have hj' := Finset.mem_range.1 hj
    by_cases h : j < n
    · exact le_max_of_le_left (le_top h)
    · refine le_max_of_le_right ?_
      have := Finset.le_sup (f := fun j : Fin k => t (n + j.val)) (Finset.mem_univ ⟨j - n, by omega⟩)
      simpa only [show n + (j - n) = j by omega] using this

theorem exp2_nonneg (x : EReal) : 0 ≤ Ideal.exp2 x := by
  induction x with
  | bot => simp
  | top => simp
  | coe r => rw [Ideal.exp2_coe]; exact_mod_cast Real.rpow_nonneg (by norm_num) r

theorem exp2_ne_top {x y : EReal} (h : x ≤ y) : Ideal.exp2 (x - y) ≠ ⊤ := by
  induction y with
  | bot =>
    rw [le_bot_iff.1 h]; simp
  | top => simp
  | coe s =>
    induction x with
    | bot => simp
    | top => exact absurd h (not_le.2 (EReal.coe_lt_top s))
    | coe r => rw [← EReal.coe_sub, Ideal.exp2_coe]; exact EReal.coe_ne_top _

/-- A weight under one maximum, moved under a larger one. -/
theorem exp2_shift {s m m' : EReal} (h : s ≤ m) (h' : m ≤ m') :
    Ideal.exp2 (m - m') * Ideal.exp2 (s - m) = Ideal.exp2 (s - m') := by
  induction m' with
  | bot =>
    rw [le_bot_iff.1 h'] at h ⊢; rw [le_bot_iff.1 h]; simp
  | top => simp
  | coe c =>
    induction m with
    | bot => rw [le_bot_iff.1 h]; simp
    | top => exact absurd h' (not_le.2 (EReal.coe_lt_top c))
    | coe b =>
      induction s with
      | bot => simp
      | top => exact absurd h (not_le.2 (EReal.coe_lt_top b))
      | coe a =>
        rw [← EReal.coe_sub, ← EReal.coe_sub, ← EReal.coe_sub, Ideal.exp2_coe, Ideal.exp2_coe, Ideal.exp2_coe, ← EReal.coe_mul]
        refine congrArg _ ?_
        show (2 : ℝ) ^ (b - c) * (2 : ℝ) ^ (a - b) = (2 : ℝ) ^ (a - c)
        rw [← Real.rpow_add (by norm_num)]
        congr 1; ring

theorem mul_sum_of_nonneg {ι : Type} {c : EReal} (h0 : 0 ≤ c) (ht : c ≠ ⊤) (s : Finset ι) (f : ι → EReal) :
    c * ∑ j ∈ s, f j = ∑ j ∈ s, c * f j := by
  classical
  induction s using Finset.induction_on with
  | empty => simp
  | insert a s ha ih => rw [Finset.sum_insert ha, Finset.sum_insert ha, EReal.left_distrib_of_nonneg_of_ne_top h0 ht, ih]

theorem acc_add (t v : ℕ → EReal) (n k : ℕ) :
    Ideal.exp2 (top t n - top t (n + k)) * acc t v n
      + ∑ j : Fin k, v (n + j.val) * Ideal.exp2 (t (n + j.val) - top t (n + k)) = acc t v (n + k) := by
  have hle : top t n ≤ top t (n + k) := top_mono (Nat.le_add_right _ _)
  rw [acc, acc, Finset.sum_range_add, mul_sum_of_nonneg (exp2_nonneg _) (exp2_ne_top hle),
    Finset.sum_range (fun j => v (n + j) * Ideal.exp2 (t (n + j) - top t (n + k)))]
  refine congrArg (· + _) (Finset.sum_congr rfl fun j hj => ?_)
  rw [mul_left_comm, exp2_shift (le_top (Finset.mem_range.1 hj)) hle]

/-- Keys that score `-∞` change neither. -/
theorem top_done {t : ℕ → EReal} {n n' : ℕ} (h : n ≤ n') (hz : ∀ j, n ≤ j → t j = ⊥) : top t n' = top t n := by
  refine le_antisymm (Finset.sup_le fun j _ => ?_) (top_mono h)
  by_cases hj : j < n
  · exact le_top hj
  · rw [hz j (by omega)]; exact bot_le

theorem acc_done {t v : ℕ → EReal} {n n' : ℕ} (h : n ≤ n') (hz : ∀ j, n ≤ j → t j = ⊥) : acc t v n' = acc t v n := by
  rw [acc, acc, top_done h hz]
  refine (Finset.sum_subset (Finset.range_subset_range.2 h) fun j _ hj => ?_).symm
  rw [hz j (by have := Finset.mem_range.not.1 hj; omega)]
  simp

/-! ## The two updates -/

/-- A matrix of `n` rows and `m` columns. -/
abbrev Mat (n m : ℕ) : Shape := ⟨2, ![n, m]⟩
/-- One such matrix under a leading unit axis. -/
abbrev Mat1 (n m : ℕ) : Shape := ⟨3, ![1, n, m]⟩

/-- The shape facts the update of `n` columns rests on. -/
structure Fits (n : ℕ) : Prop where
  narrow : (FTy.bf16).bits < (FTy.f32).bits
  dropM : (Mat1 1 n).ShapeCasts (Mat 1 n)
  liftM : (Mat 1 n).ShapeCasts (Mat1 1 n)
  dropA : (Mat1 80 n).ShapeCasts (Mat 80 n)
  liftA : (Mat 80 n).ShapeCasts (Mat1 80 n)
  dropV : (⟨4, ![1, 1, 80, 512]⟩ : Shape).ShapeCasts (Mat 80 512)
  rowM : (⟨1, ![n]⟩ : Shape).ShapeCasts (Mat 1 n)
  red : (Mat 512 n).Reduces [0] ⟨1, ![n]⟩
  overS : (Mat 1 n).Broadcasts (Mat 512 n)
  overA : (Mat 1 n).Broadcasts (Mat 80 n)

theorem ofBits_neg_inf : (FloatOps.ofBits .f32 0xFF800000#32 : Ideal .f32) = (⊥ : EReal) := by
  show Ideal.ofBits .f32 0xFF800000#32 = ⊥
  simp [Ideal.ofBits, Ideal.ieee]

section Vectors
variable {n : ℕ} (h : Fits n) (x : FVec Ideal (Mat 512 n) .f32) (m : FVec Ideal (Mat1 1 n) .f32)
  (a : FVec Ideal (Mat1 80 n) .f32) (y : FVec Ideal ⟨4, ![1, 1, 80, 512]⟩ .bf16)

/-- The new maxima, as a row. -/
def maxV : FVec Ideal (Mat 1 n) .f32 :=
  maximumf (shapeCast (Mat 1 n) m h.dropM) (shapeCast (Mat 1 n)
    (multiReduction .maximumf [0] ⟨1, ![n]⟩ x 0xFF800000#32 h.red (.inl rfl) rfl) h.rowM)

/-- The new maxima, as stored. -/
def newM : FVec Ideal (Mat1 1 n) .f32 := shapeCast (Mat1 1 n) (maxV h x m) h.liftM

/-- The new accumulators. -/
def newA : FVec Ideal (Mat1 80 n) .f32 :=
  shapeCast (Mat1 80 n) (addf
    (mulf (broadcastTo (Mat 80 n) (exp2 (subf (shapeCast (Mat 1 n) m h.dropM) (maxV h x m))) h.overA)
      (shapeCast (Mat 80 n) a h.dropA))
    (matmul (DotDims.plain 80 512 n) none (shapeCast (Mat 80 512) y h.dropV)
      (truncf .bf16 (exp2 (subf x (broadcastTo (Mat 512 n) (maxV h x m) h.overS))) h.narrow)
      (constant (Mat 80 n) .f32 0x00000000#32))) h.liftA

theorem maxV_at (q : Fin n) :
    maxV h x m (ix2 0 q) = max (m (ix3 0 0 q)) (Finset.univ.sup fun j : Fin 512 => x (ix2 j q)) := by
  refine congrArg₂ max (ValueIdx.shapeCast_1ab_ab_apply m h.dropM 0 q) ?_
  refine (shapeCast_apply _ h.rowM (ix2 0 q) (ix1 q) (by
    rw [Shape.rowMajor_val_one, Shape.rowMajor_val_two]
    show q.val = 0 * n + q.val
    omega)).trans ?_
  refine (Ideal.multiReduction_maximumf_single x _ h.red (.inl rfl) rfl (ix1 q)).trans ?_
  rw [show (FloatOps.ofBits .f32 (FKind.maximumf.neutral .f32 (.inl rfl)) : Ideal .f32) = (⊥ : EReal) from ofBits_neg_inf]
  refine Finset.sup_congr rfl fun j _ => congrArg x (funext fun c => Fin.ext ?_)
  match c with
  | ⟨0, _⟩ => rfl
  | ⟨1, _⟩ => rfl

theorem newA_at (d : Fin 80) (q : Fin n) :
    newA h x m a y (ix3 0 d q)
      = Ideal.exp2 (m (ix3 0 0 q) - maxV h x m (ix2 0 q)) * a (ix3 0 d q)
        + ∑ j : Fin 512, y (ix4 0 0 d j) * Ideal.exp2 (x (ix2 j q) - maxV h x m (ix2 0 q)) := by
  refine (ValueIdx.shapeCast_ab_1ab_apply _ h.liftA 0 d q).trans ?_
  refine congrArg₂ (· + ·) (congrArg₂ (· * ·) ?_ (ValueIdx.shapeCast_1ab_ab_apply a h.dropA d q)) ?_
  · refine (ValueIdx.broadcastTo_1b_ab_apply _ h.overA d q).trans ?_
    exact congrArg (fun z => Ideal.exp2 (z - maxV h x m (ix2 0 q))) (ValueIdx.shapeCast_1ab_ab_apply m h.dropM 0 q)
  · refine (Ideal.matmul_plain_apply none _ _ (constant (Mat 80 n) .f32 0x00000000#32) d q).trans ?_
    rw [show constant (F := Ideal) (Mat 80 n) .f32 0x00000000#32 (ValueIdx.ix2 d q) = 0 from Ideal.ofBits_zero_f32, zero_add]
    refine Finset.sum_congr rfl fun j _ => congrArg₂ (· * ·) ?_ ?_
    · exact shapeCast_apply y h.dropV (ix2 d j) (ix4 0 0 d j) (by
        rw [Shape.rowMajor_val_four, Shape.rowMajor_val_two]
        show ((0 * 1 + 0) * 80 + d.val) * 512 + j.val = d.val * 512 + j.val
        omega)
    · show Ideal.exp2 (x (ix2 j q) - broadcastTo (Mat 512 n) (maxV h x m) h.overS (ix2 j q)) = _
      exact congrArg (fun z => Ideal.exp2 (x (ix2 j q) - z)) (ValueIdx.broadcastTo_1b_ab_apply _ h.overS j q)

variable {h x m a y} {t : ℕ → ℕ → EReal} {v : Fin 80 → ℕ → EReal} {b c0 : ℕ}

/-- What an update reads: a block's scores and the maxima before it. -/
structure Reads (t : ℕ → ℕ → EReal) (b c0 : ℕ) (x : FVec Ideal (Mat 512 n) .f32) (m : FVec Ideal (Mat1 1 n) .f32) : Prop where
  score : ∀ (j : Fin 512) (q : Fin n), x (ix2 j q) = t (c0 + q.val) (b + j.val)
  carry : ∀ q : Fin n, m (ix3 0 0 q) = top (t (c0 + q.val)) b

theorem Reads.max_at (R : Reads t b c0 x m) (q : Fin n) : maxV h x m (ix2 0 q) = top (t (c0 + q.val)) (b + 512) := by
  rw [maxV_at, R.carry, ← top_add]
  exact congrArg (max _) (Finset.sup_congr rfl fun j _ => R.score j q)

theorem Reads.newM_at (R : Reads t b c0 x m) (e : Fin 1) (q : Fin n) :
    newM h x m (ix3 0 e q) = top (t (c0 + q.val)) (b + 512) := by
  obtain rfl : e = 0 := Subsingleton.elim _ _
  exact (ValueIdx.shapeCast_ab_1ab_apply _ h.liftM 0 0 q).trans (R.max_at q)

theorem Reads.newA_at (R : Reads t b c0 x m) (hy : ∀ (d : Fin 80) (j : Fin 512), y (ix4 0 0 d j) = v d (b + j.val))
    (ha : ∀ (d : Fin 80) (q : Fin n), a (ix3 0 d q) = acc (t (c0 + q.val)) (v d) b) (d : Fin 80) (q : Fin n) :
    newA h x m a y (ix3 0 d q) = acc (t (c0 + q.val)) (v d) (b + 512) := by
  rw [Mla.newA_at, R.max_at, R.carry, ha, ← acc_add]
  refine congrArg₂ (· + ·) rfl (Finset.sum_congr rfl fun j _ => ?_)
  rw [hy, R.score]

end Vectors
end Cert.Mla
end
-- ==== Proof.SoftPieces.lean ====
/- What the softmax kernel's scratch buffers read after a store of one head's columns. -/
module

public import proofs.«01_k».proof.Proof.SoftMath
public import Idealize.ShloMosaic.Lib.WritesUnit
public import Idealize.ShloMosaic.Lib.VecWindow

@[expose] public section

set_option maxRecDepth 16384

noncomputable section

namespace Cert.Mla

open Idealize.ShloMosaic Idealize.ShloMosaic.TcCoe Idealize.SL.Sem

/-- The buffers of the two heads: `a` rows of 2048 columns each. -/
abbrev Cols2 (a : ℕ) : Shape := ⟨3, ![2, a, 2048]⟩
/-- The score buffers: two slots, two heads, 512 keys, 2048 columns. -/
abbrev Slots : Shape := ⟨4, ![2, 2, 512, 2048]⟩

section Buffers
variable {sig : RefSig} {κ : Kind} {sp : Space}

section Three
variable {a : ℕ} {e : EltTy} (w : View sig κ sp (Cols2 a) e) (f : w.ty.Contents (Elt Ideal))

theorem load3 {h0 d0 c0 a' n : ℕ} (inb : ∀ x, (![h0, d0, c0] : Fin 3 → ℕ) x + (![1, a', n] : Fin 3 → ℕ) x ≤ (Cols2 a).size x)
    (hh : Fin 2) (hv : hh.val = h0) (b : Fin 1) (r : Fin a') (q : Fin n) (hr : d0 + r.val < a) (hq : c0 + q.val < 2048) :
    w.readAt (Elt Ideal) (Rect.unit (s := Cols2 a) ![h0, d0, c0] ![1, a', n] inb).toLoadRect f (ix3 b r q)
      = w.read (Elt Ideal) f (ix3 hh ⟨d0 + r.val, hr⟩ ⟨c0 + q.val, hq⟩) := by
  refine congrArg (w.read (Elt Ideal) f) (funext fun x => Fin.ext ?_)
  have hb : b.val = 0 := by omega
  match x with
  | ⟨0, _⟩ => show h0 + 1 * b.val = hh.val; omega
  | ⟨1, _⟩ => show d0 + 1 * r.val = d0 + r.val; omega
  | ⟨2, _⟩ => show c0 + 1 * q.val = c0 + q.val; omega

theorem put3_in {h0 c0 n : ℕ} (inb : ∀ x, (![h0, 0, c0] : Fin 3 → ℕ) x + (![1, a, n] : Fin 3 → ℕ) x ≤ (Cols2 a).size x)
    (p : (Mat1 a n).Idx → Elt Ideal e) (L : List (View.Piece (Elt Ideal) (Cols2 a) e)) (hh : Fin 2) (r : Fin a)
    (q : Fin 2048) (hv : hh.val = h0) (x : Fin n) (hx : q.val = c0 + x.val) :
    w.read (Elt Ideal) (w.writes (Elt Ideal) f (⟨Rect.unit (s := Cols2 a) ![h0, 0, c0] ![1, a, n] inb, p⟩ :: L)) (ix3 hh r q)
      = p (ix3 0 r x) :=
  View.read_writes_cons_unit_of_mem w f inb p L (ix3 hh r q) (ix3 0 r x) rfl fun y => by
    match y with
    | ⟨0, _⟩ => exact hv
    | ⟨1, _⟩ => exact (Nat.zero_add _).symm
    | ⟨2, _⟩ => exact hx

theorem put3_out {h0 c0 n : ℕ} (inb : ∀ x, (![h0, 0, c0] : Fin 3 → ℕ) x + (![1, a, n] : Fin 3 → ℕ) x ≤ (Cols2 a).size x)
    (p : (Mat1 a n).Idx → Elt Ideal e) (L : List (View.Piece (Elt Ideal) (Cols2 a) e)) (hh : Fin 2) (r : Fin a)
    (q : Fin 2048) (hn : ¬ (hh.val = h0 ∧ c0 ≤ q.val ∧ q.val < c0 + n)) :
    w.read (Elt Ideal) (w.writes (Elt Ideal) f (⟨Rect.unit (s := Cols2 a) ![h0, 0, c0] ![1, a, n] inb, p⟩ :: L)) (ix3 hh r q)
      = w.read (Elt Ideal) (w.writes (Elt Ideal) f L) (ix3 hh r q) := by
  by_cases hv : hh.val = h0
  · exact View.read_writes_cons_unit_of_not_mem w f inb p L (ix3 hh r q) rfl (2 : Fin 3)
      (show q.val < c0 ∨ c0 + n ≤ q.val by omega)
  · exact View.read_writes_cons_unit_of_not_mem w f inb p L (ix3 hh r q) rfl (0 : Fin 3)
      (show hh.val < h0 ∨ h0 + 1 ≤ hh.val by omega)

/-- Both heads stored whole. -/
theorem pair3 (inb0 : ∀ x, (![0, 0, 0] : Fin 3 → ℕ) x + (![1, a, 2048] : Fin 3 → ℕ) x ≤ (Cols2 a).size x)
    (inb1 : ∀ x, (![1, 0, 0] : Fin 3 → ℕ) x + (![1, a, 2048] : Fin 3 → ℕ) x ≤ (Cols2 a).size x)
    (p0 p1 : (Mat1 a 2048).Idx → Elt Ideal e) (L : List (View.Piece (Elt Ideal) (Cols2 a) e)) (hh : Fin 2) (r : Fin a)
    (q : Fin 2048) :
    w.read (Elt Ideal) (w.writes (Elt Ideal) f (⟨Rect.unit (s := Cols2 a) ![1, 0, 0] ![1, a, 2048] inb1, p1⟩
      :: ⟨Rect.unit (s := Cols2 a) ![0, 0, 0] ![1, a, 2048] inb0, p0⟩ :: L)) (ix3 hh r q)
      = if hh = 0 then p0 (ix3 0 r q) else p1 (ix3 0 r q) := by
  match hh with
  | ⟨0, _⟩ =>
    rw [put3_out w f inb1 p1 _ _ r q (fun h => Nat.zero_ne_one h.1),
      put3_in w f inb0 p0 L _ r q rfl q (Nat.zero_add _).symm]
    exact (if_pos rfl).symm
  | ⟨1, _⟩ =>
    rw [put3_in w f inb1 p1 _ _ r q rfl q (Nat.zero_add _).symm]
    exact (if_neg (fun h => Nat.one_ne_zero (congrArg Fin.val h))).symm

/-- The whole buffer stored. -/
theorem all3 (inb : ∀ x, (![0, 0, 0] : Fin 3 → ℕ) x + (![2, a, 2048] : Fin 3 → ℕ) x ≤ (Cols2 a).size x)
    (p : (Cols2 a).Idx → Elt Ideal e) (L : List (View.Piece (Elt Ideal) (Cols2 a) e)) (hh : Fin 2) (r : Fin a) (q : Fin 2048) :
    w.read (Elt Ideal) (w.writes (Elt Ideal) f (⟨Rect.unit (s := Cols2 a) ![0, 0, 0] ![2, a, 2048] inb, p⟩ :: L)) (ix3 hh r q)
      = p (ix3 hh r q) :=
  View.read_writes_cons_unit_of_mem w f inb p L (ix3 hh r q) (ix3 hh r q) rfl fun x => by
    match x with
    | ⟨0, _⟩ => exact (Nat.zero_add _).symm
    | ⟨1, _⟩ => exact (Nat.zero_add _).symm
    | ⟨2, _⟩ => exact (Nat.zero_add _).symm

end Three

section Carried
variable {a : ℕ} (w : View sig κ sp (Cols2 a) .f32) (tgt : Fin 2 → ℕ → ℕ → Fin a → EReal)

/-- Column `q` of head `hh` holds the target value at the key its stage `st hh q` names. -/
def Holds (f : w.ty.Contents (Elt Ideal)) (st : Fin 2 → ℕ → ℕ) : Prop :=
  ∀ (hh : Fin 2) (r : Fin a) (q : Fin 2048), w.read (Elt Ideal) f (ix3 hh r q) = tgt hh q.val (st hh q.val) r

/-- The stages after columns `[c0, c0 + n)` of head `h0` have moved to key `b`. -/
def upd (st : Fin 2 → ℕ → ℕ) (h0 c0 n b : ℕ) : Fin 2 → ℕ → ℕ :=
  fun hh q => if hh.val = h0 ∧ c0 ≤ q ∧ q < c0 + n then b else st hh q

variable {w tgt} {f : w.ty.Contents (Elt Ideal)} {st : Fin 2 → ℕ → ℕ} {L : List (View.Piece (Elt Ideal) (Cols2 a) .f32)}

theorem Holds.put {h0 c0 n b : ℕ} (H : Holds w tgt (w.writes (Elt Ideal) f L) st)
    (inb : ∀ x, (![h0, 0, c0] : Fin 3 → ℕ) x + (![1, a, n] : Fin 3 → ℕ) x ≤ (Cols2 a).size x)
    (p : (Mat1 a n).Idx → Elt Ideal .f32)
    (hp : ∀ hh : Fin 2, hh.val = h0 → ∀ (r : Fin a) (q : Fin n), p (ix3 0 r q) = tgt hh (c0 + q.val) b r) :
    Holds w tgt (w.writes (Elt Ideal) f (⟨Rect.unit (s := Cols2 a) ![h0, 0, c0] ![1, a, n] inb, p⟩ :: L))
      (upd st h0 c0 n b) := by
  intro hh r q
  by_cases hc : hh.val = h0 ∧ c0 ≤ q.val ∧ q.val < c0 + n
  · rw [put3_in w f inb p L hh r q hc.1 ⟨q.val - c0, by omega⟩ (show q.val = c0 + (q.val - c0) by omega), hp hh hc.1, upd,
      if_pos hc]
    exact congrArg (fun k => tgt hh k b r) (show c0 + (q.val - c0) = q.val by omega)
  · rw [put3_out w f inb p L hh r q hc, upd, if_neg hc]
    exact H hh r q

/-- Two stores that cover both heads leave both heads at the same key, whatever was there. -/
theorem Holds.pair {b : ℕ} (f : w.ty.Contents (Elt Ideal))
    (inb0 : ∀ x, (![0, 0, 0] : Fin 3 → ℕ) x + (![1, a, 2048] : Fin 3 → ℕ) x ≤ (Cols2 a).size x)
    (inb1 : ∀ x, (![1, 0, 0] : Fin 3 → ℕ) x + (![1, a, 2048] : Fin 3 → ℕ) x ≤ (Cols2 a).size x)
    (p0 p1 : (Mat1 a 2048).Idx → Elt Ideal .f32)
    (h0 : ∀ (r : Fin a) (q : Fin 2048), p0 (ix3 0 r q) = tgt 0 (0 + q.val) b r)
    (h1 : ∀ (r : Fin a) (q : Fin 2048), p1 (ix3 0 r q) = tgt 1 (0 + q.val) b r) :
    Holds w tgt (w.writes (Elt Ideal) f (⟨Rect.unit (s := Cols2 a) ![1, 0, 0] ![1, a, 2048] inb1, p1⟩
      :: ⟨Rect.unit (s := Cols2 a) ![0, 0, 0] ![1, a, 2048] inb0, p0⟩ :: L)) (fun _ _ => b) := by
  intro hh r q
  match hh with
  | ⟨0, _⟩ =>
    rw [put3_out w f inb1 p1 _ _ r q (fun h => Nat.zero_ne_one h.1),
      put3_in w f inb0 p0 L _ r q rfl q (Nat.zero_add _).symm, h0, Nat.zero_add]
    rfl
  | ⟨1, _⟩ =>
    rw [put3_in w f inb1 p1 _ _ r q rfl q (Nat.zero_add _).symm, h1, Nat.zero_add]
    rfl

/-- A second such pair, one store at a time. -/
theorem Holds.both {c b : ℕ} (H : Holds w tgt f (upd (upd (fun _ _ => c) 0 0 2048 b) 1 0 2048 b)) :
    Holds w tgt f (fun _ _ => b) := by
  intro hh r q
  have hq := q.isLt
  rw [H hh r q]
  refine congrArg (fun k => tgt hh q.val k r) ?_
  match hh with
  | ⟨0, _⟩ => exact (if_neg (fun h => Nat.zero_ne_one h.1)).trans (if_pos ⟨rfl, Nat.zero_le _, by omega⟩)
  | ⟨1, _⟩ => exact if_pos ⟨rfl, Nat.zero_le _, by omega⟩

theorem Holds.load {h0 c0 n b : ℕ} (H : Holds w tgt f st) (hh : Fin 2) (hv : hh.val = h0)
    (inb : ∀ x, (![h0, 0, c0] : Fin 3 → ℕ) x + (![1, a, n] : Fin 3 → ℕ) x ≤ (Cols2 a).size x)
    (hst : ∀ q : ℕ, c0 ≤ q → q < c0 + n → ∀ r, tgt hh q (st hh q) r = tgt hh q b r) (e : Fin 1) (r : Fin a) (q : Fin n) :
    w.readAt (Elt Ideal) (Rect.unit (s := Cols2 a) ![h0, 0, c0] ![1, a, n] inb).toLoadRect f (ix3 e r q)
      = tgt hh (c0 + q.val) b r := by
  have hq := q.isLt
  have hr := r.isLt
  have h1 : c0 + n ≤ 2048 := inb 2
  rw [load3 w f inb hh hv e r q (by omega) (by omega), H hh _ _]
  exact (hst (c0 + q.val) (by omega) (by omega) _).trans (congrArg _ (Fin.ext (Nat.zero_add _)))

end Carried

section Scores
variable (w : View sig κ sp Slots .f32) (zz : Fin 2 → ℕ → ℕ → EReal)

/-- From column `c0` on, slot `s` of head `hh` holds the scores against the 512 keys from `b`. -/
def HasZ (f : w.ty.Contents (Elt Ideal)) (s hh : Fin 2) (c0 b : ℕ) : Prop :=
  ∀ (j : Fin 512) (q : Fin 2048), c0 ≤ q.val → w.read (Elt Ideal) f (ix4 s hh j q) = zz hh q.val (b + j.val)

variable {w zz} {f : w.ty.Contents (Elt Ideal)} {L : List (View.Piece (Elt Ideal) Slots .f32)}

theorem HasZ.put {s0 h0 c0 n b : ℕ} (s hh : Fin 2) (hs : s.val = s0) (hv : hh.val = h0)
    (inb : ∀ x, (![s0, h0, 0, c0] : Fin 4 → ℕ) x + (![1, 1, 512, n] : Fin 4 → ℕ) x ≤ Slots.size x)
    (p : (⟨4, ![1, 1, 512, n]⟩ : Shape).Idx → Elt Ideal .f32) (hn : c0 + n = 2048)
    (hp : ∀ (j : Fin 512) (q : Fin n), p (ix4 0 0 j q) = zz hh (c0 + q.val) (b + j.val)) :
    HasZ w zz (w.writes (Elt Ideal) f (⟨Rect.unit (s := Slots) ![s0, h0, 0, c0] ![1, 1, 512, n] inb, p⟩ :: L)) s hh c0 b := by
  intro j q hq
  have hq' := q.isLt
  have hk : c0 + (q.val - c0) = q.val := by omega
  have hx : q.val - c0 < n := by omega
  rw [View.read_writes_cons_unit_of_mem w f inb p L (ix4 s hh j q) (ix4 0 0 j ⟨q.val - c0, hx⟩) rfl (fun x => by
    match x with
    | ⟨0, _⟩ => exact hs
    | ⟨1, _⟩ => exact hv
    | ⟨2, _⟩ => exact (Nat.zero_add _).symm
    | ⟨3, _⟩ => exact hk.symm), hp]
  exact congrArg (fun k => zz hh k (b + j.val)) hk

theorem HasZ.keep {s0 h0 c0 c1 n b : ℕ} {s hh : Fin 2} (H : HasZ w zz (w.writes (Elt Ideal) f L) s hh c1 b)
    (inb : ∀ x, (![s0, h0, 0, c0] : Fin 4 → ℕ) x + (![1, 1, 512, n] : Fin 4 → ℕ) x ≤ Slots.size x)
    (p : (⟨4, ![1, 1, 512, n]⟩ : Shape).Idx → Elt Ideal .f32) (hne : s.val ≠ s0 ∨ hh.val ≠ h0) :
    HasZ w zz (w.writes (Elt Ideal) f (⟨Rect.unit (s := Slots) ![s0, h0, 0, c0] ![1, 1, 512, n] inb, p⟩ :: L)) s hh c1 b := by
  intro j q hq
  rw [← H j q hq]
  by_cases h : s.val = s0
  · exact View.read_writes_cons_unit_of_not_mem w f inb p L (ix4 s hh j q) rfl (1 : Fin 4)
      (show hh.val < h0 ∨ h0 + 1 ≤ hh.val by omega)
  · exact View.read_writes_cons_unit_of_not_mem w f inb p L (ix4 s hh j q) rfl (0 : Fin 4)
      (show s.val < s0 ∨ s0 + 1 ≤ s.val by omega)

theorem HasZ.load {s0 h0 c0 c1 n b : ℕ} {s hh : Fin 2} (H : HasZ w zz f s hh c1 b) (hs : s.val = s0) (hv : hh.val = h0)
    (inb : ∀ x, (![s0, h0, 0, c0] : Fin 4 → ℕ) x + (![1, 1, 512, n] : Fin 4 → ℕ) x ≤ Slots.size x) (hc1 : c1 ≤ c0)
    (h : (⟨4, ![1, 1, 512, n]⟩ : Shape).ShapeCasts (Mat 512 n)) (j : Fin 512) (q : Fin n) :
    shapeCast (Mat 512 n) (w.readAt (Elt Ideal) (Rect.unit (s := Slots) ![s0, h0, 0, c0] ![1, 1, 512, n] inb).toLoadRect f)
      h (ix2 j q) = zz hh (c0 + q.val) (b + j.val) := by
  have hq := q.isLt
  have h2 : c0 + n ≤ 2048 := inb 3
  refine Eq.trans ?_ (H j ⟨c0 + q.val, by omega⟩ (by show c1 ≤ c0 + q.val; omega))
  refine (shapeCast_apply _ h (ix2 j q) (ix4 0 0 j q) (by
    rw [Shape.rowMajor_val_four, Shape.rowMajor_val_two]
    show ((0 * 1 + 0) * 512 + j.val) * n + q.val = j.val * n + q.val
    ring)).trans ?_
  refine congrArg (w.read (Elt Ideal) f) (funext fun x => Fin.ext ?_)
  match x with
  | ⟨0, _⟩ => show s0 + 1 * 0 = s.val; omega
  | ⟨1, _⟩ => show h0 + 1 * 0 = hh.val; omega
  | ⟨2, _⟩ => show 0 + 1 * j.val = j.val; omega
  | ⟨3, _⟩ => show c0 + 1 * q.val = c0 + q.val; omega

/-- Both heads' scores stored in one slot. -/
theorem HasZ.put2 {s0 c0 n b : ℕ} (s : Fin 2) (hs : s.val = s0)
    (inb0 : ∀ x, (![s0, 0, 0, c0] : Fin 4 → ℕ) x + (![1, 1, 512, n] : Fin 4 → ℕ) x ≤ Slots.size x)
    (inb1 : ∀ x, (![s0, 1, 0, c0] : Fin 4 → ℕ) x + (![1, 1, 512, n] : Fin 4 → ℕ) x ≤ Slots.size x)
    (p0 p1 : (⟨4, ![1, 1, 512, n]⟩ : Shape).Idx → Elt Ideal .f32) (hn : c0 + n = 2048)
    (h0 : ∀ (j : Fin 512) (q : Fin n), p0 (ix4 0 0 j q) = zz 0 (c0 + q.val) (b + j.val))
    (h1 : ∀ (j : Fin 512) (q : Fin n), p1 (ix4 0 0 j q) = zz 1 (c0 + q.val) (b + j.val)) (hh : Fin 2) :
    HasZ w zz (w.writes (Elt Ideal) f (⟨Rect.unit (s := Slots) ![s0, 1, 0, c0] ![1, 1, 512, n] inb1, p1⟩
      :: ⟨Rect.unit (s := Slots) ![s0, 0, 0, c0] ![1, 1, 512, n] inb0, p0⟩ :: L)) s hh c0 b := by
  match hh with
  | ⟨0, _⟩ => exact (HasZ.put s 0 hs rfl inb0 p0 hn h0).keep inb1 p1 (Or.inr Nat.zero_ne_one)
  | ⟨1, _⟩ => exact HasZ.put s 1 hs rfl inb1 p1 hn h1

/-- They leave the other slot alone. -/
theorem HasZ.keep2 {s0 c0 c1 n b : ℕ} {s : Fin 2} (hs : s.val ≠ s0)
    (inb0 : ∀ x, (![s0, 0, 0, c0] : Fin 4 → ℕ) x + (![1, 1, 512, n] : Fin 4 → ℕ) x ≤ Slots.size x)
    (inb1 : ∀ x, (![s0, 1, 0, c0] : Fin 4 → ℕ) x + (![1, 1, 512, n] : Fin 4 → ℕ) x ≤ Slots.size x)
    (p0 p1 : (⟨4, ![1, 1, 512, n]⟩ : Shape).Idx → Elt Ideal .f32) (hh : Fin 2)
    (H : HasZ w zz (w.writes (Elt Ideal) f L) s hh c1 b) :
    HasZ w zz (w.writes (Elt Ideal) f (⟨Rect.unit (s := Slots) ![s0, 1, 0, c0] ![1, 1, 512, n] inb1, p1⟩
      :: ⟨Rect.unit (s := Slots) ![s0, 0, 0, c0] ![1, 1, 512, n] inb0, p0⟩ :: L)) s hh c1 b :=
  (H.keep inb0 p0 (Or.inl hs)).keep inb1 p1 (Or.inl hs)

/-- The scores of 512 keys against `n` queries, all under unit axes. -/
def scoreV {n : ℕ} (hk : (Mat1 512 128).ShapeCasts (Mat 512 128)) (hq : (Mat1 128 n).ShapeCasts (Mat 128 n))
    (ho : (Mat 512 n).ShapeCasts ⟨4, ![1, 1, 512, n]⟩) (k : FVec Ideal (Mat1 512 128) .bf16) (q : FVec Ideal (Mat1 128 n) .bf16) :
    FVec Ideal ⟨4, ![1, 1, 512, n]⟩ .f32 :=
  shapeCast ⟨4, ![1, 1, 512, n]⟩ (matmul (DotDims.plain 512 128 n) none (shapeCast (Mat 512 128) k hk)
    (shapeCast (Mat 128 n) q hq) (constant (Mat 512 n) .f32 0x00000000#32)) ho

theorem scoreV_at {n : ℕ} (hk : (Mat1 512 128).ShapeCasts (Mat 512 128)) (hq : (Mat1 128 n).ShapeCasts (Mat 128 n))
    (ho : (Mat 512 n).ShapeCasts ⟨4, ![1, 1, 512, n]⟩) (k : FVec Ideal (Mat1 512 128) .bf16) (q : FVec Ideal (Mat1 128 n) .bf16)
    (j : Fin 512) (r : Fin n) :
    scoreV hk hq ho k q (ix4 0 0 j r) = ∑ l : Fin 128, k (ix3 0 j l) * q (ix3 0 l r) := by
  refine (shapeCast_apply _ ho (ix4 0 0 j r) (ix2 j r) (by
    rw [Shape.rowMajor_val_four, Shape.rowMajor_val_two]
    show j.val * n + r.val = ((0 * 1 + 0) * 512 + j.val) * n + r.val
    ring)).trans ?_
  refine (Ideal.matmul_plain_apply none _ _ (constant (Mat 512 n) .f32 0x00000000#32) j r).trans ?_
  rw [show constant (F := Ideal) (Mat 512 n) .f32 0x00000000#32 (ValueIdx.ix2 j r) = 0 from Ideal.ofBits_zero_f32, zero_add]
  exact Finset.sum_congr rfl fun l _ => congrArg₂ (· * ·) (ValueIdx.shapeCast_1ab_ab_apply k hk j l)
    (ValueIdx.shapeCast_1ab_ab_apply q hq l r)

end Scores
end Buffers
end Cert.Mla
end
-- ==== Proof.SoftBlocks.lean ====
/- The blocks of keys and values the softmax kernel reads, and the scores it forms from them. -/
module

public import proofs.«01_k».proof.Proof.SoftPieces
public import proofs.«01_k».proof.Proof.Gen.Kernel2Ideal.Loops

@[expose] public section

set_option maxRecDepth 16384

noncomputable section

namespace Cert.Mla

open Idealize.ShloMosaic Idealize.ShloMosaic.TcCoe Idealize.SL.Sem
open Cert.Kernel2Ideal Cert.Kernel2Ideal.Gen

/-- The loop runs once for each query tile before this one. -/
theorem trips_eq : ∀ i : grid0.Coords, (k0_t1_loop i).trips = (i 2).val := by decide +kernel
/-- The keys scored at step `u` of pass `k`, of either head. -/
theorem off1_eq : ∀ (i : grid0.Coords) (k : Fin (k0_t1_loop i).trips) (u : Fin 4),
    k0_off1 i k (BitVec.ofNat 32 u.val) = ![0, 512 * (4 * k.val + u.val + 1), 0] := by decide +kernel
theorem off2_eq : ∀ (i : grid0.Coords) (k : Fin (k0_t1_loop i).trips) (u : Fin 4),
    k0_off2 i k (BitVec.ofNat 32 u.val) = ![0, 512 * (4 * k.val + u.val + 1), 128] := by decide +kernel
/-- The values gathered at step `u` of pass `k`. -/
theorem off3_eq : ∀ (i : grid0.Coords) (k : Fin (k0_t1_loop i).trips) (u : Fin 4),
    k0_off3 i k (BitVec.ofNat 32 u.val) = ![0, 0, 0, 512 * (4 * k.val + u.val)] := by decide +kernel
theorem off4_eq : ∀ (i : grid0.Coords) (k : Fin (k0_t1_loop i).trips) (u : Fin 4),
    k0_off4 i k (BitVec.ofNat 32 u.val) = ![0, 1, 0, 512 * (4 * k.val + u.val)] := by decide +kernel

theorem load_keys {sig : RefSig} {κ : Kind} {sp : Space} {e : EltTy} (w : View sig κ sp S1x8192x256 e)
    (f : w.ty.Contents (Elt Ideal)) {off : Fin 3 → ℕ} {b c : ℕ} (ho : off = ![0, b, c])
    (inb : ∀ a, off a + (![1, 512, 128] : Fin 3 → ℕ) a ≤ S1x8192x256.size a) (g : Fin 1) (j : Fin 512) (l : Fin 128)
    (hb : b + j.val < 8192) (hc : c + l.val < 256) :
    w.readAt (Elt Ideal) (Rect.unit (s := S1x8192x256) off ![1, 512, 128] inb).toLoadRect f (ix3 g j l)
      = w.read (Elt Ideal) f (ix3 0 ⟨b + j.val, hb⟩ ⟨c + l.val, hc⟩) := by
  subst ho
  refine congrArg (w.read (Elt Ideal) f) (funext fun a => Fin.ext ?_)
  have hg : g.val = 0 := by omega
  match a with
  | ⟨0, _⟩ => show 0 + 1 * g.val = 0; omega
  | ⟨1, _⟩ => show b + 1 * j.val = b + j.val; omega
  | ⟨2, _⟩ => show c + 1 * l.val = c + l.val; omega

theorem load_vals {sig : RefSig} {κ : Kind} {sp : Space} {e : EltTy} (w : View sig κ sp S1x2x80x8192 e)
    (f : w.ty.Contents (Elt Ideal)) {off : Fin 4 → ℕ} {h0 b : ℕ} (ho : off = ![0, h0, 0, b]) (hh : Fin 2) (hv : hh.val = h0)
    (inb : ∀ a, off a + (![1, 1, 80, 512] : Fin 4 → ℕ) a ≤ S1x2x80x8192.size a) (d : Fin 80) (j : Fin 512)
    (hb : b + j.val < 8192) :
    w.readAt (Elt Ideal) (Rect.unit (s := S1x2x80x8192) off ![1, 1, 80, 512] inb).toLoadRect f (ix4 0 0 d j)
      = w.read (Elt Ideal) f (ix4 0 hh d ⟨b + j.val, hb⟩) := by
  subst ho
  refine congrArg (w.read (Elt Ideal) f) (funext fun a => Fin.ext ?_)
  match a with
  | ⟨0, _⟩ => rfl
  | ⟨1, _⟩ => show h0 + 1 * 0 = hh.val; omega
  | ⟨2, _⟩ => show 0 + 1 * d.val = d.val; omega
  | ⟨3, _⟩ => show b + 1 * j.val = b + j.val; omega

/-- The score of key `j` against query `q`. -/
def scoreOf (qry : Fin 2 → ℕ → Fin 128 → EReal) (key : Fin 2 → ℕ → Fin 128 → EReal) (hh : Fin 2) (q j : ℕ) : EReal :=
  ∑ l : Fin 128, key hh j l * qry hh q l

/-- The scores a tile of queries that begins at `B` sees: keys after the query score `-∞`. -/
def upTo (B : ℕ) (z : ℕ → ℕ → EReal) (q j : ℕ) : EReal := if j ≤ B + q then z q j else ⊥

/-- What the carried maxima should be. -/
def tgtM (B : ℕ) (zz : Fin 2 → ℕ → ℕ → EReal) (hh : Fin 2) (q b : ℕ) (_ : Fin 1) : EReal := top (upTo B (zz hh) q) b
/-- What the accumulators should be. -/
def tgtA (B : ℕ) (zz : Fin 2 → ℕ → ℕ → EReal) (v : Fin 2 → Fin 80 → ℕ → EReal) (hh : Fin 2) (q b : ℕ) (d : Fin 80) : EReal :=
  acc (upTo B (zz hh) q) (v hh d) b

theorem upTo_past (B : ℕ) (z : ℕ → ℕ → EReal) {q b : ℕ} (h : B + q < b) : ∀ j, b ≤ j → upTo B z q j = ⊥ := fun j hj =>
  if_neg (by omega)

theorem fits512 : Fits 512 := ⟨bitsLt_bf16_f32, shapeCasts_S1x1x512_S1x512, shapeCasts_S1x512_S1x1x512,
  shapeCasts_S1x80x512_S80x512, shapeCasts_S80x512_S1x80x512, shapeCasts_S1x1x80x512_S80x512, shapeCasts_S512_S1x512,
  reduces_S512x512_S512, broadcasts_S1x512_S512x512, broadcasts_S1x512_S80x512⟩
theorem fits1024 : Fits 1024 := ⟨bitsLt_bf16_f32, shapeCasts_S1x1x1024_S1x1024, shapeCasts_S1x1024_S1x1x1024,
  shapeCasts_S1x80x1024_S80x1024, shapeCasts_S80x1024_S1x80x1024, shapeCasts_S1x1x80x512_S80x512, shapeCasts_S1024_S1x1024,
  reduces_S512x1024_S1024, broadcasts_S1x1024_S512x1024, broadcasts_S1x1024_S80x1024⟩
theorem fits1536 : Fits 1536 := ⟨bitsLt_bf16_f32, shapeCasts_S1x1x1536_S1x1536, shapeCasts_S1x1536_S1x1x1536,
  shapeCasts_S1x80x1536_S80x1536, shapeCasts_S80x1536_S1x80x1536, shapeCasts_S1x1x80x512_S80x512, shapeCasts_S1536_S1x1536,
  reduces_S512x1536_S1536, broadcasts_S1x1536_S512x1536, broadcasts_S1x1536_S80x1536⟩
theorem fits2048 : Fits 2048 := ⟨bitsLt_bf16_f32, shapeCasts_S1x1x2048_S1x2048, shapeCasts_S1x2048_S1x1x2048,
  shapeCasts_S1x80x2048_S80x2048, shapeCasts_S80x2048_S1x80x2048, shapeCasts_S1x1x80x512_S80x512, shapeCasts_S2048_S1x2048,
  reduces_S512x2048_S2048, broadcasts_S1x2048_S512x2048, broadcasts_S1x2048_S80x2048⟩

/-- The buffers the loop reads and never writes. -/
structure Env (qry : Fin 2 → ℕ → Fin 128 → EReal) (key : Fin 2 → ℕ → Fin 128 → EReal) (val : Fin 2 → Fin 80 → ℕ → EReal)
    (arg4 : Memref sig .tc .vmem S1x8192x256 .bf16) (arg5 : Memref sig .tc .vmem S1x2x80x8192 .bf16)
    (arg7 : Memref sig .tc .vmem S2x128x2048 .bf16) (X4 : BufTy.Contents (Elt Ideal) arg4.view.ty)
    (X5 : BufTy.Contents (Elt Ideal) arg5.view.ty) (X7 : BufTy.Contents (Elt Ideal) arg7.view.ty) : Prop where
  queries : ∀ (hh : Fin 2) (l : Fin 128) (q : Fin 2048), arg7.view.read (Elt Ideal) X7 (ix3 hh l q) = qry hh q.val l
  keys : ∀ (hh : Fin 2) (j : Fin 8192) (l : Fin 128) (h : 128 * hh.val + l.val < 256),
    arg4.view.read (Elt Ideal) X4 (ix3 0 j ⟨128 * hh.val + l.val, h⟩) = key hh j.val l
  values : ∀ (hh : Fin 2) (d : Fin 80) (j : Fin 8192), arg5.view.read (Elt Ideal) X5 (ix4 0 hh d j) = val hh d j.val

section Blocks
variable {B : ℕ} {qry : Fin 2 → ℕ → Fin 128 → EReal} {key : Fin 2 → ℕ → Fin 128 → EReal} {val : Fin 2 → Fin 80 → ℕ → EReal}
  {arg4 : Memref sig .tc .vmem S1x8192x256 .bf16} {arg5 : Memref sig .tc .vmem S1x2x80x8192 .bf16}
  {arg7 : Memref sig .tc .vmem S2x128x2048 .bf16} {X4 : BufTy.Contents (Elt Ideal) arg4.view.ty}
  {X5 : BufTy.Contents (Elt Ideal) arg5.view.ty} {X7 : BufTy.Contents (Elt Ideal) arg7.view.ty}

/-- A block of scores: the keys from `b` against the queries from `c0` of head `hh`. -/
theorem Env.score (E : Env qry key val arg4 arg5 arg7 X4 X5 X7) {n h0 c0 b k0 : ℕ} {off : Fin 3 → ℕ} (hh : Fin 2)
    (hv : hh.val = h0) (hk0 : 128 * h0 = k0) (ho : off = ![0, b, k0]) (hb : b + 512 ≤ 8192)
    (inb4 : ∀ a, off a + (![1, 512, 128] : Fin 3 → ℕ) a ≤ S1x8192x256.size a)
    (inb7 : ∀ a, (![h0, 0, c0] : Fin 3 → ℕ) a + (![1, 128, n] : Fin 3 → ℕ) a ≤ S2x128x2048.size a)
    (hk : (Mat1 512 128).ShapeCasts (Mat 512 128)) (hq : (Mat1 128 n).ShapeCasts (Mat 128 n))
    (hs : (Mat 512 n).ShapeCasts ⟨4, ![1, 1, 512, n]⟩) (j : Fin 512) (q : Fin n) :
    scoreV hk hq hs
      (arg4.view.readAt (Elt Ideal) (Rect.unit (s := S1x8192x256) off ![1, 512, 128] inb4).toLoadRect X4)
      (arg7.view.readAt (Elt Ideal) (Rect.unit (s := S2x128x2048) ![h0, 0, c0] ![1, 128, n] inb7).toLoadRect X7) (ix4 0 0 j q)
      = scoreOf qry key hh (c0 + q.val) (b + j.val) := by
  subst hv hk0
  have hq' := q.isLt
  have hj := j.isLt
  have h1 : c0 + n ≤ 2048 := inb7 2
  rw [scoreV_at, scoreOf]
  refine Finset.sum_congr rfl fun l _ => ?_
  have hl := l.isLt
  have hh2 := hh.isLt
  rw [load3 arg7.view X7 inb7 hh rfl 0 l q (by omega) (by omega),
    load_keys arg4.view X4 ho inb4 0 j l (by omega) (by omega), E.keys]
  refine congrArg (_ * ·) ((E.queries hh _ _).trans ?_)
  exact congrArg (qry hh (c0 + q.val)) (Fin.ext (Nat.zero_add _))

/-- A block of values. -/
theorem Env.value (E : Env qry key val arg4 arg5 arg7 X4 X5 X7) {h0 b : ℕ} {off : Fin 4 → ℕ} (hh : Fin 2) (hv : hh.val = h0)
    (ho : off = ![0, h0, 0, b]) (hb : b + 512 ≤ 8192)
    (inb5 : ∀ a, off a + (![1, 1, 80, 512] : Fin 4 → ℕ) a ≤ S1x2x80x8192.size a) (d : Fin 80) (j : Fin 512) :
    arg5.view.readAt (Elt Ideal) (Rect.unit (s := S1x2x80x8192) off ![1, 1, 80, 512] inb5).toLoadRect X5 (ix4 0 0 d j)
      = val hh d (b + j.val) := by
  have hj := j.isLt
  exact (load_vals arg5.view X5 ho hh hv inb5 d j (by omega)).trans (E.values hh d _)

/-- The columns `[c0, c0 + n)` may count as having come to key `b`: either they have, or both points are past the query's own key. -/
def Ready (B : ℕ) (hh : Fin 2) (st : Fin 2 → ℕ → ℕ) (c0 n b : ℕ) : Prop :=
  ∀ q : ℕ, c0 ≤ q → q < c0 + n → st hh q = b ∨ (B + q < st hh q ∧ B + q < b)

theorem two_done {t : ℕ → EReal} {n n' B : ℕ} (hz : ∀ j, B < j → t j = ⊥) (h : B < n) (h' : B < n') : top t n = top t n' := by
  rcases Nat.le_total n n' with hn | hn
  · exact (top_done hn fun j hj => hz j (by omega)).symm
  · exact top_done hn fun j hj => hz j (by omega)

theorem two_acc {t v : ℕ → EReal} {n n' B : ℕ} (hz : ∀ j, B < j → t j = ⊥) (h : B < n) (h' : B < n') :
    acc t v n = acc t v n' := by
  rcases Nat.le_total n n' with hn | hn
  · exact (acc_done hn fun j hj => hz j (by omega)).symm
  · exact acc_done hn fun j hj => hz j (by omega)

theorem Ready.m {hh : Fin 2} {st : Fin 2 → ℕ → ℕ} {c0 n b : ℕ} (R : Ready B hh st c0 n b) (zz : Fin 2 → ℕ → ℕ → EReal) (q : ℕ)
    (h1 : c0 ≤ q) (h2 : q < c0 + n) (r : Fin 1) : tgtM B zz hh q (st hh q) r = tgtM B zz hh q b r := by
  rcases R q h1 h2 with h | ⟨h, h'⟩
  · rw [h]
  · exact two_done (fun j hj => if_neg (Nat.not_le.2 hj)) h h'

theorem Ready.a {hh : Fin 2} {st : Fin 2 → ℕ → ℕ} {c0 n b : ℕ} (R : Ready B hh st c0 n b) (zz : Fin 2 → ℕ → ℕ → EReal) (q : ℕ)
    (h1 : c0 ≤ q) (h2 : q < c0 + n) (d : Fin 80) : tgtA B zz val hh q (st hh q) d = tgtA B zz val hh q b d := by
  rcases R q h1 h2 with h | ⟨h, h'⟩
  · rw [h]
  · exact two_acc (fun j hj => if_neg (Nat.not_le.2 hj)) h h'

theorem Holds.settleM {w : View sig .tc .vmem (Cols2 1) .f32} {zz : Fin 2 → ℕ → ℕ → EReal} {f : w.ty.Contents (Elt Ideal)}
    {st : Fin 2 → ℕ → ℕ} {b : ℕ} (H : Holds w (tgtM B zz) f st) (R : ∀ hh, Ready B hh st 0 2048 b) :
    Holds w (tgtM B zz) f (fun _ _ => b) := fun hh r q =>
  (H hh r q).trans ((R hh).m zz q (Nat.zero_le _) (by have := q.isLt; omega) r)

theorem Holds.settleA {w : View sig .tc .vmem (Cols2 80) .f32} {zz : Fin 2 → ℕ → ℕ → EReal} {f : w.ty.Contents (Elt Ideal)}
    {st : Fin 2 → ℕ → ℕ} {b : ℕ} (H : Holds w (tgtA B zz val) f st) (R : ∀ hh, Ready B hh st 0 2048 b) :
    Holds w (tgtA B zz val) f (fun _ _ => b) := fun hh r q =>
  (H hh r q).trans ((R hh).a zz q (Nat.zero_le _) (by have := q.isLt; omega) r)

/-- What a block's update of columns `[c0, c0 + n)` of head `h0` reads, when every key is at or before every query. -/
theorem reads {zz : Fin 2 → ℕ → ℕ → EReal} {arg8 : Memref sig .tc .vmem S2x2x512x2048 .f32}
    {arg9 : Memref sig .tc .vmem S2x1x2048 .f32} {f8 : BufTy.Contents (Elt Ideal) arg8.view.ty}
    {f9 : BufTy.Contents (Elt Ideal) arg9.view.ty} {s0 h0 c0 c1 n b : ℕ} {s hh : Fin 2} {st : Fin 2 → ℕ → ℕ}
    (hb : b + 511 ≤ B + c0) (Z : HasZ arg8.view zz f8 s hh c1 b)
    (C : Holds arg9.view (tgtM B zz) f9 st) (hs : s.val = s0) (hv : hh.val = h0) (hr : c1 ≤ c0)
    (R : Ready B hh st c0 n b)
    (inb8 : ∀ a, (![s0, h0, 0, c0] : Fin 4 → ℕ) a + (![1, 1, 512, n] : Fin 4 → ℕ) a ≤ Slots.size a)
    (inb9 : ∀ a, (![h0, 0, c0] : Fin 3 → ℕ) a + (![1, 1, n] : Fin 3 → ℕ) a ≤ (Cols2 1).size a)
    (h : (⟨4, ![1, 1, 512, n]⟩ : Shape).ShapeCasts (Mat 512 n)) :
    Reads (upTo B (zz hh)) b c0
      (shapeCast (Mat 512 n)
        (arg8.view.readAt (Elt Ideal) (Rect.unit (s := Slots) ![s0, h0, 0, c0] ![1, 1, 512, n] inb8).toLoadRect f8) h)
      (arg9.view.readAt (Elt Ideal) (Rect.unit (s := Cols2 1) ![h0, 0, c0] ![1, 1, n] inb9).toLoadRect f9) where
  score := fun j q => (Z.load hs hv inb8 hr h j q).trans
    (if_pos (show b + j.val ≤ B + (c0 + q.val) by have := j.isLt; omega)).symm
  carry := fun q => C.load (b := b) hh hv inb9 (R.m zz) 0 0 q

/-- The accumulator it adds to. -/
theorem adds {zz : Fin 2 → ℕ → ℕ → EReal} {arg10 : Memref sig .tc .vmem S2x80x2048 .f32}
    {f10 : BufTy.Contents (Elt Ideal) arg10.view.ty} {h0 c0 n b : ℕ} {hh : Fin 2} {st : Fin 2 → ℕ → ℕ}
    (A : Holds arg10.view (tgtA B zz val) f10 st) (hv : hh.val = h0) (R : Ready B hh st c0 n b)
    (inb10 : ∀ a, (![h0, 0, c0] : Fin 3 → ℕ) a + (![1, 80, n] : Fin 3 → ℕ) a ≤ (Cols2 80).size a) (d : Fin 80) (q : Fin n) :
    arg10.view.readAt (Elt Ideal) (Rect.unit (s := Cols2 80) ![h0, 0, c0] ![1, 80, n] inb10).toLoadRect f10 (ix3 0 d q)
      = acc (upTo B (zz hh) (c0 + q.val)) (val hh d) b :=
  A.load (b := b) hh hv inb10 (R.a zz) 0 d q

/-- The columns found by a head's update. -/
theorem ready_all {B a b n : ℕ} {hh : Fin 2} (h : a = b) : Ready B hh (fun _ _ => a) 0 n b := fun _ _ _ => Or.inl h

theorem ready_other {B a b c n : ℕ} {hh : Fin 2} (hv : hh.val = 1) (h : a = b) :
    Ready B hh (upd (fun _ _ => a) 0 0 2048 c) 0 n b := fun _ _ _ =>
  Or.inl ((if_neg (fun hc => Nat.one_ne_zero (hv.symm.trans hc.1))).trans h)

end Blocks
end Cert.Mla
end
-- ==== Proof.SoftTrip.lean ====
/- One pass of the softmax kernel's loop over the blocks before the diagonal: four blocks, each moving every column of both heads. -/
module

public import proofs.«01_k».proof.Proof.SoftBlocks

@[expose] public section

set_option maxRecDepth 16384

noncomputable section

namespace Cert.Mla

open Idealize.ShloMosaic Idealize.ShloMosaic.TcCoe Idealize.SL.Sem
open Cert.Kernel2Ideal Cert.Kernel2Ideal.Gen

section Trip
variable {B : ℕ} {qry : Fin 2 → ℕ → Fin 128 → EReal} {key : Fin 2 → ℕ → Fin 128 → EReal} {val : Fin 2 → Fin 80 → ℕ → EReal}
  {i : grid0.Coords} {arg4 : Memref sig .tc .vmem S1x8192x256 .bf16} {arg5 : Memref sig .tc .vmem S1x2x80x8192 .bf16}
  {arg7 : Memref sig .tc .vmem S2x128x2048 .bf16} {arg8 : Memref sig .tc .vmem S2x2x512x2048 .f32}
  {arg9 : Memref sig .tc .vmem S2x1x2048 .f32} {arg10 : Memref sig .tc .vmem S2x80x2048 .f32}
  {X4 : BufTy.Contents (Elt Ideal) arg4.view.ty}
  {X5 : BufTy.Contents (Elt Ideal) arg5.view.ty} {X7 : BufTy.Contents (Elt Ideal) arg7.view.ty}
  {k : Fin (k0_t1_loop i).trips} {f8 : BufTy.Contents (Elt Ideal) arg8.view.ty}
  {f9 : BufTy.Contents (Elt Ideal) arg9.view.ty} {f10 : BufTy.Contents (Elt Ideal) arg10.view.ty} {N : ℕ}

/-- What pass `k` finds: `N` is the block it begins with, whose scores are in slot 0. -/
structure Enter (B : ℕ) (qry : Fin 2 → ℕ → Fin 128 → EReal) (key : Fin 2 → ℕ → Fin 128 → EReal) (val : Fin 2 → Fin 80 → ℕ → EReal)
    (i : grid0.Coords) (arg4 : Memref sig .tc .vmem S1x8192x256 .bf16) (arg5 : Memref sig .tc .vmem S1x2x80x8192 .bf16)
    (arg7 : Memref sig .tc .vmem S2x128x2048 .bf16) (arg8 : Memref sig .tc .vmem S2x2x512x2048 .f32)
    (arg9 : Memref sig .tc .vmem S2x1x2048 .f32) (arg10 : Memref sig .tc .vmem S2x80x2048 .f32)
    (X4 : BufTy.Contents (Elt Ideal) arg4.view.ty)
    (X5 : BufTy.Contents (Elt Ideal) arg5.view.ty) (X7 : BufTy.Contents (Elt Ideal) arg7.view.ty)
    (k : Fin (k0_t1_loop i).trips) (f8 : BufTy.Contents (Elt Ideal) arg8.view.ty)
    (f9 : BufTy.Contents (Elt Ideal) arg9.view.ty) (f10 : BufTy.Contents (Elt Ideal) arg10.view.ty) (N : ℕ) : Prop where
  env : Env qry key val arg4 arg5 arg7 X4 X5 X7
  block : 4 * k.val = N
  last : 512 * N + 2048 ≤ B
  inside : B ≤ 6144
  scores : ∀ hh : Fin 2, HasZ arg8.view (scoreOf qry key) f8 0 hh 0 (512 * N)
  maxs : Holds arg9.view (tgtM B (scoreOf qry key)) f9 (fun _ _ => 512 * N)
  accs : Holds arg10.view (tgtA B (scoreOf qry key) val) f10 (fun _ _ => 512 * N)

theorem Enter.off1 (H : Enter B qry key val i arg4 arg5 arg7 arg8 arg9 arg10 X4 X5 X7 k f8 f9 f10 N) (u : Fin 4) {b : ℕ}
    (hb : 512 * (N + u.val + 1) = b) : k0_off1 i k (BitVec.ofNat 32 u.val) = ![0, b, 0] := by
  rw [off1_eq, H.block, hb]

theorem Enter.off2 (H : Enter B qry key val i arg4 arg5 arg7 arg8 arg9 arg10 X4 X5 X7 k f8 f9 f10 N) (u : Fin 4) {b : ℕ}
    (hb : 512 * (N + u.val + 1) = b) : k0_off2 i k (BitVec.ofNat 32 u.val) = ![0, b, 128] := by
  rw [off2_eq, H.block, hb]

theorem Enter.off3 (H : Enter B qry key val i arg4 arg5 arg7 arg8 arg9 arg10 X4 X5 X7 k f8 f9 f10 N) (u : Fin 4) {b : ℕ}
    (hb : 512 * (N + u.val) = b) : k0_off3 i k (BitVec.ofNat 32 u.val) = ![0, 0, 0, b] := by
  rw [off3_eq, H.block, hb]

theorem Enter.off4 (H : Enter B qry key val i arg4 arg5 arg7 arg8 arg9 arg10 X4 X5 X7 k f8 f9 f10 N) (u : Fin 4) {b : ℕ}
    (hb : 512 * (N + u.val) = b) : k0_off4 i k (BitVec.ofNat 32 u.val) = ![0, 1, 0, b] := by
  rw [off4_eq, H.block, hb]

variable (H : Enter B qry key val i arg4 arg5 arg7 arg8 arg9 arg10 X4 X5 X7 k f8 f9 f10 N)
  (g8 : BufTy.Contents (Elt Ideal) arg8.view.ty) (g9 : BufTy.Contents (Elt Ideal) arg9.view.ty)
  (g10 : BufTy.Contents (Elt Ideal) arg10.view.ty) (hh : Fin 2)
include H

theorem Enter.z40 : HasZ arg8.view (scoreOf qry key)
    (arg8.view.writes (Elt Ideal) g8 (trip_k0_t1.sl.HW_arg8_4 i arg4 arg7 X4 X7 k)) 0 hh 0 (512 * (N + 2)) := by
  have hT := H.last; have hi := H.inside
  exact HasZ.put2 (s0 := 0) (c0 := 0) (n := 2048) 0 rfl _ _ _ _ rfl
    (fun j q => H.env.score 0 rfl rfl (H.off1 1 rfl) (by omega) _ _ _ _ _ j q)
    (fun j q => H.env.score 1 rfl rfl (H.off2 1 rfl) (by omega) _ _ _ _ _ j q) hh

theorem Enter.z41 : HasZ arg8.view (scoreOf qry key)
    (arg8.view.writes (Elt Ideal) g8 (trip_k0_t1.sl.HW_arg8_4 i arg4 arg7 X4 X7 k)) 1 hh 0 (512 * (N + 1)) := by
  have hT := H.last; have hi := H.inside
  exact HasZ.keep2 (s0 := 0) (c0 := 0) (n := 2048) Nat.one_ne_zero _ _ _ _ hh
    (HasZ.put2 (s0 := 1) (c0 := 0) (n := 2048) 1 rfl _ _ _ _ rfl
    (fun j q => H.env.score 0 rfl rfl (H.off1 0 rfl) (by omega) _ _ _ _ _ j q)
    (fun j q => H.env.score 1 rfl rfl (H.off2 0 rfl) (by omega) _ _ _ _ _ j q) hh)

theorem Enter.z61 : HasZ arg8.view (scoreOf qry key)
    (arg8.view.writes (Elt Ideal) g8 (trip_k0_t1.sl.HW_arg8_6 i arg4 arg7 X4 X7 k)) 1 hh 0 (512 * (N + 3)) := by
  have hT := H.last; have hi := H.inside
  exact HasZ.put2 (s0 := 1) (c0 := 0) (n := 2048) 1 rfl _ _ _ _ rfl
    (fun j q => H.env.score 0 rfl rfl (H.off1 2 rfl) (by omega) _ _ _ _ _ j q)
    (fun j q => H.env.score 1 rfl rfl (H.off2 2 rfl) (by omega) _ _ _ _ _ j q) hh

theorem Enter.z60 : HasZ arg8.view (scoreOf qry key)
    (arg8.view.writes (Elt Ideal) g8 (trip_k0_t1.sl.HW_arg8_6 i arg4 arg7 X4 X7 k)) 0 hh 0 (512 * (N + 2)) := by
  have hT := H.last; have hi := H.inside
  exact HasZ.keep2 (s0 := 1) (c0 := 0) (n := 2048) Nat.zero_ne_one _ _ _ _ hh
    (H.z40 g8 hh)

theorem Enter.z80 : HasZ arg8.view (scoreOf qry key)
    (arg8.view.writes (Elt Ideal) g8 (trip_k0_t1.sl.HW_arg8_8 i arg4 arg7 X4 X7 k)) 0 hh 0 (512 * (N + 4)) := by
  have hT := H.last; have hi := H.inside
  exact HasZ.put2 (s0 := 0) (c0 := 0) (n := 2048) 0 rfl _ _ _ _ rfl
    (fun j q => H.env.score 0 rfl rfl (H.off1 3 rfl) (by omega) _ _ _ _ _ j q)
    (fun j q => H.env.score 1 rfl rfl (H.off2 3 rfl) (by omega) _ _ _ _ _ j q) hh

theorem Enter.z81 : HasZ arg8.view (scoreOf qry key)
    (arg8.view.writes (Elt Ideal) g8 (trip_k0_t1.sl.HW_arg8_8 i arg4 arg7 X4 X7 k)) 1 hh 0 (512 * (N + 3)) := by
  have hT := H.last; have hi := H.inside
  exact HasZ.keep2 (s0 := 0) (c0 := 0) (n := 2048) Nat.one_ne_zero _ _ _ _ hh
    (H.z61 g8 hh)

/-- The carried maxima and the accumulators after the first block. -/
theorem Enter.m2 : Holds arg9.view (tgtM B (scoreOf qry key))
    (arg9.view.writes (Elt Ideal) g9 (trip_k0_t1.sl.HW_arg9_2 arg8 arg9 f8 f9)) (fun _ _ => 512 * (N + 1)) := by
  have hT := H.last; have hi := H.inside
  have step (hh : Fin 2) := reads (n := 2048) (by omega) (H.scores hh) H.maxs rfl rfl (le_refl 0) (ready_all rfl)
  exact Holds.pair g9 _ _ _ _
    (fun r q => Reads.newM_at (h := fits2048) (step 0 _ _ shapeCasts_S1x1x512x2048_S512x2048) r q)
    (fun r q => Reads.newM_at (h := fits2048) (step 1 _ _ shapeCasts_S1x1x512x2048_S512x2048) r q)

theorem Enter.a2 : Holds arg10.view (tgtA B (scoreOf qry key) val)
    (arg10.view.writes (Elt Ideal) g10 (trip_k0_t1.sl.HW_arg10_2 i arg5 arg8 arg9 arg10 X5 k f8 f9 f10))
    (fun _ _ => 512 * (N + 1)) := by
  have hT := H.last; have hi := H.inside
  have step (hh : Fin 2) := reads (n := 2048) (by omega) (H.scores hh) H.maxs rfl rfl (le_refl 0) (ready_all rfl)
  have acc (hh : Fin 2) := adds (n := 2048) (c0 := 0) H.accs (rfl : hh.val = hh.val) (ready_all rfl)
  exact Holds.pair g10 _ _ _ _
    (fun d q => Reads.newA_at (h := fits2048) (step 0 _ _ shapeCasts_S1x1x512x2048_S512x2048)
      (H.env.value 0 rfl (H.off3 0 rfl) (by omega) _) (acc 0 _) d q)
    (fun d q => Reads.newA_at (h := fits2048) (step 1 _ _ shapeCasts_S1x1x512x2048_S512x2048)
      (H.env.value 1 rfl (H.off4 0 rfl) (by omega) _) (acc 1 _) d q)

/-- The second block: head 0's columns, then head 1's. -/
theorem Enter.m3 : Holds arg9.view (tgtM B (scoreOf qry key))
    (arg9.view.writes (Elt Ideal) g9 (trip_k0_t1.sl.HW_arg9_3 i arg4 arg7 arg8 arg9 X4 X7 k f8 f9)) (upd (fun _ _ => 512 * (N + 1)) 0 0 2048 (512 * (N + 2))) := by
  have hT := H.last; have hi := H.inside
  exact (H.m2 g9).put (h0 := 0) (c0 := 0) (n := 2048) _ _ fun hh hv r q =>
    Reads.newM_at (h := fits2048) (reads (by omega) (H.z41 _ hh) (H.m2 _) rfl hv (le_refl _) (ready_all rfl) _ _
      shapeCasts_S1x1x512x2048_S512x2048) r q

theorem Enter.a3 : Holds arg10.view (tgtA B (scoreOf qry key) val)
    (arg10.view.writes (Elt Ideal) g10 (trip_k0_t1.sl.HW_arg10_3 i arg4 arg5 arg7 arg8 arg9 arg10 X4 X5 X7 k f8 f9 f10)) (upd (fun _ _ => 512 * (N + 1)) 0 0 2048 (512 * (N + 2))) := by
  have hT := H.last; have hi := H.inside
  exact (H.a2 g10).put (h0 := 0) (c0 := 0) (n := 2048) _ _ fun hh hv d q =>
    Reads.newA_at (h := fits2048) (reads (by omega) (H.z41 _ hh) (H.m2 _) rfl hv (le_refl _) (ready_all rfl) _ _
      shapeCasts_S1x1x512x2048_S512x2048)
      (H.env.value hh hv (H.off3 1 rfl) (by omega) _)
      (adds (H.a2 _) hv (ready_all rfl) _) d q

theorem Enter.m4 : Holds arg9.view (tgtM B (scoreOf qry key))
    (arg9.view.writes (Elt Ideal) g9 (trip_k0_t1.sl.HW_arg9_4 i arg4 arg7 arg8 arg9 X4 X7 k f8 f9)) (fun _ _ => 512 * (N + 2)) := by
  have hT := H.last; have hi := H.inside
  exact ((H.m3 g9).put (h0 := 1) (c0 := 0) (n := 2048) _ _ fun hh hv r q =>
    Reads.newM_at (h := fits2048) (reads (by omega) (H.z41 _ hh) (H.m3 _) rfl hv (le_refl _) (ready_other hv rfl) _ _
      shapeCasts_S1x1x512x2048_S512x2048) r q).both

theorem Enter.a4 : Holds arg10.view (tgtA B (scoreOf qry key) val)
    (arg10.view.writes (Elt Ideal) g10 (trip_k0_t1.sl.HW_arg10_4 i arg4 arg5 arg7 arg8 arg9 arg10 X4 X5 X7 k f8 f9 f10)) (fun _ _ => 512 * (N + 2)) := by
  have hT := H.last; have hi := H.inside
  exact ((H.a3 g10).put (h0 := 1) (c0 := 0) (n := 2048) _ _ fun hh hv d q =>
    Reads.newA_at (h := fits2048) (reads (by omega) (H.z41 _ hh) (H.m3 _) rfl hv (le_refl _) (ready_other hv rfl) _ _
      shapeCasts_S1x1x512x2048_S512x2048)
      (H.env.value hh hv (H.off4 1 rfl) (by omega) _)
      (adds (H.a3 _) hv (ready_other hv rfl) _) d q).both

/-- The third block: head 0's columns, then head 1's. -/
theorem Enter.m5 : Holds arg9.view (tgtM B (scoreOf qry key))
    (arg9.view.writes (Elt Ideal) g9 (trip_k0_t1.sl.HW_arg9_5 i arg4 arg7 arg8 arg9 X4 X7 k f8 f9)) (upd (fun _ _ => 512 * (N + 2)) 0 0 2048 (512 * (N + 3))) := by
  have hT := H.last; have hi := H.inside
  exact (H.m4 g9).put (h0 := 0) (c0 := 0) (n := 2048) _ _ fun hh hv r q =>
    Reads.newM_at (h := fits2048) (reads (by omega) (H.z60 _ hh) (H.m4 _) rfl hv (le_refl _) (ready_all rfl) _ _
      shapeCasts_S1x1x512x2048_S512x2048) r q

theorem Enter.a5 : Holds arg10.view (tgtA B (scoreOf qry key) val)
    (arg10.view.writes (Elt Ideal) g10 (trip_k0_t1.sl.HW_arg10_5 i arg4 arg5 arg7 arg8 arg9 arg10 X4 X5 X7 k f8 f9 f10)) (upd (fun _ _ => 512 * (N + 2)) 0 0 2048 (512 * (N + 3))) := by
  have hT := H.last; have hi := H.inside
  exact (H.a4 g10).put (h0 := 0) (c0 := 0) (n := 2048) _ _ fun hh hv d q =>
    Reads.newA_at (h := fits2048) (reads (by omega) (H.z60 _ hh) (H.m4 _) rfl hv (le_refl _) (ready_all rfl) _ _
      shapeCasts_S1x1x512x2048_S512x2048)
      (H.env.value hh hv (H.off3 2 rfl) (by omega) _)
      (adds (H.a4 _) hv (ready_all rfl) _) d q

theorem Enter.m6 : Holds arg9.view (tgtM B (scoreOf qry key))
    (arg9.view.writes (Elt Ideal) g9 (trip_k0_t1.sl.HW_arg9_6 i arg4 arg7 arg8 arg9 X4 X7 k f8 f9)) (fun _ _ => 512 * (N + 3)) := by
  have hT := H.last; have hi := H.inside
  exact ((H.m5 g9).put (h0 := 1) (c0 := 0) (n := 2048) _ _ fun hh hv r q =>
    Reads.newM_at (h := fits2048) (reads (by omega) (H.z60 _ hh) (H.m5 _) rfl hv (le_refl _) (ready_other hv rfl) _ _
      shapeCasts_S1x1x512x2048_S512x2048) r q).both

theorem Enter.a6 : Holds arg10.view (tgtA B (scoreOf qry key) val)
    (arg10.view.writes (Elt Ideal) g10 (trip_k0_t1.sl.HW_arg10_6 i arg4 arg5 arg7 arg8 arg9 arg10 X4 X5 X7 k f8 f9 f10)) (fun _ _ => 512 * (N + 3)) := by
  have hT := H.last; have hi := H.inside
  exact ((H.a5 g10).put (h0 := 1) (c0 := 0) (n := 2048) _ _ fun hh hv d q =>
    Reads.newA_at (h := fits2048) (reads (by omega) (H.z60 _ hh) (H.m5 _) rfl hv (le_refl _) (ready_other hv rfl) _ _
      shapeCasts_S1x1x512x2048_S512x2048)
      (H.env.value hh hv (H.off4 2 rfl) (by omega) _)
      (adds (H.a5 _) hv (ready_other hv rfl) _) d q).both

/-- The fourth block: head 0's columns, then head 1's. -/
theorem Enter.m7 : Holds arg9.view (tgtM B (scoreOf qry key))
    (arg9.view.writes (Elt Ideal) g9 (trip_k0_t1.sl.HW_arg9_7 i arg4 arg7 arg8 arg9 X4 X7 k f8 f9)) (upd (fun _ _ => 512 * (N + 3)) 0 0 2048 (512 * (N + 4))) := by
  have hT := H.last; have hi := H.inside
  exact (H.m6 g9).put (h0 := 0) (c0 := 0) (n := 2048) _ _ fun hh hv r q =>
    Reads.newM_at (h := fits2048) (reads (by omega) (H.z81 _ hh) (H.m6 _) rfl hv (le_refl _) (ready_all rfl) _ _
      shapeCasts_S1x1x512x2048_S512x2048) r q

theorem Enter.a7 : Holds arg10.view (tgtA B (scoreOf qry key) val)
    (arg10.view.writes (Elt Ideal) g10 (trip_k0_t1.sl.HW_arg10_7 i arg4 arg5 arg7 arg8 arg9 arg10 X4 X5 X7 k f8 f9 f10)) (upd (fun _ _ => 512 * (N + 3)) 0 0 2048 (512 * (N + 4))) := by
  have hT := H.last; have hi := H.inside
  exact (H.a6 g10).put (h0 := 0) (c0 := 0) (n := 2048) _ _ fun hh hv d q =>
    Reads.newA_at (h := fits2048) (reads (by omega) (H.z81 _ hh) (H.m6 _) rfl hv (le_refl _) (ready_all rfl) _ _
      shapeCasts_S1x1x512x2048_S512x2048)
      (H.env.value hh hv (H.off3 3 rfl) (by omega) _)
      (adds (H.a6 _) hv (ready_all rfl) _) d q

end Trip
section Pass
variable {B : ℕ} {qry : Fin 2 → ℕ → Fin 128 → EReal} {key : Fin 2 → ℕ → Fin 128 → EReal} {val : Fin 2 → Fin 80 → ℕ → EReal}
  (𝒱 : Variants) (c : Dev nD) (bd : Option 𝒱.V) (i : grid0.Coords)
  (arg3 : Memref sig .tc .vmem S1x2x128x2048 .bf16) (harg3 : arg3.IsWhole)
  (arg4 : Memref sig .tc .vmem S1x8192x256 .bf16) (harg4 : arg4.IsWhole)
  (arg5 : Memref sig .tc .vmem S1x2x80x8192 .bf16) (harg5 : arg5.IsWhole)
  (arg6 : Memref sig .tc .vmem S1x2048x128 .bf16) (harg6 : arg6.IsWhole)
  (arg7 : Memref sig .tc .vmem S2x128x2048 .bf16) (harg7 : arg7.IsWhole)
  (arg8 : Memref sig .tc .vmem S2x2x512x2048 .f32) (harg8 : arg8.IsWhole)
  (arg9 : Memref sig .tc .vmem S2x1x2048 .f32) (harg9 : arg9.IsWhole)
  (arg10 : Memref sig .tc .vmem S2x80x2048 .f32) (harg10 : arg10.IsWhole)
  (w1 w2 w3 w4 : BitVec 32) (X4 : BufTy.Contents (Elt Ideal) arg4.view.ty)
  (X5 : BufTy.Contents (Elt Ideal) arg5.view.ty) (X7 : BufTy.Contents (Elt Ideal) arg7.view.ty)

/-- What holds before pass `n`. -/
structure Stage (B : ℕ) (qry : Fin 2 → ℕ → Fin 128 → EReal) (key : Fin 2 → ℕ → Fin 128 → EReal) (val : Fin 2 → Fin 80 → ℕ → EReal)
    (w8 : View sig .tc .vmem S2x2x512x2048 .f32) (w9 : View sig .tc .vmem S2x1x2048 .f32) (w10 : View sig .tc .vmem S2x80x2048 .f32)
    (f8 : w8.ty.Contents (Elt Ideal)) (f9 : w9.ty.Contents (Elt Ideal)) (f10 : w10.ty.Contents (Elt Ideal)) (n : ℕ) : Prop where
  scores : ∀ hh : Fin 2, HasZ w8 (scoreOf qry key) f8 0 hh 0 (512 * (4 * n))
  maxs : Holds w9 (tgtM B (scoreOf qry key)) f9 (fun _ _ => 512 * (4 * n))
  accs : Holds w10 (tgtA B (scoreOf qry key) val) f10 (fun _ _ => 512 * (4 * n))

variable {i arg4 arg5 arg7 X4 X5 X7} in
theorem Stage.enter {arg8 : Memref sig .tc .vmem S2x2x512x2048 .f32} {arg9 : Memref sig .tc .vmem S2x1x2048 .f32}
    {arg10 : Memref sig .tc .vmem S2x80x2048 .f32} (hB : B = 2048 * (i 2).val) (E : Env qry key val arg4 arg5 arg7 X4 X5 X7)
    (k : Fin (k0_t1_loop i).trips) {f8 : BufTy.Contents (Elt Ideal) arg8.view.ty} {f9 : BufTy.Contents (Elt Ideal) arg9.view.ty}
    {f10 : BufTy.Contents (Elt Ideal) arg10.view.ty} (S : Stage B qry key val arg8.view arg9.view arg10.view f8 f9 f10 k.val) :
    Enter B qry key val i arg4 arg5 arg7 arg8 arg9 arg10 X4 X5 X7 k f8 f9 f10 (4 * k.val) := by
  have hi : (i 2).val < 4 := (i 2).isLt
  have hk : k.val < (i 2).val := trips_eq i ▸ k.isLt
  exact ⟨E, rfl, by omega, by omega, S.scores, S.maxs, S.accs⟩

/-- One pass. -/
theorem Stage.pass (hB : B = 2048 * (i 2).val) (E : Env qry key val arg4 arg5 arg7 X4 X5 X7)
    (k : Fin (k0_t1_loop i).trips) {f8 : BufTy.Contents (Elt Ideal) arg8.view.ty} {f9 : BufTy.Contents (Elt Ideal) arg9.view.ty}
    {f10 : BufTy.Contents (Elt Ideal) arg10.view.ty} (S : Stage B qry key val arg8.view arg9.view arg10.view f8 f9 f10 k.val) :
    Stage B qry key val arg8.view arg9.view arg10.view
      (arg8.view.writes (Elt Ideal) f8 ((trip_k0_t1 (F := Ideal) 𝒱 c bd i arg3 harg3 arg4 harg4 arg5 harg5 arg6 harg6 arg7 harg7 arg8 harg8 arg9 harg9 arg10 harg10 w1 w2 w3 w4 X4 X5 X7 k).1 f8 f9 f10))
      (arg9.view.writes (Elt Ideal) f9 ((trip_k0_t1 (F := Ideal) 𝒱 c bd i arg3 harg3 arg4 harg4 arg5 harg5 arg6 harg6 arg7 harg7 arg8 harg8 arg9 harg9 arg10 harg10 w1 w2 w3 w4 X4 X5 X7 k).2.1 f8 f9 f10))
      (arg10.view.writes (Elt Ideal) f10 ((trip_k0_t1 (F := Ideal) 𝒱 c bd i arg3 harg3 arg4 harg4 arg5 harg5 arg6 harg6 arg7 harg7 arg8 harg8 arg9 harg9 arg10 harg10 w1 w2 w3 w4 X4 X5 X7 k).2.2.1 f8 f9 f10)) (k.val + 1) := by
  have H := S.enter hB E k
  have hT := H.last; have hi := H.inside
  have e : 512 * (4 * (k.val + 1)) = 512 * (4 * k.val + 4) := by omega
  unfold trip_k0_t1
  refine ⟨fun hh => ?_, ?_, ?_⟩
  · rw [e]
    exact H.z80 f8 hh
  · rw [e]
    exact ((H.m7 f9).put (h0 := 1) (c0 := 0) (n := 2048) _ _ fun hh hv r q =>
      Reads.newM_at (h := fits2048) (reads (by omega) (H.z81 _ hh) (H.m7 _) rfl hv (le_refl _) (ready_other hv rfl) _ _
        shapeCasts_S1x1x512x2048_S512x2048) r q).both
  · rw [e]
    exact ((H.a7 f10).put (h0 := 1) (c0 := 0) (n := 2048) _ _ fun hh hv d q =>
      Reads.newA_at (h := fits2048) (reads (by omega) (H.z81 _ hh) (H.m7 _) rfl hv (le_refl _) (ready_other hv rfl) _ _
        shapeCasts_S1x1x512x2048_S512x2048)
        (H.env.value hh hv (H.off4 3 rfl) (by omega) _)
        (adds (H.a7 _) hv (ready_other hv rfl) _) d q).both

/-- Every pass, one after another. -/
theorem Stage.passes (hB : B = 2048 * (i 2).val) (E : Env qry key val arg4 arg5 arg7 X4 X5 X7)
    (G8 : BufTy.Contents (Elt Ideal) arg8.view.ty) (G9 : BufTy.Contents (Elt Ideal) arg9.view.ty)
    (G10 : BufTy.Contents (Elt Ideal) arg10.view.ty) (S : Stage B qry key val arg8.view arg9.view arg10.view G8 G9 G10 0) (n : ℕ) (hn : n ≤ (i 2).val) :
    Stage B qry key val arg8.view arg9.view arg10.view
      (arg8.view.writes (Elt Ideal) G8 (pb_k0_t1 (F := Ideal) 𝒱 c bd i arg3 harg3 arg4 harg4 arg5 harg5 arg6 harg6 arg7 harg7 arg8 harg8 arg9 harg9 arg10 harg10 w1 w2 w3 w4 X4 X5 X7 G8 G9 G10 n).1)
      (arg9.view.writes (Elt Ideal) G9 (pb_k0_t1 (F := Ideal) 𝒱 c bd i arg3 harg3 arg4 harg4 arg5 harg5 arg6 harg6 arg7 harg7 arg8 harg8 arg9 harg9 arg10 harg10 w1 w2 w3 w4 X4 X5 X7 G8 G9 G10 n).2.1)
      (arg10.view.writes (Elt Ideal) G10 (pb_k0_t1 (F := Ideal) 𝒱 c bd i arg3 harg3 arg4 harg4 arg5 harg5 arg6 harg6 arg7 harg7 arg8 harg8 arg9 harg9 arg10 harg10 w1 w2 w3 w4 X4 X5 X7 G8 G9 G10 n).2.2) n := by
  induction n with
  | zero => exact S
  | succ n ih =>
    have hk : n < (k0_t1_loop i).trips := by rw [trips_eq]; omega
    have h := (ih (by omega)).pass 𝒱 c bd i arg3 harg3 arg4 harg4 arg5 harg5 arg6 harg6 arg7 harg7 arg8 harg8 arg9 harg9 arg10 harg10 w1 w2 w3 w4 X4 X5 X7 hB E ⟨n, hk⟩
    rw [pb_k0_t1_succ (F := Ideal) 𝒱 c bd i arg3 harg3 arg4 harg4 arg5 harg5 arg6 harg6 arg7 harg7 arg8 harg8 arg9 harg9 arg10 harg10 w1 w2 w3 w4 X4 X5 X7 G8 G9 G10 ⟨n, hk⟩]
    rw [View.writes_append, View.writes_append, View.writes_append]
    exact h

/-- The scores the passes leave do not depend on what was in the buffer below them. -/
theorem Stage.rebase (hB : B = 2048 * (i 2).val) (E : Env qry key val arg4 arg5 arg7 X4 X5 X7)
    (G8 : BufTy.Contents (Elt Ideal) arg8.view.ty) (G9 : BufTy.Contents (Elt Ideal) arg9.view.ty)
    (G10 : BufTy.Contents (Elt Ideal) arg10.view.ty) (S : Stage B qry key val arg8.view arg9.view arg10.view G8 G9 G10 0)
    (L8 : List (View.Piece (Elt Ideal) Slots .f32))
    (hL : ∀ (g : BufTy.Contents (Elt Ideal) arg8.view.ty) (hh : Fin 2),
      HasZ arg8.view (scoreOf qry key) (arg8.view.writes (Elt Ideal) g L8) 0 hh 0 0)
    (n : ℕ) (hn : n ≤ (i 2).val) (g : BufTy.Contents (Elt Ideal) arg8.view.ty) (hh : Fin 2) :
    HasZ arg8.view (scoreOf qry key) (arg8.view.writes (Elt Ideal) g ((pb_k0_t1 (F := Ideal) 𝒱 c bd i arg3 harg3 arg4 harg4 arg5 harg5 arg6 harg6 arg7 harg7 arg8 harg8 arg9 harg9 arg10 harg10 w1 w2 w3 w4 X4 X5 X7 G8 G9 G10 n).1 ++ L8)) 0 hh 0 (512 * (4 * n)) := by
  match n with
  | 0 => exact hL g hh
  | n + 1 =>
    have hk : n < (k0_t1_loop i).trips := by rw [trips_eq]; omega
    have H := (Stage.passes 𝒱 c bd i arg3 harg3 arg4 harg4 arg5 harg5 arg6 harg6 arg7 harg7 arg8 harg8 arg9 harg9 arg10 harg10 w1 w2 w3 w4 X4 X5 X7 hB E G8 G9 G10 S n (by omega)).enter hB E ⟨n, hk⟩
    rw [pb_k0_t1_succ (F := Ideal) 𝒱 c bd i arg3 harg3 arg4 harg4 arg5 harg5 arg6 harg6 arg7 harg7 arg8 harg8 arg9 harg9 arg10 harg10 w1 w2 w3 w4 X4 X5 X7 G8 G9 G10 ⟨n, hk⟩]
    unfold tripL_k0_t1
    unfold trip_k0_t1
    rw [List.append_assoc, View.writes_append, show 512 * (4 * (n + 1)) = 512 * (4 * n + 4) by omega]
    exact H.z80 _ hh

end Pass
end Cert.Mla
end
-- ==== Proof.SoftDiagonal.lean ====
/- The softmax kernel around its loop: the queries it copies, the scores it begins with, and the four blocks on the diagonal. -/
module

public import proofs.«01_k».proof.Proof.SoftTrip
public import proofs.«01_k».proof.Proof.SoftRun

@[expose] public section

set_option maxRecDepth 16384

noncomputable section

namespace Cert.Mla

open Idealize.ShloMosaic Idealize.ShloMosaic.TcCoe Idealize.SL.Sem
open Cert.Kernel2Ideal Cert.Kernel2Ideal.Gen

/-- Nothing is left over for the second loop. -/
theorem trips2_eq : ∀ i : grid0.Coords, (k0_t2_loop i).trips = 0 := by decide +kernel
theorem off9_eq : ∀ (i : grid0.Coords) (d : Fin 3),
    k0_off9 i (BitVec.ofNat 32 d.val) = ![0, 512 * (4 * (i 2).val + d.val + 1), 0] := by decide +kernel
theorem off10_eq : ∀ (i : grid0.Coords) (d : Fin 3),
    k0_off10 i (BitVec.ofNat 32 d.val) = ![0, 512 * (4 * (i 2).val + d.val + 1), 128] := by decide +kernel
theorem off11_eq : ∀ (i : grid0.Coords) (d : Fin 4),
    k0_off11 i (BitVec.ofNat 32 d.val) = ![0, 0, 0, 512 * (4 * (i 2).val + d.val)] := by decide +kernel
theorem off12_eq : ∀ (i : grid0.Coords) (d : Fin 4),
    k0_off12 i (BitVec.ofNat 32 d.val) = ![0, 1, 0, 512 * (4 * (i 2).val + d.val)] := by decide +kernel

theorem small_word : ∀ a : Fin 512, (BitVec.ofNat 32 a.val).toInt = (a.val : ℤ) := by decide +kernel

theorem upto_word (j q : Fin 512) :
    Scalar.cmpi .sle (BitVec.ofNat 32 j.val) (BitVec.ofNat 32 q.val) = if j.val ≤ q.val then (1 : BitVec 1) else 0 := by
  show BitVec.ofBool (decide ((BitVec.ofNat 32 j.val).toInt ≤ (BitVec.ofNat 32 q.val).toInt)) = _
  rw [small_word, small_word]
  by_cases h : j.val ≤ q.val
  · rw [if_pos h, decide_eq_true (by omega)]; rfl
  · rw [if_neg h, decide_eq_false (by omega)]; rfl

theorem mask_at (h0 : S512x512.Iotas .tc 32 [0]) (h1 : S512x512.Iotas .tc 32 [1]) (j q : Fin 512) :
    cmpi .sle (iota .tc S512x512 32 [0] h0) (iota .tc S512x512 32 [1] h1) (ix2 j q)
      = if j.val ≤ q.val then (1 : BitVec 1) else 0 := by
  show Scalar.cmpi .sle (BitVec.ofNat 32 (0 * 512 + j.val)) (BitVec.ofNat 32 (0 * 512 + q.val)) = _
  rw [Nat.zero_mul, Nat.zero_add, Nat.zero_add]
  exact upto_word j q

/-- What the update of a block on the diagonal reads: keys after the query are masked. -/
theorem readsTri {B : ℕ} {zz : Fin 2 → ℕ → ℕ → EReal} {arg8 : Memref sig .tc .vmem S2x2x512x2048 .f32}
    {arg9 : Memref sig .tc .vmem S2x1x2048 .f32} {f8 : BufTy.Contents (Elt Ideal) arg8.view.ty}
    {f9 : BufTy.Contents (Elt Ideal) arg9.view.ty} {s0 h0 c0 c1 b : ℕ} {s hh : Fin 2} {st : Fin 2 → ℕ → ℕ}
    (hb : b = B + c0) (Z : HasZ arg8.view zz f8 s hh c1 b)
    (C : Holds arg9.view (tgtM B zz) f9 st) (hs : s.val = s0) (hv : hh.val = h0) (hr : c1 ≤ c0)
    (R : Ready B hh st c0 512 b)
    (inb8 : ∀ a, (![s0, h0, 0, c0] : Fin 4 → ℕ) a + (![1, 1, 512, 512] : Fin 4 → ℕ) a ≤ Slots.size a)
    (inb9 : ∀ a, (![h0, 0, c0] : Fin 3 → ℕ) a + (![1, 1, 512] : Fin 3 → ℕ) a ≤ (Cols2 1).size a)
    (h : (⟨4, ![1, 1, 512, 512]⟩ : Shape).ShapeCasts (Mat 512 512))
    (i0 : S512x512.Iotas .tc 32 [0]) (i1 : S512x512.Iotas .tc 32 [1]) :
    Reads (n := 512) (upTo B (zz hh)) b c0
      (select (cmpi .sle (iota .tc S512x512 32 [0] i0) (iota .tc S512x512 32 [1] i1))
        (shapeCast (Mat 512 512)
          (arg8.view.readAt (Elt Ideal) (Rect.unit (s := Slots) ![s0, h0, 0, c0] ![1, 1, 512, 512] inb8).toLoadRect f8) h)
        (broadcast S512x512 (Scalar.ofBits (F := Ideal) .f32 0xFF800000#32)))
      (arg9.view.readAt (Elt Ideal) (Rect.unit (s := Cols2 1) ![h0, 0, c0] ![1, 1, 512] inb9).toLoadRect f9) where
  score := fun j q => by
    refine (congrArg₂ (fun m z => Scalar.select m z (Scalar.ofBits (F := Ideal) .f32 0xFF800000#32)) (mask_at i0 i1 j q)
      (Z.load hs hv inb8 hr h j q)).trans ?_
    unfold upTo
    by_cases hj : j.val ≤ q.val
    · rw [if_pos hj, if_pos (by omega)]; rfl
    · rw [if_neg hj, if_neg (by omega)]; exact ofBits_neg_inf
  carry := fun q => C.load (b := b) hh hv inb9 (R.m zz) 0 0 q

/-- One tile of queries, and the keys and values of its heads. -/
structure Given (B : ℕ) (qry : Fin 2 → ℕ → Fin 128 → EReal) (key : Fin 2 → ℕ → Fin 128 → EReal) (val : Fin 2 → Fin 80 → ℕ → EReal)
    (i : grid0.Coords) (x0 : Vec Ideal S1x2x128x2048 .bf16) (x1 : Vec Ideal S1x8192x256 .bf16)
    (x2 : Vec Ideal S1x2x80x8192 .bf16) : Prop where
  first : B = 2048 * (i 2).val
  queries : ∀ (hh : Fin 2) (l : Fin 128) (q : Fin 2048), x0 (ix4 0 hh l q) = qry hh q.val l
  keys : ∀ (hh : Fin 2) (j : Fin 8192) (l : Fin 128) (h : 128 * hh.val + l.val < 256),
    x1 (ix3 0 j ⟨128 * hh.val + l.val, h⟩) = key hh j.val l
  values : ∀ (hh : Fin 2) (d : Fin 80) (j : Fin 8192), x2 (ix4 0 hh d j) = val hh d j.val

section Diagonal
variable {B : ℕ} {qry : Fin 2 → ℕ → Fin 128 → EReal} {key : Fin 2 → ℕ → Fin 128 → EReal} {val : Fin 2 → Fin 80 → ℕ → EReal}
  (c : Dev nD) (i : grid0.Coords)
  (arg3 : Memref sig .tc .vmem S1x2x128x2048 .bf16) (harg3 : arg3.IsWhole)
  (arg4 : Memref sig .tc .vmem S1x8192x256 .bf16) (harg4 : arg4.IsWhole)
  (arg5 : Memref sig .tc .vmem S1x2x80x8192 .bf16) (harg5 : arg5.IsWhole)
  (arg6 : Memref sig .tc .vmem S1x2048x128 .bf16) (harg6 : arg6.IsWhole)
  (arg7 : Memref sig .tc .vmem S2x128x2048 .bf16) (harg7 : arg7.IsWhole)
  (arg8 : Memref sig .tc .vmem S2x2x512x2048 .f32) (harg8 : arg8.IsWhole)
  (arg9 : Memref sig .tc .vmem S2x1x2048 .f32) (harg9 : arg9.IsWhole)
  (arg10 : Memref sig .tc .vmem S2x80x2048 .f32) (harg10 : arg10.IsWhole)
  (x0 : Vec Ideal S1x2x128x2048 .bf16) (x1 : Vec Ideal S1x8192x256 .bf16) (x2 : Vec Ideal S1x2x80x8192 .bf16)
  (g8 : BufTy.Contents (Elt Ideal) arg8.view.ty)

/-- The scores of the first block, of both heads, as the loop finds them. -/
abbrev firstScores : List (View.Piece (Elt Ideal) S2x2x512x2048 .f32) :=
  [⟨Rect.unit (s := S2x2x512x2048) ![0, 1, 0, 0] S1x1x512x2048.size inb_S2x2x512x2048_S1x1x512x2048_0_1_0_0,
      k0_pay126 (arg4.view.readAt (Elt Ideal) (Rect.unit (s := S1x8192x256) ![0, 0, 128] S1x512x128.size inb_S1x8192x256_S1x512x128_0_0_128).toLoadRect (harg4.unread x1))
        (softRun.sl.v32 c arg3 harg3 arg7 x0)⟩,
    ⟨Rect.unit (s := S2x2x512x2048) ![0, 0, 0, 0] S1x1x512x2048.size inb_S2x2x512x2048_S1x1x512x2048_0_0_0_0,
      k0_pay125 (softRun.sl.r c arg4 harg4 x1) (softRun.sl.v23 c arg3 harg3 arg7 x0)⟩]

/-- What the loop stores. -/
abbrev loop :=
  pb_k0_t1 (F := Ideal) Variants.none c none i arg3 harg3 arg4 harg4 arg5 harg5 arg6 harg6 arg7 harg7 arg8 harg8 arg9 harg9
    arg10 harg10 (softRun.sl.v18 i) 0#32 (softRun.sl.v55 i) 1#32 (harg4.unread x1) (harg5.unread x2)
    (arg7.view.writes (Elt Ideal) arg7.view.junk (softRun.sl.HS0_2 c arg3 harg3 x0))
    (arg8.view.writes (Elt Ideal) g8 (firstScores c arg3 harg3 arg4 harg4 arg7 x0 x1))
    (arg9.view.writes (Elt Ideal) arg9.view.junk softRun.sl.HS2_1)
    (arg10.view.writes (Elt Ideal) arg10.view.junk softRun.sl.HS3_1) (k0_t1_loop i).trips

theorem load_queries (hh : Fin 2) (l : Fin 128) (q : Fin 2048) {h0 : ℕ} (hv : hh.val = h0)
    (inb : ∀ a, (![0, h0, 0, 0] : Fin 4 → ℕ) a + (![1, 1, 128, 2048] : Fin 4 → ℕ) a ≤ S1x2x128x2048.size a)
    (h1 : (⟨4, ![1, 1, 128, 2048]⟩ : Shape).ShapeCasts (Mat 128 2048)) (h2 : (Mat 128 2048).ShapeCasts (Mat1 128 2048)) :
    shapeCast (Mat1 128 2048) (shapeCast (Mat 128 2048) (arg3.view.readAt (Elt Ideal)
      (Rect.unit (s := S1x2x128x2048) ![0, h0, 0, 0] ![1, 1, 128, 2048] inb).toLoadRect (harg3.unread x0)) h1) h2 (ix3 0 l q)
      = x0 (ix4 0 hh l q) := by
  refine (ValueIdx.shapeCast_ab_1ab_apply _ h2 0 l q).trans ?_
  refine (shapeCast_apply _ h1 (ix2 l q) (ix4 0 0 l q) (by
    rw [Shape.rowMajor_val_four, Shape.rowMajor_val_two]
    show ((0 * 1 + 0) * 128 + l.val) * 2048 + q.val = l.val * 2048 + q.val
    ring)).trans ?_
  show arg3.view.read (Elt Ideal) (harg3.unread x0) _ = _
  rw [harg3.read_unread]
  refine congrArg x0 (funext fun a => Fin.ext ?_)
  match a with
  | ⟨0, _⟩ => rfl
  | ⟨1, _⟩ => show h0 + 1 * 0 = hh.val; omega
  | ⟨2, _⟩ => show 0 + 1 * l.val = l.val; omega
  | ⟨3, _⟩ => show 0 + 1 * q.val = q.val; omega

variable {i x0 x1 x2} (G : Given B qry key val i x0 x1 x2)
include G

theorem Given.env (g : BufTy.Contents (Elt Ideal) arg7.view.ty) :
    Env qry key val arg4 arg5 arg7 (harg4.unread x1) (harg5.unread x2)
      (arg7.view.writes (Elt Ideal) g (softRun.sl.HS0_2 c arg3 harg3 x0)) where
  queries := fun hh l q => by
    refine (pair3 arg7.view g _ _ _ _ [] hh l q).trans ?_
    have h0 := (load_queries arg3 harg3 x0 0 l q rfl inb_S1x2x128x2048_S1x1x128x2048_0_0_0_0
      shapeCasts_S1x1x128x2048_S128x2048 shapeCasts_S128x2048_S1x128x2048).trans (G.queries 0 l q)
    have h1 := (load_queries arg3 harg3 x0 1 l q rfl inb_S1x2x128x2048_S1x1x128x2048_0_1_0_0
      shapeCasts_S1x1x128x2048_S128x2048 shapeCasts_S128x2048_S1x128x2048).trans (G.queries 1 l q)
    match hh with
    | ⟨0, _⟩ => exact (if_pos rfl).trans h0
    | ⟨1, _⟩ => exact (if_neg (fun h => Nat.one_ne_zero (congrArg Fin.val h))).trans h1
  keys := fun hh j l h => by rw [harg4.read_unread]; exact G.keys hh j l h
  values := fun hh d j => by rw [harg5.read_unread]; exact G.values hh d j

theorem Given.off9 (d : Fin 3) {b : ℕ} (hb : b = B + 512 * (d.val + 1)) : k0_off9 i (BitVec.ofNat 32 d.val) = ![0, b, 0] := by
  rw [off9_eq, hb, G.first, show 2048 * (i 2).val + 512 * (d.val + 1) = 512 * (4 * (i 2).val + d.val + 1) by omega]
theorem Given.off10 (d : Fin 3) {b : ℕ} (hb : b = B + 512 * (d.val + 1)) : k0_off10 i (BitVec.ofNat 32 d.val) = ![0, b, 128] := by
  rw [off10_eq, hb, G.first, show 2048 * (i 2).val + 512 * (d.val + 1) = 512 * (4 * (i 2).val + d.val + 1) by omega]
theorem Given.off11 (d : Fin 4) {b : ℕ} (hb : b = B + 512 * d.val) : k0_off11 i (BitVec.ofNat 32 d.val) = ![0, 0, 0, b] := by
  rw [off11_eq, hb, G.first, show 2048 * (i 2).val + 512 * d.val = 512 * (4 * (i 2).val + d.val) by omega]
theorem Given.off12 (d : Fin 4) {b : ℕ} (hb : b = B + 512 * d.val) : k0_off12 i (BitVec.ofNat 32 d.val) = ![0, 1, 0, b] := by
  rw [off12_eq, hb, G.first, show 2048 * (i 2).val + 512 * d.val = 512 * (4 * (i 2).val + d.val) by omega]
theorem Given.room : B ≤ 6144 := by
  have h : (i 2).val < 4 := (i 2).isLt
  have := G.first
  omega

include harg5 in
theorem Given.zFirst (g : BufTy.Contents (Elt Ideal) arg8.view.ty) (hh : Fin 2) : HasZ arg8.view (scoreOf qry key)
    (arg8.view.writes (Elt Ideal) g (firstScores c arg3 harg3 arg4 harg4 arg7 x0 x1)) 0 hh 0 0 := by
  have E := G.env c arg3 harg3 arg4 harg4 arg5 harg5 arg7 arg7.view.junk
  exact HasZ.put2 (s0 := 0) (c0 := 0) (n := 2048) 0 rfl _ _ _ _ rfl
    (fun j q => E.score 0 rfl rfl rfl (by omega) _ _ _ _ _ j q)
    (fun j q => E.score 1 rfl rfl rfl (by omega) _ _ _ _ _ j q) hh

include harg5 in
theorem Given.start : Stage B qry key val arg8.view arg9.view arg10.view
    (arg8.view.writes (Elt Ideal) g8 (firstScores c arg3 harg3 arg4 harg4 arg7 x0 x1))
    (arg9.view.writes (Elt Ideal) arg9.view.junk softRun.sl.HS2_1)
    (arg10.view.writes (Elt Ideal) arg10.view.junk softRun.sl.HS3_1) 0 where
  scores := fun hh => G.zFirst c arg3 harg3 arg4 harg4 arg5 harg5 arg7 arg8 g8 hh
  maxs := fun hh r q => by
    refine (all3 arg9.view arg9.view.junk _ _ [] hh r q).trans ?_
    unfold k0_pay122
    rw [shapeCast_self]
    exact ofBits_neg_inf
  accs := fun hh d q => by
    refine (all3 arg10.view arg10.view.junk _ _ [] hh d q).trans ?_
    unfold k0_pay123
    rw [shapeCast_self]
    exact Ideal.ofBits_zero_f32

/-- What the loop leaves. -/
theorem Given.zL (hh : Fin 2) : HasZ arg8.view (scoreOf qry key) (arg8.view.writes (Elt Ideal) arg8.view.junk ((loop c i arg3 harg3 arg4 harg4 arg5 harg5 arg6 harg6 arg7 harg7 arg8 harg8 arg9 harg9 arg10 harg10 x0 x1 x2 g8).1 ++ firstScores c arg3 harg3 arg4 harg4 arg7 x0 x1)) 0 hh 0 B := by
  have S := G.start c arg3 harg3 arg4 harg4 arg5 harg5 arg7 arg8 arg9 arg10 g8
  have h := Stage.rebase Variants.none c none i arg3 harg3 arg4 harg4 arg5 harg5 arg6 harg6 arg7 harg7 arg8 harg8 arg9 harg9
    arg10 harg10 (softRun.sl.v18 i) 0#32 (softRun.sl.v55 i) 1#32 (harg4.unread x1) (harg5.unread x2)
    (arg7.view.writes (Elt Ideal) arg7.view.junk (softRun.sl.HS0_2 c arg3 harg3 x0)) G.first
    (G.env c arg3 harg3 arg4 harg4 arg5 harg5 arg7 arg7.view.junk) _ _ _ S (firstScores c arg3 harg3 arg4 harg4 arg7 x0 x1)
    (G.zFirst c arg3 harg3 arg4 harg4 arg5 harg5 arg7 arg8) (i 2).val (le_refl _) arg8.view.junk hh
  rw [show 512 * (4 * (i 2).val) = B by have := G.first; omega] at h
  unfold loop
  rw [trips_eq]
  exact h

theorem Given.mL : Holds arg9.view (tgtM B (scoreOf qry key)) (arg9.view.writes (Elt Ideal) arg9.view.junk ((loop c i arg3 harg3 arg4 harg4 arg5 harg5 arg6 harg6 arg7 harg7 arg8 harg8 arg9 harg9 arg10 harg10 x0 x1 x2 g8).2.1 ++ softRun.sl.HS2_1)) (fun _ _ => B) := by
  have S := G.start c arg3 harg3 arg4 harg4 arg5 harg5 arg7 arg8 arg9 arg10 g8
  have h := (Stage.passes Variants.none c none i arg3 harg3 arg4 harg4 arg5 harg5 arg6 harg6 arg7 harg7 arg8 harg8 arg9 harg9
    arg10 harg10 (softRun.sl.v18 i) 0#32 (softRun.sl.v55 i) 1#32 (harg4.unread x1) (harg5.unread x2)
    (arg7.view.writes (Elt Ideal) arg7.view.junk (softRun.sl.HS0_2 c arg3 harg3 x0)) G.first
    (G.env c arg3 harg3 arg4 harg4 arg5 harg5 arg7 arg7.view.junk) _ _ _ S (i 2).val (le_refl _)).maxs
  rw [show 512 * (4 * (i 2).val) = B by have := G.first; omega] at h
  unfold loop
  rw [View.writes_append, trips_eq]
  exact h

theorem Given.aL : Holds arg10.view (tgtA B (scoreOf qry key) val) (arg10.view.writes (Elt Ideal) arg10.view.junk ((loop c i arg3 harg3 arg4 harg4 arg5 harg5 arg6 harg6 arg7 harg7 arg8 harg8 arg9 harg9 arg10 harg10 x0 x1 x2 g8).2.2 ++ softRun.sl.HS3_1)) (fun _ _ => B) := by
  have S := G.start c arg3 harg3 arg4 harg4 arg5 harg5 arg7 arg8 arg9 arg10 g8
  have h := (Stage.passes Variants.none c none i arg3 harg3 arg4 harg4 arg5 harg5 arg6 harg6 arg7 harg7 arg8 harg8 arg9 harg9
    arg10 harg10 (softRun.sl.v18 i) 0#32 (softRun.sl.v55 i) 1#32 (harg4.unread x1) (harg5.unread x2)
    (arg7.view.writes (Elt Ideal) arg7.view.junk (softRun.sl.HS0_2 c arg3 harg3 x0)) G.first
    (G.env c arg3 harg3 arg4 harg4 arg5 harg5 arg7 arg7.view.junk) _ _ _ S (i 2).val (le_refl _)).accs
  rw [show 512 * (4 * (i 2).val) = B by have := G.first; omega] at h
  unfold loop
  rw [View.writes_append, trips_eq]
  exact h

/-- The scores of the four blocks on the diagonal, as they are found. -/
theorem Given.zA (hh : Fin 2) : HasZ arg8.view (scoreOf qry key) (arg8.view.writes (Elt Ideal) arg8.view.junk (softRun.sl.HS1_2 c i arg3 harg3 arg4 harg4 arg5 harg5 arg6 harg6 arg7 harg7 arg8 harg8 arg9 harg9 arg10 harg10 x0 x1 x2 g8)) 0 hh 0 (B) := by
  have E := (G.env c arg3 harg3 arg4 harg4 arg5 harg5 arg7 arg7.view.junk); have hB := G.room
  unfold softRun.sl.HS1_2
  rw [show Scf.trips (k0_t2_loop i).lb (k0_t2_loop i).ub (k0_t2_loop i).st = 0 from trips2_eq i, pb_k0_t2.eq_1]
  simp only [List.nil_append]
  exact HasZ.keep2 (s0 := 1) (c0 := 512) (n := 1536) Nat.zero_ne_one _ _ _ _ hh
    (G.zL c arg3 harg3 arg4 harg4 arg5 harg5 arg6 harg6 arg7 harg7 arg8 harg8 arg9 harg9 arg10 harg10 g8 hh)

theorem Given.zB0 (hh : Fin 2) : HasZ arg8.view (scoreOf qry key) (arg8.view.writes (Elt Ideal) arg8.view.junk (softRun.sl.HS1_2 c i arg3 harg3 arg4 harg4 arg5 harg5 arg6 harg6 arg7 harg7 arg8 harg8 arg9 harg9 arg10 harg10 x0 x1 x2 g8)) 1 hh 512 (B + 512) := by
  have E := (G.env c arg3 harg3 arg4 harg4 arg5 harg5 arg7 arg7.view.junk); have hB := G.room
  unfold softRun.sl.HS1_2
  rw [show Scf.trips (k0_t2_loop i).lb (k0_t2_loop i).ub (k0_t2_loop i).st = 0 from trips2_eq i, pb_k0_t2.eq_1]
  simp only [List.nil_append]
  exact HasZ.put2 (s0 := 1) (c0 := 512) (n := 1536) 1 rfl _ _ _ _ rfl
    (fun j q => E.score 0 rfl rfl (G.off9 0 (show B + 512 = B + 512 * (0 + 1) by omega)) (by omega) _ _ _ _ _ j q)
    (fun j q => E.score 1 rfl rfl (G.off10 0 (show B + 512 = B + 512 * (0 + 1) by omega)) (by omega) _ _ _ _ _ j q) hh

theorem Given.zB (hh : Fin 2) : HasZ arg8.view (scoreOf qry key) (arg8.view.writes (Elt Ideal) arg8.view.junk (softRun.sl.HS1_4 c i arg3 harg3 arg4 harg4 arg5 harg5 arg6 harg6 arg7 harg7 arg8 harg8 arg9 harg9 arg10 harg10 x0 x1 x2 g8)) 1 hh 512 (B + 512) := by
  have E := (G.env c arg3 harg3 arg4 harg4 arg5 harg5 arg7 arg7.view.junk); have hB := G.room
  exact HasZ.keep2 (s0 := 0) (c0 := 1024) (n := 1024) Nat.one_ne_zero _ _ _ _ hh
    (G.zB0 c arg3 harg3 arg4 harg4 arg5 harg5 arg6 harg6 arg7 harg7 arg8 harg8 arg9 harg9 arg10 harg10 g8 hh)

theorem Given.zC0 (hh : Fin 2) : HasZ arg8.view (scoreOf qry key) (arg8.view.writes (Elt Ideal) arg8.view.junk (softRun.sl.HS1_4 c i arg3 harg3 arg4 harg4 arg5 harg5 arg6 harg6 arg7 harg7 arg8 harg8 arg9 harg9 arg10 harg10 x0 x1 x2 g8)) 0 hh 1024 (B + 1024) := by
  have E := (G.env c arg3 harg3 arg4 harg4 arg5 harg5 arg7 arg7.view.junk); have hB := G.room
  exact HasZ.put2 (s0 := 0) (c0 := 1024) (n := 1024) 0 rfl _ _ _ _ rfl
    (fun j q => E.score 0 rfl rfl (G.off9 1 (show B + 1024 = B + 512 * (1 + 1) by omega)) (by omega) _ _ _ _ _ j q)
    (fun j q => E.score 1 rfl rfl (G.off10 1 (show B + 1024 = B + 512 * (1 + 1) by omega)) (by omega) _ _ _ _ _ j q) hh

theorem Given.zC (hh : Fin 2) : HasZ arg8.view (scoreOf qry key) (arg8.view.writes (Elt Ideal) arg8.view.junk (softRun.sl.HS1_6 c i arg3 harg3 arg4 harg4 arg5 harg5 arg6 harg6 arg7 harg7 arg8 harg8 arg9 harg9 arg10 harg10 x0 x1 x2 g8)) 0 hh 1024 (B + 1024) := by
  have E := (G.env c arg3 harg3 arg4 harg4 arg5 harg5 arg7 arg7.view.junk); have hB := G.room
  exact HasZ.keep2 (s0 := 1) (c0 := 1536) (n := 512) Nat.zero_ne_one _ _ _ _ hh
    (G.zC0 c arg3 harg3 arg4 harg4 arg5 harg5 arg6 harg6 arg7 harg7 arg8 harg8 arg9 harg9 arg10 harg10 g8 hh)

theorem Given.zD (hh : Fin 2) : HasZ arg8.view (scoreOf qry key) (arg8.view.writes (Elt Ideal) arg8.view.junk (softRun.sl.HS1_6 c i arg3 harg3 arg4 harg4 arg5 harg5 arg6 harg6 arg7 harg7 arg8 harg8 arg9 harg9 arg10 harg10 x0 x1 x2 g8)) 1 hh 1536 (B + 1536) := by
  have E := (G.env c arg3 harg3 arg4 harg4 arg5 harg5 arg7 arg7.view.junk); have hB := G.room
  exact HasZ.put2 (s0 := 1) (c0 := 1536) (n := 512) 1 rfl _ _ _ _ rfl
    (fun j q => E.score 0 rfl rfl (G.off9 2 (show B + 1536 = B + 512 * (2 + 1) by omega)) (by omega) _ _ _ _ _ j q)
    (fun j q => E.score 1 rfl rfl (G.off10 2 (show B + 1536 = B + 512 * (2 + 1) by omega)) (by omega) _ _ _ _ _ j q) hh

theorem Given.m00 : Holds arg9.view (tgtM B (scoreOf qry key)) (arg9.view.writes (Elt Ideal) arg9.view.junk (softRun.sl.HS2_1_1 c i arg3 harg3 arg4 harg4 arg5 harg5 arg6 harg6 arg7 harg7 arg8 harg8 arg9 harg9 arg10 harg10 x0 x1 x2 g8)) (upd (fun _ _ => B) 0 0 512 (B + 512)) := by
  have E := (G.env c arg3 harg3 arg4 harg4 arg5 harg5 arg7 arg7.view.junk); have hB := G.room
  unfold softRun.sl.HS2_1_1 softRun.sl.v92
  rw [show Scf.trips (k0_t2_loop i).lb (k0_t2_loop i).ub (k0_t2_loop i).st = 0 from trips2_eq i, pb_k0_t2.eq_1]
  simp only [List.nil_append]
  exact (G.mL c arg3 harg3 arg4 harg4 arg5 harg5 arg6 harg6 arg7 harg7 arg8 harg8 arg9 harg9 arg10 harg10 g8).put (h0 := 0) (c0 := 0) (n := 512) _ _ fun hh hv r q =>
    Reads.newM_at (h := fits512) (readsTri (by omega) (G.zA c arg3 harg3 arg4 harg4 arg5 harg5 arg6 harg6 arg7 harg7 arg8 harg8 arg9 harg9 arg10 harg10 g8 hh) (G.mL c arg3 harg3 arg4 harg4 arg5 harg5 arg6 harg6 arg7 harg7 arg8 harg8 arg9 harg9 arg10 harg10 g8) rfl hv (by omega) (fun _ _ _ => Or.inl rfl) _ _ shapeCasts_S1x1x512x512_S512x512 iota_S512x512_d0_w32 iota_S512x512_d1_w32) r q

theorem Given.a00 : Holds arg10.view (tgtA B (scoreOf qry key) val) (arg10.view.writes (Elt Ideal) arg10.view.junk (softRun.sl.HS3_1_1 c i arg3 harg3 arg4 harg4 arg5 harg5 arg6 harg6 arg7 harg7 arg8 harg8 arg9 harg9 arg10 harg10 x0 x1 x2 g8)) (upd (fun _ _ => B) 0 0 512 (B + 512)) := by
  have E := (G.env c arg3 harg3 arg4 harg4 arg5 harg5 arg7 arg7.view.junk); have hB := G.room
  unfold softRun.sl.HS3_1_1 softRun.sl.v92 softRun.sl.v102
  rw [show Scf.trips (k0_t2_loop i).lb (k0_t2_loop i).ub (k0_t2_loop i).st = 0 from trips2_eq i, pb_k0_t2.eq_1]
  simp only [List.nil_append]
  exact (G.aL c arg3 harg3 arg4 harg4 arg5 harg5 arg6 harg6 arg7 harg7 arg8 harg8 arg9 harg9 arg10 harg10 g8).put (h0 := 0) (c0 := 0) (n := 512) _ _ fun hh hv r q =>
    Reads.newA_at (h := fits512) (readsTri (by omega) (G.zA c arg3 harg3 arg4 harg4 arg5 harg5 arg6 harg6 arg7 harg7 arg8 harg8 arg9 harg9 arg10 harg10 g8 hh) (G.mL c arg3 harg3 arg4 harg4 arg5 harg5 arg6 harg6 arg7 harg7 arg8 harg8 arg9 harg9 arg10 harg10 g8) rfl hv (by omega) (fun _ _ _ => Or.inl rfl) _ _ shapeCasts_S1x1x512x512_S512x512 iota_S512x512_d0_w32 iota_S512x512_d1_w32)
      (E.value hh hv (G.off11 0 (show B = B + 512 * 0 by omega)) (by omega) _)
      (adds (G.aL c arg3 harg3 arg4 harg4 arg5 harg5 arg6 harg6 arg7 harg7 arg8 harg8 arg9 harg9 arg10 harg10 g8) hv (fun _ _ _ => Or.inl rfl) _) r q

theorem Given.m01 : Holds arg9.view (tgtM B (scoreOf qry key)) (arg9.view.writes (Elt Ideal) arg9.view.junk (softRun.sl.HS2_2 c i arg3 harg3 arg4 harg4 arg5 harg5 arg6 harg6 arg7 harg7 arg8 harg8 arg9 harg9 arg10 harg10 x0 x1 x2 g8)) (upd (upd (fun _ _ => B) 0 0 512 (B + 512)) 1 0 512 (B + 512)) := by
  have E := (G.env c arg3 harg3 arg4 harg4 arg5 harg5 arg7 arg7.view.junk); have hB := G.room
  exact (G.m00 c arg3 harg3 arg4 harg4 arg5 harg5 arg6 harg6 arg7 harg7 arg8 harg8 arg9 harg9 arg10 harg10 g8).put (h0 := 1) (c0 := 0) (n := 512) _ _ fun hh hv r q =>
    Reads.newM_at (h := fits512) (readsTri (by omega) (G.zA c arg3 harg3 arg4 harg4 arg5 harg5 arg6 harg6 arg7 harg7 arg8 harg8 arg9 harg9 arg10 harg10 g8 hh) (G.m00 c arg3 harg3 arg4 harg4 arg5 harg5 arg6 harg6 arg7 harg7 arg8 harg8 arg9 harg9 arg10 harg10 g8) rfl hv (by omega) (fun q h1 h2 => by simp only [upd]; (try split_ifs) <;> omega) _ _ shapeCasts_S1x1x512x512_S512x512 iota_S512x512_d0_w32 iota_S512x512_d1_w32) r q

theorem Given.a01 : Holds arg10.view (tgtA B (scoreOf qry key) val) (arg10.view.writes (Elt Ideal) arg10.view.junk (softRun.sl.HS3_2 c i arg3 harg3 arg4 harg4 arg5 harg5 arg6 harg6 arg7 harg7 arg8 harg8 arg9 harg9 arg10 harg10 x0 x1 x2 g8)) (upd (upd (fun _ _ => B) 0 0 512 (B + 512)) 1 0 512 (B + 512)) := by
  have E := (G.env c arg3 harg3 arg4 harg4 arg5 harg5 arg7 arg7.view.junk); have hB := G.room
  exact (G.a00 c arg3 harg3 arg4 harg4 arg5 harg5 arg6 harg6 arg7 harg7 arg8 harg8 arg9 harg9 arg10 harg10 g8).put (h0 := 1) (c0 := 0) (n := 512) _ _ fun hh hv r q =>
    Reads.newA_at (h := fits512) (readsTri (by omega) (G.zA c arg3 harg3 arg4 harg4 arg5 harg5 arg6 harg6 arg7 harg7 arg8 harg8 arg9 harg9 arg10 harg10 g8 hh) (G.m00 c arg3 harg3 arg4 harg4 arg5 harg5 arg6 harg6 arg7 harg7 arg8 harg8 arg9 harg9 arg10 harg10 g8) rfl hv (by omega) (fun q h1 h2 => by simp only [upd]; (try split_ifs) <;> omega) _ _ shapeCasts_S1x1x512x512_S512x512 iota_S512x512_d0_w32 iota_S512x512_d1_w32)
      (E.value hh hv (G.off12 0 (show B = B + 512 * 0 by omega)) (by omega) _)
      (adds (G.a00 c arg3 harg3 arg4 harg4 arg5 harg5 arg6 harg6 arg7 harg7 arg8 harg8 arg9 harg9 arg10 harg10 g8) hv (fun q h1 h2 => by simp only [upd]; (try split_ifs) <;> omega) _) r q

theorem Given.m02 : Holds arg9.view (tgtM B (scoreOf qry key)) (arg9.view.writes (Elt Ideal) arg9.view.junk (softRun.sl.HS2_3 c i arg3 harg3 arg4 harg4 arg5 harg5 arg6 harg6 arg7 harg7 arg8 harg8 arg9 harg9 arg10 harg10 x0 x1 x2 g8)) (upd (upd (upd (fun _ _ => B) 0 0 512 (B + 512)) 1 0 512 (B + 512)) 0 512 1536 (B + 512)) := by
  have E := (G.env c arg3 harg3 arg4 harg4 arg5 harg5 arg7 arg7.view.junk); have hB := G.room
  exact (G.m01 c arg3 harg3 arg4 harg4 arg5 harg5 arg6 harg6 arg7 harg7 arg8 harg8 arg9 harg9 arg10 harg10 g8).put (h0 := 0) (c0 := 512) (n := 1536) _ _ fun hh hv r q =>
    Reads.newM_at (h := fits1536) (reads (by omega) (G.zA c arg3 harg3 arg4 harg4 arg5 harg5 arg6 harg6 arg7 harg7 arg8 harg8 arg9 harg9 arg10 harg10 g8 hh) (G.m01 c arg3 harg3 arg4 harg4 arg5 harg5 arg6 harg6 arg7 harg7 arg8 harg8 arg9 harg9 arg10 harg10 g8) rfl hv (by omega) (fun q h1 h2 => by simp only [upd]; (try split_ifs) <;> omega) _ _ shapeCasts_S1x1x512x1536_S512x1536) r q

theorem Given.a02 : Holds arg10.view (tgtA B (scoreOf qry key) val) (arg10.view.writes (Elt Ideal) arg10.view.junk (softRun.sl.HS3_3 c i arg3 harg3 arg4 harg4 arg5 harg5 arg6 harg6 arg7 harg7 arg8 harg8 arg9 harg9 arg10 harg10 x0 x1 x2 g8)) (upd (upd (upd (fun _ _ => B) 0 0 512 (B + 512)) 1 0 512 (B + 512)) 0 512 1536 (B + 512)) := by
  have E := (G.env c arg3 harg3 arg4 harg4 arg5 harg5 arg7 arg7.view.junk); have hB := G.room
  exact (G.a01 c arg3 harg3 arg4 harg4 arg5 harg5 arg6 harg6 arg7 harg7 arg8 harg8 arg9 harg9 arg10 harg10 g8).put (h0 := 0) (c0 := 512) (n := 1536) _ _ fun hh hv r q =>
    Reads.newA_at (h := fits1536) (reads (by omega) (G.zA c arg3 harg3 arg4 harg4 arg5 harg5 arg6 harg6 arg7 harg7 arg8 harg8 arg9 harg9 arg10 harg10 g8 hh) (G.m01 c arg3 harg3 arg4 harg4 arg5 harg5 arg6 harg6 arg7 harg7 arg8 harg8 arg9 harg9 arg10 harg10 g8) rfl hv (by omega) (fun q h1 h2 => by simp only [upd]; (try split_ifs) <;> omega) _ _ shapeCasts_S1x1x512x1536_S512x1536)
      (E.value hh hv (G.off11 0 (show B = B + 512 * 0 by omega)) (by omega) _)
      (adds (G.a01 c arg3 harg3 arg4 harg4 arg5 harg5 arg6 harg6 arg7 harg7 arg8 harg8 arg9 harg9 arg10 harg10 g8) hv (fun q h1 h2 => by simp only [upd]; (try split_ifs) <;> omega) _) r q

theorem Given.m03 : Holds arg9.view (tgtM B (scoreOf qry key)) (arg9.view.writes (Elt Ideal) arg9.view.junk (softRun.sl.HS2_4 c i arg3 harg3 arg4 harg4 arg5 harg5 arg6 harg6 arg7 harg7 arg8 harg8 arg9 harg9 arg10 harg10 x0 x1 x2 g8)) (upd (upd (upd (upd (fun _ _ => B) 0 0 512 (B + 512)) 1 0 512 (B + 512)) 0 512 1536 (B + 512)) 1 512 1536 (B + 512)) := by
  have E := (G.env c arg3 harg3 arg4 harg4 arg5 harg5 arg7 arg7.view.junk); have hB := G.room
  unfold softRun.sl.HS2_4 softRun.sl.r_2 softRun.sl.r_3 k0_pay154 k0_pay150 k0_pay151 k0_pay149
  exact (G.m02 c arg3 harg3 arg4 harg4 arg5 harg5 arg6 harg6 arg7 harg7 arg8 harg8 arg9 harg9 arg10 harg10 g8).put (h0 := 1) (c0 := 512) (n := 1536) _ _ fun hh hv r q =>
    Reads.newM_at (h := fits1536) (reads (by omega) (G.zA c arg3 harg3 arg4 harg4 arg5 harg5 arg6 harg6 arg7 harg7 arg8 harg8 arg9 harg9 arg10 harg10 g8 hh) (G.m02 c arg3 harg3 arg4 harg4 arg5 harg5 arg6 harg6 arg7 harg7 arg8 harg8 arg9 harg9 arg10 harg10 g8) rfl hv (by omega) (fun q h1 h2 => by simp only [upd]; (try split_ifs) <;> omega) _ _ shapeCasts_S1x1x512x1536_S512x1536) r q

theorem Given.a03 : Holds arg10.view (tgtA B (scoreOf qry key) val) (arg10.view.writes (Elt Ideal) arg10.view.junk (softRun.sl.HS3_4 c i arg3 harg3 arg4 harg4 arg5 harg5 arg6 harg6 arg7 harg7 arg8 harg8 arg9 harg9 arg10 harg10 x0 x1 x2 g8)) (upd (upd (upd (upd (fun _ _ => B) 0 0 512 (B + 512)) 1 0 512 (B + 512)) 0 512 1536 (B + 512)) 1 512 1536 (B + 512)) := by
  have E := (G.env c arg3 harg3 arg4 harg4 arg5 harg5 arg7 arg7.view.junk); have hB := G.room
  unfold softRun.sl.HS3_4 softRun.sl.r_1 softRun.sl.r_2 softRun.sl.r_3 k0_pay153 k0_pay152 k0_pay150 k0_pay151 k0_pay149
  exact (G.a02 c arg3 harg3 arg4 harg4 arg5 harg5 arg6 harg6 arg7 harg7 arg8 harg8 arg9 harg9 arg10 harg10 g8).put (h0 := 1) (c0 := 512) (n := 1536) _ _ fun hh hv r q =>
    Reads.newA_at (h := fits1536) (reads (by omega) (G.zA c arg3 harg3 arg4 harg4 arg5 harg5 arg6 harg6 arg7 harg7 arg8 harg8 arg9 harg9 arg10 harg10 g8 hh) (G.m02 c arg3 harg3 arg4 harg4 arg5 harg5 arg6 harg6 arg7 harg7 arg8 harg8 arg9 harg9 arg10 harg10 g8) rfl hv (by omega) (fun q h1 h2 => by simp only [upd]; (try split_ifs) <;> omega) _ _ shapeCasts_S1x1x512x1536_S512x1536)
      (E.value hh hv (G.off12 0 (show B = B + 512 * 0 by omega)) (by omega) _)
      (adds (G.a02 c arg3 harg3 arg4 harg4 arg5 harg5 arg6 harg6 arg7 harg7 arg8 harg8 arg9 harg9 arg10 harg10 g8) hv (fun q h1 h2 => by simp only [upd]; (try split_ifs) <;> omega) _) r q

theorem Given.m0s : Holds arg9.view (tgtM B (scoreOf qry key)) (arg9.view.writes (Elt Ideal) arg9.view.junk (softRun.sl.HS2_4 c i arg3 harg3 arg4 harg4 arg5 harg5 arg6 harg6 arg7 harg7 arg8 harg8 arg9 harg9 arg10 harg10 x0 x1 x2 g8)) (fun _ _ => B + 512) :=
  (G.m03 c arg3 harg3 arg4 harg4 arg5 harg5 arg6 harg6 arg7 harg7 arg8 harg8 arg9 harg9 arg10 harg10 g8).settleM fun hh q h1 h2 => by
    have := hh.isLt
    simp only [upd]; split_ifs <;> omega

theorem Given.a0s : Holds arg10.view (tgtA B (scoreOf qry key) val) (arg10.view.writes (Elt Ideal) arg10.view.junk (softRun.sl.HS3_4 c i arg3 harg3 arg4 harg4 arg5 harg5 arg6 harg6 arg7 harg7 arg8 harg8 arg9 harg9 arg10 harg10 x0 x1 x2 g8)) (fun _ _ => B + 512) :=
  (G.a03 c arg3 harg3 arg4 harg4 arg5 harg5 arg6 harg6 arg7 harg7 arg8 harg8 arg9 harg9 arg10 harg10 g8).settleA fun hh q h1 h2 => by
    have := hh.isLt
    simp only [upd]; split_ifs <;> omega

theorem Given.m10 : Holds arg9.view (tgtM B (scoreOf qry key)) (arg9.view.writes (Elt Ideal) arg9.view.junk (softRun.sl.HS2_5 c i arg3 harg3 arg4 harg4 arg5 harg5 arg6 harg6 arg7 harg7 arg8 harg8 arg9 harg9 arg10 harg10 x0 x1 x2 g8)) (upd (fun _ _ => B + 512) 0 512 512 (B + 512 + 512)) := by
  have E := (G.env c arg3 harg3 arg4 harg4 arg5 harg5 arg7 arg7.view.junk); have hB := G.room
  exact (G.m0s c arg3 harg3 arg4 harg4 arg5 harg5 arg6 harg6 arg7 harg7 arg8 harg8 arg9 harg9 arg10 harg10 g8).put (h0 := 0) (c0 := 512) (n := 512) _ _ fun hh hv r q =>
    Reads.newM_at (h := fits512) (readsTri (by omega) (G.zB c arg3 harg3 arg4 harg4 arg5 harg5 arg6 harg6 arg7 harg7 arg8 harg8 arg9 harg9 arg10 harg10 g8 hh) (G.m0s c arg3 harg3 arg4 harg4 arg5 harg5 arg6 harg6 arg7 harg7 arg8 harg8 arg9 harg9 arg10 harg10 g8) rfl hv (by omega) (fun _ _ _ => Or.inl rfl) _ _ shapeCasts_S1x1x512x512_S512x512 iota_S512x512_d0_w32 iota_S512x512_d1_w32) r q

theorem Given.a10 : Holds arg10.view (tgtA B (scoreOf qry key) val) (arg10.view.writes (Elt Ideal) arg10.view.junk (softRun.sl.HS3_5 c i arg3 harg3 arg4 harg4 arg5 harg5 arg6 harg6 arg7 harg7 arg8 harg8 arg9 harg9 arg10 harg10 x0 x1 x2 g8)) (upd (fun _ _ => B + 512) 0 512 512 (B + 512 + 512)) := by
  have E := (G.env c arg3 harg3 arg4 harg4 arg5 harg5 arg7 arg7.view.junk); have hB := G.room
  exact (G.a0s c arg3 harg3 arg4 harg4 arg5 harg5 arg6 harg6 arg7 harg7 arg8 harg8 arg9 harg9 arg10 harg10 g8).put (h0 := 0) (c0 := 512) (n := 512) _ _ fun hh hv r q =>
    Reads.newA_at (h := fits512) (readsTri (by omega) (G.zB c arg3 harg3 arg4 harg4 arg5 harg5 arg6 harg6 arg7 harg7 arg8 harg8 arg9 harg9 arg10 harg10 g8 hh) (G.m0s c arg3 harg3 arg4 harg4 arg5 harg5 arg6 harg6 arg7 harg7 arg8 harg8 arg9 harg9 arg10 harg10 g8) rfl hv (by omega) (fun _ _ _ => Or.inl rfl) _ _ shapeCasts_S1x1x512x512_S512x512 iota_S512x512_d0_w32 iota_S512x512_d1_w32)
      (E.value hh hv (G.off11 1 (show B + 512 = B + 512 * 1 by omega)) (by omega) _)
      (adds (G.a0s c arg3 harg3 arg4 harg4 arg5 harg5 arg6 harg6 arg7 harg7 arg8 harg8 arg9 harg9 arg10 harg10 g8) hv (fun _ _ _ => Or.inl rfl) _) r q

theorem Given.m11 : Holds arg9.view (tgtM B (scoreOf qry key)) (arg9.view.writes (Elt Ideal) arg9.view.junk (softRun.sl.HS2_6 c i arg3 harg3 arg4 harg4 arg5 harg5 arg6 harg6 arg7 harg7 arg8 harg8 arg9 harg9 arg10 harg10 x0 x1 x2 g8)) (upd (upd (fun _ _ => B + 512) 0 512 512 (B + 512 + 512)) 1 512 512 (B + 512 + 512)) := by
  have E := (G.env c arg3 harg3 arg4 harg4 arg5 harg5 arg7 arg7.view.junk); have hB := G.room
  exact (G.m10 c arg3 harg3 arg4 harg4 arg5 harg5 arg6 harg6 arg7 harg7 arg8 harg8 arg9 harg9 arg10 harg10 g8).put (h0 := 1) (c0 := 512) (n := 512) _ _ fun hh hv r q =>
    Reads.newM_at (h := fits512) (readsTri (by omega) (G.zB c arg3 harg3 arg4 harg4 arg5 harg5 arg6 harg6 arg7 harg7 arg8 harg8 arg9 harg9 arg10 harg10 g8 hh) (G.m10 c arg3 harg3 arg4 harg4 arg5 harg5 arg6 harg6 arg7 harg7 arg8 harg8 arg9 harg9 arg10 harg10 g8) rfl hv (by omega) (fun q h1 h2 => by simp only [upd]; (try split_ifs) <;> omega) _ _ shapeCasts_S1x1x512x512_S512x512 iota_S512x512_d0_w32 iota_S512x512_d1_w32) r q

theorem Given.a11 : Holds arg10.view (tgtA B (scoreOf qry key) val) (arg10.view.writes (Elt Ideal) arg10.view.junk (softRun.sl.HS3_6 c i arg3 harg3 arg4 harg4 arg5 harg5 arg6 harg6 arg7 harg7 arg8 harg8 arg9 harg9 arg10 harg10 x0 x1 x2 g8)) (upd (upd (fun _ _ => B + 512) 0 512 512 (B + 512 + 512)) 1 512 512 (B + 512 + 512)) := by
  have E := (G.env c arg3 harg3 arg4 harg4 arg5 harg5 arg7 arg7.view.junk); have hB := G.room
  exact (G.a10 c arg3 harg3 arg4 harg4 arg5 harg5 arg6 harg6 arg7 harg7 arg8 harg8 arg9 harg9 arg10 harg10 g8).put (h0 := 1) (c0 := 512) (n := 512) _ _ fun hh hv r q =>
    Reads.newA_at (h := fits512) (readsTri (by omega) (G.zB c arg3 harg3 arg4 harg4 arg5 harg5 arg6 harg6 arg7 harg7 arg8 harg8 arg9 harg9 arg10 harg10 g8 hh) (G.m10 c arg3 harg3 arg4 harg4 arg5 harg5 arg6 harg6 arg7 harg7 arg8 harg8 arg9 harg9 arg10 harg10 g8) rfl hv (by omega) (fun q h1 h2 => by simp only [upd]; (try split_ifs) <;> omega) _ _ shapeCasts_S1x1x512x512_S512x512 iota_S512x512_d0_w32 iota_S512x512_d1_w32)
      (E.value hh hv (G.off12 1 (show B + 512 = B + 512 * 1 by omega)) (by omega) _)
      (adds (G.a10 c arg3 harg3 arg4 harg4 arg5 harg5 arg6 harg6 arg7 harg7 arg8 harg8 arg9 harg9 arg10 harg10 g8) hv (fun q h1 h2 => by simp only [upd]; (try split_ifs) <;> omega) _) r q

theorem Given.m12 : Holds arg9.view (tgtM B (scoreOf qry key)) (arg9.view.writes (Elt Ideal) arg9.view.junk (softRun.sl.HS2_7 c i arg3 harg3 arg4 harg4 arg5 harg5 arg6 harg6 arg7 harg7 arg8 harg8 arg9 harg9 arg10 harg10 x0 x1 x2 g8)) (upd (upd (upd (fun _ _ => B + 512) 0 512 512 (B + 512 + 512)) 1 512 512 (B + 512 + 512)) 0 1024 1024 (B + 512 + 512)) := by
  have E := (G.env c arg3 harg3 arg4 harg4 arg5 harg5 arg7 arg7.view.junk); have hB := G.room
  exact (G.m11 c arg3 harg3 arg4 harg4 arg5 harg5 arg6 harg6 arg7 harg7 arg8 harg8 arg9 harg9 arg10 harg10 g8).put (h0 := 0) (c0 := 1024) (n := 1024) _ _ fun hh hv r q =>
    Reads.newM_at (h := fits1024) (reads (by omega) (G.zB c arg3 harg3 arg4 harg4 arg5 harg5 arg6 harg6 arg7 harg7 arg8 harg8 arg9 harg9 arg10 harg10 g8 hh) (G.m11 c arg3 harg3 arg4 harg4 arg5 harg5 arg6 harg6 arg7 harg7 arg8 harg8 arg9 harg9 arg10 harg10 g8) rfl hv (by omega) (fun q h1 h2 => by simp only [upd]; (try split_ifs) <;> omega) _ _ shapeCasts_S1x1x512x1024_S512x1024) r q

theorem Given.a12 : Holds arg10.view (tgtA B (scoreOf qry key) val) (arg10.view.writes (Elt Ideal) arg10.view.junk (softRun.sl.HS3_7 c i arg3 harg3 arg4 harg4 arg5 harg5 arg6 harg6 arg7 harg7 arg8 harg8 arg9 harg9 arg10 harg10 x0 x1 x2 g8)) (upd (upd (upd (fun _ _ => B + 512) 0 512 512 (B + 512 + 512)) 1 512 512 (B + 512 + 512)) 0 1024 1024 (B + 512 + 512)) := by
  have E := (G.env c arg3 harg3 arg4 harg4 arg5 harg5 arg7 arg7.view.junk); have hB := G.room
  exact (G.a11 c arg3 harg3 arg4 harg4 arg5 harg5 arg6 harg6 arg7 harg7 arg8 harg8 arg9 harg9 arg10 harg10 g8).put (h0 := 0) (c0 := 1024) (n := 1024) _ _ fun hh hv r q =>
    Reads.newA_at (h := fits1024) (reads (by omega) (G.zB c arg3 harg3 arg4 harg4 arg5 harg5 arg6 harg6 arg7 harg7 arg8 harg8 arg9 harg9 arg10 harg10 g8 hh) (G.m11 c arg3 harg3 arg4 harg4 arg5 harg5 arg6 harg6 arg7 harg7 arg8 harg8 arg9 harg9 arg10 harg10 g8) rfl hv (by omega) (fun q h1 h2 => by simp only [upd]; (try split_ifs) <;> omega) _ _ shapeCasts_S1x1x512x1024_S512x1024)
      (E.value hh hv (G.off11 1 (show B + 512 = B + 512 * 1 by omega)) (by omega) _)
      (adds (G.a11 c arg3 harg3 arg4 harg4 arg5 harg5 arg6 harg6 arg7 harg7 arg8 harg8 arg9 harg9 arg10 harg10 g8) hv (fun q h1 h2 => by simp only [upd]; (try split_ifs) <;> omega) _) r q

theorem Given.m13 : Holds arg9.view (tgtM B (scoreOf qry key)) (arg9.view.writes (Elt Ideal) arg9.view.junk (softRun.sl.HS2_8 c i arg3 harg3 arg4 harg4 arg5 harg5 arg6 harg6 arg7 harg7 arg8 harg8 arg9 harg9 arg10 harg10 x0 x1 x2 g8)) (upd (upd (upd (upd (fun _ _ => B + 512) 0 512 512 (B + 512 + 512)) 1 512 512 (B + 512 + 512)) 0 1024 1024 (B + 512 + 512)) 1 1024 1024 (B + 512 + 512)) := by
  have E := (G.env c arg3 harg3 arg4 harg4 arg5 harg5 arg7 arg7.view.junk); have hB := G.room
  exact (G.m12 c arg3 harg3 arg4 harg4 arg5 harg5 arg6 harg6 arg7 harg7 arg8 harg8 arg9 harg9 arg10 harg10 g8).put (h0 := 1) (c0 := 1024) (n := 1024) _ _ fun hh hv r q =>
    Reads.newM_at (h := fits1024) (reads (by omega) (G.zB c arg3 harg3 arg4 harg4 arg5 harg5 arg6 harg6 arg7 harg7 arg8 harg8 arg9 harg9 arg10 harg10 g8 hh) (G.m12 c arg3 harg3 arg4 harg4 arg5 harg5 arg6 harg6 arg7 harg7 arg8 harg8 arg9 harg9 arg10 harg10 g8) rfl hv (by omega) (fun q h1 h2 => by simp only [upd]; (try split_ifs) <;> omega) _ _ shapeCasts_S1x1x512x1024_S512x1024) r q

theorem Given.a13 : Holds arg10.view (tgtA B (scoreOf qry key) val) (arg10.view.writes (Elt Ideal) arg10.view.junk (softRun.sl.HS3_8 c i arg3 harg3 arg4 harg4 arg5 harg5 arg6 harg6 arg7 harg7 arg8 harg8 arg9 harg9 arg10 harg10 x0 x1 x2 g8)) (upd (upd (upd (upd (fun _ _ => B + 512) 0 512 512 (B + 512 + 512)) 1 512 512 (B + 512 + 512)) 0 1024 1024 (B + 512 + 512)) 1 1024 1024 (B + 512 + 512)) := by
  have E := (G.env c arg3 harg3 arg4 harg4 arg5 harg5 arg7 arg7.view.junk); have hB := G.room
  exact (G.a12 c arg3 harg3 arg4 harg4 arg5 harg5 arg6 harg6 arg7 harg7 arg8 harg8 arg9 harg9 arg10 harg10 g8).put (h0 := 1) (c0 := 1024) (n := 1024) _ _ fun hh hv r q =>
    Reads.newA_at (h := fits1024) (reads (by omega) (G.zB c arg3 harg3 arg4 harg4 arg5 harg5 arg6 harg6 arg7 harg7 arg8 harg8 arg9 harg9 arg10 harg10 g8 hh) (G.m12 c arg3 harg3 arg4 harg4 arg5 harg5 arg6 harg6 arg7 harg7 arg8 harg8 arg9 harg9 arg10 harg10 g8) rfl hv (by omega) (fun q h1 h2 => by simp only [upd]; (try split_ifs) <;> omega) _ _ shapeCasts_S1x1x512x1024_S512x1024)
      (E.value hh hv (G.off12 1 (show B + 512 = B + 512 * 1 by omega)) (by omega) _)
      (adds (G.a12 c arg3 harg3 arg4 harg4 arg5 harg5 arg6 harg6 arg7 harg7 arg8 harg8 arg9 harg9 arg10 harg10 g8) hv (fun q h1 h2 => by simp only [upd]; (try split_ifs) <;> omega) _) r q

theorem Given.m1s : Holds arg9.view (tgtM B (scoreOf qry key)) (arg9.view.writes (Elt Ideal) arg9.view.junk (softRun.sl.HS2_8 c i arg3 harg3 arg4 harg4 arg5 harg5 arg6 harg6 arg7 harg7 arg8 harg8 arg9 harg9 arg10 harg10 x0 x1 x2 g8)) (fun _ _ => B + 1024) :=
  (G.m13 c arg3 harg3 arg4 harg4 arg5 harg5 arg6 harg6 arg7 harg7 arg8 harg8 arg9 harg9 arg10 harg10 g8).settleM fun hh q h1 h2 => by
    have := hh.isLt
    simp only [upd]; split_ifs <;> omega

theorem Given.a1s : Holds arg10.view (tgtA B (scoreOf qry key) val) (arg10.view.writes (Elt Ideal) arg10.view.junk (softRun.sl.HS3_8 c i arg3 harg3 arg4 harg4 arg5 harg5 arg6 harg6 arg7 harg7 arg8 harg8 arg9 harg9 arg10 harg10 x0 x1 x2 g8)) (fun _ _ => B + 1024) :=
  (G.a13 c arg3 harg3 arg4 harg4 arg5 harg5 arg6 harg6 arg7 harg7 arg8 harg8 arg9 harg9 arg10 harg10 g8).settleA fun hh q h1 h2 => by
    have := hh.isLt
    simp only [upd]; split_ifs <;> omega

theorem Given.m20 : Holds arg9.view (tgtM B (scoreOf qry key)) (arg9.view.writes (Elt Ideal) arg9.view.junk (softRun.sl.HS2_9 c i arg3 harg3 arg4 harg4 arg5 harg5 arg6 harg6 arg7 harg7 arg8 harg8 arg9 harg9 arg10 harg10 x0 x1 x2 g8)) (upd (fun _ _ => B + 1024) 0 1024 512 (B + 1024 + 512)) := by
  have E := (G.env c arg3 harg3 arg4 harg4 arg5 harg5 arg7 arg7.view.junk); have hB := G.room
  exact (G.m1s c arg3 harg3 arg4 harg4 arg5 harg5 arg6 harg6 arg7 harg7 arg8 harg8 arg9 harg9 arg10 harg10 g8).put (h0 := 0) (c0 := 1024) (n := 512) _ _ fun hh hv r q =>
    Reads.newM_at (h := fits512) (readsTri (by omega) (G.zC c arg3 harg3 arg4 harg4 arg5 harg5 arg6 harg6 arg7 harg7 arg8 harg8 arg9 harg9 arg10 harg10 g8 hh) (G.m1s c arg3 harg3 arg4 harg4 arg5 harg5 arg6 harg6 arg7 harg7 arg8 harg8 arg9 harg9 arg10 harg10 g8) rfl hv (by omega) (fun _ _ _ => Or.inl rfl) _ _ shapeCasts_S1x1x512x512_S512x512 iota_S512x512_d0_w32 iota_S512x512_d1_w32) r q

theorem Given.a20 : Holds arg10.view (tgtA B (scoreOf qry key) val) (arg10.view.writes (Elt Ideal) arg10.view.junk (softRun.sl.HS3_9 c i arg3 harg3 arg4 harg4 arg5 harg5 arg6 harg6 arg7 harg7 arg8 harg8 arg9 harg9 arg10 harg10 x0 x1 x2 g8)) (upd (fun _ _ => B + 1024) 0 1024 512 (B + 1024 + 512)) := by
  have E := (G.env c arg3 harg3 arg4 harg4 arg5 harg5 arg7 arg7.view.junk); have hB := G.room
  exact (G.a1s c arg3 harg3 arg4 harg4 arg5 harg5 arg6 harg6 arg7 harg7 arg8 harg8 arg9 harg9 arg10 harg10 g8).put (h0 := 0) (c0 := 1024) (n := 512) _ _ fun hh hv r q =>
    Reads.newA_at (h := fits512) (readsTri (by omega) (G.zC c arg3 harg3 arg4 harg4 arg5 harg5 arg6 harg6 arg7 harg7 arg8 harg8 arg9 harg9 arg10 harg10 g8 hh) (G.m1s c arg3 harg3 arg4 harg4 arg5 harg5 arg6 harg6 arg7 harg7 arg8 harg8 arg9 harg9 arg10 harg10 g8) rfl hv (by omega) (fun _ _ _ => Or.inl rfl) _ _ shapeCasts_S1x1x512x512_S512x512 iota_S512x512_d0_w32 iota_S512x512_d1_w32)
      (E.value hh hv (G.off11 2 (show B + 1024 = B + 512 * 2 by omega)) (by omega) _)
      (adds (G.a1s c arg3 harg3 arg4 harg4 arg5 harg5 arg6 harg6 arg7 harg7 arg8 harg8 arg9 harg9 arg10 harg10 g8) hv (fun _ _ _ => Or.inl rfl) _) r q

theorem Given.m21 : Holds arg9.view (tgtM B (scoreOf qry key)) (arg9.view.writes (Elt Ideal) arg9.view.junk (softRun.sl.HS2_10 c i arg3 harg3 arg4 harg4 arg5 harg5 arg6 harg6 arg7 harg7 arg8 harg8 arg9 harg9 arg10 harg10 x0 x1 x2 g8)) (upd (upd (fun _ _ => B + 1024) 0 1024 512 (B + 1024 + 512)) 1 1024 512 (B + 1024 + 512)) := by
  have E := (G.env c arg3 harg3 arg4 harg4 arg5 harg5 arg7 arg7.view.junk); have hB := G.room
  exact (G.m20 c arg3 harg3 arg4 harg4 arg5 harg5 arg6 harg6 arg7 harg7 arg8 harg8 arg9 harg9 arg10 harg10 g8).put (h0 := 1) (c0 := 1024) (n := 512) _ _ fun hh hv r q =>
    Reads.newM_at (h := fits512) (readsTri (by omega) (G.zC c arg3 harg3 arg4 harg4 arg5 harg5 arg6 harg6 arg7 harg7 arg8 harg8 arg9 harg9 arg10 harg10 g8 hh) (G.m20 c arg3 harg3 arg4 harg4 arg5 harg5 arg6 harg6 arg7 harg7 arg8 harg8 arg9 harg9 arg10 harg10 g8) rfl hv (by omega) (fun q h1 h2 => by simp only [upd]; (try split_ifs) <;> omega) _ _ shapeCasts_S1x1x512x512_S512x512 iota_S512x512_d0_w32 iota_S512x512_d1_w32) r q

theorem Given.a21 : Holds arg10.view (tgtA B (scoreOf qry key) val) (arg10.view.writes (Elt Ideal) arg10.view.junk (softRun.sl.HS3_10 c i arg3 harg3 arg4 harg4 arg5 harg5 arg6 harg6 arg7 harg7 arg8 harg8 arg9 harg9 arg10 harg10 x0 x1 x2 g8)) (upd (upd (fun _ _ => B + 1024) 0 1024 512 (B + 1024 + 512)) 1 1024 512 (B + 1024 + 512)) := by
  have E := (G.env c arg3 harg3 arg4 harg4 arg5 harg5 arg7 arg7.view.junk); have hB := G.room
  exact (G.a20 c arg3 harg3 arg4 harg4 arg5 harg5 arg6 harg6 arg7 harg7 arg8 harg8 arg9 harg9 arg10 harg10 g8).put (h0 := 1) (c0 := 1024) (n := 512) _ _ fun hh hv r q =>
    Reads.newA_at (h := fits512) (readsTri (by omega) (G.zC c arg3 harg3 arg4 harg4 arg5 harg5 arg6 harg6 arg7 harg7 arg8 harg8 arg9 harg9 arg10 harg10 g8 hh) (G.m20 c arg3 harg3 arg4 harg4 arg5 harg5 arg6 harg6 arg7 harg7 arg8 harg8 arg9 harg9 arg10 harg10 g8) rfl hv (by omega) (fun q h1 h2 => by simp only [upd]; (try split_ifs) <;> omega) _ _ shapeCasts_S1x1x512x512_S512x512 iota_S512x512_d0_w32 iota_S512x512_d1_w32)
      (E.value hh hv (G.off12 2 (show B + 1024 = B + 512 * 2 by omega)) (by omega) _)
      (adds (G.a20 c arg3 harg3 arg4 harg4 arg5 harg5 arg6 harg6 arg7 harg7 arg8 harg8 arg9 harg9 arg10 harg10 g8) hv (fun q h1 h2 => by simp only [upd]; (try split_ifs) <;> omega) _) r q

theorem Given.m22 : Holds arg9.view (tgtM B (scoreOf qry key)) (arg9.view.writes (Elt Ideal) arg9.view.junk (softRun.sl.HS2_11 c i arg3 harg3 arg4 harg4 arg5 harg5 arg6 harg6 arg7 harg7 arg8 harg8 arg9 harg9 arg10 harg10 x0 x1 x2 g8)) (upd (upd (upd (fun _ _ => B + 1024) 0 1024 512 (B + 1024 + 512)) 1 1024 512 (B + 1024 + 512)) 0 1536 512 (B + 1024 + 512)) := by
  have E := (G.env c arg3 harg3 arg4 harg4 arg5 harg5 arg7 arg7.view.junk); have hB := G.room
  exact (G.m21 c arg3 harg3 arg4 harg4 arg5 harg5 arg6 harg6 arg7 harg7 arg8 harg8 arg9 harg9 arg10 harg10 g8).put (h0 := 0) (c0 := 1536) (n := 512) _ _ fun hh hv r q =>
    Reads.newM_at (h := fits512) (reads (by omega) (G.zC c arg3 harg3 arg4 harg4 arg5 harg5 arg6 harg6 arg7 harg7 arg8 harg8 arg9 harg9 arg10 harg10 g8 hh) (G.m21 c arg3 harg3 arg4 harg4 arg5 harg5 arg6 harg6 arg7 harg7 arg8 harg8 arg9 harg9 arg10 harg10 g8) rfl hv (by omega) (fun q h1 h2 => by simp only [upd]; (try split_ifs) <;> omega) _ _ shapeCasts_S1x1x512x512_S512x512) r q

theorem Given.a22 : Holds arg10.view (tgtA B (scoreOf qry key) val) (arg10.view.writes (Elt Ideal) arg10.view.junk (softRun.sl.HS3_11 c i arg3 harg3 arg4 harg4 arg5 harg5 arg6 harg6 arg7 harg7 arg8 harg8 arg9 harg9 arg10 harg10 x0 x1 x2 g8)) (upd (upd (upd (fun _ _ => B + 1024) 0 1024 512 (B + 1024 + 512)) 1 1024 512 (B + 1024 + 512)) 0 1536 512 (B + 1024 + 512)) := by
  have E := (G.env c arg3 harg3 arg4 harg4 arg5 harg5 arg7 arg7.view.junk); have hB := G.room
  exact (G.a21 c arg3 harg3 arg4 harg4 arg5 harg5 arg6 harg6 arg7 harg7 arg8 harg8 arg9 harg9 arg10 harg10 g8).put (h0 := 0) (c0 := 1536) (n := 512) _ _ fun hh hv r q =>
    Reads.newA_at (h := fits512) (reads (by omega) (G.zC c arg3 harg3 arg4 harg4 arg5 harg5 arg6 harg6 arg7 harg7 arg8 harg8 arg9 harg9 arg10 harg10 g8 hh) (G.m21 c arg3 harg3 arg4 harg4 arg5 harg5 arg6 harg6 arg7 harg7 arg8 harg8 arg9 harg9 arg10 harg10 g8) rfl hv (by omega) (fun q h1 h2 => by simp only [upd]; (try split_ifs) <;> omega) _ _ shapeCasts_S1x1x512x512_S512x512)
      (E.value hh hv (G.off11 2 (show B + 1024 = B + 512 * 2 by omega)) (by omega) _)
      (adds (G.a21 c arg3 harg3 arg4 harg4 arg5 harg5 arg6 harg6 arg7 harg7 arg8 harg8 arg9 harg9 arg10 harg10 g8) hv (fun q h1 h2 => by simp only [upd]; (try split_ifs) <;> omega) _) r q

theorem Given.m23 : Holds arg9.view (tgtM B (scoreOf qry key)) (arg9.view.writes (Elt Ideal) arg9.view.junk (softRun.sl.HS2_12 c i arg3 harg3 arg4 harg4 arg5 harg5 arg6 harg6 arg7 harg7 arg8 harg8 arg9 harg9 arg10 harg10 x0 x1 x2 g8)) (upd (upd (upd (upd (fun _ _ => B + 1024) 0 1024 512 (B + 1024 + 512)) 1 1024 512 (B + 1024 + 512)) 0 1536 512 (B + 1024 + 512)) 1 1536 512 (B + 1024 + 512)) := by
  have E := (G.env c arg3 harg3 arg4 harg4 arg5 harg5 arg7 arg7.view.junk); have hB := G.room
  unfold softRun.sl.HS2_12 softRun.sl.r_18 softRun.sl.r_19 k0_pay210 k0_pay206 k0_pay207 k0_pay205
  exact (G.m22 c arg3 harg3 arg4 harg4 arg5 harg5 arg6 harg6 arg7 harg7 arg8 harg8 arg9 harg9 arg10 harg10 g8).put (h0 := 1) (c0 := 1536) (n := 512) _ _ fun hh hv r q =>
    Reads.newM_at (h := fits512) (reads (by omega) (G.zC c arg3 harg3 arg4 harg4 arg5 harg5 arg6 harg6 arg7 harg7 arg8 harg8 arg9 harg9 arg10 harg10 g8 hh) (G.m22 c arg3 harg3 arg4 harg4 arg5 harg5 arg6 harg6 arg7 harg7 arg8 harg8 arg9 harg9 arg10 harg10 g8) rfl hv (by omega) (fun q h1 h2 => by simp only [upd]; (try split_ifs) <;> omega) _ _ shapeCasts_S1x1x512x512_S512x512) r q

theorem Given.a23 : Holds arg10.view (tgtA B (scoreOf qry key) val) (arg10.view.writes (Elt Ideal) arg10.view.junk (softRun.sl.HS3_12 c i arg3 harg3 arg4 harg4 arg5 harg5 arg6 harg6 arg7 harg7 arg8 harg8 arg9 harg9 arg10 harg10 x0 x1 x2 g8)) (upd (upd (upd (upd (fun _ _ => B + 1024) 0 1024 512 (B + 1024 + 512)) 1 1024 512 (B + 1024 + 512)) 0 1536 512 (B + 1024 + 512)) 1 1536 512 (B + 1024 + 512)) := by
  have E := (G.env c arg3 harg3 arg4 harg4 arg5 harg5 arg7 arg7.view.junk); have hB := G.room
  unfold softRun.sl.HS3_12 softRun.sl.r_17 softRun.sl.r_18 softRun.sl.r_19 k0_pay209 k0_pay208 k0_pay206 k0_pay207 k0_pay205
  exact (G.a22 c arg3 harg3 arg4 harg4 arg5 harg5 arg6 harg6 arg7 harg7 arg8 harg8 arg9 harg9 arg10 harg10 g8).put (h0 := 1) (c0 := 1536) (n := 512) _ _ fun hh hv r q =>
    Reads.newA_at (h := fits512) (reads (by omega) (G.zC c arg3 harg3 arg4 harg4 arg5 harg5 arg6 harg6 arg7 harg7 arg8 harg8 arg9 harg9 arg10 harg10 g8 hh) (G.m22 c arg3 harg3 arg4 harg4 arg5 harg5 arg6 harg6 arg7 harg7 arg8 harg8 arg9 harg9 arg10 harg10 g8) rfl hv (by omega) (fun q h1 h2 => by simp only [upd]; (try split_ifs) <;> omega) _ _ shapeCasts_S1x1x512x512_S512x512)
      (E.value hh hv (G.off12 2 (show B + 1024 = B + 512 * 2 by omega)) (by omega) _)
      (adds (G.a22 c arg3 harg3 arg4 harg4 arg5 harg5 arg6 harg6 arg7 harg7 arg8 harg8 arg9 harg9 arg10 harg10 g8) hv (fun q h1 h2 => by simp only [upd]; (try split_ifs) <;> omega) _) r q

theorem Given.m2s : Holds arg9.view (tgtM B (scoreOf qry key)) (arg9.view.writes (Elt Ideal) arg9.view.junk (softRun.sl.HS2_12 c i arg3 harg3 arg4 harg4 arg5 harg5 arg6 harg6 arg7 harg7 arg8 harg8 arg9 harg9 arg10 harg10 x0 x1 x2 g8)) (fun _ _ => B + 1536) :=
  (G.m23 c arg3 harg3 arg4 harg4 arg5 harg5 arg6 harg6 arg7 harg7 arg8 harg8 arg9 harg9 arg10 harg10 g8).settleM fun hh q h1 h2 => by
    have := hh.isLt
    simp only [upd]; split_ifs <;> omega

theorem Given.a2s : Holds arg10.view (tgtA B (scoreOf qry key) val) (arg10.view.writes (Elt Ideal) arg10.view.junk (softRun.sl.HS3_12 c i arg3 harg3 arg4 harg4 arg5 harg5 arg6 harg6 arg7 harg7 arg8 harg8 arg9 harg9 arg10 harg10 x0 x1 x2 g8)) (fun _ _ => B + 1536) :=
  (G.a23 c arg3 harg3 arg4 harg4 arg5 harg5 arg6 harg6 arg7 harg7 arg8 harg8 arg9 harg9 arg10 harg10 g8).settleA fun hh q h1 h2 => by
    have := hh.isLt
    simp only [upd]; split_ifs <;> omega

theorem Given.m30 : Holds arg9.view (tgtM B (scoreOf qry key)) (arg9.view.writes (Elt Ideal) arg9.view.junk (softRun.sl.HS2_13 c i arg3 harg3 arg4 harg4 arg5 harg5 arg6 harg6 arg7 harg7 arg8 harg8 arg9 harg9 arg10 harg10 x0 x1 x2 g8)) (upd (fun _ _ => B + 1536) 0 1536 512 (B + 1536 + 512)) := by
  have E := (G.env c arg3 harg3 arg4 harg4 arg5 harg5 arg7 arg7.view.junk); have hB := G.room
  exact (G.m2s c arg3 harg3 arg4 harg4 arg5 harg5 arg6 harg6 arg7 harg7 arg8 harg8 arg9 harg9 arg10 harg10 g8).put (h0 := 0) (c0 := 1536) (n := 512) _ _ fun hh hv r q =>
    Reads.newM_at (h := fits512) (readsTri (by omega) (G.zD c arg3 harg3 arg4 harg4 arg5 harg5 arg6 harg6 arg7 harg7 arg8 harg8 arg9 harg9 arg10 harg10 g8 hh) (G.m2s c arg3 harg3 arg4 harg4 arg5 harg5 arg6 harg6 arg7 harg7 arg8 harg8 arg9 harg9 arg10 harg10 g8) rfl hv (by omega) (fun _ _ _ => Or.inl rfl) _ _ shapeCasts_S1x1x512x512_S512x512 iota_S512x512_d0_w32 iota_S512x512_d1_w32) r q

theorem Given.a30 : Holds arg10.view (tgtA B (scoreOf qry key) val) (arg10.view.writes (Elt Ideal) arg10.view.junk (softRun.sl.HS3_13 c i arg3 harg3 arg4 harg4 arg5 harg5 arg6 harg6 arg7 harg7 arg8 harg8 arg9 harg9 arg10 harg10 x0 x1 x2 g8)) (upd (fun _ _ => B + 1536) 0 1536 512 (B + 1536 + 512)) := by
  have E := (G.env c arg3 harg3 arg4 harg4 arg5 harg5 arg7 arg7.view.junk); have hB := G.room
  exact (G.a2s c arg3 harg3 arg4 harg4 arg5 harg5 arg6 harg6 arg7 harg7 arg8 harg8 arg9 harg9 arg10 harg10 g8).put (h0 := 0) (c0 := 1536) (n := 512) _ _ fun hh hv r q =>
    Reads.newA_at (h := fits512) (readsTri (by omega) (G.zD c arg3 harg3 arg4 harg4 arg5 harg5 arg6 harg6 arg7 harg7 arg8 harg8 arg9 harg9 arg10 harg10 g8 hh) (G.m2s c arg3 harg3 arg4 harg4 arg5 harg5 arg6 harg6 arg7 harg7 arg8 harg8 arg9 harg9 arg10 harg10 g8) rfl hv (by omega) (fun _ _ _ => Or.inl rfl) _ _ shapeCasts_S1x1x512x512_S512x512 iota_S512x512_d0_w32 iota_S512x512_d1_w32)
      (E.value hh hv (G.off11 3 (show B + 1536 = B + 512 * 3 by omega)) (by omega) _)
      (adds (G.a2s c arg3 harg3 arg4 harg4 arg5 harg5 arg6 harg6 arg7 harg7 arg8 harg8 arg9 harg9 arg10 harg10 g8) hv (fun _ _ _ => Or.inl rfl) _) r q

theorem Given.a31 : Holds arg10.view (tgtA B (scoreOf qry key) val) (arg10.view.writes (Elt Ideal) arg10.view.junk (softRun.sl.HS3_14 c i arg3 harg3 arg4 harg4 arg5 harg5 arg6 harg6 arg7 harg7 arg8 harg8 arg9 harg9 arg10 harg10 x0 x1 x2 g8)) (upd (upd (fun _ _ => B + 1536) 0 1536 512 (B + 1536 + 512)) 1 1536 512 (B + 1536 + 512)) := by
  have E := (G.env c arg3 harg3 arg4 harg4 arg5 harg5 arg7 arg7.view.junk); have hB := G.room
  exact (G.a30 c arg3 harg3 arg4 harg4 arg5 harg5 arg6 harg6 arg7 harg7 arg8 harg8 arg9 harg9 arg10 harg10 g8).put (h0 := 1) (c0 := 1536) (n := 512) _ _ fun hh hv r q =>
    Reads.newA_at (h := fits512) (readsTri (by omega) (G.zD c arg3 harg3 arg4 harg4 arg5 harg5 arg6 harg6 arg7 harg7 arg8 harg8 arg9 harg9 arg10 harg10 g8 hh) (G.m30 c arg3 harg3 arg4 harg4 arg5 harg5 arg6 harg6 arg7 harg7 arg8 harg8 arg9 harg9 arg10 harg10 g8) rfl hv (by omega) (fun q h1 h2 => by simp only [upd]; (try split_ifs) <;> omega) _ _ shapeCasts_S1x1x512x512_S512x512 iota_S512x512_d0_w32 iota_S512x512_d1_w32)
      (E.value hh hv (G.off12 3 (show B + 1536 = B + 512 * 3 by omega)) (by omega) _)
      (adds (G.a30 c arg3 harg3 arg4 harg4 arg5 harg5 arg6 harg6 arg7 harg7 arg8 harg8 arg9 harg9 arg10 harg10 g8) hv (fun q h1 h2 => by simp only [upd]; (try split_ifs) <;> omega) _) r q

/-- The accumulators at the end. -/
theorem Given.done : Holds arg10.view (tgtA B (scoreOf qry key) val) (arg10.view.writes (Elt Ideal) arg10.view.junk (softRun.sl.HS3_14 c i arg3 harg3 arg4 harg4 arg5 harg5 arg6 harg6 arg7 harg7 arg8 harg8 arg9 harg9 arg10 harg10 x0 x1 x2 g8)) (fun _ _ => B + 2048) :=
  (G.a31 c arg3 harg3 arg4 harg4 arg5 harg5 arg6 harg6 arg7 harg7 arg8 harg8 arg9 harg9 arg10 harg10 g8).settleA fun hh q h1 h2 => by
    have := hh.isLt
    simp only [upd]; split_ifs <;> omega

end Diagonal
end Cert.Mla
end
-- ==== Proof.SoftArrays.lean ====
/- The softmax attention as a function of three arrays. -/
module

public import proofs.«01_k».proof.Proof.SoftBlocks

@[expose] public section

set_option maxRecDepth 16384

noncomputable section

namespace Cert.Mla

open Idealize.ShloMosaic Idealize.ShloMosaic.TcCoe Idealize.SL.Sem
open Cert.Kernel2Ideal Cert.Kernel2Ideal.Gen

/-- The queries, four sequences of four heads, a column each. -/
abbrev Queries : Type := Vec Ideal S4x4x128x8192 .bf16
/-- The keys, a row each, the heads side by side. -/
abbrev Keys : Type := Vec Ideal S4x8192x512 .bf16
/-- The values, a column each. -/
abbrev Values : Type := Vec Ideal S4x4x64x8192 .bf16

/-- A query's element, at numbers. -/
def qAt (x : Queries) (b h : ℕ) (l : Fin 128) (row : ℕ) : EReal :=
  x (ix4 ⟨b % 4, Nat.mod_lt _ (by decide)⟩ ⟨h % 4, Nat.mod_lt _ (by decide)⟩ l ⟨row % 8192, Nat.mod_lt _ (by decide)⟩)
/-- A key's element, at numbers. -/
def kAt (x : Keys) (b j lane : ℕ) : EReal :=
  x (ix3 ⟨b % 4, Nat.mod_lt _ (by decide)⟩ ⟨j % 8192, Nat.mod_lt _ (by decide)⟩ ⟨lane % 512, Nat.mod_lt _ (by decide)⟩)
/-- A value's element, at numbers. -/
def vAt (x : Values) (b h d j : ℕ) : EReal :=
  x (ix4 ⟨b % 4, Nat.mod_lt _ (by decide)⟩ ⟨h % 4, Nat.mod_lt _ (by decide)⟩ ⟨d % 64, Nat.mod_lt _ (by decide)⟩
    ⟨j % 8192, Nat.mod_lt _ (by decide)⟩)

theorem q_of (x : Queries) (i : S4x4x128x8192.Idx) {b h row : ℕ} {l : Fin 128} (h0 : (i 0).val = b) (h1 : (i 1).val = h)
    (h2 : (i 2).val = l.val) (h3 : (i 3).val = row) : x i = qAt x b h l row := by
  have l0 : (i 0).val < 4 := (i 0).isLt
  have l1 : (i 1).val < 4 := (i 1).isLt
  have l3 : (i 3).val < 8192 := (i 3).isLt
  subst h0 h1 h3
  refine congrArg x (funext fun a => Fin.ext ?_)
  match a with
  | ⟨0, _⟩ => exact (Nat.mod_eq_of_lt l0).symm
  | ⟨1, _⟩ => exact (Nat.mod_eq_of_lt l1).symm
  | ⟨2, _⟩ => exact h2
  | ⟨3, _⟩ => exact (Nat.mod_eq_of_lt l3).symm

theorem k_of (x : Keys) (i : S4x8192x512.Idx) {b j lane : ℕ} (h0 : (i 0).val = b) (h1 : (i 1).val = j)
    (h2 : (i 2).val = lane) : x i = kAt x b j lane := by
  have l0 : (i 0).val < 4 := (i 0).isLt
  have l1 : (i 1).val < 8192 := (i 1).isLt
  have l2 : (i 2).val < 512 := (i 2).isLt
  subst h0 h1 h2
  refine congrArg x (funext fun a => Fin.ext ?_)
  match a with
  | ⟨0, _⟩ => exact (Nat.mod_eq_of_lt l0).symm
  | ⟨1, _⟩ => exact (Nat.mod_eq_of_lt l1).symm
  | ⟨2, _⟩ => exact (Nat.mod_eq_of_lt l2).symm

theorem v_of (x : Values) (i : S4x4x64x8192.Idx) {b h d j : ℕ} (h0 : (i 0).val = b) (h1 : (i 1).val = h)
    (h2 : (i 2).val = d) (h3 : (i 3).val = j) : x i = vAt x b h d j := by
  have l0 : (i 0).val < 4 := (i 0).isLt
  have l1 : (i 1).val < 4 := (i 1).isLt
  have l2 : (i 2).val < 64 := (i 2).isLt
  have l3 : (i 3).val < 8192 := (i 3).isLt
  subst h0 h1 h2 h3
  refine congrArg x (funext fun a => Fin.ext ?_)
  match a with
  | ⟨0, _⟩ => exact (Nat.mod_eq_of_lt l0).symm
  | ⟨1, _⟩ => exact (Nat.mod_eq_of_lt l1).symm
  | ⟨2, _⟩ => exact (Nat.mod_eq_of_lt l2).symm
  | ⟨3, _⟩ => exact (Nat.mod_eq_of_lt l3).symm

/-- The score of key `j` against a query row, in a head of 128 lanes. -/
def logit (q : Queries) (k : Keys) (b h row j : ℕ) : EReal :=
  ∑ l : Fin 128, kAt k b j (128 * h + l.val) * qAt q b h l row

/-- The scores a row sees: the keys up to its own. -/
def seen (q : Queries) (k : Keys) (b h row : ℕ) : ℕ → EReal := upTo 0 (logit q k b h) row

/-- One element of the attention: the values weighed, over the weights' sum. -/
def attend (q : Queries) (k : Keys) (v : Values) (b h row d : ℕ) : EReal :=
  Ideal.div (acc (seen q k b h row) (vAt v b h d) 8192) (acc (seen q k b h row) (fun _ => 1) 8192)

/-- The attention. -/
def attention (q : Queries) (k : Keys) (v : Values) : Vec Ideal S4x8192x256 .bf16 := fun i =>
  attend q k v (i 0).val ((i 2).val / 64) (i 1).val ((i 2).val % 64)

end Cert.Mla
end
-- ==== Proof.SoftBlock.lean ====
/- The softmax kernel's block, at an index. -/
module

public import proofs.«01_k».proof.Proof.SoftDiagonal
public import proofs.«01_k».proof.Proof.SoftArrays
public import Idealize.ShloMosaic.Lib.Pipeline.Value

@[expose] public section

set_option maxRecDepth 16384

noncomputable section

namespace Cert.Mla

open Idealize.ShloMosaic Idealize.ShloMosaic.TcCoe Idealize.SL.Sem
open Cert.Kernel2Ideal Cert.Kernel2Ideal.Gen

/-- The head of the pair a lane belongs to. -/
def headOf (l : Fin 128) : Fin 2 := ⟨l.val / 64, by have := l.isLt; omega⟩

/-- A row of the accumulators over the row of the weights' sums. -/
def quotient (B : ℕ) (zz : Fin 2 → ℕ → ℕ → EReal) (val : Fin 2 → Fin 80 → ℕ → EReal) (hh : Fin 2) (q : ℕ) (d : Fin 80) : EReal :=
  Ideal.div (acc (upTo B (zz hh) q) (val hh d) (B + 2048)) (acc (upTo B (zz hh) q) (val hh ⟨64, by decide⟩) (B + 2048))

/-- The two heads' halves one over the other, turned: at a row and a lane. -/
theorem stacked_at (a b : FVec Ideal S64x2048 .f32) (r : Fin 2048) (l : Fin 128) :
    truncf .bf16 (transpose S2048x128 [1, 0] (concatenate S128x2048 0 [⟨S64x2048, a⟩, ⟨S64x2048, b⟩]
      concatenates_S64x2048_S64x2048_S128x2048_d0) transposes_S128x2048_p1_0_S2048x128) bitsLt_bf16_f32 (ValueIdx.ix2 r l)
      = if h : l.val < 64 then a (ValueIdx.ix2 (⟨l.val, h⟩ : Fin 64) r)
        else b (ValueIdx.ix2 (⟨l.val - 64, by have := l.isLt; omega⟩ : Fin 64) r) := by
  have hl := l.isLt
  show transpose S2048x128 [1, 0] (concatenate S128x2048 0 [⟨S64x2048, a⟩, ⟨S64x2048, b⟩]
      concatenates_S64x2048_S64x2048_S128x2048_d0) transposes_S128x2048_p1_0_S2048x128 (ValueIdx.ix2 r l) = _
  refine (transpose_apply [1, 0] _ transposes_S128x2048_p1_0_S2048x128 (ValueIdx.ix2 r l) (ValueIdx.ix2 l r) (fun b => by
    match b with
    | ⟨0, _⟩ => rfl
    | ⟨1, _⟩ => rfl)).trans ?_
  by_cases h : l.val < 64
  · rw [dif_pos h]
    exact concatenate_pair_apply_left 0 a b concatenates_S64x2048_S64x2048_S128x2048_d0 (ValueIdx.ix2 l r) rfl
      (ValueIdx.ix2 (⟨l.val, h⟩ : Fin 64) r) (fun b => by
        match b with
        | ⟨0, _⟩ => rfl
        | ⟨1, _⟩ => rfl)
  · rw [dif_neg h]
    exact concatenate_pair_apply_right 0 a b concatenates_S64x2048_S64x2048_S128x2048_d0 (ValueIdx.ix2 l r) rfl rfl
      (ValueIdx.ix2 (⟨l.val - 64, by omega⟩ : Fin 64) r) (fun b hb => by
        match b with
        | ⟨0, _⟩ => exact absurd rfl hb
        | ⟨1, _⟩ => rfl) (show l.val - 64 + 64 = l.val by omega)

section Block
variable {B : ℕ} {qry : Fin 2 → ℕ → Fin 128 → EReal} {key : Fin 2 → ℕ → Fin 128 → EReal} {val : Fin 2 → Fin 80 → ℕ → EReal}
  (c : Dev nD) {i : grid0.Coords}
  (arg3 : Memref sig .tc .vmem S1x2x128x2048 .bf16) (harg3 : arg3.IsWhole)
  (arg4 : Memref sig .tc .vmem S1x8192x256 .bf16) (harg4 : arg4.IsWhole)
  (arg5 : Memref sig .tc .vmem S1x2x80x8192 .bf16) (harg5 : arg5.IsWhole)
  (arg6 : Memref sig .tc .vmem S1x2048x128 .bf16) (harg6 : arg6.IsWhole)
  (arg7 : Memref sig .tc .vmem S2x128x2048 .bf16) (harg7 : arg7.IsWhole)
  (arg8 : Memref sig .tc .vmem S2x2x512x2048 .f32) (harg8 : arg8.IsWhole)
  (arg9 : Memref sig .tc .vmem S2x1x2048 .f32) (harg9 : arg9.IsWhole)
  (arg10 : Memref sig .tc .vmem S2x80x2048 .f32) (harg10 : arg10.IsWhole)
  {x0 : Vec Ideal S1x2x128x2048 .bf16} {x1 : Vec Ideal S1x8192x256 .bf16} {x2 : Vec Ideal S1x2x80x8192 .bf16}
  (g8 : BufTy.Contents (Elt Ideal) arg8.view.ty)

variable (G : Given B qry key val i x0 x1 x2)
include G

theorem Given.top0 (d : Fin 64) (q : Fin 2048) :
    softRun.sl.v567 c i arg3 harg3 arg4 harg4 arg5 harg5 arg6 harg6 arg7 harg7 arg8 harg8 arg9 harg9 arg10 harg10 x0 x1 x2 g8
      (ix3 0 d q) = acc (upTo B (scoreOf qry key 0) q.val) (val 0 ⟨0 + d.val, by have := d.isLt; omega⟩) (B + 2048) := by
  have hd := d.isLt
  have hq := q.isLt
  have D := G.done c arg3 harg3 arg4 harg4 arg5 harg5 arg6 harg6 arg7 harg7 arg8 harg8 arg9 harg9 arg10 harg10 g8
    0 ⟨0 + d.val, by omega⟩ ⟨0 + q.val, by omega⟩
  unfold softRun.sl.v567
  refine (load3 arg10.view (h0 := 0) (d0 := 0) (c0 := 0) (a' := 64) (n := 2048) _ inb_S2x80x2048_S1x64x2048_0_0_0 0 rfl 0 d q
    (by omega) (by omega)).trans (D.trans ?_)
  exact congrArg (fun n => acc (upTo B (scoreOf qry key 0) n) _ (B + 2048)) (Nat.zero_add q.val)

theorem Given.sum0 (d : Fin 1) (q : Fin 2048) :
    softRun.sl.v569 c i arg3 harg3 arg4 harg4 arg5 harg5 arg6 harg6 arg7 harg7 arg8 harg8 arg9 harg9 arg10 harg10 x0 x1 x2 g8
      (ix3 0 d q) = acc (upTo B (scoreOf qry key 0) q.val) (val 0 ⟨64 + d.val, by have := d.isLt; omega⟩) (B + 2048) := by
  have hd := d.isLt
  have hq := q.isLt
  have D := G.done c arg3 harg3 arg4 harg4 arg5 harg5 arg6 harg6 arg7 harg7 arg8 harg8 arg9 harg9 arg10 harg10 g8
    0 ⟨64 + d.val, by omega⟩ ⟨0 + q.val, by omega⟩
  unfold softRun.sl.v569
  refine (load3 arg10.view (h0 := 0) (d0 := 64) (c0 := 0) (a' := 1) (n := 2048) _ inb_S2x80x2048_S1x1x2048_0_64_0 0 rfl 0 d q
    (by omega) (by omega)).trans (D.trans ?_)
  exact congrArg (fun n => acc (upTo B (scoreOf qry key 0) n) _ (B + 2048)) (Nat.zero_add q.val)

theorem Given.top1 (d : Fin 64) (q : Fin 2048) :
    softRun.sl.v573 c i arg3 harg3 arg4 harg4 arg5 harg5 arg6 harg6 arg7 harg7 arg8 harg8 arg9 harg9 arg10 harg10 x0 x1 x2 g8
      (ix3 0 d q) = acc (upTo B (scoreOf qry key 1) q.val) (val 1 ⟨0 + d.val, by have := d.isLt; omega⟩) (B + 2048) := by
  have hd := d.isLt
  have hq := q.isLt
  have D := G.done c arg3 harg3 arg4 harg4 arg5 harg5 arg6 harg6 arg7 harg7 arg8 harg8 arg9 harg9 arg10 harg10 g8
    1 ⟨0 + d.val, by omega⟩ ⟨0 + q.val, by omega⟩
  unfold softRun.sl.v573
  refine (load3 arg10.view (h0 := 1) (d0 := 0) (c0 := 0) (a' := 64) (n := 2048) _ inb_S2x80x2048_S1x64x2048_1_0_0 1 rfl 0 d q
    (by omega) (by omega)).trans (D.trans ?_)
  exact congrArg (fun n => acc (upTo B (scoreOf qry key 1) n) _ (B + 2048)) (Nat.zero_add q.val)

theorem Given.sum1 (d : Fin 1) (q : Fin 2048) :
    softRun.sl.v575 c i arg3 harg3 arg4 harg4 arg5 harg5 arg6 harg6 arg7 harg7 arg8 harg8 arg9 harg9 arg10 harg10 x0 x1 x2 g8
      (ix3 0 d q) = acc (upTo B (scoreOf qry key 1) q.val) (val 1 ⟨64 + d.val, by have := d.isLt; omega⟩) (B + 2048) := by
  have hd := d.isLt
  have hq := q.isLt
  have D := G.done c arg3 harg3 arg4 harg4 arg5 harg5 arg6 harg6 arg7 harg7 arg8 harg8 arg9 harg9 arg10 harg10 g8
    1 ⟨64 + d.val, by omega⟩ ⟨0 + q.val, by omega⟩
  unfold softRun.sl.v575
  refine (load3 arg10.view (h0 := 1) (d0 := 64) (c0 := 0) (a' := 1) (n := 2048) _ inb_S2x80x2048_S1x1x2048_1_64_0 1 rfl 0 d q
    (by omega) (by omega)).trans (D.trans ?_)
  exact congrArg (fun n => acc (upTo B (scoreOf qry key 1) n) _ (B + 2048)) (Nat.zero_add q.val)

/-- What is stored, at a row and a lane. -/
theorem Given.stored (r : Fin 2048) (l : Fin 128) :
    k0_pay1 (softRun.sl.r_26 c i arg3 harg3 arg4 harg4 arg5 harg5 arg6 harg6 arg7 harg7 arg8 harg8 arg9 harg9 arg10 harg10
      x0 x1 x2 g8) (ix3 0 r l)
      = quotient B (scoreOf qry key) val (headOf l) r.val ⟨l.val % 64, by omega⟩ := by
  have hl := l.isLt
  unfold k0_pay1 softRun.sl.r_26 k0_pay224
  refine (ValueIdx.shapeCast_ab_1ab_apply _ shapeCasts_S2048x128_S1x2048x128 0 r l).trans ?_
  refine (stacked_at _ _ r l).trans ?_
  by_cases h : l.val < 64
  · rw [dif_pos h]
    have e0 := (ValueIdx.shapeCast_1ab_ab_apply _ shapeCasts_S1x64x2048_S64x2048 (⟨l.val, h⟩ : Fin 64) r).trans
      (G.top0 c arg3 harg3 arg4 harg4 arg5 harg5 arg6 harg6 arg7 harg7 arg8 harg8 arg9 harg9 arg10 harg10 g8 ⟨l.val, h⟩ r)
    have e1 := (ValueIdx.broadcastTo_1b_ab_apply _ broadcasts_S1x2048_S64x2048 (⟨l.val, h⟩ : Fin 64) r).trans
      ((ValueIdx.shapeCast_1ab_ab_apply _ shapeCasts_S1x1x2048_S1x2048 0 r).trans
      (G.sum0 c arg3 harg3 arg4 harg4 arg5 harg5 arg6 harg6 arg7 harg7 arg8 harg8 arg9 harg9 arg10 harg10 g8 0 r))
    refine (congrArg₂ Ideal.div e0 e1).trans ?_
    unfold quotient
    rw [show headOf l = 0 from Fin.ext (show l.val / 64 = 0 by omega)]
    exact congrArg₂ Ideal.div (congrArg (fun x => acc _ (val 0 x) _) (Fin.ext (show 0 + l.val = l.val % 64 by omega))) rfl
  · rw [dif_neg h]
    have e0 := (ValueIdx.shapeCast_1ab_ab_apply _ shapeCasts_S1x64x2048_S64x2048 (⟨l.val - 64, by omega⟩ : Fin 64) r).trans
      (G.top1 c arg3 harg3 arg4 harg4 arg5 harg5 arg6 harg6 arg7 harg7 arg8 harg8 arg9 harg9 arg10 harg10 g8 ⟨l.val - 64, by omega⟩ r)
    have e1 := (ValueIdx.broadcastTo_1b_ab_apply _ broadcasts_S1x2048_S64x2048 (⟨l.val - 64, by omega⟩ : Fin 64) r).trans
      ((ValueIdx.shapeCast_1ab_ab_apply _ shapeCasts_S1x1x2048_S1x2048 0 r).trans
      (G.sum1 c arg3 harg3 arg4 harg4 arg5 harg5 arg6 harg6 arg7 harg7 arg8 harg8 arg9 harg9 arg10 harg10 g8 0 r))
    refine (congrArg₂ Ideal.div e0 e1).trans ?_
    unfold quotient
    rw [show headOf l = 1 from Fin.ext (show l.val / 64 = 1 by omega)]
    exact congrArg₂ Ideal.div (congrArg (fun x => acc _ (val 1 x) _) (Fin.ext (show 0 + (l.val - 64) = l.val % 64 by omega))) rfl

end Block

/-! ## The quotient is the attention -/

/-- The values and the rows of ones under them. -/
def withOnes (v : Values) (b h : ℕ) (d : Fin 80) : ℕ → EReal := if d.val < 64 then vAt v b h d.val else fun _ => 1

theorem quotient_attend {B b p : ℕ} (hB : B + 2048 ≤ 8192) (Q : Queries) (K : Keys) (V : Values) (r : Fin 2048) (l : Fin 128) :
    quotient B (scoreOf (fun hh q l => qAt Q b (2 * p + hh.val) l (B + q)) (fun hh j l => kAt K b j (128 * (2 * p + hh.val) + l.val)))
      (fun hh d => withOnes V b (2 * p + hh.val) d) (headOf l) r.val ⟨l.val % 64, by omega⟩
      = attend Q K V b ((128 * p + l.val) / 64) (B + r.val) ((128 * p + l.val) % 64) := by
  have hl := l.isLt
  have hr := r.isLt
  have hs : upTo B (scoreOf (fun hh q l => qAt Q b (2 * p + hh.val) l (B + q))
      (fun hh j l => kAt K b j (128 * (2 * p + hh.val) + l.val)) (headOf l)) r.val
      = seen Q K b (2 * p + l.val / 64) (B + r.val) := by
    funext j
    unfold seen upTo
    rw [Nat.zero_add]
    rfl
  unfold quotient attend
  have hz : ∀ j, B + 2048 ≤ j → seen Q K b (2 * p + l.val / 64) (B + r.val) j = ⊥ := fun j hj =>
    if_neg (show ¬ j ≤ 0 + (B + r.val) by omega)
  rw [hs, ← acc_done hB hz, ← acc_done hB hz, show (128 * p + l.val) / 64 = 2 * p + l.val / 64 by omega,
    show (128 * p + l.val) % 64 = l.val % 64 by omega]
  refine congrArg₂ Ideal.div (congrArg (fun v => acc _ v _) (if_pos ?_)) (congrArg (fun v => acc _ v _) (if_neg ?_))
  · show l.val % 64 < 64
    omega
  · show ¬ 64 < 64
    omega

end Cert.Mla
end
-- ==== Proof.SoftWhole.lean ====
/- The softmax kernel's whole result as one function of the argument arrays. -/
module

public import proofs.«01_k».proof.Proof.SoftFrame
public import proofs.«01_k».proof.Proof.SoftBlock

@[expose] public section

set_option maxRecDepth 16384

noncomputable section

namespace Cert.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

local notation "𝕄" => MT nD τ sig Unit (Elt Ideal) ℕ (UR sig nD τ) ℕ

variable (m : (ℓ : Loc nD τ sig) → Buf (Elt Ideal) ℓ) (ρ : Dev nD → PrngReg)

/-! ## The arrays -/

theorem one_bits : Ideal.ofBits .bf16 0x3F80#16 = (1 : EReal) := by
  simp [Ideal.ofBits, Ideal.ieee, -EReal.coe_mul]; norm_num

/-- The values with rows of ones under them, as the host lays them out. -/
theorem V_main_v1 (c : Dev nD) : V m c main_v1 = concatenate S4x4x80x8192 2
    [⟨S4x4x64x8192, m ((c : Thread nD τ).loc main_arg2)⟩,
      ⟨S4x4x16x8192, broadcastInDim S4x4x16x8192 ![] bcast_S_S4x4x16x8192 (constant (F := Ideal) S_ .bf16 0x3F80#16)⟩]
    concatenates_S4x4x64x8192_S4x4x16x8192_S4x4x80x8192_d2 := by
  show StableHlo.after hostOps0 _ (Proc.devRef .tc main_v1) = _
  after_results

theorem V_main_v1_at (c : Dev nD) (i : S4x4x80x8192.Idx) {b h j : ℕ} (d : Fin 80) (h0 : (i 0).val = b) (h1 : (i 1).val = h)
    (h2 : (i 2).val = d.val) (h3 : (i 3).val = j) :
    V m c main_v1 i = withOnes (m ((c : Thread nD τ).loc main_arg2)) b h d j := by
  rw [V_main_v1]
  unfold withOnes
  by_cases hd : d.val < 64
  · rw [if_pos hd]
    refine (concatenate_pair_apply_left 2 _ _ concatenates_S4x4x64x8192_S4x4x16x8192_S4x4x80x8192_d2 i rfl
      (ix4 (i 0) (i 1) (⟨d.val, hd⟩ : Fin 64) (i 3)) (fun a => by
        match a with
        | ⟨0, _⟩ => rfl
        | ⟨1, _⟩ => rfl
        | ⟨2, _⟩ => exact h2.symm
        | ⟨3, _⟩ => rfl)).trans ?_
    exact v_of _ _ h0 h1 rfl h3
  · rw [if_neg hd]
    have hd' := d.isLt
    refine (concatenate_pair_apply_right 2 _ _ concatenates_S4x4x64x8192_S4x4x16x8192_S4x4x80x8192_d2 i rfl rfl
      (ix4 (i 0) (i 1) (⟨d.val - 64, by omega⟩ : Fin 16) (i 3)) (fun a ha => by
        match a with
        | ⟨0, _⟩ => rfl
        | ⟨1, _⟩ => rfl
        | ⟨2, _⟩ => exact absurd rfl ha
        | ⟨3, _⟩ => rfl) (show d.val - 64 + 64 = (i 2).val by omega)).trans ?_
    exact one_bits

/-! ## The blocks -/

theorem place0 : ∀ t : Fin cfg0.N, win0_0.index t (0 : Fin 4) = (grid0.coords t 0).val
    ∧ win0_0.index t (1 : Fin 4) = (grid0.coords t 1).val ∧ win0_0.index t (2 : Fin 4) = 0
    ∧ win0_0.index t (3 : Fin 4) = (grid0.coords t 2).val :=
  (by decide +kernel : ∀ t : Fin grid0.N, _)
theorem place1 : ∀ t : Fin cfg0.N, win0_1.index t (0 : Fin 3) = (grid0.coords t 0).val
    ∧ win0_1.index t (1 : Fin 3) = 0 ∧ win0_1.index t (2 : Fin 3) = (grid0.coords t 1).val :=
  (by decide +kernel : ∀ t : Fin grid0.N, _)
theorem place2 : ∀ t : Fin cfg0.N, win0_2.index t (0 : Fin 4) = (grid0.coords t 0).val
    ∧ win0_2.index t (1 : Fin 4) = (grid0.coords t 1).val ∧ win0_2.index t (2 : Fin 4) = 0 ∧ win0_2.index t (3 : Fin 4) = 0 :=
  (by decide +kernel : ∀ t : Fin grid0.N, _)
theorem place3 : ∀ t : Fin cfg0.N, win0_3.index t (0 : Fin 3) = (grid0.coords t 0).val
    ∧ win0_3.index t (1 : Fin 3) = (grid0.coords t 2).val ∧ win0_3.index t (2 : Fin 3) = (grid0.coords t 1).val :=
  (by decide +kernel : ∀ t : Fin grid0.N, _)

theorem iblk0_at (c : Dev nD) (t : Fin cfg0.N) (hh : Fin 2) (l : Fin 128) (q : Fin 2048) :
    iblk m c 0 t (ix4 0 hh l q) = qAt (V m c main_arg0) (grid0.coords t 0).val (2 * (grid0.coords t 1).val + hh.val) l
      (2048 * (grid0.coords t 2).val + q.val) := by
  obtain ⟨e0, e1, e2, e3⟩ := place0 t
  refine q_of (V m c main_arg0) (((cfg0.win 0).blk t).view.emb (ix4 0 hh l q)) ?_ ?_ ?_ ?_
  · show win0_0.index t (0 : Fin 4) * 1 + 1 * 0 = _; omega
  · show win0_0.index t (1 : Fin 4) * 2 + 1 * hh.val = _; omega
  · show win0_0.index t (2 : Fin 4) * 128 + 1 * l.val = _; omega
  · show win0_0.index t (3 : Fin 4) * 2048 + 1 * q.val = _; omega

theorem iblk1_at (c : Dev nD) (t : Fin cfg0.N) (hh : Fin 2) (j : Fin 8192) (l : Fin 128) (h : 128 * hh.val + l.val < 256) :
    iblk m c 1 t (ix3 0 j ⟨128 * hh.val + l.val, h⟩)
      = kAt (V m c main_arg1) (grid0.coords t 0).val j.val (128 * (2 * (grid0.coords t 1).val + hh.val) + l.val) := by
  obtain ⟨e0, e1, e2⟩ := place1 t
  refine k_of (V m c main_arg1) (((cfg0.win 1).blk t).view.emb (ix3 0 j ⟨128 * hh.val + l.val, h⟩)) ?_ ?_ ?_
  · show win0_1.index t (0 : Fin 3) * 1 + 1 * 0 = _; omega
  · show win0_1.index t (1 : Fin 3) * 8192 + 1 * j.val = _; omega
  · show win0_1.index t (2 : Fin 3) * 256 + 1 * (128 * hh.val + l.val) = _; omega

theorem iblk2_at (c : Dev nD) (t : Fin cfg0.N) (hh : Fin 2) (d : Fin 80) (j : Fin 8192) :
    iblk m c 2 t (ix4 0 hh d j) = withOnes (m ((c : Thread nD τ).loc main_arg2)) (grid0.coords t 0).val
      (2 * (grid0.coords t 1).val + hh.val) d j.val := by
  obtain ⟨e0, e1, e2, e3⟩ := place2 t
  refine V_main_v1_at m c (((cfg0.win 2).blk t).view.emb (ix4 0 hh d j)) d ?_ ?_ ?_ ?_
  · show win0_2.index t (0 : Fin 4) * 1 + 1 * 0 = _; omega
  · show win0_2.index t (1 : Fin 4) * 2 + 1 * hh.val = _; omega
  · show win0_2.index t (2 : Fin 4) * 80 + 1 * d.val = _; omega
  · show win0_2.index t (3 : Fin 4) * 8192 + 1 * j.val = _; omega

theorem given (c : Dev nD) (t : Fin cfg0.N) : Given (2048 * (grid0.coords t 2).val)
    (fun hh q l => qAt (V m c main_arg0) (grid0.coords t 0).val (2 * (grid0.coords t 1).val + hh.val) l
      (2048 * (grid0.coords t 2).val + q))
    (fun hh j l => kAt (V m c main_arg1) (grid0.coords t 0).val j (128 * (2 * (grid0.coords t 1).val + hh.val) + l.val))
    (fun hh d => withOnes (m ((c : Thread nD τ).loc main_arg2)) (grid0.coords t 0).val (2 * (grid0.coords t 1).val + hh.val) d)
    (grid0.coords t) (iblk m c 0 t) (iblk m c 1 t) (iblk m c 2 t) :=
  ⟨rfl, iblk0_at m c t, iblk1_at m c t, iblk2_at m c t⟩

/-- The result array that the kernel is to leave. -/
def target (c : Dev nD) : Vec Ideal S4x8192x256 .bf16 :=
  attention (V m c main_arg0) (V m c main_arg1) (m ((c : Thread nD τ).loc main_arg2))

/-- A point's block of it. -/
def targetBlk (c : Dev nD) (t : Fin cfg0.N) : Vec Ideal S1x2048x128 .bf16 :=
  ((cfg0.win 3).blk t).view.read (Elt Ideal) (target m c)

/-- What the body stores at a point is its block of the attention, whatever the scratch held. -/
theorem pieces_read (c : Dev nD) (t : Fin cfg0.N) (g7 : BufTy.Contents (Elt Ideal) scM0_0.view.ty)
    (g8 : BufTy.Contents (Elt Ideal) scM0_1.view.ty) (g9 : BufTy.Contents (Elt Ideal) scM0_2.view.ty)
    (g10 : BufTy.Contents (Elt Ideal) scM0_3.view.ty) (e : BufTy.Contents (Elt Ideal) (ms0_3 t).view.ty) :
    (ms0_3 t).view.read (Elt Ideal) ((ms0_3 t).view.writes (Elt Ideal) e (piecesAt m c t g7 g8 g9 g10)) = targetBlk m c t := by
  funext y
  obtain ⟨e0, e1, e2⟩ := place3 t
  obtain ⟨r, l, hy⟩ : ∃ (r : Fin 2048) (l : Fin 128), y = ix3 (0 : Fin 1) r l := by
    refine ⟨y (1 : Fin 3), y (2 : Fin 3), funext fun a => ?_⟩
    match a with
    | ⟨0, _⟩ => exact Fin.ext (show (y (0 : Fin 3)).val = 0 by have h : (y (0 : Fin 3)).val < 1 := (y (0 : Fin 3)).isLt; omega)
    | ⟨1, _⟩ => rfl
    | ⟨2, _⟩ => rfl
  subst hy
  unfold piecesAt softRun
  refine (View.read_writes_cons_unit_of_mem (s := S1x2048x128) (ms0_3 t).view e inb_S1x2048x128_S1x2048x128_0_0_0 _ []
    (ix3 0 r l) (ix3 0 r l) rfl (fun a => by
      match a with
      | ⟨0, _⟩ => rfl
      | ⟨1, _⟩ => exact (Nat.zero_add _).symm
      | ⟨2, _⟩ => exact (Nat.zero_add _).symm)).trans ?_
  refine ((given m c t).stored c (ms0_0 t) (hs0_0 t) (ms0_1 t) (hs0_1 t) (ms0_2 t) (hs0_2 t) (ms0_3 t) (hs0_3 t)
    scM0_0 (Memref.isWhole_whole _) scM0_1 (Memref.isWhole_whole _) scM0_2 (Memref.isWhole_whole _)
    scM0_3 (Memref.isWhole_whole _) g8 r l).trans ?_
  refine (quotient_attend (by have h := (given m c t).room; omega) _ _ _ r l).trans ?_
  show _ = attend _ _ _ (((cfg0.win 3).blk t).view.emb (ix3 0 r l) 0).val ((((cfg0.win 3).blk t).view.emb (ix3 0 r l) 2).val / 64)
    (((cfg0.win 3).blk t).view.emb (ix3 0 r l) 1).val ((((cfg0.win 3).blk t).view.emb (ix3 0 r l) 2).val % 64)
  have f0 : (((cfg0.win 3).blk t).view.emb (ix3 0 r l) 0).val = (grid0.coords t 0).val := by
    show win0_3.index t (0 : Fin 3) * 1 + 1 * 0 = _; omega
  have f1 : (((cfg0.win 3).blk t).view.emb (ix3 0 r l) 1).val = 2048 * (grid0.coords t 2).val + r.val := by
    show win0_3.index t (1 : Fin 3) * 2048 + 1 * r.val = _; omega
  have f2 : (((cfg0.win 3).blk t).view.emb (ix3 0 r l) 2).val = 128 * (grid0.coords t 1).val + l.val := by
    show win0_3.index t (2 : Fin 3) * 128 + 1 * l.val = _; omega
  rw [f0, f1, f2]

/-! ## The run, the output's contents named -/

/-- The proof data: the inputs' buffers at their blocks, the output's at its block of the attention. -/
def named (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => targetBlk m c t
  Φ _ := Pipeline.ΦA spec0 c
  q _ := fullShare
  owed _ := 0

theorem named_A (c : Dev nD) (w : Fin cfg0.W) : (named m 0 c).A w = V m c (Pipeline.arrRef spec0 w) := by
  dsimp only [named]

theorem named_after0 (c : Dev nD) (t : Fin cfg0.N) : (named m 0 c).after 0 t = iblk m c 0 t := by dsimp only [named]
theorem named_after1 (c : Dev nD) (t : Fin cfg0.N) : (named m 0 c).after 1 t = iblk m c 1 t := by dsimp only [named]
theorem named_after2 (c : Dev nD) (t : Fin cfg0.N) : (named m 0 c).after 2 t = iblk m c 2 t := by dsimp only [named]
theorem named_after3 (c : Dev nD) (t : Fin cfg0.N) : (named m 0 c).after 3 t = targetBlk m c t := by dsimp only [named]

theorem named_before0 (c : Dev nD) (t : Fin cfg0.N) (d) : (named m 0 c).before 0 t d = iblk m c 0 t :=
  before0_0_of m (named m 0 c) (named_A m c 0) (named_after0 m c) t d
theorem named_before1 (c : Dev nD) (t : Fin cfg0.N) (d) : (named m 0 c).before 1 t d = iblk m c 1 t :=
  before0_1_of m (named m 0 c) (named_A m c 1) (named_after1 m c) t d
theorem named_before2 (c : Dev nD) (t : Fin cfg0.N) (d) : (named m 0 c).before 2 t d = iblk m c 2 t :=
  before0_2_of m (named m 0 c) (named_A m c 2) (named_after2 m c) t d

theorem named_body (c : Dev nD) (t : Fin cfg0.N) :
    iprop((named m 0 c).Φ t.castSucc ∗ (named m 0 c).owesAt () t.castSucc
      ∗ (∃ d, owns (c : Thread nD τ) (ms0_0 t) fullShare ((named m 0 c).before 0 t d))
      ∗ (∃ d, owns (c : Thread nD τ) (ms0_1 t) fullShare ((named m 0 c).before 1 t d))
      ∗ (∃ d, owns (c : Thread nD τ) (ms0_2 t) fullShare ((named m 0 c).before 2 t d))
      ∗ (∃ d, owns (c : Thread nD τ) (ms0_3 t) fullShare ((named m 0 c).before 3 t d)))
    ⊢ wp frame (wpE (defs₀ (F := Ideal)) Variants.none c none) Set.univ (bodyAt0 t) (fun _ =>
      iprop((named m 0 c).Φ t.succ ∗ (named m 0 c).owesAt () t.succ
        ∗ owns (c : Thread nD τ) (ms0_0 t) fullShare ((named m 0 c).after 0 t)
        ∗ owns (c : Thread nD τ) (ms0_1 t) fullShare ((named m 0 c).after 1 t)
        ∗ owns (c : Thread nD τ) (ms0_2 t) fullShare ((named m 0 c).after 2 t)
        ∗ owns (c : Thread nD τ) (ms0_3 t) fullShare ((named m 0 c).after 3 t))) := by
  simp only [named_before0, named_before1, named_before2]
  rw [show (named m 0 c).Φ t.succ = Pipeline.ΦA spec0 c from rfl, show (named m 0 c).Φ t.castSucc = Pipeline.ΦA spec0 c from rfl,
    show (named m 0 c).owesAt () t.succ = (named m 0 c).owesAt () t.castSucc from rfl,
    named_after0, named_after1, named_after2, named_after3]
  iintro ⟨HΦ, Ho, ⟨%d0, H0⟩, ⟨%d1, H1⟩, ⟨%d2, H2⟩, ⟨%d3, H3⟩⟩
  ihave Hw := (bodyRun m c t) $$ [HΦ H0 H1 H2 H3]
  · isplitl [HΦ]; · iexact HΦ
    isplitl [H0]; · iexact H0
    isplitl [H1]; · iexact H1
    isplitl [H2]; · iexact H2
    iexists _; iexact H3
  iapply wp_wand $$ Hw
  iintro %_u ⟨HΦ, H0, H1, H2, ⟨%g7, %g8, %g9, %g10, %e, H3⟩⟩
  rw [pieces_read m c t g7 g8 g9 g10 e]
  isplitl [HΦ]; · iexact HΦ
  isplitl [Ho]; · iexact Ho
  isplitl [H0]; · iexact H0
  isplitl [H1]; · iexact H1
  isplitl [H2]; · iexact H2
  iexact H3

theorem named_obligation (c : Dev nD) :
    BodyObligation (named m 0 c) (defs₀ (F := Ideal)) Variants.none () Set.univ := fun t => by
  rw [bigSep_W0, bigSep_W0, defs₀_row]
  exact triple_restated (named_body m c t) rfl .rfl fun _ => .rfl

set_option backward.isDefEq.respectTransparency.types false in
/-- Every execution terminates, with each array as the windows' write-backs leave it. -/
theorem named_run : θ_run defs (onTc (τ := τ) (main (F := Ideal))) ⟨m, fun _ => 0, ρ⟩
    (fun r => (Pipeline.FramePost cfgs (named m) 0 (V m)) r ∧ r.2.sem = fun _ => 0) :=
  Pipeline.θ_run_frame (Q' := _) cfgs (named m) (0 : Fin 1) launch0 defs₀ Variants.none m ρ main
    (hbody := fun c => (named_obligation m c).loose) (hshare := fun c => (named m 0 c).share_full fun _ => rfl)
    (howed := fun _ _ => rfl) (V := V m) (hmain := hmain m Variants.none) (hA := named_A m) (hΦ := fun _ _ => rfl)

theorem flushed_eq (c : Dev nD) (t : Fin cfg0.N) : (named m 0 c).flushed 3 t
    = ((cfg0.win 3).blk t).view.read (Elt Ideal) (target m c) := by
  show (cfg0.win 3).cut (grid0.coords t) ((named m 0 c).after 3 t) = _
  rw [named_after3]
  rfl

theorem point_at : ∀ (b : Fin 4) (p : Fin 2) (q : Fin 4), ∃ t : Fin cfg0.N, win0_3.index t (0 : Fin 3) = b.val
    ∧ win0_3.index t (1 : Fin 3) = q.val ∧ win0_3.index t (2 : Fin 3) = p.val := fun b p q =>
  ⟨⟨b.val * 8 + p.val * 4 + q.val, by show _ < grid0.N; have := N_0; omega⟩,
    (by decide +kernel : ∀ (b : Fin 4) (p : Fin 2) (q : Fin 4) (h : b.val * 8 + p.val * 4 + q.val < grid0.N),
      win0_3.index ⟨b.val * 8 + p.val * 4 + q.val, h⟩ (0 : Fin 3) = b.val
      ∧ win0_3.index ⟨b.val * 8 + p.val * 4 + q.val, h⟩ (1 : Fin 3) = q.val
      ∧ win0_3.index ⟨b.val * 8 + p.val * 4 + q.val, h⟩ (2 : Fin 3) = p.val) b p q _⟩

/-- Every index of the result is in some point's block. -/
theorem covered (i : S4x8192x256.Idx) :
    ∃ t : Fin cfg0.N, (cfg0.win 3).flush t = true ∧ i ∈ ((cfg0.win 3).blk t).view.set := by
  have l0 : (i 0).val < 4 := (i 0).isLt
  have l1 : (i 1).val < 8192 := (i 1).isLt
  have l2 : (i 2).val < 256 := (i 2).isLt
  obtain ⟨t, e0, e1, e2⟩ := point_at ⟨(i 0).val, l0⟩ ⟨(i 2).val / 128, by omega⟩ ⟨(i 1).val / 2048, by omega⟩
  refine ⟨t, flush0_3 t, ?_⟩
  have h := ((cfg0.win 3).blk t).view.emb_mem_set
    (ix3 (0 : Fin 1) (⟨(i 1).val % 2048, Nat.mod_lt _ (by decide)⟩ : Fin 2048) (⟨(i 2).val % 128, Nat.mod_lt _ (by decide)⟩ : Fin 128))
  have he : ((cfg0.win 3).blk t).view.emb
      (ix3 (0 : Fin 1) (⟨(i 1).val % 2048, Nat.mod_lt _ (by decide)⟩ : Fin 2048) (⟨(i 2).val % 128, Nat.mod_lt _ (by decide)⟩ : Fin 128))
      = i := by
    funext a
    refine Fin.ext ?_
    match a with
    | ⟨0, _⟩ => show win0_3.index t (0 : Fin 3) * 1 + 1 * 0 = (i 0).val; dsimp only at e0; omega
    | ⟨1, _⟩ => show win0_3.index t (1 : Fin 3) * 2048 + 1 * ((i 1).val % 2048) = (i 1).val; dsimp only at e1; omega
    | ⟨2, _⟩ => show win0_3.index t (2 : Fin 3) * 128 + 1 * ((i 2).val % 128) = (i 2).val; dsimp only at e2; omega
  rwa [he] at h

/-- The result array after the run. -/
theorem final (c : Dev nD) : (named m 0 c).arrAt 3 cfg0.N = attention (m ((c : Thread nD τ).loc main_arg0))
    (m ((c : Thread nD τ).loc main_arg1)) (m ((c : Thread nD τ).loc main_arg2)) :=
  ((named m 0 c).arrAt_eq_of_cover 3 (target m c) (fun t _ => flushed_eq m c t) covered).trans (by
    unfold target; rw [V_main_arg0, V_main_arg1])

/-- Every execution terminates with the result the attention of the arguments, which end unchanged. -/
theorem run_whole : θ_run defs (onTc (τ := τ) (main (F := Ideal))) ⟨m, fun _ => 0, ρ⟩ (fun r => ∀ c : Dev nD,
      r.2.mem ((c.tc : Thread nD τ).loc main_v2) = attention (m ((c : Thread nD τ).loc main_arg0))
        (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h.1 c).1 3).trans (final m c),
     ((h.1 c).1 0).trans (((named m 0 c).arrAt_in 0 rfl _).trans ((named_A m c 0).trans (V_main_arg0 m c))),
     ((h.1 c).1 1).trans (((named m 0 c).arrAt_in 1 rfl _).trans ((named_A m c 1).trans (V_main_arg1 m c))),
     ((h.1 c).2 main_arg2 (Pipeline.mem_restRefs_of main_arg2 (by decide) (by decide))).trans (V_main_arg2 m c)⟩)
    (named_run m ρ)

end Cert.Mla
end
-- ==== Proof.SoftRefer.lean ====
/- The softmax reference's result is the same function of the argument arrays, where queries and keys are numbers. -/
module

public import proofs.«01_k».proof.Proof.SoftArrays
public import proofs.«01_k».proof.Proof.Gen.Reference2Ideal.Read
public import Idealize.ShloMosaic.Lib.KernelVsHost

@[expose] public section

set_option maxRecDepth 16384

noncomputable section

namespace Cert.Mla

open Idealize.ShloMosaic Idealize.ShloMosaic.TcCoe Idealize.SL.Sem Idealize.ShloMosaic.StableHlo
open Cert.Reference2Ideal.Read

/-! ## Base e and base 2 -/

theorem ln2_pos : 0 < Real.log 2 := Real.log_pos (by norm_num)

/-- The natural log of two. -/
def lnTwo : EReal := ((Real.log 2 : ℝ) : EReal)

theorem lnTwo_nonneg : 0 ≤ lnTwo := EReal.coe_nonneg.2 ln2_pos.le
theorem bot_ln : (⊥ : EReal) * lnTwo = ⊥ := EReal.bot_mul_coe_of_pos ln2_pos
theorem top_ln : (⊤ : EReal) * lnTwo = ⊤ := EReal.top_mul_coe_of_pos ln2_pos

theorem exp_ln (x : EReal) : Ideal.exp (x * lnTwo) = Ideal.exp2 x := by
  induction x with
  | bot => rw [bot_ln]; rfl
  | top => rw [top_ln]; rfl
  | coe r =>
    unfold lnTwo
    rw [← EReal.coe_mul]
    refine congrArg (fun y : ℝ => (y : EReal)) ?_
    refine Eq.trans ?_ (Real.rpow_def_of_pos two_pos r).symm
    rw [mul_comm]

theorem sub_ln {x y : EReal} (hx : x ≠ ⊤) (hy : y ≠ ⊤) (hy' : y ≠ ⊥) : x * lnTwo - y * lnTwo = (x - y) * lnTwo := by
  lift y to ℝ using ⟨hy, hy'⟩
  induction x with
  | bot => rw [bot_ln, EReal.bot_sub, EReal.bot_sub, bot_ln]
  | top => exact absurd rfl hx
  | coe r =>
    unfold lnTwo
    rw [← EReal.coe_mul, ← EReal.coe_mul, ← EReal.coe_sub, ← EReal.coe_sub, ← EReal.coe_mul]
    exact congrArg (fun y : ℝ => (y : EReal)) (by ring)

theorem sup_ln (t : ℕ → EReal) (n : ℕ) : ((Finset.range n).sup fun j => t j * lnTwo) = top t n * lnTwo :=
  (Finset.comp_sup_eq_sup_comp_of_is_total (fun x : EReal => x * lnTwo)
    (fun _ _ h => mul_le_mul_of_nonneg_right h lnTwo_nonneg) bot_ln).symm

theorem sup_fin (n : ℕ) (f : ℕ → EReal) : (Finset.univ.sup fun j : Fin n => f j.val) = (Finset.range n).sup f :=
  le_antisymm (Finset.sup_le fun j _ => Finset.le_sup (Finset.mem_range.2 j.isLt))
    (Finset.sup_le fun j hj => Finset.le_sup (f := fun j : Fin n => f j.val) (Finset.mem_univ ⟨j, Finset.mem_range.1 hj⟩))

/-! ## The weights' sum is not zero -/

section Scores
variable {t : ℕ → EReal} (ht : ∀ j, t j ≠ ⊤) (h0 : t 0 ≠ ⊥)
include ht h0

theorem top_ne_bot {n : ℕ} (hn : 0 < n) : top t n ≠ ⊥ := fun h =>
  h0 (le_bot_iff.1 (h ▸ le_top hn))

theorem top_ne_top (n : ℕ) : top t n ≠ ⊤ := by
  refine ne_of_lt ((Finset.sup_lt_iff (bot_lt_top)).2 fun j _ => lt_top_iff_ne_top.2 (ht j))

theorem ones_ne_zero {n : ℕ} (hn : 0 < n) : acc t (fun _ => 1) n ≠ 0 := by
  refine ne_of_gt (lt_of_lt_of_le ?_ (Finset.single_le_sum (f := fun j => (1 : EReal) * Ideal.exp2 (t j - top t n))
    (fun j _ => by rw [one_mul]; exact exp2_nonneg _) (Finset.mem_range.2 hn)))
  show 0 < (1 : EReal) * Ideal.exp2 (t 0 - top t n)
  have hb := top_ne_bot ht h0 hn
  have hp := top_ne_top ht h0 n
  have hx := ht 0
  generalize top t n = m at hb hp
  generalize t 0 = x at h0 hx
  lift m to ℝ using ⟨hp, hb⟩
  lift x to ℝ using ⟨hx, h0⟩
  rw [one_mul, ← EReal.coe_sub]
  exact EReal.coe_pos.2 (Real.rpow_pos_of_pos two_pos _)

/-- Dividing each weight, or the whole sum, is the same. -/
theorem divided {n : ℕ} (hn : 0 < n) (v : ℕ → EReal) :
    (∑ j ∈ Finset.range n, Ideal.div (Ideal.exp2 (t j - top t n)) (acc t (fun _ => 1) n) * v j)
      = Ideal.div (acc t v n) (acc t (fun _ => 1) n) := by
  have hd := ones_ne_zero ht h0 hn
  have hp : 0 ≤ acc t (fun _ => 1) n := Finset.sum_nonneg fun j _ => by rw [one_mul]; exact exp2_nonneg _
  generalize hD : acc t (fun _ => 1) n = D at hd hp
  have hi : D⁻¹ ≠ ⊤ := by
    clear hD hd hp
    induction D with
    | bot => rw [EReal.inv_bot]; exact EReal.zero_ne_top
    | top => rw [EReal.inv_top]; exact EReal.zero_ne_top
    | coe r => rw [← EReal.coe_inv]; exact EReal.coe_ne_top _
  have hdiv : ∀ x, Ideal.div x D = x * D⁻¹ := fun x => if_neg hd
  rw [hdiv, mul_comm, acc, mul_sum_of_nonneg (EReal.inv_nonneg_of_nonneg hp) hi]
  refine Finset.sum_congr rfl fun j _ => ?_
  rw [hdiv, mul_comm (v j), mul_assoc, mul_left_comm]

end Scores

/-! ## The operations at an index -/

/-- The index space of the scores: four sequences, four heads, rows, keys. -/
abbrev Scores : Shape := Cert.Reference2Ideal.S4x4x8192x8192
abbrev Rows : Shape := Cert.Reference2Ideal.S4x4x8192

theorem toInt_small {n : ℕ} (h : n < 8192) : (BitVec.ofNat 32 n).toInt = n := by
  rw [BitVec.toInt_eq_toNat_of_lt (by rw [BitVec.toNat_ofNat, Nat.mod_eq_of_lt (by omega)]; omega), BitVec.toNat_ofNat,
    Nat.mod_eq_of_lt (by omega)]

theorem two_bits : Ideal.ofBits .f32 0x40000000#32 = ((2 : ℝ) : EReal) := by
  simp [Ideal.ofBits, Ideal.ieee, -EReal.coe_mul]; norm_num

/-- The mask: keys up to the row's own. -/
theorem upto_at (i : Cert.Reference2Ideal.S8192x8192.Idx) :
    val_main_v16 (F := Ideal) i = if (i 1).val ≤ (i 0).val then (1 : BitVec 1) else 0 := by
  have h0 : (i 0).val < 8192 := (i 0).isLt
  have h1 : (i 1).val < 8192 := (i 1).isLt
  rw [val_main_v16_apply, val_main_v14_apply, val_main_v15_apply, val_main_v12_apply, val_main_v13_apply, val_main_v7_apply,
    val_main_v7_apply]
  show BitVec.ofBool (decide ((BitVec.ofNat 32 (i 1).val).toInt ≤ (BitVec.ofNat 32 (i 0).val).toInt)) = _
  rw [toInt_small h0, toInt_small h1]
  by_cases h : (i 1).val ≤ (i 0).val
  · rw [if_pos h, decide_eq_true (Int.ofNat_le.2 h)]; rfl
  · rw [if_neg h, decide_eq_false fun e => h (Int.ofNat_le.1 e)]; rfl

section Arrays
variable (q : Queries) (k : Keys) (v : Values)

theorem query_at (i : Cert.Reference2Ideal.S4x4x8192x128.Idx) :
    val_main_v1 (F := Ideal) q i = qAt q (i 0).val (i 1).val ⟨(i 3).val, (i 3).isLt⟩ (i 2).val := by
  rw [val_main_v1_apply, val_main_v0_apply]
  exact q_of q (idx_main_v1 i) rfl rfl rfl rfl

theorem key_at (i : Cert.Reference2Ideal.S4x4x8192x128.Idx) :
    val_main_v6 (F := Ideal) k i = kAt k (i 0).val (i 2).val (128 * (i 1).val + (i 3).val) := by
  have h0 : (i 0).val < 4 := (i 0).isLt
  have h1 : (i 1).val < 4 := (i 1).isLt
  have h2 : (i 2).val < 8192 := (i 2).isLt
  have h3 : (i 3).val < 128 := (i 3).isLt
  rw [val_main_v6_apply, val_main_v5_apply, val_main_v4_apply]
  refine k_of k _ ?_ ?_ ?_
  · show ((((i 0).val * 8192 + (i 2).val) * 4 + (i 1).val) * 128 + (i 3).val) / 4194304 = _; omega
  · show ((((i 0).val * 8192 + (i 2).val) * 4 + (i 1).val) * 128 + (i 3).val) / 512 % 8192 = _; omega
  · show ((((i 0).val * 8192 + (i 2).val) * 4 + (i 1).val) * 128 + (i 3).val) % 512 = _; omega

theorem value_at (i : Cert.Reference2Ideal.S4x4x8192x64.Idx) :
    val_main_v3 (F := Ideal) v i = vAt v (i 0).val (i 1).val (i 3).val (i 2).val := by
  rw [val_main_v3_apply, val_main_v2_apply]
  exact v_of v (idx_main_v3 i) rfl rfl rfl rfl

theorem product_at (i : Scores.Idx) : val_main_v8 (F := Ideal) q k i = logit q k (i 0).val (i 1).val (i 2).val (i 3).val := by
  rw [val_main_v8_apply]
  refine Finset.sum_congr rfl fun l _ => ?_
  rw [query_at, key_at, mul_comm]

/-- The scores a row sees. -/
abbrev T (i : Scores.Idx) : ℕ → EReal := seen q k (i 0).val (i 1).val (i 2).val

theorem score_at (i : Scores.Idx) : val_main_v17 (F := Ideal) q k i = T q k i (i 3).val * lnTwo := by
  rw [val_main_v17_apply, val_main_call0_v1_apply, val_main_v11_apply, product_at, val_main_v10_apply, val_main_v9_apply,
    val_main_cst_apply, val_main_call0_v2_apply, val_main_call0_v0_apply, val_main_cst_0_apply]
  have hl : Ideal.log (Ideal.ofBits .f32 0x40000000#32) = lnTwo := by
    rw [two_bits]
    exact if_neg (not_le.2 two_pos)
  refine (congrArg₂ (fun b y => Scalar.select b (logit q k (i 0).val (i 1).val (i 2).val (i 3).val * y)
    (FloatOps.ofBits .f32 0xFF800000#32 : Ideal .f32)) (upto_at (idx_main_call0_v1 i)) hl).trans ?_
  unfold T seen upTo
  by_cases h : (i 3).val ≤ (i 2).val
  · rw [if_pos (show (i 3).val ≤ 0 + (i 2).val by omega)]
    exact congrArg (fun b => Scalar.select b _ _) (if_pos h)
  · rw [if_neg (show ¬ (i 3).val ≤ 0 + (i 2).val by omega), bot_ln]
    exact (congrArg (fun b => Scalar.select b _ _) (if_neg h)).trans ofBits_neg_inf

theorem rowMax_reduces : Scores.Reduces [3] Rows := by decide

/-- The maximum over the keys, from minus infinity. -/
theorem rowMax_at (x : FVec Ideal Scores .f32) (f : Rows.Idx → ℕ → EReal)
    (hx : ∀ j : Scores.Idx, x j = f (ix3 (j 0) (j 1) (j 2)) (j 3).val) (i : Rows.Idx) :
    Host.reduce FloatOps.maximumf x (constant Cert.Reference2Ideal.S_ .f32 0xFF800000#32)
      Cert.Reference2Ideal.Gen.reducesTo_S4x4x8192x8192_S4x4x8192_d3 Cert.Reference2Ideal.Gen.h_S_ i
      = (Finset.range 8192).sup (f i) := by
  rw [hostReduce_maximumf_eq_multiReduction x 0xFF800000#32 Cert.Reference2Ideal.Gen.reducesTo_S4x4x8192x8192_S4x4x8192_d3
    Cert.Reference2Ideal.Gen.h_S_ rowMax_reduces (.inl rfl) rfl]
  refine (Ideal.multiReduction_maximumf_single x _ rowMax_reduces (.inl rfl) rfl i).trans ?_
  rw [show (FloatOps.ofBits .f32 (FKind.maximumf.neutral .f32 (.inl rfl)) : Ideal .f32) = (⊥ : EReal) from ofBits_neg_inf,
    ← sup_fin 8192 (f i)]
  refine Finset.sup_congr rfl fun j _ => ?_
  refine (hx _).trans (congrArg₂ f (funext fun c => ?_) rfl)
  match c with
  | ⟨0, _⟩ => rfl
  | ⟨1, _⟩ => rfl
  | ⟨2, _⟩ => rfl

theorem max_at (i : Rows.Idx) :
    val_main_v18 (F := Ideal) q k i = top (seen q k (i 0).val (i 1).val (i 2).val) 8192 * lnTwo :=
  (rowMax_at (val_main_v17 (F := Ideal) q k) (fun i j => seen q k (i 0).val (i 1).val (i 2).val j * lnTwo)
    (score_at q k) i).trans (sup_ln _ _)

theorem peak_at (i : Scores.Idx) : val_main_v22 (F := Ideal) q k i = top (T q k i) 8192 * lnTwo := by
  rw [val_main_v22_apply, val_main_v21_apply, val_main_v20_apply, max_at, val_main_v19_apply, val_main_cst_2_apply]
  refine (congrArg (fun x : EReal => max x _) ofBits_neg_inf).trans ?_
  exact max_eq_right bot_le

variable (hz : ∀ b h row j, ∃ r : ℝ, logit q k b h row j = (r : EReal))
include hz

theorem seen_ne_top (b h row j : ℕ) : seen q k b h row j ≠ ⊤ := by
  unfold seen upTo
  obtain ⟨r, hr⟩ := hz b h row j
  split_ifs
  · rw [hr]; exact EReal.coe_ne_top r
  · exact bot_ne_top

theorem seen_zero (b h row : ℕ) : seen q k b h row 0 ≠ ⊥ := by
  unfold seen upTo
  obtain ⟨r, hr⟩ := hz b h row 0
  rw [if_pos (Nat.zero_le _), hr]
  exact EReal.coe_ne_bot r

theorem weight_at (i : Scores.Idx) :
    val_main_v24 (F := Ideal) q k i = Ideal.exp2 (T q k i (i 3).val - top (T q k i) 8192) := by
  rw [val_main_v24_apply, val_main_v23_apply, score_at, peak_at]
  show Ideal.exp (T q k i (i 3).val * lnTwo - top (T q k i) 8192 * lnTwo) = _
  rw [sub_ln (seen_ne_top q k hz _ _ _ _) (top_ne_top (seen_ne_top q k hz _ _ _) (seen_zero q k hz _ _ _) _)
    (top_ne_bot (seen_ne_top q k hz _ _ _) (seen_zero q k hz _ _ _) (by decide)), exp_ln]

theorem total_at (i : Rows.Idx) :
    val_main_v25 (F := Ideal) q k i = acc (seen q k (i 0).val (i 1).val (i 2).val) (fun _ => 1) 8192 := by
  rw [val_main_v25_apply, val_main_cst_3_apply]
  refine (congrArg (fun x : EReal => x + _) Ideal.ofBits_zero_f32).trans ((zero_add _).trans ?_)
  unfold acc
  rw [← Fin.sum_univ_eq_sum_range (fun j => (1 : EReal) * Ideal.exp2 (seen q k (i 0).val (i 1).val (i 2).val j
    - top (seen q k (i 0).val (i 1).val (i 2).val) 8192)) 8192]
  refine Finset.sum_congr rfl fun j _ => ?_
  rw [weight_at q k hz, one_mul]

theorem share_at (i : Scores.Idx) : val_main_v28 (F := Ideal) q k i
    = Ideal.div (Ideal.exp2 (T q k i (i 3).val - top (T q k i) 8192)) (acc (T q k i) (fun _ => 1) 8192) := by
  rw [val_main_v28_apply, weight_at q k hz, val_main_v27_apply, val_main_v26_apply, total_at q k hz]
  rfl

/-- The reference, at an index. -/
theorem refer_eq : val_main_v32 (F := Ideal) q k v = attention q k v := by
  funext i
  have h0 : (i 0).val < 4 := (i 0).isLt
  have h1 : (i 1).val < 8192 := (i 1).isLt
  have h2 : (i 2).val < 256 := (i 2).isLt
  have g0 : (((i 0).val * 8192 + (i 1).val) * 256 + (i 2).val) / 2097152 = (i 0).val := by omega
  have g1 : (((i 0).val * 8192 + (i 1).val) * 256 + (i 2).val) / 256 % 8192 = (i 1).val := by omega
  have g2 : (((i 0).val * 8192 + (i 1).val) * 256 + (i 2).val) / 64 % 4 = (i 2).val / 64 := by omega
  have g3 : (((i 0).val * 8192 + (i 1).val) * 256 + (i 2).val) % 64 = (i 2).val % 64 := by omega
  rw [val_main_v32_apply, val_main_v31_apply, val_main_v30_apply, val_main_v29_apply]
  show (∑ n : Fin 8192, _) = attend q k v (i 0).val ((i 2).val / 64) (i 1).val ((i 2).val % 64)
  unfold attend
  rw [← divided (seen_ne_top q k hz _ _ _) (seen_zero q k hz _ _ _) (by decide),
    ← Fin.sum_univ_eq_sum_range (fun n => Ideal.div (Ideal.exp2 (seen q k (i 0).val ((i 2).val / 64) (i 1).val n
      - top (seen q k (i 0).val ((i 2).val / 64) (i 1).val) 8192))
      (acc (seen q k (i 0).val ((i 2).val / 64) (i 1).val) (fun _ => 1) 8192)
      * vAt v (i 0).val ((i 2).val / 64) ((i 2).val % 64) n) 8192]
  refine Finset.sum_congr rfl fun n _ => ?_
  rw [share_at q k hz, value_at]
  show Ideal.div (Ideal.exp2 (seen q k ((((i 0).val * 8192 + (i 1).val) * 256 + (i 2).val) / 2097152)
      ((((i 0).val * 8192 + (i 1).val) * 256 + (i 2).val) / 64 % 4) ((((i 0).val * 8192 + (i 1).val) * 256 + (i 2).val) / 256 % 8192) n.val
      - top (seen q k ((((i 0).val * 8192 + (i 1).val) * 256 + (i 2).val) / 2097152) ((((i 0).val * 8192 + (i 1).val) * 256 + (i 2).val) / 64 % 4)
        ((((i 0).val * 8192 + (i 1).val) * 256 + (i 2).val) / 256 % 8192)) 8192))
      (acc (seen q k ((((i 0).val * 8192 + (i 1).val) * 256 + (i 2).val) / 2097152) ((((i 0).val * 8192 + (i 1).val) * 256 + (i 2).val) / 64 % 4)
        ((((i 0).val * 8192 + (i 1).val) * 256 + (i 2).val) / 256 % 8192)) (fun _ => 1) 8192)
      * vAt v ((((i 0).val * 8192 + (i 1).val) * 256 + (i 2).val) / 2097152) ((((i 0).val * 8192 + (i 1).val) * 256 + (i 2).val) / 64 % 4)
        ((((i 0).val * 8192 + (i 1).val) * 256 + (i 2).val) % 64) n.val = _
  rw [g0, g1, g2, g3]

end Arrays
end Cert.Mla
end
-- ==== Proof.SoftClaims.lean ====
/- The softmax attention's claims: what each program leaves unchanged, and the equality of the two results. -/
module

public import proofs.«01_k».proof.Defs
public import proofs.«01_k».proof.Proof.SoftWhole
public import proofs.«01_k».proof.Proof.SoftRefer
public import proofs.«01_k».proof.Proof.SoftFrameBits
public import Idealize.ShloMosaic.Adequacy
public import Idealize.ShloMosaic.Init

@[expose] public section

noncomputable section

namespace Cert.Mla

open Idealize.ShloMosaic Idealize.ShloMosaic.TcCoe Idealize.SL.Sem

/-- The shapes that the precondition's operations ask for. -/
theorem preFacts : Cert.Pre_finite2.Facts := ⟨by decide, by decide⟩

theorem keeps_kernel : Cert.quiescent_Kernel2 := fun m ρ _ => Cert.MlaBits.keeps m ρ

theorem keeps_kernelIdeal : Cert.quiescent_Kernel2Ideal := fun m ρ _ => keeps m ρ

theorem keeps_kernelIdeal_pre : Cert.quiescent_Kernel2Ideal_pre_finite2 (hPre_finite2 := preFacts) := fun m ρ _ => keeps m ρ

/-- The reference has no semaphores, so none can end above zero. -/
theorem keeps_reference : Cert.quiescent_Reference2Ideal := fun m ρ _ =>
  (θ_run Cert.Reference2Ideal.defs _ _).mono
    (fun r h => And.intro (fun c => (h c).2) (sem_eq_zero_of_no_sems (by decide) r.2))
    (Cert.Reference2Ideal.Value.run (F := Ideal) m ρ)

theorem keeps_reference_pre : Cert.quiescent_Reference2Ideal_pre_finite2 (hPre_finite2 := preFacts) := fun m ρ _ =>
  (θ_run Cert.Reference2Ideal.defs _ _).mono
    (fun r h => And.intro (fun c => (h c).2) (sem_eq_zero_of_no_sems (by decide) r.2))
    (Cert.Reference2Ideal.Value.run (F := Ideal) m ρ)

/-- No constant of this kernel was renamed. -/
theorem constants : Cert.preserves_Kernel2_Kernel2Ideal := trivial

/-! ## The precondition -/

theorem inf_bits : Ideal.ofBits .bf16 0x7F80#16 = (⊤ : EReal) := by
  simp [Ideal.ofBits, Ideal.ieee]

theorem between {x : EReal} (h : BitVec.ofBool (decide (-Ideal.ofBits .bf16 0x7F80#16 < x))
    &&& BitVec.ofBool (decide (x < Ideal.ofBits .bf16 0x7F80#16)) = 1#1) : ∃ r : ℝ, x = (r : EReal) := by
  rw [inf_bits, EReal.neg_top] at h
  by_cases h1 : ⊥ < x
  · by_cases h2 : x < ⊤
    · lift x to ℝ using ⟨h2.ne, h1.ne'⟩
      exact ⟨x, rfl⟩
    · rw [decide_eq_false h2, decide_eq_true h1] at h
      exact absurd h (by decide)
  · rw [decide_eq_false h1] at h
    by_cases h2 : x < ⊤
    · rw [decide_eq_true h2] at h
      exact absurd h (by decide)
    · rw [decide_eq_false h2] at h
      exact absurd h (by decide)

/-- The scores are numbers, where the queries and the keys are. -/
theorem logit_real (q : Queries) (k : Keys) (hq : ∀ i, ∃ r : ℝ, q i = (r : EReal)) (hk : ∀ i, ∃ r : ℝ, k i = (r : EReal))
    (b h row j : ℕ) : ∃ r : ℝ, logit q k b h row j = (r : EReal) := by
  refine Finset.sum_induction _ (fun x : EReal => ∃ r : ℝ, x = (r : EReal)) ?_ ⟨0, rfl⟩ fun l _ => ?_
  · rintro _ _ ⟨r, rfl⟩ ⟨s, rfl⟩
    exact ⟨r + s, (EReal.coe_add r s).symm⟩
  · obtain ⟨r, hr⟩ := hk (ix3 ⟨b % 4, Nat.mod_lt _ (by decide)⟩ ⟨j % 8192, Nat.mod_lt _ (by decide)⟩
      ⟨(128 * h + l.val) % 512, Nat.mod_lt _ (by decide)⟩)
    obtain ⟨s, hs⟩ := hq (ix4 ⟨b % 4, Nat.mod_lt _ (by decide)⟩ ⟨h % 4, Nat.mod_lt _ (by decide)⟩ l
      ⟨row % 8192, Nat.mod_lt _ (by decide)⟩)
    exact ⟨r * s, (congrArg₂ (· * ·) hr hs).trans (EReal.coe_mul r s).symm⟩

/-- Both results are the attention of the arguments. -/
theorem results : Cert.algebraic_Kernel2Ideal_Reference2Ideal_pre_finite2 (hPre_finite2 := preFacts) :=
  fun m ρ m' ρ' hpre hag =>
  ⟨fun c => attention (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2)),
    run_whole m ρ,
    (θ_run Cert.Reference2Ideal.defs _ _).mono
      (fun r h c => And.intro ((h c).1.trans ((Cert.Reference2Ideal.Read.val_main_v32_eq m' c).trans (by
        rw [(hag c).1, (hag c).2.1, (hag c).2.2]
        exact refer_eq _ _ _ (logit_real _ _ (fun i => between (congrFun (hpre c).1 i))
          (fun i => between (congrFun (hpre c).2 i)))))) (h c).2)
      (Cert.Reference2Ideal.Value.run (F := Ideal) m' ρ')⟩

end Cert.Mla
end
-- ==== Proof.FoxRun.lean ====
/- The softmax attention kernel's body, run on any staging buffers and any contents of its scratch (its idealization). -/
module

public import proofs.«01_k».proof.Proof.Gen.Kernel3Ideal.Frame
public import proofs.«01_k».proof.Proof.Gen.Kernel3Ideal.Skeleton
public import proofs.«01_k».proof.Proof.Gen.Kernel3Ideal.Loops
public import proofs.«01_k».proof.Proof.Gen.Kernel3Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

set_option maxHeartbeats 2000000 in
/-- What the body's stores leave in the output's staging buffer, with the triple that says so: the inputs stay as they
    were, the scratch is left at some contents. The pieces may depend on what the scratch held. -/
noncomputable def foxRun (c : Dev nD) (i : grid0.Coords) (arg3 : Memref sig .tc .vmem S1x1x256x2048 .bf16) (harg3 : arg3.IsWhole)
    (arg4 : Memref sig .tc .vmem S1x8192x256 .bf16) (harg4 : arg4.IsWhole)
    (arg5 : Memref sig .tc .vmem S1x2x80x8192 .bf16) (harg5 : arg5.IsWhole)
    (arg6 : Memref sig .tc .vmem S1x2048x128 .bf16) (harg6 : arg6.IsWhole)
    (arg7 : Memref sig .tc .vmem S2x256x2048 .bf16) (harg7 : arg7.IsWhole)
    (arg8 : Memref sig .tc .vmem S2x2x512x2048 .f32) (harg8 : arg8.IsWhole)
    (arg9 : Memref sig .tc .vmem S2x1x2048 .f32) (harg9 : arg9.IsWhole)
    (arg10 : Memref sig .tc .vmem S2x80x2048 .f32) (harg10 : arg10.IsWhole)
    (x0 : Vec F S1x1x256x2048 .bf16) (x1 : Vec F S1x8192x256 .bf16) (x2 : Vec F S1x2x80x8192 .bf16)
    (g7 : BufTy.Contents (Elt F) arg7.view.ty) (g8 : BufTy.Contents (Elt F) arg8.view.ty) (g9 : BufTy.Contents (Elt F) arg9.view.ty) (g10 : BufTy.Contents (Elt F) arg10.view.ty) :
    { L3 : List (View.Piece (Elt F) S1x2048x128 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d)
            ∗ (arg7.view.loc (c : Thread nD τ) ↦[arg7.view.set]{fullShare} g7)
            ∗ (arg8.view.loc (c : Thread nD τ) ↦[arg8.view.set]{fullShare} g8)
            ∗ (arg9.view.loc (c : Thread nD τ) ↦[arg9.view.set]{fullShare} g9)
            ∗ (arg10.view.loc (c : Thread nD τ) ↦[arg10.view.set]{fullShare} g10)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ d, owns (c : Thread nD τ) arg7 fullShare d) ∗ (∃ d, owns (c : Thread nD τ) arg8 fullShare d)
                ∗ (∃ d, owns (c : Thread nD τ) arg9 fullShare d) ∗ (∃ d, owns (c : Thread nD τ) arg10 fullShare d)) -∗ K ⟨⟩))
          ⊢ wp frame (wpE (defs₀ (F := F)) Variants.none c none) E
              (cc0_fox_attn i arg3 harg3 arg4 harg4 arg5 harg5 arg6 harg6 arg7 harg7 arg8 harg8 arg9 harg9 arg10 harg10) K } := by
  refine ⟨?_, fun E K => ?run⟩
  case run =>
    simp only [cc0_fox_attn_eq_skeleton]; unfold cc0_fox_attn_skel
    simp only [k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton]
    unfold owns
    iintro ⟨⟨%f0, %hf0, H0⟩, ⟨%f1, %hf1, H1⟩, ⟨%f2, %hf2, H2⟩, ⟨%d3, %f3, -, H3⟩, HS0, HS1, HS2, HS3, Hk⟩
    obtain rfl := harg3.eq_unread hf0; obtain rfl := harg4.eq_unread hf1; obtain rfl := harg5.eq_unread hf2
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Fox

end
-- ==== Proof.FoxFrame.lean ====
/- The softmax attention kernel runs, and its arguments end unchanged (its idealization). -/
module

public import proofs.«01_k».proof.Proof.FoxRun
public import proofs.«01_k».proof.Proof.Gen.Kernel3Ideal.Launch
public import Idealize.ShloMosaic.Lib.Claim

@[expose] public section

set_option maxRecDepth 16384

noncomputable section

namespace Cert.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev scM0_0 : Memref sig .tc .vmem S2x256x2048 .bf16 := Memref.whole cc0_scratch0
abbrev scM0_1 : Memref sig .tc .vmem S2x2x512x2048 .f32 := Memref.whole cc0_scratch1
abbrev scM0_2 : Memref sig .tc .vmem S2x1x2048 .f32 := Memref.whole cc0_scratch2
abbrev scM0_3 : Memref sig .tc .vmem S2x80x2048 .f32 := Memref.whole cc0_scratch3
abbrev ms0_0 (t : Fin cfg0.N) : Memref sig .tc .vmem S1x1x256x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8192x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2x80x8192 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048x128 .bf16 := win0_3.stage (cfg0.slots t 3)
abbrev hs0_3 (t : Fin cfg0.N) : (ms0_3 t).IsWhole := hstage0_3 ((cfg0.slots t 3).cast nbuf0_3)

/-- The invariant: the scratch buffers at some contents, and the generator's register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-- A memref owned at some contents, as its buffer. -/
theorem opened {sp : Space} {s : Shape} {e : EltTy} (c : Dev nD) (M : Memref sig .tc sp s e) (d : Vec F s e) :
    (owns (c : Thread nD τ) M fullShare d : sProp 𝕄)
      ⊢ iprop(∃ f, M.view.loc (c : Thread nD τ) ↦[M.view.set]{fullShare} f) := by
  unfold owns
  iintro ⟨%f, -, H⟩
  iexists f
  iexact H

/-- And back. -/
theorem closed {sp : Space} {s : Shape} {e : EltTy} (c : Dev nD) (M : Memref sig .tc sp s e) (f : BufTy.Contents (Elt F) M.view.ty) :
    (iprop(M.view.loc (c : Thread nD τ) ↦[M.view.set]{fullShare} f) : sProp 𝕄)
      ⊢ owns (c : Thread nD τ) M fullShare (M.view.read (Elt F) f) := by
  unfold owns
  iintro H
  iexists f
  isplitr
  · ipureintro; rfl
  iexact H

/-- The pieces that the body stores at point `t`, the scratch found at `g7` … `g10`. -/
def piecesAt (c : Dev nD) (t : Fin cfg0.N) (g7 : BufTy.Contents (Elt F) scM0_0.view.ty) (g8 : BufTy.Contents (Elt F) scM0_1.view.ty)
    (g9 : BufTy.Contents (Elt F) scM0_2.view.ty) (g10 : BufTy.Contents (Elt F) scM0_3.view.ty) : List (View.Piece (Elt F) S1x2048x128 .bf16) :=
  (foxRun c (grid0.coords t) (ms0_0 t) (hs0_0 t) (ms0_1 t) (hs0_1 t) (ms0_2 t) (hs0_2 t) (ms0_3 t) (hs0_3 t)
    scM0_0 (Memref.isWhole_whole _) scM0_1 (Memref.isWhole_whole _) scM0_2 (Memref.isWhole_whole _) scM0_3 (Memref.isWhole_whole _)
    (iblk m c 0 t) (iblk m c 1 t) (iblk m c 2 t) g7 g8 g9 g10).1

set_option maxHeartbeats 1600000 in
/-- The body at point `t`, its inputs at their blocks: the output ends with the pieces stored over whatever was there. -/
theorem bodyRun (c : Dev nD) (t : Fin cfg0.N) :
    (iprop((Pipeline.ΦA spec0 c : sProp 𝕄)
        ∗ owns (c : Thread nD τ) (ms0_0 t) fullShare (iblk m c 0 t)
        ∗ owns (c : Thread nD τ) (ms0_1 t) fullShare (iblk m c 1 t)
        ∗ owns (c : Thread nD τ) (ms0_2 t) fullShare (iblk m c 2 t)
        ∗ (∃ d, owns (c : Thread nD τ) (ms0_3 t) fullShare d)) : sProp 𝕄)
      ⊢ wp frame (wpE (defs₀ (F := F)) Variants.none c none) Set.univ (bodyAt0 t) (fun _ =>
        iprop(Pipeline.ΦA spec0 c
          ∗ owns (c : Thread nD τ) (ms0_0 t) fullShare (iblk m c 0 t)
          ∗ owns (c : Thread nD τ) (ms0_1 t) fullShare (iblk m c 1 t)
          ∗ owns (c : Thread nD τ) (ms0_2 t) fullShare (iblk m c 2 t)
          ∗ (∃ (g7 : BufTy.Contents (Elt F) scM0_0.view.ty) (g8 : BufTy.Contents (Elt F) scM0_1.view.ty)
              (g9 : BufTy.Contents (Elt F) scM0_2.view.ty) (g10 : BufTy.Contents (Elt F) scM0_3.view.ty)
              (e : BufTy.Contents (Elt F) (ms0_3 t).view.ty),
              owns (c : Thread nD τ) (ms0_3 t) fullShare
                ((ms0_3 t).view.read (Elt F) ((ms0_3 t).view.writes (Elt F) e (piecesAt m c t g7 g8 g9 g10)))))) := by
  unfold bodyAt0
  rw [PhiA0_eq]
  iintro ⟨⟨⟨HS0, HS1, HS2, HS3⟩, Hg⟩, H0, H1, H2, H3⟩
  icases HS0 with ⟨%e0, HS0⟩
  ihave HS0 := (opened c _ e0) $$ HS0
  icases HS0 with ⟨%g7, HS0⟩
  icases HS1 with ⟨%e1, HS1⟩
  ihave HS1 := (opened c _ e1) $$ HS1
  icases HS1 with ⟨%g8, HS1⟩
  icases HS2 with ⟨%e2, HS2⟩
  ihave HS2 := (opened c _ e2) $$ HS2
  icases HS2 with ⟨%g9, HS2⟩
  icases HS3 with ⟨%e3, HS3⟩
  ihave HS3 := (opened c _ e3) $$ HS3
  icases HS3 with ⟨%g10, HS3⟩
  iapply ((foxRun c (grid0.coords t) (ms0_0 t) (hs0_0 t) (ms0_1 t) (hs0_1 t) (ms0_2 t) (hs0_2 t) (ms0_3 t) (hs0_3 t)
    scM0_0 (Memref.isWhole_whole _) scM0_1 (Memref.isWhole_whole _) scM0_2 (Memref.isWhole_whole _) scM0_3 (Memref.isWhole_whole _)
    (iblk m c 0 t) (iblk m c 1 t) (iblk m c 2 t) g7 g8 g9 g10).2 Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  isplitl [HS3]; · iexact HS3
  iintro ⟨H0, H1, H2, ⟨%e3, H3⟩, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [H0]; · iexact H0
  isplitl [H1]; · iexact H1
  isplitl [H2]; · iexact H2
  iexists g7, g8, g9, g10, e3
  iapply (closed c (ms0_3 t) _)
  iexact H3

/-! ## The frame: the output's contents are left unnamed -/

/-- The proof data: the arrays as the region finds them, the inputs' buffers at their blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Dat.unnamed (cfg := cfg0) ⟨3, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The window whose contents are left unnamed. -/
def unnamedOut : Fin cfg0.W → Bool := fun w => match w with
  | ⟨0, _⟩ => false
  | ⟨1, _⟩ => false
  | ⟨2, _⟩ => false
  | ⟨3, _⟩ => true

/-- The body table's row at point `t` is the body. -/
theorem defs₀_row (t : Fin cfg0.N) :
    defs₀ (F := F) .tc cfg0.body (cfg0.bodyArgs t (cfg0.slots t)) = bodyAt0 t := by
  unfold defs₀; rw [Defs.onTc_tc]

theorem sound_body (c : Dev nD) (t : Fin cfg0.N) :
    iprop((dats m 0 c).Φ t.castSucc ∗ (dats m 0 c).owesAt () t.castSucc
      ∗ (∃ d, owns (c : Thread nD τ) (ms0_0 t) fullShare ((dats m 0 c).before 0 t d))
      ∗ (∃ d, owns (c : Thread nD τ) (ms0_1 t) fullShare ((dats m 0 c).before 1 t d))
      ∗ (∃ d, owns (c : Thread nD τ) (ms0_2 t) fullShare ((dats m 0 c).before 2 t d))
      ∗ (∃ d, owns (c : Thread nD τ) (ms0_3 t) fullShare d))
    ⊢ wp frame (wpE (defs₀ (F := F)) Variants.none c none) Set.univ (bodyAt0 t) (fun _ =>
      iprop((dats m 0 c).Φ t.succ ∗ (dats m 0 c).owesAt () t.succ
        ∗ owns (c : Thread nD τ) (ms0_0 t) fullShare ((dats m 0 c).after 0 t)
        ∗ owns (c : Thread nD τ) (ms0_1 t) fullShare ((dats m 0 c).after 1 t)
        ∗ owns (c : Thread nD τ) (ms0_2 t) fullShare ((dats m 0 c).after 2 t)
        ∗ (∃ d, owns (c : Thread nD τ) (ms0_3 t) fullShare d))) := by
  simp only [before0_0, before0_1, before0_2]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩, H3⟩
  ihave Hw := (bodyRun m c t) $$ [HΦ H0 H1 H2 H3]
  · isplitl [HΦ]; · iexact HΦ
    isplitl [H0]; · iexact H0
    isplitl [H1]; · iexact H1
    isplitl [H2]; · iexact H2
    iexact H3
  iapply wp_wand $$ Hw
  iintro %_u ⟨HΦ, H0, H1, H2, ⟨%g7, %g8, %g9, %g10, %e, H3⟩⟩
  isplitl [HΦ]; · iexact HΦ
  isplitl [Ho]; · iexact Ho
  isplitl [H0]; · iexact H0
  isplitl [H1]; · iexact H1
  isplitl [H2]; · iexact H2
  iexists _; iexact H3

theorem body_obligation (c : Dev nD) :
    BodyObligation (dats (F := F) m 0 c) (defs₀ (F := F)) Variants.none () Set.univ unnamedOut := fun t => by
  rw [bigSep_W0, bigSep_W0, defs₀_row]
  exact triple_restated (sound_body m c t) rfl .rfl fun _ => .rfl

set_option backward.isDefEq.respectTransparency.types false in
/-- Every execution terminates, with the arguments unchanged and every semaphore at zero. -/
theorem keeps : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_frame_forget (Q' := _) cfgs (dats m) (0 : Fin 1) launch0 defs₀ Variants.none unnamedOut m ρ main
    (hbody := fun c => (body_obligation m c).loose) (hshare := fun c => (dats m 0 c).share_full fun _ => rfl)
    (howed := fun _ _ => rfl) (V := V m) (hmain := hmain m Variants.none) (hA := A_eq m) (hΦ := fun _ _ => rfl)
    (hQ' := fun r h => ⟨fun c =>
      ⟨((h.1 c).2 main_arg0 (Pipeline.mem_restRefs_of main_arg0 (by decide) (by decide))).trans (V_main_arg0 m c),
       ((h.1 c).2 main_arg1 (Pipeline.mem_restRefs_of main_arg1 (by decide) (by decide))).trans (V_main_arg1 m c),
       ((h.1 c).2 main_arg2 (Pipeline.mem_restRefs_of main_arg2 (by decide) (by decide))).trans (V_main_arg2 m c),
       ((h.1 c).2 main_arg3 (Pipeline.mem_restRefs_of main_arg3 (by decide) (by decide))).trans (V_main_arg3 m c)⟩, h.2⟩)

end Cert.Fox

end
-- ==== Proof.FoxBlocks.lean ====
/- The blocks of keys and values the softmax kernel reads, and the scores it forms from them. -/
module

public import proofs.«01_k».proof.Proof.SoftPieces
public import proofs.«01_k».proof.Proof.Gen.Kernel3Ideal.Loops

@[expose] public section

set_option maxRecDepth 16384

noncomputable section

namespace Cert.Fox

open Idealize.ShloMosaic Idealize.ShloMosaic.TcCoe Idealize.SL.Sem
open Cert.Mla Cert.Kernel3Ideal Cert.Kernel3Ideal.Gen

/-- The loop runs once for each query tile before this one. -/
theorem trips_eq : ∀ i : grid0.Coords, (k0_t1_loop i).trips = (i 2).val := by decide +kernel
/-- The keys scored at step `u` of pass `k`. -/
theorem off1_eq : ∀ (i : grid0.Coords) (k : Fin (k0_t1_loop i).trips) (u : Fin 4),
    k0_off1 i k (BitVec.ofNat 32 u.val) = ![0, 512 * (4 * k.val + u.val + 1), 0] := by decide +kernel
/-- The values gathered at step `u` of pass `k`. -/
theorem off2_eq : ∀ (i : grid0.Coords) (k : Fin (k0_t1_loop i).trips) (u : Fin 4),
    k0_off2 i k (BitVec.ofNat 32 u.val) = ![0, 0, 0, 512 * (4 * k.val + u.val)] := by decide +kernel
theorem off3_eq : ∀ (i : grid0.Coords) (k : Fin (k0_t1_loop i).trips) (u : Fin 4),
    k0_off3 i k (BitVec.ofNat 32 u.val) = ![0, 1, 0, 512 * (4 * k.val + u.val)] := by decide +kernel

theorem load_keys {sig : RefSig} {κ : Kind} {sp : Space} {e : EltTy} (w : View sig κ sp S1x8192x256 e)
    (f : w.ty.Contents (Elt Ideal)) {off : Fin 3 → ℕ} {b c : ℕ} (ho : off = ![0, b, c])
    (inb : ∀ a, off a + (![1, 512, 256] : Fin 3 → ℕ) a ≤ S1x8192x256.size a) (g : Fin 1) (j : Fin 512) (l : Fin 256)
    (hb : b + j.val < 8192) (hc : c + l.val < 256) :
    w.readAt (Elt Ideal) (Rect.unit (s := S1x8192x256) off ![1, 512, 256] inb).toLoadRect f (ix3 g j l)
      = w.read (Elt Ideal) f (ix3 0 ⟨b + j.val, hb⟩ ⟨c + l.val, hc⟩) := by
  subst ho
  refine congrArg (w.read (Elt Ideal) f) (funext fun a => Fin.ext ?_)
  have hg : g.val = 0 := by omega
  match a with
  | ⟨0, _⟩ => show 0 + 1 * g.val = 0; omega
  | ⟨1, _⟩ => show b + 1 * j.val = b + j.val; omega
  | ⟨2, _⟩ => show c + 1 * l.val = c + l.val; omega

theorem load_vals {sig : RefSig} {κ : Kind} {sp : Space} {e : EltTy} (w : View sig κ sp S1x2x80x8192 e)
    (f : w.ty.Contents (Elt Ideal)) {off : Fin 4 → ℕ} {h0 b : ℕ} (ho : off = ![0, h0, 0, b]) (hh : Fin 2) (hv : hh.val = h0)
    (inb : ∀ a, off a + (![1, 1, 80, 512] : Fin 4 → ℕ) a ≤ S1x2x80x8192.size a) (d : Fin 80) (j : Fin 512)
    (hb : b + j.val < 8192) :
    w.readAt (Elt Ideal) (Rect.unit (s := S1x2x80x8192) off ![1, 1, 80, 512] inb).toLoadRect f (ix4 0 0 d j)
      = w.read (Elt Ideal) f (ix4 0 hh d ⟨b + j.val, hb⟩) := by
  subst ho
  refine congrArg (w.read (Elt Ideal) f) (funext fun a => Fin.ext ?_)
  match a with
  | ⟨0, _⟩ => rfl
  | ⟨1, _⟩ => show h0 + 1 * 0 = hh.val; omega
  | ⟨2, _⟩ => show 0 + 1 * d.val = d.val; omega
  | ⟨3, _⟩ => show b + 1 * j.val = b + j.val; omega

/-- The scores of 512 keys against `n` queries, all under unit axes. -/
def scoreW {n : ℕ} (hk : (Mat1 512 256).ShapeCasts (Mat 512 256)) (hq : (Mat1 256 n).ShapeCasts (Mat 256 n))
    (ho : (Mat 512 n).ShapeCasts ⟨4, ![1, 1, 512, n]⟩) (k : FVec Ideal (Mat1 512 256) .bf16) (q : FVec Ideal (Mat1 256 n) .bf16) :
    FVec Ideal ⟨4, ![1, 1, 512, n]⟩ .f32 :=
  shapeCast ⟨4, ![1, 1, 512, n]⟩ (matmul (DotDims.plain 512 256 n) none (shapeCast (Mat 512 256) k hk)
    (shapeCast (Mat 256 n) q hq) (constant (Mat 512 n) .f32 0x00000000#32)) ho

theorem scoreW_at {n : ℕ} (hk : (Mat1 512 256).ShapeCasts (Mat 512 256)) (hq : (Mat1 256 n).ShapeCasts (Mat 256 n))
    (ho : (Mat 512 n).ShapeCasts ⟨4, ![1, 1, 512, n]⟩) (k : FVec Ideal (Mat1 512 256) .bf16) (q : FVec Ideal (Mat1 256 n) .bf16)
    (j : Fin 512) (r : Fin n) :
    scoreW hk hq ho k q (ix4 0 0 j r) = ∑ l : Fin 256, k (ix3 0 j l) * q (ix3 0 l r) := by
  refine (shapeCast_apply _ ho (ix4 0 0 j r) (ix2 j r) (by
    rw [Shape.rowMajor_val_four, Shape.rowMajor_val_two]
    show j.val * n + r.val = ((0 * 1 + 0) * 512 + j.val) * n + r.val
    ring)).trans ?_
  refine (Ideal.matmul_plain_apply none _ _ (constant (Mat 512 n) .f32 0x00000000#32) j r).trans ?_
  rw [show constant (F := Ideal) (Mat 512 n) .f32 0x00000000#32 (ValueIdx.ix2 j r) = 0 from Ideal.ofBits_zero_f32, zero_add]
  exact Finset.sum_congr rfl fun l _ => congrArg₂ (· * ·) (ValueIdx.shapeCast_1ab_ab_apply k hk j l)
    (ValueIdx.shapeCast_1ab_ab_apply q hq l r)

/-- The score of key `j` against query `q`. -/
def scoreOf (qry : Fin 2 → ℕ → Fin 256 → EReal) (key : Fin 2 → ℕ → Fin 256 → EReal) (hh : Fin 2) (q j : ℕ) : EReal :=
  ∑ l : Fin 256, key hh j l * qry hh q l

/-- The scores a tile of queries that begins at `B` sees: keys after the query score `-∞`. -/
def upTo (B : ℕ) (z : ℕ → ℕ → EReal) (q j : ℕ) : EReal := if j ≤ B + q then z q j else ⊥

/-- What the carried maxima should be. -/
def tgtM (B : ℕ) (zz : Fin 2 → ℕ → ℕ → EReal) (hh : Fin 2) (q b : ℕ) (_ : Fin 1) : EReal := top (upTo B (zz hh) q) b
/-- What the accumulators should be. -/
def tgtA (B : ℕ) (zz : Fin 2 → ℕ → ℕ → EReal) (v : Fin 2 → Fin 80 → ℕ → EReal) (hh : Fin 2) (q b : ℕ) (d : Fin 80) : EReal :=
  acc (upTo B (zz hh) q) (v hh d) b

theorem upTo_past (B : ℕ) (z : ℕ → ℕ → EReal) {q b : ℕ} (h : B + q < b) : ∀ j, b ≤ j → upTo B z q j = ⊥ := fun j hj =>
  if_neg (by omega)

theorem fits512 : Fits 512 := ⟨bitsLt_bf16_f32, shapeCasts_S1x1x512_S1x512, shapeCasts_S1x512_S1x1x512,
  shapeCasts_S1x80x512_S80x512, shapeCasts_S80x512_S1x80x512, shapeCasts_S1x1x80x512_S80x512, shapeCasts_S512_S1x512,
  reduces_S512x512_S512, broadcasts_S1x512_S512x512, broadcasts_S1x512_S80x512⟩
theorem fits1024 : Fits 1024 := ⟨bitsLt_bf16_f32, shapeCasts_S1x1x1024_S1x1024, shapeCasts_S1x1024_S1x1x1024,
  shapeCasts_S1x80x1024_S80x1024, shapeCasts_S80x1024_S1x80x1024, shapeCasts_S1x1x80x512_S80x512, shapeCasts_S1024_S1x1024,
  reduces_S512x1024_S1024, broadcasts_S1x1024_S512x1024, broadcasts_S1x1024_S80x1024⟩
theorem fits1536 : Fits 1536 := ⟨bitsLt_bf16_f32, shapeCasts_S1x1x1536_S1x1536, shapeCasts_S1x1536_S1x1x1536,
  shapeCasts_S1x80x1536_S80x1536, shapeCasts_S80x1536_S1x80x1536, shapeCasts_S1x1x80x512_S80x512, shapeCasts_S1536_S1x1536,
  reduces_S512x1536_S1536, broadcasts_S1x1536_S512x1536, broadcasts_S1x1536_S80x1536⟩
theorem fits2048 : Fits 2048 := ⟨bitsLt_bf16_f32, shapeCasts_S1x1x2048_S1x2048, shapeCasts_S1x2048_S1x1x2048,
  shapeCasts_S1x80x2048_S80x2048, shapeCasts_S80x2048_S1x80x2048, shapeCasts_S1x1x80x512_S80x512, shapeCasts_S2048_S1x2048,
  reduces_S512x2048_S2048, broadcasts_S1x2048_S512x2048, broadcasts_S1x2048_S80x2048⟩

/-- The buffers the loop reads and never writes. -/
structure Env (qry : Fin 2 → ℕ → Fin 256 → EReal) (key : Fin 2 → ℕ → Fin 256 → EReal) (val : Fin 2 → Fin 80 → ℕ → EReal)
    (arg4 : Memref sig .tc .vmem S1x8192x256 .bf16) (arg5 : Memref sig .tc .vmem S1x2x80x8192 .bf16)
    (arg7 : Memref sig .tc .vmem S2x256x2048 .bf16) (X4 : BufTy.Contents (Elt Ideal) arg4.view.ty)
    (X5 : BufTy.Contents (Elt Ideal) arg5.view.ty) (X7 : BufTy.Contents (Elt Ideal) arg7.view.ty) : Prop where
  queries : ∀ (hh : Fin 2) (l : Fin 256) (q : Fin 2048), arg7.view.read (Elt Ideal) X7 (ix3 hh l q) = qry hh q.val l
  keys : ∀ (hh : Fin 2) (j : Fin 8192) (l : Fin 256), arg4.view.read (Elt Ideal) X4 (ix3 0 j l) = key hh j.val l
  values : ∀ (hh : Fin 2) (d : Fin 80) (j : Fin 8192), arg5.view.read (Elt Ideal) X5 (ix4 0 hh d j) = val hh d j.val

section Blocks
variable {B : ℕ} {qry : Fin 2 → ℕ → Fin 256 → EReal} {key : Fin 2 → ℕ → Fin 256 → EReal} {val : Fin 2 → Fin 80 → ℕ → EReal}
  {arg4 : Memref sig .tc .vmem S1x8192x256 .bf16} {arg5 : Memref sig .tc .vmem S1x2x80x8192 .bf16}
  {arg7 : Memref sig .tc .vmem S2x256x2048 .bf16} {X4 : BufTy.Contents (Elt Ideal) arg4.view.ty}
  {X5 : BufTy.Contents (Elt Ideal) arg5.view.ty} {X7 : BufTy.Contents (Elt Ideal) arg7.view.ty}

/-- A block of scores: the keys from `b` against the queries from `c0` of head `hh`. -/
theorem Env.score (E : Env qry key val arg4 arg5 arg7 X4 X5 X7) {n h0 c0 b : ℕ} {off : Fin 3 → ℕ} (hh : Fin 2)
    (hv : hh.val = h0) (ho : off = ![0, b, 0]) (hb : b + 512 ≤ 8192)
    (inb4 : ∀ a, off a + (![1, 512, 256] : Fin 3 → ℕ) a ≤ S1x8192x256.size a)
    (inb7 : ∀ a, (![h0, 0, c0] : Fin 3 → ℕ) a + (![1, 256, n] : Fin 3 → ℕ) a ≤ S2x256x2048.size a)
    (hk : (Mat1 512 256).ShapeCasts (Mat 512 256)) (hq : (Mat1 256 n).ShapeCasts (Mat 256 n))
    (hs : (Mat 512 n).ShapeCasts ⟨4, ![1, 1, 512, n]⟩) (j : Fin 512) (q : Fin n) :
    scoreW hk hq hs
      (arg4.view.readAt (Elt Ideal) (Rect.unit (s := S1x8192x256) off ![1, 512, 256] inb4).toLoadRect X4)
      (arg7.view.readAt (Elt Ideal) (Rect.unit (s := S2x256x2048) ![h0, 0, c0] ![1, 256, n] inb7).toLoadRect X7) (ix4 0 0 j q)
      = scoreOf qry key hh (c0 + q.val) (b + j.val) := by
  subst hv
  have hq' := q.isLt
  have hj := j.isLt
  have h1 : c0 + n ≤ 2048 := inb7 2
  rw [scoreW_at, scoreOf]
  refine Finset.sum_congr rfl fun l _ => ?_
  have hl := l.isLt
  have hh2 := hh.isLt
  rw [load3 arg7.view X7 inb7 hh rfl 0 l q (by omega) (by omega),
    load_keys arg4.view X4 ho inb4 0 j l (by omega) (by omega)]
  refine congrArg₂ (· * ·) ((E.keys hh _ _).trans (congrArg (key hh (b + j.val)) (Fin.ext (Nat.zero_add _)))) ((E.queries hh _ _).trans ?_)
  exact congrArg (qry hh (c0 + q.val)) (Fin.ext (Nat.zero_add _))

/-- A block of values. -/
theorem Env.value (E : Env qry key val arg4 arg5 arg7 X4 X5 X7) {h0 b : ℕ} {off : Fin 4 → ℕ} (hh : Fin 2) (hv : hh.val = h0)
    (ho : off = ![0, h0, 0, b]) (hb : b + 512 ≤ 8192)
    (inb5 : ∀ a, off a + (![1, 1, 80, 512] : Fin 4 → ℕ) a ≤ S1x2x80x8192.size a) (d : Fin 80) (j : Fin 512) :
    arg5.view.readAt (Elt Ideal) (Rect.unit (s := S1x2x80x8192) off ![1, 1, 80, 512] inb5).toLoadRect X5 (ix4 0 0 d j)
      = val hh d (b + j.val) := by
  have hj := j.isLt
  exact (load_vals arg5.view X5 ho hh hv inb5 d j (by omega)).trans (E.values hh d _)

/-- The columns `[c0, c0 + n)` may count as having come to key `b`: either they have, or both points are past the query's own key. -/
def Ready (B : ℕ) (hh : Fin 2) (st : Fin 2 → ℕ → ℕ) (c0 n b : ℕ) : Prop :=
  ∀ q : ℕ, c0 ≤ q → q < c0 + n → st hh q = b ∨ (B + q < st hh q ∧ B + q < b)

theorem two_done {t : ℕ → EReal} {n n' B : ℕ} (hz : ∀ j, B < j → t j = ⊥) (h : B < n) (h' : B < n') : top t n = top t n' := by
  rcases Nat.le_total n n' with hn | hn
  · exact (top_done hn fun j hj => hz j (by omega)).symm
  · exact top_done hn fun j hj => hz j (by omega)

theorem two_acc {t v : ℕ → EReal} {n n' B : ℕ} (hz : ∀ j, B < j → t j = ⊥) (h : B < n) (h' : B < n') :
    acc t v n = acc t v n' := by
  rcases Nat.le_total n n' with hn | hn
  · exact (acc_done hn fun j hj => hz j (by omega)).symm
  · exact acc_done hn fun j hj => hz j (by omega)

theorem Ready.m {hh : Fin 2} {st : Fin 2 → ℕ → ℕ} {c0 n b : ℕ} (R : Ready B hh st c0 n b) (zz : Fin 2 → ℕ → ℕ → EReal) (q : ℕ)
    (h1 : c0 ≤ q) (h2 : q < c0 + n) (r : Fin 1) : tgtM B zz hh q (st hh q) r = tgtM B zz hh q b r := by
  rcases R q h1 h2 with h | ⟨h, h'⟩
  · rw [h]
  · exact two_done (fun j hj => if_neg (Nat.not_le.2 hj)) h h'

theorem Ready.a {hh : Fin 2} {st : Fin 2 → ℕ → ℕ} {c0 n b : ℕ} (R : Ready B hh st c0 n b) (zz : Fin 2 → ℕ → ℕ → EReal) (q : ℕ)
    (h1 : c0 ≤ q) (h2 : q < c0 + n) (d : Fin 80) : tgtA B zz val hh q (st hh q) d = tgtA B zz val hh q b d := by
  rcases R q h1 h2 with h | ⟨h, h'⟩
  · rw [h]
  · exact two_acc (fun j hj => if_neg (Nat.not_le.2 hj)) h h'

theorem Holds.settleM {w : View sig .tc .vmem (Cols2 1) .f32} {zz : Fin 2 → ℕ → ℕ → EReal} {f : w.ty.Contents (Elt Ideal)}
    {st : Fin 2 → ℕ → ℕ} {b : ℕ} (H : Holds w (tgtM B zz) f st) (R : ∀ hh, Ready B hh st 0 2048 b) :
    Holds w (tgtM B zz) f (fun _ _ => b) := fun hh r q =>
  (H hh r q).trans ((R hh).m zz q (Nat.zero_le _) (by have := q.isLt; omega) r)

theorem Holds.settleA {w : View sig .tc .vmem (Cols2 80) .f32} {zz : Fin 2 → ℕ → ℕ → EReal} {f : w.ty.Contents (Elt Ideal)}
    {st : Fin 2 → ℕ → ℕ} {b : ℕ} (H : Holds w (tgtA B zz val) f st) (R : ∀ hh, Ready B hh st 0 2048 b) :
    Holds w (tgtA B zz val) f (fun _ _ => b) := fun hh r q =>
  (H hh r q).trans ((R hh).a zz q (Nat.zero_le _) (by have := q.isLt; omega) r)

/-- What a block's update of columns `[c0, c0 + n)` of head `h0` reads, when every key is at or before every query. -/
theorem reads {zz : Fin 2 → ℕ → ℕ → EReal} {arg8 : Memref sig .tc .vmem S2x2x512x2048 .f32}
    {arg9 : Memref sig .tc .vmem S2x1x2048 .f32} {f8 : BufTy.Contents (Elt Ideal) arg8.view.ty}
    {f9 : BufTy.Contents (Elt Ideal) arg9.view.ty} {s0 h0 c0 c1 n b : ℕ} {s hh : Fin 2} {st : Fin 2 → ℕ → ℕ}
    (hb : b + 511 ≤ B + c0) (Z : HasZ arg8.view zz f8 s hh c1 b)
    (C : Holds arg9.view (tgtM B zz) f9 st) (hs : s.val = s0) (hv : hh.val = h0) (hr : c1 ≤ c0)
    (R : Ready B hh st c0 n b)
    (inb8 : ∀ a, (![s0, h0, 0, c0] : Fin 4 → ℕ) a + (![1, 1, 512, n] : Fin 4 → ℕ) a ≤ Slots.size a)
    (inb9 : ∀ a, (![h0, 0, c0] : Fin 3 → ℕ) a + (![1, 1, n] : Fin 3 → ℕ) a ≤ (Cols2 1).size a)
    (h : (⟨4, ![1, 1, 512, n]⟩ : Shape).ShapeCasts (Mat 512 n)) :
    Reads (upTo B (zz hh)) b c0
      (shapeCast (Mat 512 n)
        (arg8.view.readAt (Elt Ideal) (Rect.unit (s := Slots) ![s0, h0, 0, c0] ![1, 1, 512, n] inb8).toLoadRect f8) h)
      (arg9.view.readAt (Elt Ideal) (Rect.unit (s := Cols2 1) ![h0, 0, c0] ![1, 1, n] inb9).toLoadRect f9) where
  score := fun j q => (Z.load hs hv inb8 hr h j q).trans
    (if_pos (show b + j.val ≤ B + (c0 + q.val) by have := j.isLt; omega)).symm
  carry := fun q => C.load (b := b) hh hv inb9 (R.m zz) 0 0 q

/-- The accumulator it adds to. -/
theorem adds {zz : Fin 2 → ℕ → ℕ → EReal} {arg10 : Memref sig .tc .vmem S2x80x2048 .f32}
    {f10 : BufTy.Contents (Elt Ideal) arg10.view.ty} {h0 c0 n b : ℕ} {hh : Fin 2} {st : Fin 2 → ℕ → ℕ}
    (A : Holds arg10.view (tgtA B zz val) f10 st) (hv : hh.val = h0) (R : Ready B hh st c0 n b)
    (inb10 : ∀ a, (![h0, 0, c0] : Fin 3 → ℕ) a + (![1, 80, n] : Fin 3 → ℕ) a ≤ (Cols2 80).size a) (d : Fin 80) (q : Fin n) :
    arg10.view.readAt (Elt Ideal) (Rect.unit (s := Cols2 80) ![h0, 0, c0] ![1, 80, n] inb10).toLoadRect f10 (ix3 0 d q)
      = acc (upTo B (zz hh) (c0 + q.val)) (val hh d) b :=
  A.load (b := b) hh hv inb10 (R.a zz) 0 d q

/-- The columns found by a head's update. -/
theorem ready_all {B a b n : ℕ} {hh : Fin 2} (h : a = b) : Ready B hh (fun _ _ => a) 0 n b := fun _ _ _ => Or.inl h

theorem ready_other {B a b c n : ℕ} {hh : Fin 2} (hv : hh.val = 1) (h : a = b) :
    Ready B hh (upd (fun _ _ => a) 0 0 2048 c) 0 n b := fun _ _ _ =>
  Or.inl ((if_neg (fun hc => Nat.one_ne_zero (hv.symm.trans hc.1))).trans h)

end Blocks
end Cert.Fox
end
-- ==== Proof.FoxTrip.lean ====
/- One pass of the softmax kernel's loop over the blocks before the diagonal: four blocks, each moving every column of both heads. -/
module

public import proofs.«01_k».proof.Proof.FoxBlocks

@[expose] public section

set_option maxRecDepth 16384

noncomputable section

namespace Cert.Fox

open Idealize.ShloMosaic Idealize.ShloMosaic.TcCoe Idealize.SL.Sem
open Cert.Mla Cert.Kernel3Ideal Cert.Kernel3Ideal.Gen

section Trip
variable {B : ℕ} {qry : Fin 2 → ℕ → Fin 256 → EReal} {key : Fin 2 → ℕ → Fin 256 → EReal} {val : Fin 2 → Fin 80 → ℕ → EReal}
  {i : grid0.Coords} {arg4 : Memref sig .tc .vmem S1x8192x256 .bf16} {arg5 : Memref sig .tc .vmem S1x2x80x8192 .bf16}
  {arg7 : Memref sig .tc .vmem S2x256x2048 .bf16} {arg8 : Memref sig .tc .vmem S2x2x512x2048 .f32}
  {arg9 : Memref sig .tc .vmem S2x1x2048 .f32} {arg10 : Memref sig .tc .vmem S2x80x2048 .f32}
  {X4 : BufTy.Contents (Elt Ideal) arg4.view.ty}
  {X5 : BufTy.Contents (Elt Ideal) arg5.view.ty} {X7 : BufTy.Contents (Elt Ideal) arg7.view.ty}
  {k : Fin (k0_t1_loop i).trips} {f8 : BufTy.Contents (Elt Ideal) arg8.view.ty}
  {f9 : BufTy.Contents (Elt Ideal) arg9.view.ty} {f10 : BufTy.Contents (Elt Ideal) arg10.view.ty} {N : ℕ}

/-- What pass `k` finds: `N` is the block it begins with, whose scores are in slot 0. -/
structure Enter (B : ℕ) (qry : Fin 2 → ℕ → Fin 256 → EReal) (key : Fin 2 → ℕ → Fin 256 → EReal) (val : Fin 2 → Fin 80 → ℕ → EReal)
    (i : grid0.Coords) (arg4 : Memref sig .tc .vmem S1x8192x256 .bf16) (arg5 : Memref sig .tc .vmem S1x2x80x8192 .bf16)
    (arg7 : Memref sig .tc .vmem S2x256x2048 .bf16) (arg8 : Memref sig .tc .vmem S2x2x512x2048 .f32)
    (arg9 : Memref sig .tc .vmem S2x1x2048 .f32) (arg10 : Memref sig .tc .vmem S2x80x2048 .f32)
    (X4 : BufTy.Contents (Elt Ideal) arg4.view.ty)
    (X5 : BufTy.Contents (Elt Ideal) arg5.view.ty) (X7 : BufTy.Contents (Elt Ideal) arg7.view.ty)
    (k : Fin (k0_t1_loop i).trips) (f8 : BufTy.Contents (Elt Ideal) arg8.view.ty)
    (f9 : BufTy.Contents (Elt Ideal) arg9.view.ty) (f10 : BufTy.Contents (Elt Ideal) arg10.view.ty) (N : ℕ) : Prop where
  env : Env qry key val arg4 arg5 arg7 X4 X5 X7
  block : 4 * k.val = N
  last : 512 * N + 2048 ≤ B
  inside : B ≤ 6144
  scores : ∀ hh : Fin 2, HasZ arg8.view (scoreOf qry key) f8 0 hh 0 (512 * N)
  maxs : Holds arg9.view (tgtM B (scoreOf qry key)) f9 (fun _ _ => 512 * N)
  accs : Holds arg10.view (tgtA B (scoreOf qry key) val) f10 (fun _ _ => 512 * N)

theorem Enter.off1 (H : Enter B qry key val i arg4 arg5 arg7 arg8 arg9 arg10 X4 X5 X7 k f8 f9 f10 N) (u : Fin 4) {b : ℕ}
    (hb : 512 * (N + u.val + 1) = b) : k0_off1 i k (BitVec.ofNat 32 u.val) = ![0, b, 0] := by
  rw [off1_eq, H.block, hb]

theorem Enter.off2 (H : Enter B qry key val i arg4 arg5 arg7 arg8 arg9 arg10 X4 X5 X7 k f8 f9 f10 N) (u : Fin 4) {b : ℕ}
    (hb : 512 * (N + u.val) = b) : k0_off2 i k (BitVec.ofNat 32 u.val) = ![0, 0, 0, b] := by
  rw [off2_eq, H.block, hb]

theorem Enter.off3 (H : Enter B qry key val i arg4 arg5 arg7 arg8 arg9 arg10 X4 X5 X7 k f8 f9 f10 N) (u : Fin 4) {b : ℕ}
    (hb : 512 * (N + u.val) = b) : k0_off3 i k (BitVec.ofNat 32 u.val) = ![0, 1, 0, b] := by
  rw [off3_eq, H.block, hb]

variable (H : Enter B qry key val i arg4 arg5 arg7 arg8 arg9 arg10 X4 X5 X7 k f8 f9 f10 N)
  (g8 : BufTy.Contents (Elt Ideal) arg8.view.ty) (g9 : BufTy.Contents (Elt Ideal) arg9.view.ty)
  (g10 : BufTy.Contents (Elt Ideal) arg10.view.ty) (hh : Fin 2)
include H

theorem Enter.z40 : HasZ arg8.view (scoreOf qry key)
    (arg8.view.writes (Elt Ideal) g8 (trip_k0_t1.sl.HW_arg8_4 i arg4 arg7 X4 X7 k)) 0 hh 0 (512 * (N + 2)) := by
  have hT := H.last; have hi := H.inside
  exact HasZ.put2 (s0 := 0) (c0 := 0) (n := 2048) 0 rfl _ _ _ _ rfl
    (fun j q => H.env.score 0 rfl (H.off1 1 rfl) (by omega) _ _ _ _ _ j q)
    (fun j q => H.env.score 1 rfl (H.off1 1 rfl) (by omega) _ _ _ _ _ j q) hh

theorem Enter.z41 : HasZ arg8.view (scoreOf qry key)
    (arg8.view.writes (Elt Ideal) g8 (trip_k0_t1.sl.HW_arg8_4 i arg4 arg7 X4 X7 k)) 1 hh 0 (512 * (N + 1)) := by
  have hT := H.last; have hi := H.inside
  exact HasZ.keep2 (s0 := 0) (c0 := 0) (n := 2048) Nat.one_ne_zero _ _ _ _ hh
    (HasZ.put2 (s0 := 1) (c0 := 0) (n := 2048) 1 rfl _ _ _ _ rfl
    (fun j q => H.env.score 0 rfl (H.off1 0 rfl) (by omega) _ _ _ _ _ j q)
    (fun j q => H.env.score 1 rfl (H.off1 0 rfl) (by omega) _ _ _ _ _ j q) hh)

theorem Enter.z61 : HasZ arg8.view (scoreOf qry key)
    (arg8.view.writes (Elt Ideal) g8 (trip_k0_t1.sl.HW_arg8_6 i arg4 arg7 X4 X7 k)) 1 hh 0 (512 * (N + 3)) := by
  have hT := H.last; have hi := H.inside
  exact HasZ.put2 (s0 := 1) (c0 := 0) (n := 2048) 1 rfl _ _ _ _ rfl
    (fun j q => H.env.score 0 rfl (H.off1 2 rfl) (by omega) _ _ _ _ _ j q)
    (fun j q => H.env.score 1 rfl (H.off1 2 rfl) (by omega) _ _ _ _ _ j q) hh

theorem Enter.z60 : HasZ arg8.view (scoreOf qry key)
    (arg8.view.writes (Elt Ideal) g8 (trip_k0_t1.sl.HW_arg8_6 i arg4 arg7 X4 X7 k)) 0 hh 0 (512 * (N + 2)) := by
  have hT := H.last; have hi := H.inside
  exact HasZ.keep2 (s0 := 1) (c0 := 0) (n := 2048) Nat.zero_ne_one _ _ _ _ hh
    (H.z40 g8 hh)

theorem Enter.z80 : HasZ arg8.view (scoreOf qry key)
    (arg8.view.writes (Elt Ideal) g8 (trip_k0_t1.sl.HW_arg8_8 i arg4 arg7 X4 X7 k)) 0 hh 0 (512 * (N + 4)) := by
  have hT := H.last; have hi := H.inside
  exact HasZ.put2 (s0 := 0) (c0 := 0) (n := 2048) 0 rfl _ _ _ _ rfl
    (fun j q => H.env.score 0 rfl (H.off1 3 rfl) (by omega) _ _ _ _ _ j q)
    (fun j q => H.env.score 1 rfl (H.off1 3 rfl) (by omega) _ _ _ _ _ j q) hh

theorem Enter.z81 : HasZ arg8.view (scoreOf qry key)
    (arg8.view.writes (Elt Ideal) g8 (trip_k0_t1.sl.HW_arg8_8 i arg4 arg7 X4 X7 k)) 1 hh 0 (512 * (N + 3)) := by
  have hT := H.last; have hi := H.inside
  exact HasZ.keep2 (s0 := 0) (c0 := 0) (n := 2048) Nat.one_ne_zero _ _ _ _ hh
    (H.z61 g8 hh)

/-- The carried maxima and the accumulators after the first block. -/
theorem Enter.m2 : Holds arg9.view (tgtM B (scoreOf qry key))
    (arg9.view.writes (Elt Ideal) g9 (trip_k0_t1.sl.HW_arg9_2 arg8 arg9 f8 f9)) (fun _ _ => 512 * (N + 1)) := by
  have hT := H.last; have hi := H.inside
  have step (hh : Fin 2) := reads (n := 2048) (by omega) (H.scores hh) H.maxs rfl rfl (le_refl 0) (ready_all rfl)
  exact Holds.pair g9 _ _ _ _
    (fun r q => Reads.newM_at (h := fits2048) (step 0 _ _ shapeCasts_S1x1x512x2048_S512x2048) r q)
    (fun r q => Reads.newM_at (h := fits2048) (step 1 _ _ shapeCasts_S1x1x512x2048_S512x2048) r q)

theorem Enter.a2 : Holds arg10.view (tgtA B (scoreOf qry key) val)
    (arg10.view.writes (Elt Ideal) g10 (trip_k0_t1.sl.HW_arg10_2 i arg5 arg8 arg9 arg10 X5 k f8 f9 f10))
    (fun _ _ => 512 * (N + 1)) := by
  have hT := H.last; have hi := H.inside
  have step (hh : Fin 2) := reads (n := 2048) (by omega) (H.scores hh) H.maxs rfl rfl (le_refl 0) (ready_all rfl)
  have acc (hh : Fin 2) := adds (n := 2048) (c0 := 0) H.accs (rfl : hh.val = hh.val) (ready_all rfl)
  exact Holds.pair g10 _ _ _ _
    (fun d q => Reads.newA_at (h := fits2048) (step 0 _ _ shapeCasts_S1x1x512x2048_S512x2048)
      (H.env.value 0 rfl (H.off2 0 rfl) (by omega) _) (acc 0 _) d q)
    (fun d q => Reads.newA_at (h := fits2048) (step 1 _ _ shapeCasts_S1x1x512x2048_S512x2048)
      (H.env.value 1 rfl (H.off3 0 rfl) (by omega) _) (acc 1 _) d q)

/-- The second block: head 0's columns, then head 1's. -/
theorem Enter.m3 : Holds arg9.view (tgtM B (scoreOf qry key))
    (arg9.view.writes (Elt Ideal) g9 (trip_k0_t1.sl.HW_arg9_3 i arg4 arg7 arg8 arg9 X4 X7 k f8 f9)) (upd (fun _ _ => 512 * (N + 1)) 0 0 2048 (512 * (N + 2))) := by
  have hT := H.last; have hi := H.inside
  exact (H.m2 g9).put (h0 := 0) (c0 := 0) (n := 2048) _ _ fun hh hv r q =>
    Reads.newM_at (h := fits2048) (reads (by omega) (H.z41 _ hh) (H.m2 _) rfl hv (le_refl _) (ready_all rfl) _ _
      shapeCasts_S1x1x512x2048_S512x2048) r q

theorem Enter.a3 : Holds arg10.view (tgtA B (scoreOf qry key) val)
    (arg10.view.writes (Elt Ideal) g10 (trip_k0_t1.sl.HW_arg10_3 i arg4 arg5 arg7 arg8 arg9 arg10 X4 X5 X7 k f8 f9 f10)) (upd (fun _ _ => 512 * (N + 1)) 0 0 2048 (512 * (N + 2))) := by
  have hT := H.last; have hi := H.inside
  exact (H.a2 g10).put (h0 := 0) (c0 := 0) (n := 2048) _ _ fun hh hv d q =>
    Reads.newA_at (h := fits2048) (reads (by omega) (H.z41 _ hh) (H.m2 _) rfl hv (le_refl _) (ready_all rfl) _ _
      shapeCasts_S1x1x512x2048_S512x2048)
      (H.env.value hh hv (H.off2 1 rfl) (by omega) _)
      (adds (H.a2 _) hv (ready_all rfl) _) d q

theorem Enter.m4 : Holds arg9.view (tgtM B (scoreOf qry key))
    (arg9.view.writes (Elt Ideal) g9 (trip_k0_t1.sl.HW_arg9_4 i arg4 arg7 arg8 arg9 X4 X7 k f8 f9)) (fun _ _ => 512 * (N + 2)) := by
  have hT := H.last; have hi := H.inside
  exact ((H.m3 g9).put (h0 := 1) (c0 := 0) (n := 2048) _ _ fun hh hv r q =>
    Reads.newM_at (h := fits2048) (reads (by omega) (H.z41 _ hh) (H.m3 _) rfl hv (le_refl _) (ready_other hv rfl) _ _
      shapeCasts_S1x1x512x2048_S512x2048) r q).both

theorem Enter.a4 : Holds arg10.view (tgtA B (scoreOf qry key) val)
    (arg10.view.writes (Elt Ideal) g10 (trip_k0_t1.sl.HW_arg10_4 i arg4 arg5 arg7 arg8 arg9 arg10 X4 X5 X7 k f8 f9 f10)) (fun _ _ => 512 * (N + 2)) := by
  have hT := H.last; have hi := H.inside
  exact ((H.a3 g10).put (h0 := 1) (c0 := 0) (n := 2048) _ _ fun hh hv d q =>
    Reads.newA_at (h := fits2048) (reads (by omega) (H.z41 _ hh) (H.m3 _) rfl hv (le_refl _) (ready_other hv rfl) _ _
      shapeCasts_S1x1x512x2048_S512x2048)
      (H.env.value hh hv (H.off3 1 rfl) (by omega) _)
      (adds (H.a3 _) hv (ready_other hv rfl) _) d q).both

/-- The third block: head 0's columns, then head 1's. -/
theorem Enter.m5 : Holds arg9.view (tgtM B (scoreOf qry key))
    (arg9.view.writes (Elt Ideal) g9 (trip_k0_t1.sl.HW_arg9_5 i arg4 arg7 arg8 arg9 X4 X7 k f8 f9)) (upd (fun _ _ => 512 * (N + 2)) 0 0 2048 (512 * (N + 3))) := by
  have hT := H.last; have hi := H.inside
  exact (H.m4 g9).put (h0 := 0) (c0 := 0) (n := 2048) _ _ fun hh hv r q =>
    Reads.newM_at (h := fits2048) (reads (by omega) (H.z60 _ hh) (H.m4 _) rfl hv (le_refl _) (ready_all rfl) _ _
      shapeCasts_S1x1x512x2048_S512x2048) r q

theorem Enter.a5 : Holds arg10.view (tgtA B (scoreOf qry key) val)
    (arg10.view.writes (Elt Ideal) g10 (trip_k0_t1.sl.HW_arg10_5 i arg4 arg5 arg7 arg8 arg9 arg10 X4 X5 X7 k f8 f9 f10)) (upd (fun _ _ => 512 * (N + 2)) 0 0 2048 (512 * (N + 3))) := by
  have hT := H.last; have hi := H.inside
  exact (H.a4 g10).put (h0 := 0) (c0 := 0) (n := 2048) _ _ fun hh hv d q =>
    Reads.newA_at (h := fits2048) (reads (by omega) (H.z60 _ hh) (H.m4 _) rfl hv (le_refl _) (ready_all rfl) _ _
      shapeCasts_S1x1x512x2048_S512x2048)
      (H.env.value hh hv (H.off2 2 rfl) (by omega) _)
      (adds (H.a4 _) hv (ready_all rfl) _) d q

theorem Enter.m6 : Holds arg9.view (tgtM B (scoreOf qry key))
    (arg9.view.writes (Elt Ideal) g9 (trip_k0_t1.sl.HW_arg9_6 i arg4 arg7 arg8 arg9 X4 X7 k f8 f9)) (fun _ _ => 512 * (N + 3)) := by
  have hT := H.last; have hi := H.inside
  exact ((H.m5 g9).put (h0 := 1) (c0 := 0) (n := 2048) _ _ fun hh hv r q =>
    Reads.newM_at (h := fits2048) (reads (by omega) (H.z60 _ hh) (H.m5 _) rfl hv (le_refl _) (ready_other hv rfl) _ _
      shapeCasts_S1x1x512x2048_S512x2048) r q).both

theorem Enter.a6 : Holds arg10.view (tgtA B (scoreOf qry key) val)
    (arg10.view.writes (Elt Ideal) g10 (trip_k0_t1.sl.HW_arg10_6 i arg4 arg5 arg7 arg8 arg9 arg10 X4 X5 X7 k f8 f9 f10)) (fun _ _ => 512 * (N + 3)) := by
  have hT := H.last; have hi := H.inside
  exact ((H.a5 g10).put (h0 := 1) (c0 := 0) (n := 2048) _ _ fun hh hv d q =>
    Reads.newA_at (h := fits2048) (reads (by omega) (H.z60 _ hh) (H.m5 _) rfl hv (le_refl _) (ready_other hv rfl) _ _
      shapeCasts_S1x1x512x2048_S512x2048)
      (H.env.value hh hv (H.off3 2 rfl) (by omega) _)
      (adds (H.a5 _) hv (ready_other hv rfl) _) d q).both

/-- The fourth block: head 0's columns, then head 1's. -/
theorem Enter.m7 : Holds arg9.view (tgtM B (scoreOf qry key))
    (arg9.view.writes (Elt Ideal) g9 (trip_k0_t1.sl.HW_arg9_7 i arg4 arg7 arg8 arg9 X4 X7 k f8 f9)) (upd (fun _ _ => 512 * (N + 3)) 0 0 2048 (512 * (N + 4))) := by
  have hT := H.last; have hi := H.inside
  exact (H.m6 g9).put (h0 := 0) (c0 := 0) (n := 2048) _ _ fun hh hv r q =>
    Reads.newM_at (h := fits2048) (reads (by omega) (H.z81 _ hh) (H.m6 _) rfl hv (le_refl _) (ready_all rfl) _ _
      shapeCasts_S1x1x512x2048_S512x2048) r q

theorem Enter.a7 : Holds arg10.view (tgtA B (scoreOf qry key) val)
    (arg10.view.writes (Elt Ideal) g10 (trip_k0_t1.sl.HW_arg10_7 i arg4 arg5 arg7 arg8 arg9 arg10 X4 X5 X7 k f8 f9 f10)) (upd (fun _ _ => 512 * (N + 3)) 0 0 2048 (512 * (N + 4))) := by
  have hT := H.last; have hi := H.inside
  exact (H.a6 g10).put (h0 := 0) (c0 := 0) (n := 2048) _ _ fun hh hv d q =>
    Reads.newA_at (h := fits2048) (reads (by omega) (H.z81 _ hh) (H.m6 _) rfl hv (le_refl _) (ready_all rfl) _ _
      shapeCasts_S1x1x512x2048_S512x2048)
      (H.env.value hh hv (H.off2 3 rfl) (by omega) _)
      (adds (H.a6 _) hv (ready_all rfl) _) d q

end Trip
section Pass
variable {B : ℕ} {qry : Fin 2 → ℕ → Fin 256 → EReal} {key : Fin 2 → ℕ → Fin 256 → EReal} {val : Fin 2 → Fin 80 → ℕ → EReal}
  (𝒱 : Variants) (c : Dev nD) (bd : Option 𝒱.V) (i : grid0.Coords)
  (arg3 : Memref sig .tc .vmem S1x1x256x2048 .bf16) (harg3 : arg3.IsWhole)
  (arg4 : Memref sig .tc .vmem S1x8192x256 .bf16) (harg4 : arg4.IsWhole)
  (arg5 : Memref sig .tc .vmem S1x2x80x8192 .bf16) (harg5 : arg5.IsWhole)
  (arg6 : Memref sig .tc .vmem S1x2048x128 .bf16) (harg6 : arg6.IsWhole)
  (arg7 : Memref sig .tc .vmem S2x256x2048 .bf16) (harg7 : arg7.IsWhole)
  (arg8 : Memref sig .tc .vmem S2x2x512x2048 .f32) (harg8 : arg8.IsWhole)
  (arg9 : Memref sig .tc .vmem S2x1x2048 .f32) (harg9 : arg9.IsWhole)
  (arg10 : Memref sig .tc .vmem S2x80x2048 .f32) (harg10 : arg10.IsWhole)
  (w1 w2 : BitVec 32) (w3 : FVec Ideal S512x2048 .f32) (X4 : BufTy.Contents (Elt Ideal) arg4.view.ty)
  (X5 : BufTy.Contents (Elt Ideal) arg5.view.ty) (X7 : BufTy.Contents (Elt Ideal) arg7.view.ty)

/-- What holds before pass `n`. -/
structure Stage (B : ℕ) (qry : Fin 2 → ℕ → Fin 256 → EReal) (key : Fin 2 → ℕ → Fin 256 → EReal) (val : Fin 2 → Fin 80 → ℕ → EReal)
    (w8 : View sig .tc .vmem S2x2x512x2048 .f32) (w9 : View sig .tc .vmem S2x1x2048 .f32) (w10 : View sig .tc .vmem S2x80x2048 .f32)
    (f8 : w8.ty.Contents (Elt Ideal)) (f9 : w9.ty.Contents (Elt Ideal)) (f10 : w10.ty.Contents (Elt Ideal)) (n : ℕ) : Prop where
  scores : ∀ hh : Fin 2, HasZ w8 (scoreOf qry key) f8 0 hh 0 (512 * (4 * n))
  maxs : Holds w9 (tgtM B (scoreOf qry key)) f9 (fun _ _ => 512 * (4 * n))
  accs : Holds w10 (tgtA B (scoreOf qry key) val) f10 (fun _ _ => 512 * (4 * n))

variable {i arg4 arg5 arg7 X4 X5 X7} in
theorem Stage.enter {arg8 : Memref sig .tc .vmem S2x2x512x2048 .f32} {arg9 : Memref sig .tc .vmem S2x1x2048 .f32}
    {arg10 : Memref sig .tc .vmem S2x80x2048 .f32} (hB : B = 2048 * (i 2).val) (E : Env qry key val arg4 arg5 arg7 X4 X5 X7)
    (k : Fin (k0_t1_loop i).trips) {f8 : BufTy.Contents (Elt Ideal) arg8.view.ty} {f9 : BufTy.Contents (Elt Ideal) arg9.view.ty}
    {f10 : BufTy.Contents (Elt Ideal) arg10.view.ty} (S : Stage B qry key val arg8.view arg9.view arg10.view f8 f9 f10 k.val) :
    Enter B qry key val i arg4 arg5 arg7 arg8 arg9 arg10 X4 X5 X7 k f8 f9 f10 (4 * k.val) := by
  have hi : (i 2).val < 4 := (i 2).isLt
  have hk : k.val < (i 2).val := trips_eq i ▸ k.isLt
  exact ⟨E, rfl, by omega, by omega, S.scores, S.maxs, S.accs⟩

/-- One pass. -/
theorem Stage.pass (hB : B = 2048 * (i 2).val) (E : Env qry key val arg4 arg5 arg7 X4 X5 X7)
    (k : Fin (k0_t1_loop i).trips) {f8 : BufTy.Contents (Elt Ideal) arg8.view.ty} {f9 : BufTy.Contents (Elt Ideal) arg9.view.ty}
    {f10 : BufTy.Contents (Elt Ideal) arg10.view.ty} (S : Stage B qry key val arg8.view arg9.view arg10.view f8 f9 f10 k.val) :
    Stage B qry key val arg8.view arg9.view arg10.view
      (arg8.view.writes (Elt Ideal) f8 ((trip_k0_t1 (F := Ideal) 𝒱 c bd i arg3 harg3 arg4 harg4 arg5 harg5 arg6 harg6 arg7 harg7 arg8 harg8 arg9 harg9 arg10 harg10 w1 w2 w3 X4 X5 X7 k).1 f8 f9 f10))
      (arg9.view.writes (Elt Ideal) f9 ((trip_k0_t1 (F := Ideal) 𝒱 c bd i arg3 harg3 arg4 harg4 arg5 harg5 arg6 harg6 arg7 harg7 arg8 harg8 arg9 harg9 arg10 harg10 w1 w2 w3 X4 X5 X7 k).2.1 f8 f9 f10))
      (arg10.view.writes (Elt Ideal) f10 ((trip_k0_t1 (F := Ideal) 𝒱 c bd i arg3 harg3 arg4 harg4 arg5 harg5 arg6 harg6 arg7 harg7 arg8 harg8 arg9 harg9 arg10 harg10 w1 w2 w3 X4 X5 X7 k).2.2.1 f8 f9 f10)) (k.val + 1) := by
  have H := S.enter hB E k
  have hT := H.last; have hi := H.inside
  have e : 512 * (4 * (k.val + 1)) = 512 * (4 * k.val + 4) := by omega
  unfold trip_k0_t1
  refine ⟨fun hh => ?_, ?_, ?_⟩
  · rw [e]
    exact H.z80 f8 hh
  · rw [e]
    exact ((H.m7 f9).put (h0 := 1) (c0 := 0) (n := 2048) _ _ fun hh hv r q =>
      Reads.newM_at (h := fits2048) (reads (by omega) (H.z81 _ hh) (H.m7 _) rfl hv (le_refl _) (ready_other hv rfl) _ _
        shapeCasts_S1x1x512x2048_S512x2048) r q).both
  · rw [e]
    exact ((H.a7 f10).put (h0 := 1) (c0 := 0) (n := 2048) _ _ fun hh hv d q =>
      Reads.newA_at (h := fits2048) (reads (by omega) (H.z81 _ hh) (H.m7 _) rfl hv (le_refl _) (ready_other hv rfl) _ _
        shapeCasts_S1x1x512x2048_S512x2048)
        (H.env.value hh hv (H.off3 3 rfl) (by omega) _)
        (adds (H.a7 _) hv (ready_other hv rfl) _) d q).both

/-- Every pass, one after another. -/
theorem Stage.passes (hB : B = 2048 * (i 2).val) (E : Env qry key val arg4 arg5 arg7 X4 X5 X7)
    (G8 : BufTy.Contents (Elt Ideal) arg8.view.ty) (G9 : BufTy.Contents (Elt Ideal) arg9.view.ty)
    (G10 : BufTy.Contents (Elt Ideal) arg10.view.ty) (S : Stage B qry key val arg8.view arg9.view arg10.view G8 G9 G10 0) (n : ℕ) (hn : n ≤ (i 2).val) :
    Stage B qry key val arg8.view arg9.view arg10.view
      (arg8.view.writes (Elt Ideal) G8 (pb_k0_t1 (F := Ideal) 𝒱 c bd i arg3 harg3 arg4 harg4 arg5 harg5 arg6 harg6 arg7 harg7 arg8 harg8 arg9 harg9 arg10 harg10 w1 w2 w3 X4 X5 X7 G8 G9 G10 n).1)
      (arg9.view.writes (Elt Ideal) G9 (pb_k0_t1 (F := Ideal) 𝒱 c bd i arg3 harg3 arg4 harg4 arg5 harg5 arg6 harg6 arg7 harg7 arg8 harg8 arg9 harg9 arg10 harg10 w1 w2 w3 X4 X5 X7 G8 G9 G10 n).2.1)
      (arg10.view.writes (Elt Ideal) G10 (pb_k0_t1 (F := Ideal) 𝒱 c bd i arg3 harg3 arg4 harg4 arg5 harg5 arg6 harg6 arg7 harg7 arg8 harg8 arg9 harg9 arg10 harg10 w1 w2 w3 X4 X5 X7 G8 G9 G10 n).2.2) n := by
  induction n with
  | zero => exact S
  | succ n ih =>
    have hk : n < (k0_t1_loop i).trips := by rw [trips_eq]; omega
    have h := (ih (by omega)).pass 𝒱 c bd i arg3 harg3 arg4 harg4 arg5 harg5 arg6 harg6 arg7 harg7 arg8 harg8 arg9 harg9 arg10 harg10 w1 w2 w3 X4 X5 X7 hB E ⟨n, hk⟩
    rw [pb_k0_t1_succ (F := Ideal) 𝒱 c bd i arg3 harg3 arg4 harg4 arg5 harg5 arg6 harg6 arg7 harg7 arg8 harg8 arg9 harg9 arg10 harg10 w1 w2 w3 X4 X5 X7 G8 G9 G10 ⟨n, hk⟩]
    rw [View.writes_append, View.writes_append, View.writes_append]
    exact h

/-- The scores the passes leave do not depend on what was in the buffer below them. -/
theorem Stage.rebase (hB : B = 2048 * (i 2).val) (E : Env qry key val arg4 arg5 arg7 X4 X5 X7)
    (G8 : BufTy.Contents (Elt Ideal) arg8.view.ty) (G9 : BufTy.Contents (Elt Ideal) arg9.view.ty)
    (G10 : BufTy.Contents (Elt Ideal) arg10.view.ty) (S : Stage B qry key val arg8.view arg9.view arg10.view G8 G9 G10 0)
    (L8 : List (View.Piece (Elt Ideal) Slots .f32))
    (hL : ∀ (g : BufTy.Contents (Elt Ideal) arg8.view.ty) (hh : Fin 2),
      HasZ arg8.view (scoreOf qry key) (arg8.view.writes (Elt Ideal) g L8) 0 hh 0 0)
    (n : ℕ) (hn : n ≤ (i 2).val) (g : BufTy.Contents (Elt Ideal) arg8.view.ty) (hh : Fin 2) :
    HasZ arg8.view (scoreOf qry key) (arg8.view.writes (Elt Ideal) g ((pb_k0_t1 (F := Ideal) 𝒱 c bd i arg3 harg3 arg4 harg4 arg5 harg5 arg6 harg6 arg7 harg7 arg8 harg8 arg9 harg9 arg10 harg10 w1 w2 w3 X4 X5 X7 G8 G9 G10 n).1 ++ L8)) 0 hh 0 (512 * (4 * n)) := by
  match n with
  | 0 => exact hL g hh
  | n + 1 =>
    have hk : n < (k0_t1_loop i).trips := by rw [trips_eq]; omega
    have H := (Stage.passes 𝒱 c bd i arg3 harg3 arg4 harg4 arg5 harg5 arg6 harg6 arg7 harg7 arg8 harg8 arg9 harg9 arg10 harg10 w1 w2 w3 X4 X5 X7 hB E G8 G9 G10 S n (by omega)).enter hB E ⟨n, hk⟩
    rw [pb_k0_t1_succ (F := Ideal) 𝒱 c bd i arg3 harg3 arg4 harg4 arg5 harg5 arg6 harg6 arg7 harg7 arg8 harg8 arg9 harg9 arg10 harg10 w1 w2 w3 X4 X5 X7 G8 G9 G10 ⟨n, hk⟩]
    unfold tripL_k0_t1
    unfold trip_k0_t1
    rw [List.append_assoc, View.writes_append, show 512 * (4 * (n + 1)) = 512 * (4 * n + 4) by omega]
    exact H.z80 _ hh

end Pass
end Cert.Fox
end
-- ==== Proof.FoxDiagonal.lean ====
/- The forgetting attention's kernel around its loop: the queries it copies, the scores it begins with, and the four blocks on the diagonal. -/
module

public import proofs.«01_k».proof.Proof.FoxTrip
public import proofs.«01_k».proof.Proof.FoxRun

@[expose] public section

set_option maxRecDepth 16384

noncomputable section

namespace Cert.Fox

open Idealize.ShloMosaic Idealize.ShloMosaic.TcCoe Idealize.SL.Sem
open Cert.Mla Cert.Kernel3Ideal Cert.Kernel3Ideal.Gen

/-- Nothing is left over for the second loop. -/
theorem trips2_eq : ∀ i : grid0.Coords, (k0_t2_loop i).trips = 0 := by decide +kernel
theorem off7_eq : ∀ (i : grid0.Coords) (d : Fin 3),
    k0_off7 i (BitVec.ofNat 32 d.val) = ![0, 512 * (4 * (i 2).val + d.val + 1), 0] := by decide +kernel
theorem off8_eq : ∀ (i : grid0.Coords) (d : Fin 4),
    k0_off8 i (BitVec.ofNat 32 d.val) = ![0, 0, 0, 512 * (4 * (i 2).val + d.val)] := by decide +kernel
theorem off9_eq : ∀ (i : grid0.Coords) (d : Fin 4),
    k0_off9 i (BitVec.ofNat 32 d.val) = ![0, 1, 0, 512 * (4 * (i 2).val + d.val)] := by decide +kernel

/-- The features head `hh` of pair `p` keeps: its own 64, and its own eight of the gate. -/
def kept (p hh l : ℕ) : Bool :=
  decide (64 * hh ≤ l ∧ l < 64 * (hh + 1)) || decide (128 + 8 * (2 * p + hh) ≤ l ∧ l < 128 + 8 * (2 * p + hh) + 8)

theorem kept_word : ∀ (p : Fin 2) (hh : Fin 2) (l : Fin 256),
    Scalar.ori
      (Scalar.andi (Scalar.cmpi .sge (BitVec.ofNat 32 (0 * 256 + l.val)) (BitVec.ofNat 32 (64 * hh.val)))
        (Scalar.cmpi .slt (BitVec.ofNat 32 (0 * 256 + l.val)) (BitVec.ofNat 32 (64 * hh.val + 64))))
      (Scalar.andi
        (Scalar.cmpi .sge (BitVec.ofNat 32 (0 * 256 + l.val))
          (Scalar.addi 128#32 (Scalar.muli 8#32 (Scalar.addi (Scalar.muli 2#32 (BitVec.ofNat 32 p.val)) (BitVec.ofNat 32 hh.val)))))
        (Scalar.cmpi .slt (BitVec.ofNat 32 (0 * 256 + l.val))
          (Scalar.addi (Scalar.addi 128#32 (Scalar.muli 8#32 (Scalar.addi (Scalar.muli 2#32 (BitVec.ofNat 32 p.val))
            (BitVec.ofNat 32 hh.val)))) 8#32)))
      = if kept p.val hh.val l.val then (1 : BitVec 1) else 0 := by decide +kernel

theorem small_word : ∀ a : Fin 512, (BitVec.ofNat 32 a.val).toInt = (a.val : ℤ) := by decide +kernel

theorem upto_word (j q : Fin 512) :
    Scalar.cmpi .sle (BitVec.ofNat 32 j.val) (BitVec.ofNat 32 q.val) = if j.val ≤ q.val then (1 : BitVec 1) else 0 := by
  show BitVec.ofBool (decide ((BitVec.ofNat 32 j.val).toInt ≤ (BitVec.ofNat 32 q.val).toInt)) = _
  rw [small_word, small_word]
  by_cases h : j.val ≤ q.val
  · rw [if_pos h, decide_eq_true (by omega)]; rfl
  · rw [if_neg h, decide_eq_false (by omega)]; rfl

theorem mask_at (h0 : S512x512.Iotas .tc 32 [0]) (h1 : S512x512.Iotas .tc 32 [1]) (j q : Fin 512) :
    cmpi .sle (iota .tc S512x512 32 [0] h0) (iota .tc S512x512 32 [1] h1) (ix2 j q)
      = if j.val ≤ q.val then (1 : BitVec 1) else 0 := by
  show Scalar.cmpi .sle (BitVec.ofNat 32 (0 * 512 + j.val)) (BitVec.ofNat 32 (0 * 512 + q.val)) = _
  rw [Nat.zero_mul, Nat.zero_add, Nat.zero_add]
  exact upto_word j q

/-- What the update of a block on the diagonal reads: keys after the query are masked. -/
theorem readsTri {B : ℕ} {zz : Fin 2 → ℕ → ℕ → EReal} {arg8 : Memref sig .tc .vmem S2x2x512x2048 .f32}
    {arg9 : Memref sig .tc .vmem S2x1x2048 .f32} {f8 : BufTy.Contents (Elt Ideal) arg8.view.ty}
    {f9 : BufTy.Contents (Elt Ideal) arg9.view.ty} {s0 h0 c0 c1 b : ℕ} {s hh : Fin 2} {st : Fin 2 → ℕ → ℕ}
    (hb : b = B + c0) (Z : HasZ arg8.view zz f8 s hh c1 b)
    (C : Holds arg9.view (tgtM B zz) f9 st) (hs : s.val = s0) (hv : hh.val = h0) (hr : c1 ≤ c0)
    (R : Ready B hh st c0 512 b)
    (inb8 : ∀ a, (![s0, h0, 0, c0] : Fin 4 → ℕ) a + (![1, 1, 512, 512] : Fin 4 → ℕ) a ≤ Slots.size a)
    (inb9 : ∀ a, (![h0, 0, c0] : Fin 3 → ℕ) a + (![1, 1, 512] : Fin 3 → ℕ) a ≤ (Cols2 1).size a)
    (h : (⟨4, ![1, 1, 512, 512]⟩ : Shape).ShapeCasts (Mat 512 512))
    (i0 : S512x512.Iotas .tc 32 [0]) (i1 : S512x512.Iotas .tc 32 [1]) :
    Reads (n := 512) (upTo B (zz hh)) b c0
      (select (cmpi .sle (iota .tc S512x512 32 [0] i0) (iota .tc S512x512 32 [1] i1))
        (shapeCast (Mat 512 512)
          (arg8.view.readAt (Elt Ideal) (Rect.unit (s := Slots) ![s0, h0, 0, c0] ![1, 1, 512, 512] inb8).toLoadRect f8) h)
        (broadcast S512x512 (Scalar.ofBits (F := Ideal) .f32 0xFF800000#32)))
      (arg9.view.readAt (Elt Ideal) (Rect.unit (s := Cols2 1) ![h0, 0, c0] ![1, 1, 512] inb9).toLoadRect f9) where
  score := fun j q => by
    refine (congrArg₂ (fun m z => Scalar.select m z (Scalar.ofBits (F := Ideal) .f32 0xFF800000#32)) (mask_at i0 i1 j q)
      (Z.load hs hv inb8 hr h j q)).trans ?_
    unfold upTo
    by_cases hj : j.val ≤ q.val
    · rw [if_pos hj, if_pos (by omega)]; rfl
    · rw [if_neg hj, if_neg (by omega)]; exact ofBits_neg_inf
  carry := fun q => C.load (b := b) hh hv inb9 (R.m zz) 0 0 q

/-- One tile of queries, and the keys and values of its heads. -/
structure Given (B : ℕ) (qry : Fin 2 → ℕ → Fin 256 → EReal) (key : Fin 2 → ℕ → Fin 256 → EReal) (val : Fin 2 → Fin 80 → ℕ → EReal)
    (i : grid0.Coords) (x0 : Vec Ideal S1x1x256x2048 .bf16) (x1 : Vec Ideal S1x8192x256 .bf16)
    (x2 : Vec Ideal S1x2x80x8192 .bf16) : Prop where
  first : B = 2048 * (i 2).val
  queries : ∀ (hh : Fin 2) (l : Fin 256) (q : Fin 2048),
    (if kept (i 1).val hh.val l.val then x0 (ix4 0 0 l q) else 0) = qry hh q.val l
  keys : ∀ (hh : Fin 2) (j : Fin 8192) (l : Fin 256), x1 (ix3 0 j l) = key hh j.val l
  values : ∀ (hh : Fin 2) (d : Fin 80) (j : Fin 8192), x2 (ix4 0 hh d j) = val hh d j.val

section Diagonal
variable {B : ℕ} {qry : Fin 2 → ℕ → Fin 256 → EReal} {key : Fin 2 → ℕ → Fin 256 → EReal} {val : Fin 2 → Fin 80 → ℕ → EReal}
  (c : Dev nD) (i : grid0.Coords)
  (arg3 : Memref sig .tc .vmem S1x1x256x2048 .bf16) (harg3 : arg3.IsWhole)
  (arg4 : Memref sig .tc .vmem S1x8192x256 .bf16) (harg4 : arg4.IsWhole)
  (arg5 : Memref sig .tc .vmem S1x2x80x8192 .bf16) (harg5 : arg5.IsWhole)
  (arg6 : Memref sig .tc .vmem S1x2048x128 .bf16) (harg6 : arg6.IsWhole)
  (arg7 : Memref sig .tc .vmem S2x256x2048 .bf16) (harg7 : arg7.IsWhole)
  (arg8 : Memref sig .tc .vmem S2x2x512x2048 .f32) (harg8 : arg8.IsWhole)
  (arg9 : Memref sig .tc .vmem S2x1x2048 .f32) (harg9 : arg9.IsWhole)
  (arg10 : Memref sig .tc .vmem S2x80x2048 .f32) (harg10 : arg10.IsWhole)
  (x0 : Vec Ideal S1x1x256x2048 .bf16) (x1 : Vec Ideal S1x8192x256 .bf16) (x2 : Vec Ideal S1x2x80x8192 .bf16)
  (g8 : BufTy.Contents (Elt Ideal) arg8.view.ty)

/-- The scores of the first block, of both heads, as the loop finds them. -/
abbrev firstScores : List (View.Piece (Elt Ideal) S2x2x512x2048 .f32) :=
  [⟨Rect.unit (s := S2x2x512x2048) ![0, 1, 0, 0] S1x1x512x2048.size inb_S2x2x512x2048_S1x1x512x2048_0_1_0_0,
      k0_pay127 (arg4.view.readAt (Elt Ideal) (Rect.unit (s := S1x8192x256) ![0, 0, 0] S1x512x256.size inb_S1x8192x256_S1x512x256_0_0_0).toLoadRect (harg4.unread x1))
        (foxRun.sl.v70 c i arg3 harg3 arg7 x0)⟩,
    ⟨Rect.unit (s := S2x2x512x2048) ![0, 0, 0, 0] S1x1x512x2048.size inb_S2x2x512x2048_S1x1x512x2048_0_0_0_0,
      k0_pay126 (foxRun.sl.r c i arg3 harg3 arg4 harg4 arg7 x0 x1)⟩]

/-- What the loop stores. -/
abbrev loop :=
  pb_k0_t1 (F := Ideal) Variants.none c none i arg3 harg3 arg4 harg4 arg5 harg5 arg6 harg6 arg7 harg7 arg8 harg8 arg9 harg9
    arg10 harg10 (foxRun.sl.v56 i) 0#32 (foxRun.sl.r c i arg3 harg3 arg4 harg4 arg7 x0 x1) (harg4.unread x1) (harg5.unread x2)
    (arg7.view.writes (Elt Ideal) arg7.view.junk (foxRun.sl.HS0_2 c i arg3 harg3 x0))
    (arg8.view.writes (Elt Ideal) g8 (firstScores c i arg3 harg3 arg4 harg4 arg7 x0 x1))
    (arg9.view.writes (Elt Ideal) arg9.view.junk foxRun.sl.HS2_1)
    (arg10.view.writes (Elt Ideal) arg10.view.junk foxRun.sl.HS3_1) (k0_t1_loop i).trips

theorem load_queries (l : Fin 256) (q : Fin 2048)
    (inb : ∀ a, (![0, 0, 0, 0] : Fin 4 → ℕ) a + (![1, 1, 256, 2048] : Fin 4 → ℕ) a ≤ S1x1x256x2048.size a)
    (h1 : (⟨4, ![1, 1, 256, 2048]⟩ : Shape).ShapeCasts (Mat 256 2048)) :
    shapeCast (Mat 256 2048) (arg3.view.readAt (Elt Ideal)
      (Rect.unit (s := S1x1x256x2048) ![0, 0, 0, 0] ![1, 1, 256, 2048] inb).toLoadRect (harg3.unread x0)) h1 (ix2 l q)
      = x0 (ix4 0 0 l q) := by
  refine (shapeCast_apply _ h1 (ix2 l q) (ix4 0 0 l q) (by
    rw [Shape.rowMajor_val_four, Shape.rowMajor_val_two]
    show ((0 * 1 + 0) * 256 + l.val) * 2048 + q.val = l.val * 2048 + q.val
    ring)).trans ?_
  show arg3.view.read (Elt Ideal) (harg3.unread x0) _ = _
  rw [harg3.read_unread]
  refine congrArg x0 (funext fun a => Fin.ext ?_)
  match a with
  | ⟨0, _⟩ => rfl
  | ⟨1, _⟩ => rfl
  | ⟨2, _⟩ => show 0 + 1 * l.val = l.val; omega
  | ⟨3, _⟩ => show 0 + 1 * q.val = q.val; omega

theorem keep_at (p hh : Fin 2) (l : Fin 256) {m : BitVec 1} (hm : m = if kept p.val hh.val l.val then (1 : BitVec 1) else 0)
    (x y z : EReal) (hx : x = y) (hz : z = 0) : Scalar.select m x z = if kept p.val hh.val l.val then y else 0 := by
  subst hm hx hz
  by_cases h : kept p.val hh.val l.val = true
  · rw [if_pos h, if_pos h]; rfl
  · rw [if_neg h, if_neg h]; rfl

theorem queries0 (l : Fin 256) (q : Fin 2048) : k0_pay119 (F := Ideal) i (arg3.view.readAt (Elt Ideal)
      (Rect.unit (s := S1x1x256x2048) ![0, 0, 0, 0] S1x1x256x2048.size inb_S1x1x256x2048_S1x1x256x2048_0_0_0_0).toLoadRect (harg3.unread x0)) (ix3 0 l q)
      = if kept (i 1).val (0 : Fin 2).val l.val then x0 (ix4 0 0 l q) else 0 := by
  unfold k0_pay119
  refine (ValueIdx.shapeCast_ab_1ab_apply _ shapeCasts_S256x2048_S1x256x2048 0 l q).trans ?_
  exact keep_at (i 1) 0 l (kept_word (i 1) 0 l) _ _ _ (load_queries arg3 harg3 x0 l q _ _) Ideal.ofBits_zero_bf16

theorem queries1 (l : Fin 256) (q : Fin 2048) : k0_pay122 (F := Ideal) foxRun.sl.v24 (foxRun.sl.v28 i) k0_pay120 (k0_pay121 i) (arg3.view.readAt (Elt Ideal)
      (Rect.unit (s := S1x1x256x2048) ![0, 0, 0, 0] S1x1x256x2048.size inb_S1x1x256x2048_S1x1x256x2048_0_0_0_0).toLoadRect (harg3.unread x0)) (ix3 0 l q)
      = if kept (i 1).val (1 : Fin 2).val l.val then x0 (ix4 0 0 l q) else 0 := by
  unfold k0_pay122
  refine (ValueIdx.shapeCast_ab_1ab_apply _ shapeCasts_S256x2048_S1x256x2048 0 l q).trans ?_
  exact keep_at (i 1) 1 l (kept_word (i 1) 1 l) _ _ _ (load_queries arg3 harg3 x0 l q _ _) Ideal.ofBits_zero_bf16

variable {i x0 x1 x2} (G : Given B qry key val i x0 x1 x2)
include G

theorem Given.env (g : BufTy.Contents (Elt Ideal) arg7.view.ty) :
    Env qry key val arg4 arg5 arg7 (harg4.unread x1) (harg5.unread x2)
      (arg7.view.writes (Elt Ideal) g (foxRun.sl.HS0_2 c i arg3 harg3 x0)) where
  queries := fun hh l q => by
    refine (pair3 arg7.view g _ _ _ _ [] hh l q).trans ?_
    have h0 := (queries0 i arg3 harg3 x0 l q).trans (G.queries 0 l q)
    have h1 := (queries1 i arg3 harg3 x0 l q).trans (G.queries 1 l q)
    match hh with
    | ⟨0, _⟩ => exact (if_pos rfl).trans h0
    | ⟨1, _⟩ => exact (if_neg (fun h => Nat.one_ne_zero (congrArg Fin.val h))).trans h1
  keys := fun hh j l => by rw [harg4.read_unread]; exact G.keys hh j l
  values := fun hh d j => by rw [harg5.read_unread]; exact G.values hh d j

theorem Given.off7 (d : Fin 3) {b : ℕ} (hb : b = B + 512 * (d.val + 1)) : k0_off7 i (BitVec.ofNat 32 d.val) = ![0, b, 0] := by
  rw [off7_eq, hb, G.first, show 2048 * (i 2).val + 512 * (d.val + 1) = 512 * (4 * (i 2).val + d.val + 1) by omega]
theorem Given.off8 (d : Fin 4) {b : ℕ} (hb : b = B + 512 * d.val) : k0_off8 i (BitVec.ofNat 32 d.val) = ![0, 0, 0, b] := by
  rw [off8_eq, hb, G.first, show 2048 * (i 2).val + 512 * d.val = 512 * (4 * (i 2).val + d.val) by omega]
theorem Given.off9 (d : Fin 4) {b : ℕ} (hb : b = B + 512 * d.val) : k0_off9 i (BitVec.ofNat 32 d.val) = ![0, 1, 0, b] := by
  rw [off9_eq, hb, G.first, show 2048 * (i 2).val + 512 * d.val = 512 * (4 * (i 2).val + d.val) by omega]
theorem Given.room : B ≤ 6144 := by
  have h : (i 2).val < 4 := (i 2).isLt
  have := G.first
  omega

include harg5 in
theorem Given.zFirst (g : BufTy.Contents (Elt Ideal) arg8.view.ty) (hh : Fin 2) : HasZ arg8.view (scoreOf qry key)
    (arg8.view.writes (Elt Ideal) g (firstScores c i arg3 harg3 arg4 harg4 arg7 x0 x1)) 0 hh 0 0 := by
  have E := G.env c arg3 harg3 arg4 harg4 arg5 harg5 arg7 arg7.view.junk
  exact HasZ.put2 (s0 := 0) (c0 := 0) (n := 2048) 0 rfl _ _ _ _ rfl
    (fun j q => E.score 0 rfl rfl (by omega) _ _ _ _ _ j q)
    (fun j q => E.score 1 rfl rfl (by omega) _ _ _ _ _ j q) hh

include harg5 in
theorem Given.start : Stage B qry key val arg8.view arg9.view arg10.view
    (arg8.view.writes (Elt Ideal) g8 (firstScores c i arg3 harg3 arg4 harg4 arg7 x0 x1))
    (arg9.view.writes (Elt Ideal) arg9.view.junk foxRun.sl.HS2_1)
    (arg10.view.writes (Elt Ideal) arg10.view.junk foxRun.sl.HS3_1) 0 where
  scores := fun hh => G.zFirst c arg3 harg3 arg4 harg4 arg5 harg5 arg7 arg8 g8 hh
  maxs := fun hh r q => by
    refine (all3 arg9.view arg9.view.junk _ _ [] hh r q).trans ?_
    unfold k0_pay123
    rw [shapeCast_self]
    exact ofBits_neg_inf
  accs := fun hh d q => by
    refine (all3 arg10.view arg10.view.junk _ _ [] hh d q).trans ?_
    unfold k0_pay124
    rw [shapeCast_self]
    exact Ideal.ofBits_zero_f32

/-- What the loop leaves. -/
theorem Given.zL (hh : Fin 2) : HasZ arg8.view (scoreOf qry key) (arg8.view.writes (Elt Ideal) arg8.view.junk ((loop c i arg3 harg3 arg4 harg4 arg5 harg5 arg6 harg6 arg7 harg7 arg8 harg8 arg9 harg9 arg10 harg10 x0 x1 x2 g8).1 ++ firstScores c i arg3 harg3 arg4 harg4 arg7 x0 x1)) 0 hh 0 B := by
  have S := G.start c arg3 harg3 arg4 harg4 arg5 harg5 arg7 arg8 arg9 arg10 g8
  have h := Stage.rebase Variants.none c none i arg3 harg3 arg4 harg4 arg5 harg5 arg6 harg6 arg7 harg7 arg8 harg8 arg9 harg9
    arg10 harg10 (foxRun.sl.v56 i) 0#32 (foxRun.sl.r c i arg3 harg3 arg4 harg4 arg7 x0 x1) (harg4.unread x1) (harg5.unread x2)
    (arg7.view.writes (Elt Ideal) arg7.view.junk (foxRun.sl.HS0_2 c i arg3 harg3 x0)) G.first
    (G.env c arg3 harg3 arg4 harg4 arg5 harg5 arg7 arg7.view.junk) _ _ _ S (firstScores c i arg3 harg3 arg4 harg4 arg7 x0 x1)
    (G.zFirst c arg3 harg3 arg4 harg4 arg5 harg5 arg7 arg8) (i 2).val (le_refl _) arg8.view.junk hh
  rw [show 512 * (4 * (i 2).val) = B by have := G.first; omega] at h
  unfold loop
  rw [trips_eq]
  exact h

theorem Given.mL : Holds arg9.view (tgtM B (scoreOf qry key)) (arg9.view.writes (Elt Ideal) arg9.view.junk ((loop c i arg3 harg3 arg4 harg4 arg5 harg5 arg6 harg6 arg7 harg7 arg8 harg8 arg9 harg9 arg10 harg10 x0 x1 x2 g8).2.1 ++ foxRun.sl.HS2_1)) (fun _ _ => B) := by
  have S := G.start c arg3 harg3 arg4 harg4 arg5 harg5 arg7 arg8 arg9 arg10 g8
  have h := (Stage.passes Variants.none c none i arg3 harg3 arg4 harg4 arg5 harg5 arg6 harg6 arg7 harg7 arg8 harg8 arg9 harg9
    arg10 harg10 (foxRun.sl.v56 i) 0#32 (foxRun.sl.r c i arg3 harg3 arg4 harg4 arg7 x0 x1) (harg4.unread x1) (harg5.unread x2)
    (arg7.view.writes (Elt Ideal) arg7.view.junk (foxRun.sl.HS0_2 c i arg3 harg3 x0)) G.first
    (G.env c arg3 harg3 arg4 harg4 arg5 harg5 arg7 arg7.view.junk) _ _ _ S (i 2).val (le_refl _)).maxs
  rw [show 512 * (4 * (i 2).val) = B by have := G.first; omega] at h
  unfold loop
  rw [View.writes_append, trips_eq]
  exact h

theorem Given.aL : Holds arg10.view (tgtA B (scoreOf qry key) val) (arg10.view.writes (Elt Ideal) arg10.view.junk ((loop c i arg3 harg3 arg4 harg4 arg5 harg5 arg6 harg6 arg7 harg7 arg8 harg8 arg9 harg9 arg10 harg10 x0 x1 x2 g8).2.2 ++ foxRun.sl.HS3_1)) (fun _ _ => B) := by
  have S := G.start c arg3 harg3 arg4 harg4 arg5 harg5 arg7 arg8 arg9 arg10 g8
  have h := (Stage.passes Variants.none c none i arg3 harg3 arg4 harg4 arg5 harg5 arg6 harg6 arg7 harg7 arg8 harg8 arg9 harg9
    arg10 harg10 (foxRun.sl.v56 i) 0#32 (foxRun.sl.r c i arg3 harg3 arg4 harg4 arg7 x0 x1) (harg4.unread x1) (harg5.unread x2)
    (arg7.view.writes (Elt Ideal) arg7.view.junk (foxRun.sl.HS0_2 c i arg3 harg3 x0)) G.first
    (G.env c arg3 harg3 arg4 harg4 arg5 harg5 arg7 arg7.view.junk) _ _ _ S (i 2).val (le_refl _)).accs
  rw [show 512 * (4 * (i 2).val) = B by have := G.first; omega] at h
  unfold loop
  rw [View.writes_append, trips_eq]
  exact h

/-- The scores of the four blocks on the diagonal, as they are found. -/
theorem Given.zA (hh : Fin 2) : HasZ arg8.view (scoreOf qry key) (arg8.view.writes (Elt Ideal) arg8.view.junk (foxRun.sl.HS1_2 c i arg3 harg3 arg4 harg4 arg5 harg5 arg6 harg6 arg7 harg7 arg8 harg8 arg9 harg9 arg10 harg10 x0 x1 x2 g8)) 0 hh 0 (B) := by
  have E := (G.env c arg3 harg3 arg4 harg4 arg5 harg5 arg7 arg7.view.junk); have hB := G.room
  unfold foxRun.sl.HS1_2
  rw [show Scf.trips (k0_t2_loop i).lb (k0_t2_loop i).ub (k0_t2_loop i).st = 0 from trips2_eq i, pb_k0_t2.eq_1]
  simp only [List.nil_append]
  exact HasZ.keep2 (s0 := 1) (c0 := 512) (n := 1536) Nat.zero_ne_one _ _ _ _ hh
    (G.zL c arg3 harg3 arg4 harg4 arg5 harg5 arg6 harg6 arg7 harg7 arg8 harg8 arg9 harg9 arg10 harg10 g8 hh)

theorem Given.zB0 (hh : Fin 2) : HasZ arg8.view (scoreOf qry key) (arg8.view.writes (Elt Ideal) arg8.view.junk (foxRun.sl.HS1_2 c i arg3 harg3 arg4 harg4 arg5 harg5 arg6 harg6 arg7 harg7 arg8 harg8 arg9 harg9 arg10 harg10 x0 x1 x2 g8)) 1 hh 512 (B + 512) := by
  have E := (G.env c arg3 harg3 arg4 harg4 arg5 harg5 arg7 arg7.view.junk); have hB := G.room
  unfold foxRun.sl.HS1_2
  rw [show Scf.trips (k0_t2_loop i).lb (k0_t2_loop i).ub (k0_t2_loop i).st = 0 from trips2_eq i, pb_k0_t2.eq_1]
  simp only [List.nil_append]
  exact HasZ.put2 (s0 := 1) (c0 := 512) (n := 1536) 1 rfl _ _ _ _ rfl
    (fun j q => E.score 0 rfl (G.off7 0 (show B + 512 = B + 512 * (0 + 1) by omega)) (by omega) _ _ _ _ _ j q)
    (fun j q => E.score 1 rfl (G.off7 0 (show B + 512 = B + 512 * (0 + 1) by omega)) (by omega) _ _ _ _ _ j q) hh

theorem Given.zB (hh : Fin 2) : HasZ arg8.view (scoreOf qry key) (arg8.view.writes (Elt Ideal) arg8.view.junk (foxRun.sl.HS1_4 c i arg3 harg3 arg4 harg4 arg5 harg5 arg6 harg6 arg7 harg7 arg8 harg8 arg9 harg9 arg10 harg10 x0 x1 x2 g8)) 1 hh 512 (B + 512) := by
  have E := (G.env c arg3 harg3 arg4 harg4 arg5 harg5 arg7 arg7.view.junk); have hB := G.room
  exact HasZ.keep2 (s0 := 0) (c0 := 1024) (n := 1024) Nat.one_ne_zero _ _ _ _ hh
    (G.zB0 c arg3 harg3 arg4 harg4 arg5 harg5 arg6 harg6 arg7 harg7 arg8 harg8 arg9 harg9 arg10 harg10 g8 hh)

theorem Given.zC0 (hh : Fin 2) : HasZ arg8.view (scoreOf qry key) (arg8.view.writes (Elt Ideal) arg8.view.junk (foxRun.sl.HS1_4 c i arg3 harg3 arg4 harg4 arg5 harg5 arg6 harg6 arg7 harg7 arg8 harg8 arg9 harg9 arg10 harg10 x0 x1 x2 g8)) 0 hh 1024 (B + 1024) := by
  have E := (G.env c arg3 harg3 arg4 harg4 arg5 harg5 arg7 arg7.view.junk); have hB := G.room
  exact HasZ.put2 (s0 := 0) (c0 := 1024) (n := 1024) 0 rfl _ _ _ _ rfl
    (fun j q => E.score 0 rfl (G.off7 1 (show B + 1024 = B + 512 * (1 + 1) by omega)) (by omega) _ _ _ _ _ j q)
    (fun j q => E.score 1 rfl (G.off7 1 (show B + 1024 = B + 512 * (1 + 1) by omega)) (by omega) _ _ _ _ _ j q) hh

theorem Given.zC (hh : Fin 2) : HasZ arg8.view (scoreOf qry key) (arg8.view.writes (Elt Ideal) arg8.view.junk (foxRun.sl.HS1_6 c i arg3 harg3 arg4 harg4 arg5 harg5 arg6 harg6 arg7 harg7 arg8 harg8 arg9 harg9 arg10 harg10 x0 x1 x2 g8)) 0 hh 1024 (B + 1024) := by
  have E := (G.env c arg3 harg3 arg4 harg4 arg5 harg5 arg7 arg7.view.junk); have hB := G.room
  exact HasZ.keep2 (s0 := 1) (c0 := 1536) (n := 512) Nat.zero_ne_one _ _ _ _ hh
    (G.zC0 c arg3 harg3 arg4 harg4 arg5 harg5 arg6 harg6 arg7 harg7 arg8 harg8 arg9 harg9 arg10 harg10 g8 hh)

theorem Given.zD (hh : Fin 2) : HasZ arg8.view (scoreOf qry key) (arg8.view.writes (Elt Ideal) arg8.view.junk (foxRun.sl.HS1_6 c i arg3 harg3 arg4 harg4 arg5 harg5 arg6 harg6 arg7 harg7 arg8 harg8 arg9 harg9 arg10 harg10 x0 x1 x2 g8)) 1 hh 1536 (B + 1536) := by
  have E := (G.env c arg3 harg3 arg4 harg4 arg5 harg5 arg7 arg7.view.junk); have hB := G.room
  exact HasZ.put2 (s0 := 1) (c0 := 1536) (n := 512) 1 rfl _ _ _ _ rfl
    (fun j q => E.score 0 rfl (G.off7 2 (show B + 1536 = B + 512 * (2 + 1) by omega)) (by omega) _ _ _ _ _ j q)
    (fun j q => E.score 1 rfl (G.off7 2 (show B + 1536 = B + 512 * (2 + 1) by omega)) (by omega) _ _ _ _ _ j q) hh

theorem Given.m00 : Holds arg9.view (tgtM B (scoreOf qry key)) (arg9.view.writes (Elt Ideal) arg9.view.junk (foxRun.sl.HS2_1_1 c i arg3 harg3 arg4 harg4 arg5 harg5 arg6 harg6 arg7 harg7 arg8 harg8 arg9 harg9 arg10 harg10 x0 x1 x2 g8)) (upd (fun _ _ => B) 0 0 512 (B + 512)) := by
  have E := (G.env c arg3 harg3 arg4 harg4 arg5 harg5 arg7 arg7.view.junk); have hB := G.room
  unfold foxRun.sl.HS2_1_1 foxRun.sl.v130
  rw [show Scf.trips (k0_t2_loop i).lb (k0_t2_loop i).ub (k0_t2_loop i).st = 0 from trips2_eq i, pb_k0_t2.eq_1]
  simp only [List.nil_append]
  exact (G.mL c arg3 harg3 arg4 harg4 arg5 harg5 arg6 harg6 arg7 harg7 arg8 harg8 arg9 harg9 arg10 harg10 g8).put (h0 := 0) (c0 := 0) (n := 512) _ _ fun hh hv r q =>
    Reads.newM_at (h := fits512) (readsTri (by omega) (G.zA c arg3 harg3 arg4 harg4 arg5 harg5 arg6 harg6 arg7 harg7 arg8 harg8 arg9 harg9 arg10 harg10 g8 hh) (G.mL c arg3 harg3 arg4 harg4 arg5 harg5 arg6 harg6 arg7 harg7 arg8 harg8 arg9 harg9 arg10 harg10 g8) rfl hv (by omega) (fun _ _ _ => Or.inl rfl) _ _ shapeCasts_S1x1x512x512_S512x512 iota_S512x512_d0_w32 iota_S512x512_d1_w32) r q

theorem Given.a00 : Holds arg10.view (tgtA B (scoreOf qry key) val) (arg10.view.writes (Elt Ideal) arg10.view.junk (foxRun.sl.HS3_1_1 c i arg3 harg3 arg4 harg4 arg5 harg5 arg6 harg6 arg7 harg7 arg8 harg8 arg9 harg9 arg10 harg10 x0 x1 x2 g8)) (upd (fun _ _ => B) 0 0 512 (B + 512)) := by
  have E := (G.env c arg3 harg3 arg4 harg4 arg5 harg5 arg7 arg7.view.junk); have hB := G.room
  unfold foxRun.sl.HS3_1_1 foxRun.sl.v130 foxRun.sl.v140
  rw [show Scf.trips (k0_t2_loop i).lb (k0_t2_loop i).ub (k0_t2_loop i).st = 0 from trips2_eq i, pb_k0_t2.eq_1]
  simp only [List.nil_append]
  exact (G.aL c arg3 harg3 arg4 harg4 arg5 harg5 arg6 harg6 arg7 harg7 arg8 harg8 arg9 harg9 arg10 harg10 g8).put (h0 := 0) (c0 := 0) (n := 512) _ _ fun hh hv r q =>
    Reads.newA_at (h := fits512) (readsTri (by omega) (G.zA c arg3 harg3 arg4 harg4 arg5 harg5 arg6 harg6 arg7 harg7 arg8 harg8 arg9 harg9 arg10 harg10 g8 hh) (G.mL c arg3 harg3 arg4 harg4 arg5 harg5 arg6 harg6 arg7 harg7 arg8 harg8 arg9 harg9 arg10 harg10 g8) rfl hv (by omega) (fun _ _ _ => Or.inl rfl) _ _ shapeCasts_S1x1x512x512_S512x512 iota_S512x512_d0_w32 iota_S512x512_d1_w32)
      (E.value hh hv (G.off8 0 (show B = B + 512 * 0 by omega)) (by omega) _)
      (adds (G.aL c arg3 harg3 arg4 harg4 arg5 harg5 arg6 harg6 arg7 harg7 arg8 harg8 arg9 harg9 arg10 harg10 g8) hv (fun _ _ _ => Or.inl rfl) _) r q

theorem Given.m01 : Holds arg9.view (tgtM B (scoreOf qry key)) (arg9.view.writes (Elt Ideal) arg9.view.junk (foxRun.sl.HS2_2 c i arg3 harg3 arg4 harg4 arg5 harg5 arg6 harg6 arg7 harg7 arg8 harg8 arg9 harg9 arg10 harg10 x0 x1 x2 g8)) (upd (upd (fun _ _ => B) 0 0 512 (B + 512)) 1 0 512 (B + 512)) := by
  have E := (G.env c arg3 harg3 arg4 harg4 arg5 harg5 arg7 arg7.view.junk); have hB := G.room
  exact (G.m00 c arg3 harg3 arg4 harg4 arg5 harg5 arg6 harg6 arg7 harg7 arg8 harg8 arg9 harg9 arg10 harg10 g8).put (h0 := 1) (c0 := 0) (n := 512) _ _ fun hh hv r q =>
    Reads.newM_at (h := fits512) (readsTri (by omega) (G.zA c arg3 harg3 arg4 harg4 arg5 harg5 arg6 harg6 arg7 harg7 arg8 harg8 arg9 harg9 arg10 harg10 g8 hh) (G.m00 c arg3 harg3 arg4 harg4 arg5 harg5 arg6 harg6 arg7 harg7 arg8 harg8 arg9 harg9 arg10 harg10 g8) rfl hv (by omega) (fun q h1 h2 => by simp only [upd]; (try split_ifs) <;> omega) _ _ shapeCasts_S1x1x512x512_S512x512 iota_S512x512_d0_w32 iota_S512x512_d1_w32) r q

theorem Given.a01 : Holds arg10.view (tgtA B (scoreOf qry key) val) (arg10.view.writes (Elt Ideal) arg10.view.junk (foxRun.sl.HS3_2 c i arg3 harg3 arg4 harg4 arg5 harg5 arg6 harg6 arg7 harg7 arg8 harg8 arg9 harg9 arg10 harg10 x0 x1 x2 g8)) (upd (upd (fun _ _ => B) 0 0 512 (B + 512)) 1 0 512 (B + 512)) := by
  have E := (G.env c arg3 harg3 arg4 harg4 arg5 harg5 arg7 arg7.view.junk); have hB := G.room
  exact (G.a00 c arg3 harg3 arg4 harg4 arg5 harg5 arg6 harg6 arg7 harg7 arg8 harg8 arg9 harg9 arg10 harg10 g8).put (h0 := 1) (c0 := 0) (n := 512) _ _ fun hh hv r q =>
    Reads.newA_at (h := fits512) (readsTri (by omega) (G.zA c arg3 harg3 arg4 harg4 arg5 harg5 arg6 harg6 arg7 harg7 arg8 harg8 arg9 harg9 arg10 harg10 g8 hh) (G.m00 c arg3 harg3 arg4 harg4 arg5 harg5 arg6 harg6 arg7 harg7 arg8 harg8 arg9 harg9 arg10 harg10 g8) rfl hv (by omega) (fun q h1 h2 => by simp only [upd]; (try split_ifs) <;> omega) _ _ shapeCasts_S1x1x512x512_S512x512 iota_S512x512_d0_w32 iota_S512x512_d1_w32)
      (E.value hh hv (G.off9 0 (show B = B + 512 * 0 by omega)) (by omega) _)
      (adds (G.a00 c arg3 harg3 arg4 harg4 arg5 harg5 arg6 harg6 arg7 harg7 arg8 harg8 arg9 harg9 arg10 harg10 g8) hv (fun q h1 h2 => by simp only [upd]; (try split_ifs) <;> omega) _) r q

theorem Given.m02 : Holds arg9.view (tgtM B (scoreOf qry key)) (arg9.view.writes (Elt Ideal) arg9.view.junk (foxRun.sl.HS2_3 c i arg3 harg3 arg4 harg4 arg5 harg5 arg6 harg6 arg7 harg7 arg8 harg8 arg9 harg9 arg10 harg10 x0 x1 x2 g8)) (upd (upd (upd (fun _ _ => B) 0 0 512 (B + 512)) 1 0 512 (B + 512)) 0 512 1536 (B + 512)) := by
  have E := (G.env c arg3 harg3 arg4 harg4 arg5 harg5 arg7 arg7.view.junk); have hB := G.room
  exact (G.m01 c arg3 harg3 arg4 harg4 arg5 harg5 arg6 harg6 arg7 harg7 arg8 harg8 arg9 harg9 arg10 harg10 g8).put (h0 := 0) (c0 := 512) (n := 1536) _ _ fun hh hv r q =>
    Reads.newM_at (h := fits1536) (reads (by omega) (G.zA c arg3 harg3 arg4 harg4 arg5 harg5 arg6 harg6 arg7 harg7 arg8 harg8 arg9 harg9 arg10 harg10 g8 hh) (G.m01 c arg3 harg3 arg4 harg4 arg5 harg5 arg6 harg6 arg7 harg7 arg8 harg8 arg9 harg9 arg10 harg10 g8) rfl hv (by omega) (fun q h1 h2 => by simp only [upd]; (try split_ifs) <;> omega) _ _ shapeCasts_S1x1x512x1536_S512x1536) r q

theorem Given.a02 : Holds arg10.view (tgtA B (scoreOf qry key) val) (arg10.view.writes (Elt Ideal) arg10.view.junk (foxRun.sl.HS3_3 c i arg3 harg3 arg4 harg4 arg5 harg5 arg6 harg6 arg7 harg7 arg8 harg8 arg9 harg9 arg10 harg10 x0 x1 x2 g8)) (upd (upd (upd (fun _ _ => B) 0 0 512 (B + 512)) 1 0 512 (B + 512)) 0 512 1536 (B + 512)) := by
  have E := (G.env c arg3 harg3 arg4 harg4 arg5 harg5 arg7 arg7.view.junk); have hB := G.room
  exact (G.a01 c arg3 harg3 arg4 harg4 arg5 harg5 arg6 harg6 arg7 harg7 arg8 harg8 arg9 harg9 arg10 harg10 g8).put (h0 := 0) (c0 := 512) (n := 1536) _ _ fun hh hv r q =>
    Reads.newA_at (h := fits1536) (reads (by omega) (G.zA c arg3 harg3 arg4 harg4 arg5 harg5 arg6 harg6 arg7 harg7 arg8 harg8 arg9 harg9 arg10 harg10 g8 hh) (G.m01 c arg3 harg3 arg4 harg4 arg5 harg5 arg6 harg6 arg7 harg7 arg8 harg8 arg9 harg9 arg10 harg10 g8) rfl hv (by omega) (fun q h1 h2 => by simp only [upd]; (try split_ifs) <;> omega) _ _ shapeCasts_S1x1x512x1536_S512x1536)
      (E.value hh hv (G.off8 0 (show B = B + 512 * 0 by omega)) (by omega) _)
      (adds (G.a01 c arg3 harg3 arg4 harg4 arg5 harg5 arg6 harg6 arg7 harg7 arg8 harg8 arg9 harg9 arg10 harg10 g8) hv (fun q h1 h2 => by simp only [upd]; (try split_ifs) <;> omega) _) r q

theorem Given.m03 : Holds arg9.view (tgtM B (scoreOf qry key)) (arg9.view.writes (Elt Ideal) arg9.view.junk (foxRun.sl.HS2_4 c i arg3 harg3 arg4 harg4 arg5 harg5 arg6 harg6 arg7 harg7 arg8 harg8 arg9 harg9 arg10 harg10 x0 x1 x2 g8)) (upd (upd (upd (upd (fun _ _ => B) 0 0 512 (B + 512)) 1 0 512 (B + 512)) 0 512 1536 (B + 512)) 1 512 1536 (B + 512)) := by
  have E := (G.env c arg3 harg3 arg4 harg4 arg5 harg5 arg7 arg7.view.junk); have hB := G.room
  exact (G.m02 c arg3 harg3 arg4 harg4 arg5 harg5 arg6 harg6 arg7 harg7 arg8 harg8 arg9 harg9 arg10 harg10 g8).put (h0 := 1) (c0 := 512) (n := 1536) _ _ fun hh hv r q =>
    Reads.newM_at (h := fits1536) (reads (by omega) (G.zA c arg3 harg3 arg4 harg4 arg5 harg5 arg6 harg6 arg7 harg7 arg8 harg8 arg9 harg9 arg10 harg10 g8 hh) (G.m02 c arg3 harg3 arg4 harg4 arg5 harg5 arg6 harg6 arg7 harg7 arg8 harg8 arg9 harg9 arg10 harg10 g8) rfl hv (by omega) (fun q h1 h2 => by simp only [upd]; (try split_ifs) <;> omega) _ _ shapeCasts_S1x1x512x1536_S512x1536) r q

theorem Given.a03 : Holds arg10.view (tgtA B (scoreOf qry key) val) (arg10.view.writes (Elt Ideal) arg10.view.junk (foxRun.sl.HS3_4 c i arg3 harg3 arg4 harg4 arg5 harg5 arg6 harg6 arg7 harg7 arg8 harg8 arg9 harg9 arg10 harg10 x0 x1 x2 g8)) (upd (upd (upd (upd (fun _ _ => B) 0 0 512 (B + 512)) 1 0 512 (B + 512)) 0 512 1536 (B + 512)) 1 512 1536 (B + 512)) := by
  have E := (G.env c arg3 harg3 arg4 harg4 arg5 harg5 arg7 arg7.view.junk); have hB := G.room
  exact (G.a02 c arg3 harg3 arg4 harg4 arg5 harg5 arg6 harg6 arg7 harg7 arg8 harg8 arg9 harg9 arg10 harg10 g8).put (h0 := 1) (c0 := 512) (n := 1536) _ _ fun hh hv r q =>
    Reads.newA_at (h := fits1536) (reads (by omega) (G.zA c arg3 harg3 arg4 harg4 arg5 harg5 arg6 harg6 arg7 harg7 arg8 harg8 arg9 harg9 arg10 harg10 g8 hh) (G.m02 c arg3 harg3 arg4 harg4 arg5 harg5 arg6 harg6 arg7 harg7 arg8 harg8 arg9 harg9 arg10 harg10 g8) rfl hv (by omega) (fun q h1 h2 => by simp only [upd]; (try split_ifs) <;> omega) _ _ shapeCasts_S1x1x512x1536_S512x1536)
      (E.value hh hv (G.off9 0 (show B = B + 512 * 0 by omega)) (by omega) _)
      (adds (G.a02 c arg3 harg3 arg4 harg4 arg5 harg5 arg6 harg6 arg7 harg7 arg8 harg8 arg9 harg9 arg10 harg10 g8) hv (fun q h1 h2 => by simp only [upd]; (try split_ifs) <;> omega) _) r q

theorem Given.m0s : Holds arg9.view (tgtM B (scoreOf qry key)) (arg9.view.writes (Elt Ideal) arg9.view.junk (foxRun.sl.HS2_4 c i arg3 harg3 arg4 harg4 arg5 harg5 arg6 harg6 arg7 harg7 arg8 harg8 arg9 harg9 arg10 harg10 x0 x1 x2 g8)) (fun _ _ => B + 512) :=
  Holds.settleM (G.m03 c arg3 harg3 arg4 harg4 arg5 harg5 arg6 harg6 arg7 harg7 arg8 harg8 arg9 harg9 arg10 harg10 g8) fun hh q h1 h2 => by
    have := hh.isLt
    simp only [upd]; split_ifs <;> omega

theorem Given.a0s : Holds arg10.view (tgtA B (scoreOf qry key) val) (arg10.view.writes (Elt Ideal) arg10.view.junk (foxRun.sl.HS3_4 c i arg3 harg3 arg4 harg4 arg5 harg5 arg6 harg6 arg7 harg7 arg8 harg8 arg9 harg9 arg10 harg10 x0 x1 x2 g8)) (fun _ _ => B + 512) :=
  Holds.settleA (G.a03 c arg3 harg3 arg4 harg4 arg5 harg5 arg6 harg6 arg7 harg7 arg8 harg8 arg9 harg9 arg10 harg10 g8) fun hh q h1 h2 => by
    have := hh.isLt
    simp only [upd]; split_ifs <;> omega

theorem Given.m10 : Holds arg9.view (tgtM B (scoreOf qry key)) (arg9.view.writes (Elt Ideal) arg9.view.junk (foxRun.sl.HS2_5 c i arg3 harg3 arg4 harg4 arg5 harg5 arg6 harg6 arg7 harg7 arg8 harg8 arg9 harg9 arg10 harg10 x0 x1 x2 g8)) (upd (fun _ _ => B + 512) 0 512 512 (B + 512 + 512)) := by
  have E := (G.env c arg3 harg3 arg4 harg4 arg5 harg5 arg7 arg7.view.junk); have hB := G.room
  exact (G.m0s c arg3 harg3 arg4 harg4 arg5 harg5 arg6 harg6 arg7 harg7 arg8 harg8 arg9 harg9 arg10 harg10 g8).put (h0 := 0) (c0 := 512) (n := 512) _ _ fun hh hv r q =>
    Reads.newM_at (h := fits512) (readsTri (by omega) (G.zB c arg3 harg3 arg4 harg4 arg5 harg5 arg6 harg6 arg7 harg7 arg8 harg8 arg9 harg9 arg10 harg10 g8 hh) (G.m0s c arg3 harg3 arg4 harg4 arg5 harg5 arg6 harg6 arg7 harg7 arg8 harg8 arg9 harg9 arg10 harg10 g8) rfl hv (by omega) (fun _ _ _ => Or.inl rfl) _ _ shapeCasts_S1x1x512x512_S512x512 iota_S512x512_d0_w32 iota_S512x512_d1_w32) r q

theorem Given.a10 : Holds arg10.view (tgtA B (scoreOf qry key) val) (arg10.view.writes (Elt Ideal) arg10.view.junk (foxRun.sl.HS3_5 c i arg3 harg3 arg4 harg4 arg5 harg5 arg6 harg6 arg7 harg7 arg8 harg8 arg9 harg9 arg10 harg10 x0 x1 x2 g8)) (upd (fun _ _ => B + 512) 0 512 512 (B + 512 + 512)) := by
  have E := (G.env c arg3 harg3 arg4 harg4 arg5 harg5 arg7 arg7.view.junk); have hB := G.room
  exact (G.a0s c arg3 harg3 arg4 harg4 arg5 harg5 arg6 harg6 arg7 harg7 arg8 harg8 arg9 harg9 arg10 harg10 g8).put (h0 := 0) (c0 := 512) (n := 512) _ _ fun hh hv r q =>
    Reads.newA_at (h := fits512) (readsTri (by omega) (G.zB c arg3 harg3 arg4 harg4 arg5 harg5 arg6 harg6 arg7 harg7 arg8 harg8 arg9 harg9 arg10 harg10 g8 hh) (G.m0s c arg3 harg3 arg4 harg4 arg5 harg5 arg6 harg6 arg7 harg7 arg8 harg8 arg9 harg9 arg10 harg10 g8) rfl hv (by omega) (fun _ _ _ => Or.inl rfl) _ _ shapeCasts_S1x1x512x512_S512x512 iota_S512x512_d0_w32 iota_S512x512_d1_w32)
      (E.value hh hv (G.off8 1 (show B + 512 = B + 512 * 1 by omega)) (by omega) _)
      (adds (G.a0s c arg3 harg3 arg4 harg4 arg5 harg5 arg6 harg6 arg7 harg7 arg8 harg8 arg9 harg9 arg10 harg10 g8) hv (fun _ _ _ => Or.inl rfl) _) r q

theorem Given.m11 : Holds arg9.view (tgtM B (scoreOf qry key)) (arg9.view.writes (Elt Ideal) arg9.view.junk (foxRun.sl.HS2_6 c i arg3 harg3 arg4 harg4 arg5 harg5 arg6 harg6 arg7 harg7 arg8 harg8 arg9 harg9 arg10 harg10 x0 x1 x2 g8)) (upd (upd (fun _ _ => B + 512) 0 512 512 (B + 512 + 512)) 1 512 512 (B + 512 + 512)) := by
  have E := (G.env c arg3 harg3 arg4 harg4 arg5 harg5 arg7 arg7.view.junk); have hB := G.room
  exact (G.m10 c arg3 harg3 arg4 harg4 arg5 harg5 arg6 harg6 arg7 harg7 arg8 harg8 arg9 harg9 arg10 harg10 g8).put (h0 := 1) (c0 := 512) (n := 512) _ _ fun hh hv r q =>
    Reads.newM_at (h := fits512) (readsTri (by omega) (G.zB c arg3 harg3 arg4 harg4 arg5 harg5 arg6 harg6 arg7 harg7 arg8 harg8 arg9 harg9 arg10 harg10 g8 hh) (G.m10 c arg3 harg3 arg4 harg4 arg5 harg5 arg6 harg6 arg7 harg7 arg8 harg8 arg9 harg9 arg10 harg10 g8) rfl hv (by omega) (fun q h1 h2 => by simp only [upd]; (try split_ifs) <;> omega) _ _ shapeCasts_S1x1x512x512_S512x512 iota_S512x512_d0_w32 iota_S512x512_d1_w32) r q

theorem Given.a11 : Holds arg10.view (tgtA B (scoreOf qry key) val) (arg10.view.writes (Elt Ideal) arg10.view.junk (foxRun.sl.HS3_6 c i arg3 harg3 arg4 harg4 arg5 harg5 arg6 harg6 arg7 harg7 arg8 harg8 arg9 harg9 arg10 harg10 x0 x1 x2 g8)) (upd (upd (fun _ _ => B + 512) 0 512 512 (B + 512 + 512)) 1 512 512 (B + 512 + 512)) := by
  have E := (G.env c arg3 harg3 arg4 harg4 arg5 harg5 arg7 arg7.view.junk); have hB := G.room
  exact (G.a10 c arg3 harg3 arg4 harg4 arg5 harg5 arg6 harg6 arg7 harg7 arg8 harg8 arg9 harg9 arg10 harg10 g8).put (h0 := 1) (c0 := 512) (n := 512) _ _ fun hh hv r q =>
    Reads.newA_at (h := fits512) (readsTri (by omega) (G.zB c arg3 harg3 arg4 harg4 arg5 harg5 arg6 harg6 arg7 harg7 arg8 harg8 arg9 harg9 arg10 harg10 g8 hh) (G.m10 c arg3 harg3 arg4 harg4 arg5 harg5 arg6 harg6 arg7 harg7 arg8 harg8 arg9 harg9 arg10 harg10 g8) rfl hv (by omega) (fun q h1 h2 => by simp only [upd]; (try split_ifs) <;> omega) _ _ shapeCasts_S1x1x512x512_S512x512 iota_S512x512_d0_w32 iota_S512x512_d1_w32)
      (E.value hh hv (G.off9 1 (show B + 512 = B + 512 * 1 by omega)) (by omega) _)
      (adds (G.a10 c arg3 harg3 arg4 harg4 arg5 harg5 arg6 harg6 arg7 harg7 arg8 harg8 arg9 harg9 arg10 harg10 g8) hv (fun q h1 h2 => by simp only [upd]; (try split_ifs) <;> omega) _) r q

theorem Given.m12 : Holds arg9.view (tgtM B (scoreOf qry key)) (arg9.view.writes (Elt Ideal) arg9.view.junk (foxRun.sl.HS2_7 c i arg3 harg3 arg4 harg4 arg5 harg5 arg6 harg6 arg7 harg7 arg8 harg8 arg9 harg9 arg10 harg10 x0 x1 x2 g8)) (upd (upd (upd (fun _ _ => B + 512) 0 512 512 (B + 512 + 512)) 1 512 512 (B + 512 + 512)) 0 1024 1024 (B + 512 + 512)) := by
  have E := (G.env c arg3 harg3 arg4 harg4 arg5 harg5 arg7 arg7.view.junk); have hB := G.room
  exact (G.m11 c arg3 harg3 arg4 harg4 arg5 harg5 arg6 harg6 arg7 harg7 arg8 harg8 arg9 harg9 arg10 harg10 g8).put (h0 := 0) (c0 := 1024) (n := 1024) _ _ fun hh hv r q =>
    Reads.newM_at (h := fits1024) (reads (by omega) (G.zB c arg3 harg3 arg4 harg4 arg5 harg5 arg6 harg6 arg7 harg7 arg8 harg8 arg9 harg9 arg10 harg10 g8 hh) (G.m11 c arg3 harg3 arg4 harg4 arg5 harg5 arg6 harg6 arg7 harg7 arg8 harg8 arg9 harg9 arg10 harg10 g8) rfl hv (by omega) (fun q h1 h2 => by simp only [upd]; (try split_ifs) <;> omega) _ _ shapeCasts_S1x1x512x1024_S512x1024) r q

theorem Given.a12 : Holds arg10.view (tgtA B (scoreOf qry key) val) (arg10.view.writes (Elt Ideal) arg10.view.junk (foxRun.sl.HS3_7 c i arg3 harg3 arg4 harg4 arg5 harg5 arg6 harg6 arg7 harg7 arg8 harg8 arg9 harg9 arg10 harg10 x0 x1 x2 g8)) (upd (upd (upd (fun _ _ => B + 512) 0 512 512 (B + 512 + 512)) 1 512 512 (B + 512 + 512)) 0 1024 1024 (B + 512 + 512)) := by
  have E := (G.env c arg3 harg3 arg4 harg4 arg5 harg5 arg7 arg7.view.junk); have hB := G.room
  exact (G.a11 c arg3 harg3 arg4 harg4 arg5 harg5 arg6 harg6 arg7 harg7 arg8 harg8 arg9 harg9 arg10 harg10 g8).put (h0 := 0) (c0 := 1024) (n := 1024) _ _ fun hh hv r q =>
    Reads.newA_at (h := fits1024) (reads (by omega) (G.zB c arg3 harg3 arg4 harg4 arg5 harg5 arg6 harg6 arg7 harg7 arg8 harg8 arg9 harg9 arg10 harg10 g8 hh) (G.m11 c arg3 harg3 arg4 harg4 arg5 harg5 arg6 harg6 arg7 harg7 arg8 harg8 arg9 harg9 arg10 harg10 g8) rfl hv (by omega) (fun q h1 h2 => by simp only [upd]; (try split_ifs) <;> omega) _ _ shapeCasts_S1x1x512x1024_S512x1024)
      (E.value hh hv (G.off8 1 (show B + 512 = B + 512 * 1 by omega)) (by omega) _)
      (adds (G.a11 c arg3 harg3 arg4 harg4 arg5 harg5 arg6 harg6 arg7 harg7 arg8 harg8 arg9 harg9 arg10 harg10 g8) hv (fun q h1 h2 => by simp only [upd]; (try split_ifs) <;> omega) _) r q

theorem Given.m13 : Holds arg9.view (tgtM B (scoreOf qry key)) (arg9.view.writes (Elt Ideal) arg9.view.junk (foxRun.sl.HS2_8 c i arg3 harg3 arg4 harg4 arg5 harg5 arg6 harg6 arg7 harg7 arg8 harg8 arg9 harg9 arg10 harg10 x0 x1 x2 g8)) (upd (upd (upd (upd (fun _ _ => B + 512) 0 512 512 (B + 512 + 512)) 1 512 512 (B + 512 + 512)) 0 1024 1024 (B + 512 + 512)) 1 1024 1024 (B + 512 + 512)) := by
  have E := (G.env c arg3 harg3 arg4 harg4 arg5 harg5 arg7 arg7.view.junk); have hB := G.room
  exact (G.m12 c arg3 harg3 arg4 harg4 arg5 harg5 arg6 harg6 arg7 harg7 arg8 harg8 arg9 harg9 arg10 harg10 g8).put (h0 := 1) (c0 := 1024) (n := 1024) _ _ fun hh hv r q =>
    Reads.newM_at (h := fits1024) (reads (by omega) (G.zB c arg3 harg3 arg4 harg4 arg5 harg5 arg6 harg6 arg7 harg7 arg8 harg8 arg9 harg9 arg10 harg10 g8 hh) (G.m12 c arg3 harg3 arg4 harg4 arg5 harg5 arg6 harg6 arg7 harg7 arg8 harg8 arg9 harg9 arg10 harg10 g8) rfl hv (by omega) (fun q h1 h2 => by simp only [upd]; (try split_ifs) <;> omega) _ _ shapeCasts_S1x1x512x1024_S512x1024) r q

theorem Given.a13 : Holds arg10.view (tgtA B (scoreOf qry key) val) (arg10.view.writes (Elt Ideal) arg10.view.junk (foxRun.sl.HS3_8 c i arg3 harg3 arg4 harg4 arg5 harg5 arg6 harg6 arg7 harg7 arg8 harg8 arg9 harg9 arg10 harg10 x0 x1 x2 g8)) (upd (upd (upd (upd (fun _ _ => B + 512) 0 512 512 (B + 512 + 512)) 1 512 512 (B + 512 + 512)) 0 1024 1024 (B + 512 + 512)) 1 1024 1024 (B + 512 + 512)) := by
  have E := (G.env c arg3 harg3 arg4 harg4 arg5 harg5 arg7 arg7.view.junk); have hB := G.room
  exact (G.a12 c arg3 harg3 arg4 harg4 arg5 harg5 arg6 harg6 arg7 harg7 arg8 harg8 arg9 harg9 arg10 harg10 g8).put (h0 := 1) (c0 := 1024) (n := 1024) _ _ fun hh hv r q =>
    Reads.newA_at (h := fits1024) (reads (by omega) (G.zB c arg3 harg3 arg4 harg4 arg5 harg5 arg6 harg6 arg7 harg7 arg8 harg8 arg9 harg9 arg10 harg10 g8 hh) (G.m12 c arg3 harg3 arg4 harg4 arg5 harg5 arg6 harg6 arg7 harg7 arg8 harg8 arg9 harg9 arg10 harg10 g8) rfl hv (by omega) (fun q h1 h2 => by simp only [upd]; (try split_ifs) <;> omega) _ _ shapeCasts_S1x1x512x1024_S512x1024)
      (E.value hh hv (G.off9 1 (show B + 512 = B + 512 * 1 by omega)) (by omega) _)
      (adds (G.a12 c arg3 harg3 arg4 harg4 arg5 harg5 arg6 harg6 arg7 harg7 arg8 harg8 arg9 harg9 arg10 harg10 g8) hv (fun q h1 h2 => by simp only [upd]; (try split_ifs) <;> omega) _) r q

theorem Given.m1s : Holds arg9.view (tgtM B (scoreOf qry key)) (arg9.view.writes (Elt Ideal) arg9.view.junk (foxRun.sl.HS2_8 c i arg3 harg3 arg4 harg4 arg5 harg5 arg6 harg6 arg7 harg7 arg8 harg8 arg9 harg9 arg10 harg10 x0 x1 x2 g8)) (fun _ _ => B + 1024) :=
  Holds.settleM (G.m13 c arg3 harg3 arg4 harg4 arg5 harg5 arg6 harg6 arg7 harg7 arg8 harg8 arg9 harg9 arg10 harg10 g8) fun hh q h1 h2 => by
    have := hh.isLt
    simp only [upd]; split_ifs <;> omega

theorem Given.a1s : Holds arg10.view (tgtA B (scoreOf qry key) val) (arg10.view.writes (Elt Ideal) arg10.view.junk (foxRun.sl.HS3_8 c i arg3 harg3 arg4 harg4 arg5 harg5 arg6 harg6 arg7 harg7 arg8 harg8 arg9 harg9 arg10 harg10 x0 x1 x2 g8)) (fun _ _ => B + 1024) :=
  Holds.settleA (G.a13 c arg3 harg3 arg4 harg4 arg5 harg5 arg6 harg6 arg7 harg7 arg8 harg8 arg9 harg9 arg10 harg10 g8) fun hh q h1 h2 => by
    have := hh.isLt
    simp only [upd]; split_ifs <;> omega

theorem Given.m20 : Holds arg9.view (tgtM B (scoreOf qry key)) (arg9.view.writes (Elt Ideal) arg9.view.junk (foxRun.sl.HS2_9 c i arg3 harg3 arg4 harg4 arg5 harg5 arg6 harg6 arg7 harg7 arg8 harg8 arg9 harg9 arg10 harg10 x0 x1 x2 g8)) (upd (fun _ _ => B + 1024) 0 1024 512 (B + 1024 + 512)) := by
  have E := (G.env c arg3 harg3 arg4 harg4 arg5 harg5 arg7 arg7.view.junk); have hB := G.room
  exact (G.m1s c arg3 harg3 arg4 harg4 arg5 harg5 arg6 harg6 arg7 harg7 arg8 harg8 arg9 harg9 arg10 harg10 g8).put (h0 := 0) (c0 := 1024) (n := 512) _ _ fun hh hv r q =>
    Reads.newM_at (h := fits512) (readsTri (by omega) (G.zC c arg3 harg3 arg4 harg4 arg5 harg5 arg6 harg6 arg7 harg7 arg8 harg8 arg9 harg9 arg10 harg10 g8 hh) (G.m1s c arg3 harg3 arg4 harg4 arg5 harg5 arg6 harg6 arg7 harg7 arg8 harg8 arg9 harg9 arg10 harg10 g8) rfl hv (by omega) (fun _ _ _ => Or.inl rfl) _ _ shapeCasts_S1x1x512x512_S512x512 iota_S512x512_d0_w32 iota_S512x512_d1_w32) r q

theorem Given.a20 : Holds arg10.view (tgtA B (scoreOf qry key) val) (arg10.view.writes (Elt Ideal) arg10.view.junk (foxRun.sl.HS3_9 c i arg3 harg3 arg4 harg4 arg5 harg5 arg6 harg6 arg7 harg7 arg8 harg8 arg9 harg9 arg10 harg10 x0 x1 x2 g8)) (upd (fun _ _ => B + 1024) 0 1024 512 (B + 1024 + 512)) := by
  have E := (G.env c arg3 harg3 arg4 harg4 arg5 harg5 arg7 arg7.view.junk); have hB := G.room
  exact (G.a1s c arg3 harg3 arg4 harg4 arg5 harg5 arg6 harg6 arg7 harg7 arg8 harg8 arg9 harg9 arg10 harg10 g8).put (h0 := 0) (c0 := 1024) (n := 512) _ _ fun hh hv r q =>
    Reads.newA_at (h := fits512) (readsTri (by omega) (G.zC c arg3 harg3 arg4 harg4 arg5 harg5 arg6 harg6 arg7 harg7 arg8 harg8 arg9 harg9 arg10 harg10 g8 hh) (G.m1s c arg3 harg3 arg4 harg4 arg5 harg5 arg6 harg6 arg7 harg7 arg8 harg8 arg9 harg9 arg10 harg10 g8) rfl hv (by omega) (fun _ _ _ => Or.inl rfl) _ _ shapeCasts_S1x1x512x512_S512x512 iota_S512x512_d0_w32 iota_S512x512_d1_w32)
      (E.value hh hv (G.off8 2 (show B + 1024 = B + 512 * 2 by omega)) (by omega) _)
      (adds (G.a1s c arg3 harg3 arg4 harg4 arg5 harg5 arg6 harg6 arg7 harg7 arg8 harg8 arg9 harg9 arg10 harg10 g8) hv (fun _ _ _ => Or.inl rfl) _) r q

theorem Given.m21 : Holds arg9.view (tgtM B (scoreOf qry key)) (arg9.view.writes (Elt Ideal) arg9.view.junk (foxRun.sl.HS2_10 c i arg3 harg3 arg4 harg4 arg5 harg5 arg6 harg6 arg7 harg7 arg8 harg8 arg9 harg9 arg10 harg10 x0 x1 x2 g8)) (upd (upd (fun _ _ => B + 1024) 0 1024 512 (B + 1024 + 512)) 1 1024 512 (B + 1024 + 512)) := by
  have E := (G.env c arg3 harg3 arg4 harg4 arg5 harg5 arg7 arg7.view.junk); have hB := G.room
  exact (G.m20 c arg3 harg3 arg4 harg4 arg5 harg5 arg6 harg6 arg7 harg7 arg8 harg8 arg9 harg9 arg10 harg10 g8).put (h0 := 1) (c0 := 1024) (n := 512) _ _ fun hh hv r q =>
    Reads.newM_at (h := fits512) (readsTri (by omega) (G.zC c arg3 harg3 arg4 harg4 arg5 harg5 arg6 harg6 arg7 harg7 arg8 harg8 arg9 harg9 arg10 harg10 g8 hh) (G.m20 c arg3 harg3 arg4 harg4 arg5 harg5 arg6 harg6 arg7 harg7 arg8 harg8 arg9 harg9 arg10 harg10 g8) rfl hv (by omega) (fun q h1 h2 => by simp only [upd]; (try split_ifs) <;> omega) _ _ shapeCasts_S1x1x512x512_S512x512 iota_S512x512_d0_w32 iota_S512x512_d1_w32) r q

theorem Given.a21 : Holds arg10.view (tgtA B (scoreOf qry key) val) (arg10.view.writes (Elt Ideal) arg10.view.junk (foxRun.sl.HS3_10 c i arg3 harg3 arg4 harg4 arg5 harg5 arg6 harg6 arg7 harg7 arg8 harg8 arg9 harg9 arg10 harg10 x0 x1 x2 g8)) (upd (upd (fun _ _ => B + 1024) 0 1024 512 (B + 1024 + 512)) 1 1024 512 (B + 1024 + 512)) := by
  have E := (G.env c arg3 harg3 arg4 harg4 arg5 harg5 arg7 arg7.view.junk); have hB := G.room
  exact (G.a20 c arg3 harg3 arg4 harg4 arg5 harg5 arg6 harg6 arg7 harg7 arg8 harg8 arg9 harg9 arg10 harg10 g8).put (h0 := 1) (c0 := 1024) (n := 512) _ _ fun hh hv r q =>
    Reads.newA_at (h := fits512) (readsTri (by omega) (G.zC c arg3 harg3 arg4 harg4 arg5 harg5 arg6 harg6 arg7 harg7 arg8 harg8 arg9 harg9 arg10 harg10 g8 hh) (G.m20 c arg3 harg3 arg4 harg4 arg5 harg5 arg6 harg6 arg7 harg7 arg8 harg8 arg9 harg9 arg10 harg10 g8) rfl hv (by omega) (fun q h1 h2 => by simp only [upd]; (try split_ifs) <;> omega) _ _ shapeCasts_S1x1x512x512_S512x512 iota_S512x512_d0_w32 iota_S512x512_d1_w32)
      (E.value hh hv (G.off9 2 (show B + 1024 = B + 512 * 2 by omega)) (by omega) _)
      (adds (G.a20 c arg3 harg3 arg4 harg4 arg5 harg5 arg6 harg6 arg7 harg7 arg8 harg8 arg9 harg9 arg10 harg10 g8) hv (fun q h1 h2 => by simp only [upd]; (try split_ifs) <;> omega) _) r q

theorem Given.m22 : Holds arg9.view (tgtM B (scoreOf qry key)) (arg9.view.writes (Elt Ideal) arg9.view.junk (foxRun.sl.HS2_11 c i arg3 harg3 arg4 harg4 arg5 harg5 arg6 harg6 arg7 harg7 arg8 harg8 arg9 harg9 arg10 harg10 x0 x1 x2 g8)) (upd (upd (upd (fun _ _ => B + 1024) 0 1024 512 (B + 1024 + 512)) 1 1024 512 (B + 1024 + 512)) 0 1536 512 (B + 1024 + 512)) := by
  have E := (G.env c arg3 harg3 arg4 harg4 arg5 harg5 arg7 arg7.view.junk); have hB := G.room
  exact (G.m21 c arg3 harg3 arg4 harg4 arg5 harg5 arg6 harg6 arg7 harg7 arg8 harg8 arg9 harg9 arg10 harg10 g8).put (h0 := 0) (c0 := 1536) (n := 512) _ _ fun hh hv r q =>
    Reads.newM_at (h := fits512) (reads (by omega) (G.zC c arg3 harg3 arg4 harg4 arg5 harg5 arg6 harg6 arg7 harg7 arg8 harg8 arg9 harg9 arg10 harg10 g8 hh) (G.m21 c arg3 harg3 arg4 harg4 arg5 harg5 arg6 harg6 arg7 harg7 arg8 harg8 arg9 harg9 arg10 harg10 g8) rfl hv (by omega) (fun q h1 h2 => by simp only [upd]; (try split_ifs) <;> omega) _ _ shapeCasts_S1x1x512x512_S512x512) r q

theorem Given.a22 : Holds arg10.view (tgtA B (scoreOf qry key) val) (arg10.view.writes (Elt Ideal) arg10.view.junk (foxRun.sl.HS3_11 c i arg3 harg3 arg4 harg4 arg5 harg5 arg6 harg6 arg7 harg7 arg8 harg8 arg9 harg9 arg10 harg10 x0 x1 x2 g8)) (upd (upd (upd (fun _ _ => B + 1024) 0 1024 512 (B + 1024 + 512)) 1 1024 512 (B + 1024 + 512)) 0 1536 512 (B + 1024 + 512)) := by
  have E := (G.env c arg3 harg3 arg4 harg4 arg5 harg5 arg7 arg7.view.junk); have hB := G.room
  exact (G.a21 c arg3 harg3 arg4 harg4 arg5 harg5 arg6 harg6 arg7 harg7 arg8 harg8 arg9 harg9 arg10 harg10 g8).put (h0 := 0) (c0 := 1536) (n := 512) _ _ fun hh hv r q =>
    Reads.newA_at (h := fits512) (reads (by omega) (G.zC c arg3 harg3 arg4 harg4 arg5 harg5 arg6 harg6 arg7 harg7 arg8 harg8 arg9 harg9 arg10 harg10 g8 hh) (G.m21 c arg3 harg3 arg4 harg4 arg5 harg5 arg6 harg6 arg7 harg7 arg8 harg8 arg9 harg9 arg10 harg10 g8) rfl hv (by omega) (fun q h1 h2 => by simp only [upd]; (try split_ifs) <;> omega) _ _ shapeCasts_S1x1x512x512_S512x512)
      (E.value hh hv (G.off8 2 (show B + 1024 = B + 512 * 2 by omega)) (by omega) _)
      (adds (G.a21 c arg3 harg3 arg4 harg4 arg5 harg5 arg6 harg6 arg7 harg7 arg8 harg8 arg9 harg9 arg10 harg10 g8) hv (fun q h1 h2 => by simp only [upd]; (try split_ifs) <;> omega) _) r q

theorem Given.m23 : Holds arg9.view (tgtM B (scoreOf qry key)) (arg9.view.writes (Elt Ideal) arg9.view.junk (foxRun.sl.HS2_12 c i arg3 harg3 arg4 harg4 arg5 harg5 arg6 harg6 arg7 harg7 arg8 harg8 arg9 harg9 arg10 harg10 x0 x1 x2 g8)) (upd (upd (upd (upd (fun _ _ => B + 1024) 0 1024 512 (B + 1024 + 512)) 1 1024 512 (B + 1024 + 512)) 0 1536 512 (B + 1024 + 512)) 1 1536 512 (B + 1024 + 512)) := by
  have E := (G.env c arg3 harg3 arg4 harg4 arg5 harg5 arg7 arg7.view.junk); have hB := G.room
  exact (G.m22 c arg3 harg3 arg4 harg4 arg5 harg5 arg6 harg6 arg7 harg7 arg8 harg8 arg9 harg9 arg10 harg10 g8).put (h0 := 1) (c0 := 1536) (n := 512) _ _ fun hh hv r q =>
    Reads.newM_at (h := fits512) (reads (by omega) (G.zC c arg3 harg3 arg4 harg4 arg5 harg5 arg6 harg6 arg7 harg7 arg8 harg8 arg9 harg9 arg10 harg10 g8 hh) (G.m22 c arg3 harg3 arg4 harg4 arg5 harg5 arg6 harg6 arg7 harg7 arg8 harg8 arg9 harg9 arg10 harg10 g8) rfl hv (by omega) (fun q h1 h2 => by simp only [upd]; (try split_ifs) <;> omega) _ _ shapeCasts_S1x1x512x512_S512x512) r q

theorem Given.a23 : Holds arg10.view (tgtA B (scoreOf qry key) val) (arg10.view.writes (Elt Ideal) arg10.view.junk (foxRun.sl.HS3_12 c i arg3 harg3 arg4 harg4 arg5 harg5 arg6 harg6 arg7 harg7 arg8 harg8 arg9 harg9 arg10 harg10 x0 x1 x2 g8)) (upd (upd (upd (upd (fun _ _ => B + 1024) 0 1024 512 (B + 1024 + 512)) 1 1024 512 (B + 1024 + 512)) 0 1536 512 (B + 1024 + 512)) 1 1536 512 (B + 1024 + 512)) := by
  have E := (G.env c arg3 harg3 arg4 harg4 arg5 harg5 arg7 arg7.view.junk); have hB := G.room
  exact (G.a22 c arg3 harg3 arg4 harg4 arg5 harg5 arg6 harg6 arg7 harg7 arg8 harg8 arg9 harg9 arg10 harg10 g8).put (h0 := 1) (c0 := 1536) (n := 512) _ _ fun hh hv r q =>
    Reads.newA_at (h := fits512) (reads (by omega) (G.zC c arg3 harg3 arg4 harg4 arg5 harg5 arg6 harg6 arg7 harg7 arg8 harg8 arg9 harg9 arg10 harg10 g8 hh) (G.m22 c arg3 harg3 arg4 harg4 arg5 harg5 arg6 harg6 arg7 harg7 arg8 harg8 arg9 harg9 arg10 harg10 g8) rfl hv (by omega) (fun q h1 h2 => by simp only [upd]; (try split_ifs) <;> omega) _ _ shapeCasts_S1x1x512x512_S512x512)
      (E.value hh hv (G.off9 2 (show B + 1024 = B + 512 * 2 by omega)) (by omega) _)
      (adds (G.a22 c arg3 harg3 arg4 harg4 arg5 harg5 arg6 harg6 arg7 harg7 arg8 harg8 arg9 harg9 arg10 harg10 g8) hv (fun q h1 h2 => by simp only [upd]; (try split_ifs) <;> omega) _) r q

theorem Given.m2s : Holds arg9.view (tgtM B (scoreOf qry key)) (arg9.view.writes (Elt Ideal) arg9.view.junk (foxRun.sl.HS2_12 c i arg3 harg3 arg4 harg4 arg5 harg5 arg6 harg6 arg7 harg7 arg8 harg8 arg9 harg9 arg10 harg10 x0 x1 x2 g8)) (fun _ _ => B + 1536) :=
  Holds.settleM (G.m23 c arg3 harg3 arg4 harg4 arg5 harg5 arg6 harg6 arg7 harg7 arg8 harg8 arg9 harg9 arg10 harg10 g8) fun hh q h1 h2 => by
    have := hh.isLt
    simp only [upd]; split_ifs <;> omega

theorem Given.a2s : Holds arg10.view (tgtA B (scoreOf qry key) val) (arg10.view.writes (Elt Ideal) arg10.view.junk (foxRun.sl.HS3_12 c i arg3 harg3 arg4 harg4 arg5 harg5 arg6 harg6 arg7 harg7 arg8 harg8 arg9 harg9 arg10 harg10 x0 x1 x2 g8)) (fun _ _ => B + 1536) :=
  Holds.settleA (G.a23 c arg3 harg3 arg4 harg4 arg5 harg5 arg6 harg6 arg7 harg7 arg8 harg8 arg9 harg9 arg10 harg10 g8) fun hh q h1 h2 => by
    have := hh.isLt
    simp only [upd]; split_ifs <;> omega

theorem Given.m30 : Holds arg9.view (tgtM B (scoreOf qry key)) (arg9.view.writes (Elt Ideal) arg9.view.junk (foxRun.sl.HS2_13 c i arg3 harg3 arg4 harg4 arg5 harg5 arg6 harg6 arg7 harg7 arg8 harg8 arg9 harg9 arg10 harg10 x0 x1 x2 g8)) (upd (fun _ _ => B + 1536) 0 1536 512 (B + 1536 + 512)) := by
  have E := (G.env c arg3 harg3 arg4 harg4 arg5 harg5 arg7 arg7.view.junk); have hB := G.room
  exact (G.m2s c arg3 harg3 arg4 harg4 arg5 harg5 arg6 harg6 arg7 harg7 arg8 harg8 arg9 harg9 arg10 harg10 g8).put (h0 := 0) (c0 := 1536) (n := 512) _ _ fun hh hv r q =>
    Reads.newM_at (h := fits512) (readsTri (by omega) (G.zD c arg3 harg3 arg4 harg4 arg5 harg5 arg6 harg6 arg7 harg7 arg8 harg8 arg9 harg9 arg10 harg10 g8 hh) (G.m2s c arg3 harg3 arg4 harg4 arg5 harg5 arg6 harg6 arg7 harg7 arg8 harg8 arg9 harg9 arg10 harg10 g8) rfl hv (by omega) (fun _ _ _ => Or.inl rfl) _ _ shapeCasts_S1x1x512x512_S512x512 iota_S512x512_d0_w32 iota_S512x512_d1_w32) r q

theorem Given.a30 : Holds arg10.view (tgtA B (scoreOf qry key) val) (arg10.view.writes (Elt Ideal) arg10.view.junk (foxRun.sl.HS3_13 c i arg3 harg3 arg4 harg4 arg5 harg5 arg6 harg6 arg7 harg7 arg8 harg8 arg9 harg9 arg10 harg10 x0 x1 x2 g8)) (upd (fun _ _ => B + 1536) 0 1536 512 (B + 1536 + 512)) := by
  have E := (G.env c arg3 harg3 arg4 harg4 arg5 harg5 arg7 arg7.view.junk); have hB := G.room
  exact (G.a2s c arg3 harg3 arg4 harg4 arg5 harg5 arg6 harg6 arg7 harg7 arg8 harg8 arg9 harg9 arg10 harg10 g8).put (h0 := 0) (c0 := 1536) (n := 512) _ _ fun hh hv r q =>
    Reads.newA_at (h := fits512) (readsTri (by omega) (G.zD c arg3 harg3 arg4 harg4 arg5 harg5 arg6 harg6 arg7 harg7 arg8 harg8 arg9 harg9 arg10 harg10 g8 hh) (G.m2s c arg3 harg3 arg4 harg4 arg5 harg5 arg6 harg6 arg7 harg7 arg8 harg8 arg9 harg9 arg10 harg10 g8) rfl hv (by omega) (fun _ _ _ => Or.inl rfl) _ _ shapeCasts_S1x1x512x512_S512x512 iota_S512x512_d0_w32 iota_S512x512_d1_w32)
      (E.value hh hv (G.off8 3 (show B + 1536 = B + 512 * 3 by omega)) (by omega) _)
      (adds (G.a2s c arg3 harg3 arg4 harg4 arg5 harg5 arg6 harg6 arg7 harg7 arg8 harg8 arg9 harg9 arg10 harg10 g8) hv (fun _ _ _ => Or.inl rfl) _) r q

theorem Given.a31 : Holds arg10.view (tgtA B (scoreOf qry key) val) (arg10.view.writes (Elt Ideal) arg10.view.junk (foxRun.sl.HS3_14 c i arg3 harg3 arg4 harg4 arg5 harg5 arg6 harg6 arg7 harg7 arg8 harg8 arg9 harg9 arg10 harg10 x0 x1 x2 g8)) (upd (upd (fun _ _ => B + 1536) 0 1536 512 (B + 1536 + 512)) 1 1536 512 (B + 1536 + 512)) := by
  have E := (G.env c arg3 harg3 arg4 harg4 arg5 harg5 arg7 arg7.view.junk); have hB := G.room
  exact (G.a30 c arg3 harg3 arg4 harg4 arg5 harg5 arg6 harg6 arg7 harg7 arg8 harg8 arg9 harg9 arg10 harg10 g8).put (h0 := 1) (c0 := 1536) (n := 512) _ _ fun hh hv r q =>
    Reads.newA_at (h := fits512) (readsTri (by omega) (G.zD c arg3 harg3 arg4 harg4 arg5 harg5 arg6 harg6 arg7 harg7 arg8 harg8 arg9 harg9 arg10 harg10 g8 hh) (G.m30 c arg3 harg3 arg4 harg4 arg5 harg5 arg6 harg6 arg7 harg7 arg8 harg8 arg9 harg9 arg10 harg10 g8) rfl hv (by omega) (fun q h1 h2 => by simp only [upd]; (try split_ifs) <;> omega) _ _ shapeCasts_S1x1x512x512_S512x512 iota_S512x512_d0_w32 iota_S512x512_d1_w32)
      (E.value hh hv (G.off9 3 (show B + 1536 = B + 512 * 3 by omega)) (by omega) _)
      (adds (G.a30 c arg3 harg3 arg4 harg4 arg5 harg5 arg6 harg6 arg7 harg7 arg8 harg8 arg9 harg9 arg10 harg10 g8) hv (fun q h1 h2 => by simp only [upd]; (try split_ifs) <;> omega) _) r q

/-- The accumulators at the end. -/
theorem Given.done : Holds arg10.view (tgtA B (scoreOf qry key) val) (arg10.view.writes (Elt Ideal) arg10.view.junk (foxRun.sl.HS3_14 c i arg3 harg3 arg4 harg4 arg5 harg5 arg6 harg6 arg7 harg7 arg8 harg8 arg9 harg9 arg10 harg10 x0 x1 x2 g8)) (fun _ _ => B + 2048) :=
  Holds.settleA (G.a31 c arg3 harg3 arg4 harg4 arg5 harg5 arg6 harg6 arg7 harg7 arg8 harg8 arg9 harg9 arg10 harg10 g8) fun hh q h1 h2 => by
    have := hh.isLt
    simp only [upd]; split_ifs <;> omega

end Diagonal
end Cert.Fox
end
-- ==== Proof.FoxArrays.lean ====
/- The forgetting attention as a function of four arrays. -/
module

public import proofs.«01_k».proof.Proof.FoxBlocks

@[expose] public section

set_option maxRecDepth 16384

noncomputable section

namespace Cert.Fox

open Idealize.ShloMosaic Idealize.ShloMosaic.TcCoe Idealize.SL.Sem
open Cert.Mla Cert.Kernel3Ideal Cert.Kernel3Ideal.Gen

/-- The queries, four sequences of four heads, a column each. -/
abbrev Queries : Type := Vec Ideal S4x4x64x8192 .bf16
/-- The keys, a row each, the heads side by side. -/
abbrev Keys : Type := Vec Ideal S4x8192x256 .bf16
/-- The values, a column each. -/
abbrev Values : Type := Vec Ideal S4x4x64x8192 .bf16
/-- The cumulative log forget gates, in base two. -/
abbrev Gates : Type := Vec Ideal S4x4x8192 .f32

/-- A query's element, at numbers. -/
def qAt (x : Queries) (b h : ℕ) (l : Fin 64) (row : ℕ) : EReal :=
  x (ix4 ⟨b % 4, Nat.mod_lt _ (by decide)⟩ ⟨h % 4, Nat.mod_lt _ (by decide)⟩ l ⟨row % 8192, Nat.mod_lt _ (by decide)⟩)
/-- A key's element, at numbers. -/
def kAt (x : Keys) (b j lane : ℕ) : EReal :=
  x (ix3 ⟨b % 4, Nat.mod_lt _ (by decide)⟩ ⟨j % 8192, Nat.mod_lt _ (by decide)⟩ ⟨lane % 256, Nat.mod_lt _ (by decide)⟩)
/-- A value's element, at numbers. -/
def vAt (x : Values) (b h d j : ℕ) : EReal :=
  x (ix4 ⟨b % 4, Nat.mod_lt _ (by decide)⟩ ⟨h % 4, Nat.mod_lt _ (by decide)⟩ ⟨d % 64, Nat.mod_lt _ (by decide)⟩
    ⟨j % 8192, Nat.mod_lt _ (by decide)⟩)

/-- A gate's element, at numbers. -/
def fAt (x : Gates) (b h j : ℕ) : EReal :=
  x (ix3 ⟨b % 4, Nat.mod_lt _ (by decide)⟩ ⟨h % 4, Nat.mod_lt _ (by decide)⟩ ⟨j % 8192, Nat.mod_lt _ (by decide)⟩)

theorem f_of (x : Gates) (i : S4x4x8192.Idx) {b h j : ℕ} (h0 : (i 0).val = b) (h1 : (i 1).val = h)
    (h2 : (i 2).val = j) : x i = fAt x b h j := by
  have l0 : (i 0).val < 4 := (i 0).isLt
  have l1 : (i 1).val < 4 := (i 1).isLt
  have l2 : (i 2).val < 8192 := (i 2).isLt
  subst h0 h1 h2
  refine congrArg x (funext fun a => Fin.ext ?_)
  match a with
  | ⟨0, _⟩ => exact (Nat.mod_eq_of_lt l0).symm
  | ⟨1, _⟩ => exact (Nat.mod_eq_of_lt l1).symm
  | ⟨2, _⟩ => exact (Nat.mod_eq_of_lt l2).symm

theorem q_of (x : Queries) (i : S4x4x64x8192.Idx) {b h row : ℕ} {l : Fin 64} (h0 : (i 0).val = b) (h1 : (i 1).val = h)
    (h2 : (i 2).val = l.val) (h3 : (i 3).val = row) : x i = qAt x b h l row := by
  have l0 : (i 0).val < 4 := (i 0).isLt
  have l1 : (i 1).val < 4 := (i 1).isLt
  have l3 : (i 3).val < 8192 := (i 3).isLt
  subst h0 h1 h3
  refine congrArg x (funext fun a => Fin.ext ?_)
  match a with
  | ⟨0, _⟩ => exact (Nat.mod_eq_of_lt l0).symm
  | ⟨1, _⟩ => exact (Nat.mod_eq_of_lt l1).symm
  | ⟨2, _⟩ => exact h2
  | ⟨3, _⟩ => exact (Nat.mod_eq_of_lt l3).symm

theorem k_of (x : Keys) (i : S4x8192x256.Idx) {b j lane : ℕ} (h0 : (i 0).val = b) (h1 : (i 1).val = j)
    (h2 : (i 2).val = lane) : x i = kAt x b j lane := by
  have l0 : (i 0).val < 4 := (i 0).isLt
  have l1 : (i 1).val < 8192 := (i 1).isLt
  have l2 : (i 2).val < 256 := (i 2).isLt
  subst h0 h1 h2
  refine congrArg x (funext fun a => Fin.ext ?_)
  match a with
  | ⟨0, _⟩ => exact (Nat.mod_eq_of_lt l0).symm
  | ⟨1, _⟩ => exact (Nat.mod_eq_of_lt l1).symm
  | ⟨2, _⟩ => exact (Nat.mod_eq_of_lt l2).symm

theorem v_of (x : Values) (i : S4x4x64x8192.Idx) {b h d j : ℕ} (h0 : (i 0).val = b) (h1 : (i 1).val = h)
    (h2 : (i 2).val = d) (h3 : (i 3).val = j) : x i = vAt x b h d j := by
  have l0 : (i 0).val < 4 := (i 0).isLt
  have l1 : (i 1).val < 4 := (i 1).isLt
  have l2 : (i 2).val < 64 := (i 2).isLt
  have l3 : (i 3).val < 8192 := (i 3).isLt
  subst h0 h1 h2 h3
  refine congrArg x (funext fun a => Fin.ext ?_)
  match a with
  | ⟨0, _⟩ => exact (Nat.mod_eq_of_lt l0).symm
  | ⟨1, _⟩ => exact (Nat.mod_eq_of_lt l1).symm
  | ⟨2, _⟩ => exact (Nat.mod_eq_of_lt l2).symm
  | ⟨3, _⟩ => exact (Nat.mod_eq_of_lt l3).symm

/-- The score of key `j` against a query row, in a head of 64 lanes: their product and the two gates' difference. -/
def logit (q : Queries) (k : Keys) (f : Gates) (b h row j : ℕ) : EReal :=
  (∑ l : Fin 64, kAt k b j (64 * h + l.val) * qAt q b h l row) + fAt f b h row - fAt f b h j

/-- The scores a row sees: the keys up to its own. -/
def seen (q : Queries) (k : Keys) (f : Gates) (b h row : ℕ) : ℕ → EReal := upTo 0 (logit q k f b h) row

/-- One element of the attention: the values weighed, over the weights' sum. -/
def attend (q : Queries) (k : Keys) (v : Values) (f : Gates) (b h row d : ℕ) : EReal :=
  Ideal.div (acc (seen q k f b h row) (vAt v b h d) 8192) (acc (seen q k f b h row) (fun _ => 1) 8192)

/-- The attention. -/
def attention (q : Queries) (k : Keys) (v : Values) (f : Gates) : Vec Ideal S4x8192x256 .bf16 := fun i =>
  attend q k v f (i 0).val ((i 2).val / 64) (i 1).val ((i 2).val % 64)

end Cert.Fox
end
-- ==== Proof.FoxBlock.lean ====
/- The forgetting attention kernel's block, at an index. -/
module

public import proofs.«01_k».proof.Proof.FoxDiagonal
public import proofs.«01_k».proof.Proof.FoxArrays
public import Idealize.ShloMosaic.Lib.Pipeline.Value

@[expose] public section

set_option maxRecDepth 16384

noncomputable section

namespace Cert.Fox

open Idealize.ShloMosaic Idealize.ShloMosaic.TcCoe Idealize.SL.Sem
open Cert.Mla Cert.Kernel3Ideal Cert.Kernel3Ideal.Gen

/-- The head of the pair a lane belongs to. -/
def headOf (l : Fin 128) : Fin 2 := ⟨l.val / 64, by have := l.isLt; omega⟩

/-- A row of the accumulators over the row of the weights' sums. -/
def quotient (B : ℕ) (zz : Fin 2 → ℕ → ℕ → EReal) (val : Fin 2 → Fin 80 → ℕ → EReal) (hh : Fin 2) (q : ℕ) (d : Fin 80) : EReal :=
  Ideal.div (acc (upTo B (zz hh) q) (val hh d) (B + 2048)) (acc (upTo B (zz hh) q) (val hh ⟨64, by decide⟩) (B + 2048))

/-- The two heads' halves one over the other, turned: at a row and a lane. -/
theorem stacked_at (a b : FVec Ideal S64x2048 .f32) (r : Fin 2048) (l : Fin 128) :
    truncf .bf16 (transpose S2048x128 [1, 0] (concatenate S128x2048 0 [⟨S64x2048, a⟩, ⟨S64x2048, b⟩]
      concatenates_S64x2048_S64x2048_S128x2048_d0) transposes_S128x2048_p1_0_S2048x128) bitsLt_bf16_f32 (ValueIdx.ix2 r l)
      = if h : l.val < 64 then a (ValueIdx.ix2 (⟨l.val, h⟩ : Fin 64) r)
        else b (ValueIdx.ix2 (⟨l.val - 64, by have := l.isLt; omega⟩ : Fin 64) r) := by
  have hl := l.isLt
  show transpose S2048x128 [1, 0] (concatenate S128x2048 0 [⟨S64x2048, a⟩, ⟨S64x2048, b⟩]
      concatenates_S64x2048_S64x2048_S128x2048_d0) transposes_S128x2048_p1_0_S2048x128 (ValueIdx.ix2 r l) = _
  refine (transpose_apply [1, 0] _ transposes_S128x2048_p1_0_S2048x128 (ValueIdx.ix2 r l) (ValueIdx.ix2 l r) (fun b => by
    match b with
    | ⟨0, _⟩ => rfl
    | ⟨1, _⟩ => rfl)).trans ?_
  by_cases h : l.val < 64
  · rw [dif_pos h]
    exact concatenate_pair_apply_left 0 a b concatenates_S64x2048_S64x2048_S128x2048_d0 (ValueIdx.ix2 l r) rfl
      (ValueIdx.ix2 (⟨l.val, h⟩ : Fin 64) r) (fun b => by
        match b with
        | ⟨0, _⟩ => rfl
        | ⟨1, _⟩ => rfl)
  · rw [dif_neg h]
    exact concatenate_pair_apply_right 0 a b concatenates_S64x2048_S64x2048_S128x2048_d0 (ValueIdx.ix2 l r) rfl rfl
      (ValueIdx.ix2 (⟨l.val - 64, by omega⟩ : Fin 64) r) (fun b hb => by
        match b with
        | ⟨0, _⟩ => exact absurd rfl hb
        | ⟨1, _⟩ => rfl) (show l.val - 64 + 64 = l.val by omega)

section Block
variable {B : ℕ} {qry : Fin 2 → ℕ → Fin 256 → EReal} {key : Fin 2 → ℕ → Fin 256 → EReal} {val : Fin 2 → Fin 80 → ℕ → EReal}
  (c : Dev nD) {i : grid0.Coords}
  (arg3 : Memref sig .tc .vmem S1x1x256x2048 .bf16) (harg3 : arg3.IsWhole)
  (arg4 : Memref sig .tc .vmem S1x8192x256 .bf16) (harg4 : arg4.IsWhole)
  (arg5 : Memref sig .tc .vmem S1x2x80x8192 .bf16) (harg5 : arg5.IsWhole)
  (arg6 : Memref sig .tc .vmem S1x2048x128 .bf16) (harg6 : arg6.IsWhole)
  (arg7 : Memref sig .tc .vmem S2x256x2048 .bf16) (harg7 : arg7.IsWhole)
  (arg8 : Memref sig .tc .vmem S2x2x512x2048 .f32) (harg8 : arg8.IsWhole)
  (arg9 : Memref sig .tc .vmem S2x1x2048 .f32) (harg9 : arg9.IsWhole)
  (arg10 : Memref sig .tc .vmem S2x80x2048 .f32) (harg10 : arg10.IsWhole)
  {x0 : Vec Ideal S1x1x256x2048 .bf16} {x1 : Vec Ideal S1x8192x256 .bf16} {x2 : Vec Ideal S1x2x80x8192 .bf16}
  (g8 : BufTy.Contents (Elt Ideal) arg8.view.ty)

variable (G : Given B qry key val i x0 x1 x2)
include G

theorem Given.top0 (d : Fin 64) (q : Fin 2048) :
    foxRun.sl.v605 c i arg3 harg3 arg4 harg4 arg5 harg5 arg6 harg6 arg7 harg7 arg8 harg8 arg9 harg9 arg10 harg10 x0 x1 x2 g8
      (ix3 0 d q) = acc (upTo B (scoreOf qry key 0) q.val) (val 0 ⟨0 + d.val, by have := d.isLt; omega⟩) (B + 2048) := by
  have hd := d.isLt
  have hq := q.isLt
  have D := G.done c arg3 harg3 arg4 harg4 arg5 harg5 arg6 harg6 arg7 harg7 arg8 harg8 arg9 harg9 arg10 harg10 g8
    0 ⟨0 + d.val, by omega⟩ ⟨0 + q.val, by omega⟩
  unfold foxRun.sl.v605
  refine (load3 arg10.view (h0 := 0) (d0 := 0) (c0 := 0) (a' := 64) (n := 2048) _ inb_S2x80x2048_S1x64x2048_0_0_0 0 rfl 0 d q
    (by omega) (by omega)).trans (D.trans ?_)
  exact congrArg (fun n => acc (upTo B (scoreOf qry key 0) n) _ (B + 2048)) (Nat.zero_add q.val)

theorem Given.sum0 (d : Fin 1) (q : Fin 2048) :
    foxRun.sl.v607 c i arg3 harg3 arg4 harg4 arg5 harg5 arg6 harg6 arg7 harg7 arg8 harg8 arg9 harg9 arg10 harg10 x0 x1 x2 g8
      (ix3 0 d q) = acc (upTo B (scoreOf qry key 0) q.val) (val 0 ⟨64 + d.val, by have := d.isLt; omega⟩) (B + 2048) := by
  have hd := d.isLt
  have hq := q.isLt
  have D := G.done c arg3 harg3 arg4 harg4 arg5 harg5 arg6 harg6 arg7 harg7 arg8 harg8 arg9 harg9 arg10 harg10 g8
    0 ⟨64 + d.val, by omega⟩ ⟨0 + q.val, by omega⟩
  unfold foxRun.sl.v607
  refine (load3 arg10.view (h0 := 0) (d0 := 64) (c0 := 0) (a' := 1) (n := 2048) _ inb_S2x80x2048_S1x1x2048_0_64_0 0 rfl 0 d q
    (by omega) (by omega)).trans (D.trans ?_)
  exact congrArg (fun n => acc (upTo B (scoreOf qry key 0) n) _ (B + 2048)) (Nat.zero_add q.val)

theorem Given.top1 (d : Fin 64) (q : Fin 2048) :
    foxRun.sl.v611 c i arg3 harg3 arg4 harg4 arg5 harg5 arg6 harg6 arg7 harg7 arg8 harg8 arg9 harg9 arg10 harg10 x0 x1 x2 g8
      (ix3 0 d q) = acc (upTo B (scoreOf qry key 1) q.val) (val 1 ⟨0 + d.val, by have := d.isLt; omega⟩) (B + 2048) := by
  have hd := d.isLt
  have hq := q.isLt
  have D := G.done c arg3 harg3 arg4 harg4 arg5 harg5 arg6 harg6 arg7 harg7 arg8 harg8 arg9 harg9 arg10 harg10 g8
    1 ⟨0 + d.val, by omega⟩ ⟨0 + q.val, by omega⟩
  unfold foxRun.sl.v611
  refine (load3 arg10.view (h0 := 1) (d0 := 0) (c0 := 0) (a' := 64) (n := 2048) _ inb_S2x80x2048_S1x64x2048_1_0_0 1 rfl 0 d q
    (by omega) (by omega)).trans (D.trans ?_)
  exact congrArg (fun n => acc (upTo B (scoreOf qry key 1) n) _ (B + 2048)) (Nat.zero_add q.val)

theorem Given.sum1 (d : Fin 1) (q : Fin 2048) :
    foxRun.sl.v613 c i arg3 harg3 arg4 harg4 arg5 harg5 arg6 harg6 arg7 harg7 arg8 harg8 arg9 harg9 arg10 harg10 x0 x1 x2 g8
      (ix3 0 d q) = acc (upTo B (scoreOf qry key 1) q.val) (val 1 ⟨64 + d.val, by have := d.isLt; omega⟩) (B + 2048) := by
  have hd := d.isLt
  have hq := q.isLt
  have D := G.done c arg3 harg3 arg4 harg4 arg5 harg5 arg6 harg6 arg7 harg7 arg8 harg8 arg9 harg9 arg10 harg10 g8
    1 ⟨64 + d.val, by omega⟩ ⟨0 + q.val, by omega⟩
  unfold foxRun.sl.v613
  refine (load3 arg10.view (h0 := 1) (d0 := 64) (c0 := 0) (a' := 1) (n := 2048) _ inb_S2x80x2048_S1x1x2048_1_64_0 1 rfl 0 d q
    (by omega) (by omega)).trans (D.trans ?_)
  exact congrArg (fun n => acc (upTo B (scoreOf qry key 1) n) _ (B + 2048)) (Nat.zero_add q.val)

/-- What is stored, at a row and a lane. -/
theorem Given.stored (r : Fin 2048) (l : Fin 128) :
    foxRun.sl.r_28 c i arg3 harg3 arg4 harg4 arg5 harg5 arg6 harg6 arg7 harg7 arg8 harg8 arg9 harg9 arg10 harg10
      x0 x1 x2 g8 (ix3 0 r l)
      = quotient B (scoreOf qry key) val (headOf l) r.val ⟨l.val % 64, by omega⟩ := by
  have hl := l.isLt
  unfold foxRun.sl.r_28 k0_pay224
  refine (ValueIdx.shapeCast_ab_1ab_apply _ shapeCasts_S2048x128_S1x2048x128 0 r l).trans ?_
  refine (stacked_at _ _ r l).trans ?_
  by_cases h : l.val < 64
  · rw [dif_pos h]
    have e0 := (ValueIdx.shapeCast_1ab_ab_apply _ shapeCasts_S1x64x2048_S64x2048 (⟨l.val, h⟩ : Fin 64) r).trans
      (G.top0 c arg3 harg3 arg4 harg4 arg5 harg5 arg6 harg6 arg7 harg7 arg8 harg8 arg9 harg9 arg10 harg10 g8 ⟨l.val, h⟩ r)
    have e1 := (ValueIdx.broadcastTo_1b_ab_apply _ broadcasts_S1x2048_S64x2048 (⟨l.val, h⟩ : Fin 64) r).trans
      ((ValueIdx.shapeCast_1ab_ab_apply _ shapeCasts_S1x1x2048_S1x2048 0 r).trans
      (G.sum0 c arg3 harg3 arg4 harg4 arg5 harg5 arg6 harg6 arg7 harg7 arg8 harg8 arg9 harg9 arg10 harg10 g8 0 r))
    refine (congrArg₂ Ideal.div e0 e1).trans ?_
    unfold quotient
    rw [show headOf l = 0 from Fin.ext (show l.val / 64 = 0 by omega)]
    exact congrArg₂ Ideal.div (congrArg (fun x => acc _ (val 0 x) _) (Fin.ext (show 0 + l.val = l.val % 64 by omega))) rfl
  · rw [dif_neg h]
    have e0 := (ValueIdx.shapeCast_1ab_ab_apply _ shapeCasts_S1x64x2048_S64x2048 (⟨l.val - 64, by omega⟩ : Fin 64) r).trans
      (G.top1 c arg3 harg3 arg4 harg4 arg5 harg5 arg6 harg6 arg7 harg7 arg8 harg8 arg9 harg9 arg10 harg10 g8 ⟨l.val - 64, by omega⟩ r)
    have e1 := (ValueIdx.broadcastTo_1b_ab_apply _ broadcasts_S1x2048_S64x2048 (⟨l.val - 64, by omega⟩ : Fin 64) r).trans
      ((ValueIdx.shapeCast_1ab_ab_apply _ shapeCasts_S1x1x2048_S1x2048 0 r).trans
      (G.sum1 c arg3 harg3 arg4 harg4 arg5 harg5 arg6 harg6 arg7 harg7 arg8 harg8 arg9 harg9 arg10 harg10 g8 0 r))
    refine (congrArg₂ Ideal.div e0 e1).trans ?_
    unfold quotient
    rw [show headOf l = 1 from Fin.ext (show l.val / 64 = 1 by omega)]
    exact congrArg₂ Ideal.div (congrArg (fun x => acc _ (val 1 x) _) (Fin.ext (show 0 + (l.val - 64) = l.val % 64 by omega))) rfl

end Block

end Cert.Fox
end
-- ==== Proof.FoxHost.lean ====
/- What the host lays out for the forgetting attention's call: the gates' features beside the queries and the keys. -/
module

public import proofs.«01_k».proof.Proof.FoxArrays
public import proofs.«01_k».proof.Proof.Gen.Kernel3Ideal.Frame
public import Idealize.ShloMosaic.Lib.Pipeline.Value

@[expose] public section

set_option maxRecDepth 16384

noncomputable section

namespace Cert.Fox

open Idealize.ShloMosaic Idealize.ShloMosaic.TcCoe Idealize.ShloMosaic.Tactic Idealize.SL.Sem
open Cert.Mla Cert.Kernel3Ideal Cert.Kernel3Ideal.Gen

/-! ## The features, as the host computes them -/

abbrev Floats : Type := FVec Ideal S4x4x8192 .f32
/-- A gate rounded, and what that leaves, twice. -/
def part0 (f : Floats) : Floats := extf .f32 (truncf .bf16 f bitsLt_bf16_f32) bitsLt_bf16_f32
def rest1 (f : Floats) : Floats := subf f (part0 f)
def part1 (f : Floats) : Floats := extf .f32 (truncf .bf16 (rest1 f) bitsLt_bf16_f32) bitsLt_bf16_f32
def rest2 (f : Floats) : Floats := subf (rest1 f) (part1 f)
def part2 (f : Floats) : Floats := extf .f32 (truncf .bf16 (rest2 f) bitsLt_bf16_f32) bitsLt_bf16_f32

/-- One feature's row for each head. -/
abbrev Row : Type := FVec Ideal S4x4x1x8192 .f32
def rowOf (x : Floats) : Row := broadcastInDim S4x4x1x8192 ![0, 1, 3] bcast_S4x4x8192_S4x4x1x8192_0_1_3 x
def ones : Row := broadcastInDim S4x4x1x8192 ![] bcast_S_S4x4x1x8192 (constant (F := Ideal) S_ .f32 0x3F800000#32)
def zeros : FVec Ideal S4x4x2x8192 .f32 :=
  broadcastInDim S4x4x2x8192 ![] bcast_S_S4x4x2x8192 (constant (F := Ideal) S_ .f32 0x00000000#32)
def blank : FVec Ideal S4x96x8192 .f32 :=
  broadcastInDim S4x96x8192 ![] bcast_S_S4x96x8192 (constant (F := Ideal) S_ .f32 0x00000000#32)

/-- Six rows and two of zeros, one under the other. -/
def eight (r0 r1 r2 r3 r4 r5 : Row) : FVec Ideal S4x4x8x8192 .f32 :=
  concatenate S4x4x8x8192 2 [⟨S4x4x1x8192, r0⟩, ⟨S4x4x1x8192, r1⟩, ⟨S4x4x1x8192, r2⟩, ⟨S4x4x1x8192, r3⟩, ⟨S4x4x1x8192, r4⟩,
    ⟨S4x4x1x8192, r5⟩, ⟨S4x4x2x8192, zeros⟩]
    concatenates_S4x4x1x8192_S4x4x1x8192_S4x4x1x8192_S4x4x1x8192_S4x4x1x8192_S4x4x1x8192_S4x4x2x8192_S4x4x8x8192_d2

/-- The four heads' features one under the other, and blank rows to 128. -/
def wide (x : FVec Ideal S4x4x8x8192 .f32) : FVec Ideal S4x128x8192 .bf16 :=
  truncf .bf16 (concatenate S4x128x8192 1 [⟨S4x32x8192, shapeCast S4x32x8192 x shapeCasts_S4x4x8x8192_S4x32x8192⟩,
    ⟨S4x96x8192, blank⟩] concatenates_S4x32x8192_S4x96x8192_S4x128x8192_d1) bitsLt_bf16_f32

def wideQ (f : Floats) : FVec Ideal S4x128x8192 .bf16 :=
  wide (eight (rowOf (part0 f)) (rowOf (part1 f)) (rowOf (part2 f)) ones ones ones)
def wideK (f : Floats) : FVec Ideal S4x128x8192 .bf16 :=
  wide (eight ones ones ones (Host.negf (rowOf (part0 f))) (Host.negf (rowOf (part1 f))) (Host.negf (rowOf (part2 f))))
def tallK (f : Floats) : FVec Ideal S4x8192x128 .bf16 :=
  transpose S4x8192x128 [0, 2, 1] (wideK f) transposes_S4x128x8192_S4x8192x128_0_2_1

/-- The queries of two heads, then the features. -/
def queriesOf (q : Queries) (f : Floats) : Vec Ideal S4x2x256x8192 .bf16 :=
  concatenate S4x2x256x8192 2 [⟨S4x2x128x8192, shapeCast S4x2x128x8192 q shapeCasts_S4x4x64x8192_S4x2x128x8192⟩,
    ⟨S4x2x128x8192, broadcastInDim S4x2x128x8192 ![0, 1, 2, 3] bcast_S4x1x128x8192_S4x2x128x8192_0_1_2_3
      (broadcastInDim S4x1x128x8192 ![0, 2, 3] bcast_S4x128x8192_S4x1x128x8192_0_2_3 (wideQ f))⟩]
    concatenates_S4x2x128x8192_S4x2x128x8192_S4x2x256x8192_d2

/-- The keys of two heads, then the features, twice. -/
def keysOf (k : Keys) (f : Floats) : Vec Ideal S4x8192x512 .bf16 :=
  concatenate S4x8192x512 2 [⟨S4x8192x128, extractStridedSlice S4x8192x128 ![0, 0, 0] k slices_S4x8192x256_S4x8192x128_0_0_0⟩,
    ⟨S4x8192x128, tallK f⟩,
    ⟨S4x8192x128, extractStridedSlice S4x8192x128 ![0, 0, 128] k slices_S4x8192x256_S4x8192x128_0_0_128⟩,
    ⟨S4x8192x128, tallK f⟩] concatenates_S4x8192x128_S4x8192x128_S4x8192x128_S4x8192x128_S4x8192x512_d2

/-! ## The features, at an index -/

theorem one_f32 : Ideal.ofBits .f32 0x3F800000#32 = (1 : EReal) := by
  simp [Ideal.ofBits, Ideal.ieee, -EReal.coe_mul]; norm_num

theorem rowOf_at (x : Floats) (b h : Fin 4) (t : Fin 8192) : rowOf x (ix4 b h 0 t) = x (ix3 b h t) := by
  unfold rowOf
  exact broadcastInDim_apply _ bcast_S4x4x8192_S4x4x1x8192_0_1_3 x _ (ix3 b h t) (fun a => match a with
    | ⟨0, _⟩ => by show b.val = if (4 : Nat) = 1 then 0 else b.val; rw [if_neg (by decide)]
    | ⟨1, _⟩ => by show h.val = if (4 : Nat) = 1 then 0 else h.val; rw [if_neg (by decide)]
    | ⟨2, _⟩ => by show t.val = if (8192 : Nat) = 1 then 0 else t.val; rw [if_neg (by decide)])

theorem ones_at (i : S4x4x1x8192.Idx) : ones i = 1 := one_f32
theorem zeros_at (i : S4x4x2x8192.Idx) : zeros i = 0 := Ideal.ofBits_zero_f32

/-- A feature's row. -/
def pick (r0 r1 r2 r3 r4 r5 z : EReal) : ℕ → EReal
  | 0 => r0
  | 1 => r1
  | 2 => r2
  | 3 => r3
  | 4 => r4
  | 5 => r5
  | _ => z

section Eight
variable (r0 r1 r2 r3 r4 r5 : Row) (b h : Fin 4) (t : Fin 8192)

theorem eight_at (e : Fin 8) : eight r0 r1 r2 r3 r4 r5 (ix4 b h e t)
    = pick (r0 (ix4 b h 0 t)) (r1 (ix4 b h 0 t)) (r2 (ix4 b h 0 t)) (r3 (ix4 b h 0 t)) (r4 (ix4 b h 0 t)) (r5 (ix4 b h 0 t))
      0 e.val := by
  unfold eight
  match e with
  | ⟨0, _⟩ =>
    show concatenate S4x4x8x8192 2 _ _ _ = r0 (ix4 b h 0 t)
    skip
    refine concatenate_apply_piece (t := S4x4x8x8192) 2 _ _ _ 0 ?_ S4x4x1x8192 r0 ?_ rfl 0 ?_ (ix4 b h 0 t) ?_ ?_
    · show 0 < 7; decide
    · rfl
    · rfl
    · intro a ha
      match a with
      | ⟨0, _⟩ => rfl
      | ⟨1, _⟩ => rfl
      | ⟨2, _⟩ => exact absurd rfl ha
      | ⟨3, _⟩ => rfl
    · rfl
  | ⟨1, _⟩ =>
    show concatenate S4x4x8x8192 2 _ _ _ = r1 (ix4 b h 0 t)
    skip
    refine concatenate_apply_piece (t := S4x4x8x8192) 2 _ _ _ 1 ?_ S4x4x1x8192 r1 ?_ rfl 1 ?_ (ix4 b h 0 t) ?_ ?_
    · show 1 < 7; decide
    · rfl
    · rfl
    · intro a ha
      match a with
      | ⟨0, _⟩ => rfl
      | ⟨1, _⟩ => rfl
      | ⟨2, _⟩ => exact absurd rfl ha
      | ⟨3, _⟩ => rfl
    · rfl
  | ⟨2, _⟩ =>
    show concatenate S4x4x8x8192 2 _ _ _ = r2 (ix4 b h 0 t)
    skip
    refine concatenate_apply_piece (t := S4x4x8x8192) 2 _ _ _ 2 ?_ S4x4x1x8192 r2 ?_ rfl 2 ?_ (ix4 b h 0 t) ?_ ?_
    · show 2 < 7; decide
    · rfl
    · rfl
    · intro a ha
      match a with
      | ⟨0, _⟩ => rfl
      | ⟨1, _⟩ => rfl
      | ⟨2, _⟩ => exact absurd rfl ha
      | ⟨3, _⟩ => rfl
    · rfl
  | ⟨3, _⟩ =>
    show concatenate S4x4x8x8192 2 _ _ _ = r3 (ix4 b h 0 t)
    skip
    refine concatenate_apply_piece (t := S4x4x8x8192) 2 _ _ _ 3 ?_ S4x4x1x8192 r3 ?_ rfl 3 ?_ (ix4 b h 0 t) ?_ ?_
    · show 3 < 7; decide
    · rfl
    · rfl
    · intro a ha
      match a with
      | ⟨0, _⟩ => rfl
      | ⟨1, _⟩ => rfl
      | ⟨2, _⟩ => exact absurd rfl ha
      | ⟨3, _⟩ => rfl
    · rfl
  | ⟨4, _⟩ =>
    show concatenate S4x4x8x8192 2 _ _ _ = r4 (ix4 b h 0 t)
    skip
    refine concatenate_apply_piece (t := S4x4x8x8192) 2 _ _ _ 4 ?_ S4x4x1x8192 r4 ?_ rfl 4 ?_ (ix4 b h 0 t) ?_ ?_
    · show 4 < 7; decide
    · rfl
    · rfl
    · intro a ha
      match a with
      | ⟨0, _⟩ => rfl
      | ⟨1, _⟩ => rfl
      | ⟨2, _⟩ => exact absurd rfl ha
      | ⟨3, _⟩ => rfl
    · rfl
  | ⟨5, _⟩ =>
    show concatenate S4x4x8x8192 2 _ _ _ = r5 (ix4 b h 0 t)
    skip
    refine concatenate_apply_piece (t := S4x4x8x8192) 2 _ _ _ 5 ?_ S4x4x1x8192 r5 ?_ rfl 5 ?_ (ix4 b h 0 t) ?_ ?_
    · show 5 < 7; decide
    · rfl
    · rfl
    · intro a ha
      match a with
      | ⟨0, _⟩ => rfl
      | ⟨1, _⟩ => rfl
      | ⟨2, _⟩ => exact absurd rfl ha
      | ⟨3, _⟩ => rfl
    · rfl
  | ⟨6, _⟩ =>
    show concatenate S4x4x8x8192 2 _ _ _ = 0
    rw [← zeros_at (ix4 b h (⟨0, by decide⟩ : Fin 2) t)]
    refine concatenate_apply_piece (t := S4x4x8x8192) 2 _ _ _ 6 ?_ S4x4x2x8192 zeros ?_ rfl 6 ?_ (ix4 b h (⟨0, by decide⟩ : Fin 2) t) ?_ ?_
    · show 6 < 7; decide
    · rfl
    · rfl
    · intro a ha
      match a with
      | ⟨0, _⟩ => rfl
      | ⟨1, _⟩ => rfl
      | ⟨2, _⟩ => exact absurd rfl ha
      | ⟨3, _⟩ => rfl
    · rfl
  | ⟨7, _⟩ =>
    show concatenate S4x4x8x8192 2 _ _ _ = 0
    rw [← zeros_at (ix4 b h (⟨1, by decide⟩ : Fin 2) t)]
    refine concatenate_apply_piece (t := S4x4x8x8192) 2 _ _ _ 6 ?_ S4x4x2x8192 zeros ?_ rfl 6 ?_ (ix4 b h (⟨1, by decide⟩ : Fin 2) t) ?_ ?_
    · show 6 < 7; decide
    · rfl
    · rfl
    · intro a ha
      match a with
      | ⟨0, _⟩ => rfl
      | ⟨1, _⟩ => rfl
      | ⟨2, _⟩ => exact absurd rfl ha
      | ⟨3, _⟩ => rfl
    · rfl

end Eight

theorem wide_at (x : FVec Ideal S4x4x8x8192 .f32) (b h : Fin 4) (e : Fin 8) (t : Fin 8192) (hl : 8 * h.val + e.val < 128) :
    wide x (ix3 b ⟨8 * h.val + e.val, hl⟩ t) = x (ix4 b h e t) := by
  have hb := b.isLt
  have hh := h.isLt
  have he := e.isLt
  have ht := t.isLt
  refine (concatenate_pair_apply_left 1 _ _ concatenates_S4x32x8192_S4x96x8192_S4x128x8192_d1
    (ix3 b ⟨8 * h.val + e.val, hl⟩ t) rfl (ix3 b (⟨8 * h.val + e.val, by omega⟩ : Fin 32) t) (fun a => by
      match a with
      | ⟨0, _⟩ => rfl
      | ⟨1, _⟩ => rfl
      | ⟨2, _⟩ => rfl)).trans ?_
  exact shapeCast_apply x shapeCasts_S4x4x8x8192_S4x32x8192 _ (ix4 b h e t) (by
    rewrite [Shape.rowMajor_val_three, Shape.rowMajor_val_four]
    show ((b.val * 4 + h.val) * 8 + e.val) * 8192 + t.val = (b.val * 32 + (8 * h.val + e.val)) * 8192 + t.val
    omega)

/-- The queries' lanes. -/
theorem queries_low (q : Queries) (f : Floats) (b : Fin 4) (p hh : Fin 2) (l : Fin 64) (t : Fin 8192)
    (hl : 64 * hh.val + l.val < 256) (hp : 2 * p.val + hh.val < 4) :
    queriesOf q f (ix4 b p ⟨64 * hh.val + l.val, hl⟩ t) = q (ix4 b ⟨2 * p.val + hh.val, hp⟩ l t) := by
  have hb := b.isLt
  have hp' := p.isLt
  have hh' := hh.isLt
  have he := l.isLt
  have ht := t.isLt
  unfold queriesOf
  refine (concatenate_pair_apply_left 2 _ _ concatenates_S4x2x128x8192_S4x2x128x8192_S4x2x256x8192_d2
    (ix4 b p ⟨64 * hh.val + l.val, hl⟩ t) rfl (ix4 b p (⟨64 * hh.val + l.val, by omega⟩ : Fin 128) t) (fun a => by
      match a with
      | ⟨0, _⟩ => rfl
      | ⟨1, _⟩ => rfl
      | ⟨2, _⟩ => rfl
      | ⟨3, _⟩ => rfl)).trans ?_
  exact shapeCast_apply q shapeCasts_S4x4x64x8192_S4x2x128x8192 _ (ix4 b ⟨2 * p.val + hh.val, hp⟩ l t) (by
    rewrite [Shape.rowMajor_val_four, Shape.rowMajor_val_four]
    show ((b.val * 4 + (2 * p.val + hh.val)) * 64 + l.val) * 8192 + t.val
      = ((b.val * 2 + p.val) * 128 + (64 * hh.val + l.val)) * 8192 + t.val
    omega)

/-- The queries' features. -/
theorem queries_high (q : Queries) (f : Floats) (b : Fin 4) (p : Fin 2) (h : Fin 4) (e : Fin 8) (t : Fin 8192)
    (hl : 128 + (8 * h.val + e.val) < 256) :
    queriesOf q f (ix4 b p ⟨128 + (8 * h.val + e.val), hl⟩ t)
      = pick (part0 f (ix3 b h t)) (part1 f (ix3 b h t)) (part2 f (ix3 b h t)) 1 1 1 0 e.val := by
  have hh := h.isLt
  have he := e.isLt
  unfold queriesOf
  refine (concatenate_pair_apply_right 2 _ _ concatenates_S4x2x128x8192_S4x2x128x8192_S4x2x256x8192_d2
    (ix4 b p ⟨128 + (8 * h.val + e.val), hl⟩ t) rfl rfl (ix4 b p (⟨8 * h.val + e.val, by omega⟩ : Fin 128) t) (fun a ha => by
      match a with
      | ⟨0, _⟩ => rfl
      | ⟨1, _⟩ => rfl
      | ⟨2, _⟩ => exact absurd rfl ha
      | ⟨3, _⟩ => rfl) (show 8 * h.val + e.val + 128 = 128 + (8 * h.val + e.val) by omega)).trans ?_
  refine (broadcastInDim_apply _ bcast_S4x1x128x8192_S4x2x128x8192_0_1_2_3 _ _
    (ix4 b (0 : Fin 1) (⟨8 * h.val + e.val, by omega⟩ : Fin 128) t) (fun a => match a with
    | ⟨0, _⟩ => by show b.val = if (4 : Nat) = 1 then 0 else b.val; rw [if_neg (by decide)]
    | ⟨1, _⟩ => by show 0 = if (1 : Nat) = 1 then 0 else p.val; rw [if_pos rfl]
    | ⟨2, _⟩ => by show 8 * h.val + e.val = if (128 : Nat) = 1 then 0 else 8 * h.val + e.val; rw [if_neg (by decide)]
    | ⟨3, _⟩ => by show t.val = if (8192 : Nat) = 1 then 0 else t.val; rw [if_neg (by decide)])).trans ?_
  refine (broadcastInDim_apply _ bcast_S4x128x8192_S4x1x128x8192_0_2_3 (wideQ f) _
    (ix3 b (⟨8 * h.val + e.val, by omega⟩ : Fin 128) t) (fun a => match a with
    | ⟨0, _⟩ => by show b.val = if (4 : Nat) = 1 then 0 else b.val; rw [if_neg (by decide)]
    | ⟨1, _⟩ => by show 8 * h.val + e.val = if (128 : Nat) = 1 then 0 else 8 * h.val + e.val; rw [if_neg (by decide)]
    | ⟨2, _⟩ => by show t.val = if (8192 : Nat) = 1 then 0 else t.val; rw [if_neg (by decide)])).trans ?_
  unfold wideQ
  rw [wide_at, eight_at, rowOf_at, rowOf_at, rowOf_at, ones_at]

theorem tallK_at (f : Floats) (b h : Fin 4) (e : Fin 8) (t : Fin 8192) (hl : 8 * h.val + e.val < 128) :
    tallK f (ix3 b t ⟨8 * h.val + e.val, hl⟩)
      = pick 1 1 1 (-part0 f (ix3 b h t)) (-part1 f (ix3 b h t)) (-part2 f (ix3 b h t)) 0 e.val := by
  unfold tallK
  refine (transpose_apply [0, 2, 1] (wideK f) transposes_S4x128x8192_S4x8192x128_0_2_1 _
    (ix3 b ⟨8 * h.val + e.val, hl⟩ t) (fun a => match a with
    | ⟨0, _⟩ => rfl
    | ⟨1, _⟩ => rfl
    | ⟨2, _⟩ => rfl)).trans ?_
  unfold wideK
  rw [wide_at, eight_at, ones_at]
  show pick 1 1 1 (-(rowOf (part0 f) (ix4 b h 0 t))) (-(rowOf (part1 f) (ix4 b h 0 t))) (-(rowOf (part2 f) (ix4 b h 0 t))) 0 e.val = _
  rw [rowOf_at, rowOf_at, rowOf_at]

/-- The keys' lanes. -/
theorem keys_low (k : Keys) (f : Floats) (b : Fin 4) (p : Fin 2) (j : Fin 8192) (l : Fin 128) (hl : 256 * p.val + l.val < 512)
    (hk : 128 * p.val + l.val < 256) :
    keysOf k f (ix3 b j ⟨256 * p.val + l.val, hl⟩) = k (ix3 b j ⟨128 * p.val + l.val, hk⟩) := by
  unfold keysOf
  match p with
  | ⟨0, _⟩ =>
    refine Eq.trans (b := (extractStridedSlice S4x8192x128 ![0, 0, 0] k slices_S4x8192x256_S4x8192x128_0_0_0) (ix3 b j l)) ?_ ?_
    rotate_left
    exact extractStridedSlice_apply ![0, 0, 0] k slices_S4x8192x256_S4x8192x128_0_0_0 (ix3 b j l) (ix3 b j ⟨128 * 0 + l.val, hk⟩) (fun a => by
      match a with
      | ⟨0, _⟩ => exact (Nat.zero_add _).symm
      | ⟨1, _⟩ => exact (Nat.zero_add _).symm
      | ⟨2, _⟩ => show 128 * 0 + l.val = 0 + l.val; omega)
    show concatenate S4x8192x512 2 _ _ _ = (extractStridedSlice S4x8192x128 ![0, 0, 0] k slices_S4x8192x256_S4x8192x128_0_0_0) (ix3 b j l)
    refine concatenate_apply_piece (t := S4x8192x512) 2 _ _ _ 0 ?_ S4x8192x128 (extractStridedSlice S4x8192x128 ![0, 0, 0] k slices_S4x8192x256_S4x8192x128_0_0_0) ?_ rfl 0 ?_ (ix3 b j l) ?_ ?_
    · show 0 < 4; decide
    · rfl
    · rfl
    · intro a ha
      match a with
      | ⟨0, _⟩ => rfl
      | ⟨1, _⟩ => rfl
      | ⟨2, _⟩ => exact absurd rfl ha
    · show 0 + l.val = 256 * 0 + l.val
      omega
  | ⟨1, _⟩ =>
    refine Eq.trans (b := (extractStridedSlice S4x8192x128 ![0, 0, 128] k slices_S4x8192x256_S4x8192x128_0_0_128) (ix3 b j l)) ?_ ?_
    rotate_left
    exact extractStridedSlice_apply ![0, 0, 128] k slices_S4x8192x256_S4x8192x128_0_0_128 (ix3 b j l) (ix3 b j ⟨128 * 1 + l.val, hk⟩) (fun a => by
      match a with
      | ⟨0, _⟩ => exact (Nat.zero_add _).symm
      | ⟨1, _⟩ => exact (Nat.zero_add _).symm
      | ⟨2, _⟩ => show 128 * 1 + l.val = 128 + l.val; omega)
    show concatenate S4x8192x512 2 _ _ _ = (extractStridedSlice S4x8192x128 ![0, 0, 128] k slices_S4x8192x256_S4x8192x128_0_0_128) (ix3 b j l)
    refine concatenate_apply_piece (t := S4x8192x512) 2 _ _ _ 2 ?_ S4x8192x128 (extractStridedSlice S4x8192x128 ![0, 0, 128] k slices_S4x8192x256_S4x8192x128_0_0_128) ?_ rfl 256 ?_ (ix3 b j l) ?_ ?_
    · show 2 < 4; decide
    · rfl
    · rfl
    · intro a ha
      match a with
      | ⟨0, _⟩ => rfl
      | ⟨1, _⟩ => rfl
      | ⟨2, _⟩ => exact absurd rfl ha
    · show 256 + l.val = 256 * 1 + l.val
      omega

/-- The keys' features. -/
theorem keys_high (k : Keys) (f : Floats) (b : Fin 4) (p : Fin 2) (j : Fin 8192) (l : Fin 128)
    (hl : 256 * p.val + (128 + l.val) < 512) :
    keysOf k f (ix3 b j ⟨256 * p.val + (128 + l.val), hl⟩) = tallK f (ix3 b j l) := by
  unfold keysOf
  match p with
  | ⟨0, _⟩ =>
    show concatenate S4x8192x512 2 _ _ _ = (tallK f) (ix3 b j l)
    refine concatenate_apply_piece (t := S4x8192x512) 2 _ _ _ 1 ?_ S4x8192x128 (tallK f) ?_ rfl 128 ?_ (ix3 b j l) ?_ ?_
    · show 1 < 4; decide
    · rfl
    · rfl
    · intro a ha
      match a with
      | ⟨0, _⟩ => rfl
      | ⟨1, _⟩ => rfl
      | ⟨2, _⟩ => exact absurd rfl ha
    · show 128 + l.val = 256 * 0 + (128 + l.val)
      omega
  | ⟨1, _⟩ =>
    show concatenate S4x8192x512 2 _ _ _ = (tallK f) (ix3 b j l)
    refine concatenate_apply_piece (t := S4x8192x512) 2 _ _ _ 3 ?_ S4x8192x128 (tallK f) ?_ rfl 384 ?_ (ix3 b j l) ?_ ?_
    · show 3 < 4; decide
    · rfl
    · rfl
    · intro a ha
      match a with
      | ⟨0, _⟩ => rfl
      | ⟨1, _⟩ => rfl
      | ⟨2, _⟩ => exact absurd rfl ha
    · show 384 + l.val = 256 * 1 + (128 + l.val)
      omega

end Cert.Fox
end
-- ==== Proof.FoxScore.lean ====
/- The product of a query and a key with the gates' features beside them is the forgetting attention's score. -/
module

public import proofs.«01_k».proof.Proof.FoxHost
public import proofs.«01_k».proof.Proof.FoxDiagonal

@[expose] public section

set_option maxRecDepth 16384

noncomputable section

namespace Cert.Fox

open Idealize.ShloMosaic Idealize.ShloMosaic.TcCoe Idealize.SL.Sem
open Cert.Mla Cert.Kernel3Ideal Cert.Kernel3Ideal.Gen

/-- A sum over 256 lanes, all zero but 64 of the first half and 8 of the second. -/
theorem two_blocks (g : ℕ → EReal) (a c : ℕ) (ha : a + 64 ≤ 128) (hc : 128 ≤ c) (hc' : c + 8 ≤ 256)
    (h0 : ∀ l, ¬(a ≤ l ∧ l < a + 64) → ¬(c ≤ l ∧ l < c + 8) → g l = 0) :
    ∑ l ∈ Finset.range 256, g l = ∑ l ∈ Finset.range 64, g (a + l) + ∑ e ∈ Finset.range 8, g (c + e) := by
  have hd : Disjoint (Finset.Ico a (a + 64)) (Finset.Ico c (c + 8)) := Finset.disjoint_left.2 fun l h1 h2 => by
    rw [Finset.mem_Ico] at h1 h2
    omega
  rw [← Finset.sum_subset (s₁ := Finset.Ico a (a + 64) ∪ Finset.Ico c (c + 8)) (fun l hl => by
      rw [Finset.mem_union, Finset.mem_Ico, Finset.mem_Ico] at hl
      rw [Finset.mem_range]
      omega) (fun l _ hl => by
      rw [Finset.mem_union, Finset.mem_Ico, Finset.mem_Ico] at hl
      exact h0 l (fun h => hl (Or.inl h)) (fun h => hl (Or.inr h))),
    Finset.sum_union hd, Finset.sum_Ico_eq_sum_range, Finset.sum_Ico_eq_sum_range, Nat.add_sub_cancel_left,
    Nat.add_sub_cancel_left]

theorem kept_iff (p hh l : ℕ) : kept p hh l = true ↔ (64 * hh ≤ l ∧ l < 64 * (hh + 1))
    ∨ (128 + 8 * (2 * p + hh) ≤ l ∧ l < 128 + 8 * (2 * p + hh) + 8) := by
  unfold kept
  rw [Bool.or_eq_true, decide_eq_true_iff, decide_eq_true_iff]

section Parts
variable (f : Floats) (i : S4x4x8192.Idx)

theorem part0_at : part0 f i = f i := rfl

variable (hf : ∃ r : ℝ, f i = (r : EReal))
include hf

theorem rest1_at : rest1 f i = 0 := by
  obtain ⟨r, hr⟩ := hf
  show f i - f i = 0
  rw [hr, ← EReal.coe_sub, sub_self]
  rfl

theorem part1_at : part1 f i = 0 := rest1_at f i hf

theorem part2_at : part2 f i = 0 := by
  show rest1 f i - part1 f i = 0
  rw [rest1_at f i hf, part1_at f i hf]
  exact sub_zero (0 : EReal)

end Parts

/-- The eight features' product: the two gates' difference. -/
theorem features (f : Floats) (hf : ∀ i, ∃ r : ℝ, f i = (r : EReal)) (i j : S4x4x8192.Idx) :
    ∑ e ∈ Finset.range 8, pick 1 1 1 (-part0 f j) (-part1 f j) (-part2 f j) 0 e
      * pick (part0 f i) (part1 f i) (part2 f i) 1 1 1 0 e = f i + -f j := by
  rw [part1_at f i (hf i), part2_at f i (hf i), part1_at f j (hf j), part2_at f j (hf j), part0_at, part0_at]
  simp only [Finset.sum_range_succ, Finset.sum_range_zero, pick, one_mul, mul_one, mul_zero, zero_mul, neg_zero, add_zero,
    zero_add]

theorem logit_mod (q : Queries) (k : Keys) (f : Gates) (b h row j : ℕ) :
    logit q k f b h (row % 8192) (j % 8192) = logit q k f b h row j := by
  unfold logit kAt qAt fAt
  simp only [Nat.mod_mod]

theorem score_fin (q : Queries) (k : Keys) (f : Gates) (hf : ∀ i, ∃ r : ℝ, f i = (r : EReal)) (b : Fin 4) (p hh : Fin 2)
    (row j : Fin 8192) :
    ∑ l : Fin 256, keysOf k f (ix3 b j ⟨256 * p.val + l.val, by have := p.isLt; have := l.isLt; omega⟩)
        * (if kept p.val hh.val l.val then queriesOf q f (ix4 b p l row) else 0)
      = logit q k f b.val (2 * p.val + hh.val) row.val j.val := by
  have hp := p.isLt
  have hh' := hh.isLt
  have hw : 2 * p.val + hh.val < 4 := by omega
  let g : ℕ → EReal := fun n => if h : n < 256 then
    keysOf k f (ix3 b j ⟨256 * p.val + n, by omega⟩) * (if kept p.val hh.val n then queriesOf q f (ix4 b p ⟨n, h⟩ row) else 0) else 0
  have e1 : ∀ n (h : n < 256), g n = keysOf k f (ix3 b j ⟨256 * p.val + n, by omega⟩)
      * (if kept p.val hh.val n then queriesOf q f (ix4 b p ⟨n, h⟩ row) else 0) := fun n h => dif_pos h
  have e0 : ∀ n, 256 ≤ n → g n = 0 := fun n h => dif_neg (Nat.not_lt.2 h)
  refine (Finset.sum_congr rfl fun l _ => (e1 l.val l.isLt).symm).trans ?_
  rw [Fin.sum_univ_eq_sum_range g 256,
    two_blocks g (64 * hh.val) (128 + 8 * (2 * p.val + hh.val)) (by omega) (by omega) (by omega) fun l h1 h2 => by
      by_cases hl : l < 256
      · rw [e1 l hl, if_neg (fun h => ((kept_iff _ _ _).1 h).elim (fun h => h1 ⟨h.1, by omega⟩) h2), mul_zero]
      · exact e0 l (by omega)]
  have lo : ∀ l : Fin 64, g (64 * hh.val + l.val)
      = kAt k b.val j.val (64 * (2 * p.val + hh.val) + l.val) * qAt q b.val (2 * p.val + hh.val) l row.val := fun l => by
    have hl := l.isLt
    rw [e1 _ (by omega), if_pos ((kept_iff _ _ _).2 (Or.inl ⟨by omega, by omega⟩)), queries_low q f b p hh l row (by omega) hw]
    refine congrArg₂ (· * ·) ?_ (q_of q _ rfl rfl rfl rfl)
    exact (keys_low k f b p j (⟨64 * hh.val + l.val, by omega⟩ : Fin 128) (by show 256 * p.val + (64 * hh.val + l.val) < 512; omega)
      (by show 128 * p.val + (64 * hh.val + l.val) < 256; omega)).trans (k_of k _ rfl rfl (by
        show 128 * p.val + (64 * hh.val + l.val) = 64 * (2 * p.val + hh.val) + l.val
        omega))
  have hi : ∀ e ∈ Finset.range 8, g (128 + 8 * (2 * p.val + hh.val) + e)
      = pick 1 1 1 (-part0 f (ix3 b ⟨2 * p.val + hh.val, hw⟩ j)) (-part1 f (ix3 b ⟨2 * p.val + hh.val, hw⟩ j))
          (-part2 f (ix3 b ⟨2 * p.val + hh.val, hw⟩ j)) 0 e
        * pick (part0 f (ix3 b ⟨2 * p.val + hh.val, hw⟩ row)) (part1 f (ix3 b ⟨2 * p.val + hh.val, hw⟩ row))
          (part2 f (ix3 b ⟨2 * p.val + hh.val, hw⟩ row)) 1 1 1 0 e := fun e he => by
    have he' := Finset.mem_range.1 he
    rw [e1 _ (by omega), if_pos ((kept_iff _ _ _).2 (Or.inr ⟨by omega, by omega⟩))]
    have hq := queries_high q f b p ⟨2 * p.val + hh.val, hw⟩ ⟨e, he'⟩ row
      (by show 128 + (8 * (2 * p.val + hh.val) + e) < 256; omega)
    have hk := (keys_high k f b p j (⟨8 * (2 * p.val + hh.val) + e, by omega⟩ : Fin 128)
      (by show 256 * p.val + (128 + (8 * (2 * p.val + hh.val) + e)) < 512; omega)).trans
      (tallK_at f b ⟨2 * p.val + hh.val, hw⟩ ⟨e, he'⟩ j (by show 8 * (2 * p.val + hh.val) + e < 128; omega))
    refine congrArg₂ (· * ·) (Eq.trans (congrArg (fun n => keysOf k f (ix3 b j n)) (Fin.ext ?_)) hk)
      (Eq.trans (congrArg (fun n => queriesOf q f (ix4 b p n row)) (Fin.ext ?_)) hq)
    · show 256 * p.val + (128 + 8 * (2 * p.val + hh.val) + e) = 256 * p.val + (128 + (8 * (2 * p.val + hh.val) + e))
      omega
    · show 128 + 8 * (2 * p.val + hh.val) + e = 128 + (8 * (2 * p.val + hh.val) + e)
      omega
  rw [Finset.sum_congr rfl hi, features f hf, ← Fin.sum_univ_eq_sum_range (fun n => g (64 * hh.val + n)) 64,
    Finset.sum_congr rfl fun l _ => lo l]
  unfold logit
  rw [sub_eq_add_neg, add_assoc]
  exact congrArg (_ + ·) (congrArg₂ (fun x y : EReal => x + -y) (f_of f _ rfl rfl rfl) (f_of f _ rfl rfl rfl))

end Cert.Fox
end
-- ==== Proof.FoxWindows.lean ====
/- The arrays that the forgetting attention's windows read are those the host lays out. -/
module

public import proofs.«01_k».proof.Proof.FoxHost
public import proofs.«01_k».proof.Proof.Gen.Kernel3Ideal.Frame
public import Idealize.ShloMosaic.Lib.Pipeline.Value

@[expose] public section

set_option maxRecDepth 16384

noncomputable section

namespace Cert.Fox

open Idealize.ShloMosaic Idealize.ShloMosaic.TcCoe Idealize.ShloMosaic.Tactic Idealize.SL.Sem
open Cert.Mla Cert.Kernel3Ideal Cert.Kernel3Ideal.Gen

/-! ## The windows' arrays -/

variable (m : (ℓ : Loc nD τ sig) → Buf (Elt Ideal) ℓ)

theorem V_queries (c : Dev nD) : V m c main_v29
    = queriesOf (m ((c : Thread nD τ).loc main_arg0)) (m ((c : Thread nD τ).loc main_arg3)) := by
  show StableHlo.after hostOps0 _ (Proc.devRef .tc main_v29) = _
  after_results_simp
  rfl

theorem V_keys (c : Dev nD) : V m c main_v32
    = keysOf (m ((c : Thread nD τ).loc main_arg1)) (m ((c : Thread nD τ).loc main_arg3)) := by
  show StableHlo.after hostOps0 _ (Proc.devRef .tc main_v32) = _
  after_results_simp
  rfl

/-- The values with rows of ones under them, as the host lays them out. -/
theorem V_main_v34 (c : Dev nD) : V m c main_v34 = concatenate S4x4x80x8192 2
    [⟨S4x4x64x8192, m ((c : Thread nD τ).loc main_arg2)⟩,
      ⟨S4x4x16x8192, broadcastInDim S4x4x16x8192 ![] bcast_S_S4x4x16x8192 (constant (F := Ideal) S_ .bf16 0x3F80#16)⟩]
    concatenates_S4x4x64x8192_S4x4x16x8192_S4x4x80x8192_d2 := by
  show StableHlo.after hostOps0 _ (Proc.devRef .tc main_v34) = _
  after_results_simp
  rfl

end Cert.Fox
end
-- ==== Proof.FoxWhole.lean ====
/- The forgetting attention kernel's whole result as one function of the argument arrays. -/
module

public import proofs.«01_k».proof.Proof.FoxFrame
public import proofs.«01_k».proof.Proof.FoxBlock
public import proofs.«01_k».proof.Proof.FoxScore
public import proofs.«01_k».proof.Proof.FoxWindows

@[expose] public section

set_option maxRecDepth 16384

noncomputable section

namespace Cert.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Mla Cert.Kernel3Ideal Cert.Kernel3Ideal.Gen

local notation "𝕄" => MT nD τ sig Unit (Elt Ideal) ℕ (UR sig nD τ) ℕ

variable (m : (ℓ : Loc nD τ sig) → Buf (Elt Ideal) ℓ) (ρ : Dev nD → PrngReg)

/-! ## The arrays -/

theorem one_bits : Ideal.ofBits .bf16 0x3F80#16 = (1 : EReal) := by
  simp [Ideal.ofBits, Ideal.ieee, -EReal.coe_mul]; norm_num

/-- The values and the rows of ones under them. -/
def withOnes (v : Values) (b h : ℕ) (d : Fin 80) : ℕ → EReal := if d.val < 64 then vAt v b h d.val else fun _ => 1

theorem quotient_attend {B b p : ℕ} (hB : B + 2048 ≤ 8192) (Q : Queries) (K : Keys) (V : Values) (F : Gates)
    (z : Fin 2 → ℕ → ℕ → EReal) (hz : ∀ hh q j, z hh q j = logit Q K F b (2 * p + hh.val) (B + q) j)
    (r : Fin 2048) (l : Fin 128) :
    quotient B z (fun hh d => withOnes V b (2 * p + hh.val) d) (headOf l) r.val ⟨l.val % 64, by omega⟩
      = attend Q K V F b ((128 * p + l.val) / 64) (B + r.val) ((128 * p + l.val) % 64) := by
  have hl := l.isLt
  have hr := r.isLt
  have hs : upTo B (z (headOf l)) r.val = seen Q K F b (2 * p + l.val / 64) (B + r.val) := by
    funext j
    unfold seen upTo
    rw [Nat.zero_add, hz]
    rfl
  unfold quotient attend
  have hz : ∀ j, B + 2048 ≤ j → seen Q K F b (2 * p + l.val / 64) (B + r.val) j = ⊥ := fun j hj =>
    if_neg (show ¬ j ≤ 0 + (B + r.val) by omega)
  rw [hs, ← acc_done hB hz, ← acc_done hB hz, show (128 * p + l.val) / 64 = 2 * p + l.val / 64 by omega,
    show (128 * p + l.val) % 64 = l.val % 64 by omega]
  refine congrArg₂ Ideal.div (congrArg (fun v => acc _ v _) (if_pos ?_)) (congrArg (fun v => acc _ v _) (if_neg ?_))
  · show l.val % 64 < 64
    omega
  · show ¬ 64 < 64
    omega

theorem V_main_v34_at (c : Dev nD) (i : S4x4x80x8192.Idx) {b h j : ℕ} (d : Fin 80) (h0 : (i 0).val = b) (h1 : (i 1).val = h)
    (h2 : (i 2).val = d.val) (h3 : (i 3).val = j) :
    V m c main_v34 i = withOnes (m ((c : Thread nD τ).loc main_arg2)) b h d j := by
  rw [V_main_v34]
  unfold withOnes
  by_cases hd : d.val < 64
  · rw [if_pos hd]
    refine (concatenate_pair_apply_left 2 _ _ concatenates_S4x4x64x8192_S4x4x16x8192_S4x4x80x8192_d2 i rfl
      (ix4 (i 0) (i 1) (⟨d.val, hd⟩ : Fin 64) (i 3)) (fun a => by
        match a with
        | ⟨0, _⟩ => rfl
        | ⟨1, _⟩ => rfl
        | ⟨2, _⟩ => exact h2.symm
        | ⟨3, _⟩ => rfl)).trans ?_
    exact v_of _ _ h0 h1 rfl h3
  · rw [if_neg hd]
    have hd' := d.isLt
    refine (concatenate_pair_apply_right 2 _ _ concatenates_S4x4x64x8192_S4x4x16x8192_S4x4x80x8192_d2 i rfl rfl
      (ix4 (i 0) (i 1) (⟨d.val - 64, by omega⟩ : Fin 16) (i 3)) (fun a ha => by
        match a with
        | ⟨0, _⟩ => rfl
        | ⟨1, _⟩ => rfl
        | ⟨2, _⟩ => exact absurd rfl ha
        | ⟨3, _⟩ => rfl) (show d.val - 64 + 64 = (i 2).val by omega)).trans ?_
    exact one_bits

/-! ## The blocks -/

theorem place0 : ∀ t : Fin cfg0.N, win0_0.index t (0 : Fin 4) = (grid0.coords t 0).val
    ∧ win0_0.index t (1 : Fin 4) = (grid0.coords t 1).val ∧ win0_0.index t (2 : Fin 4) = 0
    ∧ win0_0.index t (3 : Fin 4) = (grid0.coords t 2).val :=
  (by decide +kernel : ∀ t : Fin grid0.N, _)
theorem place1 : ∀ t : Fin cfg0.N, win0_1.index t (0 : Fin 3) = (grid0.coords t 0).val
    ∧ win0_1.index t (1 : Fin 3) = 0 ∧ win0_1.index t (2 : Fin 3) = (grid0.coords t 1).val :=
  (by decide +kernel : ∀ t : Fin grid0.N, _)
theorem place2 : ∀ t : Fin cfg0.N, win0_2.index t (0 : Fin 4) = (grid0.coords t 0).val
    ∧ win0_2.index t (1 : Fin 4) = (grid0.coords t 1).val ∧ win0_2.index t (2 : Fin 4) = 0 ∧ win0_2.index t (3 : Fin 4) = 0 :=
  (by decide +kernel : ∀ t : Fin grid0.N, _)
theorem place3 : ∀ t : Fin cfg0.N, win0_3.index t (0 : Fin 3) = (grid0.coords t 0).val
    ∧ win0_3.index t (1 : Fin 3) = (grid0.coords t 2).val ∧ win0_3.index t (2 : Fin 3) = (grid0.coords t 1).val :=
  (by decide +kernel : ∀ t : Fin grid0.N, _)

theorem iblk0_at (c : Dev nD) (t : Fin cfg0.N) (l : Fin 256) (q : Fin 2048) (b : Fin 4) (p : Fin 2) (row : Fin 8192)
    (hb : b.val = (grid0.coords t 0).val) (hp : p.val = (grid0.coords t 1).val)
    (hr : row.val = 2048 * (grid0.coords t 2).val + q.val) :
    iblk m c 0 t (ix4 0 0 l q) = V m c main_v29 (ix4 b p l row) := by
  obtain ⟨e0, e1, e2, e3⟩ := place0 t
  refine congrArg (V m c main_v29) (funext fun a => Fin.ext ?_)
  match a with
  | ⟨0, _⟩ => show win0_0.index t (0 : Fin 4) * 1 + 1 * 0 = b.val; omega
  | ⟨1, _⟩ => show win0_0.index t (1 : Fin 4) * 1 + 1 * 0 = p.val; omega
  | ⟨2, _⟩ => show win0_0.index t (2 : Fin 4) * 256 + 1 * l.val = l.val; omega
  | ⟨3, _⟩ => show win0_0.index t (3 : Fin 4) * 2048 + 1 * q.val = row.val; omega

theorem iblk1_at (c : Dev nD) (t : Fin cfg0.N) (j : Fin 8192) (l : Fin 256) (b : Fin 4) (n : Fin 512)
    (hb : b.val = (grid0.coords t 0).val) (hn : n.val = 256 * (grid0.coords t 1).val + l.val) :
    iblk m c 1 t (ix3 0 j l) = V m c main_v32 (ix3 b j n) := by
  obtain ⟨e0, e1, e2⟩ := place1 t
  refine congrArg (V m c main_v32) (funext fun a => Fin.ext ?_)
  match a with
  | ⟨0, _⟩ => show win0_1.index t (0 : Fin 3) * 1 + 1 * 0 = b.val; omega
  | ⟨1, _⟩ => show win0_1.index t (1 : Fin 3) * 8192 + 1 * j.val = j.val; omega
  | ⟨2, _⟩ => show win0_1.index t (2 : Fin 3) * 256 + 1 * l.val = n.val; omega

theorem iblk2_at (c : Dev nD) (t : Fin cfg0.N) (hh : Fin 2) (d : Fin 80) (j : Fin 8192) :
    iblk m c 2 t (ix4 0 hh d j) = withOnes (m ((c : Thread nD τ).loc main_arg2)) (grid0.coords t 0).val
      (2 * (grid0.coords t 1).val + hh.val) d j.val := by
  obtain ⟨e0, e1, e2, e3⟩ := place2 t
  refine V_main_v34_at m c (((cfg0.win 2).blk t).view.emb (ix4 0 hh d j)) d ?_ ?_ ?_ ?_
  · show win0_2.index t (0 : Fin 4) * 1 + 1 * 0 = _; omega
  · show win0_2.index t (1 : Fin 4) * 2 + 1 * hh.val = _; omega
  · show win0_2.index t (2 : Fin 4) * 80 + 1 * d.val = _; omega
  · show win0_2.index t (3 : Fin 4) * 8192 + 1 * j.val = _; omega

/-- A point's sequence, and its pair of heads. -/
def seqAt (t : Fin cfg0.N) : Fin 4 := ⟨(grid0.coords t 0).val, (grid0.coords t 0).isLt⟩
def pairAt (t : Fin cfg0.N) : Fin 2 := ⟨(grid0.coords t 1).val, (grid0.coords t 1).isLt⟩

/-- A point's queries, those of the other head and of the other gates zero. -/
def qry (c : Dev nD) (t : Fin cfg0.N) (hh : Fin 2) (q : ℕ) (l : Fin 256) : EReal :=
  if kept (pairAt t).val hh.val l.val then queriesOf (m ((c : Thread nD τ).loc main_arg0)) (m ((c : Thread nD τ).loc main_arg3))
    (ix4 (seqAt t) (pairAt t) l ⟨(2048 * (grid0.coords t 2).val + q) % 8192, Nat.mod_lt _ (by decide)⟩) else 0

/-- A point's keys. -/
def key (c : Dev nD) (t : Fin cfg0.N) (hh : Fin 2) (j : ℕ) (l : Fin 256) : EReal :=
  keysOf (m ((c : Thread nD τ).loc main_arg1)) (m ((c : Thread nD τ).loc main_arg3))
    (ix3 (seqAt t) ⟨j % 8192, Nat.mod_lt _ (by decide)⟩ ⟨256 * (pairAt t).val + l.val, by
      have := (pairAt t).isLt; have := l.isLt; omega⟩)

theorem given (c : Dev nD) (t : Fin cfg0.N) : Given (2048 * (grid0.coords t 2).val) (qry m c t) (key m c t)
    (fun hh d => withOnes (m ((c : Thread nD τ).loc main_arg2)) (grid0.coords t 0).val (2 * (grid0.coords t 1).val + hh.val) d)
    (grid0.coords t) (iblk m c 0 t) (iblk m c 1 t) (iblk m c 2 t) := by
  have h2 : (grid0.coords t 2).val < 4 := (grid0.coords t 2).isLt
  refine ⟨rfl, fun hh l q => ?_, fun hh j l => ?_, iblk2_at m c t⟩
  · have hq := q.isLt
    rw [iblk0_at m c t l q (seqAt t) (pairAt t) ⟨(2048 * (grid0.coords t 2).val + q.val) % 8192, Nat.mod_lt _ (by decide)⟩ rfl rfl
      (Nat.mod_eq_of_lt (by omega)), V_queries]
    rfl
  · have hp := (pairAt t).isLt
    have hl := l.isLt
    rw [iblk1_at m c t j l (seqAt t) ⟨256 * (pairAt t).val + l.val, by omega⟩ rfl rfl, V_keys]
    unfold key
    exact congrArg (fun n => keysOf _ _ (ix3 (seqAt t) n _)) (Fin.ext (Nat.mod_eq_of_lt j.isLt).symm)

/-- A point's scores, where the gates are numbers. -/
theorem scores (c : Dev nD) (hf : ∀ i, ∃ r : ℝ, (m ((c : Thread nD τ).loc main_arg3) : Gates) i = (r : EReal)) (t : Fin cfg0.N)
    (hh : Fin 2) (q j : ℕ) : scoreOf (qry m c t) (key m c t) hh q j
      = logit (m ((c : Thread nD τ).loc main_arg0)) (m ((c : Thread nD τ).loc main_arg1)) (m ((c : Thread nD τ).loc main_arg3))
        (grid0.coords t 0).val (2 * (grid0.coords t 1).val + hh.val) (2048 * (grid0.coords t 2).val + q) j :=
  (score_fin _ _ _ hf (seqAt t) (pairAt t) hh ⟨(2048 * (grid0.coords t 2).val + q) % 8192, Nat.mod_lt _ (by decide)⟩
    ⟨j % 8192, Nat.mod_lt _ (by decide)⟩).trans (logit_mod _ _ _ _ _ _ _)

/-- The result array that the kernel is to leave. -/
def target (c : Dev nD) : Vec Ideal S4x8192x256 .bf16 :=
  attention (m ((c : Thread nD τ).loc main_arg0)) (m ((c : Thread nD τ).loc main_arg1))
    (m ((c : Thread nD τ).loc main_arg2)) (m ((c : Thread nD τ).loc main_arg3))

/-- A point's block of it. -/
def targetBlk (c : Dev nD) (t : Fin cfg0.N) : Vec Ideal S1x2048x128 .bf16 :=
  ((cfg0.win 3).blk t).view.read (Elt Ideal) (target m c)

section Real
variable (hg : ∀ (c : Dev nD) (i : S4x4x8192.Idx), ∃ r : ℝ, (m ((c : Thread nD τ).loc main_arg3) : Gates) i = (r : EReal))

include hg in
/-- What the body stores at a point is its block of the attention, whatever the scratch held. -/
theorem pieces_read (c : Dev nD) (t : Fin cfg0.N) (g7 : BufTy.Contents (Elt Ideal) scM0_0.view.ty)
    (g8 : BufTy.Contents (Elt Ideal) scM0_1.view.ty) (g9 : BufTy.Contents (Elt Ideal) scM0_2.view.ty)
    (g10 : BufTy.Contents (Elt Ideal) scM0_3.view.ty) (e : BufTy.Contents (Elt Ideal) (ms0_3 t).view.ty) :
    (ms0_3 t).view.read (Elt Ideal) ((ms0_3 t).view.writes (Elt Ideal) e (piecesAt m c t g7 g8 g9 g10)) = targetBlk m c t := by
  funext y
  obtain ⟨e0, e1, e2⟩ := place3 t
  obtain ⟨r, l, hy⟩ : ∃ (r : Fin 2048) (l : Fin 128), y = ix3 (0 : Fin 1) r l := by
    refine ⟨y (1 : Fin 3), y (2 : Fin 3), funext fun a => ?_⟩
    match a with
    | ⟨0, _⟩ => exact Fin.ext (show (y (0 : Fin 3)).val = 0 by have h : (y (0 : Fin 3)).val < 1 := (y (0 : Fin 3)).isLt; omega)
    | ⟨1, _⟩ => rfl
    | ⟨2, _⟩ => rfl
  subst hy
  unfold piecesAt foxRun
  refine (View.read_writes_cons_unit_of_mem (s := S1x2048x128) (ms0_3 t).view e inb_S1x2048x128_S1x2048x128_0_0_0 _ []
    (ix3 0 r l) (ix3 0 r l) rfl (fun a => by
      match a with
      | ⟨0, _⟩ => rfl
      | ⟨1, _⟩ => exact (Nat.zero_add _).symm
      | ⟨2, _⟩ => exact (Nat.zero_add _).symm)).trans ?_
  refine ((given m c t).stored c (ms0_0 t) (hs0_0 t) (ms0_1 t) (hs0_1 t) (ms0_2 t) (hs0_2 t) (ms0_3 t) (hs0_3 t)
    scM0_0 (Memref.isWhole_whole _) scM0_1 (Memref.isWhole_whole _) scM0_2 (Memref.isWhole_whole _)
    scM0_3 (Memref.isWhole_whole _) g8 r l).trans ?_
  refine (quotient_attend (by have h := (given m c t).room; omega) _ _ _ _ _ (scores m c (hg c) t) r l).trans ?_
  show _ = attend _ _ _ _ (((cfg0.win 3).blk t).view.emb (ix3 0 r l) 0).val ((((cfg0.win 3).blk t).view.emb (ix3 0 r l) 2).val / 64)
    (((cfg0.win 3).blk t).view.emb (ix3 0 r l) 1).val ((((cfg0.win 3).blk t).view.emb (ix3 0 r l) 2).val % 64)
  have f0 : (((cfg0.win 3).blk t).view.emb (ix3 0 r l) 0).val = (grid0.coords t 0).val := by
    show win0_3.index t (0 : Fin 3) * 1 + 1 * 0 = _; omega
  have f1 : (((cfg0.win 3).blk t).view.emb (ix3 0 r l) 1).val = 2048 * (grid0.coords t 2).val + r.val := by
    show win0_3.index t (1 : Fin 3) * 2048 + 1 * r.val = _; omega
  have f2 : (((cfg0.win 3).blk t).view.emb (ix3 0 r l) 2).val = 128 * (grid0.coords t 1).val + l.val := by
    show win0_3.index t (2 : Fin 3) * 128 + 1 * l.val = _; omega
  rw [f0, f1, f2]

/-! ## The run, the output's contents named -/

/-- The proof data: the inputs' buffers at their blocks, the output's at its block of the attention. -/
def named (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => targetBlk m c t
  Φ _ := Pipeline.ΦA spec0 c
  q _ := fullShare
  owed _ := 0

theorem named_A (c : Dev nD) (w : Fin cfg0.W) : (named m 0 c).A w = V m c (Pipeline.arrRef spec0 w) := by
  dsimp only [named]

theorem named_after0 (c : Dev nD) (t : Fin cfg0.N) : (named m 0 c).after 0 t = iblk m c 0 t := by dsimp only [named]
theorem named_after1 (c : Dev nD) (t : Fin cfg0.N) : (named m 0 c).after 1 t = iblk m c 1 t := by dsimp only [named]
theorem named_after2 (c : Dev nD) (t : Fin cfg0.N) : (named m 0 c).after 2 t = iblk m c 2 t := by dsimp only [named]
theorem named_after3 (c : Dev nD) (t : Fin cfg0.N) : (named m 0 c).after 3 t = targetBlk m c t := by dsimp only [named]

theorem named_before0 (c : Dev nD) (t : Fin cfg0.N) (d) : (named m 0 c).before 0 t d = iblk m c 0 t :=
  before0_0_of m (named m 0 c) (named_A m c 0) (named_after0 m c) t d
theorem named_before1 (c : Dev nD) (t : Fin cfg0.N) (d) : (named m 0 c).before 1 t d = iblk m c 1 t :=
  before0_1_of m (named m 0 c) (named_A m c 1) (named_after1 m c) t d
theorem named_before2 (c : Dev nD) (t : Fin cfg0.N) (d) : (named m 0 c).before 2 t d = iblk m c 2 t :=
  before0_2_of m (named m 0 c) (named_A m c 2) (named_after2 m c) t d

include hg in
theorem named_body (c : Dev nD) (t : Fin cfg0.N) :
    iprop((named m 0 c).Φ t.castSucc ∗ (named m 0 c).owesAt () t.castSucc
      ∗ (∃ d, owns (c : Thread nD τ) (ms0_0 t) fullShare ((named m 0 c).before 0 t d))
      ∗ (∃ d, owns (c : Thread nD τ) (ms0_1 t) fullShare ((named m 0 c).before 1 t d))
      ∗ (∃ d, owns (c : Thread nD τ) (ms0_2 t) fullShare ((named m 0 c).before 2 t d))
      ∗ (∃ d, owns (c : Thread nD τ) (ms0_3 t) fullShare ((named m 0 c).before 3 t d)))
    ⊢ wp frame (wpE (defs₀ (F := Ideal)) Variants.none c none) Set.univ (bodyAt0 t) (fun _ =>
      iprop((named m 0 c).Φ t.succ ∗ (named m 0 c).owesAt () t.succ
        ∗ owns (c : Thread nD τ) (ms0_0 t) fullShare ((named m 0 c).after 0 t)
        ∗ owns (c : Thread nD τ) (ms0_1 t) fullShare ((named m 0 c).after 1 t)
        ∗ owns (c : Thread nD τ) (ms0_2 t) fullShare ((named m 0 c).after 2 t)
        ∗ owns (c : Thread nD τ) (ms0_3 t) fullShare ((named m 0 c).after 3 t))) := by
  simp only [named_before0, named_before1, named_before2]
  rw [show (named m 0 c).Φ t.succ = Pipeline.ΦA spec0 c from rfl, show (named m 0 c).Φ t.castSucc = Pipeline.ΦA spec0 c from rfl,
    show (named m 0 c).owesAt () t.succ = (named m 0 c).owesAt () t.castSucc from rfl,
    named_after0, named_after1, named_after2, named_after3]
  iintro ⟨HΦ, Ho, ⟨%d0, H0⟩, ⟨%d1, H1⟩, ⟨%d2, H2⟩, ⟨%d3, H3⟩⟩
  ihave Hw := (bodyRun m c t) $$ [HΦ H0 H1 H2 H3]
  · isplitl [HΦ]; · iexact HΦ
    isplitl [H0]; · iexact H0
    isplitl [H1]; · iexact H1
    isplitl [H2]; · iexact H2
    iexists _; iexact H3
  iapply wp_wand $$ Hw
  iintro %_u ⟨HΦ, H0, H1, H2, ⟨%g7, %g8, %g9, %g10, %e, H3⟩⟩
  rw [pieces_read m hg c t g7 g8 g9 g10 e]
  isplitl [HΦ]; · iexact HΦ
  isplitl [Ho]; · iexact Ho
  isplitl [H0]; · iexact H0
  isplitl [H1]; · iexact H1
  isplitl [H2]; · iexact H2
  iexact H3

include hg in
theorem named_obligation (c : Dev nD) :
    BodyObligation (named m 0 c) (defs₀ (F := Ideal)) Variants.none () Set.univ := fun t => by
  rw [bigSep_W0, bigSep_W0, defs₀_row]
  exact triple_restated (named_body m hg c t) rfl .rfl fun _ => .rfl

include hg in
set_option backward.isDefEq.respectTransparency.types false in
/-- Every execution terminates, with each array as the windows' write-backs leave it. -/
theorem named_run : θ_run defs (onTc (τ := τ) (main (F := Ideal))) ⟨m, fun _ => 0, ρ⟩
    (fun r => (Pipeline.FramePost cfgs (named m) 0 (V m)) r ∧ r.2.sem = fun _ => 0) :=
  Pipeline.θ_run_frame (Q' := _) cfgs (named m) (0 : Fin 1) launch0 defs₀ Variants.none m ρ main
    (hbody := fun c => (named_obligation m hg c).loose) (hshare := fun c => (named m 0 c).share_full fun _ => rfl)
    (howed := fun _ _ => rfl) (V := V m) (hmain := hmain m Variants.none) (hA := named_A m) (hΦ := fun _ _ => rfl)

theorem flushed_eq (c : Dev nD) (t : Fin cfg0.N) : (named m 0 c).flushed 3 t
    = ((cfg0.win 3).blk t).view.read (Elt Ideal) (target m c) := by
  show (cfg0.win 3).cut (grid0.coords t) ((named m 0 c).after 3 t) = _
  rw [named_after3]
  rfl

theorem point_at : ∀ (b : Fin 4) (p : Fin 2) (q : Fin 4), ∃ t : Fin cfg0.N, win0_3.index t (0 : Fin 3) = b.val
    ∧ win0_3.index t (1 : Fin 3) = q.val ∧ win0_3.index t (2 : Fin 3) = p.val := fun b p q =>
  ⟨⟨b.val * 8 + p.val * 4 + q.val, by show _ < grid0.N; have := N_0; omega⟩,
    (by decide +kernel : ∀ (b : Fin 4) (p : Fin 2) (q : Fin 4) (h : b.val * 8 + p.val * 4 + q.val < grid0.N),
      win0_3.index ⟨b.val * 8 + p.val * 4 + q.val, h⟩ (0 : Fin 3) = b.val
      ∧ win0_3.index ⟨b.val * 8 + p.val * 4 + q.val, h⟩ (1 : Fin 3) = q.val
      ∧ win0_3.index ⟨b.val * 8 + p.val * 4 + q.val, h⟩ (2 : Fin 3) = p.val) b p q _⟩

/-- Every index of the result is in some point's block. -/
theorem covered (i : S4x8192x256.Idx) :
    ∃ t : Fin cfg0.N, (cfg0.win 3).flush t = true ∧ i ∈ ((cfg0.win 3).blk t).view.set := by
  have l0 : (i 0).val < 4 := (i 0).isLt
  have l1 : (i 1).val < 8192 := (i 1).isLt
  have l2 : (i 2).val < 256 := (i 2).isLt
  obtain ⟨t, e0, e1, e2⟩ := point_at ⟨(i 0).val, l0⟩ ⟨(i 2).val / 128, by omega⟩ ⟨(i 1).val / 2048, by omega⟩
  refine ⟨t, flush0_3 t, ?_⟩
  have h := ((cfg0.win 3).blk t).view.emb_mem_set
    (ix3 (0 : Fin 1) (⟨(i 1).val % 2048, Nat.mod_lt _ (by decide)⟩ : Fin 2048) (⟨(i 2).val % 128, Nat.mod_lt _ (by decide)⟩ : Fin 128))
  have he : ((cfg0.win 3).blk t).view.emb
      (ix3 (0 : Fin 1) (⟨(i 1).val % 2048, Nat.mod_lt _ (by decide)⟩ : Fin 2048) (⟨(i 2).val % 128, Nat.mod_lt _ (by decide)⟩ : Fin 128))
      = i := by
    funext a
    refine Fin.ext ?_
    match a with
    | ⟨0, _⟩ => show win0_3.index t (0 : Fin 3) * 1 + 1 * 0 = (i 0).val; dsimp only at e0; omega
    | ⟨1, _⟩ => show win0_3.index t (1 : Fin 3) * 2048 + 1 * ((i 1).val % 2048) = (i 1).val; dsimp only at e1; omega
    | ⟨2, _⟩ => show win0_3.index t (2 : Fin 3) * 128 + 1 * ((i 2).val % 128) = (i 2).val; dsimp only at e2; omega
  rwa [he] at h

/-- The result array after the run. -/
theorem final (c : Dev nD) : (named m 0 c).arrAt 3 cfg0.N = attention (m ((c : Thread nD τ).loc main_arg0))
    (m ((c : Thread nD τ).loc main_arg1)) (m ((c : Thread nD τ).loc main_arg2)) (m ((c : Thread nD τ).loc main_arg3)) :=
  (named m 0 c).arrAt_eq_of_cover 3 (target m c) (fun t _ => flushed_eq m c t) covered

include hg in
/-- Every execution terminates with the result the attention of the arguments, which end unchanged. -/
theorem run_whole : θ_run defs (onTc (τ := τ) (main (F := Ideal))) ⟨m, fun _ => 0, ρ⟩ (fun r => ∀ c : Dev nD,
      r.2.mem ((c.tc : Thread nD τ).loc main_v35) = attention (m ((c : Thread nD τ).loc main_arg0))
        (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h.1 c).1 3).trans (final m c),
     ((h.1 c).2 main_arg0 (Pipeline.mem_restRefs_of main_arg0 (by decide) (by decide))).trans (V_main_arg0 m c),
     ((h.1 c).2 main_arg1 (Pipeline.mem_restRefs_of main_arg1 (by decide) (by decide))).trans (V_main_arg1 m c),
     ((h.1 c).2 main_arg2 (Pipeline.mem_restRefs_of main_arg2 (by decide) (by decide))).trans (V_main_arg2 m c),
     ((h.1 c).2 main_arg3 (Pipeline.mem_restRefs_of main_arg3 (by decide) (by decide))).trans (V_main_arg3 m c)⟩)
    (named_run m ρ hg)

end Real
end Cert.Fox
end
-- ==== Proof.FoxRefer.lean ====
/- The forgetting attention's reference's result is the same function of the argument arrays, where queries, keys and gates are numbers. -/
module

public import proofs.«01_k».proof.Proof.FoxArrays
public import proofs.«01_k».proof.Proof.Gen.Reference3Ideal.Read
public import Idealize.ShloMosaic.Lib.KernelVsHost

@[expose] public section

set_option maxRecDepth 16384

noncomputable section

namespace Cert.Fox

open Idealize.ShloMosaic Idealize.ShloMosaic.TcCoe Idealize.SL.Sem Idealize.ShloMosaic.StableHlo
open Cert.Mla Cert.Reference3Ideal.Read

/-! ## Base e and base 2 -/

theorem ln2_pos : 0 < Real.log 2 := Real.log_pos (by norm_num)

/-- The natural log of two. -/
def lnTwo : EReal := ((Real.log 2 : ℝ) : EReal)

theorem lnTwo_nonneg : 0 ≤ lnTwo := EReal.coe_nonneg.2 ln2_pos.le
theorem bot_ln : (⊥ : EReal) * lnTwo = ⊥ := EReal.bot_mul_coe_of_pos ln2_pos
theorem top_ln : (⊤ : EReal) * lnTwo = ⊤ := EReal.top_mul_coe_of_pos ln2_pos

theorem exp_ln (x : EReal) : Ideal.exp (x * lnTwo) = Ideal.exp2 x := by
  induction x with
  | bot => rw [bot_ln]; rfl
  | top => rw [top_ln]; rfl
  | coe r =>
    unfold lnTwo
    rw [← EReal.coe_mul]
    refine congrArg (fun y : ℝ => (y : EReal)) ?_
    refine Eq.trans ?_ (Real.rpow_def_of_pos two_pos r).symm
    rw [mul_comm]

theorem sub_ln {x y : EReal} (hx : x ≠ ⊤) (hy : y ≠ ⊤) (hy' : y ≠ ⊥) : x * lnTwo - y * lnTwo = (x - y) * lnTwo := by
  lift y to ℝ using ⟨hy, hy'⟩
  induction x with
  | bot => rw [bot_ln, EReal.bot_sub, EReal.bot_sub, bot_ln]
  | top => exact absurd rfl hx
  | coe r =>
    unfold lnTwo
    rw [← EReal.coe_mul, ← EReal.coe_mul, ← EReal.coe_sub, ← EReal.coe_sub, ← EReal.coe_mul]
    exact congrArg (fun y : ℝ => (y : EReal)) (by ring)

theorem sup_ln (t : ℕ → EReal) (n : ℕ) : ((Finset.range n).sup fun j => t j * lnTwo) = top t n * lnTwo :=
  (Finset.comp_sup_eq_sup_comp_of_is_total (fun x : EReal => x * lnTwo)
    (fun _ _ h => mul_le_mul_of_nonneg_right h lnTwo_nonneg) bot_ln).symm

theorem sup_fin (n : ℕ) (f : ℕ → EReal) : (Finset.univ.sup fun j : Fin n => f j.val) = (Finset.range n).sup f :=
  le_antisymm (Finset.sup_le fun j _ => Finset.le_sup (Finset.mem_range.2 j.isLt))
    (Finset.sup_le fun j hj => Finset.le_sup (f := fun j : Fin n => f j.val) (Finset.mem_univ ⟨j, Finset.mem_range.1 hj⟩))

/-! ## The weights' sum is not zero -/

section Scores
variable {t : ℕ → EReal} (ht : ∀ j, t j ≠ ⊤) (h0 : t 0 ≠ ⊥)
include ht h0

theorem top_ne_bot {n : ℕ} (hn : 0 < n) : top t n ≠ ⊥ := fun h =>
  h0 (le_bot_iff.1 (h ▸ le_top hn))

theorem top_ne_top (n : ℕ) : top t n ≠ ⊤ := by
  refine ne_of_lt ((Finset.sup_lt_iff (bot_lt_top)).2 fun j _ => lt_top_iff_ne_top.2 (ht j))

theorem ones_ne_zero {n : ℕ} (hn : 0 < n) : acc t (fun _ => 1) n ≠ 0 := by
  refine ne_of_gt (lt_of_lt_of_le ?_ (Finset.single_le_sum (f := fun j => (1 : EReal) * Ideal.exp2 (t j - top t n))
    (fun j _ => by rw [one_mul]; exact exp2_nonneg _) (Finset.mem_range.2 hn)))
  show 0 < (1 : EReal) * Ideal.exp2 (t 0 - top t n)
  have hb := top_ne_bot ht h0 hn
  have hp := top_ne_top ht h0 n
  have hx := ht 0
  generalize top t n = m at hb hp
  generalize t 0 = x at h0 hx
  lift m to ℝ using ⟨hp, hb⟩
  lift x to ℝ using ⟨hx, h0⟩
  rw [one_mul, ← EReal.coe_sub]
  exact EReal.coe_pos.2 (Real.rpow_pos_of_pos two_pos _)

/-- Dividing each weight, or the whole sum, is the same. -/
theorem divided {n : ℕ} (hn : 0 < n) (v : ℕ → EReal) :
    (∑ j ∈ Finset.range n, Ideal.div (Ideal.exp2 (t j - top t n)) (acc t (fun _ => 1) n) * v j)
      = Ideal.div (acc t v n) (acc t (fun _ => 1) n) := by
  have hd := ones_ne_zero ht h0 hn
  have hp : 0 ≤ acc t (fun _ => 1) n := Finset.sum_nonneg fun j _ => by rw [one_mul]; exact exp2_nonneg _
  generalize hD : acc t (fun _ => 1) n = D at hd hp
  have hi : D⁻¹ ≠ ⊤ := by
    clear hD hd hp
    induction D with
    | bot => rw [EReal.inv_bot]; exact EReal.zero_ne_top
    | top => rw [EReal.inv_top]; exact EReal.zero_ne_top
    | coe r => rw [← EReal.coe_inv]; exact EReal.coe_ne_top _
  have hdiv : ∀ x, Ideal.div x D = x * D⁻¹ := fun x => if_neg hd
  rw [hdiv, mul_comm, acc, mul_sum_of_nonneg (EReal.inv_nonneg_of_nonneg hp) hi]
  refine Finset.sum_congr rfl fun j _ => ?_
  rw [hdiv, mul_comm (v j), mul_assoc, mul_left_comm]

end Scores

/-! ## The operations at an index -/

/-- The index space of the scores: four sequences, four heads, rows, keys. -/
abbrev Scores : Shape := Cert.Reference3Ideal.S4x4x8192x8192
abbrev Rows : Shape := Cert.Reference3Ideal.S4x4x8192

theorem toInt_small {n : ℕ} (h : n < 8192) : (BitVec.ofNat 32 n).toInt = n := by
  rw [BitVec.toInt_eq_toNat_of_lt (by rw [BitVec.toNat_ofNat, Nat.mod_eq_of_lt (by omega)]; omega), BitVec.toNat_ofNat,
    Nat.mod_eq_of_lt (by omega)]

theorem two_bits : Ideal.ofBits .f32 0x40000000#32 = ((2 : ℝ) : EReal) := by
  simp [Ideal.ofBits, Ideal.ieee, -EReal.coe_mul]; norm_num

/-- The mask: keys up to the row's own. -/
theorem upto_at (i : Cert.Reference3Ideal.S8192x8192.Idx) :
    val_main_v22 (F := Ideal) i = if (i 1).val ≤ (i 0).val then (1 : BitVec 1) else 0 := by
  have h0 : (i 0).val < 8192 := (i 0).isLt
  have h1 : (i 1).val < 8192 := (i 1).isLt
  rw [val_main_v22_apply, val_main_v20_apply, val_main_v21_apply, val_main_v18_apply, val_main_v19_apply, val_main_v7_apply,
    val_main_v7_apply]
  show BitVec.ofBool (decide ((BitVec.ofNat 32 (i 1).val).toInt ≤ (BitVec.ofNat 32 (i 0).val).toInt)) = _
  rw [toInt_small h0, toInt_small h1]
  by_cases h : (i 1).val ≤ (i 0).val
  · rw [if_pos h, decide_eq_true (Int.ofNat_le.2 h)]; rfl
  · rw [if_neg h, decide_eq_false fun e => h (Int.ofNat_le.1 e)]; rfl

section Arrays
variable (q : Queries) (k : Keys) (v : Values) (f : Gates)

theorem query_at (i : Cert.Reference3Ideal.S4x4x8192x64.Idx) :
    val_main_v1 (F := Ideal) q i = qAt q (i 0).val (i 1).val ⟨(i 3).val, (i 3).isLt⟩ (i 2).val := by
  rw [val_main_v1_apply, val_main_v0_apply]
  exact q_of q (idx_main_v1 i) rfl rfl rfl rfl

theorem key_at (i : Cert.Reference3Ideal.S4x4x8192x64.Idx) :
    val_main_v6 (F := Ideal) k i = kAt k (i 0).val (i 2).val (64 * (i 1).val + (i 3).val) := by
  have h0 : (i 0).val < 4 := (i 0).isLt
  have h1 : (i 1).val < 4 := (i 1).isLt
  have h2 : (i 2).val < 8192 := (i 2).isLt
  have h3 : (i 3).val < 64 := (i 3).isLt
  rw [val_main_v6_apply, val_main_v5_apply, val_main_v4_apply]
  refine k_of k _ ?_ ?_ ?_
  · show ((((i 0).val * 8192 + (i 2).val) * 4 + (i 1).val) * 64 + (i 3).val) / 2097152 = _; omega
  · show ((((i 0).val * 8192 + (i 2).val) * 4 + (i 1).val) * 64 + (i 3).val) / 256 % 8192 = _; omega
  · show ((((i 0).val * 8192 + (i 2).val) * 4 + (i 1).val) * 64 + (i 3).val) % 256 = _; omega

theorem value_at (i : Cert.Reference3Ideal.S4x4x8192x64.Idx) :
    val_main_v3 (F := Ideal) v i = vAt v (i 0).val (i 1).val (i 3).val (i 2).val := by
  rw [val_main_v3_apply, val_main_v2_apply]
  exact v_of v (idx_main_v3 i) rfl rfl rfl rfl

theorem product_at (i : Scores.Idx) : val_main_v14 (F := Ideal) q k f i = logit q k f (i 0).val (i 1).val (i 2).val (i 3).val := by
  rw [val_main_v14_apply, val_main_v11_apply, val_main_v8_apply, val_main_v10_apply, val_main_v9_apply, val_main_v13_apply,
    val_main_v12_apply]
  unfold logit
  refine congrArg₂ (fun x y : EReal => x - y) (congrArg₂ (fun x y : EReal => x + y) (Finset.sum_congr rfl fun l _ => ?_)
    (f_of f _ rfl rfl rfl)) (f_of f _ rfl rfl rfl)
  rw [query_at, key_at, mul_comm]

/-- The scores a row sees. -/
abbrev T (i : Scores.Idx) : ℕ → EReal := seen q k f (i 0).val (i 1).val (i 2).val

theorem score_at (i : Scores.Idx) : val_main_v23 (F := Ideal) q k f i = T q k f i (i 3).val * lnTwo := by
  rw [val_main_v23_apply, val_main_call0_v1_apply, val_main_v17_apply, product_at, val_main_v16_apply, val_main_v15_apply,
    val_main_cst_apply, val_main_call0_v2_apply, val_main_call0_v0_apply, val_main_cst_0_apply]
  have hl : Ideal.log (Ideal.ofBits .f32 0x40000000#32) = lnTwo := by
    rw [two_bits]
    exact if_neg (not_le.2 two_pos)
  refine (congrArg₂ (fun b y => Scalar.select b (logit q k f (i 0).val (i 1).val (i 2).val (i 3).val * y)
    (FloatOps.ofBits .f32 0xFF800000#32 : Ideal .f32)) (upto_at (idx_main_call0_v1 i)) hl).trans ?_
  unfold T seen upTo
  by_cases h : (i 3).val ≤ (i 2).val
  · rw [if_pos (show (i 3).val ≤ 0 + (i 2).val by omega)]
    exact congrArg (fun b => Scalar.select b _ _) (if_pos h)
  · rw [if_neg (show ¬ (i 3).val ≤ 0 + (i 2).val by omega), bot_ln]
    exact (congrArg (fun b => Scalar.select b _ _) (if_neg h)).trans ofBits_neg_inf

theorem rowMax_reduces : Scores.Reduces [3] Rows := by decide

/-- The maximum over the keys, from minus infinity. -/
theorem rowMax_at (x : FVec Ideal Scores .f32) (g : Rows.Idx → ℕ → EReal)
    (hx : ∀ j : Scores.Idx, x j = g (ix3 (j 0) (j 1) (j 2)) (j 3).val) (i : Rows.Idx) :
    Host.reduce FloatOps.maximumf x (constant Cert.Reference3Ideal.S_ .f32 0xFF800000#32)
      Cert.Reference3Ideal.Gen.reducesTo_S4x4x8192x8192_S4x4x8192_d3 Cert.Reference3Ideal.Gen.h_S_ i
      = (Finset.range 8192).sup (g i) := by
  rw [hostReduce_maximumf_eq_multiReduction x 0xFF800000#32 Cert.Reference3Ideal.Gen.reducesTo_S4x4x8192x8192_S4x4x8192_d3
    Cert.Reference3Ideal.Gen.h_S_ rowMax_reduces (.inl rfl) rfl]
  refine (Ideal.multiReduction_maximumf_single x _ rowMax_reduces (.inl rfl) rfl i).trans ?_
  rw [show (FloatOps.ofBits .f32 (FKind.maximumf.neutral .f32 (.inl rfl)) : Ideal .f32) = (⊥ : EReal) from ofBits_neg_inf,
    ← sup_fin 8192 (g i)]
  refine Finset.sup_congr rfl fun j _ => ?_
  refine (hx _).trans (congrArg₂ g (funext fun c => ?_) rfl)
  match c with
  | ⟨0, _⟩ => rfl
  | ⟨1, _⟩ => rfl
  | ⟨2, _⟩ => rfl

theorem max_at (i : Rows.Idx) :
    val_main_v24 (F := Ideal) q k f i = top (seen q k f (i 0).val (i 1).val (i 2).val) 8192 * lnTwo :=
  (rowMax_at (val_main_v23 (F := Ideal) q k f) (fun i j => seen q k f (i 0).val (i 1).val (i 2).val j * lnTwo)
    (score_at q k f) i).trans (sup_ln _ _)

theorem peak_at (i : Scores.Idx) : val_main_v28 (F := Ideal) q k f i = top (T q k f i) 8192 * lnTwo := by
  rw [val_main_v28_apply, val_main_v27_apply, val_main_v26_apply, max_at, val_main_v25_apply, val_main_cst_2_apply]
  refine (congrArg (fun x : EReal => max x _) ofBits_neg_inf).trans ?_
  exact max_eq_right bot_le

variable (hz : ∀ b h row j, ∃ r : ℝ, logit q k f b h row j = (r : EReal))
include hz

theorem seen_ne_top (b h row j : ℕ) : seen q k f b h row j ≠ ⊤ := by
  unfold seen upTo
  obtain ⟨r, hr⟩ := hz b h row j
  split_ifs
  · rw [hr]; exact EReal.coe_ne_top r
  · exact bot_ne_top

theorem seen_zero (b h row : ℕ) : seen q k f b h row 0 ≠ ⊥ := by
  unfold seen upTo
  obtain ⟨r, hr⟩ := hz b h row 0
  rw [if_pos (Nat.zero_le _), hr]
  exact EReal.coe_ne_bot r

theorem weight_at (i : Scores.Idx) :
    val_main_v30 (F := Ideal) q k f i = Ideal.exp2 (T q k f i (i 3).val - top (T q k f i) 8192) := by
  rw [val_main_v30_apply, val_main_v29_apply, score_at, peak_at]
  show Ideal.exp (T q k f i (i 3).val * lnTwo - top (T q k f i) 8192 * lnTwo) = _
  rw [sub_ln (seen_ne_top q k f hz _ _ _ _) (top_ne_top (seen_ne_top q k f hz _ _ _) (seen_zero q k f hz _ _ _) _)
    (top_ne_bot (seen_ne_top q k f hz _ _ _) (seen_zero q k f hz _ _ _) (by decide)), exp_ln]

theorem total_at (i : Rows.Idx) :
    val_main_v31 (F := Ideal) q k f i = acc (seen q k f (i 0).val (i 1).val (i 2).val) (fun _ => 1) 8192 := by
  rw [val_main_v31_apply, val_main_cst_3_apply]
  refine (congrArg (fun x : EReal => x + _) Ideal.ofBits_zero_f32).trans ((zero_add _).trans ?_)
  unfold acc
  rw [← Fin.sum_univ_eq_sum_range (fun j => (1 : EReal) * Ideal.exp2 (seen q k f (i 0).val (i 1).val (i 2).val j
    - top (seen q k f (i 0).val (i 1).val (i 2).val) 8192)) 8192]
  refine Finset.sum_congr rfl fun j _ => ?_
  rw [weight_at q k f hz, one_mul]

theorem share_at (i : Scores.Idx) : val_main_v34 (F := Ideal) q k f i
    = Ideal.div (Ideal.exp2 (T q k f i (i 3).val - top (T q k f i) 8192)) (acc (T q k f i) (fun _ => 1) 8192) := by
  rw [val_main_v34_apply, weight_at q k f hz, val_main_v33_apply, val_main_v32_apply, total_at q k f hz]
  rfl

/-- The reference, at an index. -/
theorem refer_eq : val_main_v38 (F := Ideal) q k v f = attention q k v f := by
  funext i
  have h0 : (i 0).val < 4 := (i 0).isLt
  have h1 : (i 1).val < 8192 := (i 1).isLt
  have h2 : (i 2).val < 256 := (i 2).isLt
  have g0 : (((i 0).val * 8192 + (i 1).val) * 256 + (i 2).val) / 2097152 = (i 0).val := by omega
  have g1 : (((i 0).val * 8192 + (i 1).val) * 256 + (i 2).val) / 256 % 8192 = (i 1).val := by omega
  have g2 : (((i 0).val * 8192 + (i 1).val) * 256 + (i 2).val) / 64 % 4 = (i 2).val / 64 := by omega
  have g3 : (((i 0).val * 8192 + (i 1).val) * 256 + (i 2).val) % 64 = (i 2).val % 64 := by omega
  rw [val_main_v38_apply, val_main_v37_apply, val_main_v36_apply, val_main_v35_apply]
  show (∑ n : Fin 8192, _) = attend q k v f (i 0).val ((i 2).val / 64) (i 1).val ((i 2).val % 64)
  unfold attend
  rw [← divided (seen_ne_top q k f hz _ _ _) (seen_zero q k f hz _ _ _) (by decide),
    ← Fin.sum_univ_eq_sum_range (fun n => Ideal.div (Ideal.exp2 (seen q k f (i 0).val ((i 2).val / 64) (i 1).val n
      - top (seen q k f (i 0).val ((i 2).val / 64) (i 1).val) 8192))
      (acc (seen q k f (i 0).val ((i 2).val / 64) (i 1).val) (fun _ => 1) 8192)
      * vAt v (i 0).val ((i 2).val / 64) ((i 2).val % 64) n) 8192]
  refine Finset.sum_congr rfl fun n _ => ?_
  rw [share_at q k f hz, value_at]
  show Ideal.div (Ideal.exp2 (seen q k f ((((i 0).val * 8192 + (i 1).val) * 256 + (i 2).val) / 2097152)
      ((((i 0).val * 8192 + (i 1).val) * 256 + (i 2).val) / 64 % 4) ((((i 0).val * 8192 + (i 1).val) * 256 + (i 2).val) / 256 % 8192) n.val
      - top (seen q k f ((((i 0).val * 8192 + (i 1).val) * 256 + (i 2).val) / 2097152) ((((i 0).val * 8192 + (i 1).val) * 256 + (i 2).val) / 64 % 4)
        ((((i 0).val * 8192 + (i 1).val) * 256 + (i 2).val) / 256 % 8192)) 8192))
      (acc (seen q k f ((((i 0).val * 8192 + (i 1).val) * 256 + (i 2).val) / 2097152) ((((i 0).val * 8192 + (i 1).val) * 256 + (i 2).val) / 64 % 4)
        ((((i 0).val * 8192 + (i 1).val) * 256 + (i 2).val) / 256 % 8192)) (fun _ => 1) 8192)
      * vAt v ((((i 0).val * 8192 + (i 1).val) * 256 + (i 2).val) / 2097152) ((((i 0).val * 8192 + (i 1).val) * 256 + (i 2).val) / 64 % 4)
        ((((i 0).val * 8192 + (i 1).val) * 256 + (i 2).val) % 64) n.val = _
  rw [g0, g1, g2, g3]

end Arrays
end Cert.Fox
end
-- ==== Proof.FoxClaims.lean ====
/- The forgetting attention's claims: what each program leaves unchanged, and the equality of the two results. -/
module

public import proofs.«01_k».proof.Defs
public import proofs.«01_k».proof.Proof.FoxWhole
public import proofs.«01_k».proof.Proof.FoxRefer
public import proofs.«01_k».proof.Proof.FoxFrameBits
public import Idealize.ShloMosaic.Adequacy
public import Idealize.ShloMosaic.Init

@[expose] public section

noncomputable section

namespace Cert.Fox

open Idealize.ShloMosaic Idealize.ShloMosaic.TcCoe Idealize.SL.Sem

/-- The shapes that the precondition's operations ask for. -/
theorem preFacts : Cert.Pre_finite3.Facts := ⟨by decide, by decide, by decide⟩

theorem keeps_kernel : Cert.quiescent_Kernel3 := fun m ρ _ => Cert.FoxBits.keeps m ρ

theorem keeps_kernelIdeal : Cert.quiescent_Kernel3Ideal := fun m ρ _ => keeps m ρ

theorem keeps_kernelIdeal_pre : Cert.quiescent_Kernel3Ideal_pre_finite3 (hPre_finite3 := preFacts) := fun m ρ _ => keeps m ρ

/-- The reference has no semaphores, so none can end above zero. -/
theorem keeps_reference : Cert.quiescent_Reference3Ideal := fun m ρ _ =>
  (θ_run Cert.Reference3Ideal.defs _ _).mono
    (fun r h => And.intro (fun c => (h c).2) (sem_eq_zero_of_no_sems (by decide) r.2))
    (Cert.Reference3Ideal.Value.run (F := Ideal) m ρ)

theorem keeps_reference_pre : Cert.quiescent_Reference3Ideal_pre_finite3 (hPre_finite3 := preFacts) := fun m ρ _ =>
  (θ_run Cert.Reference3Ideal.defs _ _).mono
    (fun r h => And.intro (fun c => (h c).2) (sem_eq_zero_of_no_sems (by decide) r.2))
    (Cert.Reference3Ideal.Value.run (F := Ideal) m ρ)

/-- No constant of this kernel was renamed. -/
theorem constants : Cert.preserves_Kernel3_Kernel3Ideal := trivial

/-! ## The precondition -/

theorem inf_bits : Ideal.ofBits .bf16 0x7F80#16 = (⊤ : EReal) := by
  simp [Ideal.ofBits, Ideal.ieee]

theorem inf_bits32 : Ideal.ofBits .f32 0x7F800000#32 = (⊤ : EReal) := by
  simp [Ideal.ofBits, Ideal.ieee]

theorem neg_inf_bits32 : Ideal.ofBits .f32 0xFF800000#32 = (⊥ : EReal) := by
  simp [Ideal.ofBits, Ideal.ieee]

theorem inside {x : EReal} (h : BitVec.ofBool (decide (⊥ < x)) &&& BitVec.ofBool (decide (x < ⊤)) = 1#1) :
    ∃ r : ℝ, x = (r : EReal) := by
  by_cases h1 : ⊥ < x
  · by_cases h2 : x < ⊤
    · lift x to ℝ using ⟨h2.ne, h1.ne'⟩
      exact ⟨x, rfl⟩
    · rw [decide_eq_false h2, decide_eq_true h1] at h
      exact absurd h (by decide)
  · rw [decide_eq_false h1] at h
    by_cases h2 : x < ⊤
    · rw [decide_eq_true h2] at h
      exact absurd h (by decide)
    · rw [decide_eq_false h2] at h
      exact absurd h (by decide)

theorem between32 {x : EReal} (h : BitVec.ofBool (decide (Ideal.ofBits .f32 0xFF800000#32 < x))
    &&& BitVec.ofBool (decide (x < Ideal.ofBits .f32 0x7F800000#32)) = 1#1) : ∃ r : ℝ, x = (r : EReal) := by
  rw [inf_bits32, neg_inf_bits32] at h
  exact inside h

theorem between {x : EReal} (h : BitVec.ofBool (decide (-Ideal.ofBits .bf16 0x7F80#16 < x))
    &&& BitVec.ofBool (decide (x < Ideal.ofBits .bf16 0x7F80#16)) = 1#1) : ∃ r : ℝ, x = (r : EReal) := by
  rw [inf_bits, EReal.neg_top] at h
  exact inside h

/-- The scores are numbers, where the queries, the keys and the gates are. -/
theorem logit_real (q : Queries) (k : Keys) (f : Gates) (hq : ∀ i, ∃ r : ℝ, q i = (r : EReal))
    (hk : ∀ i, ∃ r : ℝ, k i = (r : EReal)) (hf : ∀ i, ∃ r : ℝ, f i = (r : EReal)) (b h row j : ℕ) :
    ∃ r : ℝ, logit q k f b h row j = (r : EReal) := by
  have hs : ∃ r : ℝ, (∑ l : Fin 64, kAt k b j (64 * h + l.val) * qAt q b h l row) = (r : EReal) := by
    refine Finset.sum_induction _ (fun x : EReal => ∃ r : ℝ, x = (r : EReal)) ?_ ⟨0, rfl⟩ fun l _ => ?_
    · rintro _ _ ⟨r, rfl⟩ ⟨s, rfl⟩
      exact ⟨r + s, (EReal.coe_add r s).symm⟩
    · obtain ⟨r, hr⟩ := hk (ix3 ⟨b % 4, Nat.mod_lt _ (by decide)⟩ ⟨j % 8192, Nat.mod_lt _ (by decide)⟩
        ⟨(64 * h + l.val) % 256, Nat.mod_lt _ (by decide)⟩)
      obtain ⟨s, hs⟩ := hq (ix4 ⟨b % 4, Nat.mod_lt _ (by decide)⟩ ⟨h % 4, Nat.mod_lt _ (by decide)⟩ l
        ⟨row % 8192, Nat.mod_lt _ (by decide)⟩)
      exact ⟨r * s, (congrArg₂ (· * ·) hr hs).trans (EReal.coe_mul r s).symm⟩
  obtain ⟨r, hr⟩ := hs
  obtain ⟨x, hx⟩ := hf (ix3 ⟨b % 4, Nat.mod_lt _ (by decide)⟩ ⟨h % 4, Nat.mod_lt _ (by decide)⟩
    ⟨row % 8192, Nat.mod_lt _ (by decide)⟩)
  obtain ⟨y, hy⟩ := hf (ix3 ⟨b % 4, Nat.mod_lt _ (by decide)⟩ ⟨h % 4, Nat.mod_lt _ (by decide)⟩
    ⟨j % 8192, Nat.mod_lt _ (by decide)⟩)
  refine ⟨r + x - y, ?_⟩
  unfold logit fAt
  rw [hr, hx, hy, EReal.coe_sub, EReal.coe_add]

/-- Both results are the attention of the arguments. -/
theorem results : Cert.algebraic_Kernel3Ideal_Reference3Ideal_pre_finite3 (hPre_finite3 := preFacts) :=
  fun m ρ m' ρ' hpre hag =>
  ⟨fun c => attention (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2))
      (m ((c.tc : Thread Cert.Kernel3Ideal.nD Cert.Kernel3Ideal.τ).loc Cert.Kernel3Ideal.main_arg3)),
    run_whole m ρ (fun c i => between32 (congrFun (hpre c).2.2 i)),
    (θ_run Cert.Reference3Ideal.defs _ _).mono
      (fun r h c => And.intro ((h c).1.trans ((Cert.Reference3Ideal.Read.val_main_v38_eq m' c).trans (by
        rw [(hag c).1, (hag c).2.1, (hag c).2.2.1, (hag c).2.2.2]
        exact refer_eq _ _ _ _ (logit_real _ _ _ (fun i => between (congrFun (hpre c).1 i))
          (fun i => between (congrFun (hpre c).2.1 i)) (fun i => between32 (congrFun (hpre c).2.2 i)))))) (h c).2)
      (Cert.Reference3Ideal.Value.run (F := Ideal) m' ρ')⟩

end Cert.Fox
end
-- ==== Proof.lean ====
module

public import proofs.«01_k».proof.Proof.Gen.Kernel3.Loops
public import proofs.«01_k».proof.Proof.Gen.Kernel3Ideal.Loops
public import proofs.«01_k».proof.Proof.Gen.Kernel3.Launch
public import proofs.«01_k».proof.Proof.Gen.Kernel3Ideal.Launch
public import proofs.«01_k».proof.Proof.Gen.Kernel3.Frame
public import proofs.«01_k».proof.Proof.Gen.Kernel3Ideal.Frame
public import proofs.«01_k».proof.Proof.Gen.Kernel3.Skeleton
public import proofs.«01_k».proof.Proof.Gen.Kernel3Ideal.Skeleton
public import proofs.«01_k».proof.Proof.Gen.Reference3Ideal.Run
public import proofs.«01_k».proof.Proof.Gen.Reference3Ideal.Read
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Loops
public import proofs.«01_k».proof.Proof.Gen.Kernel2.Launch
public import proofs.«01_k».proof.Proof.Gen.Kernel2Ideal
public import proofs.«01_k».proof.Proof.Gen.Kernel2Ideal.Skeleton
public import proofs.«01_k».proof.Proof.Gen.Kernel2Ideal.Loops
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel2.Frame
public import proofs.«01_k».proof.Proof.Gen.Kernel2.Points
public import proofs.«01_k».proof.Proof.Gen.Kernel2Ideal.Frame
public import proofs.«01_k».proof.Proof.Gen.Kernel2Ideal.Points
public import proofs.«01_k».proof.Proof.Claims
public import proofs.«01_k».proof.Proof.SoftClaims
public import proofs.«01_k».proof.Proof.FoxClaims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Mla.preFacts, Cert.Fox.preFacts,
  Cert.SB.keeps_kernel, Cert.SB.keeps_kernelIdeal, Cert.SB.keeps_reference,
  Cert.Mla.keeps_kernel, Cert.Mla.keeps_kernelIdeal, Cert.Mla.keeps_kernelIdeal_pre, Cert.Mla.keeps_reference,
  Cert.Mla.keeps_reference_pre,
  Cert.Fox.keeps_kernel, Cert.Fox.keeps_kernelIdeal, Cert.Fox.keeps_kernelIdeal_pre, Cert.Fox.keeps_reference,
  Cert.Fox.keeps_reference_pre,
  Cert.SB.constants, Cert.SB.results, Cert.Mla.constants, Cert.Mla.results, Cert.Fox.constants, Cert.Fox.results⟩

end Cert.Proof

end
